-- ==== Defs.lean ====
def Pre_FlashBwd (m : (ℓ : Loc Cert.FlashBwd.nD Cert.FlashBwd.τ Cert.FlashBwd.sig) → Buf (Elt Bits) ℓ) : Prop :=
  True

def Pre_FlashBwdIdeal (m : (ℓ : Loc Cert.FlashBwdIdeal.nD Cert.FlashBwdIdeal.τ Cert.FlashBwdIdeal.sig) → Buf (Elt Ideal) ℓ) : Prop :=
  True

def Pre_FlashBwdIdeal_finite [hPre_finite : Cert.Pre_finite.Facts] (m : (ℓ : Loc Cert.FlashBwdIdeal.nD Cert.FlashBwdIdeal.τ Cert.FlashBwdIdeal.sig) → Buf (Elt Ideal) ℓ) : Prop :=
  ∀ c : Dev Cert.FlashBwdIdeal.nD,
    (Cert.Pre_finite.fn (F := Ideal) (m ((c.tc : Thread Cert.FlashBwdIdeal.nD Cert.FlashBwdIdeal.τ).loc Cert.FlashBwdIdeal.main_arg0)) (m ((c.tc : Thread Cert.FlashBwdIdeal.nD Cert.FlashBwdIdeal.τ).loc Cert.FlashBwdIdeal.main_arg1)) (m ((c.tc : Thread Cert.FlashBwdIdeal.nD Cert.FlashBwdIdeal.τ).loc Cert.FlashBwdIdeal.main_arg2)) (m ((c.tc : Thread Cert.FlashBwdIdeal.nD Cert.FlashBwdIdeal.τ).loc Cert.FlashBwdIdeal.main_arg3))).1 = (fun _ => 1#1)
    ∧ (Cert.Pre_finite.fn (F := Ideal) (m ((c.tc : Thread Cert.FlashBwdIdeal.nD Cert.FlashBwdIdeal.τ).loc Cert.FlashBwdIdeal.main_arg0)) (m ((c.tc : Thread Cert.FlashBwdIdeal.nD Cert.FlashBwdIdeal.τ).loc Cert.FlashBwdIdeal.main_arg1)) (m ((c.tc : Thread Cert.FlashBwdIdeal.nD Cert.FlashBwdIdeal.τ).loc Cert.FlashBwdIdeal.main_arg2)) (m ((c.tc : Thread Cert.FlashBwdIdeal.nD Cert.FlashBwdIdeal.τ).loc Cert.FlashBwdIdeal.main_arg3))).2.1 = (fun _ => 1#1)
    ∧ (Cert.Pre_finite.fn (F := Ideal) (m ((c.tc : Thread Cert.FlashBwdIdeal.nD Cert.FlashBwdIdeal.τ).loc Cert.FlashBwdIdeal.main_arg0)) (m ((c.tc : Thread Cert.FlashBwdIdeal.nD Cert.FlashBwdIdeal.τ).loc Cert.FlashBwdIdeal.main_arg1)) (m ((c.tc : Thread Cert.FlashBwdIdeal.nD Cert.FlashBwdIdeal.τ).loc Cert.FlashBwdIdeal.main_arg2)) (m ((c.tc : Thread Cert.FlashBwdIdeal.nD Cert.FlashBwdIdeal.τ).loc Cert.FlashBwdIdeal.main_arg3))).2.2.1 = (fun _ => 1#1)
    ∧ (Cert.Pre_finite.fn (F := Ideal) (m ((c.tc : Thread Cert.FlashBwdIdeal.nD Cert.FlashBwdIdeal.τ).loc Cert.FlashBwdIdeal.main_arg0)) (m ((c.tc : Thread Cert.FlashBwdIdeal.nD Cert.FlashBwdIdeal.τ).loc Cert.FlashBwdIdeal.main_arg1)) (m ((c.tc : Thread Cert.FlashBwdIdeal.nD Cert.FlashBwdIdeal.τ).loc Cert.FlashBwdIdeal.main_arg2)) (m ((c.tc : Thread Cert.FlashBwdIdeal.nD Cert.FlashBwdIdeal.τ).loc Cert.FlashBwdIdeal.main_arg3))).2.2.2 = (fun _ => 1#1)

def Pre_FlashBwdRefIdeal (m : (ℓ : Loc Cert.FlashBwdRefIdeal.nD Cert.FlashBwdRefIdeal.τ Cert.FlashBwdRefIdeal.sig) → Buf (Elt Ideal) ℓ) : Prop :=
  True

def Pre_FlashBwdRefIdeal_finite [hPre_finite : Cert.Pre_finite.Facts] (m : (ℓ : Loc Cert.FlashBwdRefIdeal.nD Cert.FlashBwdRefIdeal.τ Cert.FlashBwdRefIdeal.sig) → Buf (Elt Ideal) ℓ) : Prop :=
  ∀ c : Dev Cert.FlashBwdRefIdeal.nD,
    (Cert.Pre_finite.fn (F := Ideal) (m ((c.tc : Thread Cert.FlashBwdRefIdeal.nD Cert.FlashBwdRefIdeal.τ).loc Cert.FlashBwdRefIdeal.main_arg0)) (m ((c.tc : Thread Cert.FlashBwdRefIdeal.nD Cert.FlashBwdRefIdeal.τ).loc Cert.FlashBwdRefIdeal.main_arg1)) (m ((c.tc : Thread Cert.FlashBwdRefIdeal.nD Cert.FlashBwdRefIdeal.τ).loc Cert.FlashBwdRefIdeal.main_arg2)) (m ((c.tc : Thread Cert.FlashBwdRefIdeal.nD Cert.FlashBwdRefIdeal.τ).loc Cert.FlashBwdRefIdeal.main_arg3))).1 = (fun _ => 1#1)
    ∧ (Cert.Pre_finite.fn (F := Ideal) (m ((c.tc : Thread Cert.FlashBwdRefIdeal.nD Cert.FlashBwdRefIdeal.τ).loc Cert.FlashBwdRefIdeal.main_arg0)) (m ((c.tc : Thread Cert.FlashBwdRefIdeal.nD Cert.FlashBwdRefIdeal.τ).loc Cert.FlashBwdRefIdeal.main_arg1)) (m ((c.tc : Thread Cert.FlashBwdRefIdeal.nD Cert.FlashBwdRefIdeal.τ).loc Cert.FlashBwdRefIdeal.main_arg2)) (m ((c.tc : Thread Cert.FlashBwdRefIdeal.nD Cert.FlashBwdRefIdeal.τ).loc Cert.FlashBwdRefIdeal.main_arg3))).2.1 = (fun _ => 1#1)
    ∧ (Cert.Pre_finite.fn (F := Ideal) (m ((c.tc : Thread Cert.FlashBwdRefIdeal.nD Cert.FlashBwdRefIdeal.τ).loc Cert.FlashBwdRefIdeal.main_arg0)) (m ((c.tc : Thread Cert.FlashBwdRefIdeal.nD Cert.FlashBwdRefIdeal.τ).loc Cert.FlashBwdRefIdeal.main_arg1)) (m ((c.tc : Thread Cert.FlashBwdRefIdeal.nD Cert.FlashBwdRefIdeal.τ).loc Cert.FlashBwdRefIdeal.main_arg2)) (m ((c.tc : Thread Cert.FlashBwdRefIdeal.nD Cert.FlashBwdRefIdeal.τ).loc Cert.FlashBwdRefIdeal.main_arg3))).2.2.1 = (fun _ => 1#1)
    ∧ (Cert.Pre_finite.fn (F := Ideal) (m ((c.tc : Thread Cert.FlashBwdRefIdeal.nD Cert.FlashBwdRefIdeal.τ).loc Cert.FlashBwdRefIdeal.main_arg0)) (m ((c.tc : Thread Cert.FlashBwdRefIdeal.nD Cert.FlashBwdRefIdeal.τ).loc Cert.FlashBwdRefIdeal.main_arg1)) (m ((c.tc : Thread Cert.FlashBwdRefIdeal.nD Cert.FlashBwdRefIdeal.τ).loc Cert.FlashBwdRefIdeal.main_arg2)) (m ((c.tc : Thread Cert.FlashBwdRefIdeal.nD Cert.FlashBwdRefIdeal.τ).loc Cert.FlashBwdRefIdeal.main_arg3))).2.2.2 = (fun _ => 1#1)

def Pre_LossBwd (m : (ℓ : Loc Cert.LossBwd.nD Cert.LossBwd.τ Cert.LossBwd.sig) → Buf (Elt Bits) ℓ) : Prop :=
  True

def Pre_LossBwdIdeal (m : (ℓ : Loc Cert.LossBwdIdeal.nD Cert.LossBwdIdeal.τ Cert.LossBwdIdeal.sig) → Buf (Elt Ideal) ℓ) : Prop :=
  True

def Pre_LossBwdRefIdeal (m : (ℓ : Loc Cert.LossBwdRefIdeal.nD Cert.LossBwdRefIdeal.τ Cert.LossBwdRefIdeal.sig) → Buf (Elt Ideal) ℓ) : Prop :=
  True

def Pre_TailBwd (m : (ℓ : Loc Cert.TailBwd.nD Cert.TailBwd.τ Cert.TailBwd.sig) → Buf (Elt Bits) ℓ) : Prop :=
  True

def Pre_TailBwdIdeal (m : (ℓ : Loc Cert.TailBwdIdeal.nD Cert.TailBwdIdeal.τ Cert.TailBwdIdeal.sig) → Buf (Elt Ideal) ℓ) : Prop :=
  True

def Pre_TailBwdRefIdeal (m : (ℓ : Loc Cert.TailBwdRefIdeal.nD Cert.TailBwdRefIdeal.τ Cert.TailBwdRefIdeal.sig) → Buf (Elt Ideal) ℓ) : Prop :=
  True

def Pre_MlaFrontBwd (m : (ℓ : Loc Cert.MlaFrontBwd.nD Cert.MlaFrontBwd.τ Cert.MlaFrontBwd.sig) → Buf (Elt Bits) ℓ) : Prop :=
  True

def Pre_MlaFrontBwdIdeal (m : (ℓ : Loc Cert.MlaFrontBwdIdeal.nD Cert.MlaFrontBwdIdeal.τ Cert.MlaFrontBwdIdeal.sig) → Buf (Elt Ideal) ℓ) : Prop :=
  True

def Pre_MlaFrontBwdIdeal_mla_finite [hPre_mla_finite : Cert.Pre_mla_finite.Facts] (m : (ℓ : Loc Cert.MlaFrontBwdIdeal.nD Cert.MlaFrontBwdIdeal.τ Cert.MlaFrontBwdIdeal.sig) → Buf (Elt Ideal) ℓ) : Prop :=
  ∀ c : Dev Cert.MlaFrontBwdIdeal.nD,
    (Cert.Pre_mla_finite.fn (F := Ideal) (m ((c.tc : Thread Cert.MlaFrontBwdIdeal.nD Cert.MlaFrontBwdIdeal.τ).loc Cert.MlaFrontBwdIdeal.main_arg0)) (m ((c.tc : Thread Cert.MlaFrontBwdIdeal.nD Cert.MlaFrontBwdIdeal.τ).loc Cert.MlaFrontBwdIdeal.main_arg1)) (m ((c.tc : Thread Cert.MlaFrontBwdIdeal.nD Cert.MlaFrontBwdIdeal.τ).loc Cert.MlaFrontBwdIdeal.main_arg2)) (m ((c.tc : Thread Cert.MlaFrontBwdIdeal.nD Cert.MlaFrontBwdIdeal.τ).loc Cert.MlaFrontBwdIdeal.main_arg3)) (m ((c.tc : Thread Cert.MlaFrontBwdIdeal.nD Cert.MlaFrontBwdIdeal.τ).loc Cert.MlaFrontBwdIdeal.main_arg4)) (m ((c.tc : Thread Cert.MlaFrontBwdIdeal.nD Cert.MlaFrontBwdIdeal.τ).loc Cert.MlaFrontBwdIdeal.main_arg5)) (m ((c.tc : Thread Cert.MlaFrontBwdIdeal.nD Cert.MlaFrontBwdIdeal.τ).loc Cert.MlaFrontBwdIdeal.main_arg6)) (m ((c.tc : Thread Cert.MlaFrontBwdIdeal.nD Cert.MlaFrontBwdIdeal.τ).loc Cert.MlaFrontBwdIdeal.main_arg7)) (m ((c.tc : Thread Cert.MlaFrontBwdIdeal.nD Cert.MlaFrontBwdIdeal.τ).loc Cert.MlaFrontBwdIdeal.main_arg8)) (m ((c.tc : Thread Cert.MlaFrontBwdIdeal.nD Cert.MlaFrontBwdIdeal.τ).loc Cert.MlaFrontBwdIdeal.main_arg9)) (m ((c.tc : Thread Cert.MlaFrontBwdIdeal.nD Cert.MlaFrontBwdIdeal.τ).loc Cert.MlaFrontBwdIdeal.main_arg10))).1 = (fun _ => 1#1)
    ∧ (Cert.Pre_mla_finite.fn (F := Ideal) (m ((c.tc : Thread Cert.MlaFrontBwdIdeal.nD Cert.MlaFrontBwdIdeal.τ).loc Cert.MlaFrontBwdIdeal.main_arg0)) (m ((c.tc : Thread Cert.MlaFrontBwdIdeal.nD Cert.MlaFrontBwdIdeal.τ).loc Cert.MlaFrontBwdIdeal.main_arg1)) (m ((c.tc : Thread Cert.MlaFrontBwdIdeal.nD Cert.MlaFrontBwdIdeal.τ).loc Cert.MlaFrontBwdIdeal.main_arg2)) (m ((c.tc : Thread Cert.MlaFrontBwdIdeal.nD Cert.MlaFrontBwdIdeal.τ).loc Cert.MlaFrontBwdIdeal.main_arg3)) (m ((c.tc : Thread Cert.MlaFrontBwdIdeal.nD Cert.MlaFrontBwdIdeal.τ).loc Cert.MlaFrontBwdIdeal.main_arg4)) (m ((c.tc : Thread Cert.MlaFrontBwdIdeal.nD Cert.MlaFrontBwdIdeal.τ).loc Cert.MlaFrontBwdIdeal.main_arg5)) (m ((c.tc : Thread Cert.MlaFrontBwdIdeal.nD Cert.MlaFrontBwdIdeal.τ).loc Cert.MlaFrontBwdIdeal.main_arg6)) (m ((c.tc : Thread Cert.MlaFrontBwdIdeal.nD Cert.MlaFrontBwdIdeal.τ).loc Cert.MlaFrontBwdIdeal.main_arg7)) (m ((c.tc : Thread Cert.MlaFrontBwdIdeal.nD Cert.MlaFrontBwdIdeal.τ).loc Cert.MlaFrontBwdIdeal.main_arg8)) (m ((c.tc : Thread Cert.MlaFrontBwdIdeal.nD Cert.MlaFrontBwdIdeal.τ).loc Cert.MlaFrontBwdIdeal.main_arg9)) (m ((c.tc : Thread Cert.MlaFrontBwdIdeal.nD Cert.MlaFrontBwdIdeal.τ).loc Cert.MlaFrontBwdIdeal.main_arg10))).2.1 = (fun _ => 1#1)
    ∧ (Cert.Pre_mla_finite.fn (F := Ideal) (m ((c.tc : Thread Cert.MlaFrontBwdIdeal.nD Cert.MlaFrontBwdIdeal.τ).loc Cert.MlaFrontBwdIdeal.main_arg0)) (m ((c.tc : Thread Cert.MlaFrontBwdIdeal.nD Cert.MlaFrontBwdIdeal.τ).loc Cert.MlaFrontBwdIdeal.main_arg1)) (m ((c.tc : Thread Cert.MlaFrontBwdIdeal.nD Cert.MlaFrontBwdIdeal.τ).loc Cert.MlaFrontBwdIdeal.main_arg2)) (m ((c.tc : Thread Cert.MlaFrontBwdIdeal.nD Cert.MlaFrontBwdIdeal.τ).loc Cert.MlaFrontBwdIdeal.main_arg3)) (m ((c.tc : Thread Cert.MlaFrontBwdIdeal.nD Cert.MlaFrontBwdIdeal.τ).loc Cert.MlaFrontBwdIdeal.main_arg4)) (m ((c.tc : Thread Cert.MlaFrontBwdIdeal.nD Cert.MlaFrontBwdIdeal.τ).loc Cert.MlaFrontBwdIdeal.main_arg5)) (m ((c.tc : Thread Cert.MlaFrontBwdIdeal.nD Cert.MlaFrontBwdIdeal.τ).loc Cert.MlaFrontBwdIdeal.main_arg6)) (m ((c.tc : Thread Cert.MlaFrontBwdIdeal.nD Cert.MlaFrontBwdIdeal.τ).loc Cert.MlaFrontBwdIdeal.main_arg7)) (m ((c.tc : Thread Cert.MlaFrontBwdIdeal.nD Cert.MlaFrontBwdIdeal.τ).loc Cert.MlaFrontBwdIdeal.main_arg8)) (m ((c.tc : Thread Cert.MlaFrontBwdIdeal.nD Cert.MlaFrontBwdIdeal.τ).loc Cert.MlaFrontBwdIdeal.main_arg9)) (m ((c.tc : Thread Cert.MlaFrontBwdIdeal.nD Cert.MlaFrontBwdIdeal.τ).loc Cert.MlaFrontBwdIdeal.main_arg10))).2.2 = (fun _ => 1#1)

def Pre_MlaFrontBwdRefIdeal (m : (ℓ : Loc Cert.MlaFrontBwdRefIdeal.nD Cert.MlaFrontBwdRefIdeal.τ Cert.MlaFrontBwdRefIdeal.sig) → Buf (Elt Ideal) ℓ) : Prop :=
  True

def Pre_MlaFrontBwdRefIdeal_mla_finite [hPre_mla_finite : Cert.Pre_mla_finite.Facts] (m : (ℓ : Loc Cert.MlaFrontBwdRefIdeal.nD Cert.MlaFrontBwdRefIdeal.τ Cert.MlaFrontBwdRefIdeal.sig) → Buf (Elt Ideal) ℓ) : Prop :=
  ∀ c : Dev Cert.MlaFrontBwdRefIdeal.nD,
    (Cert.Pre_mla_finite.fn (F := Ideal) (m ((c.tc : Thread Cert.MlaFrontBwdRefIdeal.nD Cert.MlaFrontBwdRefIdeal.τ).loc Cert.MlaFrontBwdRefIdeal.main_arg0)) (m ((c.tc : Thread Cert.MlaFrontBwdRefIdeal.nD Cert.MlaFrontBwdRefIdeal.τ).loc Cert.MlaFrontBwdRefIdeal.main_arg1)) (m ((c.tc : Thread Cert.MlaFrontBwdRefIdeal.nD Cert.MlaFrontBwdRefIdeal.τ).loc Cert.MlaFrontBwdRefIdeal.main_arg2)) (m ((c.tc : Thread Cert.MlaFrontBwdRefIdeal.nD Cert.MlaFrontBwdRefIdeal.τ).loc Cert.MlaFrontBwdRefIdeal.main_arg3)) (m ((c.tc : Thread Cert.MlaFrontBwdRefIdeal.nD Cert.MlaFrontBwdRefIdeal.τ).loc Cert.MlaFrontBwdRefIdeal.main_arg4)) (m ((c.tc : Thread Cert.MlaFrontBwdRefIdeal.nD Cert.MlaFrontBwdRefIdeal.τ).loc Cert.MlaFrontBwdRefIdeal.main_arg5)) (m ((c.tc : Thread Cert.MlaFrontBwdRefIdeal.nD Cert.MlaFrontBwdRefIdeal.τ).loc Cert.MlaFrontBwdRefIdeal.main_arg6)) (m ((c.tc : Thread Cert.MlaFrontBwdRefIdeal.nD Cert.MlaFrontBwdRefIdeal.τ).loc Cert.MlaFrontBwdRefIdeal.main_arg7)) (m ((c.tc : Thread Cert.MlaFrontBwdRefIdeal.nD Cert.MlaFrontBwdRefIdeal.τ).loc Cert.MlaFrontBwdRefIdeal.main_arg8)) (m ((c.tc : Thread Cert.MlaFrontBwdRefIdeal.nD Cert.MlaFrontBwdRefIdeal.τ).loc Cert.MlaFrontBwdRefIdeal.main_arg9)) (m ((c.tc : Thread Cert.MlaFrontBwdRefIdeal.nD Cert.MlaFrontBwdRefIdeal.τ).loc Cert.MlaFrontBwdRefIdeal.main_arg10))).1 = (fun _ => 1#1)
    ∧ (Cert.Pre_mla_finite.fn (F := Ideal) (m ((c.tc : Thread Cert.MlaFrontBwdRefIdeal.nD Cert.MlaFrontBwdRefIdeal.τ).loc Cert.MlaFrontBwdRefIdeal.main_arg0)) (m ((c.tc : Thread Cert.MlaFrontBwdRefIdeal.nD Cert.MlaFrontBwdRefIdeal.τ).loc Cert.MlaFrontBwdRefIdeal.main_arg1)) (m ((c.tc : Thread Cert.MlaFrontBwdRefIdeal.nD Cert.MlaFrontBwdRefIdeal.τ).loc Cert.MlaFrontBwdRefIdeal.main_arg2)) (m ((c.tc : Thread Cert.MlaFrontBwdRefIdeal.nD Cert.MlaFrontBwdRefIdeal.τ).loc Cert.MlaFrontBwdRefIdeal.main_arg3)) (m ((c.tc : Thread Cert.MlaFrontBwdRefIdeal.nD Cert.MlaFrontBwdRefIdeal.τ).loc Cert.MlaFrontBwdRefIdeal.main_arg4)) (m ((c.tc : Thread Cert.MlaFrontBwdRefIdeal.nD Cert.MlaFrontBwdRefIdeal.τ).loc Cert.MlaFrontBwdRefIdeal.main_arg5)) (m ((c.tc : Thread Cert.MlaFrontBwdRefIdeal.nD Cert.MlaFrontBwdRefIdeal.τ).loc Cert.MlaFrontBwdRefIdeal.main_arg6)) (m ((c.tc : Thread Cert.MlaFrontBwdRefIdeal.nD Cert.MlaFrontBwdRefIdeal.τ).loc Cert.MlaFrontBwdRefIdeal.main_arg7)) (m ((c.tc : Thread Cert.MlaFrontBwdRefIdeal.nD Cert.MlaFrontBwdRefIdeal.τ).loc Cert.MlaFrontBwdRefIdeal.main_arg8)) (m ((c.tc : Thread Cert.MlaFrontBwdRefIdeal.nD Cert.MlaFrontBwdRefIdeal.τ).loc Cert.MlaFrontBwdRefIdeal.main_arg9)) (m ((c.tc : Thread Cert.MlaFrontBwdRefIdeal.nD Cert.MlaFrontBwdRefIdeal.τ).loc Cert.MlaFrontBwdRefIdeal.main_arg10))).2.1 = (fun _ => 1#1)
    ∧ (Cert.Pre_mla_finite.fn (F := Ideal) (m ((c.tc : Thread Cert.MlaFrontBwdRefIdeal.nD Cert.MlaFrontBwdRefIdeal.τ).loc Cert.MlaFrontBwdRefIdeal.main_arg0)) (m ((c.tc : Thread Cert.MlaFrontBwdRefIdeal.nD Cert.MlaFrontBwdRefIdeal.τ).loc Cert.MlaFrontBwdRefIdeal.main_arg1)) (m ((c.tc : Thread Cert.MlaFrontBwdRefIdeal.nD Cert.MlaFrontBwdRefIdeal.τ).loc Cert.MlaFrontBwdRefIdeal.main_arg2)) (m ((c.tc : Thread Cert.MlaFrontBwdRefIdeal.nD Cert.MlaFrontBwdRefIdeal.τ).loc Cert.MlaFrontBwdRefIdeal.main_arg3)) (m ((c.tc : Thread Cert.MlaFrontBwdRefIdeal.nD Cert.MlaFrontBwdRefIdeal.τ).loc Cert.MlaFrontBwdRefIdeal.main_arg4)) (m ((c.tc : Thread Cert.MlaFrontBwdRefIdeal.nD Cert.MlaFrontBwdRefIdeal.τ).loc Cert.MlaFrontBwdRefIdeal.main_arg5)) (m ((c.tc : Thread Cert.MlaFrontBwdRefIdeal.nD Cert.MlaFrontBwdRefIdeal.τ).loc Cert.MlaFrontBwdRefIdeal.main_arg6)) (m ((c.tc : Thread Cert.MlaFrontBwdRefIdeal.nD Cert.MlaFrontBwdRefIdeal.τ).loc Cert.MlaFrontBwdRefIdeal.main_arg7)) (m ((c.tc : Thread Cert.MlaFrontBwdRefIdeal.nD Cert.MlaFrontBwdRefIdeal.τ).loc Cert.MlaFrontBwdRefIdeal.main_arg8)) (m ((c.tc : Thread Cert.MlaFrontBwdRefIdeal.nD Cert.MlaFrontBwdRefIdeal.τ).loc Cert.MlaFrontBwdRefIdeal.main_arg9)) (m ((c.tc : Thread Cert.MlaFrontBwdRefIdeal.nD Cert.MlaFrontBwdRefIdeal.τ).loc Cert.MlaFrontBwdRefIdeal.main_arg10))).2.2 = (fun _ => 1#1)

def Pre_FrontBwd (m : (ℓ : Loc Cert.FrontBwd.nD Cert.FrontBwd.τ Cert.FrontBwd.sig) → Buf (Elt Bits) ℓ) : Prop :=
  True

def Pre_FrontBwdIdeal (m : (ℓ : Loc Cert.FrontBwdIdeal.nD Cert.FrontBwdIdeal.τ Cert.FrontBwdIdeal.sig) → Buf (Elt Ideal) ℓ) : Prop :=
  True

def Pre_FrontBwdIdeal_front_finite [hPre_front_finite : Cert.Pre_front_finite.Facts] (m : (ℓ : Loc Cert.FrontBwdIdeal.nD Cert.FrontBwdIdeal.τ Cert.FrontBwdIdeal.sig) → Buf (Elt Ideal) ℓ) : Prop :=
  ∀ c : Dev Cert.FrontBwdIdeal.nD,
    (Cert.Pre_front_finite.fn (F := Ideal) (m ((c.tc : Thread Cert.FrontBwdIdeal.nD Cert.FrontBwdIdeal.τ).loc Cert.FrontBwdIdeal.main_arg0)) (m ((c.tc : Thread Cert.FrontBwdIdeal.nD Cert.FrontBwdIdeal.τ).loc Cert.FrontBwdIdeal.main_arg1)) (m ((c.tc : Thread Cert.FrontBwdIdeal.nD Cert.FrontBwdIdeal.τ).loc Cert.FrontBwdIdeal.main_arg2)) (m ((c.tc : Thread Cert.FrontBwdIdeal.nD Cert.FrontBwdIdeal.τ).loc Cert.FrontBwdIdeal.main_arg3)) (m ((c.tc : Thread Cert.FrontBwdIdeal.nD Cert.FrontBwdIdeal.τ).loc Cert.FrontBwdIdeal.main_arg4)) (m ((c.tc : Thread Cert.FrontBwdIdeal.nD Cert.FrontBwdIdeal.τ).loc Cert.FrontBwdIdeal.main_arg5)) (m ((c.tc : Thread Cert.FrontBwdIdeal.nD Cert.FrontBwdIdeal.τ).loc Cert.FrontBwdIdeal.main_arg6)) (m ((c.tc : Thread Cert.FrontBwdIdeal.nD Cert.FrontBwdIdeal.τ).loc Cert.FrontBwdIdeal.main_arg7)) (m ((c.tc : Thread Cert.FrontBwdIdeal.nD Cert.FrontBwdIdeal.τ).loc Cert.FrontBwdIdeal.main_arg8)) (m ((c.tc : Thread Cert.FrontBwdIdeal.nD Cert.FrontBwdIdeal.τ).loc Cert.FrontBwdIdeal.main_arg9)) (m ((c.tc : Thread Cert.FrontBwdIdeal.nD Cert.FrontBwdIdeal.τ).loc Cert.FrontBwdIdeal.main_arg10)) (m ((c.tc : Thread Cert.FrontBwdIdeal.nD Cert.FrontBwdIdeal.τ).loc Cert.FrontBwdIdeal.main_arg11)) (m ((c.tc : Thread Cert.FrontBwdIdeal.nD Cert.FrontBwdIdeal.τ).loc Cert.FrontBwdIdeal.main_arg12)) (m ((c.tc : Thread Cert.FrontBwdIdeal.nD Cert.FrontBwdIdeal.τ).loc Cert.FrontBwdIdeal.main_arg13)) (m ((c.tc : Thread Cert.FrontBwdIdeal.nD Cert.FrontBwdIdeal.τ).loc Cert.FrontBwdIdeal.main_arg14)) (m ((c.tc : Thread Cert.FrontBwdIdeal.nD Cert.FrontBwdIdeal.τ).loc Cert.FrontBwdIdeal.main_arg15)) (m ((c.tc : Thread Cert.FrontBwdIdeal.nD Cert.FrontBwdIdeal.τ).loc Cert.FrontBwdIdeal.main_arg16))).1 = (fun _ => 1#1)
    ∧ (Cert.Pre_front_finite.fn (F := Ideal) (m ((c.tc : Thread Cert.FrontBwdIdeal.nD Cert.FrontBwdIdeal.τ).loc Cert.FrontBwdIdeal.main_arg0)) (m ((c.tc : Thread Cert.FrontBwdIdeal.nD Cert.FrontBwdIdeal.τ).loc Cert.FrontBwdIdeal.main_arg1)) (m ((c.tc : Thread Cert.FrontBwdIdeal.nD Cert.FrontBwdIdeal.τ).loc Cert.FrontBwdIdeal.main_arg2)) (m ((c.tc : Thread Cert.FrontBwdIdeal.nD Cert.FrontBwdIdeal.τ).loc Cert.FrontBwdIdeal.main_arg3)) (m ((c.tc : Thread Cert.FrontBwdIdeal.nD Cert.FrontBwdIdeal.τ).loc Cert.FrontBwdIdeal.main_arg4)) (m ((c.tc : Thread Cert.FrontBwdIdeal.nD Cert.FrontBwdIdeal.τ).loc Cert.FrontBwdIdeal.main_arg5)) (m ((c.tc : Thread Cert.FrontBwdIdeal.nD Cert.FrontBwdIdeal.τ).loc Cert.FrontBwdIdeal.main_arg6)) (m ((c.tc : Thread Cert.FrontBwdIdeal.nD Cert.FrontBwdIdeal.τ).loc Cert.FrontBwdIdeal.main_arg7)) (m ((c.tc : Thread Cert.FrontBwdIdeal.nD Cert.FrontBwdIdeal.τ).loc Cert.FrontBwdIdeal.main_arg8)) (m ((c.tc : Thread Cert.FrontBwdIdeal.nD Cert.FrontBwdIdeal.τ).loc Cert.FrontBwdIdeal.main_arg9)) (m ((c.tc : Thread Cert.FrontBwdIdeal.nD Cert.FrontBwdIdeal.τ).loc Cert.FrontBwdIdeal.main_arg10)) (m ((c.tc : Thread Cert.FrontBwdIdeal.nD Cert.FrontBwdIdeal.τ).loc Cert.FrontBwdIdeal.main_arg11)) (m ((c.tc : Thread Cert.FrontBwdIdeal.nD Cert.FrontBwdIdeal.τ).loc Cert.FrontBwdIdeal.main_arg12)) (m ((c.tc : Thread Cert.FrontBwdIdeal.nD Cert.FrontBwdIdeal.τ).loc Cert.FrontBwdIdeal.main_arg13)) (m ((c.tc : Thread Cert.FrontBwdIdeal.nD Cert.FrontBwdIdeal.τ).loc Cert.FrontBwdIdeal.main_arg14)) (m ((c.tc : Thread Cert.FrontBwdIdeal.nD Cert.FrontBwdIdeal.τ).loc Cert.FrontBwdIdeal.main_arg15)) (m ((c.tc : Thread Cert.FrontBwdIdeal.nD Cert.FrontBwdIdeal.τ).loc Cert.FrontBwdIdeal.main_arg16))).2.1 = (fun _ => 1#1)
    ∧ (Cert.Pre_front_finite.fn (F := Ideal) (m ((c.tc : Thread Cert.FrontBwdIdeal.nD Cert.FrontBwdIdeal.τ).loc Cert.FrontBwdIdeal.main_arg0)) (m ((c.tc : Thread Cert.FrontBwdIdeal.nD Cert.FrontBwdIdeal.τ).loc Cert.FrontBwdIdeal.main_arg1)) (m ((c.tc : Thread Cert.FrontBwdIdeal.nD Cert.FrontBwdIdeal.τ).loc Cert.FrontBwdIdeal.main_arg2)) (m ((c.tc : Thread Cert.FrontBwdIdeal.nD Cert.FrontBwdIdeal.τ).loc Cert.FrontBwdIdeal.main_arg3)) (m ((c.tc : Thread Cert.FrontBwdIdeal.nD Cert.FrontBwdIdeal.τ).loc Cert.FrontBwdIdeal.main_arg4)) (m ((c.tc : Thread Cert.FrontBwdIdeal.nD Cert.FrontBwdIdeal.τ).loc Cert.FrontBwdIdeal.main_arg5)) (m ((c.tc : Thread Cert.FrontBwdIdeal.nD Cert.FrontBwdIdeal.τ).loc Cert.FrontBwdIdeal.main_arg6)) (m ((c.tc : Thread Cert.FrontBwdIdeal.nD Cert.FrontBwdIdeal.τ).loc Cert.FrontBwdIdeal.main_arg7)) (m ((c.tc : Thread Cert.FrontBwdIdeal.nD Cert.FrontBwdIdeal.τ).loc Cert.FrontBwdIdeal.main_arg8)) (m ((c.tc : Thread Cert.FrontBwdIdeal.nD Cert.FrontBwdIdeal.τ).loc Cert.FrontBwdIdeal.main_arg9)) (m ((c.tc : Thread Cert.FrontBwdIdeal.nD Cert.FrontBwdIdeal.τ).loc Cert.FrontBwdIdeal.main_arg10)) (m ((c.tc : Thread Cert.FrontBwdIdeal.nD Cert.FrontBwdIdeal.τ).loc Cert.FrontBwdIdeal.main_arg11)) (m ((c.tc : Thread Cert.FrontBwdIdeal.nD Cert.FrontBwdIdeal.τ).loc Cert.FrontBwdIdeal.main_arg12)) (m ((c.tc : Thread Cert.FrontBwdIdeal.nD Cert.FrontBwdIdeal.τ).loc Cert.FrontBwdIdeal.main_arg13)) (m ((c.tc : Thread Cert.FrontBwdIdeal.nD Cert.FrontBwdIdeal.τ).loc Cert.FrontBwdIdeal.main_arg14)) (m ((c.tc : Thread Cert.FrontBwdIdeal.nD Cert.FrontBwdIdeal.τ).loc Cert.FrontBwdIdeal.main_arg15)) (m ((c.tc : Thread Cert.FrontBwdIdeal.nD Cert.FrontBwdIdeal.τ).loc Cert.FrontBwdIdeal.main_arg16))).2.2.1 = (fun _ => 1#1)
    ∧ (Cert.Pre_front_finite.fn (F := Ideal) (m ((c.tc : Thread Cert.FrontBwdIdeal.nD Cert.FrontBwdIdeal.τ).loc Cert.FrontBwdIdeal.main_arg0)) (m ((c.tc : Thread Cert.FrontBwdIdeal.nD Cert.FrontBwdIdeal.τ).loc Cert.FrontBwdIdeal.main_arg1)) (m ((c.tc : Thread Cert.FrontBwdIdeal.nD Cert.FrontBwdIdeal.τ).loc Cert.FrontBwdIdeal.main_arg2)) (m ((c.tc : Thread Cert.FrontBwdIdeal.nD Cert.FrontBwdIdeal.τ).loc Cert.FrontBwdIdeal.main_arg3)) (m ((c.tc : Thread Cert.FrontBwdIdeal.nD Cert.FrontBwdIdeal.τ).loc Cert.FrontBwdIdeal.main_arg4)) (m ((c.tc : Thread Cert.FrontBwdIdeal.nD Cert.FrontBwdIdeal.τ).loc Cert.FrontBwdIdeal.main_arg5)) (m ((c.tc : Thread Cert.FrontBwdIdeal.nD Cert.FrontBwdIdeal.τ).loc Cert.FrontBwdIdeal.main_arg6)) (m ((c.tc : Thread Cert.FrontBwdIdeal.nD Cert.FrontBwdIdeal.τ).loc Cert.FrontBwdIdeal.main_arg7)) (m ((c.tc : Thread Cert.FrontBwdIdeal.nD Cert.FrontBwdIdeal.τ).loc Cert.FrontBwdIdeal.main_arg8)) (m ((c.tc : Thread Cert.FrontBwdIdeal.nD Cert.FrontBwdIdeal.τ).loc Cert.FrontBwdIdeal.main_arg9)) (m ((c.tc : Thread Cert.FrontBwdIdeal.nD Cert.FrontBwdIdeal.τ).loc Cert.FrontBwdIdeal.main_arg10)) (m ((c.tc : Thread Cert.FrontBwdIdeal.nD Cert.FrontBwdIdeal.τ).loc Cert.FrontBwdIdeal.main_arg11)) (m ((c.tc : Thread Cert.FrontBwdIdeal.nD Cert.FrontBwdIdeal.τ).loc Cert.FrontBwdIdeal.main_arg12)) (m ((c.tc : Thread Cert.FrontBwdIdeal.nD Cert.FrontBwdIdeal.τ).loc Cert.FrontBwdIdeal.main_arg13)) (m ((c.tc : Thread Cert.FrontBwdIdeal.nD Cert.FrontBwdIdeal.τ).loc Cert.FrontBwdIdeal.main_arg14)) (m ((c.tc : Thread Cert.FrontBwdIdeal.nD Cert.FrontBwdIdeal.τ).loc Cert.FrontBwdIdeal.main_arg15)) (m ((c.tc : Thread Cert.FrontBwdIdeal.nD Cert.FrontBwdIdeal.τ).loc Cert.FrontBwdIdeal.main_arg16))).2.2.2.1 = (fun _ => 1#1)
    ∧ (Cert.Pre_front_finite.fn (F := Ideal) (m ((c.tc : Thread Cert.FrontBwdIdeal.nD Cert.FrontBwdIdeal.τ).loc Cert.FrontBwdIdeal.main_arg0)) (m ((c.tc : Thread Cert.FrontBwdIdeal.nD Cert.FrontBwdIdeal.τ).loc Cert.FrontBwdIdeal.main_arg1)) (m ((c.tc : Thread Cert.FrontBwdIdeal.nD Cert.FrontBwdIdeal.τ).loc Cert.FrontBwdIdeal.main_arg2)) (m ((c.tc : Thread Cert.FrontBwdIdeal.nD Cert.FrontBwdIdeal.τ).loc Cert.FrontBwdIdeal.main_arg3)) (m ((c.tc : Thread Cert.FrontBwdIdeal.nD Cert.FrontBwdIdeal.τ).loc Cert.FrontBwdIdeal.main_arg4)) (m ((c.tc : Thread Cert.FrontBwdIdeal.nD Cert.FrontBwdIdeal.τ).loc Cert.FrontBwdIdeal.main_arg5)) (m ((c.tc : Thread Cert.FrontBwdIdeal.nD Cert.FrontBwdIdeal.τ).loc Cert.FrontBwdIdeal.main_arg6)) (m ((c.tc : Thread Cert.FrontBwdIdeal.nD Cert.FrontBwdIdeal.τ).loc Cert.FrontBwdIdeal.main_arg7)) (m ((c.tc : Thread Cert.FrontBwdIdeal.nD Cert.FrontBwdIdeal.τ).loc Cert.FrontBwdIdeal.main_arg8)) (m ((c.tc : Thread Cert.FrontBwdIdeal.nD Cert.FrontBwdIdeal.τ).loc Cert.FrontBwdIdeal.main_arg9)) (m ((c.tc : Thread Cert.FrontBwdIdeal.nD Cert.FrontBwdIdeal.τ).loc Cert.FrontBwdIdeal.main_arg10)) (m ((c.tc : Thread Cert.FrontBwdIdeal.nD Cert.FrontBwdIdeal.τ).loc Cert.FrontBwdIdeal.main_arg11)) (m ((c.tc : Thread Cert.FrontBwdIdeal.nD Cert.FrontBwdIdeal.τ).loc Cert.FrontBwdIdeal.main_arg12)) (m ((c.tc : Thread Cert.FrontBwdIdeal.nD Cert.FrontBwdIdeal.τ).loc Cert.FrontBwdIdeal.main_arg13)) (m ((c.tc : Thread Cert.FrontBwdIdeal.nD Cert.FrontBwdIdeal.τ).loc Cert.FrontBwdIdeal.main_arg14)) (m ((c.tc : Thread Cert.FrontBwdIdeal.nD Cert.FrontBwdIdeal.τ).loc Cert.FrontBwdIdeal.main_arg15)) (m ((c.tc : Thread Cert.FrontBwdIdeal.nD Cert.FrontBwdIdeal.τ).loc Cert.FrontBwdIdeal.main_arg16))).2.2.2.2.1 = (fun _ => 1#1)
    ∧ (Cert.Pre_front_finite.fn (F := Ideal) (m ((c.tc : Thread Cert.FrontBwdIdeal.nD Cert.FrontBwdIdeal.τ).loc Cert.FrontBwdIdeal.main_arg0)) (m ((c.tc : Thread Cert.FrontBwdIdeal.nD Cert.FrontBwdIdeal.τ).loc Cert.FrontBwdIdeal.main_arg1)) (m ((c.tc : Thread Cert.FrontBwdIdeal.nD Cert.FrontBwdIdeal.τ).loc Cert.FrontBwdIdeal.main_arg2)) (m ((c.tc : Thread Cert.FrontBwdIdeal.nD Cert.FrontBwdIdeal.τ).loc Cert.FrontBwdIdeal.main_arg3)) (m ((c.tc : Thread Cert.FrontBwdIdeal.nD Cert.FrontBwdIdeal.τ).loc Cert.FrontBwdIdeal.main_arg4)) (m ((c.tc : Thread Cert.FrontBwdIdeal.nD Cert.FrontBwdIdeal.τ).loc Cert.FrontBwdIdeal.main_arg5)) (m ((c.tc : Thread Cert.FrontBwdIdeal.nD Cert.FrontBwdIdeal.τ).loc Cert.FrontBwdIdeal.main_arg6)) (m ((c.tc : Thread Cert.FrontBwdIdeal.nD Cert.FrontBwdIdeal.τ).loc Cert.FrontBwdIdeal.main_arg7)) (m ((c.tc : Thread Cert.FrontBwdIdeal.nD Cert.FrontBwdIdeal.τ).loc Cert.FrontBwdIdeal.main_arg8)) (m ((c.tc : Thread Cert.FrontBwdIdeal.nD Cert.FrontBwdIdeal.τ).loc Cert.FrontBwdIdeal.main_arg9)) (m ((c.tc : Thread Cert.FrontBwdIdeal.nD Cert.FrontBwdIdeal.τ).loc Cert.FrontBwdIdeal.main_arg10)) (m ((c.tc : Thread Cert.FrontBwdIdeal.nD Cert.FrontBwdIdeal.τ).loc Cert.FrontBwdIdeal.main_arg11)) (m ((c.tc : Thread Cert.FrontBwdIdeal.nD Cert.FrontBwdIdeal.τ).loc Cert.FrontBwdIdeal.main_arg12)) (m ((c.tc : Thread Cert.FrontBwdIdeal.nD Cert.FrontBwdIdeal.τ).loc Cert.FrontBwdIdeal.main_arg13)) (m ((c.tc : Thread Cert.FrontBwdIdeal.nD Cert.FrontBwdIdeal.τ).loc Cert.FrontBwdIdeal.main_arg14)) (m ((c.tc : Thread Cert.FrontBwdIdeal.nD Cert.FrontBwdIdeal.τ).loc Cert.FrontBwdIdeal.main_arg15)) (m ((c.tc : Thread Cert.FrontBwdIdeal.nD Cert.FrontBwdIdeal.τ).loc Cert.FrontBwdIdeal.main_arg16))).2.2.2.2.2.1 = (fun _ => 1#1)
    ∧ (Cert.Pre_front_finite.fn (F := Ideal) (m ((c.tc : Thread Cert.FrontBwdIdeal.nD Cert.FrontBwdIdeal.τ).loc Cert.FrontBwdIdeal.main_arg0)) (m ((c.tc : Thread Cert.FrontBwdIdeal.nD Cert.FrontBwdIdeal.τ).loc Cert.FrontBwdIdeal.main_arg1)) (m ((c.tc : Thread Cert.FrontBwdIdeal.nD Cert.FrontBwdIdeal.τ).loc Cert.FrontBwdIdeal.main_arg2)) (m ((c.tc : Thread Cert.FrontBwdIdeal.nD Cert.FrontBwdIdeal.τ).loc Cert.FrontBwdIdeal.main_arg3)) (m ((c.tc : Thread Cert.FrontBwdIdeal.nD Cert.FrontBwdIdeal.τ).loc Cert.FrontBwdIdeal.main_arg4)) (m ((c.tc : Thread Cert.FrontBwdIdeal.nD Cert.FrontBwdIdeal.τ).loc Cert.FrontBwdIdeal.main_arg5)) (m ((c.tc : Thread Cert.FrontBwdIdeal.nD Cert.FrontBwdIdeal.τ).loc Cert.FrontBwdIdeal.main_arg6)) (m ((c.tc : Thread Cert.FrontBwdIdeal.nD Cert.FrontBwdIdeal.τ).loc Cert.FrontBwdIdeal.main_arg7)) (m ((c.tc : Thread Cert.FrontBwdIdeal.nD Cert.FrontBwdIdeal.τ).loc Cert.FrontBwdIdeal.main_arg8)) (m ((c.tc : Thread Cert.FrontBwdIdeal.nD Cert.FrontBwdIdeal.τ).loc Cert.FrontBwdIdeal.main_arg9)) (m ((c.tc : Thread Cert.FrontBwdIdeal.nD Cert.FrontBwdIdeal.τ).loc Cert.FrontBwdIdeal.main_arg10)) (m ((c.tc : Thread Cert.FrontBwdIdeal.nD Cert.FrontBwdIdeal.τ).loc Cert.FrontBwdIdeal.main_arg11)) (m ((c.tc : Thread Cert.FrontBwdIdeal.nD Cert.FrontBwdIdeal.τ).loc Cert.FrontBwdIdeal.main_arg12)) (m ((c.tc : Thread Cert.FrontBwdIdeal.nD Cert.FrontBwdIdeal.τ).loc Cert.FrontBwdIdeal.main_arg13)) (m ((c.tc : Thread Cert.FrontBwdIdeal.nD Cert.FrontBwdIdeal.τ).loc Cert.FrontBwdIdeal.main_arg14)) (m ((c.tc : Thread Cert.FrontBwdIdeal.nD Cert.FrontBwdIdeal.τ).loc Cert.FrontBwdIdeal.main_arg15)) (m ((c.tc : Thread Cert.FrontBwdIdeal.nD Cert.FrontBwdIdeal.τ).loc Cert.FrontBwdIdeal.main_arg16))).2.2.2.2.2.2.1 = (fun _ => 1#1)
    ∧ (Cert.Pre_front_finite.fn (F := Ideal) (m ((c.tc : Thread Cert.FrontBwdIdeal.nD Cert.FrontBwdIdeal.τ).loc Cert.FrontBwdIdeal.main_arg0)) (m ((c.tc : Thread Cert.FrontBwdIdeal.nD Cert.FrontBwdIdeal.τ).loc Cert.FrontBwdIdeal.main_arg1)) (m ((c.tc : Thread Cert.FrontBwdIdeal.nD Cert.FrontBwdIdeal.τ).loc Cert.FrontBwdIdeal.main_arg2)) (m ((c.tc : Thread Cert.FrontBwdIdeal.nD Cert.FrontBwdIdeal.τ).loc Cert.FrontBwdIdeal.main_arg3)) (m ((c.tc : Thread Cert.FrontBwdIdeal.nD Cert.FrontBwdIdeal.τ).loc Cert.FrontBwdIdeal.main_arg4)) (m ((c.tc : Thread Cert.FrontBwdIdeal.nD Cert.FrontBwdIdeal.τ).loc Cert.FrontBwdIdeal.main_arg5)) (m ((c.tc : Thread Cert.FrontBwdIdeal.nD Cert.FrontBwdIdeal.τ).loc Cert.FrontBwdIdeal.main_arg6)) (m ((c.tc : Thread Cert.FrontBwdIdeal.nD Cert.FrontBwdIdeal.τ).loc Cert.FrontBwdIdeal.main_arg7)) (m ((c.tc : Thread Cert.FrontBwdIdeal.nD Cert.FrontBwdIdeal.τ).loc Cert.FrontBwdIdeal.main_arg8)) (m ((c.tc : Thread Cert.FrontBwdIdeal.nD Cert.FrontBwdIdeal.τ).loc Cert.FrontBwdIdeal.main_arg9)) (m ((c.tc : Thread Cert.FrontBwdIdeal.nD Cert.FrontBwdIdeal.τ).loc Cert.FrontBwdIdeal.main_arg10)) (m ((c.tc : Thread Cert.FrontBwdIdeal.nD Cert.FrontBwdIdeal.τ).loc Cert.FrontBwdIdeal.main_arg11)) (m ((c.tc : Thread Cert.FrontBwdIdeal.nD Cert.FrontBwdIdeal.τ).loc Cert.FrontBwdIdeal.main_arg12)) (m ((c.tc : Thread Cert.FrontBwdIdeal.nD Cert.FrontBwdIdeal.τ).loc Cert.FrontBwdIdeal.main_arg13)) (m ((c.tc : Thread Cert.FrontBwdIdeal.nD Cert.FrontBwdIdeal.τ).loc Cert.FrontBwdIdeal.main_arg14)) (m ((c.tc : Thread Cert.FrontBwdIdeal.nD Cert.FrontBwdIdeal.τ).loc Cert.FrontBwdIdeal.main_arg15)) (m ((c.tc : Thread Cert.FrontBwdIdeal.nD Cert.FrontBwdIdeal.τ).loc Cert.FrontBwdIdeal.main_arg16))).2.2.2.2.2.2.2 = (fun _ => 1#1)

def Pre_FrontBwdRefIdeal (m : (ℓ : Loc Cert.FrontBwdRefIdeal.nD Cert.FrontBwdRefIdeal.τ Cert.FrontBwdRefIdeal.sig) → Buf (Elt Ideal) ℓ) : Prop :=
  True

def Pre_FrontBwdRefIdeal_front_finite [hPre_front_finite : Cert.Pre_front_finite.Facts] (m : (ℓ : Loc Cert.FrontBwdRefIdeal.nD Cert.FrontBwdRefIdeal.τ Cert.FrontBwdRefIdeal.sig) → Buf (Elt Ideal) ℓ) : Prop :=
  ∀ c : Dev Cert.FrontBwdRefIdeal.nD,
    (Cert.Pre_front_finite.fn (F := Ideal) (m ((c.tc : Thread Cert.FrontBwdRefIdeal.nD Cert.FrontBwdRefIdeal.τ).loc Cert.FrontBwdRefIdeal.main_arg0)) (m ((c.tc : Thread Cert.FrontBwdRefIdeal.nD Cert.FrontBwdRefIdeal.τ).loc Cert.FrontBwdRefIdeal.main_arg1)) (m ((c.tc : Thread Cert.FrontBwdRefIdeal.nD Cert.FrontBwdRefIdeal.τ).loc Cert.FrontBwdRefIdeal.main_arg2)) (m ((c.tc : Thread Cert.FrontBwdRefIdeal.nD Cert.FrontBwdRefIdeal.τ).loc Cert.FrontBwdRefIdeal.main_arg3)) (m ((c.tc : Thread Cert.FrontBwdRefIdeal.nD Cert.FrontBwdRefIdeal.τ).loc Cert.FrontBwdRefIdeal.main_arg4)) (m ((c.tc : Thread Cert.FrontBwdRefIdeal.nD Cert.FrontBwdRefIdeal.τ).loc Cert.FrontBwdRefIdeal.main_arg5)) (m ((c.tc : Thread Cert.FrontBwdRefIdeal.nD Cert.FrontBwdRefIdeal.τ).loc Cert.FrontBwdRefIdeal.main_arg6)) (m ((c.tc : Thread Cert.FrontBwdRefIdeal.nD Cert.FrontBwdRefIdeal.τ).loc Cert.FrontBwdRefIdeal.main_arg7)) (m ((c.tc : Thread Cert.FrontBwdRefIdeal.nD Cert.FrontBwdRefIdeal.τ).loc Cert.FrontBwdRefIdeal.main_arg8)) (m ((c.tc : Thread Cert.FrontBwdRefIdeal.nD Cert.FrontBwdRefIdeal.τ).loc Cert.FrontBwdRefIdeal.main_arg9)) (m ((c.tc : Thread Cert.FrontBwdRefIdeal.nD Cert.FrontBwdRefIdeal.τ).loc Cert.FrontBwdRefIdeal.main_arg10)) (m ((c.tc : Thread Cert.FrontBwdRefIdeal.nD Cert.FrontBwdRefIdeal.τ).loc Cert.FrontBwdRefIdeal.main_arg11)) (m ((c.tc : Thread Cert.FrontBwdRefIdeal.nD Cert.FrontBwdRefIdeal.τ).loc Cert.FrontBwdRefIdeal.main_arg12)) (m ((c.tc : Thread Cert.FrontBwdRefIdeal.nD Cert.FrontBwdRefIdeal.τ).loc Cert.FrontBwdRefIdeal.main_arg13)) (m ((c.tc : Thread Cert.FrontBwdRefIdeal.nD Cert.FrontBwdRefIdeal.τ).loc Cert.FrontBwdRefIdeal.main_arg14)) (m ((c.tc : Thread Cert.FrontBwdRefIdeal.nD Cert.FrontBwdRefIdeal.τ).loc Cert.FrontBwdRefIdeal.main_arg15)) (m ((c.tc : Thread Cert.FrontBwdRefIdeal.nD Cert.FrontBwdRefIdeal.τ).loc Cert.FrontBwdRefIdeal.main_arg16))).1 = (fun _ => 1#1)
    ∧ (Cert.Pre_front_finite.fn (F := Ideal) (m ((c.tc : Thread Cert.FrontBwdRefIdeal.nD Cert.FrontBwdRefIdeal.τ).loc Cert.FrontBwdRefIdeal.main_arg0)) (m ((c.tc : Thread Cert.FrontBwdRefIdeal.nD Cert.FrontBwdRefIdeal.τ).loc Cert.FrontBwdRefIdeal.main_arg1)) (m ((c.tc : Thread Cert.FrontBwdRefIdeal.nD Cert.FrontBwdRefIdeal.τ).loc Cert.FrontBwdRefIdeal.main_arg2)) (m ((c.tc : Thread Cert.FrontBwdRefIdeal.nD Cert.FrontBwdRefIdeal.τ).loc Cert.FrontBwdRefIdeal.main_arg3)) (m ((c.tc : Thread Cert.FrontBwdRefIdeal.nD Cert.FrontBwdRefIdeal.τ).loc Cert.FrontBwdRefIdeal.main_arg4)) (m ((c.tc : Thread Cert.FrontBwdRefIdeal.nD Cert.FrontBwdRefIdeal.τ).loc Cert.FrontBwdRefIdeal.main_arg5)) (m ((c.tc : Thread Cert.FrontBwdRefIdeal.nD Cert.FrontBwdRefIdeal.τ).loc Cert.FrontBwdRefIdeal.main_arg6)) (m ((c.tc : Thread Cert.FrontBwdRefIdeal.nD Cert.FrontBwdRefIdeal.τ).loc Cert.FrontBwdRefIdeal.main_arg7)) (m ((c.tc : Thread Cert.FrontBwdRefIdeal.nD Cert.FrontBwdRefIdeal.τ).loc Cert.FrontBwdRefIdeal.main_arg8)) (m ((c.tc : Thread Cert.FrontBwdRefIdeal.nD Cert.FrontBwdRefIdeal.τ).loc Cert.FrontBwdRefIdeal.main_arg9)) (m ((c.tc : Thread Cert.FrontBwdRefIdeal.nD Cert.FrontBwdRefIdeal.τ).loc Cert.FrontBwdRefIdeal.main_arg10)) (m ((c.tc : Thread Cert.FrontBwdRefIdeal.nD Cert.FrontBwdRefIdeal.τ).loc Cert.FrontBwdRefIdeal.main_arg11)) (m ((c.tc : Thread Cert.FrontBwdRefIdeal.nD Cert.FrontBwdRefIdeal.τ).loc Cert.FrontBwdRefIdeal.main_arg12)) (m ((c.tc : Thread Cert.FrontBwdRefIdeal.nD Cert.FrontBwdRefIdeal.τ).loc Cert.FrontBwdRefIdeal.main_arg13)) (m ((c.tc : Thread Cert.FrontBwdRefIdeal.nD Cert.FrontBwdRefIdeal.τ).loc Cert.FrontBwdRefIdeal.main_arg14)) (m ((c.tc : Thread Cert.FrontBwdRefIdeal.nD Cert.FrontBwdRefIdeal.τ).loc Cert.FrontBwdRefIdeal.main_arg15)) (m ((c.tc : Thread Cert.FrontBwdRefIdeal.nD Cert.FrontBwdRefIdeal.τ).loc Cert.FrontBwdRefIdeal.main_arg16))).2.1 = (fun _ => 1#1)
    ∧ (Cert.Pre_front_finite.fn (F := Ideal) (m ((c.tc : Thread Cert.FrontBwdRefIdeal.nD Cert.FrontBwdRefIdeal.τ).loc Cert.FrontBwdRefIdeal.main_arg0)) (m ((c.tc : Thread Cert.FrontBwdRefIdeal.nD Cert.FrontBwdRefIdeal.τ).loc Cert.FrontBwdRefIdeal.main_arg1)) (m ((c.tc : Thread Cert.FrontBwdRefIdeal.nD Cert.FrontBwdRefIdeal.τ).loc Cert.FrontBwdRefIdeal.main_arg2)) (m ((c.tc : Thread Cert.FrontBwdRefIdeal.nD Cert.FrontBwdRefIdeal.τ).loc Cert.FrontBwdRefIdeal.main_arg3)) (m ((c.tc : Thread Cert.FrontBwdRefIdeal.nD Cert.FrontBwdRefIdeal.τ).loc Cert.FrontBwdRefIdeal.main_arg4)) (m ((c.tc : Thread Cert.FrontBwdRefIdeal.nD Cert.FrontBwdRefIdeal.τ).loc Cert.FrontBwdRefIdeal.main_arg5)) (m ((c.tc : Thread Cert.FrontBwdRefIdeal.nD Cert.FrontBwdRefIdeal.τ).loc Cert.FrontBwdRefIdeal.main_arg6)) (m ((c.tc : Thread Cert.FrontBwdRefIdeal.nD Cert.FrontBwdRefIdeal.τ).loc Cert.FrontBwdRefIdeal.main_arg7)) (m ((c.tc : Thread Cert.FrontBwdRefIdeal.nD Cert.FrontBwdRefIdeal.τ).loc Cert.FrontBwdRefIdeal.main_arg8)) (m ((c.tc : Thread Cert.FrontBwdRefIdeal.nD Cert.FrontBwdRefIdeal.τ).loc Cert.FrontBwdRefIdeal.main_arg9)) (m ((c.tc : Thread Cert.FrontBwdRefIdeal.nD Cert.FrontBwdRefIdeal.τ).loc Cert.FrontBwdRefIdeal.main_arg10)) (m ((c.tc : Thread Cert.FrontBwdRefIdeal.nD Cert.FrontBwdRefIdeal.τ).loc Cert.FrontBwdRefIdeal.main_arg11)) (m ((c.tc : Thread Cert.FrontBwdRefIdeal.nD Cert.FrontBwdRefIdeal.τ).loc Cert.FrontBwdRefIdeal.main_arg12)) (m ((c.tc : Thread Cert.FrontBwdRefIdeal.nD Cert.FrontBwdRefIdeal.τ).loc Cert.FrontBwdRefIdeal.main_arg13)) (m ((c.tc : Thread Cert.FrontBwdRefIdeal.nD Cert.FrontBwdRefIdeal.τ).loc Cert.FrontBwdRefIdeal.main_arg14)) (m ((c.tc : Thread Cert.FrontBwdRefIdeal.nD Cert.FrontBwdRefIdeal.τ).loc Cert.FrontBwdRefIdeal.main_arg15)) (m ((c.tc : Thread Cert.FrontBwdRefIdeal.nD Cert.FrontBwdRefIdeal.τ).loc Cert.FrontBwdRefIdeal.main_arg16))).2.2.1 = (fun _ => 1#1)
    ∧ (Cert.Pre_front_finite.fn (F := Ideal) (m ((c.tc : Thread Cert.FrontBwdRefIdeal.nD Cert.FrontBwdRefIdeal.τ).loc Cert.FrontBwdRefIdeal.main_arg0)) (m ((c.tc : Thread Cert.FrontBwdRefIdeal.nD Cert.FrontBwdRefIdeal.τ).loc Cert.FrontBwdRefIdeal.main_arg1)) (m ((c.tc : Thread Cert.FrontBwdRefIdeal.nD Cert.FrontBwdRefIdeal.τ).loc Cert.FrontBwdRefIdeal.main_arg2)) (m ((c.tc : Thread Cert.FrontBwdRefIdeal.nD Cert.FrontBwdRefIdeal.τ).loc Cert.FrontBwdRefIdeal.main_arg3)) (m ((c.tc : Thread Cert.FrontBwdRefIdeal.nD Cert.FrontBwdRefIdeal.τ).loc Cert.FrontBwdRefIdeal.main_arg4)) (m ((c.tc : Thread Cert.FrontBwdRefIdeal.nD Cert.FrontBwdRefIdeal.τ).loc Cert.FrontBwdRefIdeal.main_arg5)) (m ((c.tc : Thread Cert.FrontBwdRefIdeal.nD Cert.FrontBwdRefIdeal.τ).loc Cert.FrontBwdRefIdeal.main_arg6)) (m ((c.tc : Thread Cert.FrontBwdRefIdeal.nD Cert.FrontBwdRefIdeal.τ).loc Cert.FrontBwdRefIdeal.main_arg7)) (m ((c.tc : Thread Cert.FrontBwdRefIdeal.nD Cert.FrontBwdRefIdeal.τ).loc Cert.FrontBwdRefIdeal.main_arg8)) (m ((c.tc : Thread Cert.FrontBwdRefIdeal.nD Cert.FrontBwdRefIdeal.τ).loc Cert.FrontBwdRefIdeal.main_arg9)) (m ((c.tc : Thread Cert.FrontBwdRefIdeal.nD Cert.FrontBwdRefIdeal.τ).loc Cert.FrontBwdRefIdeal.main_arg10)) (m ((c.tc : Thread Cert.FrontBwdRefIdeal.nD Cert.FrontBwdRefIdeal.τ).loc Cert.FrontBwdRefIdeal.main_arg11)) (m ((c.tc : Thread Cert.FrontBwdRefIdeal.nD Cert.FrontBwdRefIdeal.τ).loc Cert.FrontBwdRefIdeal.main_arg12)) (m ((c.tc : Thread Cert.FrontBwdRefIdeal.nD Cert.FrontBwdRefIdeal.τ).loc Cert.FrontBwdRefIdeal.main_arg13)) (m ((c.tc : Thread Cert.FrontBwdRefIdeal.nD Cert.FrontBwdRefIdeal.τ).loc Cert.FrontBwdRefIdeal.main_arg14)) (m ((c.tc : Thread Cert.FrontBwdRefIdeal.nD Cert.FrontBwdRefIdeal.τ).loc Cert.FrontBwdRefIdeal.main_arg15)) (m ((c.tc : Thread Cert.FrontBwdRefIdeal.nD Cert.FrontBwdRefIdeal.τ).loc Cert.FrontBwdRefIdeal.main_arg16))).2.2.2.1 = (fun _ => 1#1)
    ∧ (Cert.Pre_front_finite.fn (F := Ideal) (m ((c.tc : Thread Cert.FrontBwdRefIdeal.nD Cert.FrontBwdRefIdeal.τ).loc Cert.FrontBwdRefIdeal.main_arg0)) (m ((c.tc : Thread Cert.FrontBwdRefIdeal.nD Cert.FrontBwdRefIdeal.τ).loc Cert.FrontBwdRefIdeal.main_arg1)) (m ((c.tc : Thread Cert.FrontBwdRefIdeal.nD Cert.FrontBwdRefIdeal.τ).loc Cert.FrontBwdRefIdeal.main_arg2)) (m ((c.tc : Thread Cert.FrontBwdRefIdeal.nD Cert.FrontBwdRefIdeal.τ).loc Cert.FrontBwdRefIdeal.main_arg3)) (m ((c.tc : Thread Cert.FrontBwdRefIdeal.nD Cert.FrontBwdRefIdeal.τ).loc Cert.FrontBwdRefIdeal.main_arg4)) (m ((c.tc : Thread Cert.FrontBwdRefIdeal.nD Cert.FrontBwdRefIdeal.τ).loc Cert.FrontBwdRefIdeal.main_arg5)) (m ((c.tc : Thread Cert.FrontBwdRefIdeal.nD Cert.FrontBwdRefIdeal.τ).loc Cert.FrontBwdRefIdeal.main_arg6)) (m ((c.tc : Thread Cert.FrontBwdRefIdeal.nD Cert.FrontBwdRefIdeal.τ).loc Cert.FrontBwdRefIdeal.main_arg7)) (m ((c.tc : Thread Cert.FrontBwdRefIdeal.nD Cert.FrontBwdRefIdeal.τ).loc Cert.FrontBwdRefIdeal.main_arg8)) (m ((c.tc : Thread Cert.FrontBwdRefIdeal.nD Cert.FrontBwdRefIdeal.τ).loc Cert.FrontBwdRefIdeal.main_arg9)) (m ((c.tc : Thread Cert.FrontBwdRefIdeal.nD Cert.FrontBwdRefIdeal.τ).loc Cert.FrontBwdRefIdeal.main_arg10)) (m ((c.tc : Thread Cert.FrontBwdRefIdeal.nD Cert.FrontBwdRefIdeal.τ).loc Cert.FrontBwdRefIdeal.main_arg11)) (m ((c.tc : Thread Cert.FrontBwdRefIdeal.nD Cert.FrontBwdRefIdeal.τ).loc Cert.FrontBwdRefIdeal.main_arg12)) (m ((c.tc : Thread Cert.FrontBwdRefIdeal.nD Cert.FrontBwdRefIdeal.τ).loc Cert.FrontBwdRefIdeal.main_arg13)) (m ((c.tc : Thread Cert.FrontBwdRefIdeal.nD Cert.FrontBwdRefIdeal.τ).loc Cert.FrontBwdRefIdeal.main_arg14)) (m ((c.tc : Thread Cert.FrontBwdRefIdeal.nD Cert.FrontBwdRefIdeal.τ).loc Cert.FrontBwdRefIdeal.main_arg15)) (m ((c.tc : Thread Cert.FrontBwdRefIdeal.nD Cert.FrontBwdRefIdeal.τ).loc Cert.FrontBwdRefIdeal.main_arg16))).2.2.2.2.1 = (fun _ => 1#1)
    ∧ (Cert.Pre_front_finite.fn (F := Ideal) (m ((c.tc : Thread Cert.FrontBwdRefIdeal.nD Cert.FrontBwdRefIdeal.τ).loc Cert.FrontBwdRefIdeal.main_arg0)) (m ((c.tc : Thread Cert.FrontBwdRefIdeal.nD Cert.FrontBwdRefIdeal.τ).loc Cert.FrontBwdRefIdeal.main_arg1)) (m ((c.tc : Thread Cert.FrontBwdRefIdeal.nD Cert.FrontBwdRefIdeal.τ).loc Cert.FrontBwdRefIdeal.main_arg2)) (m ((c.tc : Thread Cert.FrontBwdRefIdeal.nD Cert.FrontBwdRefIdeal.τ).loc Cert.FrontBwdRefIdeal.main_arg3)) (m ((c.tc : Thread Cert.FrontBwdRefIdeal.nD Cert.FrontBwdRefIdeal.τ).loc Cert.FrontBwdRefIdeal.main_arg4)) (m ((c.tc : Thread Cert.FrontBwdRefIdeal.nD Cert.FrontBwdRefIdeal.τ).loc Cert.FrontBwdRefIdeal.main_arg5)) (m ((c.tc : Thread Cert.FrontBwdRefIdeal.nD Cert.FrontBwdRefIdeal.τ).loc Cert.FrontBwdRefIdeal.main_arg6)) (m ((c.tc : Thread Cert.FrontBwdRefIdeal.nD Cert.FrontBwdRefIdeal.τ).loc Cert.FrontBwdRefIdeal.main_arg7)) (m ((c.tc : Thread Cert.FrontBwdRefIdeal.nD Cert.FrontBwdRefIdeal.τ).loc Cert.FrontBwdRefIdeal.main_arg8)) (m ((c.tc : Thread Cert.FrontBwdRefIdeal.nD Cert.FrontBwdRefIdeal.τ).loc Cert.FrontBwdRefIdeal.main_arg9)) (m ((c.tc : Thread Cert.FrontBwdRefIdeal.nD Cert.FrontBwdRefIdeal.τ).loc Cert.FrontBwdRefIdeal.main_arg10)) (m ((c.tc : Thread Cert.FrontBwdRefIdeal.nD Cert.FrontBwdRefIdeal.τ).loc Cert.FrontBwdRefIdeal.main_arg11)) (m ((c.tc : Thread Cert.FrontBwdRefIdeal.nD Cert.FrontBwdRefIdeal.τ).loc Cert.FrontBwdRefIdeal.main_arg12)) (m ((c.tc : Thread Cert.FrontBwdRefIdeal.nD Cert.FrontBwdRefIdeal.τ).loc Cert.FrontBwdRefIdeal.main_arg13)) (m ((c.tc : Thread Cert.FrontBwdRefIdeal.nD Cert.FrontBwdRefIdeal.τ).loc Cert.FrontBwdRefIdeal.main_arg14)) (m ((c.tc : Thread Cert.FrontBwdRefIdeal.nD Cert.FrontBwdRefIdeal.τ).loc Cert.FrontBwdRefIdeal.main_arg15)) (m ((c.tc : Thread Cert.FrontBwdRefIdeal.nD Cert.FrontBwdRefIdeal.τ).loc Cert.FrontBwdRefIdeal.main_arg16))).2.2.2.2.2.1 = (fun _ => 1#1)
    ∧ (Cert.Pre_front_finite.fn (F := Ideal) (m ((c.tc : Thread Cert.FrontBwdRefIdeal.nD Cert.FrontBwdRefIdeal.τ).loc Cert.FrontBwdRefIdeal.main_arg0)) (m ((c.tc : Thread Cert.FrontBwdRefIdeal.nD Cert.FrontBwdRefIdeal.τ).loc Cert.FrontBwdRefIdeal.main_arg1)) (m ((c.tc : Thread Cert.FrontBwdRefIdeal.nD Cert.FrontBwdRefIdeal.τ).loc Cert.FrontBwdRefIdeal.main_arg2)) (m ((c.tc : Thread Cert.FrontBwdRefIdeal.nD Cert.FrontBwdRefIdeal.τ).loc Cert.FrontBwdRefIdeal.main_arg3)) (m ((c.tc : Thread Cert.FrontBwdRefIdeal.nD Cert.FrontBwdRefIdeal.τ).loc Cert.FrontBwdRefIdeal.main_arg4)) (m ((c.tc : Thread Cert.FrontBwdRefIdeal.nD Cert.FrontBwdRefIdeal.τ).loc Cert.FrontBwdRefIdeal.main_arg5)) (m ((c.tc : Thread Cert.FrontBwdRefIdeal.nD Cert.FrontBwdRefIdeal.τ).loc Cert.FrontBwdRefIdeal.main_arg6)) (m ((c.tc : Thread Cert.FrontBwdRefIdeal.nD Cert.FrontBwdRefIdeal.τ).loc Cert.FrontBwdRefIdeal.main_arg7)) (m ((c.tc : Thread Cert.FrontBwdRefIdeal.nD Cert.FrontBwdRefIdeal.τ).loc Cert.FrontBwdRefIdeal.main_arg8)) (m ((c.tc : Thread Cert.FrontBwdRefIdeal.nD Cert.FrontBwdRefIdeal.τ).loc Cert.FrontBwdRefIdeal.main_arg9)) (m ((c.tc : Thread Cert.FrontBwdRefIdeal.nD Cert.FrontBwdRefIdeal.τ).loc Cert.FrontBwdRefIdeal.main_arg10)) (m ((c.tc : Thread Cert.FrontBwdRefIdeal.nD Cert.FrontBwdRefIdeal.τ).loc Cert.FrontBwdRefIdeal.main_arg11)) (m ((c.tc : Thread Cert.FrontBwdRefIdeal.nD Cert.FrontBwdRefIdeal.τ).loc Cert.FrontBwdRefIdeal.main_arg12)) (m ((c.tc : Thread Cert.FrontBwdRefIdeal.nD Cert.FrontBwdRefIdeal.τ).loc Cert.FrontBwdRefIdeal.main_arg13)) (m ((c.tc : Thread Cert.FrontBwdRefIdeal.nD Cert.FrontBwdRefIdeal.τ).loc Cert.FrontBwdRefIdeal.main_arg14)) (m ((c.tc : Thread Cert.FrontBwdRefIdeal.nD Cert.FrontBwdRefIdeal.τ).loc Cert.FrontBwdRefIdeal.main_arg15)) (m ((c.tc : Thread Cert.FrontBwdRefIdeal.nD Cert.FrontBwdRefIdeal.τ).loc Cert.FrontBwdRefIdeal.main_arg16))).2.2.2.2.2.2.1 = (fun _ => 1#1)
    ∧ (Cert.Pre_front_finite.fn (F := Ideal) (m ((c.tc : Thread Cert.FrontBwdRefIdeal.nD Cert.FrontBwdRefIdeal.τ).loc Cert.FrontBwdRefIdeal.main_arg0)) (m ((c.tc : Thread Cert.FrontBwdRefIdeal.nD Cert.FrontBwdRefIdeal.τ).loc Cert.FrontBwdRefIdeal.main_arg1)) (m ((c.tc : Thread Cert.FrontBwdRefIdeal.nD Cert.FrontBwdRefIdeal.τ).loc Cert.FrontBwdRefIdeal.main_arg2)) (m ((c.tc : Thread Cert.FrontBwdRefIdeal.nD Cert.FrontBwdRefIdeal.τ).loc Cert.FrontBwdRefIdeal.main_arg3)) (m ((c.tc : Thread Cert.FrontBwdRefIdeal.nD Cert.FrontBwdRefIdeal.τ).loc Cert.FrontBwdRefIdeal.main_arg4)) (m ((c.tc : Thread Cert.FrontBwdRefIdeal.nD Cert.FrontBwdRefIdeal.τ).loc Cert.FrontBwdRefIdeal.main_arg5)) (m ((c.tc : Thread Cert.FrontBwdRefIdeal.nD Cert.FrontBwdRefIdeal.τ).loc Cert.FrontBwdRefIdeal.main_arg6)) (m ((c.tc : Thread Cert.FrontBwdRefIdeal.nD Cert.FrontBwdRefIdeal.τ).loc Cert.FrontBwdRefIdeal.main_arg7)) (m ((c.tc : Thread Cert.FrontBwdRefIdeal.nD Cert.FrontBwdRefIdeal.τ).loc Cert.FrontBwdRefIdeal.main_arg8)) (m ((c.tc : Thread Cert.FrontBwdRefIdeal.nD Cert.FrontBwdRefIdeal.τ).loc Cert.FrontBwdRefIdeal.main_arg9)) (m ((c.tc : Thread Cert.FrontBwdRefIdeal.nD Cert.FrontBwdRefIdeal.τ).loc Cert.FrontBwdRefIdeal.main_arg10)) (m ((c.tc : Thread Cert.FrontBwdRefIdeal.nD Cert.FrontBwdRefIdeal.τ).loc Cert.FrontBwdRefIdeal.main_arg11)) (m ((c.tc : Thread Cert.FrontBwdRefIdeal.nD Cert.FrontBwdRefIdeal.τ).loc Cert.FrontBwdRefIdeal.main_arg12)) (m ((c.tc : Thread Cert.FrontBwdRefIdeal.nD Cert.FrontBwdRefIdeal.τ).loc Cert.FrontBwdRefIdeal.main_arg13)) (m ((c.tc : Thread Cert.FrontBwdRefIdeal.nD Cert.FrontBwdRefIdeal.τ).loc Cert.FrontBwdRefIdeal.main_arg14)) (m ((c.tc : Thread Cert.FrontBwdRefIdeal.nD Cert.FrontBwdRefIdeal.τ).loc Cert.FrontBwdRefIdeal.main_arg15)) (m ((c.tc : Thread Cert.FrontBwdRefIdeal.nD Cert.FrontBwdRefIdeal.τ).loc Cert.FrontBwdRefIdeal.main_arg16))).2.2.2.2.2.2.2 = (fun _ => 1#1)

def Pre_TailFwd (m : (ℓ : Loc Cert.TailFwd.nD Cert.TailFwd.τ Cert.TailFwd.sig) → Buf (Elt Bits) ℓ) : Prop :=
  True

def Pre_TailFwdIdeal (m : (ℓ : Loc Cert.TailFwdIdeal.nD Cert.TailFwdIdeal.τ Cert.TailFwdIdeal.sig) → Buf (Elt Ideal) ℓ) : Prop :=
  True

def Pre_TailFwdRefIdeal (m : (ℓ : Loc Cert.TailFwdRefIdeal.nD Cert.TailFwdRefIdeal.τ Cert.TailFwdRefIdeal.sig) → Buf (Elt Ideal) ℓ) : Prop :=
  True

def Pre_FrontFwd (m : (ℓ : Loc Cert.FrontFwd.nD Cert.FrontFwd.τ Cert.FrontFwd.sig) → Buf (Elt Bits) ℓ) : Prop :=
  True

def Pre_FrontFwdIdeal (m : (ℓ : Loc Cert.FrontFwdIdeal.nD Cert.FrontFwdIdeal.τ Cert.FrontFwdIdeal.sig) → Buf (Elt Ideal) ℓ) : Prop :=
  True

def Pre_FrontFwdRefIdeal (m : (ℓ : Loc Cert.FrontFwdRefIdeal.nD Cert.FrontFwdRefIdeal.τ Cert.FrontFwdRefIdeal.sig) → Buf (Elt Ideal) ℓ) : Prop :=
  True

def quiescent_FlashBwd [hFlashBwd : Cert.FlashBwd.Facts] : Prop :=
  ∀ (m : (ℓ : Loc Cert.FlashBwd.nD Cert.FlashBwd.τ Cert.FlashBwd.sig) → Buf (Elt Bits) ℓ) (g : Dev Cert.FlashBwd.nD → PrngReg), Pre_FlashBwd m →
    θ_run (Cert.FlashBwd.defs (F := Bits)) (onTc (τ := Cert.FlashBwd.τ) (Cert.FlashBwd.main (F := Bits))) ⟨m, fun _ => 0, g⟩ (fun r => (∀ c : Dev Cert.FlashBwd.nD,
      r.2.mem ((c.tc : Thread Cert.FlashBwd.nD Cert.FlashBwd.τ).loc Cert.FlashBwd.main_arg0) = m ((c.tc : Thread Cert.FlashBwd.nD Cert.FlashBwd.τ).loc Cert.FlashBwd.main_arg0)
      ∧ r.2.mem ((c.tc : Thread Cert.FlashBwd.nD Cert.FlashBwd.τ).loc Cert.FlashBwd.main_arg1) = m ((c.tc : Thread Cert.FlashBwd.nD Cert.FlashBwd.τ).loc Cert.FlashBwd.main_arg1)
      ∧ r.2.mem ((c.tc : Thread Cert.FlashBwd.nD Cert.FlashBwd.τ).loc Cert.FlashBwd.main_arg2) = m ((c.tc : Thread Cert.FlashBwd.nD Cert.FlashBwd.τ).loc Cert.FlashBwd.main_arg2)
      ∧ r.2.mem ((c.tc : Thread Cert.FlashBwd.nD Cert.FlashBwd.τ).loc Cert.FlashBwd.main_arg3) = m ((c.tc : Thread Cert.FlashBwd.nD Cert.FlashBwd.τ).loc Cert.FlashBwd.main_arg3))
      ∧ r.2.sem = fun _ => 0)

def quiescent_FlashBwdIdeal [hFlashBwdIdeal : Cert.FlashBwdIdeal.Facts] : Prop :=
  ∀ (m : (ℓ : Loc Cert.FlashBwdIdeal.nD Cert.FlashBwdIdeal.τ Cert.FlashBwdIdeal.sig) → Buf (Elt Ideal) ℓ) (g : Dev Cert.FlashBwdIdeal.nD → PrngReg), Pre_FlashBwdIdeal m →
    θ_run (Cert.FlashBwdIdeal.defs (F := Ideal)) (onTc (τ := Cert.FlashBwdIdeal.τ) (Cert.FlashBwdIdeal.main (F := Ideal))) ⟨m, fun _ => 0, g⟩ (fun r => (∀ c : Dev Cert.FlashBwdIdeal.nD,
      r.2.mem ((c.tc : Thread Cert.FlashBwdIdeal.nD Cert.FlashBwdIdeal.τ).loc Cert.FlashBwdIdeal.main_arg0) = m ((c.tc : Thread Cert.FlashBwdIdeal.nD Cert.FlashBwdIdeal.τ).loc Cert.FlashBwdIdeal.main_arg0)
      ∧ r.2.mem ((c.tc : Thread Cert.FlashBwdIdeal.nD Cert.FlashBwdIdeal.τ).loc Cert.FlashBwdIdeal.main_arg1) = m ((c.tc : Thread Cert.FlashBwdIdeal.nD Cert.FlashBwdIdeal.τ).loc Cert.FlashBwdIdeal.main_arg1)
      ∧ r.2.mem ((c.tc : Thread Cert.FlashBwdIdeal.nD Cert.FlashBwdIdeal.τ).loc Cert.FlashBwdIdeal.main_arg2) = m ((c.tc : Thread Cert.FlashBwdIdeal.nD Cert.FlashBwdIdeal.τ).loc Cert.FlashBwdIdeal.main_arg2)
      ∧ r.2.mem ((c.tc : Thread Cert.FlashBwdIdeal.nD Cert.FlashBwdIdeal.τ).loc Cert.FlashBwdIdeal.main_arg3) = m ((c.tc : Thread Cert.FlashBwdIdeal.nD Cert.FlashBwdIdeal.τ).loc Cert.FlashBwdIdeal.main_arg3))
      ∧ r.2.sem = fun _ => 0)

def quiescent_FlashBwdIdeal_pre_finite [hFlashBwdIdeal : Cert.FlashBwdIdeal.Facts] [hPre_finite : Cert.Pre_finite.Facts] : Prop :=
  ∀ (m : (ℓ : Loc Cert.FlashBwdIdeal.nD Cert.FlashBwdIdeal.τ Cert.FlashBwdIdeal.sig) → Buf (Elt Ideal) ℓ) (g : Dev Cert.FlashBwdIdeal.nD → PrngReg), Pre_FlashBwdIdeal_finite m →
    θ_run (Cert.FlashBwdIdeal.defs (F := Ideal)) (onTc (τ := Cert.FlashBwdIdeal.τ) (Cert.FlashBwdIdeal.main (F := Ideal))) ⟨m, fun _ => 0, g⟩ (fun r => (∀ c : Dev Cert.FlashBwdIdeal.nD,
      r.2.mem ((c.tc : Thread Cert.FlashBwdIdeal.nD Cert.FlashBwdIdeal.τ).loc Cert.FlashBwdIdeal.main_arg0) = m ((c.tc : Thread Cert.FlashBwdIdeal.nD Cert.FlashBwdIdeal.τ).loc Cert.FlashBwdIdeal.main_arg0)
      ∧ r.2.mem ((c.tc : Thread Cert.FlashBwdIdeal.nD Cert.FlashBwdIdeal.τ).loc Cert.FlashBwdIdeal.main_arg1) = m ((c.tc : Thread Cert.FlashBwdIdeal.nD Cert.FlashBwdIdeal.τ).loc Cert.FlashBwdIdeal.main_arg1)
      ∧ r.2.mem ((c.tc : Thread Cert.FlashBwdIdeal.nD Cert.FlashBwdIdeal.τ).loc Cert.FlashBwdIdeal.main_arg2) = m ((c.tc : Thread Cert.FlashBwdIdeal.nD Cert.FlashBwdIdeal.τ).loc Cert.FlashBwdIdeal.main_arg2)
      ∧ r.2.mem ((c.tc : Thread Cert.FlashBwdIdeal.nD Cert.FlashBwdIdeal.τ).loc Cert.FlashBwdIdeal.main_arg3) = m ((c.tc : Thread Cert.FlashBwdIdeal.nD Cert.FlashBwdIdeal.τ).loc Cert.FlashBwdIdeal.main_arg3))
      ∧ r.2.sem = fun _ => 0)

def quiescent_FlashBwdRefIdeal [hFlashBwdRefIdeal : Cert.FlashBwdRefIdeal.Facts] : Prop :=
  ∀ (m : (ℓ : Loc Cert.FlashBwdRefIdeal.nD Cert.FlashBwdRefIdeal.τ Cert.FlashBwdRefIdeal.sig) → Buf (Elt Ideal) ℓ) (g : Dev Cert.FlashBwdRefIdeal.nD → PrngReg), Pre_FlashBwdRefIdeal m →
    θ_run (Cert.FlashBwdRefIdeal.defs (F := Ideal)) (onTc (τ := Cert.FlashBwdRefIdeal.τ) (Cert.FlashBwdRefIdeal.main (F := Ideal))) ⟨m, fun _ => 0, g⟩ (fun r => (∀ c : Dev Cert.FlashBwdRefIdeal.nD,
      r.2.mem ((c.tc : Thread Cert.FlashBwdRefIdeal.nD Cert.FlashBwdRefIdeal.τ).loc Cert.FlashBwdRefIdeal.main_arg0) = m ((c.tc : Thread Cert.FlashBwdRefIdeal.nD Cert.FlashBwdRefIdeal.τ).loc Cert.FlashBwdRefIdeal.main_arg0)
      ∧ r.2.mem ((c.tc : Thread Cert.FlashBwdRefIdeal.nD Cert.FlashBwdRefIdeal.τ).loc Cert.FlashBwdRefIdeal.main_arg1) = m ((c.tc : Thread Cert.FlashBwdRefIdeal.nD Cert.FlashBwdRefIdeal.τ).loc Cert.FlashBwdRefIdeal.main_arg1)
      ∧ r.2.mem ((c.tc : Thread Cert.FlashBwdRefIdeal.nD Cert.FlashBwdRefIdeal.τ).loc Cert.FlashBwdRefIdeal.main_arg2) = m ((c.tc : Thread Cert.FlashBwdRefIdeal.nD Cert.FlashBwdRefIdeal.τ).loc Cert.FlashBwdRefIdeal.main_arg2)
      ∧ r.2.mem ((c.tc : Thread Cert.FlashBwdRefIdeal.nD Cert.FlashBwdRefIdeal.τ).loc Cert.FlashBwdRefIdeal.main_arg3) = m ((c.tc : Thread Cert.FlashBwdRefIdeal.nD Cert.FlashBwdRefIdeal.τ).loc Cert.FlashBwdRefIdeal.main_arg3))
      ∧ r.2.sem = fun _ => 0)

def quiescent_FlashBwdRefIdeal_pre_finite [hFlashBwdRefIdeal : Cert.FlashBwdRefIdeal.Facts] [hPre_finite : Cert.Pre_finite.Facts] : Prop :=
  ∀ (m : (ℓ : Loc Cert.FlashBwdRefIdeal.nD Cert.FlashBwdRefIdeal.τ Cert.FlashBwdRefIdeal.sig) → Buf (Elt Ideal) ℓ) (g : Dev Cert.FlashBwdRefIdeal.nD → PrngReg), Pre_FlashBwdRefIdeal_finite m →
    θ_run (Cert.FlashBwdRefIdeal.defs (F := Ideal)) (onTc (τ := Cert.FlashBwdRefIdeal.τ) (Cert.FlashBwdRefIdeal.main (F := Ideal))) ⟨m, fun _ => 0, g⟩ (fun r => (∀ c : Dev Cert.FlashBwdRefIdeal.nD,
      r.2.mem ((c.tc : Thread Cert.FlashBwdRefIdeal.nD Cert.FlashBwdRefIdeal.τ).loc Cert.FlashBwdRefIdeal.main_arg0) = m ((c.tc : Thread Cert.FlashBwdRefIdeal.nD Cert.FlashBwdRefIdeal.τ).loc Cert.FlashBwdRefIdeal.main_arg0)
      ∧ r.2.mem ((c.tc : Thread Cert.FlashBwdRefIdeal.nD Cert.FlashBwdRefIdeal.τ).loc Cert.FlashBwdRefIdeal.main_arg1) = m ((c.tc : Thread Cert.FlashBwdRefIdeal.nD Cert.FlashBwdRefIdeal.τ).loc Cert.FlashBwdRefIdeal.main_arg1)
      ∧ r.2.mem ((c.tc : Thread Cert.FlashBwdRefIdeal.nD Cert.FlashBwdRefIdeal.τ).loc Cert.FlashBwdRefIdeal.main_arg2) = m ((c.tc : Thread Cert.FlashBwdRefIdeal.nD Cert.FlashBwdRefIdeal.τ).loc Cert.FlashBwdRefIdeal.main_arg2)
      ∧ r.2.mem ((c.tc : Thread Cert.FlashBwdRefIdeal.nD Cert.FlashBwdRefIdeal.τ).loc Cert.FlashBwdRefIdeal.main_arg3) = m ((c.tc : Thread Cert.FlashBwdRefIdeal.nD Cert.FlashBwdRefIdeal.τ).loc Cert.FlashBwdRefIdeal.main_arg3))
      ∧ r.2.sem = fun _ => 0)

def quiescent_LossBwd [hLossBwd : Cert.LossBwd.Facts] : Prop :=
  ∀ (m : (ℓ : Loc Cert.LossBwd.nD Cert.LossBwd.τ Cert.LossBwd.sig) → Buf (Elt Bits) ℓ) (g : Dev Cert.LossBwd.nD → PrngReg), Pre_LossBwd m →
    θ_run (Cert.LossBwd.defs (F := Bits)) (onTc (τ := Cert.LossBwd.τ) (Cert.LossBwd.main (F := Bits))) ⟨m, fun _ => 0, g⟩ (fun r => (∀ c : Dev Cert.LossBwd.nD,
      r.2.mem ((c.tc : Thread Cert.LossBwd.nD Cert.LossBwd.τ).loc Cert.LossBwd.main_arg0) = m ((c.tc : Thread Cert.LossBwd.nD Cert.LossBwd.τ).loc Cert.LossBwd.main_arg0)
      ∧ r.2.mem ((c.tc : Thread Cert.LossBwd.nD Cert.LossBwd.τ).loc Cert.LossBwd.main_arg1) = m ((c.tc : Thread Cert.LossBwd.nD Cert.LossBwd.τ).loc Cert.LossBwd.main_arg1))
      ∧ r.2.sem = fun _ => 0)

def quiescent_LossBwdIdeal [hLossBwdIdeal : Cert.LossBwdIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1))
      ∧ r.2.sem = fun _ => 0)

def quiescent_LossBwdRefIdeal [hLossBwdRefIdeal : Cert.LossBwdRefIdeal.Facts] : Prop :=
  ∀ (m : (ℓ : Loc Cert.LossBwdRefIdeal.nD Cert.LossBwdRefIdeal.τ Cert.LossBwdRefIdeal.sig) → Buf (Elt Ideal) ℓ) (g : Dev Cert.LossBwdRefIdeal.nD → PrngReg), Pre_LossBwdRefIdeal m →
    θ_run (Cert.LossBwdRefIdeal.defs (F := Ideal)) (onTc (τ := Cert.LossBwdRefIdeal.τ) (Cert.LossBwdRefIdeal.main (F := Ideal))) ⟨m, fun _ => 0, g⟩ (fun r => (∀ c : Dev Cert.LossBwdRefIdeal.nD,
      r.2.mem ((c.tc : Thread Cert.LossBwdRefIdeal.nD Cert.LossBwdRefIdeal.τ).loc Cert.LossBwdRefIdeal.main_arg0) = m ((c.tc : Thread Cert.LossBwdRefIdeal.nD Cert.LossBwdRefIdeal.τ).loc Cert.LossBwdRefIdeal.main_arg0)
      ∧ r.2.mem ((c.tc : Thread Cert.LossBwdRefIdeal.nD Cert.LossBwdRefIdeal.τ).loc Cert.LossBwdRefIdeal.main_arg1) = m ((c.tc : Thread Cert.LossBwdRefIdeal.nD Cert.LossBwdRefIdeal.τ).loc Cert.LossBwdRefIdeal.main_arg1))
      ∧ r.2.sem = fun _ => 0)

def quiescent_TailBwd [hTailBwd : Cert.TailBwd.Facts] : Prop :=
  ∀ (m : (ℓ : Loc Cert.TailBwd.nD Cert.TailBwd.τ Cert.TailBwd.sig) → Buf (Elt Bits) ℓ) (g : Dev Cert.TailBwd.nD → PrngReg), Pre_TailBwd m →
    θ_run (Cert.TailBwd.defs (F := Bits)) (onTc (τ := Cert.TailBwd.τ) (Cert.TailBwd.main (F := Bits))) ⟨m, fun _ => 0, g⟩ (fun r => (∀ c : Dev Cert.TailBwd.nD,
      r.2.mem ((c.tc : Thread Cert.TailBwd.nD Cert.TailBwd.τ).loc Cert.TailBwd.main_arg0) = m ((c.tc : Thread Cert.TailBwd.nD Cert.TailBwd.τ).loc Cert.TailBwd.main_arg0)
      ∧ r.2.mem ((c.tc : Thread Cert.TailBwd.nD Cert.TailBwd.τ).loc Cert.TailBwd.main_arg1) = m ((c.tc : Thread Cert.TailBwd.nD Cert.TailBwd.τ).loc Cert.TailBwd.main_arg1)
      ∧ r.2.mem ((c.tc : Thread Cert.TailBwd.nD Cert.TailBwd.τ).loc Cert.TailBwd.main_arg2) = m ((c.tc : Thread Cert.TailBwd.nD Cert.TailBwd.τ).loc Cert.TailBwd.main_arg2)
      ∧ r.2.mem ((c.tc : Thread Cert.TailBwd.nD Cert.TailBwd.τ).loc Cert.TailBwd.main_arg3) = m ((c.tc : Thread Cert.TailBwd.nD Cert.TailBwd.τ).loc Cert.TailBwd.main_arg3)
      ∧ r.2.mem ((c.tc : Thread Cert.TailBwd.nD Cert.TailBwd.τ).loc Cert.TailBwd.main_arg4) = m ((c.tc : Thread Cert.TailBwd.nD Cert.TailBwd.τ).loc Cert.TailBwd.main_arg4)
      ∧ r.2.mem ((c.tc : Thread Cert.TailBwd.nD Cert.TailBwd.τ).loc Cert.TailBwd.main_arg5) = m ((c.tc : Thread Cert.TailBwd.nD Cert.TailBwd.τ).loc Cert.TailBwd.main_arg5)
      ∧ r.2.mem ((c.tc : Thread Cert.TailBwd.nD Cert.TailBwd.τ).loc Cert.TailBwd.main_arg6) = m ((c.tc : Thread Cert.TailBwd.nD Cert.TailBwd.τ).loc Cert.TailBwd.main_arg6)
      ∧ r.2.mem ((c.tc : Thread Cert.TailBwd.nD Cert.TailBwd.τ).loc Cert.TailBwd.main_arg7) = m ((c.tc : Thread Cert.TailBwd.nD Cert.TailBwd.τ).loc Cert.TailBwd.main_arg7)
      ∧ r.2.mem ((c.tc : Thread Cert.TailBwd.nD Cert.TailBwd.τ).loc Cert.TailBwd.main_arg8) = m ((c.tc : Thread Cert.TailBwd.nD Cert.TailBwd.τ).loc Cert.TailBwd.main_arg8)
      ∧ r.2.mem ((c.tc : Thread Cert.TailBwd.nD Cert.TailBwd.τ).loc Cert.TailBwd.main_arg9) = m ((c.tc : Thread Cert.TailBwd.nD Cert.TailBwd.τ).loc Cert.TailBwd.main_arg9)
      ∧ r.2.mem ((c.tc : Thread Cert.TailBwd.nD Cert.TailBwd.τ).loc Cert.TailBwd.main_arg10) = m ((c.tc : Thread Cert.TailBwd.nD Cert.TailBwd.τ).loc Cert.TailBwd.main_arg10))
      ∧ r.2.sem = fun _ => 0)

def quiescent_TailBwdIdeal [hTailBwdIdeal : Cert.TailBwdIdeal.Facts] : Prop :=
  ∀ (m : (ℓ : Loc Cert.TailBwdIdeal.nD Cert.TailBwdIdeal.τ Cert.TailBwdIdeal.sig) → Buf (Elt Ideal) ℓ) (g : Dev Cert.TailBwdIdeal.nD → PrngReg), Pre_TailBwdIdeal m →
    θ_run (Cert.TailBwdIdeal.defs (F := Ideal)) (onTc (τ := Cert.TailBwdIdeal.τ) (Cert.TailBwdIdeal.main (F := Ideal))) ⟨m, fun _ => 0, g⟩ (fun r => (∀ c : Dev Cert.TailBwdIdeal.nD,
      r.2.mem ((c.tc : Thread Cert.TailBwdIdeal.nD Cert.TailBwdIdeal.τ).loc Cert.TailBwdIdeal.main_arg0) = m ((c.tc : Thread Cert.TailBwdIdeal.nD Cert.TailBwdIdeal.τ).loc Cert.TailBwdIdeal.main_arg0)
      ∧ r.2.mem ((c.tc : Thread Cert.TailBwdIdeal.nD Cert.TailBwdIdeal.τ).loc Cert.TailBwdIdeal.main_arg1) = m ((c.tc : Thread Cert.TailBwdIdeal.nD Cert.TailBwdIdeal.τ).loc Cert.TailBwdIdeal.main_arg1)
      ∧ r.2.mem ((c.tc : Thread Cert.TailBwdIdeal.nD Cert.TailBwdIdeal.τ).loc Cert.TailBwdIdeal.main_arg2) = m ((c.tc : Thread Cert.TailBwdIdeal.nD Cert.TailBwdIdeal.τ).loc Cert.TailBwdIdeal.main_arg2)
      ∧ r.2.mem ((c.tc : Thread Cert.TailBwdIdeal.nD Cert.TailBwdIdeal.τ).loc Cert.TailBwdIdeal.main_arg3) = m ((c.tc : Thread Cert.TailBwdIdeal.nD Cert.TailBwdIdeal.τ).loc Cert.TailBwdIdeal.main_arg3)
      ∧ r.2.mem ((c.tc : Thread Cert.TailBwdIdeal.nD Cert.TailBwdIdeal.τ).loc Cert.TailBwdIdeal.main_arg4) = m ((c.tc : Thread Cert.TailBwdIdeal.nD Cert.TailBwdIdeal.τ).loc Cert.TailBwdIdeal.main_arg4)
      ∧ r.2.mem ((c.tc : Thread Cert.TailBwdIdeal.nD Cert.TailBwdIdeal.τ).loc Cert.TailBwdIdeal.main_arg5) = m ((c.tc : Thread Cert.TailBwdIdeal.nD Cert.TailBwdIdeal.τ).loc Cert.TailBwdIdeal.main_arg5)
      ∧ r.2.mem ((c.tc : Thread Cert.TailBwdIdeal.nD Cert.TailBwdIdeal.τ).loc Cert.TailBwdIdeal.main_arg6) = m ((c.tc : Thread Cert.TailBwdIdeal.nD Cert.TailBwdIdeal.τ).loc Cert.TailBwdIdeal.main_arg6)
      ∧ r.2.mem ((c.tc : Thread Cert.TailBwdIdeal.nD Cert.TailBwdIdeal.τ).loc Cert.TailBwdIdeal.main_arg7) = m ((c.tc : Thread Cert.TailBwdIdeal.nD Cert.TailBwdIdeal.τ).loc Cert.TailBwdIdeal.main_arg7)
      ∧ r.2.mem ((c.tc : Thread Cert.TailBwdIdeal.nD Cert.TailBwdIdeal.τ).loc Cert.TailBwdIdeal.main_arg8) = m ((c.tc : Thread Cert.TailBwdIdeal.nD Cert.TailBwdIdeal.τ).loc Cert.TailBwdIdeal.main_arg8)
      ∧ r.2.mem ((c.tc : Thread Cert.TailBwdIdeal.nD Cert.TailBwdIdeal.τ).loc Cert.TailBwdIdeal.main_arg9) = m ((c.tc : Thread Cert.TailBwdIdeal.nD Cert.TailBwdIdeal.τ).loc Cert.TailBwdIdeal.main_arg9)
      ∧ r.2.mem ((c.tc : Thread Cert.TailBwdIdeal.nD Cert.TailBwdIdeal.τ).loc Cert.TailBwdIdeal.main_arg10) = m ((c.tc : Thread Cert.TailBwdIdeal.nD Cert.TailBwdIdeal.τ).loc Cert.TailBwdIdeal.main_arg10))
      ∧ r.2.sem = fun _ => 0)

def quiescent_TailBwdRefIdeal [hTailBwdRefIdeal : Cert.TailBwdRefIdeal.Facts] : Prop :=
  ∀ (m : (ℓ : Loc Cert.TailBwdRefIdeal.nD Cert.TailBwdRefIdeal.τ Cert.TailBwdRefIdeal.sig) → Buf (Elt Ideal) ℓ) (g : Dev Cert.TailBwdRefIdeal.nD → PrngReg), Pre_TailBwdRefIdeal m →
    θ_run (Cert.TailBwdRefIdeal.defs (F := Ideal)) (onTc (τ := Cert.TailBwdRefIdeal.τ) (Cert.TailBwdRefIdeal.main (F := Ideal))) ⟨m, fun _ => 0, g⟩ (fun r => (∀ c : Dev Cert.TailBwdRefIdeal.nD,
      r.2.mem ((c.tc : Thread Cert.TailBwdRefIdeal.nD Cert.TailBwdRefIdeal.τ).loc Cert.TailBwdRefIdeal.main_arg0) = m ((c.tc : Thread Cert.TailBwdRefIdeal.nD Cert.TailBwdRefIdeal.τ).loc Cert.TailBwdRefIdeal.main_arg0)
      ∧ r.2.mem ((c.tc : Thread Cert.TailBwdRefIdeal.nD Cert.TailBwdRefIdeal.τ).loc Cert.TailBwdRefIdeal.main_arg1) = m ((c.tc : Thread Cert.TailBwdRefIdeal.nD Cert.TailBwdRefIdeal.τ).loc Cert.TailBwdRefIdeal.main_arg1)
      ∧ r.2.mem ((c.tc : Thread Cert.TailBwdRefIdeal.nD Cert.TailBwdRefIdeal.τ).loc Cert.TailBwdRefIdeal.main_arg2) = m ((c.tc : Thread Cert.TailBwdRefIdeal.nD Cert.TailBwdRefIdeal.τ).loc Cert.TailBwdRefIdeal.main_arg2)
      ∧ r.2.mem ((c.tc : Thread Cert.TailBwdRefIdeal.nD Cert.TailBwdRefIdeal.τ).loc Cert.TailBwdRefIdeal.main_arg3) = m ((c.tc : Thread Cert.TailBwdRefIdeal.nD Cert.TailBwdRefIdeal.τ).loc Cert.TailBwdRefIdeal.main_arg3)
      ∧ r.2.mem ((c.tc : Thread Cert.TailBwdRefIdeal.nD Cert.TailBwdRefIdeal.τ).loc Cert.TailBwdRefIdeal.main_arg4) = m ((c.tc : Thread Cert.TailBwdRefIdeal.nD Cert.TailBwdRefIdeal.τ).loc Cert.TailBwdRefIdeal.main_arg4)
      ∧ r.2.mem ((c.tc : Thread Cert.TailBwdRefIdeal.nD Cert.TailBwdRefIdeal.τ).loc Cert.TailBwdRefIdeal.main_arg5) = m ((c.tc : Thread Cert.TailBwdRefIdeal.nD Cert.TailBwdRefIdeal.τ).loc Cert.TailBwdRefIdeal.main_arg5)
      ∧ r.2.mem ((c.tc : Thread Cert.TailBwdRefIdeal.nD Cert.TailBwdRefIdeal.τ).loc Cert.TailBwdRefIdeal.main_arg6) = m ((c.tc : Thread Cert.TailBwdRefIdeal.nD Cert.TailBwdRefIdeal.τ).loc Cert.TailBwdRefIdeal.main_arg6)
      ∧ r.2.mem ((c.tc : Thread Cert.TailBwdRefIdeal.nD Cert.TailBwdRefIdeal.τ).loc Cert.TailBwdRefIdeal.main_arg7) = m ((c.tc : Thread Cert.TailBwdRefIdeal.nD Cert.TailBwdRefIdeal.τ).loc Cert.TailBwdRefIdeal.main_arg7)
      ∧ r.2.mem ((c.tc : Thread Cert.TailBwdRefIdeal.nD Cert.TailBwdRefIdeal.τ).loc Cert.TailBwdRefIdeal.main_arg8) = m ((c.tc : Thread Cert.TailBwdRefIdeal.nD Cert.TailBwdRefIdeal.τ).loc Cert.TailBwdRefIdeal.main_arg8)
      ∧ r.2.mem ((c.tc : Thread Cert.TailBwdRefIdeal.nD Cert.TailBwdRefIdeal.τ).loc Cert.TailBwdRefIdeal.main_arg9) = m ((c.tc : Thread Cert.TailBwdRefIdeal.nD Cert.TailBwdRefIdeal.τ).loc Cert.TailBwdRefIdeal.main_arg9)
      ∧ r.2.mem ((c.tc : Thread Cert.TailBwdRefIdeal.nD Cert.TailBwdRefIdeal.τ).loc Cert.TailBwdRefIdeal.main_arg10) = m ((c.tc : Thread Cert.TailBwdRefIdeal.nD Cert.TailBwdRefIdeal.τ).loc Cert.TailBwdRefIdeal.main_arg10))
      ∧ r.2.sem = fun _ => 0)

def quiescent_MlaFrontBwd [hMlaFrontBwd : Cert.MlaFrontBwd.Facts] : Prop :=
  ∀ (m : (ℓ : Loc Cert.MlaFrontBwd.nD Cert.MlaFrontBwd.τ Cert.MlaFrontBwd.sig) → Buf (Elt Bits) ℓ) (g : Dev Cert.MlaFrontBwd.nD → PrngReg), Pre_MlaFrontBwd m →
    θ_run (Cert.MlaFrontBwd.defs (F := Bits)) (onTc (τ := Cert.MlaFrontBwd.τ) (Cert.MlaFrontBwd.main (F := Bits))) ⟨m, fun _ => 0, g⟩ (fun r => (∀ c : Dev Cert.MlaFrontBwd.nD,
      r.2.mem ((c.tc : Thread Cert.MlaFrontBwd.nD Cert.MlaFrontBwd.τ).loc Cert.MlaFrontBwd.main_arg0) = m ((c.tc : Thread Cert.MlaFrontBwd.nD Cert.MlaFrontBwd.τ).loc Cert.MlaFrontBwd.main_arg0)
      ∧ r.2.mem ((c.tc : Thread Cert.MlaFrontBwd.nD Cert.MlaFrontBwd.τ).loc Cert.MlaFrontBwd.main_arg1) = m ((c.tc : Thread Cert.MlaFrontBwd.nD Cert.MlaFrontBwd.τ).loc Cert.MlaFrontBwd.main_arg1)
      ∧ r.2.mem ((c.tc : Thread Cert.MlaFrontBwd.nD Cert.MlaFrontBwd.τ).loc Cert.MlaFrontBwd.main_arg2) = m ((c.tc : Thread Cert.MlaFrontBwd.nD Cert.MlaFrontBwd.τ).loc Cert.MlaFrontBwd.main_arg2)
      ∧ r.2.mem ((c.tc : Thread Cert.MlaFrontBwd.nD Cert.MlaFrontBwd.τ).loc Cert.MlaFrontBwd.main_arg3) = m ((c.tc : Thread Cert.MlaFrontBwd.nD Cert.MlaFrontBwd.τ).loc Cert.MlaFrontBwd.main_arg3)
      ∧ r.2.mem ((c.tc : Thread Cert.MlaFrontBwd.nD Cert.MlaFrontBwd.τ).loc Cert.MlaFrontBwd.main_arg4) = m ((c.tc : Thread Cert.MlaFrontBwd.nD Cert.MlaFrontBwd.τ).loc Cert.MlaFrontBwd.main_arg4)
      ∧ r.2.mem ((c.tc : Thread Cert.MlaFrontBwd.nD Cert.MlaFrontBwd.τ).loc Cert.MlaFrontBwd.main_arg5) = m ((c.tc : Thread Cert.MlaFrontBwd.nD Cert.MlaFrontBwd.τ).loc Cert.MlaFrontBwd.main_arg5)
      ∧ r.2.mem ((c.tc : Thread Cert.MlaFrontBwd.nD Cert.MlaFrontBwd.τ).loc Cert.MlaFrontBwd.main_arg6) = m ((c.tc : Thread Cert.MlaFrontBwd.nD Cert.MlaFrontBwd.τ).loc Cert.MlaFrontBwd.main_arg6)
      ∧ r.2.mem ((c.tc : Thread Cert.MlaFrontBwd.nD Cert.MlaFrontBwd.τ).loc Cert.MlaFrontBwd.main_arg7) = m ((c.tc : Thread Cert.MlaFrontBwd.nD Cert.MlaFrontBwd.τ).loc Cert.MlaFrontBwd.main_arg7)
      ∧ r.2.mem ((c.tc : Thread Cert.MlaFrontBwd.nD Cert.MlaFrontBwd.τ).loc Cert.MlaFrontBwd.main_arg8) = m ((c.tc : Thread Cert.MlaFrontBwd.nD Cert.MlaFrontBwd.τ).loc Cert.MlaFrontBwd.main_arg8)
      ∧ r.2.mem ((c.tc : Thread Cert.MlaFrontBwd.nD Cert.MlaFrontBwd.τ).loc Cert.MlaFrontBwd.main_arg9) = m ((c.tc : Thread Cert.MlaFrontBwd.nD Cert.MlaFrontBwd.τ).loc Cert.MlaFrontBwd.main_arg9)
      ∧ r.2.mem ((c.tc : Thread Cert.MlaFrontBwd.nD Cert.MlaFrontBwd.τ).loc Cert.MlaFrontBwd.main_arg10) = m ((c.tc : Thread Cert.MlaFrontBwd.nD Cert.MlaFrontBwd.τ).loc Cert.MlaFrontBwd.main_arg10))
      ∧ r.2.sem = fun _ => 0)

def quiescent_MlaFrontBwdIdeal [hMlaFrontBwdIdeal : Cert.MlaFrontBwdIdeal.Facts] : Prop :=
  ∀ (m : (ℓ : Loc Cert.MlaFrontBwdIdeal.nD Cert.MlaFrontBwdIdeal.τ Cert.MlaFrontBwdIdeal.sig) → Buf (Elt Ideal) ℓ) (g : Dev Cert.MlaFrontBwdIdeal.nD → PrngReg), Pre_MlaFrontBwdIdeal m →
    θ_run (Cert.MlaFrontBwdIdeal.defs (F := Ideal)) (onTc (τ := Cert.MlaFrontBwdIdeal.τ) (Cert.MlaFrontBwdIdeal.main (F := Ideal))) ⟨m, fun _ => 0, g⟩ (fun r => (∀ c : Dev Cert.MlaFrontBwdIdeal.nD,
      r.2.mem ((c.tc : Thread Cert.MlaFrontBwdIdeal.nD Cert.MlaFrontBwdIdeal.τ).loc Cert.MlaFrontBwdIdeal.main_arg0) = m ((c.tc : Thread Cert.MlaFrontBwdIdeal.nD Cert.MlaFrontBwdIdeal.τ).loc Cert.MlaFrontBwdIdeal.main_arg0)
      ∧ r.2.mem ((c.tc : Thread Cert.MlaFrontBwdIdeal.nD Cert.MlaFrontBwdIdeal.τ).loc Cert.MlaFrontBwdIdeal.main_arg1) = m ((c.tc : Thread Cert.MlaFrontBwdIdeal.nD Cert.MlaFrontBwdIdeal.τ).loc Cert.MlaFrontBwdIdeal.main_arg1)
      ∧ r.2.mem ((c.tc : Thread Cert.MlaFrontBwdIdeal.nD Cert.MlaFrontBwdIdeal.τ).loc Cert.MlaFrontBwdIdeal.main_arg2) = m ((c.tc : Thread Cert.MlaFrontBwdIdeal.nD Cert.MlaFrontBwdIdeal.τ).loc Cert.MlaFrontBwdIdeal.main_arg2)
      ∧ r.2.mem ((c.tc : Thread Cert.MlaFrontBwdIdeal.nD Cert.MlaFrontBwdIdeal.τ).loc Cert.MlaFrontBwdIdeal.main_arg3) = m ((c.tc : Thread Cert.MlaFrontBwdIdeal.nD Cert.MlaFrontBwdIdeal.τ).loc Cert.MlaFrontBwdIdeal.main_arg3)
      ∧ r.2.mem ((c.tc : Thread Cert.MlaFrontBwdIdeal.nD Cert.MlaFrontBwdIdeal.τ).loc Cert.MlaFrontBwdIdeal.main_arg4) = m ((c.tc : Thread Cert.MlaFrontBwdIdeal.nD Cert.MlaFrontBwdIdeal.τ).loc Cert.MlaFrontBwdIdeal.main_arg4)
      ∧ r.2.mem ((c.tc : Thread Cert.MlaFrontBwdIdeal.nD Cert.MlaFrontBwdIdeal.τ).loc Cert.MlaFrontBwdIdeal.main_arg5) = m ((c.tc : Thread Cert.MlaFrontBwdIdeal.nD Cert.MlaFrontBwdIdeal.τ).loc Cert.MlaFrontBwdIdeal.main_arg5)
      ∧ r.2.mem ((c.tc : Thread Cert.MlaFrontBwdIdeal.nD Cert.MlaFrontBwdIdeal.τ).loc Cert.MlaFrontBwdIdeal.main_arg6) = m ((c.tc : Thread Cert.MlaFrontBwdIdeal.nD Cert.MlaFrontBwdIdeal.τ).loc Cert.MlaFrontBwdIdeal.main_arg6)
      ∧ r.2.mem ((c.tc : Thread Cert.MlaFrontBwdIdeal.nD Cert.MlaFrontBwdIdeal.τ).loc Cert.MlaFrontBwdIdeal.main_arg7) = m ((c.tc : Thread Cert.MlaFrontBwdIdeal.nD Cert.MlaFrontBwdIdeal.τ).loc Cert.MlaFrontBwdIdeal.main_arg7)
      ∧ r.2.mem ((c.tc : Thread Cert.MlaFrontBwdIdeal.nD Cert.MlaFrontBwdIdeal.τ).loc Cert.MlaFrontBwdIdeal.main_arg8) = m ((c.tc : Thread Cert.MlaFrontBwdIdeal.nD Cert.MlaFrontBwdIdeal.τ).loc Cert.MlaFrontBwdIdeal.main_arg8)
      ∧ r.2.mem ((c.tc : Thread Cert.MlaFrontBwdIdeal.nD Cert.MlaFrontBwdIdeal.τ).loc Cert.MlaFrontBwdIdeal.main_arg9) = m ((c.tc : Thread Cert.MlaFrontBwdIdeal.nD Cert.MlaFrontBwdIdeal.τ).loc Cert.MlaFrontBwdIdeal.main_arg9)
      ∧ r.2.mem ((c.tc : Thread Cert.MlaFrontBwdIdeal.nD Cert.MlaFrontBwdIdeal.τ).loc Cert.MlaFrontBwdIdeal.main_arg10) = m ((c.tc : Thread Cert.MlaFrontBwdIdeal.nD Cert.MlaFrontBwdIdeal.τ).loc Cert.MlaFrontBwdIdeal.main_arg10))
      ∧ r.2.sem = fun _ => 0)

def quiescent_MlaFrontBwdIdeal_pre_mla_finite [hMlaFrontBwdIdeal : Cert.MlaFrontBwdIdeal.Facts] [hPre_mla_finite : Cert.Pre_mla_finite.Facts] : Prop :=
  ∀ (m : (ℓ : Loc Cert.MlaFrontBwdIdeal.nD Cert.MlaFrontBwdIdeal.τ Cert.MlaFrontBwdIdeal.sig) → Buf (Elt Ideal) ℓ) (g : Dev Cert.MlaFrontBwdIdeal.nD → PrngReg), Pre_MlaFrontBwdIdeal_mla_finite m →
    θ_run (Cert.MlaFrontBwdIdeal.defs (F := Ideal)) (onTc (τ := Cert.MlaFrontBwdIdeal.τ) (Cert.MlaFrontBwdIdeal.main (F := Ideal))) ⟨m, fun _ => 0, g⟩ (fun r => (∀ c : Dev Cert.MlaFrontBwdIdeal.nD,
      r.2.mem ((c.tc : Thread Cert.MlaFrontBwdIdeal.nD Cert.MlaFrontBwdIdeal.τ).loc Cert.MlaFrontBwdIdeal.main_arg0) = m ((c.tc : Thread Cert.MlaFrontBwdIdeal.nD Cert.MlaFrontBwdIdeal.τ).loc Cert.MlaFrontBwdIdeal.main_arg0)
      ∧ r.2.mem ((c.tc : Thread Cert.MlaFrontBwdIdeal.nD Cert.MlaFrontBwdIdeal.τ).loc Cert.MlaFrontBwdIdeal.main_arg1) = m ((c.tc : Thread Cert.MlaFrontBwdIdeal.nD Cert.MlaFrontBwdIdeal.τ).loc Cert.MlaFrontBwdIdeal.main_arg1)
      ∧ r.2.mem ((c.tc : Thread Cert.MlaFrontBwdIdeal.nD Cert.MlaFrontBwdIdeal.τ).loc Cert.MlaFrontBwdIdeal.main_arg2) = m ((c.tc : Thread Cert.MlaFrontBwdIdeal.nD Cert.MlaFrontBwdIdeal.τ).loc Cert.MlaFrontBwdIdeal.main_arg2)
      ∧ r.2.mem ((c.tc : Thread Cert.MlaFrontBwdIdeal.nD Cert.MlaFrontBwdIdeal.τ).loc Cert.MlaFrontBwdIdeal.main_arg3) = m ((c.tc : Thread Cert.MlaFrontBwdIdeal.nD Cert.MlaFrontBwdIdeal.τ).loc Cert.MlaFrontBwdIdeal.main_arg3)
      ∧ r.2.mem ((c.tc : Thread Cert.MlaFrontBwdIdeal.nD Cert.MlaFrontBwdIdeal.τ).loc Cert.MlaFrontBwdIdeal.main_arg4) = m ((c.tc : Thread Cert.MlaFrontBwdIdeal.nD Cert.MlaFrontBwdIdeal.τ).loc Cert.MlaFrontBwdIdeal.main_arg4)
      ∧ r.2.mem ((c.tc : Thread Cert.MlaFrontBwdIdeal.nD Cert.MlaFrontBwdIdeal.τ).loc Cert.MlaFrontBwdIdeal.main_arg5) = m ((c.tc : Thread Cert.MlaFrontBwdIdeal.nD Cert.MlaFrontBwdIdeal.τ).loc Cert.MlaFrontBwdIdeal.main_arg5)
      ∧ r.2.mem ((c.tc : Thread Cert.MlaFrontBwdIdeal.nD Cert.MlaFrontBwdIdeal.τ).loc Cert.MlaFrontBwdIdeal.main_arg6) = m ((c.tc : Thread Cert.MlaFrontBwdIdeal.nD Cert.MlaFrontBwdIdeal.τ).loc Cert.MlaFrontBwdIdeal.main_arg6)
      ∧ r.2.mem ((c.tc : Thread Cert.MlaFrontBwdIdeal.nD Cert.MlaFrontBwdIdeal.τ).loc Cert.MlaFrontBwdIdeal.main_arg7) = m ((c.tc : Thread Cert.MlaFrontBwdIdeal.nD Cert.MlaFrontBwdIdeal.τ).loc Cert.MlaFrontBwdIdeal.main_arg7)
      ∧ r.2.mem ((c.tc : Thread Cert.MlaFrontBwdIdeal.nD Cert.MlaFrontBwdIdeal.τ).loc Cert.MlaFrontBwdIdeal.main_arg8) = m ((c.tc : Thread Cert.MlaFrontBwdIdeal.nD Cert.MlaFrontBwdIdeal.τ).loc Cert.MlaFrontBwdIdeal.main_arg8)
      ∧ r.2.mem ((c.tc : Thread Cert.MlaFrontBwdIdeal.nD Cert.MlaFrontBwdIdeal.τ).loc Cert.MlaFrontBwdIdeal.main_arg9) = m ((c.tc : Thread Cert.MlaFrontBwdIdeal.nD Cert.MlaFrontBwdIdeal.τ).loc Cert.MlaFrontBwdIdeal.main_arg9)
      ∧ r.2.mem ((c.tc : Thread Cert.MlaFrontBwdIdeal.nD Cert.MlaFrontBwdIdeal.τ).loc Cert.MlaFrontBwdIdeal.main_arg10) = m ((c.tc : Thread Cert.MlaFrontBwdIdeal.nD Cert.MlaFrontBwdIdeal.τ).loc Cert.MlaFrontBwdIdeal.main_arg10))
      ∧ r.2.sem = fun _ => 0)

def quiescent_MlaFrontBwdRefIdeal [hMlaFrontBwdRefIdeal : Cert.MlaFrontBwdRefIdeal.Facts] : Prop :=
  ∀ (m : (ℓ : Loc Cert.MlaFrontBwdRefIdeal.nD Cert.MlaFrontBwdRefIdeal.τ Cert.MlaFrontBwdRefIdeal.sig) → Buf (Elt Ideal) ℓ) (g : Dev Cert.MlaFrontBwdRefIdeal.nD → PrngReg), Pre_MlaFrontBwdRefIdeal m →
    θ_run (Cert.MlaFrontBwdRefIdeal.defs (F := Ideal)) (onTc (τ := Cert.MlaFrontBwdRefIdeal.τ) (Cert.MlaFrontBwdRefIdeal.main (F := Ideal))) ⟨m, fun _ => 0, g⟩ (fun r => (∀ c : Dev Cert.MlaFrontBwdRefIdeal.nD,
      r.2.mem ((c.tc : Thread Cert.MlaFrontBwdRefIdeal.nD Cert.MlaFrontBwdRefIdeal.τ).loc Cert.MlaFrontBwdRefIdeal.main_arg0) = m ((c.tc : Thread Cert.MlaFrontBwdRefIdeal.nD Cert.MlaFrontBwdRefIdeal.τ).loc Cert.MlaFrontBwdRefIdeal.main_arg0)
      ∧ r.2.mem ((c.tc : Thread Cert.MlaFrontBwdRefIdeal.nD Cert.MlaFrontBwdRefIdeal.τ).loc Cert.MlaFrontBwdRefIdeal.main_arg1) = m ((c.tc : Thread Cert.MlaFrontBwdRefIdeal.nD Cert.MlaFrontBwdRefIdeal.τ).loc Cert.MlaFrontBwdRefIdeal.main_arg1)
      ∧ r.2.mem ((c.tc : Thread Cert.MlaFrontBwdRefIdeal.nD Cert.MlaFrontBwdRefIdeal.τ).loc Cert.MlaFrontBwdRefIdeal.main_arg2) = m ((c.tc : Thread Cert.MlaFrontBwdRefIdeal.nD Cert.MlaFrontBwdRefIdeal.τ).loc Cert.MlaFrontBwdRefIdeal.main_arg2)
      ∧ r.2.mem ((c.tc : Thread Cert.MlaFrontBwdRefIdeal.nD Cert.MlaFrontBwdRefIdeal.τ).loc Cert.MlaFrontBwdRefIdeal.main_arg3) = m ((c.tc : Thread Cert.MlaFrontBwdRefIdeal.nD Cert.MlaFrontBwdRefIdeal.τ).loc Cert.MlaFrontBwdRefIdeal.main_arg3)
      ∧ r.2.mem ((c.tc : Thread Cert.MlaFrontBwdRefIdeal.nD Cert.MlaFrontBwdRefIdeal.τ).loc Cert.MlaFrontBwdRefIdeal.main_arg4) = m ((c.tc : Thread Cert.MlaFrontBwdRefIdeal.nD Cert.MlaFrontBwdRefIdeal.τ).loc Cert.MlaFrontBwdRefIdeal.main_arg4)
      ∧ r.2.mem ((c.tc : Thread Cert.MlaFrontBwdRefIdeal.nD Cert.MlaFrontBwdRefIdeal.τ).loc Cert.MlaFrontBwdRefIdeal.main_arg5) = m ((c.tc : Thread Cert.MlaFrontBwdRefIdeal.nD Cert.MlaFrontBwdRefIdeal.τ).loc Cert.MlaFrontBwdRefIdeal.main_arg5)
      ∧ r.2.mem ((c.tc : Thread Cert.MlaFrontBwdRefIdeal.nD Cert.MlaFrontBwdRefIdeal.τ).loc Cert.MlaFrontBwdRefIdeal.main_arg6) = m ((c.tc : Thread Cert.MlaFrontBwdRefIdeal.nD Cert.MlaFrontBwdRefIdeal.τ).loc Cert.MlaFrontBwdRefIdeal.main_arg6)
      ∧ r.2.mem ((c.tc : Thread Cert.MlaFrontBwdRefIdeal.nD Cert.MlaFrontBwdRefIdeal.τ).loc Cert.MlaFrontBwdRefIdeal.main_arg7) = m ((c.tc : Thread Cert.MlaFrontBwdRefIdeal.nD Cert.MlaFrontBwdRefIdeal.τ).loc Cert.MlaFrontBwdRefIdeal.main_arg7)
      ∧ r.2.mem ((c.tc : Thread Cert.MlaFrontBwdRefIdeal.nD Cert.MlaFrontBwdRefIdeal.τ).loc Cert.MlaFrontBwdRefIdeal.main_arg8) = m ((c.tc : Thread Cert.MlaFrontBwdRefIdeal.nD Cert.MlaFrontBwdRefIdeal.τ).loc Cert.MlaFrontBwdRefIdeal.main_arg8)
      ∧ r.2.mem ((c.tc : Thread Cert.MlaFrontBwdRefIdeal.nD Cert.MlaFrontBwdRefIdeal.τ).loc Cert.MlaFrontBwdRefIdeal.main_arg9) = m ((c.tc : Thread Cert.MlaFrontBwdRefIdeal.nD Cert.MlaFrontBwdRefIdeal.τ).loc Cert.MlaFrontBwdRefIdeal.main_arg9)
      ∧ r.2.mem ((c.tc : Thread Cert.MlaFrontBwdRefIdeal.nD Cert.MlaFrontBwdRefIdeal.τ).loc Cert.MlaFrontBwdRefIdeal.main_arg10) = m ((c.tc : Thread Cert.MlaFrontBwdRefIdeal.nD Cert.MlaFrontBwdRefIdeal.τ).loc Cert.MlaFrontBwdRefIdeal.main_arg10))
      ∧ r.2.sem = fun _ => 0)

def quiescent_MlaFrontBwdRefIdeal_pre_mla_finite [hMlaFrontBwdRefIdeal : Cert.MlaFrontBwdRefIdeal.Facts] [hPre_mla_finite : Cert.Pre_mla_finite.Facts] : Prop :=
  ∀ (m : (ℓ : Loc Cert.MlaFrontBwdRefIdeal.nD Cert.MlaFrontBwdRefIdeal.τ Cert.MlaFrontBwdRefIdeal.sig) → Buf (Elt Ideal) ℓ) (g : Dev Cert.MlaFrontBwdRefIdeal.nD → PrngReg), Pre_MlaFrontBwdRefIdeal_mla_finite m →
    θ_run (Cert.MlaFrontBwdRefIdeal.defs (F := Ideal)) (onTc (τ := Cert.MlaFrontBwdRefIdeal.τ) (Cert.MlaFrontBwdRefIdeal.main (F := Ideal))) ⟨m, fun _ => 0, g⟩ (fun r => (∀ c : Dev Cert.MlaFrontBwdRefIdeal.nD,
      r.2.mem ((c.tc : Thread Cert.MlaFrontBwdRefIdeal.nD Cert.MlaFrontBwdRefIdeal.τ).loc Cert.MlaFrontBwdRefIdeal.main_arg0) = m ((c.tc : Thread Cert.MlaFrontBwdRefIdeal.nD Cert.MlaFrontBwdRefIdeal.τ).loc Cert.MlaFrontBwdRefIdeal.main_arg0)
      ∧ r.2.mem ((c.tc : Thread Cert.MlaFrontBwdRefIdeal.nD Cert.MlaFrontBwdRefIdeal.τ).loc Cert.MlaFrontBwdRefIdeal.main_arg1) = m ((c.tc : Thread Cert.MlaFrontBwdRefIdeal.nD Cert.MlaFrontBwdRefIdeal.τ).loc Cert.MlaFrontBwdRefIdeal.main_arg1)
      ∧ r.2.mem ((c.tc : Thread Cert.MlaFrontBwdRefIdeal.nD Cert.MlaFrontBwdRefIdeal.τ).loc Cert.MlaFrontBwdRefIdeal.main_arg2) = m ((c.tc : Thread Cert.MlaFrontBwdRefIdeal.nD Cert.MlaFrontBwdRefIdeal.τ).loc Cert.MlaFrontBwdRefIdeal.main_arg2)
      ∧ r.2.mem ((c.tc : Thread Cert.MlaFrontBwdRefIdeal.nD Cert.MlaFrontBwdRefIdeal.τ).loc Cert.MlaFrontBwdRefIdeal.main_arg3) = m ((c.tc : Thread Cert.MlaFrontBwdRefIdeal.nD Cert.MlaFrontBwdRefIdeal.τ).loc Cert.MlaFrontBwdRefIdeal.main_arg3)
      ∧ r.2.mem ((c.tc : Thread Cert.MlaFrontBwdRefIdeal.nD Cert.MlaFrontBwdRefIdeal.τ).loc Cert.MlaFrontBwdRefIdeal.main_arg4) = m ((c.tc : Thread Cert.MlaFrontBwdRefIdeal.nD Cert.MlaFrontBwdRefIdeal.τ).loc Cert.MlaFrontBwdRefIdeal.main_arg4)
      ∧ r.2.mem ((c.tc : Thread Cert.MlaFrontBwdRefIdeal.nD Cert.MlaFrontBwdRefIdeal.τ).loc Cert.MlaFrontBwdRefIdeal.main_arg5) = m ((c.tc : Thread Cert.MlaFrontBwdRefIdeal.nD Cert.MlaFrontBwdRefIdeal.τ).loc Cert.MlaFrontBwdRefIdeal.main_arg5)
      ∧ r.2.mem ((c.tc : Thread Cert.MlaFrontBwdRefIdeal.nD Cert.MlaFrontBwdRefIdeal.τ).loc Cert.MlaFrontBwdRefIdeal.main_arg6) = m ((c.tc : Thread Cert.MlaFrontBwdRefIdeal.nD Cert.MlaFrontBwdRefIdeal.τ).loc Cert.MlaFrontBwdRefIdeal.main_arg6)
      ∧ r.2.mem ((c.tc : Thread Cert.MlaFrontBwdRefIdeal.nD Cert.MlaFrontBwdRefIdeal.τ).loc Cert.MlaFrontBwdRefIdeal.main_arg7) = m ((c.tc : Thread Cert.MlaFrontBwdRefIdeal.nD Cert.MlaFrontBwdRefIdeal.τ).loc Cert.MlaFrontBwdRefIdeal.main_arg7)
      ∧ r.2.mem ((c.tc : Thread Cert.MlaFrontBwdRefIdeal.nD Cert.MlaFrontBwdRefIdeal.τ).loc Cert.MlaFrontBwdRefIdeal.main_arg8) = m ((c.tc : Thread Cert.MlaFrontBwdRefIdeal.nD Cert.MlaFrontBwdRefIdeal.τ).loc Cert.MlaFrontBwdRefIdeal.main_arg8)
      ∧ r.2.mem ((c.tc : Thread Cert.MlaFrontBwdRefIdeal.nD Cert.MlaFrontBwdRefIdeal.τ).loc Cert.MlaFrontBwdRefIdeal.main_arg9) = m ((c.tc : Thread Cert.MlaFrontBwdRefIdeal.nD Cert.MlaFrontBwdRefIdeal.τ).loc Cert.MlaFrontBwdRefIdeal.main_arg9)
      ∧ r.2.mem ((c.tc : Thread Cert.MlaFrontBwdRefIdeal.nD Cert.MlaFrontBwdRefIdeal.τ).loc Cert.MlaFrontBwdRefIdeal.main_arg10) = m ((c.tc : Thread Cert.MlaFrontBwdRefIdeal.nD Cert.MlaFrontBwdRefIdeal.τ).loc Cert.MlaFrontBwdRefIdeal.main_arg10))
      ∧ r.2.sem = fun _ => 0)

def quiescent_FrontBwd [hFrontBwd : Cert.FrontBwd.Facts] : Prop :=
  ∀ (m : (ℓ : Loc Cert.FrontBwd.nD Cert.FrontBwd.τ Cert.FrontBwd.sig) → Buf (Elt Bits) ℓ) (g : Dev Cert.FrontBwd.nD → PrngReg), Pre_FrontBwd m →
    θ_run (Cert.FrontBwd.defs (F := Bits)) (onTc (τ := Cert.FrontBwd.τ) (Cert.FrontBwd.main (F := Bits))) ⟨m, fun _ => 0, g⟩ (fun r => (∀ c : Dev Cert.FrontBwd.nD,
      r.2.mem ((c.tc : Thread Cert.FrontBwd.nD Cert.FrontBwd.τ).loc Cert.FrontBwd.main_arg0) = m ((c.tc : Thread Cert.FrontBwd.nD Cert.FrontBwd.τ).loc Cert.FrontBwd.main_arg0)
      ∧ r.2.mem ((c.tc : Thread Cert.FrontBwd.nD Cert.FrontBwd.τ).loc Cert.FrontBwd.main_arg1) = m ((c.tc : Thread Cert.FrontBwd.nD Cert.FrontBwd.τ).loc Cert.FrontBwd.main_arg1)
      ∧ r.2.mem ((c.tc : Thread Cert.FrontBwd.nD Cert.FrontBwd.τ).loc Cert.FrontBwd.main_arg2) = m ((c.tc : Thread Cert.FrontBwd.nD Cert.FrontBwd.τ).loc Cert.FrontBwd.main_arg2)
      ∧ r.2.mem ((c.tc : Thread Cert.FrontBwd.nD Cert.FrontBwd.τ).loc Cert.FrontBwd.main_arg3) = m ((c.tc : Thread Cert.FrontBwd.nD Cert.FrontBwd.τ).loc Cert.FrontBwd.main_arg3)
      ∧ r.2.mem ((c.tc : Thread Cert.FrontBwd.nD Cert.FrontBwd.τ).loc Cert.FrontBwd.main_arg4) = m ((c.tc : Thread Cert.FrontBwd.nD Cert.FrontBwd.τ).loc Cert.FrontBwd.main_arg4)
      ∧ r.2.mem ((c.tc : Thread Cert.FrontBwd.nD Cert.FrontBwd.τ).loc Cert.FrontBwd.main_arg5) = m ((c.tc : Thread Cert.FrontBwd.nD Cert.FrontBwd.τ).loc Cert.FrontBwd.main_arg5)
      ∧ r.2.mem ((c.tc : Thread Cert.FrontBwd.nD Cert.FrontBwd.τ).loc Cert.FrontBwd.main_arg6) = m ((c.tc : Thread Cert.FrontBwd.nD Cert.FrontBwd.τ).loc Cert.FrontBwd.main_arg6)
      ∧ r.2.mem ((c.tc : Thread Cert.FrontBwd.nD Cert.FrontBwd.τ).loc Cert.FrontBwd.main_arg7) = m ((c.tc : Thread Cert.FrontBwd.nD Cert.FrontBwd.τ).loc Cert.FrontBwd.main_arg7)
      ∧ r.2.mem ((c.tc : Thread Cert.FrontBwd.nD Cert.FrontBwd.τ).loc Cert.FrontBwd.main_arg8) = m ((c.tc : Thread Cert.FrontBwd.nD Cert.FrontBwd.τ).loc Cert.FrontBwd.main_arg8)
      ∧ r.2.mem ((c.tc : Thread Cert.FrontBwd.nD Cert.FrontBwd.τ).loc Cert.FrontBwd.main_arg9) = m ((c.tc : Thread Cert.FrontBwd.nD Cert.FrontBwd.τ).loc Cert.FrontBwd.main_arg9)
      ∧ r.2.mem ((c.tc : Thread Cert.FrontBwd.nD Cert.FrontBwd.τ).loc Cert.FrontBwd.main_arg10) = m ((c.tc : Thread Cert.FrontBwd.nD Cert.FrontBwd.τ).loc Cert.FrontBwd.main_arg10)
      ∧ r.2.mem ((c.tc : Thread Cert.FrontBwd.nD Cert.FrontBwd.τ).loc Cert.FrontBwd.main_arg11) = m ((c.tc : Thread Cert.FrontBwd.nD Cert.FrontBwd.τ).loc Cert.FrontBwd.main_arg11)
      ∧ r.2.mem ((c.tc : Thread Cert.FrontBwd.nD Cert.FrontBwd.τ).loc Cert.FrontBwd.main_arg12) = m ((c.tc : Thread Cert.FrontBwd.nD Cert.FrontBwd.τ).loc Cert.FrontBwd.main_arg12)
      ∧ r.2.mem ((c.tc : Thread Cert.FrontBwd.nD Cert.FrontBwd.τ).loc Cert.FrontBwd.main_arg13) = m ((c.tc : Thread Cert.FrontBwd.nD Cert.FrontBwd.τ).loc Cert.FrontBwd.main_arg13)
      ∧ r.2.mem ((c.tc : Thread Cert.FrontBwd.nD Cert.FrontBwd.τ).loc Cert.FrontBwd.main_arg14) = m ((c.tc : Thread Cert.FrontBwd.nD Cert.FrontBwd.τ).loc Cert.FrontBwd.main_arg14)
      ∧ r.2.mem ((c.tc : Thread Cert.FrontBwd.nD Cert.FrontBwd.τ).loc Cert.FrontBwd.main_arg15) = m ((c.tc : Thread Cert.FrontBwd.nD Cert.FrontBwd.τ).loc Cert.FrontBwd.main_arg15)
      ∧ r.2.mem ((c.tc : Thread Cert.FrontBwd.nD Cert.FrontBwd.τ).loc Cert.FrontBwd.main_arg16) = m ((c.tc : Thread Cert.FrontBwd.nD Cert.FrontBwd.τ).loc Cert.FrontBwd.main_arg16))
      ∧ r.2.sem = fun _ => 0)

def quiescent_FrontBwdIdeal [hFrontBwdIdeal : Cert.FrontBwdIdeal.Facts] : Prop :=
  ∀ (m : (ℓ : Loc Cert.FrontBwdIdeal.nD Cert.FrontBwdIdeal.τ Cert.FrontBwdIdeal.sig) → Buf (Elt Ideal) ℓ) (g : Dev Cert.FrontBwdIdeal.nD → PrngReg), Pre_FrontBwdIdeal m →
    θ_run (Cert.FrontBwdIdeal.defs (F := Ideal)) (onTc (τ := Cert.FrontBwdIdeal.τ) (Cert.FrontBwdIdeal.main (F := Ideal))) ⟨m, fun _ => 0, g⟩ (fun r => (∀ c : Dev Cert.FrontBwdIdeal.nD,
      r.2.mem ((c.tc : Thread Cert.FrontBwdIdeal.nD Cert.FrontBwdIdeal.τ).loc Cert.FrontBwdIdeal.main_arg0) = m ((c.tc : Thread Cert.FrontBwdIdeal.nD Cert.FrontBwdIdeal.τ).loc Cert.FrontBwdIdeal.main_arg0)
      ∧ r.2.mem ((c.tc : Thread Cert.FrontBwdIdeal.nD Cert.FrontBwdIdeal.τ).loc Cert.FrontBwdIdeal.main_arg1) = m ((c.tc : Thread Cert.FrontBwdIdeal.nD Cert.FrontBwdIdeal.τ).loc Cert.FrontBwdIdeal.main_arg1)
      ∧ r.2.mem ((c.tc : Thread Cert.FrontBwdIdeal.nD Cert.FrontBwdIdeal.τ).loc Cert.FrontBwdIdeal.main_arg2) = m ((c.tc : Thread Cert.FrontBwdIdeal.nD Cert.FrontBwdIdeal.τ).loc Cert.FrontBwdIdeal.main_arg2)
      ∧ r.2.mem ((c.tc : Thread Cert.FrontBwdIdeal.nD Cert.FrontBwdIdeal.τ).loc Cert.FrontBwdIdeal.main_arg3) = m ((c.tc : Thread Cert.FrontBwdIdeal.nD Cert.FrontBwdIdeal.τ).loc Cert.FrontBwdIdeal.main_arg3)
      ∧ r.2.mem ((c.tc : Thread Cert.FrontBwdIdeal.nD Cert.FrontBwdIdeal.τ).loc Cert.FrontBwdIdeal.main_arg4) = m ((c.tc : Thread Cert.FrontBwdIdeal.nD Cert.FrontBwdIdeal.τ).loc Cert.FrontBwdIdeal.main_arg4)
      ∧ r.2.mem ((c.tc : Thread Cert.FrontBwdIdeal.nD Cert.FrontBwdIdeal.τ).loc Cert.FrontBwdIdeal.main_arg5) = m ((c.tc : Thread Cert.FrontBwdIdeal.nD Cert.FrontBwdIdeal.τ).loc Cert.FrontBwdIdeal.main_arg5)
      ∧ r.2.mem ((c.tc : Thread Cert.FrontBwdIdeal.nD Cert.FrontBwdIdeal.τ).loc Cert.FrontBwdIdeal.main_arg6) = m ((c.tc : Thread Cert.FrontBwdIdeal.nD Cert.FrontBwdIdeal.τ).loc Cert.FrontBwdIdeal.main_arg6)
      ∧ r.2.mem ((c.tc : Thread Cert.FrontBwdIdeal.nD Cert.FrontBwdIdeal.τ).loc Cert.FrontBwdIdeal.main_arg7) = m ((c.tc : Thread Cert.FrontBwdIdeal.nD Cert.FrontBwdIdeal.τ).loc Cert.FrontBwdIdeal.main_arg7)
      ∧ r.2.mem ((c.tc : Thread Cert.FrontBwdIdeal.nD Cert.FrontBwdIdeal.τ).loc Cert.FrontBwdIdeal.main_arg8) = m ((c.tc : Thread Cert.FrontBwdIdeal.nD Cert.FrontBwdIdeal.τ).loc Cert.FrontBwdIdeal.main_arg8)
      ∧ r.2.mem ((c.tc : Thread Cert.FrontBwdIdeal.nD Cert.FrontBwdIdeal.τ).loc Cert.FrontBwdIdeal.main_arg9) = m ((c.tc : Thread Cert.FrontBwdIdeal.nD Cert.FrontBwdIdeal.τ).loc Cert.FrontBwdIdeal.main_arg9)
      ∧ r.2.mem ((c.tc : Thread Cert.FrontBwdIdeal.nD Cert.FrontBwdIdeal.τ).loc Cert.FrontBwdIdeal.main_arg10) = m ((c.tc : Thread Cert.FrontBwdIdeal.nD Cert.FrontBwdIdeal.τ).loc Cert.FrontBwdIdeal.main_arg10)
      ∧ r.2.mem ((c.tc : Thread Cert.FrontBwdIdeal.nD Cert.FrontBwdIdeal.τ).loc Cert.FrontBwdIdeal.main_arg11) = m ((c.tc : Thread Cert.FrontBwdIdeal.nD Cert.FrontBwdIdeal.τ).loc Cert.FrontBwdIdeal.main_arg11)
      ∧ r.2.mem ((c.tc : Thread Cert.FrontBwdIdeal.nD Cert.FrontBwdIdeal.τ).loc Cert.FrontBwdIdeal.main_arg12) = m ((c.tc : Thread Cert.FrontBwdIdeal.nD Cert.FrontBwdIdeal.τ).loc Cert.FrontBwdIdeal.main_arg12)
      ∧ r.2.mem ((c.tc : Thread Cert.FrontBwdIdeal.nD Cert.FrontBwdIdeal.τ).loc Cert.FrontBwdIdeal.main_arg13) = m ((c.tc : Thread Cert.FrontBwdIdeal.nD Cert.FrontBwdIdeal.τ).loc Cert.FrontBwdIdeal.main_arg13)
      ∧ r.2.mem ((c.tc : Thread Cert.FrontBwdIdeal.nD Cert.FrontBwdIdeal.τ).loc Cert.FrontBwdIdeal.main_arg14) = m ((c.tc : Thread Cert.FrontBwdIdeal.nD Cert.FrontBwdIdeal.τ).loc Cert.FrontBwdIdeal.main_arg14)
      ∧ r.2.mem ((c.tc : Thread Cert.FrontBwdIdeal.nD Cert.FrontBwdIdeal.τ).loc Cert.FrontBwdIdeal.main_arg15) = m ((c.tc : Thread Cert.FrontBwdIdeal.nD Cert.FrontBwdIdeal.τ).loc Cert.FrontBwdIdeal.main_arg15)
      ∧ r.2.mem ((c.tc : Thread Cert.FrontBwdIdeal.nD Cert.FrontBwdIdeal.τ).loc Cert.FrontBwdIdeal.main_arg16) = m ((c.tc : Thread Cert.FrontBwdIdeal.nD Cert.FrontBwdIdeal.τ).loc Cert.FrontBwdIdeal.main_arg16))
      ∧ r.2.sem = fun _ => 0)

def quiescent_FrontBwdIdeal_pre_front_finite [hFrontBwdIdeal : Cert.FrontBwdIdeal.Facts] [hPre_front_finite : Cert.Pre_front_finite.Facts] : Prop :=
  ∀ (m : (ℓ : Loc Cert.FrontBwdIdeal.nD Cert.FrontBwdIdeal.τ Cert.FrontBwdIdeal.sig) → Buf (Elt Ideal) ℓ) (g : Dev Cert.FrontBwdIdeal.nD → PrngReg), Pre_FrontBwdIdeal_front_finite m →
    θ_run (Cert.FrontBwdIdeal.defs (F := Ideal)) (onTc (τ := Cert.FrontBwdIdeal.τ) (Cert.FrontBwdIdeal.main (F := Ideal))) ⟨m, fun _ => 0, g⟩ (fun r => (∀ c : Dev Cert.FrontBwdIdeal.nD,
      r.2.mem ((c.tc : Thread Cert.FrontBwdIdeal.nD Cert.FrontBwdIdeal.τ).loc Cert.FrontBwdIdeal.main_arg0) = m ((c.tc : Thread Cert.FrontBwdIdeal.nD Cert.FrontBwdIdeal.τ).loc Cert.FrontBwdIdeal.main_arg0)
      ∧ r.2.mem ((c.tc : Thread Cert.FrontBwdIdeal.nD Cert.FrontBwdIdeal.τ).loc Cert.FrontBwdIdeal.main_arg1) = m ((c.tc : Thread Cert.FrontBwdIdeal.nD Cert.FrontBwdIdeal.τ).loc Cert.FrontBwdIdeal.main_arg1)
      ∧ r.2.mem ((c.tc : Thread Cert.FrontBwdIdeal.nD Cert.FrontBwdIdeal.τ).loc Cert.FrontBwdIdeal.main_arg2) = m ((c.tc : Thread Cert.FrontBwdIdeal.nD Cert.FrontBwdIdeal.τ).loc Cert.FrontBwdIdeal.main_arg2)
      ∧ r.2.mem ((c.tc : Thread Cert.FrontBwdIdeal.nD Cert.FrontBwdIdeal.τ).loc Cert.FrontBwdIdeal.main_arg3) = m ((c.tc : Thread Cert.FrontBwdIdeal.nD Cert.FrontBwdIdeal.τ).loc Cert.FrontBwdIdeal.main_arg3)
      ∧ r.2.mem ((c.tc : Thread Cert.FrontBwdIdeal.nD Cert.FrontBwdIdeal.τ).loc Cert.FrontBwdIdeal.main_arg4) = m ((c.tc : Thread Cert.FrontBwdIdeal.nD Cert.FrontBwdIdeal.τ).loc Cert.FrontBwdIdeal.main_arg4)
      ∧ r.2.mem ((c.tc : Thread Cert.FrontBwdIdeal.nD Cert.FrontBwdIdeal.τ).loc Cert.FrontBwdIdeal.main_arg5) = m ((c.tc : Thread Cert.FrontBwdIdeal.nD Cert.FrontBwdIdeal.τ).loc Cert.FrontBwdIdeal.main_arg5)
      ∧ r.2.mem ((c.tc : Thread Cert.FrontBwdIdeal.nD Cert.FrontBwdIdeal.τ).loc Cert.FrontBwdIdeal.main_arg6) = m ((c.tc : Thread Cert.FrontBwdIdeal.nD Cert.FrontBwdIdeal.τ).loc Cert.FrontBwdIdeal.main_arg6)
      ∧ r.2.mem ((c.tc : Thread Cert.FrontBwdIdeal.nD Cert.FrontBwdIdeal.τ).loc Cert.FrontBwdIdeal.main_arg7) = m ((c.tc : Thread Cert.FrontBwdIdeal.nD Cert.FrontBwdIdeal.τ).loc Cert.FrontBwdIdeal.main_arg7)
      ∧ r.2.mem ((c.tc : Thread Cert.FrontBwdIdeal.nD Cert.FrontBwdIdeal.τ).loc Cert.FrontBwdIdeal.main_arg8) = m ((c.tc : Thread Cert.FrontBwdIdeal.nD Cert.FrontBwdIdeal.τ).loc Cert.FrontBwdIdeal.main_arg8)
      ∧ r.2.mem ((c.tc : Thread Cert.FrontBwdIdeal.nD Cert.FrontBwdIdeal.τ).loc Cert.FrontBwdIdeal.main_arg9) = m ((c.tc : Thread Cert.FrontBwdIdeal.nD Cert.FrontBwdIdeal.τ).loc Cert.FrontBwdIdeal.main_arg9)
      ∧ r.2.mem ((c.tc : Thread Cert.FrontBwdIdeal.nD Cert.FrontBwdIdeal.τ).loc Cert.FrontBwdIdeal.main_arg10) = m ((c.tc : Thread Cert.FrontBwdIdeal.nD Cert.FrontBwdIdeal.τ).loc Cert.FrontBwdIdeal.main_arg10)
      ∧ r.2.mem ((c.tc : Thread Cert.FrontBwdIdeal.nD Cert.FrontBwdIdeal.τ).loc Cert.FrontBwdIdeal.main_arg11) = m ((c.tc : Thread Cert.FrontBwdIdeal.nD Cert.FrontBwdIdeal.τ).loc Cert.FrontBwdIdeal.main_arg11)
      ∧ r.2.mem ((c.tc : Thread Cert.FrontBwdIdeal.nD Cert.FrontBwdIdeal.τ).loc Cert.FrontBwdIdeal.main_arg12) = m ((c.tc : Thread Cert.FrontBwdIdeal.nD Cert.FrontBwdIdeal.τ).loc Cert.FrontBwdIdeal.main_arg12)
      ∧ r.2.mem ((c.tc : Thread Cert.FrontBwdIdeal.nD Cert.FrontBwdIdeal.τ).loc Cert.FrontBwdIdeal.main_arg13) = m ((c.tc : Thread Cert.FrontBwdIdeal.nD Cert.FrontBwdIdeal.τ).loc Cert.FrontBwdIdeal.main_arg13)
      ∧ r.2.mem ((c.tc : Thread Cert.FrontBwdIdeal.nD Cert.FrontBwdIdeal.τ).loc Cert.FrontBwdIdeal.main_arg14) = m ((c.tc : Thread Cert.FrontBwdIdeal.nD Cert.FrontBwdIdeal.τ).loc Cert.FrontBwdIdeal.main_arg14)
      ∧ r.2.mem ((c.tc : Thread Cert.FrontBwdIdeal.nD Cert.FrontBwdIdeal.τ).loc Cert.FrontBwdIdeal.main_arg15) = m ((c.tc : Thread Cert.FrontBwdIdeal.nD Cert.FrontBwdIdeal.τ).loc Cert.FrontBwdIdeal.main_arg15)
      ∧ r.2.mem ((c.tc : Thread Cert.FrontBwdIdeal.nD Cert.FrontBwdIdeal.τ).loc Cert.FrontBwdIdeal.main_arg16) = m ((c.tc : Thread Cert.FrontBwdIdeal.nD Cert.FrontBwdIdeal.τ).loc Cert.FrontBwdIdeal.main_arg16))
      ∧ r.2.sem = fun _ => 0)

def quiescent_FrontBwdRefIdeal [hFrontBwdRefIdeal : Cert.FrontBwdRefIdeal.Facts] : Prop :=
  ∀ (m : (ℓ : Loc Cert.FrontBwdRefIdeal.nD Cert.FrontBwdRefIdeal.τ Cert.FrontBwdRefIdeal.sig) → Buf (Elt Ideal) ℓ) (g : Dev Cert.FrontBwdRefIdeal.nD → PrngReg), Pre_FrontBwdRefIdeal m →
    θ_run (Cert.FrontBwdRefIdeal.defs (F := Ideal)) (onTc (τ := Cert.FrontBwdRefIdeal.τ) (Cert.FrontBwdRefIdeal.main (F := Ideal))) ⟨m, fun _ => 0, g⟩ (fun r => (∀ c : Dev Cert.FrontBwdRefIdeal.nD,
      r.2.mem ((c.tc : Thread Cert.FrontBwdRefIdeal.nD Cert.FrontBwdRefIdeal.τ).loc Cert.FrontBwdRefIdeal.main_arg0) = m ((c.tc : Thread Cert.FrontBwdRefIdeal.nD Cert.FrontBwdRefIdeal.τ).loc Cert.FrontBwdRefIdeal.main_arg0)
      ∧ r.2.mem ((c.tc : Thread Cert.FrontBwdRefIdeal.nD Cert.FrontBwdRefIdeal.τ).loc Cert.FrontBwdRefIdeal.main_arg1) = m ((c.tc : Thread Cert.FrontBwdRefIdeal.nD Cert.FrontBwdRefIdeal.τ).loc Cert.FrontBwdRefIdeal.main_arg1)
      ∧ r.2.mem ((c.tc : Thread Cert.FrontBwdRefIdeal.nD Cert.FrontBwdRefIdeal.τ).loc Cert.FrontBwdRefIdeal.main_arg2) = m ((c.tc : Thread Cert.FrontBwdRefIdeal.nD Cert.FrontBwdRefIdeal.τ).loc Cert.FrontBwdRefIdeal.main_arg2)
      ∧ r.2.mem ((c.tc : Thread Cert.FrontBwdRefIdeal.nD Cert.FrontBwdRefIdeal.τ).loc Cert.FrontBwdRefIdeal.main_arg3) = m ((c.tc : Thread Cert.FrontBwdRefIdeal.nD Cert.FrontBwdRefIdeal.τ).loc Cert.FrontBwdRefIdeal.main_arg3)
      ∧ r.2.mem ((c.tc : Thread Cert.FrontBwdRefIdeal.nD Cert.FrontBwdRefIdeal.τ).loc Cert.FrontBwdRefIdeal.main_arg4) = m ((c.tc : Thread Cert.FrontBwdRefIdeal.nD Cert.FrontBwdRefIdeal.τ).loc Cert.FrontBwdRefIdeal.main_arg4)
      ∧ r.2.mem ((c.tc : Thread Cert.FrontBwdRefIdeal.nD Cert.FrontBwdRefIdeal.τ).loc Cert.FrontBwdRefIdeal.main_arg5) = m ((c.tc : Thread Cert.FrontBwdRefIdeal.nD Cert.FrontBwdRefIdeal.τ).loc Cert.FrontBwdRefIdeal.main_arg5)
      ∧ r.2.mem ((c.tc : Thread Cert.FrontBwdRefIdeal.nD Cert.FrontBwdRefIdeal.τ).loc Cert.FrontBwdRefIdeal.main_arg6) = m ((c.tc : Thread Cert.FrontBwdRefIdeal.nD Cert.FrontBwdRefIdeal.τ).loc Cert.FrontBwdRefIdeal.main_arg6)
      ∧ r.2.mem ((c.tc : Thread Cert.FrontBwdRefIdeal.nD Cert.FrontBwdRefIdeal.τ).loc Cert.FrontBwdRefIdeal.main_arg7) = m ((c.tc : Thread Cert.FrontBwdRefIdeal.nD Cert.FrontBwdRefIdeal.τ).loc Cert.FrontBwdRefIdeal.main_arg7)
      ∧ r.2.mem ((c.tc : Thread Cert.FrontBwdRefIdeal.nD Cert.FrontBwdRefIdeal.τ).loc Cert.FrontBwdRefIdeal.main_arg8) = m ((c.tc : Thread Cert.FrontBwdRefIdeal.nD Cert.FrontBwdRefIdeal.τ).loc Cert.FrontBwdRefIdeal.main_arg8)
      ∧ r.2.mem ((c.tc : Thread Cert.FrontBwdRefIdeal.nD Cert.FrontBwdRefIdeal.τ).loc Cert.FrontBwdRefIdeal.main_arg9) = m ((c.tc : Thread Cert.FrontBwdRefIdeal.nD Cert.FrontBwdRefIdeal.τ).loc Cert.FrontBwdRefIdeal.main_arg9)
      ∧ r.2.mem ((c.tc : Thread Cert.FrontBwdRefIdeal.nD Cert.FrontBwdRefIdeal.τ).loc Cert.FrontBwdRefIdeal.main_arg10) = m ((c.tc : Thread Cert.FrontBwdRefIdeal.nD Cert.FrontBwdRefIdeal.τ).loc Cert.FrontBwdRefIdeal.main_arg10)
      ∧ r.2.mem ((c.tc : Thread Cert.FrontBwdRefIdeal.nD Cert.FrontBwdRefIdeal.τ).loc Cert.FrontBwdRefIdeal.main_arg11) = m ((c.tc : Thread Cert.FrontBwdRefIdeal.nD Cert.FrontBwdRefIdeal.τ).loc Cert.FrontBwdRefIdeal.main_arg11)
      ∧ r.2.mem ((c.tc : Thread Cert.FrontBwdRefIdeal.nD Cert.FrontBwdRefIdeal.τ).loc Cert.FrontBwdRefIdeal.main_arg12) = m ((c.tc : Thread Cert.FrontBwdRefIdeal.nD Cert.FrontBwdRefIdeal.τ).loc Cert.FrontBwdRefIdeal.main_arg12)
      ∧ r.2.mem ((c.tc : Thread Cert.FrontBwdRefIdeal.nD Cert.FrontBwdRefIdeal.τ).loc Cert.FrontBwdRefIdeal.main_arg13) = m ((c.tc : Thread Cert.FrontBwdRefIdeal.nD Cert.FrontBwdRefIdeal.τ).loc Cert.FrontBwdRefIdeal.main_arg13)
      ∧ r.2.mem ((c.tc : Thread Cert.FrontBwdRefIdeal.nD Cert.FrontBwdRefIdeal.τ).loc Cert.FrontBwdRefIdeal.main_arg14) = m ((c.tc : Thread Cert.FrontBwdRefIdeal.nD Cert.FrontBwdRefIdeal.τ).loc Cert.FrontBwdRefIdeal.main_arg14)
      ∧ r.2.mem ((c.tc : Thread Cert.FrontBwdRefIdeal.nD Cert.FrontBwdRefIdeal.τ).loc Cert.FrontBwdRefIdeal.main_arg15) = m ((c.tc : Thread Cert.FrontBwdRefIdeal.nD Cert.FrontBwdRefIdeal.τ).loc Cert.FrontBwdRefIdeal.main_arg15)
      ∧ r.2.mem ((c.tc : Thread Cert.FrontBwdRefIdeal.nD Cert.FrontBwdRefIdeal.τ).loc Cert.FrontBwdRefIdeal.main_arg16) = m ((c.tc : Thread Cert.FrontBwdRefIdeal.nD Cert.FrontBwdRefIdeal.τ).loc Cert.FrontBwdRefIdeal.main_arg16))
      ∧ r.2.sem = fun _ => 0)

def quiescent_FrontBwdRefIdeal_pre_front_finite [hFrontBwdRefIdeal : Cert.FrontBwdRefIdeal.Facts] [hPre_front_finite : Cert.Pre_front_finite.Facts] : Prop :=
  ∀ (m : (ℓ : Loc Cert.FrontBwdRefIdeal.nD Cert.FrontBwdRefIdeal.τ Cert.FrontBwdRefIdeal.sig) → Buf (Elt Ideal) ℓ) (g : Dev Cert.FrontBwdRefIdeal.nD → PrngReg), Pre_FrontBwdRefIdeal_front_finite m →
    θ_run (Cert.FrontBwdRefIdeal.defs (F := Ideal)) (onTc (τ := Cert.FrontBwdRefIdeal.τ) (Cert.FrontBwdRefIdeal.main (F := Ideal))) ⟨m, fun _ => 0, g⟩ (fun r => (∀ c : Dev Cert.FrontBwdRefIdeal.nD,
      r.2.mem ((c.tc : Thread Cert.FrontBwdRefIdeal.nD Cert.FrontBwdRefIdeal.τ).loc Cert.FrontBwdRefIdeal.main_arg0) = m ((c.tc : Thread Cert.FrontBwdRefIdeal.nD Cert.FrontBwdRefIdeal.τ).loc Cert.FrontBwdRefIdeal.main_arg0)
      ∧ r.2.mem ((c.tc : Thread Cert.FrontBwdRefIdeal.nD Cert.FrontBwdRefIdeal.τ).loc Cert.FrontBwdRefIdeal.main_arg1) = m ((c.tc : Thread Cert.FrontBwdRefIdeal.nD Cert.FrontBwdRefIdeal.τ).loc Cert.FrontBwdRefIdeal.main_arg1)
      ∧ r.2.mem ((c.tc : Thread Cert.FrontBwdRefIdeal.nD Cert.FrontBwdRefIdeal.τ).loc Cert.FrontBwdRefIdeal.main_arg2) = m ((c.tc : Thread Cert.FrontBwdRefIdeal.nD Cert.FrontBwdRefIdeal.τ).loc Cert.FrontBwdRefIdeal.main_arg2)
      ∧ r.2.mem ((c.tc : Thread Cert.FrontBwdRefIdeal.nD Cert.FrontBwdRefIdeal.τ).loc Cert.FrontBwdRefIdeal.main_arg3) = m ((c.tc : Thread Cert.FrontBwdRefIdeal.nD Cert.FrontBwdRefIdeal.τ).loc Cert.FrontBwdRefIdeal.main_arg3)
      ∧ r.2.mem ((c.tc : Thread Cert.FrontBwdRefIdeal.nD Cert.FrontBwdRefIdeal.τ).loc Cert.FrontBwdRefIdeal.main_arg4) = m ((c.tc : Thread Cert.FrontBwdRefIdeal.nD Cert.FrontBwdRefIdeal.τ).loc Cert.FrontBwdRefIdeal.main_arg4)
      ∧ r.2.mem ((c.tc : Thread Cert.FrontBwdRefIdeal.nD Cert.FrontBwdRefIdeal.τ).loc Cert.FrontBwdRefIdeal.main_arg5) = m ((c.tc : Thread Cert.FrontBwdRefIdeal.nD Cert.FrontBwdRefIdeal.τ).loc Cert.FrontBwdRefIdeal.main_arg5)
      ∧ r.2.mem ((c.tc : Thread Cert.FrontBwdRefIdeal.nD Cert.FrontBwdRefIdeal.τ).loc Cert.FrontBwdRefIdeal.main_arg6) = m ((c.tc : Thread Cert.FrontBwdRefIdeal.nD Cert.FrontBwdRefIdeal.τ).loc Cert.FrontBwdRefIdeal.main_arg6)
      ∧ r.2.mem ((c.tc : Thread Cert.FrontBwdRefIdeal.nD Cert.FrontBwdRefIdeal.τ).loc Cert.FrontBwdRefIdeal.main_arg7) = m ((c.tc : Thread Cert.FrontBwdRefIdeal.nD Cert.FrontBwdRefIdeal.τ).loc Cert.FrontBwdRefIdeal.main_arg7)
      ∧ r.2.mem ((c.tc : Thread Cert.FrontBwdRefIdeal.nD Cert.FrontBwdRefIdeal.τ).loc Cert.FrontBwdRefIdeal.main_arg8) = m ((c.tc : Thread Cert.FrontBwdRefIdeal.nD Cert.FrontBwdRefIdeal.τ).loc Cert.FrontBwdRefIdeal.main_arg8)
      ∧ r.2.mem ((c.tc : Thread Cert.FrontBwdRefIdeal.nD Cert.FrontBwdRefIdeal.τ).loc Cert.FrontBwdRefIdeal.main_arg9) = m ((c.tc : Thread Cert.FrontBwdRefIdeal.nD Cert.FrontBwdRefIdeal.τ).loc Cert.FrontBwdRefIdeal.main_arg9)
      ∧ r.2.mem ((c.tc : Thread Cert.FrontBwdRefIdeal.nD Cert.FrontBwdRefIdeal.τ).loc Cert.FrontBwdRefIdeal.main_arg10) = m ((c.tc : Thread Cert.FrontBwdRefIdeal.nD Cert.FrontBwdRefIdeal.τ).loc Cert.FrontBwdRefIdeal.main_arg10)
      ∧ r.2.mem ((c.tc : Thread Cert.FrontBwdRefIdeal.nD Cert.FrontBwdRefIdeal.τ).loc Cert.FrontBwdRefIdeal.main_arg11) = m ((c.tc : Thread Cert.FrontBwdRefIdeal.nD Cert.FrontBwdRefIdeal.τ).loc Cert.FrontBwdRefIdeal.main_arg11)
      ∧ r.2.mem ((c.tc : Thread Cert.FrontBwdRefIdeal.nD Cert.FrontBwdRefIdeal.τ).loc Cert.FrontBwdRefIdeal.main_arg12) = m ((c.tc : Thread Cert.FrontBwdRefIdeal.nD Cert.FrontBwdRefIdeal.τ).loc Cert.FrontBwdRefIdeal.main_arg12)
      ∧ r.2.mem ((c.tc : Thread Cert.FrontBwdRefIdeal.nD Cert.FrontBwdRefIdeal.τ).loc Cert.FrontBwdRefIdeal.main_arg13) = m ((c.tc : Thread Cert.FrontBwdRefIdeal.nD Cert.FrontBwdRefIdeal.τ).loc Cert.FrontBwdRefIdeal.main_arg13)
      ∧ r.2.mem ((c.tc : Thread Cert.FrontBwdRefIdeal.nD Cert.FrontBwdRefIdeal.τ).loc Cert.FrontBwdRefIdeal.main_arg14) = m ((c.tc : Thread Cert.FrontBwdRefIdeal.nD Cert.FrontBwdRefIdeal.τ).loc Cert.FrontBwdRefIdeal.main_arg14)
      ∧ r.2.mem ((c.tc : Thread Cert.FrontBwdRefIdeal.nD Cert.FrontBwdRefIdeal.τ).loc Cert.FrontBwdRefIdeal.main_arg15) = m ((c.tc : Thread Cert.FrontBwdRefIdeal.nD Cert.FrontBwdRefIdeal.τ).loc Cert.FrontBwdRefIdeal.main_arg15)
      ∧ r.2.mem ((c.tc : Thread Cert.FrontBwdRefIdeal.nD Cert.FrontBwdRefIdeal.τ).loc Cert.FrontBwdRefIdeal.main_arg16) = m ((c.tc : Thread Cert.FrontBwdRefIdeal.nD Cert.FrontBwdRefIdeal.τ).loc Cert.FrontBwdRefIdeal.main_arg16))
      ∧ r.2.sem = fun _ => 0)

def quiescent_TailFwd [hTailFwd : Cert.TailFwd.Facts] : Prop :=
  ∀ (m : (ℓ : Loc Cert.TailFwd.nD Cert.TailFwd.τ Cert.TailFwd.sig) → Buf (Elt Bits) ℓ) (g : Dev Cert.TailFwd.nD → PrngReg), Pre_TailFwd m →
    θ_run (Cert.TailFwd.defs (F := Bits)) (onTc (τ := Cert.TailFwd.τ) (Cert.TailFwd.main (F := Bits))) ⟨m, fun _ => 0, g⟩ (fun r => (∀ c : Dev Cert.TailFwd.nD,
      r.2.mem ((c.tc : Thread Cert.TailFwd.nD Cert.TailFwd.τ).loc Cert.TailFwd.main_arg0) = m ((c.tc : Thread Cert.TailFwd.nD Cert.TailFwd.τ).loc Cert.TailFwd.main_arg0)
      ∧ r.2.mem ((c.tc : Thread Cert.TailFwd.nD Cert.TailFwd.τ).loc Cert.TailFwd.main_arg1) = m ((c.tc : Thread Cert.TailFwd.nD Cert.TailFwd.τ).loc Cert.TailFwd.main_arg1)
      ∧ r.2.mem ((c.tc : Thread Cert.TailFwd.nD Cert.TailFwd.τ).loc Cert.TailFwd.main_arg2) = m ((c.tc : Thread Cert.TailFwd.nD Cert.TailFwd.τ).loc Cert.TailFwd.main_arg2)
      ∧ r.2.mem ((c.tc : Thread Cert.TailFwd.nD Cert.TailFwd.τ).loc Cert.TailFwd.main_arg3) = m ((c.tc : Thread Cert.TailFwd.nD Cert.TailFwd.τ).loc Cert.TailFwd.main_arg3)
      ∧ r.2.mem ((c.tc : Thread Cert.TailFwd.nD Cert.TailFwd.τ).loc Cert.TailFwd.main_arg4) = m ((c.tc : Thread Cert.TailFwd.nD Cert.TailFwd.τ).loc Cert.TailFwd.main_arg4)
      ∧ r.2.mem ((c.tc : Thread Cert.TailFwd.nD Cert.TailFwd.τ).loc Cert.TailFwd.main_arg5) = m ((c.tc : Thread Cert.TailFwd.nD Cert.TailFwd.τ).loc Cert.TailFwd.main_arg5)
      ∧ r.2.mem ((c.tc : Thread Cert.TailFwd.nD Cert.TailFwd.τ).loc Cert.TailFwd.main_arg6) = m ((c.tc : Thread Cert.TailFwd.nD Cert.TailFwd.τ).loc Cert.TailFwd.main_arg6)
      ∧ r.2.mem ((c.tc : Thread Cert.TailFwd.nD Cert.TailFwd.τ).loc Cert.TailFwd.main_arg7) = m ((c.tc : Thread Cert.TailFwd.nD Cert.TailFwd.τ).loc Cert.TailFwd.main_arg7)
      ∧ r.2.mem ((c.tc : Thread Cert.TailFwd.nD Cert.TailFwd.τ).loc Cert.TailFwd.main_arg8) = m ((c.tc : Thread Cert.TailFwd.nD Cert.TailFwd.τ).loc Cert.TailFwd.main_arg8)
      ∧ r.2.mem ((c.tc : Thread Cert.TailFwd.nD Cert.TailFwd.τ).loc Cert.TailFwd.main_arg9) = m ((c.tc : Thread Cert.TailFwd.nD Cert.TailFwd.τ).loc Cert.TailFwd.main_arg9))
      ∧ r.2.sem = fun _ => 0)

def quiescent_TailFwdIdeal [hTailFwdIdeal : Cert.TailFwdIdeal.Facts] : Prop :=
  ∀ (m : (ℓ : Loc Cert.TailFwdIdeal.nD Cert.TailFwdIdeal.τ Cert.TailFwdIdeal.sig) → Buf (Elt Ideal) ℓ) (g : Dev Cert.TailFwdIdeal.nD → PrngReg), Pre_TailFwdIdeal m →
    θ_run (Cert.TailFwdIdeal.defs (F := Ideal)) (onTc (τ := Cert.TailFwdIdeal.τ) (Cert.TailFwdIdeal.main (F := Ideal))) ⟨m, fun _ => 0, g⟩ (fun r => (∀ c : Dev Cert.TailFwdIdeal.nD,
      r.2.mem ((c.tc : Thread Cert.TailFwdIdeal.nD Cert.TailFwdIdeal.τ).loc Cert.TailFwdIdeal.main_arg0) = m ((c.tc : Thread Cert.TailFwdIdeal.nD Cert.TailFwdIdeal.τ).loc Cert.TailFwdIdeal.main_arg0)
      ∧ r.2.mem ((c.tc : Thread Cert.TailFwdIdeal.nD Cert.TailFwdIdeal.τ).loc Cert.TailFwdIdeal.main_arg1) = m ((c.tc : Thread Cert.TailFwdIdeal.nD Cert.TailFwdIdeal.τ).loc Cert.TailFwdIdeal.main_arg1)
      ∧ r.2.mem ((c.tc : Thread Cert.TailFwdIdeal.nD Cert.TailFwdIdeal.τ).loc Cert.TailFwdIdeal.main_arg2) = m ((c.tc : Thread Cert.TailFwdIdeal.nD Cert.TailFwdIdeal.τ).loc Cert.TailFwdIdeal.main_arg2)
      ∧ r.2.mem ((c.tc : Thread Cert.TailFwdIdeal.nD Cert.TailFwdIdeal.τ).loc Cert.TailFwdIdeal.main_arg3) = m ((c.tc : Thread Cert.TailFwdIdeal.nD Cert.TailFwdIdeal.τ).loc Cert.TailFwdIdeal.main_arg3)
      ∧ r.2.mem ((c.tc : Thread Cert.TailFwdIdeal.nD Cert.TailFwdIdeal.τ).loc Cert.TailFwdIdeal.main_arg4) = m ((c.tc : Thread Cert.TailFwdIdeal.nD Cert.TailFwdIdeal.τ).loc Cert.TailFwdIdeal.main_arg4)
      ∧ r.2.mem ((c.tc : Thread Cert.TailFwdIdeal.nD Cert.TailFwdIdeal.τ).loc Cert.TailFwdIdeal.main_arg5) = m ((c.tc : Thread Cert.TailFwdIdeal.nD Cert.TailFwdIdeal.τ).loc Cert.TailFwdIdeal.main_arg5)
      ∧ r.2.mem ((c.tc : Thread Cert.TailFwdIdeal.nD Cert.TailFwdIdeal.τ).loc Cert.TailFwdIdeal.main_arg6) = m ((c.tc : Thread Cert.TailFwdIdeal.nD Cert.TailFwdIdeal.τ).loc Cert.TailFwdIdeal.main_arg6)
      ∧ r.2.mem ((c.tc : Thread Cert.TailFwdIdeal.nD Cert.TailFwdIdeal.τ).loc Cert.TailFwdIdeal.main_arg7) = m ((c.tc : Thread Cert.TailFwdIdeal.nD Cert.TailFwdIdeal.τ).loc Cert.TailFwdIdeal.main_arg7)
      ∧ r.2.mem ((c.tc : Thread Cert.TailFwdIdeal.nD Cert.TailFwdIdeal.τ).loc Cert.TailFwdIdeal.main_arg8) = m ((c.tc : Thread Cert.TailFwdIdeal.nD Cert.TailFwdIdeal.τ).loc Cert.TailFwdIdeal.main_arg8)
      ∧ r.2.mem ((c.tc : Thread Cert.TailFwdIdeal.nD Cert.TailFwdIdeal.τ).loc Cert.TailFwdIdeal.main_arg9) = m ((c.tc : Thread Cert.TailFwdIdeal.nD Cert.TailFwdIdeal.τ).loc Cert.TailFwdIdeal.main_arg9))
      ∧ r.2.sem = fun _ => 0)

def quiescent_TailFwdRefIdeal [hTailFwdRefIdeal : Cert.TailFwdRefIdeal.Facts] : Prop :=
  ∀ (m : (ℓ : Loc Cert.TailFwdRefIdeal.nD Cert.TailFwdRefIdeal.τ Cert.TailFwdRefIdeal.sig) → Buf (Elt Ideal) ℓ) (g : Dev Cert.TailFwdRefIdeal.nD → PrngReg), Pre_TailFwdRefIdeal m →
    θ_run (Cert.TailFwdRefIdeal.defs (F := Ideal)) (onTc (τ := Cert.TailFwdRefIdeal.τ) (Cert.TailFwdRefIdeal.main (F := Ideal))) ⟨m, fun _ => 0, g⟩ (fun r => (∀ c : Dev Cert.TailFwdRefIdeal.nD,
      r.2.mem ((c.tc : Thread Cert.TailFwdRefIdeal.nD Cert.TailFwdRefIdeal.τ).loc Cert.TailFwdRefIdeal.main_arg0) = m ((c.tc : Thread Cert.TailFwdRefIdeal.nD Cert.TailFwdRefIdeal.τ).loc Cert.TailFwdRefIdeal.main_arg0)
      ∧ r.2.mem ((c.tc : Thread Cert.TailFwdRefIdeal.nD Cert.TailFwdRefIdeal.τ).loc Cert.TailFwdRefIdeal.main_arg1) = m ((c.tc : Thread Cert.TailFwdRefIdeal.nD Cert.TailFwdRefIdeal.τ).loc Cert.TailFwdRefIdeal.main_arg1)
      ∧ r.2.mem ((c.tc : Thread Cert.TailFwdRefIdeal.nD Cert.TailFwdRefIdeal.τ).loc Cert.TailFwdRefIdeal.main_arg2) = m ((c.tc : Thread Cert.TailFwdRefIdeal.nD Cert.TailFwdRefIdeal.τ).loc Cert.TailFwdRefIdeal.main_arg2)
      ∧ r.2.mem ((c.tc : Thread Cert.TailFwdRefIdeal.nD Cert.TailFwdRefIdeal.τ).loc Cert.TailFwdRefIdeal.main_arg3) = m ((c.tc : Thread Cert.TailFwdRefIdeal.nD Cert.TailFwdRefIdeal.τ).loc Cert.TailFwdRefIdeal.main_arg3)
      ∧ r.2.mem ((c.tc : Thread Cert.TailFwdRefIdeal.nD Cert.TailFwdRefIdeal.τ).loc Cert.TailFwdRefIdeal.main_arg4) = m ((c.tc : Thread Cert.TailFwdRefIdeal.nD Cert.TailFwdRefIdeal.τ).loc Cert.TailFwdRefIdeal.main_arg4)
      ∧ r.2.mem ((c.tc : Thread Cert.TailFwdRefIdeal.nD Cert.TailFwdRefIdeal.τ).loc Cert.TailFwdRefIdeal.main_arg5) = m ((c.tc : Thread Cert.TailFwdRefIdeal.nD Cert.TailFwdRefIdeal.τ).loc Cert.TailFwdRefIdeal.main_arg5)
      ∧ r.2.mem ((c.tc : Thread Cert.TailFwdRefIdeal.nD Cert.TailFwdRefIdeal.τ).loc Cert.TailFwdRefIdeal.main_arg6) = m ((c.tc : Thread Cert.TailFwdRefIdeal.nD Cert.TailFwdRefIdeal.τ).loc Cert.TailFwdRefIdeal.main_arg6)
      ∧ r.2.mem ((c.tc : Thread Cert.TailFwdRefIdeal.nD Cert.TailFwdRefIdeal.τ).loc Cert.TailFwdRefIdeal.main_arg7) = m ((c.tc : Thread Cert.TailFwdRefIdeal.nD Cert.TailFwdRefIdeal.τ).loc Cert.TailFwdRefIdeal.main_arg7)
      ∧ r.2.mem ((c.tc : Thread Cert.TailFwdRefIdeal.nD Cert.TailFwdRefIdeal.τ).loc Cert.TailFwdRefIdeal.main_arg8) = m ((c.tc : Thread Cert.TailFwdRefIdeal.nD Cert.TailFwdRefIdeal.τ).loc Cert.TailFwdRefIdeal.main_arg8)
      ∧ r.2.mem ((c.tc : Thread Cert.TailFwdRefIdeal.nD Cert.TailFwdRefIdeal.τ).loc Cert.TailFwdRefIdeal.main_arg9) = m ((c.tc : Thread Cert.TailFwdRefIdeal.nD Cert.TailFwdRefIdeal.τ).loc Cert.TailFwdRefIdeal.main_arg9))
      ∧ r.2.sem = fun _ => 0)

def quiescent_FrontFwd [hFrontFwd : Cert.FrontFwd.Facts] : Prop :=
  ∀ (m : (ℓ : Loc Cert.FrontFwd.nD Cert.FrontFwd.τ Cert.FrontFwd.sig) → Buf (Elt Bits) ℓ) (g : Dev Cert.FrontFwd.nD → PrngReg), Pre_FrontFwd m →
    θ_run (Cert.FrontFwd.defs (F := Bits)) (onTc (τ := Cert.FrontFwd.τ) (Cert.FrontFwd.main (F := Bits))) ⟨m, fun _ => 0, g⟩ (fun r => (∀ c : Dev Cert.FrontFwd.nD,
      r.2.mem ((c.tc : Thread Cert.FrontFwd.nD Cert.FrontFwd.τ).loc Cert.FrontFwd.main_arg0) = m ((c.tc : Thread Cert.FrontFwd.nD Cert.FrontFwd.τ).loc Cert.FrontFwd.main_arg0)
      ∧ r.2.mem ((c.tc : Thread Cert.FrontFwd.nD Cert.FrontFwd.τ).loc Cert.FrontFwd.main_arg1) = m ((c.tc : Thread Cert.FrontFwd.nD Cert.FrontFwd.τ).loc Cert.FrontFwd.main_arg1)
      ∧ r.2.mem ((c.tc : Thread Cert.FrontFwd.nD Cert.FrontFwd.τ).loc Cert.FrontFwd.main_arg2) = m ((c.tc : Thread Cert.FrontFwd.nD Cert.FrontFwd.τ).loc Cert.FrontFwd.main_arg2)
      ∧ r.2.mem ((c.tc : Thread Cert.FrontFwd.nD Cert.FrontFwd.τ).loc Cert.FrontFwd.main_arg3) = m ((c.tc : Thread Cert.FrontFwd.nD Cert.FrontFwd.τ).loc Cert.FrontFwd.main_arg3)
      ∧ r.2.mem ((c.tc : Thread Cert.FrontFwd.nD Cert.FrontFwd.τ).loc Cert.FrontFwd.main_arg4) = m ((c.tc : Thread Cert.FrontFwd.nD Cert.FrontFwd.τ).loc Cert.FrontFwd.main_arg4)
      ∧ r.2.mem ((c.tc : Thread Cert.FrontFwd.nD Cert.FrontFwd.τ).loc Cert.FrontFwd.main_arg5) = m ((c.tc : Thread Cert.FrontFwd.nD Cert.FrontFwd.τ).loc Cert.FrontFwd.main_arg5)
      ∧ r.2.mem ((c.tc : Thread Cert.FrontFwd.nD Cert.FrontFwd.τ).loc Cert.FrontFwd.main_arg6) = m ((c.tc : Thread Cert.FrontFwd.nD Cert.FrontFwd.τ).loc Cert.FrontFwd.main_arg6))
      ∧ r.2.sem = fun _ => 0)

def quiescent_FrontFwdIdeal [hFrontFwdIdeal : Cert.FrontFwdIdeal.Facts] : Prop :=
  ∀ (m : (ℓ : Loc Cert.FrontFwdIdeal.nD Cert.FrontFwdIdeal.τ Cert.FrontFwdIdeal.sig) → Buf (Elt Ideal) ℓ) (g : Dev Cert.FrontFwdIdeal.nD → PrngReg), Pre_FrontFwdIdeal m →
    θ_run (Cert.FrontFwdIdeal.defs (F := Ideal)) (onTc (τ := Cert.FrontFwdIdeal.τ) (Cert.FrontFwdIdeal.main (F := Ideal))) ⟨m, fun _ => 0, g⟩ (fun r => (∀ c : Dev Cert.FrontFwdIdeal.nD,
      r.2.mem ((c.tc : Thread Cert.FrontFwdIdeal.nD Cert.FrontFwdIdeal.τ).loc Cert.FrontFwdIdeal.main_arg0) = m ((c.tc : Thread Cert.FrontFwdIdeal.nD Cert.FrontFwdIdeal.τ).loc Cert.FrontFwdIdeal.main_arg0)
      ∧ r.2.mem ((c.tc : Thread Cert.FrontFwdIdeal.nD Cert.FrontFwdIdeal.τ).loc Cert.FrontFwdIdeal.main_arg1) = m ((c.tc : Thread Cert.FrontFwdIdeal.nD Cert.FrontFwdIdeal.τ).loc Cert.FrontFwdIdeal.main_arg1)
      ∧ r.2.mem ((c.tc : Thread Cert.FrontFwdIdeal.nD Cert.FrontFwdIdeal.τ).loc Cert.FrontFwdIdeal.main_arg2) = m ((c.tc : Thread Cert.FrontFwdIdeal.nD Cert.FrontFwdIdeal.τ).loc Cert.FrontFwdIdeal.main_arg2)
      ∧ r.2.mem ((c.tc : Thread Cert.FrontFwdIdeal.nD Cert.FrontFwdIdeal.τ).loc Cert.FrontFwdIdeal.main_arg3) = m ((c.tc : Thread Cert.FrontFwdIdeal.nD Cert.FrontFwdIdeal.τ).loc Cert.FrontFwdIdeal.main_arg3)
      ∧ r.2.mem ((c.tc : Thread Cert.FrontFwdIdeal.nD Cert.FrontFwdIdeal.τ).loc Cert.FrontFwdIdeal.main_arg4) = m ((c.tc : Thread Cert.FrontFwdIdeal.nD Cert.FrontFwdIdeal.τ).loc Cert.FrontFwdIdeal.main_arg4)
      ∧ r.2.mem ((c.tc : Thread Cert.FrontFwdIdeal.nD Cert.FrontFwdIdeal.τ).loc Cert.FrontFwdIdeal.main_arg5) = m ((c.tc : Thread Cert.FrontFwdIdeal.nD Cert.FrontFwdIdeal.τ).loc Cert.FrontFwdIdeal.main_arg5)
      ∧ r.2.mem ((c.tc : Thread Cert.FrontFwdIdeal.nD Cert.FrontFwdIdeal.τ).loc Cert.FrontFwdIdeal.main_arg6) = m ((c.tc : Thread Cert.FrontFwdIdeal.nD Cert.FrontFwdIdeal.τ).loc Cert.FrontFwdIdeal.main_arg6))
      ∧ r.2.sem = fun _ => 0)

def quiescent_FrontFwdRefIdeal [hFrontFwdRefIdeal : Cert.FrontFwdRefIdeal.Facts] : Prop :=
  ∀ (m : (ℓ : Loc Cert.FrontFwdRefIdeal.nD Cert.FrontFwdRefIdeal.τ Cert.FrontFwdRefIdeal.sig) → Buf (Elt Ideal) ℓ) (g : Dev Cert.FrontFwdRefIdeal.nD → PrngReg), Pre_FrontFwdRefIdeal m →
    θ_run (Cert.FrontFwdRefIdeal.defs (F := Ideal)) (onTc (τ := Cert.FrontFwdRefIdeal.τ) (Cert.FrontFwdRefIdeal.main (F := Ideal))) ⟨m, fun _ => 0, g⟩ (fun r => (∀ c : Dev Cert.FrontFwdRefIdeal.nD,
      r.2.mem ((c.tc : Thread Cert.FrontFwdRefIdeal.nD Cert.FrontFwdRefIdeal.τ).loc Cert.FrontFwdRefIdeal.main_arg0) = m ((c.tc : Thread Cert.FrontFwdRefIdeal.nD Cert.FrontFwdRefIdeal.τ).loc Cert.FrontFwdRefIdeal.main_arg0)
      ∧ r.2.mem ((c.tc : Thread Cert.FrontFwdRefIdeal.nD Cert.FrontFwdRefIdeal.τ).loc Cert.FrontFwdRefIdeal.main_arg1) = m ((c.tc : Thread Cert.FrontFwdRefIdeal.nD Cert.FrontFwdRefIdeal.τ).loc Cert.FrontFwdRefIdeal.main_arg1)
      ∧ r.2.mem ((c.tc : Thread Cert.FrontFwdRefIdeal.nD Cert.FrontFwdRefIdeal.τ).loc Cert.FrontFwdRefIdeal.main_arg2) = m ((c.tc : Thread Cert.FrontFwdRefIdeal.nD Cert.FrontFwdRefIdeal.τ).loc Cert.FrontFwdRefIdeal.main_arg2)
      ∧ r.2.mem ((c.tc : Thread Cert.FrontFwdRefIdeal.nD Cert.FrontFwdRefIdeal.τ).loc Cert.FrontFwdRefIdeal.main_arg3) = m ((c.tc : Thread Cert.FrontFwdRefIdeal.nD Cert.FrontFwdRefIdeal.τ).loc Cert.FrontFwdRefIdeal.main_arg3)
      ∧ r.2.mem ((c.tc : Thread Cert.FrontFwdRefIdeal.nD Cert.FrontFwdRefIdeal.τ).loc Cert.FrontFwdRefIdeal.main_arg4) = m ((c.tc : Thread Cert.FrontFwdRefIdeal.nD Cert.FrontFwdRefIdeal.τ).loc Cert.FrontFwdRefIdeal.main_arg4)
      ∧ r.2.mem ((c.tc : Thread Cert.FrontFwdRefIdeal.nD Cert.FrontFwdRefIdeal.τ).loc Cert.FrontFwdRefIdeal.main_arg5) = m ((c.tc : Thread Cert.FrontFwdRefIdeal.nD Cert.FrontFwdRefIdeal.τ).loc Cert.FrontFwdRefIdeal.main_arg5)
      ∧ r.2.mem ((c.tc : Thread Cert.FrontFwdRefIdeal.nD Cert.FrontFwdRefIdeal.τ).loc Cert.FrontFwdRefIdeal.main_arg6) = m ((c.tc : Thread Cert.FrontFwdRefIdeal.nD Cert.FrontFwdRefIdeal.τ).loc Cert.FrontFwdRefIdeal.main_arg6))
      ∧ r.2.sem = fun _ => 0)

def preserves_FlashBwd_FlashBwdIdeal : Prop :=
  IdealRules.named_const.Statement Cert.FlashBwdIdeal.κ "exp2" .f32 0x3DD53B95#32 ((((Real.sqrt 192) * (Real.log 2))⁻¹ : ℝ) : EReal)
  ∧ IdealRules.named_const.Statement Cert.FlashBwdIdeal.κ "mask" .f32 0xF149F2CA#32 ⊥
  ∧ IdealRules.named_const.Statement Cert.FlashBwdIdeal.κ "scale" .f32 0x3D93CD3A#32 (((Real.sqrt 192)⁻¹ : ℝ) : EReal)

def algebraic_FlashBwdIdeal_FlashBwdRefIdeal_pre_finite [hFlashBwdIdeal : Cert.FlashBwdIdeal.Facts] [hFlashBwdRefIdeal : Cert.FlashBwdRefIdeal.Facts] [hPre_finite : Cert.Pre_finite.Facts] : Prop :=
  ∀ (m : (ℓ : Loc Cert.FlashBwdIdeal.nD Cert.FlashBwdIdeal.τ Cert.FlashBwdIdeal.sig) → Buf (Elt Ideal) ℓ) (g : Dev Cert.FlashBwdIdeal.nD → PrngReg)
    (m' : (ℓ : Loc Cert.FlashBwdRefIdeal.nD Cert.FlashBwdRefIdeal.τ Cert.FlashBwdRefIdeal.sig) → Buf (Elt Ideal) ℓ) (g' : Dev Cert.FlashBwdRefIdeal.nD → PrngReg), Pre_FlashBwdIdeal_finite m →
    (∀ c : Dev Cert.FlashBwdIdeal.nD,
      m' ((c.tc : Thread Cert.FlashBwdRefIdeal.nD Cert.FlashBwdRefIdeal.τ).loc Cert.FlashBwdRefIdeal.main_arg0) = m ((c.tc : Thread Cert.FlashBwdIdeal.nD Cert.FlashBwdIdeal.τ).loc Cert.FlashBwdIdeal.main_arg0)
      ∧ m' ((c.tc : Thread Cert.FlashBwdRefIdeal.nD Cert.FlashBwdRefIdeal.τ).loc Cert.FlashBwdRefIdeal.main_arg1) = m ((c.tc : Thread Cert.FlashBwdIdeal.nD Cert.FlashBwdIdeal.τ).loc Cert.FlashBwdIdeal.main_arg1)
      ∧ m' ((c.tc : Thread Cert.FlashBwdRefIdeal.nD Cert.FlashBwdRefIdeal.τ).loc Cert.FlashBwdRefIdeal.main_arg2) = m ((c.tc : Thread Cert.FlashBwdIdeal.nD Cert.FlashBwdIdeal.τ).loc Cert.FlashBwdIdeal.main_arg2)
      ∧ m' ((c.tc : Thread Cert.FlashBwdRefIdeal.nD Cert.FlashBwdRefIdeal.τ).loc Cert.FlashBwdRefIdeal.main_arg3) = m ((c.tc : Thread Cert.FlashBwdIdeal.nD Cert.FlashBwdIdeal.τ).loc Cert.FlashBwdIdeal.main_arg3)) →
    ∃ (v0 : (c : Dev Cert.FlashBwdIdeal.nD) → Buf (Elt Ideal) ((c.tc : Thread Cert.FlashBwdIdeal.nD Cert.FlashBwdIdeal.τ).loc Cert.FlashBwdIdeal.main_v40_0)) (v1 : (c : Dev Cert.FlashBwdIdeal.nD) → Buf (Elt Ideal) ((c.tc : Thread Cert.FlashBwdIdeal.nD Cert.FlashBwdIdeal.τ).loc Cert.FlashBwdIdeal.main_v40_1)) (v2 : (c : Dev Cert.FlashBwdIdeal.nD) → Buf (Elt Ideal) ((c.tc : Thread Cert.FlashBwdIdeal.nD Cert.FlashBwdIdeal.τ).loc Cert.FlashBwdIdeal.main_v40_2)),
      θ_run (Cert.FlashBwdIdeal.defs (F := Ideal)) (onTc (τ := Cert.FlashBwdIdeal.τ) (Cert.FlashBwdIdeal.main (F := Ideal))) ⟨m, fun _ => 0, g⟩ (fun r => ∀ c : Dev Cert.FlashBwdIdeal.nD,
          r.2.mem ((c.tc : Thread Cert.FlashBwdIdeal.nD Cert.FlashBwdIdeal.τ).loc Cert.FlashBwdIdeal.main_v40_0) = v0 c
          ∧ r.2.mem ((c.tc : Thread Cert.FlashBwdIdeal.nD Cert.FlashBwdIdeal.τ).loc Cert.FlashBwdIdeal.main_v40_1) = v1 c
          ∧ r.2.mem ((c.tc : Thread Cert.FlashBwdIdeal.nD Cert.FlashBwdIdeal.τ).loc Cert.FlashBwdIdeal.main_v40_2) = v2 c
          ∧ r.2.mem ((c.tc : Thread Cert.FlashBwdIdeal.nD Cert.FlashBwdIdeal.τ).loc Cert.FlashBwdIdeal.main_arg0) = m ((c.tc : Thread Cert.FlashBwdIdeal.nD Cert.FlashBwdIdeal.τ).loc Cert.FlashBwdIdeal.main_arg0)
          ∧ r.2.mem ((c.tc : Thread Cert.FlashBwdIdeal.nD Cert.FlashBwdIdeal.τ).loc Cert.FlashBwdIdeal.main_arg1) = m ((c.tc : Thread Cert.FlashBwdIdeal.nD Cert.FlashBwdIdeal.τ).loc Cert.FlashBwdIdeal.main_arg1)
          ∧ r.2.mem ((c.tc : Thread Cert.FlashBwdIdeal.nD Cert.FlashBwdIdeal.τ).loc Cert.FlashBwdIdeal.main_arg2) = m ((c.tc : Thread Cert.FlashBwdIdeal.nD Cert.FlashBwdIdeal.τ).loc Cert.FlashBwdIdeal.main_arg2)
          ∧ r.2.mem ((c.tc : Thread Cert.FlashBwdIdeal.nD Cert.FlashBwdIdeal.τ).loc Cert.FlashBwdIdeal.main_arg3) = m ((c.tc : Thread Cert.FlashBwdIdeal.nD Cert.FlashBwdIdeal.τ).loc Cert.FlashBwdIdeal.main_arg3))
      ∧ θ_run (Cert.FlashBwdRefIdeal.defs (F := Ideal)) (onTc (τ := Cert.FlashBwdRefIdeal.τ) (Cert.FlashBwdRefIdeal.main (F := Ideal))) ⟨m', fun _ => 0, g'⟩ (fun r => ∀ c : Dev Cert.FlashBwdRefIdeal.nD,
          r.2.mem ((c.tc : Thread Cert.FlashBwdRefIdeal.nD Cert.FlashBwdRefIdeal.τ).loc Cert.FlashBwdRefIdeal.main_v66) = v0 c
          ∧ r.2.mem ((c.tc : Thread Cert.FlashBwdRefIdeal.nD Cert.FlashBwdRefIdeal.τ).loc Cert.FlashBwdRefIdeal.main_v68) = v1 c
          ∧ r.2.mem ((c.tc : Thread Cert.FlashBwdRefIdeal.nD Cert.FlashBwdRefIdeal.τ).loc Cert.FlashBwdRefIdeal.main_v69) = v2 c
          ∧ r.2.mem ((c.tc : Thread Cert.FlashBwdRefIdeal.nD Cert.FlashBwdRefIdeal.τ).loc Cert.FlashBwdRefIdeal.main_arg0) = m' ((c.tc : Thread Cert.FlashBwdRefIdeal.nD Cert.FlashBwdRefIdeal.τ).loc Cert.FlashBwdRefIdeal.main_arg0)
          ∧ r.2.mem ((c.tc : Thread Cert.FlashBwdRefIdeal.nD Cert.FlashBwdRefIdeal.τ).loc Cert.FlashBwdRefIdeal.main_arg1) = m' ((c.tc : Thread Cert.FlashBwdRefIdeal.nD Cert.FlashBwdRefIdeal.τ).loc Cert.FlashBwdRefIdeal.main_arg1)
          ∧ r.2.mem ((c.tc : Thread Cert.FlashBwdRefIdeal.nD Cert.FlashBwdRefIdeal.τ).loc Cert.FlashBwdRefIdeal.main_arg2) = m' ((c.tc : Thread Cert.FlashBwdRefIdeal.nD Cert.FlashBwdRefIdeal.τ).loc Cert.FlashBwdRefIdeal.main_arg2)
          ∧ r.2.mem ((c.tc : Thread Cert.FlashBwdRefIdeal.nD Cert.FlashBwdRefIdeal.τ).loc Cert.FlashBwdRefIdeal.main_arg3) = m' ((c.tc : Thread Cert.FlashBwdRefIdeal.nD Cert.FlashBwdRefIdeal.τ).loc Cert.FlashBwdRefIdeal.main_arg3))

def preserves_LossBwd_LossBwdIdeal : Prop :=
  True

def algebraic_LossBwdIdeal_LossBwdRefIdeal [hLossBwdIdeal : Cert.LossBwdIdeal.Facts] [hLossBwdRefIdeal : Cert.LossBwdRefIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg)
    (m' : (ℓ : Loc Cert.LossBwdRefIdeal.nD Cert.LossBwdRefIdeal.τ Cert.LossBwdRefIdeal.sig) → Buf (Elt Ideal) ℓ) (g' : Dev Cert.LossBwdRefIdeal.nD → PrngReg), Pre_LossBwdIdeal m →
    (∀ c : Dev Cert.LossBwdIdeal.nD,
      m' ((c.tc : Thread Cert.LossBwdRefIdeal.nD Cert.LossBwdRefIdeal.τ).loc Cert.LossBwdRefIdeal.main_arg0) = m ((c.tc : Thread Cert.LossBwdIdeal.nD Cert.LossBwdIdeal.τ).loc Cert.LossBwdIdeal.main_arg0)
      ∧ m' ((c.tc : Thread Cert.LossBwdRefIdeal.nD Cert.LossBwdRefIdeal.τ).loc Cert.LossBwdRefIdeal.main_arg1) = m ((c.tc : Thread Cert.LossBwdIdeal.nD Cert.LossBwdIdeal.τ).loc Cert.LossBwdIdeal.main_arg1)) →
    ∃ (v0 : (c : Dev Cert.LossBwdIdeal.nD) → Buf (Elt Ideal) ((c.tc : Thread Cert.LossBwdIdeal.nD Cert.LossBwdIdeal.τ).loc Cert.LossBwdIdeal.main_v5)),
      θ_run (Cert.LossBwdIdeal.defs (F := Ideal)) (onTc (τ := Cert.LossBwdIdeal.τ) (Cert.LossBwdIdeal.main (F := Ideal))) ⟨m, fun _ => 0, g⟩ (fun r => ∀ c : Dev Cert.LossBwdIdeal.nD,
          r.2.mem ((c.tc : Thread Cert.LossBwdIdeal.nD Cert.LossBwdIdeal.τ).loc Cert.LossBwdIdeal.main_v5) = v0 c
          ∧ r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
          ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1))
      ∧ θ_run (Cert.LossBwdRefIdeal.defs (F := Ideal)) (onTc (τ := Cert.LossBwdRefIdeal.τ) (Cert.LossBwdRefIdeal.main (F := Ideal))) ⟨m', fun _ => 0, g'⟩ (fun r => ∀ c : Dev Cert.LossBwdRefIdeal.nD,
          r.2.mem ((c.tc : Thread Cert.LossBwdRefIdeal.nD Cert.LossBwdRefIdeal.τ).loc Cert.LossBwdRefIdeal.main_v14) = v0 c
          ∧ r.2.mem ((c.tc : Thread Cert.LossBwdRefIdeal.nD Cert.LossBwdRefIdeal.τ).loc Cert.LossBwdRefIdeal.main_arg0) = m' ((c.tc : Thread Cert.LossBwdRefIdeal.nD Cert.LossBwdRefIdeal.τ).loc Cert.LossBwdRefIdeal.main_arg0)
          ∧ r.2.mem ((c.tc : Thread Cert.LossBwdRefIdeal.nD Cert.LossBwdRefIdeal.τ).loc Cert.LossBwdRefIdeal.main_arg1) = m' ((c.tc : Thread Cert.LossBwdRefIdeal.nD Cert.LossBwdRefIdeal.τ).loc Cert.LossBwdRefIdeal.main_arg1))

def preserves_TailBwd_TailBwdIdeal : Prop :=
  True

def algebraic_TailBwdIdeal_TailBwdRefIdeal [hTailBwdIdeal : Cert.TailBwdIdeal.Facts] [hTailBwdRefIdeal : Cert.TailBwdRefIdeal.Facts] : Prop :=
  ∀ (m : (ℓ : Loc Cert.TailBwdIdeal.nD Cert.TailBwdIdeal.τ Cert.TailBwdIdeal.sig) → Buf (Elt Ideal) ℓ) (g : Dev Cert.TailBwdIdeal.nD → PrngReg)
    (m' : (ℓ : Loc Cert.TailBwdRefIdeal.nD Cert.TailBwdRefIdeal.τ Cert.TailBwdRefIdeal.sig) → Buf (Elt Ideal) ℓ) (g' : Dev Cert.TailBwdRefIdeal.nD → PrngReg), Pre_TailBwdIdeal m →
    (∀ c : Dev Cert.TailBwdIdeal.nD,
      m' ((c.tc : Thread Cert.TailBwdRefIdeal.nD Cert.TailBwdRefIdeal.τ).loc Cert.TailBwdRefIdeal.main_arg0) = m ((c.tc : Thread Cert.TailBwdIdeal.nD Cert.TailBwdIdeal.τ).loc Cert.TailBwdIdeal.main_arg0)
      ∧ m' ((c.tc : Thread Cert.TailBwdRefIdeal.nD Cert.TailBwdRefIdeal.τ).loc Cert.TailBwdRefIdeal.main_arg1) = m ((c.tc : Thread Cert.TailBwdIdeal.nD Cert.TailBwdIdeal.τ).loc Cert.TailBwdIdeal.main_arg1)
      ∧ m' ((c.tc : Thread Cert.TailBwdRefIdeal.nD Cert.TailBwdRefIdeal.τ).loc Cert.TailBwdRefIdeal.main_arg2) = m ((c.tc : Thread Cert.TailBwdIdeal.nD Cert.TailBwdIdeal.τ).loc Cert.TailBwdIdeal.main_arg2)
      ∧ m' ((c.tc : Thread Cert.TailBwdRefIdeal.nD Cert.TailBwdRefIdeal.τ).loc Cert.TailBwdRefIdeal.main_arg3) = m ((c.tc : Thread Cert.TailBwdIdeal.nD Cert.TailBwdIdeal.τ).loc Cert.TailBwdIdeal.main_arg3)
      ∧ m' ((c.tc : Thread Cert.TailBwdRefIdeal.nD Cert.TailBwdRefIdeal.τ).loc Cert.TailBwdRefIdeal.main_arg4) = m ((c.tc : Thread Cert.TailBwdIdeal.nD Cert.TailBwdIdeal.τ).loc Cert.TailBwdIdeal.main_arg4)
      ∧ m' ((c.tc : Thread Cert.TailBwdRefIdeal.nD Cert.TailBwdRefIdeal.τ).loc Cert.TailBwdRefIdeal.main_arg5) = m ((c.tc : Thread Cert.TailBwdIdeal.nD Cert.TailBwdIdeal.τ).loc Cert.TailBwdIdeal.main_arg5)
      ∧ m' ((c.tc : Thread Cert.TailBwdRefIdeal.nD Cert.TailBwdRefIdeal.τ).loc Cert.TailBwdRefIdeal.main_arg6) = m ((c.tc : Thread Cert.TailBwdIdeal.nD Cert.TailBwdIdeal.τ).loc Cert.TailBwdIdeal.main_arg6)
      ∧ m' ((c.tc : Thread Cert.TailBwdRefIdeal.nD Cert.TailBwdRefIdeal.τ).loc Cert.TailBwdRefIdeal.main_arg7) = m ((c.tc : Thread Cert.TailBwdIdeal.nD Cert.TailBwdIdeal.τ).loc Cert.TailBwdIdeal.main_arg7)
      ∧ m' ((c.tc : Thread Cert.TailBwdRefIdeal.nD Cert.TailBwdRefIdeal.τ).loc Cert.TailBwdRefIdeal.main_arg8) = m ((c.tc : Thread Cert.TailBwdIdeal.nD Cert.TailBwdIdeal.τ).loc Cert.TailBwdIdeal.main_arg8)
      ∧ m' ((c.tc : Thread Cert.TailBwdRefIdeal.nD Cert.TailBwdRefIdeal.τ).loc Cert.TailBwdRefIdeal.main_arg9) = m ((c.tc : Thread Cert.TailBwdIdeal.nD Cert.TailBwdIdeal.τ).loc Cert.TailBwdIdeal.main_arg9)
      ∧ m' ((c.tc : Thread Cert.TailBwdRefIdeal.nD Cert.TailBwdRefIdeal.τ).loc Cert.TailBwdRefIdeal.main_arg10) = m ((c.tc : Thread Cert.TailBwdIdeal.nD Cert.TailBwdIdeal.τ).loc Cert.TailBwdIdeal.main_arg10)) →
    ∃ (v0 : (c : Dev Cert.TailBwdIdeal.nD) → Buf (Elt Ideal) ((c.tc : Thread Cert.TailBwdIdeal.nD Cert.TailBwdIdeal.τ).loc Cert.TailBwdIdeal.main_v3_0)) (v1 : (c : Dev Cert.TailBwdIdeal.nD) → Buf (Elt Ideal) ((c.tc : Thread Cert.TailBwdIdeal.nD Cert.TailBwdIdeal.τ).loc Cert.TailBwdIdeal.main_v3_1)) (v2 : (c : Dev Cert.TailBwdIdeal.nD) → Buf (Elt Ideal) ((c.tc : Thread Cert.TailBwdIdeal.nD Cert.TailBwdIdeal.τ).loc Cert.TailBwdIdeal.main_v3_2)) (v3 : (c : Dev Cert.TailBwdIdeal.nD) → Buf (Elt Ideal) ((c.tc : Thread Cert.TailBwdIdeal.nD Cert.TailBwdIdeal.τ).loc Cert.TailBwdIdeal.main_v3_3)) (v4 : (c : Dev Cert.TailBwdIdeal.nD) → Buf (Elt Ideal) ((c.tc : Thread Cert.TailBwdIdeal.nD Cert.TailBwdIdeal.τ).loc Cert.TailBwdIdeal.main_v3_4)) (v5 : (c : Dev Cert.TailBwdIdeal.nD) → Buf (Elt Ideal) ((c.tc : Thread Cert.TailBwdIdeal.nD Cert.TailBwdIdeal.τ).loc Cert.TailBwdIdeal.main_v3_5)) (v6 : (c : Dev Cert.TailBwdIdeal.nD) → Buf (Elt Ideal) ((c.tc : Thread Cert.TailBwdIdeal.nD Cert.TailBwdIdeal.τ).loc Cert.TailBwdIdeal.main_v3_6)) (v7 : (c : Dev Cert.TailBwdIdeal.nD) → Buf (Elt Ideal) ((c.tc : Thread Cert.TailBwdIdeal.nD Cert.TailBwdIdeal.τ).loc Cert.TailBwdIdeal.main_v3_7)) (v8 : (c : Dev Cert.TailBwdIdeal.nD) → Buf (Elt Ideal) ((c.tc : Thread Cert.TailBwdIdeal.nD Cert.TailBwdIdeal.τ).loc Cert.TailBwdIdeal.main_v3_8)) (v9 : (c : Dev Cert.TailBwdIdeal.nD) → Buf (Elt Ideal) ((c.tc : Thread Cert.TailBwdIdeal.nD Cert.TailBwdIdeal.τ).loc Cert.TailBwdIdeal.main_v3_9)),
      θ_run (Cert.TailBwdIdeal.defs (F := Ideal)) (onTc (τ := Cert.TailBwdIdeal.τ) (Cert.TailBwdIdeal.main (F := Ideal))) ⟨m, fun _ => 0, g⟩ (fun r => ∀ c : Dev Cert.TailBwdIdeal.nD,
          r.2.mem ((c.tc : Thread Cert.TailBwdIdeal.nD Cert.TailBwdIdeal.τ).loc Cert.TailBwdIdeal.main_v3_0) = v0 c
          ∧ r.2.mem ((c.tc : Thread Cert.TailBwdIdeal.nD Cert.TailBwdIdeal.τ).loc Cert.TailBwdIdeal.main_v3_1) = v1 c
          ∧ r.2.mem ((c.tc : Thread Cert.TailBwdIdeal.nD Cert.TailBwdIdeal.τ).loc Cert.TailBwdIdeal.main_v3_2) = v2 c
          ∧ r.2.mem ((c.tc : Thread Cert.TailBwdIdeal.nD Cert.TailBwdIdeal.τ).loc Cert.TailBwdIdeal.main_v3_3) = v3 c
          ∧ r.2.mem ((c.tc : Thread Cert.TailBwdIdeal.nD Cert.TailBwdIdeal.τ).loc Cert.TailBwdIdeal.main_v3_4) = v4 c
          ∧ r.2.mem ((c.tc : Thread Cert.TailBwdIdeal.nD Cert.TailBwdIdeal.τ).loc Cert.TailBwdIdeal.main_v3_5) = v5 c
          ∧ r.2.mem ((c.tc : Thread Cert.TailBwdIdeal.nD Cert.TailBwdIdeal.τ).loc Cert.TailBwdIdeal.main_v3_6) = v6 c
          ∧ r.2.mem ((c.tc : Thread Cert.TailBwdIdeal.nD Cert.TailBwdIdeal.τ).loc Cert.TailBwdIdeal.main_v3_7) = v7 c
          ∧ r.2.mem ((c.tc : Thread Cert.TailBwdIdeal.nD Cert.TailBwdIdeal.τ).loc Cert.TailBwdIdeal.main_v3_8) = v8 c
          ∧ r.2.mem ((c.tc : Thread Cert.TailBwdIdeal.nD Cert.TailBwdIdeal.τ).loc Cert.TailBwdIdeal.main_v3_9) = v9 c
          ∧ r.2.mem ((c.tc : Thread Cert.TailBwdIdeal.nD Cert.TailBwdIdeal.τ).loc Cert.TailBwdIdeal.main_arg0) = m ((c.tc : Thread Cert.TailBwdIdeal.nD Cert.TailBwdIdeal.τ).loc Cert.TailBwdIdeal.main_arg0)
          ∧ r.2.mem ((c.tc : Thread Cert.TailBwdIdeal.nD Cert.TailBwdIdeal.τ).loc Cert.TailBwdIdeal.main_arg1) = m ((c.tc : Thread Cert.TailBwdIdeal.nD Cert.TailBwdIdeal.τ).loc Cert.TailBwdIdeal.main_arg1)
          ∧ r.2.mem ((c.tc : Thread Cert.TailBwdIdeal.nD Cert.TailBwdIdeal.τ).loc Cert.TailBwdIdeal.main_arg2) = m ((c.tc : Thread Cert.TailBwdIdeal.nD Cert.TailBwdIdeal.τ).loc Cert.TailBwdIdeal.main_arg2)
          ∧ r.2.mem ((c.tc : Thread Cert.TailBwdIdeal.nD Cert.TailBwdIdeal.τ).loc Cert.TailBwdIdeal.main_arg3) = m ((c.tc : Thread Cert.TailBwdIdeal.nD Cert.TailBwdIdeal.τ).loc Cert.TailBwdIdeal.main_arg3)
          ∧ r.2.mem ((c.tc : Thread Cert.TailBwdIdeal.nD Cert.TailBwdIdeal.τ).loc Cert.TailBwdIdeal.main_arg4) = m ((c.tc : Thread Cert.TailBwdIdeal.nD Cert.TailBwdIdeal.τ).loc Cert.TailBwdIdeal.main_arg4)
          ∧ r.2.mem ((c.tc : Thread Cert.TailBwdIdeal.nD Cert.TailBwdIdeal.τ).loc Cert.TailBwdIdeal.main_arg5) = m ((c.tc : Thread Cert.TailBwdIdeal.nD Cert.TailBwdIdeal.τ).loc Cert.TailBwdIdeal.main_arg5)
          ∧ r.2.mem ((c.tc : Thread Cert.TailBwdIdeal.nD Cert.TailBwdIdeal.τ).loc Cert.TailBwdIdeal.main_arg6) = m ((c.tc : Thread Cert.TailBwdIdeal.nD Cert.TailBwdIdeal.τ).loc Cert.TailBwdIdeal.main_arg6)
          ∧ r.2.mem ((c.tc : Thread Cert.TailBwdIdeal.nD Cert.TailBwdIdeal.τ).loc Cert.TailBwdIdeal.main_arg7) = m ((c.tc : Thread Cert.TailBwdIdeal.nD Cert.TailBwdIdeal.τ).loc Cert.TailBwdIdeal.main_arg7)
          ∧ r.2.mem ((c.tc : Thread Cert.TailBwdIdeal.nD Cert.TailBwdIdeal.τ).loc Cert.TailBwdIdeal.main_arg8) = m ((c.tc : Thread Cert.TailBwdIdeal.nD Cert.TailBwdIdeal.τ).loc Cert.TailBwdIdeal.main_arg8)
          ∧ r.2.mem ((c.tc : Thread Cert.TailBwdIdeal.nD Cert.TailBwdIdeal.τ).loc Cert.TailBwdIdeal.main_arg9) = m ((c.tc : Thread Cert.TailBwdIdeal.nD Cert.TailBwdIdeal.τ).loc Cert.TailBwdIdeal.main_arg9)
          ∧ r.2.mem ((c.tc : Thread Cert.TailBwdIdeal.nD Cert.TailBwdIdeal.τ).loc Cert.TailBwdIdeal.main_arg10) = m ((c.tc : Thread Cert.TailBwdIdeal.nD Cert.TailBwdIdeal.τ).loc Cert.TailBwdIdeal.main_arg10))
      ∧ θ_run (Cert.TailBwdRefIdeal.defs (F := Ideal)) (onTc (τ := Cert.TailBwdRefIdeal.τ) (Cert.TailBwdRefIdeal.main (F := Ideal))) ⟨m', fun _ => 0, g'⟩ (fun r => ∀ c : Dev Cert.TailBwdRefIdeal.nD,
          r.2.mem ((c.tc : Thread Cert.TailBwdRefIdeal.nD Cert.TailBwdRefIdeal.τ).loc Cert.TailBwdRefIdeal.main_arg10) = v0 c
          ∧ r.2.mem ((c.tc : Thread Cert.TailBwdRefIdeal.nD Cert.TailBwdRefIdeal.τ).loc Cert.TailBwdRefIdeal.main_v103) = v1 c
          ∧ r.2.mem ((c.tc : Thread Cert.TailBwdRefIdeal.nD Cert.TailBwdRefIdeal.τ).loc Cert.TailBwdRefIdeal.main_v104) = v2 c
          ∧ r.2.mem ((c.tc : Thread Cert.TailBwdRefIdeal.nD Cert.TailBwdRefIdeal.τ).loc Cert.TailBwdRefIdeal.main_v101) = v3 c
          ∧ r.2.mem ((c.tc : Thread Cert.TailBwdRefIdeal.nD Cert.TailBwdRefIdeal.τ).loc Cert.TailBwdRefIdeal.main_v78) = v4 c
          ∧ r.2.mem ((c.tc : Thread Cert.TailBwdRefIdeal.nD Cert.TailBwdRefIdeal.τ).loc Cert.TailBwdRefIdeal.main_v86) = v5 c
          ∧ r.2.mem ((c.tc : Thread Cert.TailBwdRefIdeal.nD Cert.TailBwdRefIdeal.τ).loc Cert.TailBwdRefIdeal.main_v72) = v6 c
          ∧ r.2.mem ((c.tc : Thread Cert.TailBwdRefIdeal.nD Cert.TailBwdRefIdeal.τ).loc Cert.TailBwdRefIdeal.main_v54) = v7 c
          ∧ r.2.mem ((c.tc : Thread Cert.TailBwdRefIdeal.nD Cert.TailBwdRefIdeal.τ).loc Cert.TailBwdRefIdeal.main_v51) = v8 c
          ∧ r.2.mem ((c.tc : Thread Cert.TailBwdRefIdeal.nD Cert.TailBwdRefIdeal.τ).loc Cert.TailBwdRefIdeal.main_v51) = v9 c
          ∧ r.2.mem ((c.tc : Thread Cert.TailBwdRefIdeal.nD Cert.TailBwdRefIdeal.τ).loc Cert.TailBwdRefIdeal.main_arg0) = m' ((c.tc : Thread Cert.TailBwdRefIdeal.nD Cert.TailBwdRefIdeal.τ).loc Cert.TailBwdRefIdeal.main_arg0)
          ∧ r.2.mem ((c.tc : Thread Cert.TailBwdRefIdeal.nD Cert.TailBwdRefIdeal.τ).loc Cert.TailBwdRefIdeal.main_arg1) = m' ((c.tc : Thread Cert.TailBwdRefIdeal.nD Cert.TailBwdRefIdeal.τ).loc Cert.TailBwdRefIdeal.main_arg1)
          ∧ r.2.mem ((c.tc : Thread Cert.TailBwdRefIdeal.nD Cert.TailBwdRefIdeal.τ).loc Cert.TailBwdRefIdeal.main_arg2) = m' ((c.tc : Thread Cert.TailBwdRefIdeal.nD Cert.TailBwdRefIdeal.τ).loc Cert.TailBwdRefIdeal.main_arg2)
          ∧ r.2.mem ((c.tc : Thread Cert.TailBwdRefIdeal.nD Cert.TailBwdRefIdeal.τ).loc Cert.TailBwdRefIdeal.main_arg3) = m' ((c.tc : Thread Cert.TailBwdRefIdeal.nD Cert.TailBwdRefIdeal.τ).loc Cert.TailBwdRefIdeal.main_arg3)
          ∧ r.2.mem ((c.tc : Thread Cert.TailBwdRefIdeal.nD Cert.TailBwdRefIdeal.τ).loc Cert.TailBwdRefIdeal.main_arg4) = m' ((c.tc : Thread Cert.TailBwdRefIdeal.nD Cert.TailBwdRefIdeal.τ).loc Cert.TailBwdRefIdeal.main_arg4)
          ∧ r.2.mem ((c.tc : Thread Cert.TailBwdRefIdeal.nD Cert.TailBwdRefIdeal.τ).loc Cert.TailBwdRefIdeal.main_arg5) = m' ((c.tc : Thread Cert.TailBwdRefIdeal.nD Cert.TailBwdRefIdeal.τ).loc Cert.TailBwdRefIdeal.main_arg5)
          ∧ r.2.mem ((c.tc : Thread Cert.TailBwdRefIdeal.nD Cert.TailBwdRefIdeal.τ).loc Cert.TailBwdRefIdeal.main_arg6) = m' ((c.tc : Thread Cert.TailBwdRefIdeal.nD Cert.TailBwdRefIdeal.τ).loc Cert.TailBwdRefIdeal.main_arg6)
          ∧ r.2.mem ((c.tc : Thread Cert.TailBwdRefIdeal.nD Cert.TailBwdRefIdeal.τ).loc Cert.TailBwdRefIdeal.main_arg7) = m' ((c.tc : Thread Cert.TailBwdRefIdeal.nD Cert.TailBwdRefIdeal.τ).loc Cert.TailBwdRefIdeal.main_arg7)
          ∧ r.2.mem ((c.tc : Thread Cert.TailBwdRefIdeal.nD Cert.TailBwdRefIdeal.τ).loc Cert.TailBwdRefIdeal.main_arg8) = m' ((c.tc : Thread Cert.TailBwdRefIdeal.nD Cert.TailBwdRefIdeal.τ).loc Cert.TailBwdRefIdeal.main_arg8)
          ∧ r.2.mem ((c.tc : Thread Cert.TailBwdRefIdeal.nD Cert.TailBwdRefIdeal.τ).loc Cert.TailBwdRefIdeal.main_arg9) = m' ((c.tc : Thread Cert.TailBwdRefIdeal.nD Cert.TailBwdRefIdeal.τ).loc Cert.TailBwdRefIdeal.main_arg9)
          ∧ r.2.mem ((c.tc : Thread Cert.TailBwdRefIdeal.nD Cert.TailBwdRefIdeal.τ).loc Cert.TailBwdRefIdeal.main_arg10) = m' ((c.tc : Thread Cert.TailBwdRefIdeal.nD Cert.TailBwdRefIdeal.τ).loc Cert.TailBwdRefIdeal.main_arg10))

def preserves_MlaFrontBwd_MlaFrontBwdIdeal : Prop :=
  True

def algebraic_MlaFrontBwdIdeal_MlaFrontBwdRefIdeal_pre_mla_finite [hMlaFrontBwdIdeal : Cert.MlaFrontBwdIdeal.Facts] [hMlaFrontBwdRefIdeal : Cert.MlaFrontBwdRefIdeal.Facts] [hPre_mla_finite : Cert.Pre_mla_finite.Facts] : Prop :=
  ∀ (m : (ℓ : Loc Cert.MlaFrontBwdIdeal.nD Cert.MlaFrontBwdIdeal.τ Cert.MlaFrontBwdIdeal.sig) → Buf (Elt Ideal) ℓ) (g : Dev Cert.MlaFrontBwdIdeal.nD → PrngReg)
    (m' : (ℓ : Loc Cert.MlaFrontBwdRefIdeal.nD Cert.MlaFrontBwdRefIdeal.τ Cert.MlaFrontBwdRefIdeal.sig) → Buf (Elt Ideal) ℓ) (g' : Dev Cert.MlaFrontBwdRefIdeal.nD → PrngReg), Pre_MlaFrontBwdIdeal_mla_finite m →
    (∀ c : Dev Cert.MlaFrontBwdIdeal.nD,
      m' ((c.tc : Thread Cert.MlaFrontBwdRefIdeal.nD Cert.MlaFrontBwdRefIdeal.τ).loc Cert.MlaFrontBwdRefIdeal.main_arg0) = m ((c.tc : Thread Cert.MlaFrontBwdIdeal.nD Cert.MlaFrontBwdIdeal.τ).loc Cert.MlaFrontBwdIdeal.main_arg0)
      ∧ m' ((c.tc : Thread Cert.MlaFrontBwdRefIdeal.nD Cert.MlaFrontBwdRefIdeal.τ).loc Cert.MlaFrontBwdRefIdeal.main_arg1) = m ((c.tc : Thread Cert.MlaFrontBwdIdeal.nD Cert.MlaFrontBwdIdeal.τ).loc Cert.MlaFrontBwdIdeal.main_arg1)
      ∧ m' ((c.tc : Thread Cert.MlaFrontBwdRefIdeal.nD Cert.MlaFrontBwdRefIdeal.τ).loc Cert.MlaFrontBwdRefIdeal.main_arg2) = m ((c.tc : Thread Cert.MlaFrontBwdIdeal.nD Cert.MlaFrontBwdIdeal.τ).loc Cert.MlaFrontBwdIdeal.main_arg2)
      ∧ m' ((c.tc : Thread Cert.MlaFrontBwdRefIdeal.nD Cert.MlaFrontBwdRefIdeal.τ).loc Cert.MlaFrontBwdRefIdeal.main_arg3) = m ((c.tc : Thread Cert.MlaFrontBwdIdeal.nD Cert.MlaFrontBwdIdeal.τ).loc Cert.MlaFrontBwdIdeal.main_arg3)
      ∧ m' ((c.tc : Thread Cert.MlaFrontBwdRefIdeal.nD Cert.MlaFrontBwdRefIdeal.τ).loc Cert.MlaFrontBwdRefIdeal.main_arg4) = m ((c.tc : Thread Cert.MlaFrontBwdIdeal.nD Cert.MlaFrontBwdIdeal.τ).loc Cert.MlaFrontBwdIdeal.main_arg4)
      ∧ m' ((c.tc : Thread Cert.MlaFrontBwdRefIdeal.nD Cert.MlaFrontBwdRefIdeal.τ).loc Cert.MlaFrontBwdRefIdeal.main_arg5) = m ((c.tc : Thread Cert.MlaFrontBwdIdeal.nD Cert.MlaFrontBwdIdeal.τ).loc Cert.MlaFrontBwdIdeal.main_arg5)
      ∧ m' ((c.tc : Thread Cert.MlaFrontBwdRefIdeal.nD Cert.MlaFrontBwdRefIdeal.τ).loc Cert.MlaFrontBwdRefIdeal.main_arg6) = m ((c.tc : Thread Cert.MlaFrontBwdIdeal.nD Cert.MlaFrontBwdIdeal.τ).loc Cert.MlaFrontBwdIdeal.main_arg6)
      ∧ m' ((c.tc : Thread Cert.MlaFrontBwdRefIdeal.nD Cert.MlaFrontBwdRefIdeal.τ).loc Cert.MlaFrontBwdRefIdeal.main_arg7) = m ((c.tc : Thread Cert.MlaFrontBwdIdeal.nD Cert.MlaFrontBwdIdeal.τ).loc Cert.MlaFrontBwdIdeal.main_arg7)
      ∧ m' ((c.tc : Thread Cert.MlaFrontBwdRefIdeal.nD Cert.MlaFrontBwdRefIdeal.τ).loc Cert.MlaFrontBwdRefIdeal.main_arg8) = m ((c.tc : Thread Cert.MlaFrontBwdIdeal.nD Cert.MlaFrontBwdIdeal.τ).loc Cert.MlaFrontBwdIdeal.main_arg8)
      ∧ m' ((c.tc : Thread Cert.MlaFrontBwdRefIdeal.nD Cert.MlaFrontBwdRefIdeal.τ).loc Cert.MlaFrontBwdRefIdeal.main_arg9) = m ((c.tc : Thread Cert.MlaFrontBwdIdeal.nD Cert.MlaFrontBwdIdeal.τ).loc Cert.MlaFrontBwdIdeal.main_arg9)
      ∧ m' ((c.tc : Thread Cert.MlaFrontBwdRefIdeal.nD Cert.MlaFrontBwdRefIdeal.τ).loc Cert.MlaFrontBwdRefIdeal.main_arg10) = m ((c.tc : Thread Cert.MlaFrontBwdIdeal.nD Cert.MlaFrontBwdIdeal.τ).loc Cert.MlaFrontBwdIdeal.main_arg10)) →
    ∃ (v0 : (c : Dev Cert.MlaFrontBwdIdeal.nD) → Buf (Elt Ideal) ((c.tc : Thread Cert.MlaFrontBwdIdeal.nD Cert.MlaFrontBwdIdeal.τ).loc Cert.MlaFrontBwdIdeal.main_v62_0)) (v1 : (c : Dev Cert.MlaFrontBwdIdeal.nD) → Buf (Elt Ideal) ((c.tc : Thread Cert.MlaFrontBwdIdeal.nD Cert.MlaFrontBwdIdeal.τ).loc Cert.MlaFrontBwdIdeal.main_v62_1)) (v2 : (c : Dev Cert.MlaFrontBwdIdeal.nD) → Buf (Elt Ideal) ((c.tc : Thread Cert.MlaFrontBwdIdeal.nD Cert.MlaFrontBwdIdeal.τ).loc Cert.MlaFrontBwdIdeal.main_v81)) (v3 : (c : Dev Cert.MlaFrontBwdIdeal.nD) → Buf (Elt Ideal) ((c.tc : Thread Cert.MlaFrontBwdIdeal.nD Cert.MlaFrontBwdIdeal.τ).loc Cert.MlaFrontBwdIdeal.main_v62_3)) (v4 : (c : Dev Cert.MlaFrontBwdIdeal.nD) → Buf (Elt Ideal) ((c.tc : Thread Cert.MlaFrontBwdIdeal.nD Cert.MlaFrontBwdIdeal.τ).loc Cert.MlaFrontBwdIdeal.main_v72)) (v5 : (c : Dev Cert.MlaFrontBwdIdeal.nD) → Buf (Elt Ideal) ((c.tc : Thread Cert.MlaFrontBwdIdeal.nD Cert.MlaFrontBwdIdeal.τ).loc Cert.MlaFrontBwdIdeal.main_v62_5)) (v6 : (c : Dev Cert.MlaFrontBwdIdeal.nD) → Buf (Elt Ideal) ((c.tc : Thread Cert.MlaFrontBwdIdeal.nD Cert.MlaFrontBwdIdeal.τ).loc Cert.MlaFrontBwdIdeal.main_v75)),
      θ_run (Cert.MlaFrontBwdIdeal.defs (F := Ideal)) (onTc (τ := Cert.MlaFrontBwdIdeal.τ) (Cert.MlaFrontBwdIdeal.main (F := Ideal))) ⟨m, fun _ => 0, g⟩ (fun r => ∀ c : Dev Cert.MlaFrontBwdIdeal.nD,
          r.2.mem ((c.tc : Thread Cert.MlaFrontBwdIdeal.nD Cert.MlaFrontBwdIdeal.τ).loc Cert.MlaFrontBwdIdeal.main_v62_0) = v0 c
          ∧ r.2.mem ((c.tc : Thread Cert.MlaFrontBwdIdeal.nD Cert.MlaFrontBwdIdeal.τ).loc Cert.MlaFrontBwdIdeal.main_v62_1) = v1 c
          ∧ r.2.mem ((c.tc : Thread Cert.MlaFrontBwdIdeal.nD Cert.MlaFrontBwdIdeal.τ).loc Cert.MlaFrontBwdIdeal.main_v81) = v2 c
          ∧ r.2.mem ((c.tc : Thread Cert.MlaFrontBwdIdeal.nD Cert.MlaFrontBwdIdeal.τ).loc Cert.MlaFrontBwdIdeal.main_v62_3) = v3 c
          ∧ r.2.mem ((c.tc : Thread Cert.MlaFrontBwdIdeal.nD Cert.MlaFrontBwdIdeal.τ).loc Cert.MlaFrontBwdIdeal.main_v72) = v4 c
          ∧ r.2.mem ((c.tc : Thread Cert.MlaFrontBwdIdeal.nD Cert.MlaFrontBwdIdeal.τ).loc Cert.MlaFrontBwdIdeal.main_v62_5) = v5 c
          ∧ r.2.mem ((c.tc : Thread Cert.MlaFrontBwdIdeal.nD Cert.MlaFrontBwdIdeal.τ).loc Cert.MlaFrontBwdIdeal.main_v75) = v6 c
          ∧ r.2.mem ((c.tc : Thread Cert.MlaFrontBwdIdeal.nD Cert.MlaFrontBwdIdeal.τ).loc Cert.MlaFrontBwdIdeal.main_arg0) = m ((c.tc : Thread Cert.MlaFrontBwdIdeal.nD Cert.MlaFrontBwdIdeal.τ).loc Cert.MlaFrontBwdIdeal.main_arg0)
          ∧ r.2.mem ((c.tc : Thread Cert.MlaFrontBwdIdeal.nD Cert.MlaFrontBwdIdeal.τ).loc Cert.MlaFrontBwdIdeal.main_arg1) = m ((c.tc : Thread Cert.MlaFrontBwdIdeal.nD Cert.MlaFrontBwdIdeal.τ).loc Cert.MlaFrontBwdIdeal.main_arg1)
          ∧ r.2.mem ((c.tc : Thread Cert.MlaFrontBwdIdeal.nD Cert.MlaFrontBwdIdeal.τ).loc Cert.MlaFrontBwdIdeal.main_arg2) = m ((c.tc : Thread Cert.MlaFrontBwdIdeal.nD Cert.MlaFrontBwdIdeal.τ).loc Cert.MlaFrontBwdIdeal.main_arg2)
          ∧ r.2.mem ((c.tc : Thread Cert.MlaFrontBwdIdeal.nD Cert.MlaFrontBwdIdeal.τ).loc Cert.MlaFrontBwdIdeal.main_arg3) = m ((c.tc : Thread Cert.MlaFrontBwdIdeal.nD Cert.MlaFrontBwdIdeal.τ).loc Cert.MlaFrontBwdIdeal.main_arg3)
          ∧ r.2.mem ((c.tc : Thread Cert.MlaFrontBwdIdeal.nD Cert.MlaFrontBwdIdeal.τ).loc Cert.MlaFrontBwdIdeal.main_arg4) = m ((c.tc : Thread Cert.MlaFrontBwdIdeal.nD Cert.MlaFrontBwdIdeal.τ).loc Cert.MlaFrontBwdIdeal.main_arg4)
          ∧ r.2.mem ((c.tc : Thread Cert.MlaFrontBwdIdeal.nD Cert.MlaFrontBwdIdeal.τ).loc Cert.MlaFrontBwdIdeal.main_arg5) = m ((c.tc : Thread Cert.MlaFrontBwdIdeal.nD Cert.MlaFrontBwdIdeal.τ).loc Cert.MlaFrontBwdIdeal.main_arg5)
          ∧ r.2.mem ((c.tc : Thread Cert.MlaFrontBwdIdeal.nD Cert.MlaFrontBwdIdeal.τ).loc Cert.MlaFrontBwdIdeal.main_arg6) = m ((c.tc : Thread Cert.MlaFrontBwdIdeal.nD Cert.MlaFrontBwdIdeal.τ).loc Cert.MlaFrontBwdIdeal.main_arg6)
          ∧ r.2.mem ((c.tc : Thread Cert.MlaFrontBwdIdeal.nD Cert.MlaFrontBwdIdeal.τ).loc Cert.MlaFrontBwdIdeal.main_arg7) = m ((c.tc : Thread Cert.MlaFrontBwdIdeal.nD Cert.MlaFrontBwdIdeal.τ).loc Cert.MlaFrontBwdIdeal.main_arg7)
          ∧ r.2.mem ((c.tc : Thread Cert.MlaFrontBwdIdeal.nD Cert.MlaFrontBwdIdeal.τ).loc Cert.MlaFrontBwdIdeal.main_arg8) = m ((c.tc : Thread Cert.MlaFrontBwdIdeal.nD Cert.MlaFrontBwdIdeal.τ).loc Cert.MlaFrontBwdIdeal.main_arg8)
          ∧ r.2.mem ((c.tc : Thread Cert.MlaFrontBwdIdeal.nD Cert.MlaFrontBwdIdeal.τ).loc Cert.MlaFrontBwdIdeal.main_arg9) = m ((c.tc : Thread Cert.MlaFrontBwdIdeal.nD Cert.MlaFrontBwdIdeal.τ).loc Cert.MlaFrontBwdIdeal.main_arg9)
          ∧ r.2.mem ((c.tc : Thread Cert.MlaFrontBwdIdeal.nD Cert.MlaFrontBwdIdeal.τ).loc Cert.MlaFrontBwdIdeal.main_arg10) = m ((c.tc : Thread Cert.MlaFrontBwdIdeal.nD Cert.MlaFrontBwdIdeal.τ).loc Cert.MlaFrontBwdIdeal.main_arg10))
      ∧ θ_run (Cert.MlaFrontBwdRefIdeal.defs (F := Ideal)) (onTc (τ := Cert.MlaFrontBwdRefIdeal.τ) (Cert.MlaFrontBwdRefIdeal.main (F := Ideal))) ⟨m', fun _ => 0, g'⟩ (fun r => ∀ c : Dev Cert.MlaFrontBwdRefIdeal.nD,
          r.2.mem ((c.tc : Thread Cert.MlaFrontBwdRefIdeal.nD Cert.MlaFrontBwdRefIdeal.τ).loc Cert.MlaFrontBwdRefIdeal.main_v184) = v0 c
          ∧ r.2.mem ((c.tc : Thread Cert.MlaFrontBwdRefIdeal.nD Cert.MlaFrontBwdRefIdeal.τ).loc Cert.MlaFrontBwdRefIdeal.main_v140) = v1 c
          ∧ r.2.mem ((c.tc : Thread Cert.MlaFrontBwdRefIdeal.nD Cert.MlaFrontBwdRefIdeal.τ).loc Cert.MlaFrontBwdRefIdeal.main_v114) = v2 c
          ∧ r.2.mem ((c.tc : Thread Cert.MlaFrontBwdRefIdeal.nD Cert.MlaFrontBwdRefIdeal.τ).loc Cert.MlaFrontBwdRefIdeal.main_v168) = v3 c
          ∧ r.2.mem ((c.tc : Thread Cert.MlaFrontBwdRefIdeal.nD Cert.MlaFrontBwdRefIdeal.τ).loc Cert.MlaFrontBwdRefIdeal.main_v164) = v4 c
          ∧ r.2.mem ((c.tc : Thread Cert.MlaFrontBwdRefIdeal.nD Cert.MlaFrontBwdRefIdeal.τ).loc Cert.MlaFrontBwdRefIdeal.main_v124) = v5 c
          ∧ r.2.mem ((c.tc : Thread Cert.MlaFrontBwdRefIdeal.nD Cert.MlaFrontBwdRefIdeal.τ).loc Cert.MlaFrontBwdRefIdeal.main_v120) = v6 c
          ∧ r.2.mem ((c.tc : Thread Cert.MlaFrontBwdRefIdeal.nD Cert.MlaFrontBwdRefIdeal.τ).loc Cert.MlaFrontBwdRefIdeal.main_arg0) = m' ((c.tc : Thread Cert.MlaFrontBwdRefIdeal.nD Cert.MlaFrontBwdRefIdeal.τ).loc Cert.MlaFrontBwdRefIdeal.main_arg0)
          ∧ r.2.mem ((c.tc : Thread Cert.MlaFrontBwdRefIdeal.nD Cert.MlaFrontBwdRefIdeal.τ).loc Cert.MlaFrontBwdRefIdeal.main_arg1) = m' ((c.tc : Thread Cert.MlaFrontBwdRefIdeal.nD Cert.MlaFrontBwdRefIdeal.τ).loc Cert.MlaFrontBwdRefIdeal.main_arg1)
          ∧ r.2.mem ((c.tc : Thread Cert.MlaFrontBwdRefIdeal.nD Cert.MlaFrontBwdRefIdeal.τ).loc Cert.MlaFrontBwdRefIdeal.main_arg2) = m' ((c.tc : Thread Cert.MlaFrontBwdRefIdeal.nD Cert.MlaFrontBwdRefIdeal.τ).loc Cert.MlaFrontBwdRefIdeal.main_arg2)
          ∧ r.2.mem ((c.tc : Thread Cert.MlaFrontBwdRefIdeal.nD Cert.MlaFrontBwdRefIdeal.τ).loc Cert.MlaFrontBwdRefIdeal.main_arg3) = m' ((c.tc : Thread Cert.MlaFrontBwdRefIdeal.nD Cert.MlaFrontBwdRefIdeal.τ).loc Cert.MlaFrontBwdRefIdeal.main_arg3)
          ∧ r.2.mem ((c.tc : Thread Cert.MlaFrontBwdRefIdeal.nD Cert.MlaFrontBwdRefIdeal.τ).loc Cert.MlaFrontBwdRefIdeal.main_arg4) = m' ((c.tc : Thread Cert.MlaFrontBwdRefIdeal.nD Cert.MlaFrontBwdRefIdeal.τ).loc Cert.MlaFrontBwdRefIdeal.main_arg4)
          ∧ r.2.mem ((c.tc : Thread Cert.MlaFrontBwdRefIdeal.nD Cert.MlaFrontBwdRefIdeal.τ).loc Cert.MlaFrontBwdRefIdeal.main_arg5) = m' ((c.tc : Thread Cert.MlaFrontBwdRefIdeal.nD Cert.MlaFrontBwdRefIdeal.τ).loc Cert.MlaFrontBwdRefIdeal.main_arg5)
          ∧ r.2.mem ((c.tc : Thread Cert.MlaFrontBwdRefIdeal.nD Cert.MlaFrontBwdRefIdeal.τ).loc Cert.MlaFrontBwdRefIdeal.main_arg6) = m' ((c.tc : Thread Cert.MlaFrontBwdRefIdeal.nD Cert.MlaFrontBwdRefIdeal.τ).loc Cert.MlaFrontBwdRefIdeal.main_arg6)
          ∧ r.2.mem ((c.tc : Thread Cert.MlaFrontBwdRefIdeal.nD Cert.MlaFrontBwdRefIdeal.τ).loc Cert.MlaFrontBwdRefIdeal.main_arg7) = m' ((c.tc : Thread Cert.MlaFrontBwdRefIdeal.nD Cert.MlaFrontBwdRefIdeal.τ).loc Cert.MlaFrontBwdRefIdeal.main_arg7)
          ∧ r.2.mem ((c.tc : Thread Cert.MlaFrontBwdRefIdeal.nD Cert.MlaFrontBwdRefIdeal.τ).loc Cert.MlaFrontBwdRefIdeal.main_arg8) = m' ((c.tc : Thread Cert.MlaFrontBwdRefIdeal.nD Cert.MlaFrontBwdRefIdeal.τ).loc Cert.MlaFrontBwdRefIdeal.main_arg8)
          ∧ r.2.mem ((c.tc : Thread Cert.MlaFrontBwdRefIdeal.nD Cert.MlaFrontBwdRefIdeal.τ).loc Cert.MlaFrontBwdRefIdeal.main_arg9) = m' ((c.tc : Thread Cert.MlaFrontBwdRefIdeal.nD Cert.MlaFrontBwdRefIdeal.τ).loc Cert.MlaFrontBwdRefIdeal.main_arg9)
          ∧ r.2.mem ((c.tc : Thread Cert.MlaFrontBwdRefIdeal.nD Cert.MlaFrontBwdRefIdeal.τ).loc Cert.MlaFrontBwdRefIdeal.main_arg10) = m' ((c.tc : Thread Cert.MlaFrontBwdRefIdeal.nD Cert.MlaFrontBwdRefIdeal.τ).loc Cert.MlaFrontBwdRefIdeal.main_arg10))

def preserves_FrontBwd_FrontBwdIdeal : Prop :=
  True

def algebraic_FrontBwdIdeal_FrontBwdRefIdeal_pre_front_finite [hFrontBwdIdeal : Cert.FrontBwdIdeal.Facts] [hFrontBwdRefIdeal : Cert.FrontBwdRefIdeal.Facts] [hPre_front_finite : Cert.Pre_front_finite.Facts] : Prop :=
  ∀ (m : (ℓ : Loc Cert.FrontBwdIdeal.nD Cert.FrontBwdIdeal.τ Cert.FrontBwdIdeal.sig) → Buf (Elt Ideal) ℓ) (g : Dev Cert.FrontBwdIdeal.nD → PrngReg)
    (m' : (ℓ : Loc Cert.FrontBwdRefIdeal.nD Cert.FrontBwdRefIdeal.τ Cert.FrontBwdRefIdeal.sig) → Buf (Elt Ideal) ℓ) (g' : Dev Cert.FrontBwdRefIdeal.nD → PrngReg), Pre_FrontBwdIdeal_front_finite m →
    (∀ c : Dev Cert.FrontBwdIdeal.nD,
      m' ((c.tc : Thread Cert.FrontBwdRefIdeal.nD Cert.FrontBwdRefIdeal.τ).loc Cert.FrontBwdRefIdeal.main_arg0) = m ((c.tc : Thread Cert.FrontBwdIdeal.nD Cert.FrontBwdIdeal.τ).loc Cert.FrontBwdIdeal.main_arg0)
      ∧ m' ((c.tc : Thread Cert.FrontBwdRefIdeal.nD Cert.FrontBwdRefIdeal.τ).loc Cert.FrontBwdRefIdeal.main_arg1) = m ((c.tc : Thread Cert.FrontBwdIdeal.nD Cert.FrontBwdIdeal.τ).loc Cert.FrontBwdIdeal.main_arg1)
      ∧ m' ((c.tc : Thread Cert.FrontBwdRefIdeal.nD Cert.FrontBwdRefIdeal.τ).loc Cert.FrontBwdRefIdeal.main_arg2) = m ((c.tc : Thread Cert.FrontBwdIdeal.nD Cert.FrontBwdIdeal.τ).loc Cert.FrontBwdIdeal.main_arg2)
      ∧ m' ((c.tc : Thread Cert.FrontBwdRefIdeal.nD Cert.FrontBwdRefIdeal.τ).loc Cert.FrontBwdRefIdeal.main_arg3) = m ((c.tc : Thread Cert.FrontBwdIdeal.nD Cert.FrontBwdIdeal.τ).loc Cert.FrontBwdIdeal.main_arg3)
      ∧ m' ((c.tc : Thread Cert.FrontBwdRefIdeal.nD Cert.FrontBwdRefIdeal.τ).loc Cert.FrontBwdRefIdeal.main_arg4) = m ((c.tc : Thread Cert.FrontBwdIdeal.nD Cert.FrontBwdIdeal.τ).loc Cert.FrontBwdIdeal.main_arg4)
      ∧ m' ((c.tc : Thread Cert.FrontBwdRefIdeal.nD Cert.FrontBwdRefIdeal.τ).loc Cert.FrontBwdRefIdeal.main_arg5) = m ((c.tc : Thread Cert.FrontBwdIdeal.nD Cert.FrontBwdIdeal.τ).loc Cert.FrontBwdIdeal.main_arg5)
      ∧ m' ((c.tc : Thread Cert.FrontBwdRefIdeal.nD Cert.FrontBwdRefIdeal.τ).loc Cert.FrontBwdRefIdeal.main_arg6) = m ((c.tc : Thread Cert.FrontBwdIdeal.nD Cert.FrontBwdIdeal.τ).loc Cert.FrontBwdIdeal.main_arg6)
      ∧ m' ((c.tc : Thread Cert.FrontBwdRefIdeal.nD Cert.FrontBwdRefIdeal.τ).loc Cert.FrontBwdRefIdeal.main_arg7) = m ((c.tc : Thread Cert.FrontBwdIdeal.nD Cert.FrontBwdIdeal.τ).loc Cert.FrontBwdIdeal.main_arg7)
      ∧ m' ((c.tc : Thread Cert.FrontBwdRefIdeal.nD Cert.FrontBwdRefIdeal.τ).loc Cert.FrontBwdRefIdeal.main_arg8) = m ((c.tc : Thread Cert.FrontBwdIdeal.nD Cert.FrontBwdIdeal.τ).loc Cert.FrontBwdIdeal.main_arg8)
      ∧ m' ((c.tc : Thread Cert.FrontBwdRefIdeal.nD Cert.FrontBwdRefIdeal.τ).loc Cert.FrontBwdRefIdeal.main_arg9) = m ((c.tc : Thread Cert.FrontBwdIdeal.nD Cert.FrontBwdIdeal.τ).loc Cert.FrontBwdIdeal.main_arg9)
      ∧ m' ((c.tc : Thread Cert.FrontBwdRefIdeal.nD Cert.FrontBwdRefIdeal.τ).loc Cert.FrontBwdRefIdeal.main_arg10) = m ((c.tc : Thread Cert.FrontBwdIdeal.nD Cert.FrontBwdIdeal.τ).loc Cert.FrontBwdIdeal.main_arg10)
      ∧ m' ((c.tc : Thread Cert.FrontBwdRefIdeal.nD Cert.FrontBwdRefIdeal.τ).loc Cert.FrontBwdRefIdeal.main_arg11) = m ((c.tc : Thread Cert.FrontBwdIdeal.nD Cert.FrontBwdIdeal.τ).loc Cert.FrontBwdIdeal.main_arg11)
      ∧ m' ((c.tc : Thread Cert.FrontBwdRefIdeal.nD Cert.FrontBwdRefIdeal.τ).loc Cert.FrontBwdRefIdeal.main_arg12) = m ((c.tc : Thread Cert.FrontBwdIdeal.nD Cert.FrontBwdIdeal.τ).loc Cert.FrontBwdIdeal.main_arg12)
      ∧ m' ((c.tc : Thread Cert.FrontBwdRefIdeal.nD Cert.FrontBwdRefIdeal.τ).loc Cert.FrontBwdRefIdeal.main_arg13) = m ((c.tc : Thread Cert.FrontBwdIdeal.nD Cert.FrontBwdIdeal.τ).loc Cert.FrontBwdIdeal.main_arg13)
      ∧ m' ((c.tc : Thread Cert.FrontBwdRefIdeal.nD Cert.FrontBwdRefIdeal.τ).loc Cert.FrontBwdRefIdeal.main_arg14) = m ((c.tc : Thread Cert.FrontBwdIdeal.nD Cert.FrontBwdIdeal.τ).loc Cert.FrontBwdIdeal.main_arg14)
      ∧ m' ((c.tc : Thread Cert.FrontBwdRefIdeal.nD Cert.FrontBwdRefIdeal.τ).loc Cert.FrontBwdRefIdeal.main_arg15) = m ((c.tc : Thread Cert.FrontBwdIdeal.nD Cert.FrontBwdIdeal.τ).loc Cert.FrontBwdIdeal.main_arg15)
      ∧ m' ((c.tc : Thread Cert.FrontBwdRefIdeal.nD Cert.FrontBwdRefIdeal.τ).loc Cert.FrontBwdRefIdeal.main_arg16) = m ((c.tc : Thread Cert.FrontBwdIdeal.nD Cert.FrontBwdIdeal.τ).loc Cert.FrontBwdIdeal.main_arg16)) →
    ∃ (v0 : (c : Dev Cert.FrontBwdIdeal.nD) → Buf (Elt Ideal) ((c.tc : Thread Cert.FrontBwdIdeal.nD Cert.FrontBwdIdeal.τ).loc Cert.FrontBwdIdeal.main_v26_0)) (v1 : (c : Dev Cert.FrontBwdIdeal.nD) → Buf (Elt Ideal) ((c.tc : Thread Cert.FrontBwdIdeal.nD Cert.FrontBwdIdeal.τ).loc Cert.FrontBwdIdeal.main_v26_1)) (v2 : (c : Dev Cert.FrontBwdIdeal.nD) → Buf (Elt Ideal) ((c.tc : Thread Cert.FrontBwdIdeal.nD Cert.FrontBwdIdeal.τ).loc Cert.FrontBwdIdeal.main_v26_2)) (v3 : (c : Dev Cert.FrontBwdIdeal.nD) → Buf (Elt Ideal) ((c.tc : Thread Cert.FrontBwdIdeal.nD Cert.FrontBwdIdeal.τ).loc Cert.FrontBwdIdeal.main_v26_3)) (v4 : (c : Dev Cert.FrontBwdIdeal.nD) → Buf (Elt Ideal) ((c.tc : Thread Cert.FrontBwdIdeal.nD Cert.FrontBwdIdeal.τ).loc Cert.FrontBwdIdeal.main_v26_4)) (v5 : (c : Dev Cert.FrontBwdIdeal.nD) → Buf (Elt Ideal) ((c.tc : Thread Cert.FrontBwdIdeal.nD Cert.FrontBwdIdeal.τ).loc Cert.FrontBwdIdeal.main_v26_5)) (v6 : (c : Dev Cert.FrontBwdIdeal.nD) → Buf (Elt Ideal) ((c.tc : Thread Cert.FrontBwdIdeal.nD Cert.FrontBwdIdeal.τ).loc Cert.FrontBwdIdeal.main_v34)),
      θ_run (Cert.FrontBwdIdeal.defs (F := Ideal)) (onTc (τ := Cert.FrontBwdIdeal.τ) (Cert.FrontBwdIdeal.main (F := Ideal))) ⟨m, fun _ => 0, g⟩ (fun r => ∀ c : Dev Cert.FrontBwdIdeal.nD,
          r.2.mem ((c.tc : Thread Cert.FrontBwdIdeal.nD Cert.FrontBwdIdeal.τ).loc Cert.FrontBwdIdeal.main_v26_0) = v0 c
          ∧ r.2.mem ((c.tc : Thread Cert.FrontBwdIdeal.nD Cert.FrontBwdIdeal.τ).loc Cert.FrontBwdIdeal.main_v26_1) = v1 c
          ∧ r.2.mem ((c.tc : Thread Cert.FrontBwdIdeal.nD Cert.FrontBwdIdeal.τ).loc Cert.FrontBwdIdeal.main_v26_2) = v2 c
          ∧ r.2.mem ((c.tc : Thread Cert.FrontBwdIdeal.nD Cert.FrontBwdIdeal.τ).loc Cert.FrontBwdIdeal.main_v26_3) = v3 c
          ∧ r.2.mem ((c.tc : Thread Cert.FrontBwdIdeal.nD Cert.FrontBwdIdeal.τ).loc Cert.FrontBwdIdeal.main_v26_4) = v4 c
          ∧ r.2.mem ((c.tc : Thread Cert.FrontBwdIdeal.nD Cert.FrontBwdIdeal.τ).loc Cert.FrontBwdIdeal.main_v26_5) = v5 c
          ∧ r.2.mem ((c.tc : Thread Cert.FrontBwdIdeal.nD Cert.FrontBwdIdeal.τ).loc Cert.FrontBwdIdeal.main_v34) = v6 c
          ∧ r.2.mem ((c.tc : Thread Cert.FrontBwdIdeal.nD Cert.FrontBwdIdeal.τ).loc Cert.FrontBwdIdeal.main_arg0) = m ((c.tc : Thread Cert.FrontBwdIdeal.nD Cert.FrontBwdIdeal.τ).loc Cert.FrontBwdIdeal.main_arg0)
          ∧ r.2.mem ((c.tc : Thread Cert.FrontBwdIdeal.nD Cert.FrontBwdIdeal.τ).loc Cert.FrontBwdIdeal.main_arg1) = m ((c.tc : Thread Cert.FrontBwdIdeal.nD Cert.FrontBwdIdeal.τ).loc Cert.FrontBwdIdeal.main_arg1)
          ∧ r.2.mem ((c.tc : Thread Cert.FrontBwdIdeal.nD Cert.FrontBwdIdeal.τ).loc Cert.FrontBwdIdeal.main_arg2) = m ((c.tc : Thread Cert.FrontBwdIdeal.nD Cert.FrontBwdIdeal.τ).loc Cert.FrontBwdIdeal.main_arg2)
          ∧ r.2.mem ((c.tc : Thread Cert.FrontBwdIdeal.nD Cert.FrontBwdIdeal.τ).loc Cert.FrontBwdIdeal.main_arg3) = m ((c.tc : Thread Cert.FrontBwdIdeal.nD Cert.FrontBwdIdeal.τ).loc Cert.FrontBwdIdeal.main_arg3)
          ∧ r.2.mem ((c.tc : Thread Cert.FrontBwdIdeal.nD Cert.FrontBwdIdeal.τ).loc Cert.FrontBwdIdeal.main_arg4) = m ((c.tc : Thread Cert.FrontBwdIdeal.nD Cert.FrontBwdIdeal.τ).loc Cert.FrontBwdIdeal.main_arg4)
          ∧ r.2.mem ((c.tc : Thread Cert.FrontBwdIdeal.nD Cert.FrontBwdIdeal.τ).loc Cert.FrontBwdIdeal.main_arg5) = m ((c.tc : Thread Cert.FrontBwdIdeal.nD Cert.FrontBwdIdeal.τ).loc Cert.FrontBwdIdeal.main_arg5)
          ∧ r.2.mem ((c.tc : Thread Cert.FrontBwdIdeal.nD Cert.FrontBwdIdeal.τ).loc Cert.FrontBwdIdeal.main_arg6) = m ((c.tc : Thread Cert.FrontBwdIdeal.nD Cert.FrontBwdIdeal.τ).loc Cert.FrontBwdIdeal.main_arg6)
          ∧ r.2.mem ((c.tc : Thread Cert.FrontBwdIdeal.nD Cert.FrontBwdIdeal.τ).loc Cert.FrontBwdIdeal.main_arg7) = m ((c.tc : Thread Cert.FrontBwdIdeal.nD Cert.FrontBwdIdeal.τ).loc Cert.FrontBwdIdeal.main_arg7)
          ∧ r.2.mem ((c.tc : Thread Cert.FrontBwdIdeal.nD Cert.FrontBwdIdeal.τ).loc Cert.FrontBwdIdeal.main_arg8) = m ((c.tc : Thread Cert.FrontBwdIdeal.nD Cert.FrontBwdIdeal.τ).loc Cert.FrontBwdIdeal.main_arg8)
          ∧ r.2.mem ((c.tc : Thread Cert.FrontBwdIdeal.nD Cert.FrontBwdIdeal.τ).loc Cert.FrontBwdIdeal.main_arg9) = m ((c.tc : Thread Cert.FrontBwdIdeal.nD Cert.FrontBwdIdeal.τ).loc Cert.FrontBwdIdeal.main_arg9)
          ∧ r.2.mem ((c.tc : Thread Cert.FrontBwdIdeal.nD Cert.FrontBwdIdeal.τ).loc Cert.FrontBwdIdeal.main_arg10) = m ((c.tc : Thread Cert.FrontBwdIdeal.nD Cert.FrontBwdIdeal.τ).loc Cert.FrontBwdIdeal.main_arg10)
          ∧ r.2.mem ((c.tc : Thread Cert.FrontBwdIdeal.nD Cert.FrontBwdIdeal.τ).loc Cert.FrontBwdIdeal.main_arg11) = m ((c.tc : Thread Cert.FrontBwdIdeal.nD Cert.FrontBwdIdeal.τ).loc Cert.FrontBwdIdeal.main_arg11)
          ∧ r.2.mem ((c.tc : Thread Cert.FrontBwdIdeal.nD Cert.FrontBwdIdeal.τ).loc Cert.FrontBwdIdeal.main_arg12) = m ((c.tc : Thread Cert.FrontBwdIdeal.nD Cert.FrontBwdIdeal.τ).loc Cert.FrontBwdIdeal.main_arg12)
          ∧ r.2.mem ((c.tc : Thread Cert.FrontBwdIdeal.nD Cert.FrontBwdIdeal.τ).loc Cert.FrontBwdIdeal.main_arg13) = m ((c.tc : Thread Cert.FrontBwdIdeal.nD Cert.FrontBwdIdeal.τ).loc Cert.FrontBwdIdeal.main_arg13)
          ∧ r.2.mem ((c.tc : Thread Cert.FrontBwdIdeal.nD Cert.FrontBwdIdeal.τ).loc Cert.FrontBwdIdeal.main_arg14) = m ((c.tc : Thread Cert.FrontBwdIdeal.nD Cert.FrontBwdIdeal.τ).loc Cert.FrontBwdIdeal.main_arg14)
          ∧ r.2.mem ((c.tc : Thread Cert.FrontBwdIdeal.nD Cert.FrontBwdIdeal.τ).loc Cert.FrontBwdIdeal.main_arg15) = m ((c.tc : Thread Cert.FrontBwdIdeal.nD Cert.FrontBwdIdeal.τ).loc Cert.FrontBwdIdeal.main_arg15)
          ∧ r.2.mem ((c.tc : Thread Cert.FrontBwdIdeal.nD Cert.FrontBwdIdeal.τ).loc Cert.FrontBwdIdeal.main_arg16) = m ((c.tc : Thread Cert.FrontBwdIdeal.nD Cert.FrontBwdIdeal.τ).loc Cert.FrontBwdIdeal.main_arg16))
      ∧ θ_run (Cert.FrontBwdRefIdeal.defs (F := Ideal)) (onTc (τ := Cert.FrontBwdRefIdeal.τ) (Cert.FrontBwdRefIdeal.main (F := Ideal))) ⟨m', fun _ => 0, g'⟩ (fun r => ∀ c : Dev Cert.FrontBwdRefIdeal.nD,
          r.2.mem ((c.tc : Thread Cert.FrontBwdRefIdeal.nD Cert.FrontBwdRefIdeal.τ).loc Cert.FrontBwdRefIdeal.main_v74) = v0 c
          ∧ r.2.mem ((c.tc : Thread Cert.FrontBwdRefIdeal.nD Cert.FrontBwdRefIdeal.τ).loc Cert.FrontBwdRefIdeal.main_v57) = v1 c
          ∧ r.2.mem ((c.tc : Thread Cert.FrontBwdRefIdeal.nD Cert.FrontBwdRefIdeal.τ).loc Cert.FrontBwdRefIdeal.main_v52) = v2 c
          ∧ r.2.mem ((c.tc : Thread Cert.FrontBwdRefIdeal.nD Cert.FrontBwdRefIdeal.τ).loc Cert.FrontBwdRefIdeal.main_v52) = v3 c
          ∧ r.2.mem ((c.tc : Thread Cert.FrontBwdRefIdeal.nD Cert.FrontBwdRefIdeal.τ).loc Cert.FrontBwdRefIdeal.main_v49) = v4 c
          ∧ r.2.mem ((c.tc : Thread Cert.FrontBwdRefIdeal.nD Cert.FrontBwdRefIdeal.τ).loc Cert.FrontBwdRefIdeal.main_v49) = v5 c
          ∧ r.2.mem ((c.tc : Thread Cert.FrontBwdRefIdeal.nD Cert.FrontBwdRefIdeal.τ).loc Cert.FrontBwdRefIdeal.main_v46) = v6 c
          ∧ r.2.mem ((c.tc : Thread Cert.FrontBwdRefIdeal.nD Cert.FrontBwdRefIdeal.τ).loc Cert.FrontBwdRefIdeal.main_arg0) = m' ((c.tc : Thread Cert.FrontBwdRefIdeal.nD Cert.FrontBwdRefIdeal.τ).loc Cert.FrontBwdRefIdeal.main_arg0)
          ∧ r.2.mem ((c.tc : Thread Cert.FrontBwdRefIdeal.nD Cert.FrontBwdRefIdeal.τ).loc Cert.FrontBwdRefIdeal.main_arg1) = m' ((c.tc : Thread Cert.FrontBwdRefIdeal.nD Cert.FrontBwdRefIdeal.τ).loc Cert.FrontBwdRefIdeal.main_arg1)
          ∧ r.2.mem ((c.tc : Thread Cert.FrontBwdRefIdeal.nD Cert.FrontBwdRefIdeal.τ).loc Cert.FrontBwdRefIdeal.main_arg2) = m' ((c.tc : Thread Cert.FrontBwdRefIdeal.nD Cert.FrontBwdRefIdeal.τ).loc Cert.FrontBwdRefIdeal.main_arg2)
          ∧ r.2.mem ((c.tc : Thread Cert.FrontBwdRefIdeal.nD Cert.FrontBwdRefIdeal.τ).loc Cert.FrontBwdRefIdeal.main_arg3) = m' ((c.tc : Thread Cert.FrontBwdRefIdeal.nD Cert.FrontBwdRefIdeal.τ).loc Cert.FrontBwdRefIdeal.main_arg3)
          ∧ r.2.mem ((c.tc : Thread Cert.FrontBwdRefIdeal.nD Cert.FrontBwdRefIdeal.τ).loc Cert.FrontBwdRefIdeal.main_arg4) = m' ((c.tc : Thread Cert.FrontBwdRefIdeal.nD Cert.FrontBwdRefIdeal.τ).loc Cert.FrontBwdRefIdeal.main_arg4)
          ∧ r.2.mem ((c.tc : Thread Cert.FrontBwdRefIdeal.nD Cert.FrontBwdRefIdeal.τ).loc Cert.FrontBwdRefIdeal.main_arg5) = m' ((c.tc : Thread Cert.FrontBwdRefIdeal.nD Cert.FrontBwdRefIdeal.τ).loc Cert.FrontBwdRefIdeal.main_arg5)
          ∧ r.2.mem ((c.tc : Thread Cert.FrontBwdRefIdeal.nD Cert.FrontBwdRefIdeal.τ).loc Cert.FrontBwdRefIdeal.main_arg6) = m' ((c.tc : Thread Cert.FrontBwdRefIdeal.nD Cert.FrontBwdRefIdeal.τ).loc Cert.FrontBwdRefIdeal.main_arg6)
          ∧ r.2.mem ((c.tc : Thread Cert.FrontBwdRefIdeal.nD Cert.FrontBwdRefIdeal.τ).loc Cert.FrontBwdRefIdeal.main_arg7) = m' ((c.tc : Thread Cert.FrontBwdRefIdeal.nD Cert.FrontBwdRefIdeal.τ).loc Cert.FrontBwdRefIdeal.main_arg7)
          ∧ r.2.mem ((c.tc : Thread Cert.FrontBwdRefIdeal.nD Cert.FrontBwdRefIdeal.τ).loc Cert.FrontBwdRefIdeal.main_arg8) = m' ((c.tc : Thread Cert.FrontBwdRefIdeal.nD Cert.FrontBwdRefIdeal.τ).loc Cert.FrontBwdRefIdeal.main_arg8)
          ∧ r.2.mem ((c.tc : Thread Cert.FrontBwdRefIdeal.nD Cert.FrontBwdRefIdeal.τ).loc Cert.FrontBwdRefIdeal.main_arg9) = m' ((c.tc : Thread Cert.FrontBwdRefIdeal.nD Cert.FrontBwdRefIdeal.τ).loc Cert.FrontBwdRefIdeal.main_arg9)
          ∧ r.2.mem ((c.tc : Thread Cert.FrontBwdRefIdeal.nD Cert.FrontBwdRefIdeal.τ).loc Cert.FrontBwdRefIdeal.main_arg10) = m' ((c.tc : Thread Cert.FrontBwdRefIdeal.nD Cert.FrontBwdRefIdeal.τ).loc Cert.FrontBwdRefIdeal.main_arg10)
          ∧ r.2.mem ((c.tc : Thread Cert.FrontBwdRefIdeal.nD Cert.FrontBwdRefIdeal.τ).loc Cert.FrontBwdRefIdeal.main_arg11) = m' ((c.tc : Thread Cert.FrontBwdRefIdeal.nD Cert.FrontBwdRefIdeal.τ).loc Cert.FrontBwdRefIdeal.main_arg11)
          ∧ r.2.mem ((c.tc : Thread Cert.FrontBwdRefIdeal.nD Cert.FrontBwdRefIdeal.τ).loc Cert.FrontBwdRefIdeal.main_arg12) = m' ((c.tc : Thread Cert.FrontBwdRefIdeal.nD Cert.FrontBwdRefIdeal.τ).loc Cert.FrontBwdRefIdeal.main_arg12)
          ∧ r.2.mem ((c.tc : Thread Cert.FrontBwdRefIdeal.nD Cert.FrontBwdRefIdeal.τ).loc Cert.FrontBwdRefIdeal.main_arg13) = m' ((c.tc : Thread Cert.FrontBwdRefIdeal.nD Cert.FrontBwdRefIdeal.τ).loc Cert.FrontBwdRefIdeal.main_arg13)
          ∧ r.2.mem ((c.tc : Thread Cert.FrontBwdRefIdeal.nD Cert.FrontBwdRefIdeal.τ).loc Cert.FrontBwdRefIdeal.main_arg14) = m' ((c.tc : Thread Cert.FrontBwdRefIdeal.nD Cert.FrontBwdRefIdeal.τ).loc Cert.FrontBwdRefIdeal.main_arg14)
          ∧ r.2.mem ((c.tc : Thread Cert.FrontBwdRefIdeal.nD Cert.FrontBwdRefIdeal.τ).loc Cert.FrontBwdRefIdeal.main_arg15) = m' ((c.tc : Thread Cert.FrontBwdRefIdeal.nD Cert.FrontBwdRefIdeal.τ).loc Cert.FrontBwdRefIdeal.main_arg15)
          ∧ r.2.mem ((c.tc : Thread Cert.FrontBwdRefIdeal.nD Cert.FrontBwdRefIdeal.τ).loc Cert.FrontBwdRefIdeal.main_arg16) = m' ((c.tc : Thread Cert.FrontBwdRefIdeal.nD Cert.FrontBwdRefIdeal.τ).loc Cert.FrontBwdRefIdeal.main_arg16))

def preserves_TailFwd_TailFwdIdeal : Prop :=
  True

def algebraic_TailFwdIdeal_TailFwdRefIdeal [hTailFwdIdeal : Cert.TailFwdIdeal.Facts] [hTailFwdRefIdeal : Cert.TailFwdRefIdeal.Facts] : Prop :=
  ∀ (m : (ℓ : Loc Cert.TailFwdIdeal.nD Cert.TailFwdIdeal.τ Cert.TailFwdIdeal.sig) → Buf (Elt Ideal) ℓ) (g : Dev Cert.TailFwdIdeal.nD → PrngReg)
    (m' : (ℓ : Loc Cert.TailFwdRefIdeal.nD Cert.TailFwdRefIdeal.τ Cert.TailFwdRefIdeal.sig) → Buf (Elt Ideal) ℓ) (g' : Dev Cert.TailFwdRefIdeal.nD → PrngReg), Pre_TailFwdIdeal m →
    (∀ c : Dev Cert.TailFwdIdeal.nD,
      m' ((c.tc : Thread Cert.TailFwdRefIdeal.nD Cert.TailFwdRefIdeal.τ).loc Cert.TailFwdRefIdeal.main_arg0) = m ((c.tc : Thread Cert.TailFwdIdeal.nD Cert.TailFwdIdeal.τ).loc Cert.TailFwdIdeal.main_arg0)
      ∧ m' ((c.tc : Thread Cert.TailFwdRefIdeal.nD Cert.TailFwdRefIdeal.τ).loc Cert.TailFwdRefIdeal.main_arg1) = m ((c.tc : Thread Cert.TailFwdIdeal.nD Cert.TailFwdIdeal.τ).loc Cert.TailFwdIdeal.main_arg1)
      ∧ m' ((c.tc : Thread Cert.TailFwdRefIdeal.nD Cert.TailFwdRefIdeal.τ).loc Cert.TailFwdRefIdeal.main_arg2) = m ((c.tc : Thread Cert.TailFwdIdeal.nD Cert.TailFwdIdeal.τ).loc Cert.TailFwdIdeal.main_arg2)
      ∧ m' ((c.tc : Thread Cert.TailFwdRefIdeal.nD Cert.TailFwdRefIdeal.τ).loc Cert.TailFwdRefIdeal.main_arg3) = m ((c.tc : Thread Cert.TailFwdIdeal.nD Cert.TailFwdIdeal.τ).loc Cert.TailFwdIdeal.main_arg3)
      ∧ m' ((c.tc : Thread Cert.TailFwdRefIdeal.nD Cert.TailFwdRefIdeal.τ).loc Cert.TailFwdRefIdeal.main_arg4) = m ((c.tc : Thread Cert.TailFwdIdeal.nD Cert.TailFwdIdeal.τ).loc Cert.TailFwdIdeal.main_arg4)
      ∧ m' ((c.tc : Thread Cert.TailFwdRefIdeal.nD Cert.TailFwdRefIdeal.τ).loc Cert.TailFwdRefIdeal.main_arg5) = m ((c.tc : Thread Cert.TailFwdIdeal.nD Cert.TailFwdIdeal.τ).loc Cert.TailFwdIdeal.main_arg5)
      ∧ m' ((c.tc : Thread Cert.TailFwdRefIdeal.nD Cert.TailFwdRefIdeal.τ).loc Cert.TailFwdRefIdeal.main_arg6) = m ((c.tc : Thread Cert.TailFwdIdeal.nD Cert.TailFwdIdeal.τ).loc Cert.TailFwdIdeal.main_arg6)
      ∧ m' ((c.tc : Thread Cert.TailFwdRefIdeal.nD Cert.TailFwdRefIdeal.τ).loc Cert.TailFwdRefIdeal.main_arg7) = m ((c.tc : Thread Cert.TailFwdIdeal.nD Cert.TailFwdIdeal.τ).loc Cert.TailFwdIdeal.main_arg7)
      ∧ m' ((c.tc : Thread Cert.TailFwdRefIdeal.nD Cert.TailFwdRefIdeal.τ).loc Cert.TailFwdRefIdeal.main_arg8) = m ((c.tc : Thread Cert.TailFwdIdeal.nD Cert.TailFwdIdeal.τ).loc Cert.TailFwdIdeal.main_arg8)
      ∧ m' ((c.tc : Thread Cert.TailFwdRefIdeal.nD Cert.TailFwdRefIdeal.τ).loc Cert.TailFwdRefIdeal.main_arg9) = m ((c.tc : Thread Cert.TailFwdIdeal.nD Cert.TailFwdIdeal.τ).loc Cert.TailFwdIdeal.main_arg9)) →
    ∃ (v0 : (c : Dev Cert.TailFwdIdeal.nD) → Buf (Elt Ideal) ((c.tc : Thread Cert.TailFwdIdeal.nD Cert.TailFwdIdeal.τ).loc Cert.TailFwdIdeal.main_v3)),
      θ_run (Cert.TailFwdIdeal.defs (F := Ideal)) (onTc (τ := Cert.TailFwdIdeal.τ) (Cert.TailFwdIdeal.main (F := Ideal))) ⟨m, fun _ => 0, g⟩ (fun r => ∀ c : Dev Cert.TailFwdIdeal.nD,
          r.2.mem ((c.tc : Thread Cert.TailFwdIdeal.nD Cert.TailFwdIdeal.τ).loc Cert.TailFwdIdeal.main_v3) = v0 c
          ∧ r.2.mem ((c.tc : Thread Cert.TailFwdIdeal.nD Cert.TailFwdIdeal.τ).loc Cert.TailFwdIdeal.main_arg0) = m ((c.tc : Thread Cert.TailFwdIdeal.nD Cert.TailFwdIdeal.τ).loc Cert.TailFwdIdeal.main_arg0)
          ∧ r.2.mem ((c.tc : Thread Cert.TailFwdIdeal.nD Cert.TailFwdIdeal.τ).loc Cert.TailFwdIdeal.main_arg1) = m ((c.tc : Thread Cert.TailFwdIdeal.nD Cert.TailFwdIdeal.τ).loc Cert.TailFwdIdeal.main_arg1)
          ∧ r.2.mem ((c.tc : Thread Cert.TailFwdIdeal.nD Cert.TailFwdIdeal.τ).loc Cert.TailFwdIdeal.main_arg2) = m ((c.tc : Thread Cert.TailFwdIdeal.nD Cert.TailFwdIdeal.τ).loc Cert.TailFwdIdeal.main_arg2)
          ∧ r.2.mem ((c.tc : Thread Cert.TailFwdIdeal.nD Cert.TailFwdIdeal.τ).loc Cert.TailFwdIdeal.main_arg3) = m ((c.tc : Thread Cert.TailFwdIdeal.nD Cert.TailFwdIdeal.τ).loc Cert.TailFwdIdeal.main_arg3)
          ∧ r.2.mem ((c.tc : Thread Cert.TailFwdIdeal.nD Cert.TailFwdIdeal.τ).loc Cert.TailFwdIdeal.main_arg4) = m ((c.tc : Thread Cert.TailFwdIdeal.nD Cert.TailFwdIdeal.τ).loc Cert.TailFwdIdeal.main_arg4)
          ∧ r.2.mem ((c.tc : Thread Cert.TailFwdIdeal.nD Cert.TailFwdIdeal.τ).loc Cert.TailFwdIdeal.main_arg5) = m ((c.tc : Thread Cert.TailFwdIdeal.nD Cert.TailFwdIdeal.τ).loc Cert.TailFwdIdeal.main_arg5)
          ∧ r.2.mem ((c.tc : Thread Cert.TailFwdIdeal.nD Cert.TailFwdIdeal.τ).loc Cert.TailFwdIdeal.main_arg6) = m ((c.tc : Thread Cert.TailFwdIdeal.nD Cert.TailFwdIdeal.τ).loc Cert.TailFwdIdeal.main_arg6)
          ∧ r.2.mem ((c.tc : Thread Cert.TailFwdIdeal.nD Cert.TailFwdIdeal.τ).loc Cert.TailFwdIdeal.main_arg7) = m ((c.tc : Thread Cert.TailFwdIdeal.nD Cert.TailFwdIdeal.τ).loc Cert.TailFwdIdeal.main_arg7)
          ∧ r.2.mem ((c.tc : Thread Cert.TailFwdIdeal.nD Cert.TailFwdIdeal.τ).loc Cert.TailFwdIdeal.main_arg8) = m ((c.tc : Thread Cert.TailFwdIdeal.nD Cert.TailFwdIdeal.τ).loc Cert.TailFwdIdeal.main_arg8)
          ∧ r.2.mem ((c.tc : Thread Cert.TailFwdIdeal.nD Cert.TailFwdIdeal.τ).loc Cert.TailFwdIdeal.main_arg9) = m ((c.tc : Thread Cert.TailFwdIdeal.nD Cert.TailFwdIdeal.τ).loc Cert.TailFwdIdeal.main_arg9))
      ∧ θ_run (Cert.TailFwdRefIdeal.defs (F := Ideal)) (onTc (τ := Cert.TailFwdRefIdeal.τ) (Cert.TailFwdRefIdeal.main (F := Ideal))) ⟨m', fun _ => 0, g'⟩ (fun r => ∀ c : Dev Cert.TailFwdRefIdeal.nD,
          r.2.mem ((c.tc : Thread Cert.TailFwdRefIdeal.nD Cert.TailFwdRefIdeal.τ).loc Cert.TailFwdRefIdeal.main_v38) = v0 c
          ∧ r.2.mem ((c.tc : Thread Cert.TailFwdRefIdeal.nD Cert.TailFwdRefIdeal.τ).loc Cert.TailFwdRefIdeal.main_arg0) = m' ((c.tc : Thread Cert.TailFwdRefIdeal.nD Cert.TailFwdRefIdeal.τ).loc Cert.TailFwdRefIdeal.main_arg0)
          ∧ r.2.mem ((c.tc : Thread Cert.TailFwdRefIdeal.nD Cert.TailFwdRefIdeal.τ).loc Cert.TailFwdRefIdeal.main_arg1) = m' ((c.tc : Thread Cert.TailFwdRefIdeal.nD Cert.TailFwdRefIdeal.τ).loc Cert.TailFwdRefIdeal.main_arg1)
          ∧ r.2.mem ((c.tc : Thread Cert.TailFwdRefIdeal.nD Cert.TailFwdRefIdeal.τ).loc Cert.TailFwdRefIdeal.main_arg2) = m' ((c.tc : Thread Cert.TailFwdRefIdeal.nD Cert.TailFwdRefIdeal.τ).loc Cert.TailFwdRefIdeal.main_arg2)
          ∧ r.2.mem ((c.tc : Thread Cert.TailFwdRefIdeal.nD Cert.TailFwdRefIdeal.τ).loc Cert.TailFwdRefIdeal.main_arg3) = m' ((c.tc : Thread Cert.TailFwdRefIdeal.nD Cert.TailFwdRefIdeal.τ).loc Cert.TailFwdRefIdeal.main_arg3)
          ∧ r.2.mem ((c.tc : Thread Cert.TailFwdRefIdeal.nD Cert.TailFwdRefIdeal.τ).loc Cert.TailFwdRefIdeal.main_arg4) = m' ((c.tc : Thread Cert.TailFwdRefIdeal.nD Cert.TailFwdRefIdeal.τ).loc Cert.TailFwdRefIdeal.main_arg4)
          ∧ r.2.mem ((c.tc : Thread Cert.TailFwdRefIdeal.nD Cert.TailFwdRefIdeal.τ).loc Cert.TailFwdRefIdeal.main_arg5) = m' ((c.tc : Thread Cert.TailFwdRefIdeal.nD Cert.TailFwdRefIdeal.τ).loc Cert.TailFwdRefIdeal.main_arg5)
          ∧ r.2.mem ((c.tc : Thread Cert.TailFwdRefIdeal.nD Cert.TailFwdRefIdeal.τ).loc Cert.TailFwdRefIdeal.main_arg6) = m' ((c.tc : Thread Cert.TailFwdRefIdeal.nD Cert.TailFwdRefIdeal.τ).loc Cert.TailFwdRefIdeal.main_arg6)
          ∧ r.2.mem ((c.tc : Thread Cert.TailFwdRefIdeal.nD Cert.TailFwdRefIdeal.τ).loc Cert.TailFwdRefIdeal.main_arg7) = m' ((c.tc : Thread Cert.TailFwdRefIdeal.nD Cert.TailFwdRefIdeal.τ).loc Cert.TailFwdRefIdeal.main_arg7)
          ∧ r.2.mem ((c.tc : Thread Cert.TailFwdRefIdeal.nD Cert.TailFwdRefIdeal.τ).loc Cert.TailFwdRefIdeal.main_arg8) = m' ((c.tc : Thread Cert.TailFwdRefIdeal.nD Cert.TailFwdRefIdeal.τ).loc Cert.TailFwdRefIdeal.main_arg8)
          ∧ r.2.mem ((c.tc : Thread Cert.TailFwdRefIdeal.nD Cert.TailFwdRefIdeal.τ).loc Cert.TailFwdRefIdeal.main_arg9) = m' ((c.tc : Thread Cert.TailFwdRefIdeal.nD Cert.TailFwdRefIdeal.τ).loc Cert.TailFwdRefIdeal.main_arg9))

def preserves_FrontFwd_FrontFwdIdeal : Prop :=
  True

def algebraic_FrontFwdIdeal_FrontFwdRefIdeal [hFrontFwdIdeal : Cert.FrontFwdIdeal.Facts] [hFrontFwdRefIdeal : Cert.FrontFwdRefIdeal.Facts] : Prop :=
  ∀ (m : (ℓ : Loc Cert.FrontFwdIdeal.nD Cert.FrontFwdIdeal.τ Cert.FrontFwdIdeal.sig) → Buf (Elt Ideal) ℓ) (g : Dev Cert.FrontFwdIdeal.nD → PrngReg)
    (m' : (ℓ : Loc Cert.FrontFwdRefIdeal.nD Cert.FrontFwdRefIdeal.τ Cert.FrontFwdRefIdeal.sig) → Buf (Elt Ideal) ℓ) (g' : Dev Cert.FrontFwdRefIdeal.nD → PrngReg), Pre_FrontFwdIdeal m →
    (∀ c : Dev Cert.FrontFwdIdeal.nD,
      m' ((c.tc : Thread Cert.FrontFwdRefIdeal.nD Cert.FrontFwdRefIdeal.τ).loc Cert.FrontFwdRefIdeal.main_arg0) = m ((c.tc : Thread Cert.FrontFwdIdeal.nD Cert.FrontFwdIdeal.τ).loc Cert.FrontFwdIdeal.main_arg0)
      ∧ m' ((c.tc : Thread Cert.FrontFwdRefIdeal.nD Cert.FrontFwdRefIdeal.τ).loc Cert.FrontFwdRefIdeal.main_arg1) = m ((c.tc : Thread Cert.FrontFwdIdeal.nD Cert.FrontFwdIdeal.τ).loc Cert.FrontFwdIdeal.main_arg1)
      ∧ m' ((c.tc : Thread Cert.FrontFwdRefIdeal.nD Cert.FrontFwdRefIdeal.τ).loc Cert.FrontFwdRefIdeal.main_arg2) = m ((c.tc : Thread Cert.FrontFwdIdeal.nD Cert.FrontFwdIdeal.τ).loc Cert.FrontFwdIdeal.main_arg2)
      ∧ m' ((c.tc : Thread Cert.FrontFwdRefIdeal.nD Cert.FrontFwdRefIdeal.τ).loc Cert.FrontFwdRefIdeal.main_arg3) = m ((c.tc : Thread Cert.FrontFwdIdeal.nD Cert.FrontFwdIdeal.τ).loc Cert.FrontFwdIdeal.main_arg3)
      ∧ m' ((c.tc : Thread Cert.FrontFwdRefIdeal.nD Cert.FrontFwdRefIdeal.τ).loc Cert.FrontFwdRefIdeal.main_arg4) = m ((c.tc : Thread Cert.FrontFwdIdeal.nD Cert.FrontFwdIdeal.τ).loc Cert.FrontFwdIdeal.main_arg4)
      ∧ m' ((c.tc : Thread Cert.FrontFwdRefIdeal.nD Cert.FrontFwdRefIdeal.τ).loc Cert.FrontFwdRefIdeal.main_arg5) = m ((c.tc : Thread Cert.FrontFwdIdeal.nD Cert.FrontFwdIdeal.τ).loc Cert.FrontFwdIdeal.main_arg5)
      ∧ m' ((c.tc : Thread Cert.FrontFwdRefIdeal.nD Cert.FrontFwdRefIdeal.τ).loc Cert.FrontFwdRefIdeal.main_arg6) = m ((c.tc : Thread Cert.FrontFwdIdeal.nD Cert.FrontFwdIdeal.τ).loc Cert.FrontFwdIdeal.main_arg6)) →
    ∃ (v0 : (c : Dev Cert.FrontFwdIdeal.nD) → Buf (Elt Ideal) ((c.tc : Thread Cert.FrontFwdIdeal.nD Cert.FrontFwdIdeal.τ).loc Cert.FrontFwdIdeal.main_v23_0)) (v1 : (c : Dev Cert.FrontFwdIdeal.nD) → Buf (Elt Ideal) ((c.tc : Thread Cert.FrontFwdIdeal.nD Cert.FrontFwdIdeal.τ).loc Cert.FrontFwdIdeal.main_v23_1)) (v2 : (c : Dev Cert.FrontFwdIdeal.nD) → Buf (Elt Ideal) ((c.tc : Thread Cert.FrontFwdIdeal.nD Cert.FrontFwdIdeal.τ).loc Cert.FrontFwdIdeal.main_v24)) (v3 : (c : Dev Cert.FrontFwdIdeal.nD) → Buf (Elt Ideal) ((c.tc : Thread Cert.FrontFwdIdeal.nD Cert.FrontFwdIdeal.τ).loc Cert.FrontFwdIdeal.main_v25)) (v4 : (c : Dev Cert.FrontFwdIdeal.nD) → Buf (Elt Ideal) ((c.tc : Thread Cert.FrontFwdIdeal.nD Cert.FrontFwdIdeal.τ).loc Cert.FrontFwdIdeal.main_v23_3)) (v5 : (c : Dev Cert.FrontFwdIdeal.nD) → Buf (Elt Ideal) ((c.tc : Thread Cert.FrontFwdIdeal.nD Cert.FrontFwdIdeal.τ).loc Cert.FrontFwdIdeal.main_v23_4)) (v6 : (c : Dev Cert.FrontFwdIdeal.nD) → Buf (Elt Ideal) ((c.tc : Thread Cert.FrontFwdIdeal.nD Cert.FrontFwdIdeal.τ).loc Cert.FrontFwdIdeal.main_v26)) (v7 : (c : Dev Cert.FrontFwdIdeal.nD) → Buf (Elt Ideal) ((c.tc : Thread Cert.FrontFwdIdeal.nD Cert.FrontFwdIdeal.τ).loc Cert.FrontFwdIdeal.main_v27)) (v8 : (c : Dev Cert.FrontFwdIdeal.nD) → Buf (Elt Ideal) ((c.tc : Thread Cert.FrontFwdIdeal.nD Cert.FrontFwdIdeal.τ).loc Cert.FrontFwdIdeal.main_v23_6)) (v9 : (c : Dev Cert.FrontFwdIdeal.nD) → Buf (Elt Ideal) ((c.tc : Thread Cert.FrontFwdIdeal.nD Cert.FrontFwdIdeal.τ).loc Cert.FrontFwdIdeal.main_arg0)),
      θ_run (Cert.FrontFwdIdeal.defs (F := Ideal)) (onTc (τ := Cert.FrontFwdIdeal.τ) (Cert.FrontFwdIdeal.main (F := Ideal))) ⟨m, fun _ => 0, g⟩ (fun r => ∀ c : Dev Cert.FrontFwdIdeal.nD,
          r.2.mem ((c.tc : Thread Cert.FrontFwdIdeal.nD Cert.FrontFwdIdeal.τ).loc Cert.FrontFwdIdeal.main_v23_0) = v0 c
          ∧ r.2.mem ((c.tc : Thread Cert.FrontFwdIdeal.nD Cert.FrontFwdIdeal.τ).loc Cert.FrontFwdIdeal.main_v23_1) = v1 c
          ∧ r.2.mem ((c.tc : Thread Cert.FrontFwdIdeal.nD Cert.FrontFwdIdeal.τ).loc Cert.FrontFwdIdeal.main_v24) = v2 c
          ∧ r.2.mem ((c.tc : Thread Cert.FrontFwdIdeal.nD Cert.FrontFwdIdeal.τ).loc Cert.FrontFwdIdeal.main_v25) = v3 c
          ∧ r.2.mem ((c.tc : Thread Cert.FrontFwdIdeal.nD Cert.FrontFwdIdeal.τ).loc Cert.FrontFwdIdeal.main_v23_3) = v4 c
          ∧ r.2.mem ((c.tc : Thread Cert.FrontFwdIdeal.nD Cert.FrontFwdIdeal.τ).loc Cert.FrontFwdIdeal.main_v23_4) = v5 c
          ∧ r.2.mem ((c.tc : Thread Cert.FrontFwdIdeal.nD Cert.FrontFwdIdeal.τ).loc Cert.FrontFwdIdeal.main_v26) = v6 c
          ∧ r.2.mem ((c.tc : Thread Cert.FrontFwdIdeal.nD Cert.FrontFwdIdeal.τ).loc Cert.FrontFwdIdeal.main_v27) = v7 c
          ∧ r.2.mem ((c.tc : Thread Cert.FrontFwdIdeal.nD Cert.FrontFwdIdeal.τ).loc Cert.FrontFwdIdeal.main_v23_6) = v8 c
          ∧ r.2.mem ((c.tc : Thread Cert.FrontFwdIdeal.nD Cert.FrontFwdIdeal.τ).loc Cert.FrontFwdIdeal.main_arg0) = v9 c
          ∧ r.2.mem ((c.tc : Thread Cert.FrontFwdIdeal.nD Cert.FrontFwdIdeal.τ).loc Cert.FrontFwdIdeal.main_arg0) = m ((c.tc : Thread Cert.FrontFwdIdeal.nD Cert.FrontFwdIdeal.τ).loc Cert.FrontFwdIdeal.main_arg0)
          ∧ r.2.mem ((c.tc : Thread Cert.FrontFwdIdeal.nD Cert.FrontFwdIdeal.τ).loc Cert.FrontFwdIdeal.main_arg1) = m ((c.tc : Thread Cert.FrontFwdIdeal.nD Cert.FrontFwdIdeal.τ).loc Cert.FrontFwdIdeal.main_arg1)
          ∧ r.2.mem ((c.tc : Thread Cert.FrontFwdIdeal.nD Cert.FrontFwdIdeal.τ).loc Cert.FrontFwdIdeal.main_arg2) = m ((c.tc : Thread Cert.FrontFwdIdeal.nD Cert.FrontFwdIdeal.τ).loc Cert.FrontFwdIdeal.main_arg2)
          ∧ r.2.mem ((c.tc : Thread Cert.FrontFwdIdeal.nD Cert.FrontFwdIdeal.τ).loc Cert.FrontFwdIdeal.main_arg3) = m ((c.tc : Thread Cert.FrontFwdIdeal.nD Cert.FrontFwdIdeal.τ).loc Cert.FrontFwdIdeal.main_arg3)
          ∧ r.2.mem ((c.tc : Thread Cert.FrontFwdIdeal.nD Cert.FrontFwdIdeal.τ).loc Cert.FrontFwdIdeal.main_arg4) = m ((c.tc : Thread Cert.FrontFwdIdeal.nD Cert.FrontFwdIdeal.τ).loc Cert.FrontFwdIdeal.main_arg4)
          ∧ r.2.mem ((c.tc : Thread Cert.FrontFwdIdeal.nD Cert.FrontFwdIdeal.τ).loc Cert.FrontFwdIdeal.main_arg5) = m ((c.tc : Thread Cert.FrontFwdIdeal.nD Cert.FrontFwdIdeal.τ).loc Cert.FrontFwdIdeal.main_arg5)
          ∧ r.2.mem ((c.tc : Thread Cert.FrontFwdIdeal.nD Cert.FrontFwdIdeal.τ).loc Cert.FrontFwdIdeal.main_arg6) = m ((c.tc : Thread Cert.FrontFwdIdeal.nD Cert.FrontFwdIdeal.τ).loc Cert.FrontFwdIdeal.main_arg6))
      ∧ θ_run (Cert.FrontFwdRefIdeal.defs (F := Ideal)) (onTc (τ := Cert.FrontFwdRefIdeal.τ) (Cert.FrontFwdRefIdeal.main (F := Ideal))) ⟨m', fun _ => 0, g'⟩ (fun r => ∀ c : Dev Cert.FrontFwdRefIdeal.nD,
          r.2.mem ((c.tc : Thread Cert.FrontFwdRefIdeal.nD Cert.FrontFwdRefIdeal.τ).loc Cert.FrontFwdRefIdeal.main_v24) = v0 c
          ∧ r.2.mem ((c.tc : Thread Cert.FrontFwdRefIdeal.nD Cert.FrontFwdRefIdeal.τ).loc Cert.FrontFwdRefIdeal.main_v25) = v1 c
          ∧ r.2.mem ((c.tc : Thread Cert.FrontFwdRefIdeal.nD Cert.FrontFwdRefIdeal.τ).loc Cert.FrontFwdRefIdeal.main_v26) = v2 c
          ∧ r.2.mem ((c.tc : Thread Cert.FrontFwdRefIdeal.nD Cert.FrontFwdRefIdeal.τ).loc Cert.FrontFwdRefIdeal.main_v34) = v3 c
          ∧ r.2.mem ((c.tc : Thread Cert.FrontFwdRefIdeal.nD Cert.FrontFwdRefIdeal.τ).loc Cert.FrontFwdRefIdeal.main_v27) = v4 c
          ∧ r.2.mem ((c.tc : Thread Cert.FrontFwdRefIdeal.nD Cert.FrontFwdRefIdeal.τ).loc Cert.FrontFwdRefIdeal.main_v28) = v5 c
          ∧ r.2.mem ((c.tc : Thread Cert.FrontFwdRefIdeal.nD Cert.FrontFwdRefIdeal.τ).loc Cert.FrontFwdRefIdeal.main_v29) = v6 c
          ∧ r.2.mem ((c.tc : Thread Cert.FrontFwdRefIdeal.nD Cert.FrontFwdRefIdeal.τ).loc Cert.FrontFwdRefIdeal.main_v30) = v7 c
          ∧ r.2.mem ((c.tc : Thread Cert.FrontFwdRefIdeal.nD Cert.FrontFwdRefIdeal.τ).loc Cert.FrontFwdRefIdeal.main_v31) = v8 c
          ∧ r.2.mem ((c.tc : Thread Cert.FrontFwdRefIdeal.nD Cert.FrontFwdRefIdeal.τ).loc Cert.FrontFwdRefIdeal.main_arg0) = v9 c
          ∧ r.2.mem ((c.tc : Thread Cert.FrontFwdRefIdeal.nD Cert.FrontFwdRefIdeal.τ).loc Cert.FrontFwdRefIdeal.main_arg0) = m' ((c.tc : Thread Cert.FrontFwdRefIdeal.nD Cert.FrontFwdRefIdeal.τ).loc Cert.FrontFwdRefIdeal.main_arg0)
          ∧ r.2.mem ((c.tc : Thread Cert.FrontFwdRefIdeal.nD Cert.FrontFwdRefIdeal.τ).loc Cert.FrontFwdRefIdeal.main_arg1) = m' ((c.tc : Thread Cert.FrontFwdRefIdeal.nD Cert.FrontFwdRefIdeal.τ).loc Cert.FrontFwdRefIdeal.main_arg1)
          ∧ r.2.mem ((c.tc : Thread Cert.FrontFwdRefIdeal.nD Cert.FrontFwdRefIdeal.τ).loc Cert.FrontFwdRefIdeal.main_arg2) = m' ((c.tc : Thread Cert.FrontFwdRefIdeal.nD Cert.FrontFwdRefIdeal.τ).loc Cert.FrontFwdRefIdeal.main_arg2)
          ∧ r.2.mem ((c.tc : Thread Cert.FrontFwdRefIdeal.nD Cert.FrontFwdRefIdeal.τ).loc Cert.FrontFwdRefIdeal.main_arg3) = m' ((c.tc : Thread Cert.FrontFwdRefIdeal.nD Cert.FrontFwdRefIdeal.τ).loc Cert.FrontFwdRefIdeal.main_arg3)
          ∧ r.2.mem ((c.tc : Thread Cert.FrontFwdRefIdeal.nD Cert.FrontFwdRefIdeal.τ).loc Cert.FrontFwdRefIdeal.main_arg4) = m' ((c.tc : Thread Cert.FrontFwdRefIdeal.nD Cert.FrontFwdRefIdeal.τ).loc Cert.FrontFwdRefIdeal.main_arg4)
          ∧ r.2.mem ((c.tc : Thread Cert.FrontFwdRefIdeal.nD Cert.FrontFwdRefIdeal.τ).loc Cert.FrontFwdRefIdeal.main_arg5) = m' ((c.tc : Thread Cert.FrontFwdRefIdeal.nD Cert.FrontFwdRefIdeal.τ).loc Cert.FrontFwdRefIdeal.main_arg5)
          ∧ r.2.mem ((c.tc : Thread Cert.FrontFwdRefIdeal.nD Cert.FrontFwdRefIdeal.τ).loc Cert.FrontFwdRefIdeal.main_arg6) = m' ((c.tc : Thread Cert.FrontFwdRefIdeal.nD Cert.FrontFwdRefIdeal.τ).loc Cert.FrontFwdRefIdeal.main_arg6))

def Claim : Prop :=
  ∃ (hFlashBwd : Cert.FlashBwd.Facts) (hFlashBwdIdeal : Cert.FlashBwdIdeal.Facts) (hFlashBwdRefIdeal : Cert.FlashBwdRefIdeal.Facts) (hLossBwd : Cert.LossBwd.Facts) (hLossBwdIdeal : Cert.LossBwdIdeal.Facts) (hLossBwdRefIdeal : Cert.LossBwdRefIdeal.Facts) (hTailBwd : Cert.TailBwd.Facts) (hTailBwdIdeal : Cert.TailBwdIdeal.Facts) (hTailBwdRefIdeal : Cert.TailBwdRefIdeal.Facts) (hMlaFrontBwd : Cert.MlaFrontBwd.Facts) (hMlaFrontBwdIdeal : Cert.MlaFrontBwdIdeal.Facts) (hMlaFrontBwdRefIdeal : Cert.MlaFrontBwdRefIdeal.Facts) (hFrontBwd : Cert.FrontBwd.Facts) (hFrontBwdIdeal : Cert.FrontBwdIdeal.Facts) (hFrontBwdRefIdeal : Cert.FrontBwdRefIdeal.Facts) (hTailFwd : Cert.TailFwd.Facts) (hTailFwdIdeal : Cert.TailFwdIdeal.Facts) (hTailFwdRefIdeal : Cert.TailFwdRefIdeal.Facts) (hFrontFwd : Cert.FrontFwd.Facts) (hFrontFwdIdeal : Cert.FrontFwdIdeal.Facts) (hFrontFwdRefIdeal : Cert.FrontFwdRefIdeal.Facts) (hPre_finite : Cert.Pre_finite.Facts) (hPre_mla_finite : Cert.Pre_mla_finite.Facts) (hPre_front_finite : Cert.Pre_front_finite.Facts),
    quiescent_FlashBwd (hFlashBwd := hFlashBwd)
    ∧ quiescent_FlashBwdIdeal (hFlashBwdIdeal := hFlashBwdIdeal)
    ∧ quiescent_FlashBwdIdeal_pre_finite (hFlashBwdIdeal := hFlashBwdIdeal) (hPre_finite := hPre_finite)
    ∧ quiescent_FlashBwdRefIdeal (hFlashBwdRefIdeal := hFlashBwdRefIdeal)
    ∧ quiescent_FlashBwdRefIdeal_pre_finite (hFlashBwdRefIdeal := hFlashBwdRefIdeal) (hPre_finite := hPre_finite)
    ∧ quiescent_LossBwd (hLossBwd := hLossBwd)
    ∧ quiescent_LossBwdIdeal (hLossBwdIdeal := hLossBwdIdeal)
    ∧ quiescent_LossBwdRefIdeal (hLossBwdRefIdeal := hLossBwdRefIdeal)
    ∧ quiescent_TailBwd (hTailBwd := hTailBwd)
    ∧ quiescent_TailBwdIdeal (hTailBwdIdeal := hTailBwdIdeal)
    ∧ quiescent_TailBwdRefIdeal (hTailBwdRefIdeal := hTailBwdRefIdeal)
    ∧ quiescent_MlaFrontBwd (hMlaFrontBwd := hMlaFrontBwd)
    ∧ quiescent_MlaFrontBwdIdeal (hMlaFrontBwdIdeal := hMlaFrontBwdIdeal)
    ∧ quiescent_MlaFrontBwdIdeal_pre_mla_finite (hMlaFrontBwdIdeal := hMlaFrontBwdIdeal) (hPre_mla_finite := hPre_mla_finite)
    ∧ quiescent_MlaFrontBwdRefIdeal (hMlaFrontBwdRefIdeal := hMlaFrontBwdRefIdeal)
    ∧ quiescent_MlaFrontBwdRefIdeal_pre_mla_finite (hMlaFrontBwdRefIdeal := hMlaFrontBwdRefIdeal) (hPre_mla_finite := hPre_mla_finite)
    ∧ quiescent_FrontBwd (hFrontBwd := hFrontBwd)
    ∧ quiescent_FrontBwdIdeal (hFrontBwdIdeal := hFrontBwdIdeal)
    ∧ quiescent_FrontBwdIdeal_pre_front_finite (hFrontBwdIdeal := hFrontBwdIdeal) (hPre_front_finite := hPre_front_finite)
    ∧ quiescent_FrontBwdRefIdeal (hFrontBwdRefIdeal := hFrontBwdRefIdeal)
    ∧ quiescent_FrontBwdRefIdeal_pre_front_finite (hFrontBwdRefIdeal := hFrontBwdRefIdeal) (hPre_front_finite := hPre_front_finite)
    ∧ quiescent_TailFwd (hTailFwd := hTailFwd)
    ∧ quiescent_TailFwdIdeal (hTailFwdIdeal := hTailFwdIdeal)
    ∧ quiescent_TailFwdRefIdeal (hTailFwdRefIdeal := hTailFwdRefIdeal)
    ∧ quiescent_FrontFwd (hFrontFwd := hFrontFwd)
    ∧ quiescent_FrontFwdIdeal (hFrontFwdIdeal := hFrontFwdIdeal)
    ∧ quiescent_FrontFwdRefIdeal (hFrontFwdRefIdeal := hFrontFwdRefIdeal)
    ∧ preserves_FlashBwd_FlashBwdIdeal
    ∧ algebraic_FlashBwdIdeal_FlashBwdRefIdeal_pre_finite (hFlashBwdIdeal := hFlashBwdIdeal) (hFlashBwdRefIdeal := hFlashBwdRefIdeal) (hPre_finite := hPre_finite)
    ∧ preserves_LossBwd_LossBwdIdeal
    ∧ algebraic_LossBwdIdeal_LossBwdRefIdeal (hLossBwdIdeal := hLossBwdIdeal) (hLossBwdRefIdeal := hLossBwdRefIdeal)
    ∧ preserves_TailBwd_TailBwdIdeal
    ∧ algebraic_TailBwdIdeal_TailBwdRefIdeal (hTailBwdIdeal := hTailBwdIdeal) (hTailBwdRefIdeal := hTailBwdRefIdeal)
    ∧ preserves_MlaFrontBwd_MlaFrontBwdIdeal
    ∧ algebraic_MlaFrontBwdIdeal_MlaFrontBwdRefIdeal_pre_mla_finite (hMlaFrontBwdIdeal := hMlaFrontBwdIdeal) (hMlaFrontBwdRefIdeal := hMlaFrontBwdRefIdeal) (hPre_mla_finite := hPre_mla_finite)
    ∧ preserves_FrontBwd_FrontBwdIdeal
    ∧ algebraic_FrontBwdIdeal_FrontBwdRefIdeal_pre_front_finite (hFrontBwdIdeal := hFrontBwdIdeal) (hFrontBwdRefIdeal := hFrontBwdRefIdeal) (hPre_front_finite := hPre_front_finite)
    ∧ preserves_TailFwd_TailFwdIdeal
    ∧ algebraic_TailFwdIdeal_TailFwdRefIdeal (hTailFwdIdeal := hTailFwdIdeal) (hTailFwdRefIdeal := hTailFwdRefIdeal)
    ∧ preserves_FrontFwd_FrontFwdIdeal
    ∧ algebraic_FrontFwdIdeal_FrontFwdRefIdeal (hFrontFwdIdeal := hFrontFwdIdeal) (hFrontFwdRefIdeal := hFrontFwdRefIdeal)
-- ==== Pre_finite.lean ====
abbrev S8192x4x192 : Shape := ⟨3, ![8192, 4, 192]⟩
abbrev S8192x4x128 : Shape := ⟨3, ![8192, 4, 128]⟩
abbrev S_ : Shape := ⟨0, ![]⟩

class Facts : Prop where
  bcast_S_S8192x4x192 : S_.BroadcastsInDim S8192x4x192 (![] : Fin 0 → Fin S8192x4x192.rank)
  bcast_S_S8192x4x128 : S_.BroadcastsInDim S8192x4x128 (![] : Fin 0 → Fin S8192x4x128.rank)

variable [Facts]

def fn {F : FTy → Type} [FloatOps F] (main_arg0 : FVec F S8192x4x192 .f32) (main_arg1 : FVec F S8192x4x192 .f32) (main_arg2 : FVec F S8192x4x128 .f32) (main_arg3 : FVec F S8192x4x128 .f32) : IVec S8192x4x192 1 × IVec S8192x4x192 1 × IVec S8192x4x128 1 × IVec S8192x4x128 1 :=
  let main_v0 : FVec F S8192x4x192 .f32 := Host.absf main_arg0
  let main_cst : FVec F S_ .f32 := constant S_ .f32 0x7F800000#32
  let main_v1 : FVec F S8192x4x192 .f32 := broadcastInDim S8192x4x192 ![] bcast_S_S8192x4x192 main_cst
  let main_v2 : IVec S8192x4x192 1 := cmpf .olt main_v0 main_v1
  let main_v3 : FVec F S8192x4x192 .f32 := Host.absf main_arg1
  let main_cst_0 : FVec F S_ .f32 := constant S_ .f32 0x7F800000#32
  let main_v4 : FVec F S8192x4x192 .f32 := broadcastInDim S8192x4x192 ![] bcast_S_S8192x4x192 main_cst_0
  let main_v5 : IVec S8192x4x192 1 := cmpf .olt main_v3 main_v4
  let main_v6 : FVec F S8192x4x128 .f32 := Host.absf main_arg2
  let main_cst_1 : FVec F S_ .f32 := constant S_ .f32 0x7F800000#32
  let main_v7 : FVec F S8192x4x128 .f32 := broadcastInDim S8192x4x128 ![] bcast_S_S8192x4x128 main_cst_1
  let main_v8 : IVec S8192x4x128 1 := cmpf .olt main_v6 main_v7
  let main_v9 : FVec F S8192x4x128 .f32 := Host.absf main_arg3
  let main_cst_2 : FVec F S_ .f32 := constant S_ .f32 0x7F800000#32
  let main_v10 : FVec F S8192x4x128 .f32 := broadcastInDim S8192x4x128 ![] bcast_S_S8192x4x128 main_cst_2
  let main_v11 : IVec S8192x4x128 1 := cmpf .olt main_v9 main_v10
  (main_v2, main_v5, main_v8, main_v11)
-- ==== Pre_front_finite.lean ====
abbrev S8192x1024 : Shape := ⟨2, ![8192, 1024]⟩
abbrev S1024 : Shape := ⟨1, ![1024]⟩
abbrev S1x1024 : Shape := ⟨2, ![1, 1024]⟩
abbrev S1024x3272 : Shape := ⟨2, ![1024, 3272]⟩
abbrev S8192x384 : Shape := ⟨2, ![8192, 384]⟩
abbrev S8192x256 : Shape := ⟨2, ![8192, 256]⟩
abbrev S8192x64 : Shape := ⟨2, ![8192, 64]⟩
abbrev S8192x512 : Shape := ⟨2, ![8192, 512]⟩
abbrev S8192x1536 : Shape := ⟨2, ![8192, 1536]⟩
abbrev S8192x4 : Shape := ⟨2, ![8192, 4]⟩
abbrev S_ : Shape := ⟨0, ![]⟩

class Facts : Prop where
  bcast_S_S1024 : S_.BroadcastsInDim S1024 (![] : Fin 0 → Fin S1024.rank)
  bcast_S_S1x1024 : S_.BroadcastsInDim S1x1024 (![] : Fin 0 → Fin S1x1024.rank)
  bcast_S_S1024x3272 : S_.BroadcastsInDim S1024x3272 (![] : Fin 0 → Fin S1024x3272.rank)
  bcast_S_S8192x64 : S_.BroadcastsInDim S8192x64 (![] : Fin 0 → Fin S8192x64.rank)

variable [Facts]

def fn_part1 {F : FTy → Type} [FloatOps F] (main_arg9 : FVec F S8192x64 .f32) (main_arg10 : FVec F S8192x64 .f32) (main_v2 : IVec S1024 1) (main_v5 : IVec S1x1024 1) (main_v8 : IVec S1024 1) (main_v11 : IVec S1x1024 1) (main_v14 : IVec S1024 1) (main_v17 : IVec S1024x3272 1) : IVec S1024 1 × IVec S1x1024 1 × IVec S1024 1 × IVec S1x1024 1 × IVec S1024 1 × IVec S1024x3272 1 × IVec S8192x64 1 × IVec S8192x64 1 :=
  let main_v18 : FVec F S8192x64 .f32 := Host.absf main_arg9
  let main_cst_5 : FVec F S_ .f32 := constant S_ .f32 0x7F800000#32
  let main_v19 : FVec F S8192x64 .f32 := broadcastInDim S8192x64 ![] bcast_S_S8192x64 main_cst_5
  let main_v20 : IVec S8192x64 1 := cmpf .olt main_v18 main_v19
  let main_v21 : FVec F S8192x64 .f32 := Host.absf main_arg10
  let main_cst_6 : FVec F S_ .f32 := constant S_ .f32 0x7F800000#32
  let main_v22 : FVec F S8192x64 .f32 := broadcastInDim S8192x64 ![] bcast_S_S8192x64 main_cst_6
  let main_v23 : IVec S8192x64 1 := cmpf .olt main_v21 main_v22
  (main_v2, main_v5, main_v8, main_v11, main_v14, main_v17, main_v20, main_v23)

def fn {F : FTy → Type} [FloatOps F] (main_arg0 : FVec F S8192x1024 .f32) (main_arg1 : FVec F S1024 .f32) (main_arg2 : FVec F S1x1024 .f32) (main_arg3 : FVec F S1024 .f32) (main_arg4 : FVec F S1x1024 .f32) (main_arg5 : FVec F S1024 .f32) (main_arg6 : FVec F S1024x3272 .f32) (main_arg7 : FVec F S8192x384 .f32) (main_arg8 : FVec F S8192x256 .f32) (main_arg9 : FVec F S8192x64 .f32) (main_arg10 : FVec F S8192x64 .f32) (main_arg11 : FVec F S8192x512 .f32) (main_arg12 : FVec F S8192x1536 .f32) (main_arg13 : FVec F S8192x4 .f32) (main_arg14 : FVec F S8192x4 .f32) (main_arg15 : FVec F S8192x512 .f32) (main_arg16 : FVec F S8192x1024 .f32) : IVec S1024 1 × IVec S1x1024 1 × IVec S1024 1 × IVec S1x1024 1 × IVec S1024 1 × IVec S1024x3272 1 × IVec S8192x64 1 × IVec S8192x64 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024 .f32 := Host.absf main_arg3
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1x1024 .f32 := Host.absf main_arg4
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1024 .f32 := Host.absf main_arg5
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024x3272 .f32 := Host.absf main_arg6
  let main_cst_4 : FVec F S_ .f32 := constant S_ .f32 0x7F800000#32
  let main_v16 : FVec F S1024x3272 .f32 := broadcastInDim S1024x3272 ![] bcast_S_S1024x3272 main_cst_4
  let main_v17 : IVec S1024x3272 1 := cmpf .olt main_v15 main_v16
  fn_part1 (F := F) main_arg9 main_arg10 main_v2 main_v5 main_v8 main_v11 main_v14 main_v17
-- ==== Pre_mla_finite.lean ====
abbrev S8192x384 : Shape := ⟨2, ![8192, 384]⟩
abbrev S8192x256 : Shape := ⟨2, ![8192, 256]⟩
abbrev S8192x64 : Shape := ⟨2, ![8192, 64]⟩
abbrev S8192 : Shape := ⟨1, ![8192]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S8192x4x192 : Shape := ⟨3, ![8192, 4, 192]⟩
abbrev S8192x4x128 : Shape := ⟨3, ![8192, 4, 128]⟩
abbrev S_ : Shape := ⟨0, ![]⟩

class Facts : Prop where
  bcast_S_S384 : S_.BroadcastsInDim S384 (![] : Fin 0 → Fin S384.rank)
  bcast_S_S384x768 : S_.BroadcastsInDim S384x768 (![] : Fin 0 → Fin S384x768.rank)
  bcast_S_S8192x4x192 : S_.BroadcastsInDim S8192x4x192 (![] : Fin 0 → Fin S8192x4x192.rank)

variable [Facts]

def fn {F : FTy → Type} [FloatOps F] (main_arg0 : FVec F S8192x384 .f32) (main_arg1 : FVec F S8192x256 .f32) (main_arg2 : FVec F S8192x64 .f32) (main_arg3 : IVec S8192 32) (main_arg4 : FVec F S384 .f32) (main_arg5 : FVec F S384x768 .f32) (main_arg6 : FVec F S256 .f32) (main_arg7 : FVec F S256x1024 .f32) (main_arg8 : FVec F S8192x4x192 .f32) (main_arg9 : FVec F S8192x4x192 .f32) (main_arg10 : FVec F S8192x4x128 .f32) : IVec S384 1 × IVec S384x768 1 × IVec S8192x4x192 1 :=
  let main_v0 : FVec F S384 .f32 := Host.absf main_arg4
  let main_cst : FVec F S_ .f32 := constant S_ .f32 0x7F800000#32
  let main_v1 : FVec F S384 .f32 := broadcastInDim S384 ![] bcast_S_S384 main_cst
  let main_v2 : IVec S384 1 := cmpf .olt main_v0 main_v1
  let main_v3 : FVec F S384x768 .f32 := Host.absf main_arg5
  let main_cst_0 : FVec F S_ .f32 := constant S_ .f32 0x7F800000#32
  let main_v4 : FVec F S384x768 .f32 := broadcastInDim S384x768 ![] bcast_S_S384x768 main_cst_0
  let main_v5 : IVec S384x768 1 := cmpf .olt main_v3 main_v4
  let main_v6 : FVec F S8192x4x192 .f32 := Host.absf main_arg8
  let main_cst_1 : FVec F S_ .f32 := constant S_ .f32 0x7F800000#32
  let main_v7 : FVec F S8192x4x192 .f32 := broadcastInDim S8192x4x192 ![] bcast_S_S8192x4x192 main_cst_1
  let main_v8 : IVec S8192x4x192 1 := cmpf .olt main_v6 main_v7
  (main_v2, main_v5, main_v8)
-- ==== FlashBwd.lean ====
abbrev S8192x4x192 : Shape := ⟨3, ![8192, 4, 192]⟩
abbrev S8192x4x128 : Shape := ⟨3, ![8192, 4, 128]⟩
abbrev S4x8192x8192 : Shape := ⟨3, ![4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8192 : Shape := ⟨2, ![4, 8192]⟩
abbrev S4x8192x1 : Shape := ⟨3, ![4, 8192, 1]⟩
abbrev S4x128x8192 : Shape := ⟨3, ![4, 128, 8192]⟩
abbrev S4x1x8192 : Shape := ⟨3, ![4, 1, 8192]⟩
abbrev S4x8x8192 : Shape := ⟨3, ![4, 8, 8192]⟩
abbrev S8192x4x256 : Shape := ⟨3, ![8192, 4, 256]⟩
abbrev S8192x1024 : Shape := ⟨2, ![8192, 1024]⟩
abbrev S8192x512 : Shape := ⟨2, ![8192, 512]⟩
abbrev S8192x256 : Shape := ⟨2, ![8192, 256]⟩
abbrev S512x256 : Shape := ⟨2, ![512, 256]⟩
abbrev S512x128 : Shape := ⟨2, ![512, 128]⟩
abbrev S1x8x8192 : Shape := ⟨3, ![1, 8, 8192]⟩
abbrev S8192x128 : Shape := ⟨2, ![8192, 128]⟩
abbrev S8x8192 : Shape := ⟨2, ![8, 8192]⟩
abbrev S512 : Shape := ⟨1, ![512]⟩
abbrev S512x1 : Shape := ⟨2, ![512, 1]⟩
abbrev S8x128 : Shape := ⟨2, ![8, 128]⟩
abbrev S8x512 : Shape := ⟨2, ![8, 512]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 59
  | .vmem => 17
  | .smem => 0
  | _ => 0

abbrev bufTy : (tb : Table) → Fin (tcTables nBuf tb) → BufTy
  | .hbm, ⟨0, _⟩ => ⟨S8192x4x192, .f32⟩
  | .hbm, ⟨1, _⟩ => ⟨S8192x4x192, .f32⟩
  | .hbm, ⟨2, _⟩ => ⟨S8192x4x128, .f32⟩
  | .hbm, ⟨3, _⟩ => ⟨S8192x4x128, .f32⟩
  | .hbm, ⟨4, _⟩ => ⟨S4x8192x8192, .f32⟩
  | .hbm, ⟨5, _⟩ => ⟨S_, .f32⟩
  | .hbm, ⟨6, _⟩ => ⟨S_, .f32⟩
  | .hbm, ⟨7, _⟩ => ⟨S4x8192x8192, .f32⟩
  | .hbm, ⟨8, _⟩ => ⟨S4x8192x8192, .f32⟩
  | .hbm, ⟨9, _⟩ => ⟨S8192, .i32⟩
  | .hbm, ⟨10, _⟩ => ⟨S1x8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S_, .f32⟩
  | .hbm, ⟨16, _⟩ => ⟨S_, .f32⟩
  | .hbm, ⟨17, _⟩ => ⟨S4x8192x8192, .i1⟩
  | .hbm, ⟨18, _⟩ => ⟨S4x8192x8192, .f32⟩
  | .hbm, ⟨19, _⟩ => ⟨S4x8192x8192, .f32⟩
  | .hbm, ⟨20, _⟩ => ⟨S_, .f32⟩
  | .hbm, ⟨21, _⟩ => ⟨S4x8192, .f32⟩
  | .hbm, ⟨22, _⟩ => ⟨S4x8192x1, .f32⟩
  | .hbm, ⟨23, _⟩ => ⟨S4x8192x8192, .f32⟩
  | .hbm, ⟨24, _⟩ => ⟨S4x8192x8192, .f32⟩
  | .hbm, ⟨25, _⟩ => ⟨S4x8192x8192, .f32⟩
  | .hbm, ⟨26, _⟩ => ⟨S_, .f32⟩
  | .hbm, ⟨27, _⟩ => ⟨S4x8192, .f32⟩
  | .hbm, ⟨28, _⟩ => ⟨S4x8192x1, .f32⟩
  | .hbm, ⟨29, _⟩ => ⟨S4x8192x8192, .f32⟩
  | .hbm, ⟨30, _⟩ => ⟨S4x8192x8192, .f32⟩
  | .hbm, ⟨31, _⟩ => ⟨S4x128x8192, .f32⟩
  | .hbm, ⟨32, _⟩ => ⟨S8192x4x128, .f32⟩
  | .hbm, ⟨33, _⟩ => ⟨S4x8192x1, .f32⟩
  | .hbm, ⟨34, _⟩ => ⟨S4x8192x1, .f32⟩
  | .hbm, ⟨35, _⟩ => ⟨S4x8192, .f32⟩
  | .hbm, ⟨36, _⟩ => ⟨S_, .f32⟩
  | .hbm, ⟨37, _⟩ => ⟨S_, .f32⟩
  | .hbm, ⟨38, _⟩ => ⟨S4x8192, .f32⟩
  | .hbm, ⟨39, _⟩ => ⟨S4x8192, .f32⟩
  | .hbm, ⟨40, _⟩ => ⟨S4x1x8192, .f32⟩
  | .hbm, ⟨41, _⟩ => ⟨S4x8x8192, .f32⟩
  | .hbm, ⟨42, _⟩ => ⟨S_, .i32⟩
  | .hbm, ⟨43, _⟩ => ⟨S_, .f32⟩
  | .hbm, ⟨44, _⟩ => ⟨S8192x4x256, .f32⟩
  | .hbm, ⟨45, _⟩ => ⟨S8192x1024, .f32⟩
  | .hbm, ⟨46, _⟩ => ⟨S8192x1024, .bf16⟩
  | .hbm, ⟨47, _⟩ => ⟨S_, .i32⟩
  | .hbm, ⟨48, _⟩ => ⟨S_, .f32⟩
  | .hbm, ⟨49, _⟩ => ⟨S8192x4x256, .f32⟩
  | .hbm, ⟨50, _⟩ => ⟨S8192x1024, .f32⟩
  | .hbm, ⟨51, _⟩ => ⟨S8192x1024, .bf16⟩
  | .hbm, ⟨52, _⟩ => ⟨S8192x512, .f32⟩
  | .hbm, ⟨53, _⟩ => ⟨S8192x512, .bf16⟩
  | .hbm, ⟨54, _⟩ => ⟨S8192x512, .f32⟩
  | .hbm, ⟨55, _⟩ => ⟨S8192x512, .f32⟩
  | .hbm, ⟨56, _⟩ => ⟨S8192x1024, .f32⟩
  | .hbm, ⟨57, _⟩ => ⟨S8192x1024, .f32⟩
  | .hbm, ⟨58, _⟩ => ⟨S8192x512, .f32⟩
  | .local _ .vmem, ⟨0, _⟩ => ⟨S8192x256, .bf16⟩
  | .local _ .vmem, ⟨1, _⟩ => ⟨S512x256, .bf16⟩
  | .local _ .vmem, ⟨2, _⟩ => ⟨S512x256, .bf16⟩
  | .local _ .vmem, ⟨3, _⟩ => ⟨S512x128, .bf16⟩
  | .local _ .vmem, ⟨4, _⟩ => ⟨S512x128, .bf16⟩
  | .local _ .vmem, ⟨5, _⟩ => ⟨S1x8x8192, .f32⟩
  | .local _ .vmem, ⟨6, _⟩ => ⟨S1x8x8192, .f32⟩
  | .local _ .vmem, ⟨7, _⟩ => ⟨S8192x128, .f32⟩
  | .local _ .vmem, ⟨8, _⟩ => ⟨S8192x128, .f32⟩
  | .local _ .vmem, ⟨9, _⟩ => ⟨S8192x256, .f32⟩
  | .local _ .vmem, ⟨10, _⟩ => ⟨S8192x256, .f32⟩
  | .local _ .vmem, ⟨11, _⟩ => ⟨S512x256, .f32⟩
  | .local _ .vmem, ⟨12, _⟩ => ⟨S512x256, .f32⟩
  | .local _ .vmem, ⟨13, _⟩ => ⟨S512x128, .f32⟩
  | .local _ .vmem, ⟨14, _⟩ => ⟨S512x128, .f32⟩
  | .local _ .vmem, ⟨15, _⟩ => ⟨S8x8192, .f32⟩
  | .local _ .vmem, ⟨16, _⟩ => ⟨S8192x128, .bf16⟩
  | _, _ => ⟨S8192x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c : Ref sig .tc := ⟨.hbm, 42, rfl⟩
abbrev main_call1_v0 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_call2_v0 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40_0 : Ref sig .tc := ⟨.hbm, 56, rfl⟩
abbrev main_v40_1 : Ref sig .tc := ⟨.hbm, 57, rfl⟩
abbrev main_v40_2 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_62 : BitVec 32 := 0#32
  let c16_i32 : BitVec 32 := 16#32
  let v106 : BitVec 32 := Scalar.addi c0_i32_62 c16_i32
  let c1_i32_63 : BitVec 32 := 1#32
  ⟨c0_i32_62, v106, c1_i32_63⟩
def k0_mult1 (k0_t1 : Fin k0_t1_loop.trips) : BitVec 32 :=
  let c0_i32_62 : BitVec 32 := 0#32
  let c1_i32_63 : BitVec 32 := 1#32
  let arg13 : BitVec 32 := Scf.iv c0_i32_62 c1_i32_63 k0_t1
  let c512_i32_65 : BitVec 32 := 512#32
  let v107 : BitVec 32 := Scalar.muli arg13 c512_i32_65
  v107
def k0_off1 (k0_t1 : Fin k0_t1_loop.trips) : Fin 2 → Nat :=
  let c0_i32_62 : BitVec 32 := 0#32
  let c1_i32_63 : BitVec 32 := 1#32
  let arg13 : BitVec 32 := Scf.iv c0_i32_62 c1_i32_63 k0_t1
  let c512_i32_65 : BitVec 32 := 512#32
  let v107 : BitVec 32 := Scalar.muli arg13 c512_i32_65
  let v108 : BitVec 32 := v107
  let v109 : Index := Scalar.indexCast v108
  let c0_66 : Index := 0#32
  ![v109.toNat, 0]
def k0_off2 (k0_t1 : Fin k0_t1_loop.trips) : Fin 2 → Nat :=
  let c0_71 : Index := 0#32
  let c0_i32_62 : BitVec 32 := 0#32
  let c1_i32_63 : BitVec 32 := 1#32
  let arg13 : BitVec 32 := Scf.iv c0_i32_62 c1_i32_63 k0_t1
  let c512_i32_65 : BitVec 32 := 512#32
  let v107 : BitVec 32 := Scalar.muli arg13 c512_i32_65
  let v108 : BitVec 32 := v107
  let v122 : Index := Scalar.indexCast v108
  ![0, v122.toNat]
def k0_mult2 (i : grid0.Coords) : BitVec 32 :=
  let arg1 : BitVec 32 := BitVec.ofNat 32 (i 1).val
  let c512_i32 : BitVec 32 := 512#32
  let v11 : BitVec 32 := Scalar.muli arg1 c512_i32
  v11
def k0_off3 (i : grid0.Coords) : Fin 2 → Nat :=
  let arg1 : BitVec 32 := BitVec.ofNat 32 (i 1).val
  let c512_i32 : BitVec 32 := 512#32
  let v11 : BitVec 32 := Scalar.muli arg1 c512_i32
  let v12 : BitVec 32 := v11
  let v13 : Index := Scalar.indexCast v12
  let c0_9 : Index := 0#32
  ![v13.toNat, 0]
def k0_off4 (i : grid0.Coords) : Fin 2 → Nat :=
  let arg1 : BitVec 32 := BitVec.ofNat 32 (i 1).val
  let c512_i32 : BitVec 32 := 512#32
  let v11 : BitVec 32 := Scalar.muli arg1 c512_i32
  let v12 : BitVec 32 := v11
  let v16 : Index := Scalar.indexCast v12
  let c0_10 : Index := 0#32
  ![v16.toNat, 0]
def k0_off5 (i : grid0.Coords) : Fin 3 → Nat :=
  let c0_13 : Index := 0#32
  let c0_14 : Index := 0#32
  let arg1 : BitVec 32 := BitVec.ofNat 32 (i 1).val
  let c512_i32 : BitVec 32 := 512#32
  let v11 : BitVec 32 := Scalar.muli arg1 c512_i32
  let v12 : BitVec 32 := v11
  let v21 : Index := Scalar.indexCast v12
  ![0, 0, v21.toNat]
def k0_off6 (i : grid0.Coords) : Fin 2 → Nat :=
  let c0_17 : Index := 0#32
  let arg1 : BitVec 32 := BitVec.ofNat 32 (i 1).val
  let c512_i32 : BitVec 32 := 512#32
  let v11 : BitVec 32 := Scalar.muli arg1 c512_i32
  let v12 : BitVec 32 := v11
  let v33 : Index := Scalar.indexCast v12
  ![0, v33.toNat]
@[reducible] def k0_t2_loop (i : grid0.Coords) : Scf.Loop 32 :=
  let c0_i32_37 : BitVec 32 := 0#32
  let c15_i32 : BitVec 32 := 15#32
  let arg1 : BitVec 32 := BitVec.ofNat 32 (i 1).val
  let v58 : BitVec 32 := Scalar.subi c15_i32 arg1
  let c0_i32_31 : BitVec 32 := 0#32
  let v60 : BitVec 1 := Scalar.cmpi .sgt v58 c0_i32_31
  let v61 : BitVec 32 := Scalar.extui v60
  let c0_i32_32 : BitVec 32 := 0#32
  let v62 : BitVec 1 := Scalar.cmpi .slt v58 c0_i32_32
  let v63 : BitVec 32 := Scalar.extui v62
  let v64 : BitVec 32 := Scalar.subi v61 v63
  let c4_i32 : BitVec 32 := 4#32
  let c0_i32_33 : BitVec 32 := 0#32
  let v65 : BitVec 1 := Scalar.cmpi .sgt c4_i32 c0_i32_33
  let v66 : BitVec 32 := Scalar.extui v65
  let c0_i32_34 : BitVec 32 := 0#32
  let v67 : BitVec 1 := Scalar.cmpi .slt c4_i32 c0_i32_34
  let v68 : BitVec 32 := Scalar.extui v67
  let v69 : BitVec 32 := Scalar.subi v66 v68
  let v70 : BitVec 1 := Scalar.cmpi .ne v64 v69
  let v71 : BitVec 32 := Scalar.remsi v58 c4_i32
  let c0_i32_35 : BitVec 32 := 0#32
  let v72 : BitVec 1 := Scalar.cmpi .ne v71 c0_i32_35
  let v73 : BitVec 1 := Scalar.andi v70 v72
  let v59 : BitVec 32 := Scalar.divsi v58 c4_i32
  let c1_i32 : BitVec 32 := 1#32
  let v74 : BitVec 32 := Scalar.subi v59 c1_i32
  let v75 : BitVec 32 := Scalar.select v73 v74 v59
  let v76 : BitVec 32 := Scalar.subi v75 c0_i32_37
  let c1_i32_38 : BitVec 32 := 1#32
  let v78 : BitVec 32 := Scalar.divsi v76 c1_i32_38
  let v79 : BitVec 32 := Scalar.muli v78 c1_i32_38
  let v80 : BitVec 32 := Scalar.addi c0_i32_37 v79
  let c1_i32_39 : BitVec 32 := 1#32
  ⟨c0_i32_37, v80, c1_i32_39⟩
def k0_mult3 (i : grid0.Coords) (k0_t2 : Fin (k0_t2_loop i).trips) : BitVec 32 :=
  let arg1 : BitVec 32 := BitVec.ofNat 32 (i 1).val
  let c1_i32_59 : BitVec 32 := 1#32
  let v104 : BitVec 32 := Scalar.addi arg1 c1_i32_59
  let c4_i32_60 : BitVec 32 := 4#32
  let c0_i32_37 : BitVec 32 := 0#32
  let c1_i32_39 : BitVec 32 := 1#32
  let arg13 : BitVec 32 := Scf.iv c0_i32_37 c1_i32_39 k0_t2
  let v105 : BitVec 32 := Scalar.muli c4_i32_60 arg13
  let v106 : BitVec 32 := Scalar.addi v104 v105
  let c0_i32_61 : BitVec 32 := 0#32
  let v107 : BitVec 32 := Scalar.addi v106 c0_i32_61
  let c512_i32_62 : BitVec 32 := 512#32
  let v108 : BitVec 32 := Scalar.muli v107 c512_i32_62
  v108
def k0_off7 (i : grid0.Coords) (k0_t2 : Fin (k0_t2_loop i).trips) (c0_i32_61 : BitVec 32) : Fin 2 → Nat :=
  let arg1 : BitVec 32 := BitVec.ofNat 32 (i 1).val
  let c1_i32_59 : BitVec 32 := 1#32
  let v104 : BitVec 32 := Scalar.addi arg1 c1_i32_59
  let c4_i32_60 : BitVec 32 := 4#32
  let c0_i32_37 : BitVec 32 := 0#32
  let c1_i32_39 : BitVec 32 := 1#32
  let arg13 : BitVec 32 := Scf.iv c0_i32_37 c1_i32_39 k0_t2
  let v105 : BitVec 32 := Scalar.muli c4_i32_60 arg13
  let v106 : BitVec 32 := Scalar.addi v104 v105
  let v107 : BitVec 32 := Scalar.addi v106 c0_i32_61
  let c512_i32_62 : BitVec 32 := 512#32
  let v108 : BitVec 32 := Scalar.muli v107 c512_i32_62
  let v109 : BitVec 32 := v108
  let v110 : Index := Scalar.indexCast v109
  let c0_63 : Index := 0#32
  ![v110.toNat, 0]
def k0_off8 (i : grid0.Coords) (k0_t2 : Fin (k0_t2_loop i).trips) (c0_i32_61 : BitVec 32) : Fin 2 → Nat :=
  let arg1 : BitVec 32 := BitVec.ofNat 32 (i 1).val
  let c1_i32_59 : BitVec 32 := 1#32
  let v104 : BitVec 32 := Scalar.addi arg1 c1_i32_59
  let c4_i32_60 : BitVec 32 := 4#32
  let c0_i32_37 : BitVec 32 := 0#32
  let c1_i32_39 : BitVec 32 := 1#32
  let arg13 : BitVec 32 := Scf.iv c0_i32_37 c1_i32_39 k0_t2
  let v105 : BitVec 32 := Scalar.muli c4_i32_60 arg13
  let v106 : BitVec 32 := Scalar.addi v104 v105
  let v107 : BitVec 32 := Scalar.addi v106 c0_i32_61
  let c512_i32_62 : BitVec 32 := 512#32
  let v108 : BitVec 32 := Scalar.muli v107 c512_i32_62
  let v109 : BitVec 32 := v108
  let v113 : Index := Scalar.indexCast v109
  let c0_64 : Index := 0#32
  ![v113.toNat, 0]
def k0_off9 (i : grid0.Coords) (k0_t2 : Fin (k0_t2_loop i).trips) (c0_i32_61 : BitVec 32) : Fin 3 → Nat :=
  let c0_67 : Index := 0#32
  let c0_68 : Index := 0#32
  let arg1 : BitVec 32 := BitVec.ofNat 32 (i 1).val
  let c1_i32_59 : BitVec 32 := 1#32
  let v104 : BitVec 32 := Scalar.addi arg1 c1_i32_59
  let c4_i32_60 : BitVec 32 := 4#32
  let c0_i32_37 : BitVec 32 := 0#32
  let c1_i32_39 : BitVec 32 := 1#32
  let arg13 : BitVec 32 := Scf.iv c0_i32_37 c1_i32_39 k0_t2
  let v105 : BitVec 32 := Scalar.muli c4_i32_60 arg13
  let v106 : BitVec 32 := Scalar.addi v104 v105
  let v107 : BitVec 32 := Scalar.addi v106 c0_i32_61
  let c512_i32_62 : BitVec 32 := 512#32
  let v108 : BitVec 32 := Scalar.muli v107 c512_i32_62
  let v109 : BitVec 32 := v108
  let v118 : Index := Scalar.indexCast v109
  ![0, 0, v118.toNat]
def k0_off10 (i : grid0.Coords) (k0_t2 : Fin (k0_t2_loop i).trips) (c0_i32_61 : BitVec 32) : Fin 2 → Nat :=
  let c0_70 : Index := 0#32
  let arg1 : BitVec 32 := BitVec.ofNat 32 (i 1).val
  let c1_i32_59 : BitVec 32 := 1#32
  let v104 : BitVec 32 := Scalar.addi arg1 c1_i32_59
  let c4_i32_60 : BitVec 32 := 4#32
  let c0_i32_37 : BitVec 32 := 0#32
  let c1_i32_39 : BitVec 32 := 1#32
  let arg13 : BitVec 32 := Scf.iv c0_i32_37 c1_i32_39 k0_t2
  let v105 : BitVec 32 := Scalar.muli c4_i32_60 arg13
  let v106 : BitVec 32 := Scalar.addi v104 v105
  let v107 : BitVec 32 := Scalar.addi v106 c0_i32_61
  let c512_i32_62 : BitVec 32 := 512#32
  let v108 : BitVec 32 := Scalar.muli v107 c512_i32_62
  let v109 : BitVec 32 := v108
  let v125 : Index := Scalar.indexCast v109
  ![0, v125.toNat]
def k0_mult4 (i : grid0.Coords) (k0_t2 : Fin (k0_t2_loop i).trips) : BitVec 32 :=
  let arg1 : BitVec 32 := BitVec.ofNat 32 (i 1).val
  let c1_i32_84 : BitVec 32 := 1#32
  let v150 : BitVec 32 := Scalar.addi arg1 c1_i32_84
  let c4_i32_85 : BitVec 32 := 4#32
  let c0_i32_37 : BitVec 32 := 0#32
  let c1_i32_39 : BitVec 32 := 1#32
  let arg13 : BitVec 32 := Scf.iv c0_i32_37 c1_i32_39 k0_t2
  let v151 : BitVec 32 := Scalar.muli c4_i32_85 arg13
  let v152 : BitVec 32 := Scalar.addi v150 v151
  let c1_i32_86 : BitVec 32 := 1#32
  let v153 : BitVec 32 := Scalar.addi v152 c1_i32_86
  let c512_i32_87 : BitVec 32 := 512#32
  let v154 : BitVec 32 := Scalar.muli v153 c512_i32_87
  v154
def k0_mult5 (i : grid0.Coords) (k0_t2 : Fin (k0_t2_loop i).trips) : BitVec 32 :=
  let arg1 : BitVec 32 := BitVec.ofNat 32 (i 1).val
  let c1_i32_109 : BitVec 32 := 1#32
  let v196 : BitVec 32 := Scalar.addi arg1 c1_i32_109
  let c4_i32_110 : BitVec 32 := 4#32
  let c0_i32_37 : BitVec 32 := 0#32
  let c1_i32_39 : BitVec 32 := 1#32
  let arg13 : BitVec 32 := Scf.iv c0_i32_37 c1_i32_39 k0_t2
  let v197 : BitVec 32 := Scalar.muli c4_i32_110 arg13
  let v198 : BitVec 32 := Scalar.addi v196 v197
  let c2_i32 : BitVec 32 := 2#32
  let v199 : BitVec 32 := Scalar.addi v198 c2_i32
  let c512_i32_111 : BitVec 32 := 512#32
  let v200 : BitVec 32 := Scalar.muli v199 c512_i32_111
  v200
def k0_mult6 (i : grid0.Coords) (k0_t2 : Fin (k0_t2_loop i).trips) : BitVec 32 :=
  let arg1 : BitVec 32 := BitVec.ofNat 32 (i 1).val
  let c1_i32_133 : BitVec 32 := 1#32
  let v242 : BitVec 32 := Scalar.addi arg1 c1_i32_133
  let c4_i32_134 : BitVec 32 := 4#32
  let c0_i32_37 : BitVec 32 := 0#32
  let c1_i32_39 : BitVec 32 := 1#32
  let arg13 : BitVec 32 := Scf.iv c0_i32_37 c1_i32_39 k0_t2
  let v243 : BitVec 32 := Scalar.muli c4_i32_134 arg13
  let v244 : BitVec 32 := Scalar.addi v242 v243
  let c3_i32 : BitVec 32 := 3#32
  let v245 : BitVec 32 := Scalar.addi v244 c3_i32
  let c512_i32_135 : BitVec 32 := 512#32
  let v246 : BitVec 32 := Scalar.muli v245 c512_i32_135
  v246
@[reducible] def k0_t3_loop (i : grid0.Coords) : Scf.Loop 32 :=
  let c0_i32_37 : BitVec 32 := 0#32
  let c15_i32 : BitVec 32 := 15#32
  let arg1 : BitVec 32 := BitVec.ofNat 32 (i 1).val
  let v58 : BitVec 32 := Scalar.subi c15_i32 arg1
  let c0_i32_31 : BitVec 32 := 0#32
  let v60 : BitVec 1 := Scalar.cmpi .sgt v58 c0_i32_31
  let v61 : BitVec 32 := Scalar.extui v60
  let c0_i32_32 : BitVec 32 := 0#32
  let v62 : BitVec 1 := Scalar.cmpi .slt v58 c0_i32_32
  let v63 : BitVec 32 := Scalar.extui v62
  let v64 : BitVec 32 := Scalar.subi v61 v63
  let c4_i32 : BitVec 32 := 4#32
  let c0_i32_33 : BitVec 32 := 0#32
  let v65 : BitVec 1 := Scalar.cmpi .sgt c4_i32 c0_i32_33
  let v66 : BitVec 32 := Scalar.extui v65
  let c0_i32_34 : BitVec 32 := 0#32
  let v67 : BitVec 1 := Scalar.cmpi .slt c4_i32 c0_i32_34
  let v68 : BitVec 32 := Scalar.extui v67
  let v69 : BitVec 32 := Scalar.subi v66 v68
  let v70 : BitVec 1 := Scalar.cmpi .ne v64 v69
  let v71 : BitVec 32 := Scalar.remsi v58 c4_i32
  let c0_i32_35 : BitVec 32 := 0#32
  let v72 : BitVec 1 := Scalar.cmpi .ne v71 c0_i32_35
  let v73 : BitVec 1 := Scalar.andi v70 v72
  let v59 : BitVec 32 := Scalar.divsi v58 c4_i32
  let c1_i32 : BitVec 32 := 1#32
  let v74 : BitVec 32 := Scalar.subi v59 c1_i32
  let v75 : BitVec 32 := Scalar.select v73 v74 v59
  let v76 : BitVec 32 := Scalar.subi v75 c0_i32_37
  let c1_i32_38 : BitVec 32 := 1#32
  let v78 : BitVec 32 := Scalar.divsi v76 c1_i32_38
  let v79 : BitVec 32 := Scalar.muli v78 c1_i32_38
  let v80 : BitVec 32 := Scalar.addi c0_i32_37 v79
  let v77 : BitVec 32 := Scalar.addi c0_i32_37 v76
  let c1_i32_40 : BitVec 32 := 1#32
  ⟨v80, v77, c1_i32_40⟩
def k0_mult7 (i : grid0.Coords) (k0_t3 : Fin (k0_t3_loop i).trips) : BitVec 32 :=
  let arg1 : BitVec 32 := BitVec.ofNat 32 (i 1).val
  let c1_i32_59 : BitVec 32 := 1#32
  let v104 : BitVec 32 := Scalar.addi arg1 c1_i32_59
  let c4_i32_60 : BitVec 32 := 4#32
  let c0_i32_37 : BitVec 32 := 0#32
  let c15_i32 : BitVec 32 := 15#32
  let v58 : BitVec 32 := Scalar.subi c15_i32 arg1
  let c0_i32_31 : BitVec 32 := 0#32
  let v60 : BitVec 1 := Scalar.cmpi .sgt v58 c0_i32_31
  let v61 : BitVec 32 := Scalar.extui v60
  let c0_i32_32 : BitVec 32 := 0#32
  let v62 : BitVec 1 := Scalar.cmpi .slt v58 c0_i32_32
  let v63 : BitVec 32 := Scalar.extui v62
  let v64 : BitVec 32 := Scalar.subi v61 v63
  let c4_i32 : BitVec 32 := 4#32
  let c0_i32_33 : BitVec 32 := 0#32
  let v65 : BitVec 1 := Scalar.cmpi .sgt c4_i32 c0_i32_33
  let v66 : BitVec 32 := Scalar.extui v65
  let c0_i32_34 : BitVec 32 := 0#32
  let v67 : BitVec 1 := Scalar.cmpi .slt c4_i32 c0_i32_34
  let v68 : BitVec 32 := Scalar.extui v67
  let v69 : BitVec 32 := Scalar.subi v66 v68
  let v70 : BitVec 1 := Scalar.cmpi .ne v64 v69
  let v71 : BitVec 32 := Scalar.remsi v58 c4_i32
  let c0_i32_35 : BitVec 32 := 0#32
  let v72 : BitVec 1 := Scalar.cmpi .ne v71 c0_i32_35
  let v73 : BitVec 1 := Scalar.andi v70 v72
  let v59 : BitVec 32 := Scalar.divsi v58 c4_i32
  let c1_i32 : BitVec 32 := 1#32
  let v74 : BitVec 32 := Scalar.subi v59 c1_i32
  let v75 : BitVec 32 := Scalar.select v73 v74 v59
  let v76 : BitVec 32 := Scalar.subi v75 c0_i32_37
  let c1_i32_38 : BitVec 32 := 1#32
  let v78 : BitVec 32 := Scalar.divsi v76 c1_i32_38
  let v79 : BitVec 32 := Scalar.muli v78 c1_i32_38
  let v80 : BitVec 32 := Scalar.addi c0_i32_37 v79
  let c1_i32_40 : BitVec 32 := 1#32
  let arg13 : BitVec 32 := Scf.iv v80 c1_i32_40 k0_t3
  let v105 : BitVec 32 := Scalar.muli c4_i32_60 arg13
  let v106 : BitVec 32 := Scalar.addi v104 v105
  let c0_i32_61 : BitVec 32 := 0#32
  let v107 : BitVec 32 := Scalar.addi v106 c0_i32_61
  let c512_i32_62 : BitVec 32 := 512#32
  let v108 : BitVec 32 := Scalar.muli v107 c512_i32_62
  v108
def k0_off11 (i : grid0.Coords) (k0_t3 : Fin (k0_t3_loop i).trips) (c0_i32_61 : BitVec 32) : Fin 2 → Nat :=
  let arg1 : BitVec 32 := BitVec.ofNat 32 (i 1).val
  let c1_i32_59 : BitVec 32 := 1#32
  let v104 : BitVec 32 := Scalar.addi arg1 c1_i32_59
  let c4_i32_60 : BitVec 32 := 4#32
  let c0_i32_37 : BitVec 32 := 0#32
  let c15_i32 : BitVec 32 := 15#32
  let v58 : BitVec 32 := Scalar.subi c15_i32 arg1
  let c0_i32_31 : BitVec 32 := 0#32
  let v60 : BitVec 1 := Scalar.cmpi .sgt v58 c0_i32_31
  let v61 : BitVec 32 := Scalar.extui v60
  let c0_i32_32 : BitVec 32 := 0#32
  let v62 : BitVec 1 := Scalar.cmpi .slt v58 c0_i32_32
  let v63 : BitVec 32 := Scalar.extui v62
  let v64 : BitVec 32 := Scalar.subi v61 v63
  let c4_i32 : BitVec 32 := 4#32
  let c0_i32_33 : BitVec 32 := 0#32
  let v65 : BitVec 1 := Scalar.cmpi .sgt c4_i32 c0_i32_33
  let v66 : BitVec 32 := Scalar.extui v65
  let c0_i32_34 : BitVec 32 := 0#32
  let v67 : BitVec 1 := Scalar.cmpi .slt c4_i32 c0_i32_34
  let v68 : BitVec 32 := Scalar.extui v67
  let v69 : BitVec 32 := Scalar.subi v66 v68
  let v70 : BitVec 1 := Scalar.cmpi .ne v64 v69
  let v71 : BitVec 32 := Scalar.remsi v58 c4_i32
  let c0_i32_35 : BitVec 32 := 0#32
  let v72 : BitVec 1 := Scalar.cmpi .ne v71 c0_i32_35
  let v73 : BitVec 1 := Scalar.andi v70 v72
  let v59 : BitVec 32 := Scalar.divsi v58 c4_i32
  let c1_i32 : BitVec 32 := 1#32
  let v74 : BitVec 32 := Scalar.subi v59 c1_i32
  let v75 : BitVec 32 := Scalar.select v73 v74 v59
  let v76 : BitVec 32 := Scalar.subi v75 c0_i32_37
  let c1_i32_38 : BitVec 32 := 1#32
  let v78 : BitVec 32 := Scalar.divsi v76 c1_i32_38
  let v79 : BitVec 32 := Scalar.muli v78 c1_i32_38
  let v80 : BitVec 32 := Scalar.addi c0_i32_37 v79
  let c1_i32_40 : BitVec 32 := 1#32
  let arg13 : BitVec 32 := Scf.iv v80 c1_i32_40 k0_t3
  let v105 : BitVec 32 := Scalar.muli c4_i32_60 arg13
  let v106 : BitVec 32 := Scalar.addi v104 v105
  let v107 : BitVec 32 := Scalar.addi v106 c0_i32_61
  let c512_i32_62 : BitVec 32 := 512#32
  let v108 : BitVec 32 := Scalar.muli v107 c512_i32_62
  let v109 : BitVec 32 := v108
  let v110 : Index := Scalar.indexCast v109
  let c0_63 : Index := 0#32
  ![v110.toNat, 0]
def k0_off12 (i : grid0.Coords) (k0_t3 : Fin (k0_t3_loop i).trips) (c0_i32_61 : BitVec 32) : Fin 2 → Nat :=
  let arg1 : BitVec 32 := BitVec.ofNat 32 (i 1).val
  let c1_i32_59 : BitVec 32 := 1#32
  let v104 : BitVec 32 := Scalar.addi arg1 c1_i32_59
  let c4_i32_60 : BitVec 32 := 4#32
  let c0_i32_37 : BitVec 32 := 0#32
  let c15_i32 : BitVec 32 := 15#32
  let v58 : BitVec 32 := Scalar.subi c15_i32 arg1
  let c0_i32_31 : BitVec 32 := 0#32
  let v60 : BitVec 1 := Scalar.cmpi .sgt v58 c0_i32_31
  let v61 : BitVec 32 := Scalar.extui v60
  let c0_i32_32 : BitVec 32 := 0#32
  let v62 : BitVec 1 := Scalar.cmpi .slt v58 c0_i32_32
  let v63 : BitVec 32 := Scalar.extui v62
  let v64 : BitVec 32 := Scalar.subi v61 v63
  let c4_i32 : BitVec 32 := 4#32
  let c0_i32_33 : BitVec 32 := 0#32
  let v65 : BitVec 1 := Scalar.cmpi .sgt c4_i32 c0_i32_33
  let v66 : BitVec 32 := Scalar.extui v65
  let c0_i32_34 : BitVec 32 := 0#32
  let v67 : BitVec 1 := Scalar.cmpi .slt c4_i32 c0_i32_34
  let v68 : BitVec 32 := Scalar.extui v67
  let v69 : BitVec 32 := Scalar.subi v66 v68
  let v70 : BitVec 1 := Scalar.cmpi .ne v64 v69
  let v71 : BitVec 32 := Scalar.remsi v58 c4_i32
  let c0_i32_35 : BitVec 32 := 0#32
  let v72 : BitVec 1 := Scalar.cmpi .ne v71 c0_i32_35
  let v73 : BitVec 1 := Scalar.andi v70 v72
  let v59 : BitVec 32 := Scalar.divsi v58 c4_i32
  let c1_i32 : BitVec 32 := 1#32
  let v74 : BitVec 32 := Scalar.subi v59 c1_i32
  let v75 : BitVec 32 := Scalar.select v73 v74 v59
  let v76 : BitVec 32 := Scalar.subi v75 c0_i32_37
  let c1_i32_38 : BitVec 32 := 1#32
  let v78 : BitVec 32 := Scalar.divsi v76 c1_i32_38
  let v79 : BitVec 32 := Scalar.muli v78 c1_i32_38
  let v80 : BitVec 32 := Scalar.addi c0_i32_37 v79
  let c1_i32_40 : BitVec 32 := 1#32
  let arg13 : BitVec 32 := Scf.iv v80 c1_i32_40 k0_t3
  let v105 : BitVec 32 := Scalar.muli c4_i32_60 arg13
  let v106 : BitVec 32 := Scalar.addi v104 v105
  let v107 : BitVec 32 := Scalar.addi v106 c0_i32_61
  let c512_i32_62 : BitVec 32 := 512#32
  let v108 : BitVec 32 := Scalar.muli v107 c512_i32_62
  let v109 : BitVec 32 := v108
  let v113 : Index := Scalar.indexCast v109
  let c0_64 : Index := 0#32
  ![v113.toNat, 0]
def k0_off13 (i : grid0.Coords) (k0_t3 : Fin (k0_t3_loop i).trips) (c0_i32_61 : BitVec 32) : Fin 3 → Nat :=
  let c0_67 : Index := 0#32
  let c0_68 : Index := 0#32
  let arg1 : BitVec 32 := BitVec.ofNat 32 (i 1).val
  let c1_i32_59 : BitVec 32 := 1#32
  let v104 : BitVec 32 := Scalar.addi arg1 c1_i32_59
  let c4_i32_60 : BitVec 32 := 4#32
  let c0_i32_37 : BitVec 32 := 0#32
  let c15_i32 : BitVec 32 := 15#32
  let v58 : BitVec 32 := Scalar.subi c15_i32 arg1
  let c0_i32_31 : BitVec 32 := 0#32
  let v60 : BitVec 1 := Scalar.cmpi .sgt v58 c0_i32_31
  let v61 : BitVec 32 := Scalar.extui v60
  let c0_i32_32 : BitVec 32 := 0#32
  let v62 : BitVec 1 := Scalar.cmpi .slt v58 c0_i32_32
  let v63 : BitVec 32 := Scalar.extui v62
  let v64 : BitVec 32 := Scalar.subi v61 v63
  let c4_i32 : BitVec 32 := 4#32
  let c0_i32_33 : BitVec 32 := 0#32
  let v65 : BitVec 1 := Scalar.cmpi .sgt c4_i32 c0_i32_33
  let v66 : BitVec 32 := Scalar.extui v65
  let c0_i32_34 : BitVec 32 := 0#32
  let v67 : BitVec 1 := Scalar.cmpi .slt c4_i32 c0_i32_34
  let v68 : BitVec 32 := Scalar.extui v67
  let v69 : BitVec 32 := Scalar.subi v66 v68
  let v70 : BitVec 1 := Scalar.cmpi .ne v64 v69
  let v71 : BitVec 32 := Scalar.remsi v58 c4_i32
  let c0_i32_35 : BitVec 32 := 0#32
  let v72 : BitVec 1 := Scalar.cmpi .ne v71 c0_i32_35
  let v73 : BitVec 1 := Scalar.andi v70 v72
  let v59 : BitVec 32 := Scalar.divsi v58 c4_i32
  let c1_i32 : BitVec 32 := 1#32
  let v74 : BitVec 32 := Scalar.subi v59 c1_i32
  let v75 : BitVec 32 := Scalar.select v73 v74 v59
  let v76 : BitVec 32 := Scalar.subi v75 c0_i32_37
  let c1_i32_38 : BitVec 32 := 1#32
  let v78 : BitVec 32 := Scalar.divsi v76 c1_i32_38
  let v79 : BitVec 32 := Scalar.muli v78 c1_i32_38
  let v80 : BitVec 32 := Scalar.addi c0_i32_37 v79
  let c1_i32_40 : BitVec 32 := 1#32
  let arg13 : BitVec 32 := Scf.iv v80 c1_i32_40 k0_t3
  let v105 : BitVec 32 := Scalar.muli c4_i32_60 arg13
  let v106 : BitVec 32 := Scalar.addi v104 v105
  let v107 : BitVec 32 := Scalar.addi v106 c0_i32_61
  let c512_i32_62 : BitVec 32 := 512#32
  let v108 : BitVec 32 := Scalar.muli v107 c512_i32_62
  let v109 : BitVec 32 := v108
  let v118 : Index := Scalar.indexCast v109
  ![0, 0, v118.toNat]
def k0_off14 (i : grid0.Coords) (k0_t3 : Fin (k0_t3_loop i).trips) (c0_i32_61 : BitVec 32) : Fin 2 → Nat :=
  let c0_70 : Index := 0#32
  let arg1 : BitVec 32 := BitVec.ofNat 32 (i 1).val
  let c1_i32_59 : BitVec 32 := 1#32
  let v104 : BitVec 32 := Scalar.addi arg1 c1_i32_59
  let c4_i32_60 : BitVec 32 := 4#32
  let c0_i32_37 : BitVec 32 := 0#32
  let c15_i32 : BitVec 32 := 15#32
  let v58 : BitVec 32 := Scalar.subi c15_i32 arg1
  let c0_i32_31 : BitVec 32 := 0#32
  let v60 : BitVec 1 := Scalar.cmpi .sgt v58 c0_i32_31
  let v61 : BitVec 32 := Scalar.extui v60
  let c0_i32_32 : BitVec 32 := 0#32
  let v62 : BitVec 1 := Scalar.cmpi .slt v58 c0_i32_32
  let v63 : BitVec 32 := Scalar.extui v62
  let v64 : BitVec 32 := Scalar.subi v61 v63
  let c4_i32 : BitVec 32 := 4#32
  let c0_i32_33 : BitVec 32 := 0#32
  let v65 : BitVec 1 := Scalar.cmpi .sgt c4_i32 c0_i32_33
  let v66 : BitVec 32 := Scalar.extui v65
  let c0_i32_34 : BitVec 32 := 0#32
  let v67 : BitVec 1 := Scalar.cmpi .slt c4_i32 c0_i32_34
  let v68 : BitVec 32 := Scalar.extui v67
  let v69 : BitVec 32 := Scalar.subi v66 v68
  let v70 : BitVec 1 := Scalar.cmpi .ne v64 v69
  let v71 : BitVec 32 := Scalar.remsi v58 c4_i32
  let c0_i32_35 : BitVec 32 := 0#32
  let v72 : BitVec 1 := Scalar.cmpi .ne v71 c0_i32_35
  let v73 : BitVec 1 := Scalar.andi v70 v72
  let v59 : BitVec 32 := Scalar.divsi v58 c4_i32
  let c1_i32 : BitVec 32 := 1#32
  let v74 : BitVec 32 := Scalar.subi v59 c1_i32
  let v75 : BitVec 32 := Scalar.select v73 v74 v59
  let v76 : BitVec 32 := Scalar.subi v75 c0_i32_37
  let c1_i32_38 : BitVec 32 := 1#32
  let v78 : BitVec 32 := Scalar.divsi v76 c1_i32_38
  let v79 : BitVec 32 := Scalar.muli v78 c1_i32_38
  let v80 : BitVec 32 := Scalar.addi c0_i32_37 v79
  let c1_i32_40 : BitVec 32 := 1#32
  let arg13 : BitVec 32 := Scf.iv v80 c1_i32_40 k0_t3
  let v105 : BitVec 32 := Scalar.muli c4_i32_60 arg13
  let v106 : BitVec 32 := Scalar.addi v104 v105
  let v107 : BitVec 32 := Scalar.addi v106 c0_i32_61
  let c512_i32_62 : BitVec 32 := 512#32
  let v108 : BitVec 32 := Scalar.muli v107 c512_i32_62
  let v109 : BitVec 32 := v108
  let v125 : Index := Scalar.indexCast v109
  ![0, v125.toNat]
def k0_mult8 (i : grid0.Coords) (k0_t3 : Fin (k0_t3_loop i).trips) : BitVec 32 :=
  let arg1 : BitVec 32 := BitVec.ofNat 32 (i 1).val
  let c1_i32_84 : BitVec 32 := 1#32
  let v150 : BitVec 32 := Scalar.addi arg1 c1_i32_84
  let c4_i32_85 : BitVec 32 := 4#32
  let c0_i32_37 : BitVec 32 := 0#32
  let c15_i32 : BitVec 32 := 15#32
  let v58 : BitVec 32 := Scalar.subi c15_i32 arg1
  let c0_i32_31 : BitVec 32 := 0#32
  let v60 : BitVec 1 := Scalar.cmpi .sgt v58 c0_i32_31
  let v61 : BitVec 32 := Scalar.extui v60
  let c0_i32_32 : BitVec 32 := 0#32
  let v62 : BitVec 1 := Scalar.cmpi .slt v58 c0_i32_32
  let v63 : BitVec 32 := Scalar.extui v62
  let v64 : BitVec 32 := Scalar.subi v61 v63
  let c4_i32 : BitVec 32 := 4#32
  let c0_i32_33 : BitVec 32 := 0#32
  let v65 : BitVec 1 := Scalar.cmpi .sgt c4_i32 c0_i32_33
  let v66 : BitVec 32 := Scalar.extui v65
  let c0_i32_34 : BitVec 32 := 0#32
  let v67 : BitVec 1 := Scalar.cmpi .slt c4_i32 c0_i32_34
  let v68 : BitVec 32 := Scalar.extui v67
  let v69 : BitVec 32 := Scalar.subi v66 v68
  let v70 : BitVec 1 := Scalar.cmpi .ne v64 v69
  let v71 : BitVec 32 := Scalar.remsi v58 c4_i32
  let c0_i32_35 : BitVec 32 := 0#32
  let v72 : BitVec 1 := Scalar.cmpi .ne v71 c0_i32_35
  let v73 : BitVec 1 := Scalar.andi v70 v72
  let v59 : BitVec 32 := Scalar.divsi v58 c4_i32
  let c1_i32 : BitVec 32 := 1#32
  let v74 : BitVec 32 := Scalar.subi v59 c1_i32
  let v75 : BitVec 32 := Scalar.select v73 v74 v59
  let v76 : BitVec 32 := Scalar.subi v75 c0_i32_37
  let c1_i32_38 : BitVec 32 := 1#32
  let v78 : BitVec 32 := Scalar.divsi v76 c1_i32_38
  let v79 : BitVec 32 := Scalar.muli v78 c1_i32_38
  let v80 : BitVec 32 := Scalar.addi c0_i32_37 v79
  let c1_i32_40 : BitVec 32 := 1#32
  let arg13 : BitVec 32 := Scf.iv v80 c1_i32_40 k0_t3
  let v151 : BitVec 32 := Scalar.muli c4_i32_85 arg13
  let v152 : BitVec 32 := Scalar.addi v150 v151
  let c1_i32_86 : BitVec 32 := 1#32
  let v153 : BitVec 32 := Scalar.addi v152 c1_i32_86
  let c512_i32_87 : BitVec 32 := 512#32
  let v154 : BitVec 32 := Scalar.muli v153 c512_i32_87
  v154
def k0_mult9 (i : grid0.Coords) (k0_t3 : Fin (k0_t3_loop i).trips) : BitVec 32 :=
  let arg1 : BitVec 32 := BitVec.ofNat 32 (i 1).val
  let c1_i32_109 : BitVec 32 := 1#32
  let v196 : BitVec 32 := Scalar.addi arg1 c1_i32_109
  let c4_i32_110 : BitVec 32 := 4#32
  let c0_i32_37 : BitVec 32 := 0#32
  let c15_i32 : BitVec 32 := 15#32
  let v58 : BitVec 32 := Scalar.subi c15_i32 arg1
  let c0_i32_31 : BitVec 32 := 0#32
  let v60 : BitVec 1 := Scalar.cmpi .sgt v58 c0_i32_31
  let v61 : BitVec 32 := Scalar.extui v60
  let c0_i32_32 : BitVec 32 := 0#32
  let v62 : BitVec 1 := Scalar.cmpi .slt v58 c0_i32_32
  let v63 : BitVec 32 := Scalar.extui v62
  let v64 : BitVec 32 := Scalar.subi v61 v63
  let c4_i32 : BitVec 32 := 4#32
  let c0_i32_33 : BitVec 32 := 0#32
  let v65 : BitVec 1 := Scalar.cmpi .sgt c4_i32 c0_i32_33
  let v66 : BitVec 32 := Scalar.extui v65
  let c0_i32_34 : BitVec 32 := 0#32
  let v67 : BitVec 1 := Scalar.cmpi .slt c4_i32 c0_i32_34
  let v68 : BitVec 32 := Scalar.extui v67
  let v69 : BitVec 32 := Scalar.subi v66 v68
  let v70 : BitVec 1 := Scalar.cmpi .ne v64 v69
  let v71 : BitVec 32 := Scalar.remsi v58 c4_i32
  let c0_i32_35 : BitVec 32 := 0#32
  let v72 : BitVec 1 := Scalar.cmpi .ne v71 c0_i32_35
  let v73 : BitVec 1 := Scalar.andi v70 v72
  let v59 : BitVec 32 := Scalar.divsi v58 c4_i32
  let c1_i32 : BitVec 32 := 1#32
  let v74 : BitVec 32 := Scalar.subi v59 c1_i32
  let v75 : BitVec 32 := Scalar.select v73 v74 v59
  let v76 : BitVec 32 := Scalar.subi v75 c0_i32_37
  let c1_i32_38 : BitVec 32 := 1#32
  let v78 : BitVec 32 := Scalar.divsi v76 c1_i32_38
  let v79 : BitVec 32 := Scalar.muli v78 c1_i32_38
  let v80 : BitVec 32 := Scalar.addi c0_i32_37 v79
  let c1_i32_40 : BitVec 32 := 1#32
  let arg13 : BitVec 32 := Scf.iv v80 c1_i32_40 k0_t3
  let v197 : BitVec 32 := Scalar.muli c4_i32_110 arg13
  let v198 : BitVec 32 := Scalar.addi v196 v197
  let c2_i32 : BitVec 32 := 2#32
  let v199 : BitVec 32 := Scalar.addi v198 c2_i32
  let c512_i32_111 : BitVec 32 := 512#32
  let v200 : BitVec 32 := Scalar.muli v199 c512_i32_111
  v200
def k0_mult10 (i : grid0.Coords) (k0_t3 : Fin (k0_t3_loop i).trips) : BitVec 32 :=
  let arg1 : BitVec 32 := BitVec.ofNat 32 (i 1).val
  let c1_i32_133 : BitVec 32 := 1#32
  let v242 : BitVec 32 := Scalar.addi arg1 c1_i32_133
  let c4_i32_134 : BitVec 32 := 4#32
  let c0_i32_37 : BitVec 32 := 0#32
  let c15_i32 : BitVec 32 := 15#32
  let v58 : BitVec 32 := Scalar.subi c15_i32 arg1
  let c0_i32_31 : BitVec 32 := 0#32
  let v60 : BitVec 1 := Scalar.cmpi .sgt v58 c0_i32_31
  let v61 : BitVec 32 := Scalar.extui v60
  let c0_i32_32 : BitVec 32 := 0#32
  let v62 : BitVec 1 := Scalar.cmpi .slt v58 c0_i32_32
  let v63 : BitVec 32 := Scalar.extui v62
  let v64 : BitVec 32 := Scalar.subi v61 v63
  let c4_i32 : BitVec 32 := 4#32
  let c0_i32_33 : BitVec 32 := 0#32
  let v65 : BitVec 1 := Scalar.cmpi .sgt c4_i32 c0_i32_33
  let v66 : BitVec 32 := Scalar.extui v65
  let c0_i32_34 : BitVec 32 := 0#32
  let v67 : BitVec 1 := Scalar.cmpi .slt c4_i32 c0_i32_34
  let v68 : BitVec 32 := Scalar.extui v67
  let v69 : BitVec 32 := Scalar.subi v66 v68
  let v70 : BitVec 1 := Scalar.cmpi .ne v64 v69
  let v71 : BitVec 32 := Scalar.remsi v58 c4_i32
  let c0_i32_35 : BitVec 32 := 0#32
  let v72 : BitVec 1 := Scalar.cmpi .ne v71 c0_i32_35
  let v73 : BitVec 1 := Scalar.andi v70 v72
  let v59 : BitVec 32 := Scalar.divsi v58 c4_i32
  let c1_i32 : BitVec 32 := 1#32
  let v74 : BitVec 32 := Scalar.subi v59 c1_i32
  let v75 : BitVec 32 := Scalar.select v73 v74 v59
  let v76 : BitVec 32 := Scalar.subi v75 c0_i32_37
  let c1_i32_38 : BitVec 32 := 1#32
  let v78 : BitVec 32 := Scalar.divsi v76 c1_i32_38
  let v79 : BitVec 32 := Scalar.muli v78 c1_i32_38
  let v80 : BitVec 32 := Scalar.addi c0_i32_37 v79
  let c1_i32_40 : BitVec 32 := 1#32
  let arg13 : BitVec 32 := Scf.iv v80 c1_i32_40 k0_t3
  let v243 : BitVec 32 := Scalar.muli c4_i32_134 arg13
  let v244 : BitVec 32 := Scalar.addi v242 v243
  let c3_i32 : BitVec 32 := 3#32
  let v245 : BitVec 32 := Scalar.addi v244 c3_i32
  let c512_i32_135 : BitVec 32 := 512#32
  let v246 : BitVec 32 := Scalar.muli v245 c512_i32_135
  v246
@[reducible] def k0_t4_loop (i : grid0.Coords) : Scf.Loop 32 :=
  let c0_i32_48 : BitVec 32 := 0#32
  let c15_i32 : BitVec 32 := 15#32
  let arg1 : BitVec 32 := BitVec.ofNat 32 (i 1).val
  let v58 : BitVec 32 := Scalar.subi c15_i32 arg1
  let c4_i32_41 : BitVec 32 := 4#32
  let c0_i32_42 : BitVec 32 := 0#32
  let v81 : BitVec 1 := Scalar.cmpi .eq c4_i32_41 c0_i32_42
  let c1_i32_43 : BitVec 32 := 1#32
  let v82 : BitVec 32 := Scalar.select v81 c1_i32_43 c4_i32_41
  let v83 : BitVec 32 := Scalar.remsi v58 v82
  let c0_i32_45 : BitVec 32 := 0#32
  let v85 : BitVec 1 := Scalar.cmpi .slt v83 c0_i32_45
  let c0_i32_46 : BitVec 32 := 0#32
  let v86 : BitVec 1 := Scalar.cmpi .slt v82 c0_i32_46
  let v87 : BitVec 1 := Scalar.xori v85 v86
  let c0_i32_44 : BitVec 32 := 0#32
  let v84 : BitVec 1 := Scalar.cmpi .ne v83 c0_i32_44
  let v88 : BitVec 1 := Scalar.andi v87 v84
  let v89 : BitVec 32 := Scalar.addi v83 v82
  let v90 : BitVec 32 := Scalar.select v88 v89 v83
  let v91 : BitVec 32 := Scalar.subi v90 c0_i32_48
  let c1_i32_49 : BitVec 32 := 1#32
  let v93 : BitVec 32 := Scalar.divsi v91 c1_i32_49
  let v94 : BitVec 32 := Scalar.muli v93 c1_i32_49
  let v95 : BitVec 32 := Scalar.addi c0_i32_48 v94
  let c1_i32_50 : BitVec 32 := 1#32
  ⟨c0_i32_48, v95, c1_i32_50⟩
def k0_mult11 (i : grid0.Coords) (k0_t4 : Fin (k0_t4_loop i).trips) : BitVec 32 :=
  let c15_i32_59 : BitVec 32 := 15#32
  let c0_i32_48 : BitVec 32 := 0#32
  let c1_i32_50 : BitVec 32 := 1#32
  let arg13 : BitVec 32 := Scf.iv c0_i32_48 c1_i32_50 k0_t4
  let v104 : BitVec 32 := Scalar.subi c15_i32_59 arg13
  let c512_i32_60 : BitVec 32 := 512#32
  let v105 : BitVec 32 := Scalar.muli v104 c512_i32_60
  v105
def k0_off15 (i : grid0.Coords) (k0_t4 : Fin (k0_t4_loop i).trips) : Fin 2 → Nat :=
  let c15_i32_59 : BitVec 32 := 15#32
  let c0_i32_48 : BitVec 32 := 0#32
  let c1_i32_50 : BitVec 32 := 1#32
  let arg13 : BitVec 32 := Scf.iv c0_i32_48 c1_i32_50 k0_t4
  let v104 : BitVec 32 := Scalar.subi c15_i32_59 arg13
  let c512_i32_60 : BitVec 32 := 512#32
  let v105 : BitVec 32 := Scalar.muli v104 c512_i32_60
  let v106 : BitVec 32 := v105
  let v107 : Index := Scalar.indexCast v106
  let c0_61 : Index := 0#32
  ![v107.toNat, 0]
def k0_off16 (i : grid0.Coords) (k0_t4 : Fin (k0_t4_loop i).trips) : Fin 2 → Nat :=
  let c15_i32_59 : BitVec 32 := 15#32
  let c0_i32_48 : BitVec 32 := 0#32
  let c1_i32_50 : BitVec 32 := 1#32
  let arg13 : BitVec 32 := Scf.iv c0_i32_48 c1_i32_50 k0_t4
  let v104 : BitVec 32 := Scalar.subi c15_i32_59 arg13
  let c512_i32_60 : BitVec 32 := 512#32
  let v105 : BitVec 32 := Scalar.muli v104 c512_i32_60
  let v106 : BitVec 32 := v105
  let v110 : Index := Scalar.indexCast v106
  let c0_62 : Index := 0#32
  ![v110.toNat, 0]
def k0_off17 (i : grid0.Coords) (k0_t4 : Fin (k0_t4_loop i).trips) : Fin 3 → Nat :=
  let c0_65 : Index := 0#32
  let c0_66 : Index := 0#32
  let c15_i32_59 : BitVec 32 := 15#32
  let c0_i32_48 : BitVec 32 := 0#32
  let c1_i32_50 : BitVec 32 := 1#32
  let arg13 : BitVec 32 := Scf.iv c0_i32_48 c1_i32_50 k0_t4
  let v104 : BitVec 32 := Scalar.subi c15_i32_59 arg13
  let c512_i32_60 : BitVec 32 := 512#32
  let v105 : BitVec 32 := Scalar.muli v104 c512_i32_60
  let v106 : BitVec 32 := v105
  let v115 : Index := Scalar.indexCast v106
  ![0, 0, v115.toNat]
def k0_off18 (i : grid0.Coords) (k0_t4 : Fin (k0_t4_loop i).trips) : Fin 2 → Nat :=
  let c0_68 : Index := 0#32
  let c15_i32_59 : BitVec 32 := 15#32
  let c0_i32_48 : BitVec 32 := 0#32
  let c1_i32_50 : BitVec 32 := 1#32
  let arg13 : BitVec 32 := Scf.iv c0_i32_48 c1_i32_50 k0_t4
  let v104 : BitVec 32 := Scalar.subi c15_i32_59 arg13
  let c512_i32_60 : BitVec 32 := 512#32
  let v105 : BitVec 32 := Scalar.muli v104 c512_i32_60
  let v106 : BitVec 32 := v105
  let v122 : Index := Scalar.indexCast v106
  ![0, v122.toNat]
@[reducible] def k0_t5_loop (i : grid0.Coords) : Scf.Loop 32 :=
  let c0_i32_48 : BitVec 32 := 0#32
  let c15_i32 : BitVec 32 := 15#32
  let arg1 : BitVec 32 := BitVec.ofNat 32 (i 1).val
  let v58 : BitVec 32 := Scalar.subi c15_i32 arg1
  let c4_i32_41 : BitVec 32 := 4#32
  let c0_i32_42 : BitVec 32 := 0#32
  let v81 : BitVec 1 := Scalar.cmpi .eq c4_i32_41 c0_i32_42
  let c1_i32_43 : BitVec 32 := 1#32
  let v82 : BitVec 32 := Scalar.select v81 c1_i32_43 c4_i32_41
  let v83 : BitVec 32 := Scalar.remsi v58 v82
  let c0_i32_45 : BitVec 32 := 0#32
  let v85 : BitVec 1 := Scalar.cmpi .slt v83 c0_i32_45
  let c0_i32_46 : BitVec 32 := 0#32
  let v86 : BitVec 1 := Scalar.cmpi .slt v82 c0_i32_46
  let v87 : BitVec 1 := Scalar.xori v85 v86
  let c0_i32_44 : BitVec 32 := 0#32
  let v84 : BitVec 1 := Scalar.cmpi .ne v83 c0_i32_44
  let v88 : BitVec 1 := Scalar.andi v87 v84
  let v89 : BitVec 32 := Scalar.addi v83 v82
  let v90 : BitVec 32 := Scalar.select v88 v89 v83
  let v91 : BitVec 32 := Scalar.subi v90 c0_i32_48
  let c1_i32_49 : BitVec 32 := 1#32
  let v93 : BitVec 32 := Scalar.divsi v91 c1_i32_49
  let v94 : BitVec 32 := Scalar.muli v93 c1_i32_49
  let v95 : BitVec 32 := Scalar.addi c0_i32_48 v94
  let v92 : BitVec 32 := Scalar.addi c0_i32_48 v91
  let c1_i32_51 : BitVec 32 := 1#32
  ⟨v95, v92, c1_i32_51⟩
def k0_mult12 (i : grid0.Coords) (k0_t5 : Fin (k0_t5_loop i).trips) : BitVec 32 :=
  let c15_i32_59 : BitVec 32 := 15#32
  let c0_i32_48 : BitVec 32 := 0#32
  let c15_i32 : BitVec 32 := 15#32
  let arg1 : BitVec 32 := BitVec.ofNat 32 (i 1).val
  let v58 : BitVec 32 := Scalar.subi c15_i32 arg1
  let c4_i32_41 : BitVec 32 := 4#32
  let c0_i32_42 : BitVec 32 := 0#32
  let v81 : BitVec 1 := Scalar.cmpi .eq c4_i32_41 c0_i32_42
  let c1_i32_43 : BitVec 32 := 1#32
  let v82 : BitVec 32 := Scalar.select v81 c1_i32_43 c4_i32_41
  let v83 : BitVec 32 := Scalar.remsi v58 v82
  let c0_i32_45 : BitVec 32 := 0#32
  let v85 : BitVec 1 := Scalar.cmpi .slt v83 c0_i32_45
  let c0_i32_46 : BitVec 32 := 0#32
  let v86 : BitVec 1 := Scalar.cmpi .slt v82 c0_i32_46
  let v87 : BitVec 1 := Scalar.xori v85 v86
  let c0_i32_44 : BitVec 32 := 0#32
  let v84 : BitVec 1 := Scalar.cmpi .ne v83 c0_i32_44
  let v88 : BitVec 1 := Scalar.andi v87 v84
  let v89 : BitVec 32 := Scalar.addi v83 v82
  let v90 : BitVec 32 := Scalar.select v88 v89 v83
  let v91 : BitVec 32 := Scalar.subi v90 c0_i32_48
  let c1_i32_49 : BitVec 32 := 1#32
  let v93 : BitVec 32 := Scalar.divsi v91 c1_i32_49
  let v94 : BitVec 32 := Scalar.muli v93 c1_i32_49
  let v95 : BitVec 32 := Scalar.addi c0_i32_48 v94
  let c1_i32_51 : BitVec 32 := 1#32
  let arg13 : BitVec 32 := Scf.iv v95 c1_i32_51 k0_t5
  let v104 : BitVec 32 := Scalar.subi c15_i32_59 arg13
  let c512_i32_60 : BitVec 32 := 512#32
  let v105 : BitVec 32 := Scalar.muli v104 c512_i32_60
  v105
def k0_off19 (i : grid0.Coords) (k0_t5 : Fin (k0_t5_loop i).trips) : Fin 2 → Nat :=
  let c15_i32_59 : BitVec 32 := 15#32
  let c0_i32_48 : BitVec 32 := 0#32
  let c15_i32 : BitVec 32 := 15#32
  let arg1 : BitVec 32 := BitVec.ofNat 32 (i 1).val
  let v58 : BitVec 32 := Scalar.subi c15_i32 arg1
  let c4_i32_41 : BitVec 32 := 4#32
  let c0_i32_42 : BitVec 32 := 0#32
  let v81 : BitVec 1 := Scalar.cmpi .eq c4_i32_41 c0_i32_42
  let c1_i32_43 : BitVec 32 := 1#32
  let v82 : BitVec 32 := Scalar.select v81 c1_i32_43 c4_i32_41
  let v83 : BitVec 32 := Scalar.remsi v58 v82
  let c0_i32_45 : BitVec 32 := 0#32
  let v85 : BitVec 1 := Scalar.cmpi .slt v83 c0_i32_45
  let c0_i32_46 : BitVec 32 := 0#32
  let v86 : BitVec 1 := Scalar.cmpi .slt v82 c0_i32_46
  let v87 : BitVec 1 := Scalar.xori v85 v86
  let c0_i32_44 : BitVec 32 := 0#32
  let v84 : BitVec 1 := Scalar.cmpi .ne v83 c0_i32_44
  let v88 : BitVec 1 := Scalar.andi v87 v84
  let v89 : BitVec 32 := Scalar.addi v83 v82
  let v90 : BitVec 32 := Scalar.select v88 v89 v83
  let v91 : BitVec 32 := Scalar.subi v90 c0_i32_48
  let c1_i32_49 : BitVec 32 := 1#32
  let v93 : BitVec 32 := Scalar.divsi v91 c1_i32_49
  let v94 : BitVec 32 := Scalar.muli v93 c1_i32_49
  let v95 : BitVec 32 := Scalar.addi c0_i32_48 v94
  let c1_i32_51 : BitVec 32 := 1#32
  let arg13 : BitVec 32 := Scf.iv v95 c1_i32_51 k0_t5
  let v104 : BitVec 32 := Scalar.subi c15_i32_59 arg13
  let c512_i32_60 : BitVec 32 := 512#32
  let v105 : BitVec 32 := Scalar.muli v104 c512_i32_60
  let v106 : BitVec 32 := v105
  let v107 : Index := Scalar.indexCast v106
  let c0_61 : Index := 0#32
  ![v107.toNat, 0]
def k0_off20 (i : grid0.Coords) (k0_t5 : Fin (k0_t5_loop i).trips) : Fin 2 → Nat :=
  let c15_i32_59 : BitVec 32 := 15#32
  let c0_i32_48 : BitVec 32 := 0#32
  let c15_i32 : BitVec 32 := 15#32
  let arg1 : BitVec 32 := BitVec.ofNat 32 (i 1).val
  let v58 : BitVec 32 := Scalar.subi c15_i32 arg1
  let c4_i32_41 : BitVec 32 := 4#32
  let c0_i32_42 : BitVec 32 := 0#32
  let v81 : BitVec 1 := Scalar.cmpi .eq c4_i32_41 c0_i32_42
  let c1_i32_43 : BitVec 32 := 1#32
  let v82 : BitVec 32 := Scalar.select v81 c1_i32_43 c4_i32_41
  let v83 : BitVec 32 := Scalar.remsi v58 v82
  let c0_i32_45 : BitVec 32 := 0#32
  let v85 : BitVec 1 := Scalar.cmpi .slt v83 c0_i32_45
  let c0_i32_46 : BitVec 32 := 0#32
  let v86 : BitVec 1 := Scalar.cmpi .slt v82 c0_i32_46
  let v87 : BitVec 1 := Scalar.xori v85 v86
  let c0_i32_44 : BitVec 32 := 0#32
  let v84 : BitVec 1 := Scalar.cmpi .ne v83 c0_i32_44
  let v88 : BitVec 1 := Scalar.andi v87 v84
  let v89 : BitVec 32 := Scalar.addi v83 v82
  let v90 : BitVec 32 := Scalar.select v88 v89 v83
  let v91 : BitVec 32 := Scalar.subi v90 c0_i32_48
  let c1_i32_49 : BitVec 32 := 1#32
  let v93 : BitVec 32 := Scalar.divsi v91 c1_i32_49
  let v94 : BitVec 32 := Scalar.muli v93 c1_i32_49
  let v95 : BitVec 32 := Scalar.addi c0_i32_48 v94
  let c1_i32_51 : BitVec 32 := 1#32
  let arg13 : BitVec 32 := Scf.iv v95 c1_i32_51 k0_t5
  let v104 : BitVec 32 := Scalar.subi c15_i32_59 arg13
  let c512_i32_60 : BitVec 32 := 512#32
  let v105 : BitVec 32 := Scalar.muli v104 c512_i32_60
  let v106 : BitVec 32 := v105
  let v110 : Index := Scalar.indexCast v106
  let c0_62 : Index := 0#32
  ![v110.toNat, 0]
def k0_off21 (i : grid0.Coords) (k0_t5 : Fin (k0_t5_loop i).trips) : Fin 3 → Nat :=
  let c0_65 : Index := 0#32
  let c0_66 : Index := 0#32
  let c15_i32_59 : BitVec 32 := 15#32
  let c0_i32_48 : BitVec 32 := 0#32
  let c15_i32 : BitVec 32 := 15#32
  let arg1 : BitVec 32 := BitVec.ofNat 32 (i 1).val
  let v58 : BitVec 32 := Scalar.subi c15_i32 arg1
  let c4_i32_41 : BitVec 32 := 4#32
  let c0_i32_42 : BitVec 32 := 0#32
  let v81 : BitVec 1 := Scalar.cmpi .eq c4_i32_41 c0_i32_42
  let c1_i32_43 : BitVec 32 := 1#32
  let v82 : BitVec 32 := Scalar.select v81 c1_i32_43 c4_i32_41
  let v83 : BitVec 32 := Scalar.remsi v58 v82
  let c0_i32_45 : BitVec 32 := 0#32
  let v85 : BitVec 1 := Scalar.cmpi .slt v83 c0_i32_45
  let c0_i32_46 : BitVec 32 := 0#32
  let v86 : BitVec 1 := Scalar.cmpi .slt v82 c0_i32_46
  let v87 : BitVec 1 := Scalar.xori v85 v86
  let c0_i32_44 : BitVec 32 := 0#32
  let v84 : BitVec 1 := Scalar.cmpi .ne v83 c0_i32_44
  let v88 : BitVec 1 := Scalar.andi v87 v84
  let v89 : BitVec 32 := Scalar.addi v83 v82
  let v90 : BitVec 32 := Scalar.select v88 v89 v83
  let v91 : BitVec 32 := Scalar.subi v90 c0_i32_48
  let c1_i32_49 : BitVec 32 := 1#32
  let v93 : BitVec 32 := Scalar.divsi v91 c1_i32_49
  let v94 : BitVec 32 := Scalar.muli v93 c1_i32_49
  let v95 : BitVec 32 := Scalar.addi c0_i32_48 v94
  let c1_i32_51 : BitVec 32 := 1#32
  let arg13 : BitVec 32 := Scf.iv v95 c1_i32_51 k0_t5
  let v104 : BitVec 32 := Scalar.subi c15_i32_59 arg13
  let c512_i32_60 : BitVec 32 := 512#32
  let v105 : BitVec 32 := Scalar.muli v104 c512_i32_60
  let v106 : BitVec 32 := v105
  let v115 : Index := Scalar.indexCast v106
  ![0, 0, v115.toNat]
def k0_off22 (i : grid0.Coords) (k0_t5 : Fin (k0_t5_loop i).trips) : Fin 2 → Nat :=
  let c0_68 : Index := 0#32
  let c15_i32_59 : BitVec 32 := 15#32
  let c0_i32_48 : BitVec 32 := 0#32
  let c15_i32 : BitVec 32 := 15#32
  let arg1 : BitVec 32 := BitVec.ofNat 32 (i 1).val
  let v58 : BitVec 32 := Scalar.subi c15_i32 arg1
  let c4_i32_41 : BitVec 32 := 4#32
  let c0_i32_42 : BitVec 32 := 0#32
  let v81 : BitVec 1 := Scalar.cmpi .eq c4_i32_41 c0_i32_42
  let c1_i32_43 : BitVec 32 := 1#32
  let v82 : BitVec 32 := Scalar.select v81 c1_i32_43 c4_i32_41
  let v83 : BitVec 32 := Scalar.remsi v58 v82
  let c0_i32_45 : BitVec 32 := 0#32
  let v85 : BitVec 1 := Scalar.cmpi .slt v83 c0_i32_45
  let c0_i32_46 : BitVec 32 := 0#32
  let v86 : BitVec 1 := Scalar.cmpi .slt v82 c0_i32_46
  let v87 : BitVec 1 := Scalar.xori v85 v86
  let c0_i32_44 : BitVec 32 := 0#32
  let v84 : BitVec 1 := Scalar.cmpi .ne v83 c0_i32_44
  let v88 : BitVec 1 := Scalar.andi v87 v84
  let v89 : BitVec 32 := Scalar.addi v83 v82
  let v90 : BitVec 32 := Scalar.select v88 v89 v83
  let v91 : BitVec 32 := Scalar.subi v90 c0_i32_48
  let c1_i32_49 : BitVec 32 := 1#32
  let v93 : BitVec 32 := Scalar.divsi v91 c1_i32_49
  let v94 : BitVec 32 := Scalar.muli v93 c1_i32_49
  let v95 : BitVec 32 := Scalar.addi c0_i32_48 v94
  let c1_i32_51 : BitVec 32 := 1#32
  let arg13 : BitVec 32 := Scf.iv v95 c1_i32_51 k0_t5
  let v104 : BitVec 32 := Scalar.subi c15_i32_59 arg13
  let c512_i32_60 : BitVec 32 := 512#32
  let v105 : BitVec 32 := Scalar.muli v104 c512_i32_60
  let v106 : BitVec 32 := v105
  let v122 : Index := Scalar.indexCast v106
  ![0, v122.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S8192x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S8192x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S8192x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FlashBwdIdeal.lean ====
variable {F : FTy → Type} [FloatOps F] [Named F]
def κ : String → Option EReal := fun
  | "exp2" => some ((((Real.sqrt 192) * (Real.log 2))⁻¹ : ℝ) : EReal)
  | "mask" => some ⊥
  | "scale" => some (((Real.sqrt 192)⁻¹ : ℝ) : EReal)
  | _ => none
-- ==== FlashBwdRefIdeal.lean ====
abbrev S8192x4x192 : Shape := ⟨3, ![8192, 4, 192]⟩
abbrev S8192x4x128 : Shape := ⟨3, ![8192, 4, 128]⟩
abbrev S_ : Shape := ⟨0, ![]⟩
abbrev S4x8192x8192 : Shape := ⟨3, ![4, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8192 : Shape := ⟨2, ![4, 8192]⟩
abbrev S4x8192x1 : Shape := ⟨3, ![4, 8192, 1]⟩
abbrev S4x128x8192 : Shape := ⟨3, ![4, 128, 8192]⟩
abbrev S4x8192x192 : Shape := ⟨3, ![4, 8192, 192]⟩
abbrev S8192x4x256 : Shape := ⟨3, ![8192, 4, 256]⟩
abbrev S8192x1024 : Shape := ⟨2, ![8192, 1024]⟩
abbrev S8192x512 : Shape := ⟨2, ![8192, 512]⟩

abbrev nBuf : Space → Nat
  | .hbm => 100
  | .vmem => 0
  | .smem => 0
  | _ => 0

abbrev bufTy : (tb : Table) → Fin (tcTables nBuf tb) → BufTy
  | .hbm, ⟨0, _⟩ => ⟨S8192x4x192, .f32⟩
  | .hbm, ⟨1, _⟩ => ⟨S8192x4x192, .f32⟩
  | .hbm, ⟨2, _⟩ => ⟨S8192x4x128, .f32⟩
  | .hbm, ⟨3, _⟩ => ⟨S8192x4x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4x8192x8192, .f32⟩
  | .hbm, ⟨9, _⟩ => ⟨S4x8192x8192, .f32⟩
  | .hbm, ⟨10, _⟩ => ⟨S4x8192x8192, .f32⟩
  | .hbm, ⟨11, _⟩ => ⟨S8192, .i32⟩
  | .hbm, ⟨12, _⟩ => ⟨S1x8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S_, .f32⟩
  | .hbm, ⟨18, _⟩ => ⟨S_, .f32⟩
  | .hbm, ⟨19, _⟩ => ⟨S4x8192x8192, .i1⟩
  | .hbm, ⟨20, _⟩ => ⟨S4x8192x8192, .f32⟩
  | .hbm, ⟨21, _⟩ => ⟨S4x8192x8192, .f32⟩
  | .hbm, ⟨22, _⟩ => ⟨S_, .f32⟩
  | .hbm, ⟨23, _⟩ => ⟨S4x8192x8192, .f32⟩
  | .hbm, ⟨24, _⟩ => ⟨S_, .f32⟩
  | .hbm, ⟨25, _⟩ => ⟨S4x8192, .f32⟩
  | .hbm, ⟨26, _⟩ => ⟨S4x8192x1, .f32⟩
  | .hbm, ⟨27, _⟩ => ⟨S4x8192x8192, .f32⟩
  | .hbm, ⟨28, _⟩ => ⟨S4x8192x8192, .i1⟩
  | .hbm, ⟨29, _⟩ => ⟨S4x8192x8192, .f32⟩
  | .hbm, ⟨30, _⟩ => ⟨S_, .f32⟩
  | .hbm, ⟨31, _⟩ => ⟨S4x8192, .f32⟩
  | .hbm, ⟨32, _⟩ => ⟨S_, .f32⟩
  | .hbm, ⟨33, _⟩ => ⟨S4x8192, .f32⟩
  | .hbm, ⟨34, _⟩ => ⟨S4x8192, .f32⟩
  | .hbm, ⟨35, _⟩ => ⟨S_, .f32⟩
  | .hbm, ⟨36, _⟩ => ⟨S4x8192, .f32⟩
  | .hbm, ⟨37, _⟩ => ⟨S4x8192, .i1⟩
  | .hbm, ⟨38, _⟩ => ⟨S_, .f32⟩
  | .hbm, ⟨39, _⟩ => ⟨S4x8192, .f32⟩
  | .hbm, ⟨40, _⟩ => ⟨S4x8192, .i1⟩
  | .hbm, ⟨41, _⟩ => ⟨S_, .f32⟩
  | .hbm, ⟨42, _⟩ => ⟨S4x8192, .f32⟩
  | .hbm, ⟨43, _⟩ => ⟨S_, .f32⟩
  | .hbm, ⟨44, _⟩ => ⟨S4x8192, .f32⟩
  | .hbm, ⟨45, _⟩ => ⟨S_, .f32⟩
  | .hbm, ⟨46, _⟩ => ⟨S4x8192, .f32⟩
  | .hbm, ⟨47, _⟩ => ⟨S4x8192, .f32⟩
  | .hbm, ⟨48, _⟩ => ⟨S4x8192, .f32⟩
  | .hbm, ⟨49, _⟩ => ⟨S4x8192x1, .f32⟩
  | .hbm, ⟨50, _⟩ => ⟨S4x8192x8192, .f32⟩
  | .hbm, ⟨51, _⟩ => ⟨S4x8192x8192, .f32⟩
  | .hbm, ⟨52, _⟩ => ⟨S4x8192x8192, .f32⟩
  | .hbm, ⟨53, _⟩ => ⟨S_, .f32⟩
  | .hbm, ⟨54, _⟩ => ⟨S4x8192, .f32⟩
  | .hbm, ⟨55, _⟩ => ⟨S4x8192x1, .f32⟩
  | .hbm, ⟨56, _⟩ => ⟨S4x8192x8192, .f32⟩
  | .hbm, ⟨57, _⟩ => ⟨S4x8192x8192, .f32⟩
  | .hbm, ⟨58, _⟩ => ⟨S4x8192x1, .f32⟩
  | .hbm, ⟨59, _⟩ => ⟨S_, .f32⟩
  | .hbm, ⟨60, _⟩ => ⟨S4x8192x1, .f32⟩
  | .hbm, ⟨61, _⟩ => ⟨S4x8192x1, .f32⟩
  | .hbm, ⟨62, _⟩ => ⟨S4x128x8192, .f32⟩
  | .hbm, ⟨63, _⟩ => ⟨S8192x4x128, .f32⟩
  | .hbm, ⟨64, _⟩ => ⟨S4x128x8192, .f32⟩
  | .hbm, ⟨65, _⟩ => ⟨S4x8192x8192, .f32⟩
  | .hbm, ⟨66, _⟩ => ⟨S4x128x8192, .f32⟩
  | .hbm, ⟨67, _⟩ => ⟨S8192x4x128, .f32⟩
  | .hbm, ⟨68, _⟩ => ⟨S4x8192x8192, .f32⟩
  | .hbm, ⟨69, _⟩ => ⟨S4x8192x8192, .f32⟩
  | .hbm, ⟨70, _⟩ => ⟨S4x8192x8192, .f32⟩
  | .hbm, ⟨71, _⟩ => ⟨S_, .f32⟩
  | .hbm, ⟨72, _⟩ => ⟨S4x8192, .f32⟩
  | .hbm, ⟨73, _⟩ => ⟨S4x8192x1, .f32⟩
  | .hbm, ⟨74, _⟩ => ⟨S4x8192x1, .f32⟩
  | .hbm, ⟨75, _⟩ => ⟨S4x8192x8192, .f32⟩
  | .hbm, ⟨76, _⟩ => ⟨S4x8192x8192, .f32⟩
  | .hbm, ⟨77, _⟩ => ⟨S_, .f32⟩
  | .hbm, ⟨78, _⟩ => ⟨S4x8192, .f32⟩
  | .hbm, ⟨79, _⟩ => ⟨S4x8192x8192, .f32⟩
  | .hbm, ⟨80, _⟩ => ⟨S4x8192x8192, .f32⟩
  | .hbm, ⟨81, _⟩ => ⟨S4x8192x8192, .f32⟩
  | .hbm, ⟨82, _⟩ => ⟨S_, .f32⟩
  | .hbm, ⟨83, _⟩ => ⟨S4x8192x8192, .f32⟩
  | .hbm, ⟨84, _⟩ => ⟨S4x8192x8192, .f32⟩
  | .hbm, ⟨85, _⟩ => ⟨S4x8192x8192, .f32⟩
  | .hbm, ⟨86, _⟩ => ⟨S4x8192x8192, .f32⟩
  | .hbm, ⟨87, _⟩ => ⟨S4x8192x192, .f32⟩
  | .hbm, ⟨88, _⟩ => ⟨S8192x4x192, .f32⟩
  | .hbm, ⟨89, _⟩ => ⟨S4x8192x192, .f32⟩
  | .hbm, ⟨90, _⟩ => ⟨S8192x4x192, .f32⟩
  | .hbm, ⟨91, _⟩ => ⟨S_, .i32⟩
  | .hbm, ⟨92, _⟩ => ⟨S_, .f32⟩
  | .hbm, ⟨93, _⟩ => ⟨S8192x4x256, .f32⟩
  | .hbm, ⟨94, _⟩ => ⟨S8192x1024, .f32⟩
  | .hbm, ⟨95, _⟩ => ⟨S_, .i32⟩
  | .hbm, ⟨96, _⟩ => ⟨S_, .f32⟩
  | .hbm, ⟨97, _⟩ => ⟨S8192x4x256, .f32⟩
  | .hbm, ⟨98, _⟩ => ⟨S8192x1024, .f32⟩
  | .hbm, ⟨99, _⟩ => ⟨S8192x512, .f32⟩
  | _, _ => ⟨S8192x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_call0_v0 : Ref sig .tc := ⟨.hbm, 18, rfl⟩
abbrev main_v11_1 : Ref sig .tc := ⟨.hbm, 19, rfl⟩
abbrev main_call0_v2 : Ref sig .tc := ⟨.hbm, 20, rfl⟩
abbrev main_v11_0 : Ref sig .tc := ⟨.hbm, 21, rfl⟩
abbrev main_call0_cst : Ref sig .tc := ⟨.hbm, 22, rfl⟩
abbrev main_v11_2 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_cst_9 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_10 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_11 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_12 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_13 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_call1_cst : Ref sig .tc := ⟨.hbm, 82, rfl⟩
abbrev main_call1_v0 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_call3_v0 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩

abbrev nD : Nat := 1
abbrev τ : Topo := Topo.v7x

variable {F : FTy → Type} [FloatOps F]
-- ==== LossBwd.lean ====
abbrev S8192x1024 : Shape := ⟨2, ![8192, 1024]⟩
abbrev S_ : Shape := ⟨0, ![]⟩
abbrev S1x128 : Shape := ⟨2, ![1, 128]⟩
abbrev S1 : Shape := ⟨1, ![1]⟩
abbrev S2 : Shape := ⟨1, ![2]⟩
abbrev S512x1024 : Shape := ⟨2, ![512, 1024]⟩
abbrev S1x1x128 : Shape := ⟨3, ![1, 1, 128]⟩
abbrev S1x1x1 : Shape := ⟨3, ![1, 1, 1]⟩
abbrev S1x1 : Shape := ⟨2, ![1, 1]⟩
abbrev S512x1 : Shape := ⟨2, ![512, 1]⟩
abbrev S512 : Shape := ⟨1, ![512]⟩

abbrev nBuf : Space → Nat
  | .hbm => 12
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1x128, .f32⟩
  | .hbm, ⟨4, _⟩ => ⟨S_, .i32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S2, .i32⟩
  | .hbm, ⟨9, _⟩ => ⟨S_, .f32⟩
  | .hbm, ⟨10, _⟩ => ⟨S1x128, .f32⟩
  | .hbm, ⟨11, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x128, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossBwdRefIdeal.lean ====
abbrev S8192x1024 : Shape := ⟨2, ![8192, 1024]⟩
abbrev S_ : Shape := ⟨0, ![]⟩
abbrev S8192 : Shape := ⟨1, ![8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== TailBwd.lean ====
abbrev S8192x1024 : Shape := ⟨2, ![8192, 1024]⟩
abbrev S8192x512 : Shape := ⟨2, ![8192, 512]⟩
abbrev S128 : Shape := ⟨1, ![128]⟩
abbrev S1024x1024 : Shape := ⟨2, ![1024, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512x512 : Shape := ⟨2, ![512, 512]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S256x1024 : Shape := ⟨2, ![256, 1024]⟩
abbrev S256x384 : Shape := ⟨2, ![256, 384]⟩
abbrev S256x256 : Shape := ⟨2, ![256, 256]⟩

abbrev nBuf : Space → Nat
  | .hbm => 24
  | .vmem => 32
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S128, .f32⟩
  | .hbm, ⟨6, _⟩ => ⟨S1024x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S8192x1024, .f32⟩
  | .hbm, ⟨11, _⟩ => ⟨S1x128, .f32⟩
  | .hbm, ⟨12, _⟩ => ⟨S1x1024, .f32⟩
  | .hbm, ⟨13, _⟩ => ⟨S1x1024, .f32⟩
  | .hbm, ⟨14, _⟩ => ⟨S8192x1024, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S1x128, .f32⟩
  | .hbm, ⟨20, _⟩ => ⟨S1024x1024, .f32⟩
  | .hbm, ⟨21, _⟩ => ⟨S1x1024, .f32⟩
  | .hbm, ⟨22, _⟩ => ⟨S1x1024, .f32⟩
  | .hbm, ⟨23, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x128, .f32⟩
  | .local _ .vmem, ⟨11, _⟩ => ⟨S1024x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S1x128, .f32⟩
  | .local _ .vmem, ⟨28, _⟩ => ⟨S1024x1024, .f32⟩
  | .local _ .vmem, ⟨29, _⟩ => ⟨S1x1024, .f32⟩
  | .local _ .vmem, ⟨30, _⟩ => ⟨S1x1024, .f32⟩
  | .local _ .vmem, ⟨31, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev main_v3_3 : Ref sig .tc := ⟨.hbm, 17, rfl⟩
abbrev main_v3_4 : Ref sig .tc := ⟨.hbm, 18, rfl⟩
abbrev main_v3_5 : Ref sig .tc := ⟨.hbm, 19, rfl⟩
abbrev main_v3_6 : Ref sig .tc := ⟨.hbm, 20, rfl⟩
abbrev main_v3_7 : Ref sig .tc := ⟨.hbm, 21, rfl⟩
abbrev main_v3_8 : Ref sig .tc := ⟨.hbm, 22, rfl⟩
abbrev main_v3_9 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem20_0 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== TailBwdRefIdeal.lean ====
abbrev S8192x1024 : Shape := ⟨2, ![8192, 1024]⟩
abbrev S8192x512 : Shape := ⟨2, ![8192, 512]⟩
abbrev S128 : Shape := ⟨1, ![128]⟩
abbrev S1024x1024 : Shape := ⟨2, ![1024, 1024]⟩
abbrev S1024 : Shape := ⟨1, ![1024]⟩
abbrev S1x1024 : Shape := ⟨2, ![1, 1024]⟩
abbrev S1x128 : Shape := ⟨2, ![1, 128]⟩
abbrev S_ : Shape := ⟨0, ![]⟩
abbrev S8192x4x128 : Shape := ⟨3, ![8192, 4, 128]⟩
abbrev S8192x4 : Shape := ⟨2, ![8192, 4]⟩
abbrev S8192x4x1 : Shape := ⟨3, ![8192, 4, 1]⟩
abbrev S1x1x128 : Shape := ⟨3, ![1, 1, 128]⟩
abbrev S8192 : Shape := ⟨1, ![8192]⟩
abbrev S8192x1 : Shape := ⟨2, ![8192, 1]⟩

abbrev nBuf : Space → Nat
  | .hbm => 164
  | .vmem => 0
  | .smem => 0
  | _ => 0

abbrev hbmTy0_0 (i : Nat) : BufTy := match i % 128 with
  | 0 => ⟨S8192x1024, .f32⟩
  | 1 => ⟨S8192x512, .f32⟩
  | 2 => ⟨S8192x512, .f32⟩
  | 3 => ⟨S8192x512, .f32⟩
  | 4 => ⟨S8192x512, .f32⟩
  | 5 => ⟨S128, .f32⟩
  | 6 => ⟨S1024x1024, .f32⟩
  | 7 => ⟨S1024, .f32⟩
  | 8 => ⟨S1x1024, .f32⟩
  | 9 => ⟨S1024, .f32⟩
  | 10 => ⟨S8192x1024, .f32⟩
  | 11 => ⟨S1x128, .f32⟩
  | 12 => ⟨S1x1024, .f32⟩
  | 13 => ⟨S1x1024, .f32⟩
  | 14 => ⟨S8192x512, .f32⟩
  | 15 => ⟨S8192x512, .f32⟩
  | 16 => ⟨S_, .f32⟩
  | 17 => ⟨S8192x512, .f32⟩
  | 18 => ⟨S8192x512, .f32⟩
  | 19 => ⟨S_, .f32⟩
  | 20 => ⟨S8192x512, .f32⟩
  | 21 => ⟨S8192x512, .f32⟩
  | 22 => ⟨S_, .f32⟩
  | 23 => ⟨S8192x512, .f32⟩
  | 24 => ⟨S8192x512, .f32⟩
  | 25 => ⟨S8192x512, .f32⟩
  | 26 => ⟨S8192x512, .f32⟩
  | 27 => ⟨S8192x512, .f32⟩
  | 28 => ⟨S8192x4x128, .f32⟩
  | 29 => ⟨S8192x4x128, .f32⟩
  | 30 => ⟨S_, .f32⟩
  | 31 => ⟨S8192x4, .f32⟩
  | 32 => ⟨S8192x4x1, .f32⟩
  | 33 => ⟨S_, .f32⟩
  | 34 => ⟨S8192x4x1, .f32⟩
  | 35 => ⟨S8192x4x1, .f32⟩
  | 36 => ⟨S_, .f32⟩
  | 37 => ⟨S8192x4x1, .f32⟩
  | 38 => ⟨S8192x4x1, .f32⟩
  | 39 => ⟨S8192x4x1, .f32⟩
  | 40 => ⟨S8192x4x1, .f32⟩
  | 41 => ⟨S_, .f32⟩
  | 42 => ⟨S8192x4x1, .f32⟩
  | 43 => ⟨S8192x4x1, .f32⟩
  | 44 => ⟨S8192x4x128, .f32⟩
  | 45 => ⟨S8192x4x128, .f32⟩
  | 46 => ⟨S1x1x128, .f32⟩
  | 47 => ⟨S8192x4x128, .f32⟩
  | 48 => ⟨S8192x4x128, .f32⟩
  | 49 => ⟨S8192x512, .f32⟩
  | 50 => ⟨S8192x512, .f32⟩
  | 51 => ⟨S8192x512, .f32⟩
  | 52 => ⟨S_, .f32⟩
  | 53 => ⟨S8192x512, .f32⟩
  | 54 => ⟨S8192x512, .f32⟩
  | 55 => ⟨S_, .f32⟩
  | 56 => ⟨S8192x512, .f32⟩
  | 57 => ⟨S8192x512, .f32⟩
  | 58 => ⟨S_, .f32⟩
  | 59 => ⟨S8192x512, .f32⟩
  | 60 => ⟨S8192x512, .f32⟩
  | 61 => ⟨S8192x512, .f32⟩
  | 62 => ⟨S8192x512, .f32⟩
  | 63 => ⟨S8192x512, .f32⟩
  | 64 => ⟨S8192x1024, .f32⟩
  | 65 => ⟨S8192x1024, .f32⟩
  | 66 => ⟨S1x1024, .f32⟩
  | 67 => ⟨S8192x1024, .f32⟩
  | 68 => ⟨S_, .f32⟩
  | 69 => ⟨S8192, .f32⟩
  | 70 => ⟨S8192x1, .f32⟩
  | 71 => ⟨S_, .f32⟩
  | 72 => ⟨S8192x1, .f32⟩
  | 73 => ⟨S8192x1, .f32⟩
  | 74 => ⟨S_, .f32⟩
  | 75 => ⟨S8192x1, .f32⟩
  | 76 => ⟨S8192x1, .f32⟩
  | 77 => ⟨S8192x1, .f32⟩
  | 78 => ⟨S8192x1, .f32⟩
  | 79 => ⟨S_, .f32⟩
  | 80 => ⟨S8192x1, .f32⟩
  | 81 => ⟨S8192x1, .f32⟩
  | 82 => ⟨S8192x1024, .f32⟩
  | 83 => ⟨S8192x1024, .f32⟩
  | 84 => ⟨S8192x1024, .f32⟩
  | 85 => ⟨S8192x1024, .f32⟩
  | 86 => ⟨S8192x1024, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S8192x1024, .f32⟩
  | 93 => ⟨S_, .f32⟩
  | 94 => ⟨S1024, .f32⟩
  | 95 => ⟨S1x1024, .f32⟩
  | 96 => ⟨S8192x1024, .f32⟩
  | 97 => ⟨S_, .f32⟩
  | 98 => ⟨S1024, .f32⟩
  | 99 => ⟨S1x1024, .f32⟩
  | 100 => ⟨S8192x1024, .f32⟩
  | 101 => ⟨S8192x1024, .f32⟩
  | 102 => ⟨S8192x1024, .f32⟩
  | 103 => ⟨S_, .f32⟩
  | 104 => ⟨S8192, .f32⟩
  | 105 => ⟨S8192x1, .f32⟩
  | 106 => ⟨S8192x1024, .f32⟩
  | 107 => ⟨S8192x1024, .f32⟩
  | 108 => ⟨S8192x1, .f32⟩
  | 109 => ⟨S_, .f32⟩
  | 110 => ⟨S8192x1, .f32⟩
  | 111 => ⟨S8192x1, .f32⟩
  | 112 => ⟨S_, .f32⟩
  | 113 => ⟨S8192, .f32⟩
  | 114 => ⟨S8192x1024, .f32⟩
  | 115 => ⟨S8192x1024, .f32⟩
  | 116 => ⟨S8192x1024, .f32⟩
  | 117 => ⟨S8192x1024, .f32⟩
  | 118 => ⟨S8192x1024, .f32⟩
  | 119 => ⟨S1024x1024, .f32⟩
  | 120 => ⟨S1024x1024, .f32⟩
  | 121 => ⟨S8192x1024, .f32⟩
  | 122 => ⟨S8192x512, .f32⟩
  | 123 => ⟨S8192x512, .f32⟩
  | 124 => ⟨S8192x512, .f32⟩
  | 125 => ⟨S8192x512, .f32⟩
  | 126 => ⟨S8192x512, .f32⟩
  | 127 => ⟨S8192x512, .f32⟩
  | _ => ⟨S8192x1024, .f32⟩

abbrev hbmTy0_1 (i : Nat) : BufTy := match i % 128 with
  | 0 => ⟨S8192x512, .f32⟩
  | 1 => ⟨S8192x512, .f32⟩
  | 2 => ⟨S8192x4x128, .f32⟩
  | 3 => ⟨S8192x4x128, .f32⟩
  | 4 => ⟨S_, .f32⟩
  | 5 => ⟨S128, .f32⟩
  | 6 => ⟨S1x1x128, .f32⟩
  | 7 => ⟨S8192x4x128, .f32⟩
  | 8 => ⟨S8192x4x128, .f32⟩
  | 9 => ⟨S_, .f32⟩
  | 10 => ⟨S128, .f32⟩
  | 11 => ⟨S1x128, .f32⟩
  | 12 => ⟨S8192x4x128, .f32⟩
  | 13 => ⟨S_, .f32⟩
  | 14 => ⟨S8192x4, .f32⟩
  | 15 => ⟨S8192x4x1, .f32⟩
  | 16 => ⟨S8192x4x128, .f32⟩
  | 17 => ⟨S8192x4x128, .f32⟩
  | 18 => ⟨S8192x4x1, .f32⟩
  | 19 => ⟨S_, .f32⟩
  | 20 => ⟨S8192x4x1, .f32⟩
  | 21 => ⟨S8192x4x1, .f32⟩
  | 22 => ⟨S_, .f32⟩
  | 23 => ⟨S8192x4, .f32⟩
  | 24 => ⟨S8192x4x128, .f32⟩
  | 25 => ⟨S8192x4x128, .f32⟩
  | 26 => ⟨S8192x4x128, .f32⟩
  | 27 => ⟨S8192x4x128, .f32⟩
  | 28 => ⟨S8192x4x128, .f32⟩
  | 29 => ⟨S8192x512, .f32⟩
  | 30 => ⟨S8192x512, .f32⟩
  | 31 => ⟨S8192x512, .f32⟩
  | 32 => ⟨S8192x512, .f32⟩
  | 33 => ⟨S8192x512, .f32⟩
  | 34 => ⟨S8192x512, .f32⟩
  | 35 => ⟨S8192x512, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v3_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v3_1 : Ref sig .tc := ⟨.hbm, 25, rfl⟩
abbrev main_v3_0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_cst_0 : Ref sig .tc := ⟨.hbm, 33, rfl⟩
abbrev main_v9 : Ref sig .tc := ⟨.hbm, 34, rfl⟩
abbrev main_v10 : Ref sig .tc := ⟨.hbm, 35, rfl⟩
abbrev main_cst_1 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst_2 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_call1_v0 : Ref sig .tc := ⟨.hbm, 50, rfl⟩
abbrev main_call1_v1 : Ref sig .tc := ⟨.hbm, 51, rfl⟩
abbrev main_call1_cst : Ref sig .tc := ⟨.hbm, 52, rfl⟩
abbrev main_call1_v2 : Ref sig .tc := ⟨.hbm, 53, rfl⟩
abbrev main_call1_v3 : Ref sig .tc := ⟨.hbm, 54, rfl⟩
abbrev main_call1_cst_0 : Ref sig .tc := ⟨.hbm, 55, rfl⟩
abbrev main_call1_v4 : Ref sig .tc := ⟨.hbm, 56, rfl⟩
abbrev main_v23_2 : Ref sig .tc := ⟨.hbm, 57, rfl⟩
abbrev main_call1_cst_1 : Ref sig .tc := ⟨.hbm, 58, rfl⟩
abbrev main_call1_v6 : Ref sig .tc := ⟨.hbm, 59, rfl⟩
abbrev main_call1_v7 : Ref sig .tc := ⟨.hbm, 60, rfl⟩
abbrev main_v23_1 : Ref sig .tc := ⟨.hbm, 61, rfl⟩
abbrev main_v23_0 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_3 : Ref sig .tc := ⟨.hbm, 68, rfl⟩
abbrev main_v29 : Ref sig .tc := ⟨.hbm, 69, rfl⟩
abbrev main_v30 : Ref sig .tc := ⟨.hbm, 70, rfl⟩
abbrev main_cst_4 : Ref sig .tc := ⟨.hbm, 71, rfl⟩
abbrev main_v31 : Ref sig .tc := ⟨.hbm, 72, rfl⟩
abbrev main_v32 : Ref sig .tc := ⟨.hbm, 73, rfl⟩
abbrev main_cst_5 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_cst_6 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_cst_7 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_cst_8 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_cst_9 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_cst_10 : Ref sig .tc := ⟨.hbm, 109, rfl⟩
abbrev main_v63 : Ref sig .tc := ⟨.hbm, 110, rfl⟩
abbrev main_v64 : Ref sig .tc := ⟨.hbm, 111, rfl⟩
abbrev main_cst_11 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_call2_v0 : Ref sig .tc := ⟨.hbm, 126, rfl⟩
abbrev main_call2_v1 : Ref sig .tc := ⟨.hbm, 127, rfl⟩
abbrev main_call2_v2 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_cst_12 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_cst_13 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_cst_14 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_cst_15 : Ref sig .tc := ⟨.hbm, 147, rfl⟩
abbrev main_v93 : Ref sig .tc := ⟨.hbm, 148, rfl⟩
abbrev main_v94 : Ref sig .tc := ⟨.hbm, 149, rfl⟩
abbrev main_cst_16 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_call3_v0 : Ref sig .tc := ⟨.hbm, 160, rfl⟩
abbrev main_call3_v1 : Ref sig .tc := ⟨.hbm, 161, rfl⟩
abbrev main_call3_v2 : Ref sig .tc := ⟨.hbm, 162, rfl⟩
abbrev main_v104 : Ref sig .tc := ⟨.hbm, 163, rfl⟩

abbrev nD : Nat := 1
abbrev τ : Topo := Topo.v7x

variable {F : FTy → Type} [FloatOps F]
-- ==== MlaFrontBwd.lean ====
abbrev S8192x384 : Shape := ⟨2, ![8192, 384]⟩
abbrev S8192x256 : Shape := ⟨2, ![8192, 256]⟩
abbrev S8192x64 : Shape := ⟨2, ![8192, 64]⟩
abbrev S8192 : Shape := ⟨1, ![8192]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S8192x4x192 : Shape := ⟨3, ![8192, 4, 192]⟩
abbrev S8192x4x128 : Shape := ⟨3, ![8192, 4, 128]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S8192x4x64 : Shape := ⟨3, ![8192, 4, 64]⟩
abbrev S8192x4x256 : Shape := ⟨3, ![8192, 4, 256]⟩
abbrev S8192x1024 : Shape := ⟨2, ![8192, 1024]⟩
abbrev S1x384 : Shape := ⟨2, ![1, 384]⟩
abbrev S384x64 : Shape := ⟨2, ![384, 64]⟩
abbrev S384x128 : Shape := ⟨2, ![384, 128]⟩
abbrev S384x32 : Shape := ⟨2, ![384, 32]⟩
abbrev S384x1024 : Shape := ⟨2, ![384, 1024]⟩
abbrev S1x256 : Shape := ⟨2, ![1, 256]⟩
abbrev S256x128 : Shape := ⟨2, ![256, 128]⟩
abbrev S8192x512 : Shape := ⟨2, ![8192, 512]⟩
abbrev S512x384 : Shape := ⟨2, ![512, 384]⟩
abbrev S512x256 : Shape := ⟨2, ![512, 256]⟩
abbrev S512x128 : Shape := ⟨2, ![512, 128]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x768 : Shape := ⟨2, ![512, 768]⟩
abbrev S512x896 : Shape := ⟨2, ![512, 896]⟩
abbrev S512x640 : Shape := ⟨2, ![512, 640]⟩
abbrev S384x4x256 : Shape := ⟨3, ![384, 4, 256]⟩
abbrev S384x4x128 : Shape := ⟨3, ![384, 4, 128]⟩
abbrev S384x4x64 : Shape := ⟨3, ![384, 4, 64]⟩
abbrev S384x4x32 : Shape := ⟨3, ![384, 4, 32]⟩
abbrev S384x4x192 : Shape := ⟨3, ![384, 4, 192]⟩
abbrev S256x2x4x128 : Shape := ⟨4, ![256, 2, 4, 128]⟩
abbrev S256x4x2x128 : Shape := ⟨4, ![256, 4, 2, 128]⟩

abbrev nBuf : Space → Nat
  | .hbm => 104
  | .vmem => 30
  | .smem => 0
  | _ => 0

abbrev bufTy : (tb : Table) → Fin (tcTables nBuf tb) → BufTy
  | .hbm, ⟨0, _⟩ => ⟨S8192x384, .f32⟩
  | .hbm, ⟨1, _⟩ => ⟨S8192x256, .f32⟩
  | .hbm, ⟨2, _⟩ => ⟨S8192x64, .f32⟩
  | .hbm, ⟨3, _⟩ => ⟨S8192, .i32⟩
  | .hbm, ⟨4, _⟩ => ⟨S384, .f32⟩
  | .hbm, ⟨5, _⟩ => ⟨S384x768, .f32⟩
  | .hbm, ⟨6, _⟩ => ⟨S256, .f32⟩
  | .hbm, ⟨7, _⟩ => ⟨S256x1024, .f32⟩
  | .hbm, ⟨8, _⟩ => ⟨S8192x4x192, .f32⟩
  | .hbm, ⟨9, _⟩ => ⟨S8192x4x192, .f32⟩
  | .hbm, ⟨10, _⟩ => ⟨S8192x4x128, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S8192, .f32⟩
  | .hbm, ⟨23, _⟩ => ⟨S8192x1, .f32⟩
  | .hbm, ⟨24, _⟩ => ⟨S1x32, .f32⟩
  | .hbm, ⟨25, _⟩ => ⟨S8192x32, .f32⟩
  | .hbm, ⟨26, _⟩ => ⟨S8192x32, .f32⟩
  | .hbm, ⟨27, _⟩ => ⟨S8192x32, .f32⟩
  | .hbm, ⟨28, _⟩ => ⟨S8192x32, .f32⟩
  | .hbm, ⟨29, _⟩ => ⟨S8192x32, .f32⟩
  | .hbm, ⟨30, _⟩ => ⟨S_, .f32⟩
  | .hbm, ⟨31, _⟩ => ⟨S8192x64, .f32⟩
  | .hbm, ⟨32, _⟩ => ⟨S8192x128, .f32⟩
  | .hbm, ⟨33, _⟩ => ⟨S8192x32, .f32⟩
  | .hbm, ⟨34, _⟩ => ⟨S8192x128, .f32⟩
  | .hbm, ⟨35, _⟩ => ⟨S8192x32, .f32⟩
  | .hbm, ⟨36, _⟩ => ⟨S8192x32, .f32⟩
  | .hbm, ⟨37, _⟩ => ⟨S8192x64, .f32⟩
  | .hbm, ⟨38, _⟩ => ⟨S8192x128, .f32⟩
  | .hbm, ⟨39, _⟩ => ⟨S_, .f32⟩
  | .hbm, ⟨40, _⟩ => ⟨S8192x4x64, .f32⟩
  | .hbm, ⟨41, _⟩ => ⟨S8192x4x256, .f32⟩
  | .hbm, ⟨42, _⟩ => ⟨S8192x1024, .f32⟩
  | .hbm, ⟨43, _⟩ => ⟨S8192x4x256, .f32⟩
  | .hbm, ⟨44, _⟩ => ⟨S8192x1024, .f32⟩
  | .hbm, ⟨45, _⟩ => ⟨S1x384, .f32⟩
  | .hbm, ⟨46, _⟩ => ⟨S384x64, .f32⟩
  | .hbm, ⟨47, _⟩ => ⟨S384x128, .f32⟩
  | .hbm, ⟨48, _⟩ => ⟨S384x32, .f32⟩
  | .hbm, ⟨49, _⟩ => ⟨S384x32, .f32⟩
  | .hbm, ⟨50, _⟩ => ⟨S384x64, .f32⟩
  | .hbm, ⟨51, _⟩ => ⟨S384x64, .f32⟩
  | .hbm, ⟨52, _⟩ => ⟨S384x128, .f32⟩
  | .hbm, ⟨53, _⟩ => ⟨S384x32, .f32⟩
  | .hbm, ⟨54, _⟩ => ⟨S384x32, .f32⟩
  | .hbm, ⟨55, _⟩ => ⟨S384x64, .f32⟩
  | .hbm, ⟨56, _⟩ => ⟨S384x64, .f32⟩
  | .hbm, ⟨57, _⟩ => ⟨S384x128, .f32⟩
  | .hbm, ⟨58, _⟩ => ⟨S384x32, .f32⟩
  | .hbm, ⟨59, _⟩ => ⟨S384x32, .f32⟩
  | .hbm, ⟨60, _⟩ => ⟨S384x64, .f32⟩
  | .hbm, ⟨61, _⟩ => ⟨S384x64, .f32⟩
  | .hbm, ⟨62, _⟩ => ⟨S384x128, .f32⟩
  | .hbm, ⟨63, _⟩ => ⟨S384x32, .f32⟩
  | .hbm, ⟨64, _⟩ => ⟨S384x32, .f32⟩
  | .hbm, ⟨65, _⟩ => ⟨S384x64, .f32⟩
  | .hbm, ⟨66, _⟩ => ⟨S384x1024, .f32⟩
  | .hbm, ⟨67, _⟩ => ⟨S1x256, .f32⟩
  | .hbm, ⟨68, _⟩ => ⟨S256x128, .f32⟩
  | .hbm, ⟨69, _⟩ => ⟨S256x128, .f32⟩
  | .hbm, ⟨70, _⟩ => ⟨S256x128, .f32⟩
  | .hbm, ⟨71, _⟩ => ⟨S256x128, .f32⟩
  | .hbm, ⟨72, _⟩ => ⟨S256x128, .f32⟩
  | .hbm, ⟨73, _⟩ => ⟨S256x128, .f32⟩
  | .hbm, ⟨74, _⟩ => ⟨S256x128, .f32⟩
  | .hbm, ⟨75, _⟩ => ⟨S256x128, .f32⟩
  | .hbm, ⟨76, _⟩ => ⟨S256x1024, .f32⟩
  | .hbm, ⟨77, _⟩ => ⟨S8192x512, .f32⟩
  | .hbm, ⟨78, _⟩ => ⟨S8192x384, .f32⟩
  | .hbm, ⟨79, _⟩ => ⟨S8192x256, .f32⟩
  | .hbm, ⟨80, _⟩ => ⟨S8192x128, .f32⟩
  | .hbm, ⟨81, _⟩ => ⟨S1x384, .f32⟩
  | .hbm, ⟨82, _⟩ => ⟨S384x1024, .f32⟩
  | .hbm, ⟨83, _⟩ => ⟨S1x256, .f32⟩
  | .hbm, ⟨84, _⟩ => ⟨S256x1024, .f32⟩
  | .hbm, ⟨85, _⟩ => ⟨S384x4x256, .f32⟩
  | .hbm, ⟨86, _⟩ => ⟨S384x4x128, .f32⟩
  | .hbm, ⟨87, _⟩ => ⟨S384x4x64, .f32⟩
  | .hbm, ⟨88, _⟩ => ⟨S384x4x64, .f32⟩
  | .hbm, ⟨89, _⟩ => ⟨S384x4x32, .f32⟩
  | .hbm, ⟨90, _⟩ => ⟨S384x4x32, .f32⟩
  | .hbm, ⟨91, _⟩ => ⟨S384x4x64, .f32⟩
  | .hbm, ⟨92, _⟩ => ⟨S384x4x64, .f32⟩
  | .hbm, ⟨93, _⟩ => ⟨S384x4x192, .f32⟩
  | .hbm, ⟨94, _⟩ => ⟨S384x768, .f32⟩
  | .hbm, ⟨95, _⟩ => ⟨S256x2x4x128, .f32⟩
  | .hbm, ⟨96, _⟩ => ⟨S256x4x2x128, .f32⟩
  | .hbm, ⟨97, _⟩ => ⟨S256x1024, .f32⟩
  | .hbm, ⟨98, _⟩ => ⟨S8192x64, .f32⟩
  | .hbm, ⟨99, _⟩ => ⟨S8192x64, .f32⟩
  | .hbm, ⟨100, _⟩ => ⟨S8192x32, .f32⟩
  | .hbm, ⟨101, _⟩ => ⟨S8192x32, .f32⟩
  | .hbm, ⟨102, _⟩ => ⟨S8192x64, .f32⟩
  | .hbm, ⟨103, _⟩ => ⟨S8192x64, .f32⟩
  | .local _ .vmem, ⟨0, _⟩ => ⟨S512x384, .f32⟩
  | .local _ .vmem, ⟨1, _⟩ => ⟨S512x384, .f32⟩
  | .local _ .vmem, ⟨2, _⟩ => ⟨S512x256, .f32⟩
  | .local _ .vmem, ⟨3, _⟩ => ⟨S512x256, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x384, .f32⟩
  | .local _ .vmem, ⟨11, _⟩ => ⟨S384x1024, .f32⟩
  | .local _ .vmem, ⟨12, _⟩ => ⟨S1x256, .f32⟩
  | .local _ .vmem, ⟨13, _⟩ => ⟨S256x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x512, .f32⟩
  | .local _ .vmem, ⟨19, _⟩ => ⟨S512x512, .f32⟩
  | .local _ .vmem, ⟨20, _⟩ => ⟨S512x384, .f32⟩
  | .local _ .vmem, ⟨21, _⟩ => ⟨S512x384, .f32⟩
  | .local _ .vmem, ⟨22, _⟩ => ⟨S512x256, .f32⟩
  | .local _ .vmem, ⟨23, _⟩ => ⟨S512x256, .f32⟩
  | .local _ .vmem, ⟨24, _⟩ => ⟨S512x128, .f32⟩
  | .local _ .vmem, ⟨25, _⟩ => ⟨S512x128, .f32⟩
  | .local _ .vmem, ⟨26, _⟩ => ⟨S1x384, .f32⟩
  | .local _ .vmem, ⟨27, _⟩ => ⟨S384x1024, .f32⟩
  | .local _ .vmem, ⟨28, _⟩ => ⟨S1x256, .f32⟩
  | .local _ .vmem, ⟨29, _⟩ => ⟨S256x1024, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62_0 : Ref sig .tc := ⟨.hbm, 78, rfl⟩
abbrev main_v62_1 : Ref sig .tc := ⟨.hbm, 79, rfl⟩
abbrev main_v62_2 : Ref sig .tc := ⟨.hbm, 80, rfl⟩
abbrev main_v62_3 : Ref sig .tc := ⟨.hbm, 81, rfl⟩
abbrev main_v62_4 : Ref sig .tc := ⟨.hbm, 82, rfl⟩
abbrev main_v62_5 : Ref sig .tc := ⟨.hbm, 83, rfl⟩
abbrev main_v62_6 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27
abbrev cc0_sem17_0 : DmaSem sig := 28
abbrev cc0_sem18_0 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S384x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== MlaFrontBwdRefIdeal.lean ====
abbrev S8192x384 : Shape := ⟨2, ![8192, 384]⟩
abbrev S8192x256 : Shape := ⟨2, ![8192, 256]⟩
abbrev S8192x64 : Shape := ⟨2, ![8192, 64]⟩
abbrev S8192 : Shape := ⟨1, ![8192]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S8192x4x192 : Shape := ⟨3, ![8192, 4, 192]⟩
abbrev S8192x4x128 : Shape := ⟨3, ![8192, 4, 128]⟩
abbrev S1x384 : Shape := ⟨2, ![1, 384]⟩
abbrev S1x256 : Shape := ⟨2, ![1, 256]⟩
abbrev S_ : Shape := ⟨0, ![]⟩
abbrev S8192x1 : Shape := ⟨2, ![8192, 1]⟩
abbrev S8192x768 : Shape := ⟨2, ![8192, 768]⟩
abbrev S8192x4x64 : Shape := ⟨3, ![8192, 4, 64]⟩
abbrev S32 : Shape := ⟨1, ![32]⟩
abbrev S8192x1x1 : Shape := ⟨3, ![8192, 1, 1]⟩
abbrev S1x1x32 : Shape := ⟨3, ![1, 1, 32]⟩
abbrev S8192x1x32 : Shape := ⟨3, ![8192, 1, 32]⟩
abbrev S8192x4x32 : Shape := ⟨3, ![8192, 4, 32]⟩
abbrev S8192x1024 : Shape := ⟨2, ![8192, 1024]⟩
abbrev S8192x4x256 : Shape := ⟨3, ![8192, 4, 256]⟩
abbrev S8192x1x64 : Shape := ⟨3, ![8192, 1, 64]⟩
abbrev S1024x256 : Shape := ⟨2, ![1024, 256]⟩
abbrev S768x384 : Shape := ⟨2, ![768, 384]⟩

abbrev nBuf : Space → Nat
  | .hbm => 228
  | .vmem => 0
  | .smem => 0
  | _ => 0

abbrev hbmTy0_0 (i : Nat) : BufTy := match i % 128 with
  | 0 => ⟨S8192x384, .f32⟩
  | 1 => ⟨S8192x256, .f32⟩
  | 2 => ⟨S8192x64, .f32⟩
  | 3 => ⟨S8192, .i32⟩
  | 4 => ⟨S384, .f32⟩
  | 5 => ⟨S384x768, .f32⟩
  | 6 => ⟨S256, .f32⟩
  | 7 => ⟨S256x1024, .f32⟩
  | 8 => ⟨S8192x4x192, .f32⟩
  | 9 => ⟨S8192x4x192, .f32⟩
  | 10 => ⟨S8192x4x128, .f32⟩
  | 11 => ⟨S1x384, .f32⟩
  | 12 => ⟨S1x256, .f32⟩
  | 13 => ⟨S8192x384, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1, .f32⟩
  | 24 => ⟨S8192x1, .f32⟩
  | 25 => ⟨S_, .f32⟩
  | 26 => ⟨S8192x1, .f32⟩
  | 27 => ⟨S8192x1, .f32⟩
  | 28 => ⟨S8192x384, .f32⟩
  | 29 => ⟨S8192x384, .f32⟩
  | 30 => ⟨S8192x384, .f32⟩
  | 31 => ⟨S8192x384, .f32⟩
  | 32 => ⟨S8192x768, .f32⟩
  | 33 => ⟨S8192x4x192, .f32⟩
  | 34 => ⟨S8192x4x128, .f32⟩
  | 35 => ⟨S8192x4x64, .f32⟩
  | 36 => ⟨S32, .f32⟩
  | 37 => ⟨S32, .f32⟩
  | 38 => ⟨S_, .f32⟩
  | 39 => ⟨S32, .f32⟩
  | 40 => ⟨S32, .f32⟩
  | 41 => ⟨S_, .f32⟩
  | 42 => ⟨S32, .f32⟩
  | 43 => ⟨S32, .f32⟩
  | 44 => ⟨S_, .f32⟩
  | 45 => ⟨S32, .f32⟩
  | 46 => ⟨S32, .f32⟩
  | 47 => ⟨S8192, .f32⟩
  | 48 => ⟨S8192x1x1, .f32⟩
  | 49 => ⟨S1x1x32, .f32⟩
  | 50 => ⟨S8192x1x32, .f32⟩
  | 51 => ⟨S8192x1x32, .f32⟩
  | 52 => ⟨S8192x1x32, .f32⟩
  | 53 => ⟨S8192x1x32, .f32⟩
  | 54 => ⟨S8192x1x32, .f32⟩
  | 55 => ⟨S8192x4x32, .f32⟩
  | 56 => ⟨S8192x4x32, .f32⟩
  | 57 => ⟨S8192x4x32, .f32⟩
  | 58 => ⟨S8192x4x32, .f32⟩
  | 59 => ⟨S8192x4x32, .f32⟩
  | 60 => ⟨S8192x4x32, .f32⟩
  | 61 => ⟨S8192x4x32, .f32⟩
  | 62 => ⟨S8192x4x32, .f32⟩
  | 63 => ⟨S8192x4x32, .f32⟩
  | 64 => ⟨S8192x4x32, .f32⟩
  | 65 => ⟨S8192x4x32, .f32⟩
  | 66 => ⟨S8192x4x32, .f32⟩
  | 67 => ⟨S8192x4x64, .f32⟩
  | 68 => ⟨S8192x4x192, .f32⟩
  | 69 => ⟨S8192x256, .f32⟩
  | 70 => ⟨S_, .f32⟩
  | 71 => ⟨S8192, .f32⟩
  | 72 => ⟨S8192x1, .f32⟩
  | 73 => ⟨S_, .f32⟩
  | 74 => ⟨S8192x1, .f32⟩
  | 75 => ⟨S8192x1, .f32⟩
  | 76 => ⟨S_, .f32⟩
  | 77 => ⟨S8192x1, .f32⟩
  | 78 => ⟨S8192x1, .f32⟩
  | 79 => ⟨S8192x1, .f32⟩
  | 80 => ⟨S8192x1, .f32⟩
  | 81 => ⟨S_, .f32⟩
  | 82 => ⟨S8192x1, .f32⟩
  | 83 => ⟨S8192x1, .f32⟩
  | 84 => ⟨S8192x256, .f32⟩
  | 85 => ⟨S8192x256, .f32⟩
  | 86 => ⟨S8192x256, .f32⟩
  | 87 => ⟨S8192x256, .f32⟩
  | 88 => ⟨S8192x1024, .f32⟩
  | 89 => ⟨S8192x4x256, .f32⟩
  | 90 => ⟨S8192x4x128, .f32⟩
  | 91 => ⟨S8192x4x128, .f32⟩
  | 92 => ⟨S8192x1x64, .f32⟩
  | 93 => ⟨S32, .f32⟩
  | 94 => ⟨S32, .f32⟩
  | 95 => ⟨S_, .f32⟩
  | 96 => ⟨S32, .f32⟩
  | 97 => ⟨S32, .f32⟩
  | 98 => ⟨S_, .f32⟩
  | 99 => ⟨S32, .f32⟩
  | 100 => ⟨S32, .f32⟩
  | 101 => ⟨S_, .f32⟩
  | 102 => ⟨S32, .f32⟩
  | 103 => ⟨S32, .f32⟩
  | 104 => ⟨S8192, .f32⟩
  | 105 => ⟨S8192x1x1, .f32⟩
  | 106 => ⟨S1x1x32, .f32⟩
  | 107 => ⟨S8192x1x32, .f32⟩
  | 108 => ⟨S8192x1x32, .f32⟩
  | 109 => ⟨S8192x1x32, .f32⟩
  | 110 => ⟨S8192x1x32, .f32⟩
  | 111 => ⟨S8192x1x32, .f32⟩
  | 112 => ⟨S8192x1x32, .f32⟩
  | 113 => ⟨S8192x1x32, .f32⟩
  | 114 => ⟨S8192x1x32, .f32⟩
  | 115 => ⟨S8192x1x32, .f32⟩
  | 116 => ⟨S8192x1x32, .f32⟩
  | 117 => ⟨S8192x1x32, .f32⟩
  | 118 => ⟨S8192x1x32, .f32⟩
  | 119 => ⟨S8192x1x32, .f32⟩
  | 120 => ⟨S8192x1x64, .f32⟩
  | 121 => ⟨S8192x4x64, .f32⟩
  | 122 => ⟨S8192x4x192, .f32⟩
  | 123 => ⟨S8192x4x128, .f32⟩
  | 124 => ⟨S8192x4x64, .f32⟩
  | 125 => ⟨S_, .f32⟩
  | 126 => ⟨S8192x64, .f32⟩
  | 127 => ⟨S8192x1x64, .f32⟩
  | _ => ⟨S8192x384, .f32⟩

abbrev hbmTy0_1 (i : Nat) : BufTy := match i % 128 with
  | 0 => ⟨S8192x1x32, .f32⟩
  | 1 => ⟨S8192x1x32, .f32⟩
  | 2 => ⟨S8192x1x32, .f32⟩
  | 3 => ⟨S8192x1x32, .f32⟩
  | 4 => ⟨S8192x1x32, .f32⟩
  | 5 => ⟨S8192x1x32, .f32⟩
  | 6 => ⟨S8192x1x32, .f32⟩
  | 7 => ⟨S8192x1x32, .f32⟩
  | 8 => ⟨S8192x1x32, .f32⟩
  | 9 => ⟨S_, .f32⟩
  | 10 => ⟨S8192x1x64, .f32⟩
  | 11 => ⟨S_, .f32⟩
  | 12 => ⟨S8192x1x64, .f32⟩
  | 13 => ⟨S8192x1x64, .f32⟩
  | 14 => ⟨S_, .f32⟩
  | 15 => ⟨S8192x64, .f32⟩
  | 16 => ⟨S_, .f32⟩
  | 17 => ⟨S8192x4x256, .f32⟩
  | 18 => ⟨S_, .f32⟩
  | 19 => ⟨S8192x4x256, .f32⟩
  | 20 => ⟨S8192x4x256, .f32⟩
  | 21 => ⟨S8192x1024, .f32⟩
  | 22 => ⟨S1024x256, .f32⟩
  | 23 => ⟨S256x1024, .f32⟩
  | 24 => ⟨S8192x256, .f32⟩
  | 25 => ⟨S8192x256, .f32⟩
  | 26 => ⟨S_, .f32⟩
  | 27 => ⟨S256, .f32⟩
  | 28 => ⟨S1x256, .f32⟩
  | 29 => ⟨S8192x256, .f32⟩
  | 30 => ⟨S8192x256, .f32⟩
  | 31 => ⟨S8192x256, .f32⟩
  | 32 => ⟨S_, .f32⟩
  | 33 => ⟨S8192, .f32⟩
  | 34 => ⟨S8192x1, .f32⟩
  | 35 => ⟨S8192x256, .f32⟩
  | 36 => ⟨S8192x256, .f32⟩
  | 37 => ⟨S8192x1, .f32⟩
  | 38 => ⟨S_, .f32⟩
  | 39 => ⟨S8192x1, .f32⟩
  | 40 => ⟨S8192x1, .f32⟩
  | 41 => ⟨S_, .f32⟩
  | 42 => ⟨S8192, .f32⟩
  | 43 => ⟨S8192x256, .f32⟩
  | 44 => ⟨S8192x256, .f32⟩
  | 45 => ⟨S8192x256, .f32⟩
  | 46 => ⟨S8192x256, .f32⟩
  | 47 => ⟨S8192x256, .f32⟩
  | 48 => ⟨S8192x4x128, .f32⟩
  | 49 => ⟨S8192x4x64, .f32⟩
  | 50 => ⟨S8192x4x32, .f32⟩
  | 51 => ⟨S8192x4x32, .f32⟩
  | 52 => ⟨S8192x4x32, .f32⟩
  | 53 => ⟨S8192x4x32, .f32⟩
  | 54 => ⟨S8192x4x32, .f32⟩
  | 55 => ⟨S8192x4x32, .f32⟩
  | 56 => ⟨S8192x4x32, .f32⟩
  | 57 => ⟨S8192x4x32, .f32⟩
  | 58 => ⟨S8192x4x32, .f32⟩
  | 59 => ⟨S8192x4x32, .f32⟩
  | 60 => ⟨S8192x4x32, .f32⟩
  | 61 => ⟨S8192x4x32, .f32⟩
  | 62 => ⟨S8192x4x32, .f32⟩
  | 63 => ⟨S_, .f32⟩
  | 64 => ⟨S8192x4x64, .f32⟩
  | 65 => ⟨S_, .f32⟩
  | 66 => ⟨S8192x4x64, .f32⟩
  | 67 => ⟨S8192x4x64, .f32⟩
  | 68 => ⟨S_, .f32⟩
  | 69 => ⟨S8192x4x192, .f32⟩
  | 70 => ⟨S_, .f32⟩
  | 71 => ⟨S8192x4x192, .f32⟩
  | 72 => ⟨S8192x4x192, .f32⟩
  | 73 => ⟨S8192x768, .f32⟩
  | 74 => ⟨S768x384, .f32⟩
  | 75 => ⟨S384x768, .f32⟩
  | 76 => ⟨S8192x384, .f32⟩
  | 77 => ⟨S8192x384, .f32⟩
  | 78 => ⟨S_, .f32⟩
  | 79 => ⟨S384, .f32⟩
  | 80 => ⟨S1x384, .f32⟩
  | 81 => ⟨S8192x384, .f32⟩
  | 82 => ⟨S8192x384, .f32⟩
  | 83 => ⟨S8192x384, .f32⟩
  | 84 => ⟨S_, .f32⟩
  | 85 => ⟨S8192, .f32⟩
  | 86 => ⟨S8192x1, .f32⟩
  | 87 => ⟨S8192x384, .f32⟩
  | 88 => ⟨S8192x384, .f32⟩
  | 89 => ⟨S8192x1, .f32⟩
  | 90 => ⟨S_, .f32⟩
  | 91 => ⟨S8192x1, .f32⟩
  | 92 => ⟨S8192x1, .f32⟩
  | 93 => ⟨S_, .f32⟩
  | 94 => ⟨S8192, .f32⟩
  | 95 => ⟨S8192x384, .f32⟩
  | 96 => ⟨S8192x384, .f32⟩
  | 97 => ⟨S8192x384, .f32⟩
  | 98 => ⟨S8192x384, .f32⟩
  | 99 => ⟨S8192x384, .f32⟩
  | _ => ⟨S8192x384, .f32⟩

abbrev hbmTy (i : Nat) : BufTy := match i / 128 with
  | 0 => hbmTy0_0 i
  | 1 => hbmTy0_1 i
  | _ => ⟨S8192x384, .f32⟩

abbrev bufTy : (tb : Table) → Fin (tcTables nBuf tb) → BufTy
  | .hbm, ⟨i, _⟩ => hbmTy i
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_6 : Ref sig .tc := ⟨.hbm, 70, rfl⟩
abbrev main_v52 : Ref sig .tc := ⟨.hbm, 71, rfl⟩
abbrev main_v53 : Ref sig .tc := ⟨.hbm, 72, rfl⟩
abbrev main_cst_7 : Ref sig .tc := ⟨.hbm, 73, rfl⟩
abbrev main_v54 : Ref sig .tc := ⟨.hbm, 74, rfl⟩
abbrev main_v55 : Ref sig .tc := ⟨.hbm, 75, rfl⟩
abbrev main_cst_8 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_9 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_10 : Ref sig .tc := ⟨.hbm, 95, rfl⟩
abbrev main_v73 : Ref sig .tc := ⟨.hbm, 96, rfl⟩
abbrev main_v74 : Ref sig .tc := ⟨.hbm, 97, rfl⟩
abbrev main_cst_11 : Ref sig .tc := ⟨.hbm, 98, rfl⟩
abbrev main_v75 : Ref sig .tc := ⟨.hbm, 99, rfl⟩
abbrev main_v76 : Ref sig .tc := ⟨.hbm, 100, rfl⟩
abbrev main_cst_12 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_cst_13 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_cst_14 : Ref sig .tc := ⟨.hbm, 137, rfl⟩
abbrev main_v111 : Ref sig .tc := ⟨.hbm, 138, rfl⟩
abbrev main_cst_15 : Ref sig .tc := ⟨.hbm, 139, rfl⟩
abbrev main_v112 : Ref sig .tc := ⟨.hbm, 140, rfl⟩
abbrev main_v113 : Ref sig .tc := ⟨.hbm, 141, rfl⟩
abbrev main_cst_16 : Ref sig .tc := ⟨.hbm, 142, rfl⟩
abbrev main_v114 : Ref sig .tc := ⟨.hbm, 143, rfl⟩
abbrev main_cst_17 : Ref sig .tc := ⟨.hbm, 144, rfl⟩
abbrev main_v115 : Ref sig .tc := ⟨.hbm, 145, rfl⟩
abbrev main_cst_18 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_cst_19 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_cst_20 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_cst_21 : Ref sig .tc := ⟨.hbm, 166, rfl⟩
abbrev main_v133 : Ref sig .tc := ⟨.hbm, 167, rfl⟩
abbrev main_v134 : Ref sig .tc := ⟨.hbm, 168, rfl⟩
abbrev main_cst_22 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_cst_23 : Ref sig .tc := ⟨.hbm, 191, rfl⟩
abbrev main_v156 : Ref sig .tc := ⟨.hbm, 192, rfl⟩
abbrev main_cst_24 : Ref sig .tc := ⟨.hbm, 193, rfl⟩
abbrev main_v157 : Ref sig .tc := ⟨.hbm, 194, rfl⟩
abbrev main_v158 : Ref sig .tc := ⟨.hbm, 195, rfl⟩
abbrev main_cst_25 : Ref sig .tc := ⟨.hbm, 196, rfl⟩
abbrev main_v159 : Ref sig .tc := ⟨.hbm, 197, rfl⟩
abbrev main_cst_26 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_cst_27 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_cst_28 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_cst_29 : Ref sig .tc := ⟨.hbm, 218, rfl⟩
abbrev main_v177 : Ref sig .tc := ⟨.hbm, 219, rfl⟩
abbrev main_v178 : Ref sig .tc := ⟨.hbm, 220, rfl⟩
abbrev main_cst_30 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩

abbrev nD : Nat := 1
abbrev τ : Topo := Topo.v7x

variable {F : FTy → Type} [FloatOps F]
-- ==== FrontBwd.lean ====
abbrev S8192x1024 : Shape := ⟨2, ![8192, 1024]⟩
abbrev S1024 : Shape := ⟨1, ![1024]⟩
abbrev S1x1024 : Shape := ⟨2, ![1, 1024]⟩
abbrev S1024x3272 : Shape := ⟨2, ![1024, 3272]⟩
abbrev S8192x384 : Shape := ⟨2, ![8192, 384]⟩
abbrev S8192x256 : Shape := ⟨2, ![8192, 256]⟩
abbrev S8192x64 : Shape := ⟨2, ![8192, 64]⟩
abbrev S8192x512 : Shape := ⟨2, ![8192, 512]⟩
abbrev S8192x1536 : Shape := ⟨2, ![8192, 1536]⟩
abbrev S8192x4 : Shape := ⟨2, ![8192, 4]⟩
abbrev S_ : Shape := ⟨0, ![]⟩
abbrev S8192x120 : Shape := ⟨2, ![8192, 120]⟩
abbrev S8192x128 : Shape := ⟨2, ![8192, 128]⟩
abbrev S1024x64 : Shape := ⟨2, ![1024, 64]⟩
abbrev S1024x8 : Shape := ⟨2, ![1024, 8]⟩
abbrev S1024x120 : Shape := ⟨2, ![1024, 120]⟩
abbrev S1024x128 : Shape := ⟨2, ![1024, 128]⟩
abbrev S1024x384 : Shape := ⟨2, ![1024, 384]⟩
abbrev S1024x256 : Shape := ⟨2, ![1024, 256]⟩
abbrev S1024x32 : Shape := ⟨2, ![1024, 32]⟩
abbrev S1024x512 : Shape := ⟨2, ![1024, 512]⟩
abbrev S1024x1536 : Shape := ⟨2, ![1024, 1536]⟩
abbrev S512x1024 : Shape := ⟨2, ![512, 1024]⟩
abbrev S512x384 : Shape := ⟨2, ![512, 384]⟩
abbrev S512x256 : Shape := ⟨2, ![512, 256]⟩
abbrev S512x128 : Shape := ⟨2, ![512, 128]⟩
abbrev S512x512 : Shape := ⟨2, ![512, 512]⟩
abbrev S512x1536 : Shape := ⟨2, ![512, 1536]⟩
abbrev S512 : Shape := ⟨1, ![512]⟩
abbrev S512x1 : Shape := ⟨2, ![512, 1]⟩

abbrev nBuf : Space → Nat
  | .hbm => 66
  | .vmem => 44
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S1024, .f32⟩
  | .hbm, ⟨4, _⟩ => ⟨S1x1024, .f32⟩
  | .hbm, ⟨5, _⟩ => ⟨S1024, .f32⟩
  | .hbm, ⟨6, _⟩ => ⟨S1024x3272, .f32⟩
  | .hbm, ⟨7, _⟩ => ⟨S8192x384, .f32⟩
  | .hbm, ⟨8, _⟩ => ⟨S8192x256, .f32⟩
  | .hbm, ⟨9, _⟩ => ⟨S8192x64, .f32⟩
  | .hbm, ⟨10, _⟩ => ⟨S8192x64, .f32⟩
  | .hbm, ⟨11, _⟩ => ⟨S8192x512, .f32⟩
  | .hbm, ⟨12, _⟩ => ⟨S8192x1536, .f32⟩
  | .hbm, ⟨13, _⟩ => ⟨S8192x4, .f32⟩
  | .hbm, ⟨14, _⟩ => ⟨S8192x4, .f32⟩
  | .hbm, ⟨15, _⟩ => ⟨S8192x512, .f32⟩
  | .hbm, ⟨16, _⟩ => ⟨S8192x1024, .f32⟩
  | .hbm, ⟨17, _⟩ => ⟨S_, .f32⟩
  | .hbm, ⟨18, _⟩ => ⟨S8192x120, .f32⟩
  | .hbm, ⟨19, _⟩ => ⟨S8192x128, .f32⟩
  | .hbm, ⟨20, _⟩ => ⟨S8192x128, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1024x64, .f32⟩
  | .hbm, ⟨25, _⟩ => ⟨S1024x8, .f32⟩
  | .hbm, ⟨26, _⟩ => ⟨S_, .f32⟩
  | .hbm, ⟨27, _⟩ => ⟨S1024x120, .f32⟩
  | .hbm, ⟨28, _⟩ => ⟨S1024x128, .f32⟩
  | .hbm, ⟨29, _⟩ => ⟨S1024x384, .f32⟩
  | .hbm, ⟨30, _⟩ => ⟨S1024x256, .f32⟩
  | .hbm, ⟨31, _⟩ => ⟨S1024x32, .f32⟩
  | .hbm, ⟨32, _⟩ => ⟨S1024x32, .f32⟩
  | .hbm, ⟨33, _⟩ => ⟨S1024x64, .f32⟩
  | .hbm, ⟨34, _⟩ => ⟨S1024x128, .f32⟩
  | .hbm, ⟨35, _⟩ => ⟨S1024x512, .f32⟩
  | .hbm, ⟨36, _⟩ => ⟨S1024x1536, .f32⟩
  | .hbm, ⟨37, _⟩ => ⟨S1024x512, .f32⟩
  | .hbm, ⟨38, _⟩ => ⟨S1024x384, .bf16⟩
  | .hbm, ⟨39, _⟩ => ⟨S1024x256, .bf16⟩
  | .hbm, ⟨40, _⟩ => ⟨S1024x128, .bf16⟩
  | .hbm, ⟨41, _⟩ => ⟨S1024x512, .bf16⟩
  | .hbm, ⟨42, _⟩ => ⟨S1024x1536, .bf16⟩
  | .hbm, ⟨43, _⟩ => ⟨S1024x128, .bf16⟩
  | .hbm, ⟨44, _⟩ => ⟨S1024x512, .bf16⟩
  | .hbm, ⟨45, _⟩ => ⟨S8192x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S1024x384, .f32⟩
  | .hbm, ⟨52, _⟩ => ⟨S1024x256, .f32⟩
  | .hbm, ⟨53, _⟩ => ⟨S1024x128, .f32⟩
  | .hbm, ⟨54, _⟩ => ⟨S1024x512, .f32⟩
  | .hbm, ⟨55, _⟩ => ⟨S1024x1536, .f32⟩
  | .hbm, ⟨56, _⟩ => ⟨S1024x128, .f32⟩
  | .hbm, ⟨57, _⟩ => ⟨S1024x512, .f32⟩
  | .hbm, ⟨58, _⟩ => ⟨S1024x64, .f32⟩
  | .hbm, ⟨59, _⟩ => ⟨S1024x64, .f32⟩
  | .hbm, ⟨60, _⟩ => ⟨S1024x32, .f32⟩
  | .hbm, ⟨61, _⟩ => ⟨S1024x32, .f32⟩
  | .hbm, ⟨62, _⟩ => ⟨S1024x64, .f32⟩
  | .hbm, ⟨63, _⟩ => ⟨S1024x64, .f32⟩
  | .hbm, ⟨64, _⟩ => ⟨S1024x8, .f32⟩
  | .hbm, ⟨65, _⟩ => ⟨S1024x3272, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1024x384, .bf16⟩
  | .local _ .vmem, ⟨8, _⟩ => ⟨S1024x256, .bf16⟩
  | .local _ .vmem, ⟨9, _⟩ => ⟨S1024x128, .bf16⟩
  | .local _ .vmem, ⟨10, _⟩ => ⟨S1024x512, .bf16⟩
  | .local _ .vmem, ⟨11, _⟩ => ⟨S1024x1536, .bf16⟩
  | .local _ .vmem, ⟨12, _⟩ => ⟨S1024x128, .bf16⟩
  | .local _ .vmem, ⟨13, _⟩ => ⟨S1024x512, .bf16⟩
  | .local _ .vmem, ⟨14, _⟩ => ⟨S512x384, .f32⟩
  | .local _ .vmem, ⟨15, _⟩ => ⟨S512x384, .f32⟩
  | .local _ .vmem, ⟨16, _⟩ => ⟨S512x256, .f32⟩
  | .local _ .vmem, ⟨17, _⟩ => ⟨S512x256, .f32⟩
  | .local _ .vmem, ⟨18, _⟩ => ⟨S512x128, .f32⟩
  | .local _ .vmem, ⟨19, _⟩ => ⟨S512x128, .f32⟩
  | .local _ .vmem, ⟨20, _⟩ => ⟨S512x512, .f32⟩
  | .local _ .vmem, ⟨21, _⟩ => ⟨S512x512, .f32⟩
  | .local _ .vmem, ⟨22, _⟩ => ⟨S512x1536, .f32⟩
  | .local _ .vmem, ⟨23, _⟩ => ⟨S512x1536, .f32⟩
  | .local _ .vmem, ⟨24, _⟩ => ⟨S512x128, .f32⟩
  | .local _ .vmem, ⟨25, _⟩ => ⟨S512x128, .f32⟩
  | .local _ .vmem, ⟨26, _⟩ => ⟨S512x512, .f32⟩
  | .local _ .vmem, ⟨27, _⟩ => ⟨S512x512, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | .local _ .vmem, ⟨32, _⟩ => ⟨S1x1024, .f32⟩
  | .local _ .vmem, ⟨33, _⟩ => ⟨S1x1024, .f32⟩
  | .local _ .vmem, ⟨34, _⟩ => ⟨S1x1024, .f32⟩
  | .local _ .vmem, ⟨35, _⟩ => ⟨S1x1024, .f32⟩
  | .local _ .vmem, ⟨36, _⟩ => ⟨S1x1024, .f32⟩
  | .local _ .vmem, ⟨37, _⟩ => ⟨S1024x384, .f32⟩
  | .local _ .vmem, ⟨38, _⟩ => ⟨S1024x256, .f32⟩
  | .local _ .vmem, ⟨39, _⟩ => ⟨S1024x128, .f32⟩
  | .local _ .vmem, ⟨40, _⟩ => ⟨S1024x512, .f32⟩
  | .local _ .vmem, ⟨41, _⟩ => ⟨S1024x1536, .f32⟩
  | .local _ .vmem, ⟨42, _⟩ => ⟨S1024x128, .f32⟩
  | .local _ .vmem, ⟨43, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26_0 : Ref sig .tc := ⟨.hbm, 45, rfl⟩
abbrev main_v26_1 : Ref sig .tc := ⟨.hbm, 46, rfl⟩
abbrev main_v26_2 : Ref sig .tc := ⟨.hbm, 47, rfl⟩
abbrev main_v26_3 : Ref sig .tc := ⟨.hbm, 48, rfl⟩
abbrev main_v26_4 : Ref sig .tc := ⟨.hbm, 49, rfl⟩
abbrev main_v26_5 : Ref sig .tc := ⟨.hbm, 50, rfl⟩
abbrev main_v26_6 : Ref sig .tc := ⟨.hbm, 51, rfl⟩
abbrev main_v26_7 : Ref sig .tc := ⟨.hbm, 52, rfl⟩
abbrev main_v26_8 : Ref sig .tc := ⟨.hbm, 53, rfl⟩
abbrev main_v26_9 : Ref sig .tc := ⟨.hbm, 54, rfl⟩
abbrev main_v26_10 : Ref sig .tc := ⟨.hbm, 55, rfl⟩
abbrev main_v26_11 : Ref sig .tc := ⟨.hbm, 56, rfl⟩
abbrev main_v26_12 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg23_0 : Ref sig .tc := ⟨.vmem, 33, rfl⟩
abbrev cc0_stg24_0 : Ref sig .tc := ⟨.vmem, 34, rfl⟩
abbrev cc0_stg25_0 : Ref sig .tc := ⟨.vmem, 35, rfl⟩
abbrev cc0_stg26_0 : Ref sig .tc := ⟨.vmem, 36, rfl⟩
abbrev cc0_stg27_0 : Ref sig .tc := ⟨.vmem, 37, rfl⟩
abbrev cc0_stg28_0 : Ref sig .tc := ⟨.vmem, 38, rfl⟩
abbrev cc0_stg29_0 : Ref sig .tc := ⟨.vmem, 39, rfl⟩
abbrev cc0_stg30_0 : Ref sig .tc := ⟨.vmem, 40, rfl⟩
abbrev cc0_stg31_0 : Ref sig .tc := ⟨.vmem, 41, rfl⟩
abbrev cc0_stg32_0 : Ref sig .tc := ⟨.vmem, 42, rfl⟩
abbrev cc0_stg33_0 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem23_0 : DmaSem sig := 33
abbrev cc0_sem24_0 : DmaSem sig := 34
abbrev cc0_sem25_0 : DmaSem sig := 35
abbrev cc0_sem26_0 : DmaSem sig := 36
abbrev cc0_sem27_0 : DmaSem sig := 37
abbrev cc0_sem28_0 : DmaSem sig := 38
abbrev cc0_sem29_0 : DmaSem sig := 39
abbrev cc0_sem30_0 : DmaSem sig := 40
abbrev cc0_sem31_0 : DmaSem sig := 41
abbrev cc0_sem32_0 : DmaSem sig := 42
abbrev cc0_sem33_0 : DmaSem sig := 43

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1536 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x384 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1536 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1024x384 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1024x256 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S1024x128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S1024x512 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S1024x1536 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S1024x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S1024x512 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]
-- ==== FrontBwdRefIdeal.lean ====
abbrev S8192x1024 : Shape := ⟨2, ![8192, 1024]⟩
abbrev S1024 : Shape := ⟨1, ![1024]⟩
abbrev S1x1024 : Shape := ⟨2, ![1, 1024]⟩
abbrev S1024x3272 : Shape := ⟨2, ![1024, 3272]⟩
abbrev S8192x384 : Shape := ⟨2, ![8192, 384]⟩
abbrev S8192x256 : Shape := ⟨2, ![8192, 256]⟩
abbrev S8192x64 : Shape := ⟨2, ![8192, 64]⟩
abbrev S8192x512 : Shape := ⟨2, ![8192, 512]⟩
abbrev S8192x1536 : Shape := ⟨2, ![8192, 1536]⟩
abbrev S8192x4 : Shape := ⟨2, ![8192, 4]⟩
abbrev S_ : Shape := ⟨0, ![]⟩
abbrev S8192 : Shape := ⟨1, ![8192]⟩
abbrev S8192x1 : Shape := ⟨2, ![8192, 1]⟩
abbrev S8192x3272 : Shape := ⟨2, ![8192, 3272]⟩
abbrev S8192x32 : Shape := ⟨2, ![8192, 32]⟩
abbrev S3272x1024 : Shape := ⟨2, ![3272, 1024]⟩

abbrev nBuf : Space → Nat
  | .hbm => 105
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S1024, .f32⟩
  | .hbm, ⟨4, _⟩ => ⟨S1x1024, .f32⟩
  | .hbm, ⟨5, _⟩ => ⟨S1024, .f32⟩
  | .hbm, ⟨6, _⟩ => ⟨S1024x3272, .f32⟩
  | .hbm, ⟨7, _⟩ => ⟨S8192x384, .f32⟩
  | .hbm, ⟨8, _⟩ => ⟨S8192x256, .f32⟩
  | .hbm, ⟨9, _⟩ => ⟨S8192x64, .f32⟩
  | .hbm, ⟨10, _⟩ => ⟨S8192x64, .f32⟩
  | .hbm, ⟨11, _⟩ => ⟨S8192x512, .f32⟩
  | .hbm, ⟨12, _⟩ => ⟨S8192x1536, .f32⟩
  | .hbm, ⟨13, _⟩ => ⟨S8192x4, .f32⟩
  | .hbm, ⟨14, _⟩ => ⟨S8192x4, .f32⟩
  | .hbm, ⟨15, _⟩ => ⟨S8192x512, .f32⟩
  | .hbm, ⟨16, _⟩ => ⟨S8192x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S_, .f32⟩
  | .hbm, ⟨41, _⟩ => ⟨S1x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x3272, .f32⟩
  | .hbm, ⟨49, _⟩ => ⟨S8192x384, .f32⟩
  | .hbm, ⟨50, _⟩ => ⟨S8192x256, .f32⟩
  | .hbm, ⟨51, _⟩ => ⟨S8192x64, .f32⟩
  | .hbm, ⟨52, _⟩ => ⟨S8192x512, .f32⟩
  | .hbm, ⟨53, _⟩ => ⟨S8192x1536, .f32⟩
  | .hbm, ⟨54, _⟩ => ⟨S8192x4, .f32⟩
  | .hbm, ⟨55, _⟩ => ⟨S8192x4, .f32⟩
  | .hbm, ⟨56, _⟩ => ⟨S8192x512, .f32⟩
  | .hbm, ⟨57, _⟩ => ⟨S8192x32, .f32⟩
  | .hbm, ⟨58, _⟩ => ⟨S8192x32, .f32⟩
  | .hbm, ⟨59, _⟩ => ⟨S8192x64, .f32⟩
  | .hbm, ⟨60, _⟩ => ⟨S8192x32, .f32⟩
  | .hbm, ⟨61, _⟩ => ⟨S8192x32, .f32⟩
  | .hbm, ⟨62, _⟩ => ⟨S_, .f32⟩
  | .hbm, ⟨63, _⟩ => ⟨S8192x64, .f32⟩
  | .hbm, ⟨64, _⟩ => ⟨S8192x64, .f32⟩
  | .hbm, ⟨65, _⟩ => ⟨S_, .f32⟩
  | .hbm, ⟨66, _⟩ => ⟨S8192x64, .f32⟩
  | .hbm, ⟨67, _⟩ => ⟨S8192x64, .f32⟩
  | .hbm, ⟨68, _⟩ => ⟨S8192x3272, .f32⟩
  | .hbm, ⟨69, _⟩ => ⟨S3272x1024, .f32⟩
  | .hbm, ⟨70, _⟩ => ⟨S1024x3272, .f32⟩
  | .hbm, ⟨71, _⟩ => ⟨S8192x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S8192x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S8192, .f32⟩
  | .hbm, ⟨90, _⟩ => ⟨S8192x1, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1, .f32⟩
  | .hbm, ⟨95, _⟩ => ⟨S_, .f32⟩
  | .hbm, ⟨96, _⟩ => ⟨S8192x1, .f32⟩
  | .hbm, ⟨97, _⟩ => ⟨S8192x1, .f32⟩
  | .hbm, ⟨98, _⟩ => ⟨S_, .f32⟩
  | .hbm, ⟨99, _⟩ => ⟨S8192, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_3 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_4 : Ref sig .tc := ⟨.hbm, 62, rfl⟩
abbrev main_v40 : Ref sig .tc := ⟨.hbm, 63, rfl⟩
abbrev main_v41 : Ref sig .tc := ⟨.hbm, 64, rfl⟩
abbrev main_cst_5 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_6 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_7 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_8 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_9 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_10 : Ref sig .tc := ⟨.hbm, 95, rfl⟩
abbrev main_v67 : Ref sig .tc := ⟨.hbm, 96, rfl⟩
abbrev main_v68 : Ref sig .tc := ⟨.hbm, 97, rfl⟩
abbrev main_cst_11 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩

abbrev nD : Nat := 1
abbrev τ : Topo := Topo.v7x

variable {F : FTy → Type} [FloatOps F]
-- ==== TailFwd.lean ====
abbrev S8192x1024 : Shape := ⟨2, ![8192, 1024]⟩
abbrev S8192x512 : Shape := ⟨2, ![8192, 512]⟩
abbrev S128 : Shape := ⟨1, ![128]⟩
abbrev S1024x1024 : Shape := ⟨2, ![1024, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 14
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S128, .f32⟩
  | .hbm, ⟨6, _⟩ => ⟨S1024x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S1x128, .f32⟩
  | .hbm, ⟨11, _⟩ => ⟨S1x1024, .f32⟩
  | .hbm, ⟨12, _⟩ => ⟨S1x1024, .f32⟩
  | .hbm, ⟨13, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x128, .f32⟩
  | .local _ .vmem, ⟨11, _⟩ => ⟨S1024x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== TailFwdRefIdeal.lean ====
abbrev S8192x1024 : Shape := ⟨2, ![8192, 1024]⟩
abbrev S8192x512 : Shape := ⟨2, ![8192, 512]⟩
abbrev S128 : Shape := ⟨1, ![128]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S8192x4x128 : Shape := ⟨3, ![8192, 4, 128]⟩
abbrev S8192x4 : Shape := ⟨2, ![8192, 4]⟩
abbrev S8192x4x1 : Shape := ⟨3, ![8192, 4, 1]⟩
abbrev S1x1x128 : Shape := ⟨3, ![1, 1, 128]⟩
abbrev S8192 : Shape := ⟨1, ![8192]⟩
abbrev S8192x1 : Shape := ⟨2, ![8192, 1]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S128, .f32⟩
  | .hbm, ⟨6, _⟩ => ⟨S1024x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x4x128, .f32⟩
  | .hbm, ⟨21, _⟩ => ⟨S8192x4x128, .f32⟩
  | .hbm, ⟨22, _⟩ => ⟨S_, .f32⟩
  | .hbm, ⟨23, _⟩ => ⟨S8192x4, .f32⟩
  | .hbm, ⟨24, _⟩ => ⟨S8192x4x1, .f32⟩
  | .hbm, ⟨25, _⟩ => ⟨S_, .f32⟩
  | .hbm, ⟨26, _⟩ => ⟨S8192x4x1, .f32⟩
  | .hbm, ⟨27, _⟩ => ⟨S8192x4x1, .f32⟩
  | .hbm, ⟨28, _⟩ => ⟨S_, .f32⟩
  | .hbm, ⟨29, _⟩ => ⟨S8192x4x1, .f32⟩
  | .hbm, ⟨30, _⟩ => ⟨S8192x4x1, .f32⟩
  | .hbm, ⟨31, _⟩ => ⟨S8192x4x1, .f32⟩
  | .hbm, ⟨32, _⟩ => ⟨S8192x4x128, .f32⟩
  | .hbm, ⟨33, _⟩ => ⟨S8192x4x128, .f32⟩
  | .hbm, ⟨34, _⟩ => ⟨S1x1x128, .f32⟩
  | .hbm, ⟨35, _⟩ => ⟨S8192x4x128, .f32⟩
  | .hbm, ⟨36, _⟩ => ⟨S8192x4x128, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S_, .f32⟩
  | .hbm, ⟨41, _⟩ => ⟨S8192x512, .f32⟩
  | .hbm, ⟨42, _⟩ => ⟨S8192x512, .f32⟩
  | .hbm, ⟨43, _⟩ => ⟨S_, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x1024, .f32⟩
  | .hbm, ⟨49, _⟩ => ⟨S8192x1024, .f32⟩
  | .hbm, ⟨50, _⟩ => ⟨S1x1024, .f32⟩
  | .hbm, ⟨51, _⟩ => ⟨S1x1024, .f32⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_cst_0 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_cst_2 : Ref sig .tc := ⟨.hbm, 53, rfl⟩
abbrev main_v24 : Ref sig .tc := ⟨.hbm, 54, rfl⟩
abbrev main_v25 : Ref sig .tc := ⟨.hbm, 55, rfl⟩
abbrev main_cst_3 : Ref sig .tc := ⟨.hbm, 56, rfl⟩
abbrev main_v26 : Ref sig .tc := ⟨.hbm, 57, rfl⟩
abbrev main_v27 : Ref sig .tc := ⟨.hbm, 58, rfl⟩
abbrev main_cst_4 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩

abbrev nD : Nat := 1
abbrev τ : Topo := Topo.v7x

variable {F : FTy → Type} [FloatOps F]
-- ==== FrontFwd.lean ====
abbrev S8192x1024 : Shape := ⟨2, ![8192, 1024]⟩
abbrev S1024 : Shape := ⟨1, ![1024]⟩
abbrev S1x1024 : Shape := ⟨2, ![1, 1024]⟩
abbrev S1024x3272 : Shape := ⟨2, ![1024, 3272]⟩
abbrev S1024x64 : Shape := ⟨2, ![1024, 64]⟩
abbrev S1024x8 : Shape := ⟨2, ![1024, 8]⟩
abbrev S_ : Shape := ⟨0, ![]⟩
abbrev S1024x120 : Shape := ⟨2, ![1024, 120]⟩
abbrev S1024x128 : Shape := ⟨2, ![1024, 128]⟩
abbrev S1024x384 : Shape := ⟨2, ![1024, 384]⟩
abbrev S1024x256 : Shape := ⟨2, ![1024, 256]⟩
abbrev S1024x32 : Shape := ⟨2, ![1024, 32]⟩
abbrev S1024x512 : Shape := ⟨2, ![1024, 512]⟩
abbrev S1024x1536 : Shape := ⟨2, ![1024, 1536]⟩
abbrev S8192x384 : Shape := ⟨2, ![8192, 384]⟩
abbrev S8192x256 : Shape := ⟨2, ![8192, 256]⟩
abbrev S8192x128 : Shape := ⟨2, ![8192, 128]⟩
abbrev S8192x512 : Shape := ⟨2, ![8192, 512]⟩
abbrev S8192x1536 : Shape := ⟨2, ![8192, 1536]⟩
abbrev S512x1024 : Shape := ⟨2, ![512, 1024]⟩
abbrev S512x384 : Shape := ⟨2, ![512, 384]⟩
abbrev S512x256 : Shape := ⟨2, ![512, 256]⟩
abbrev S512x128 : Shape := ⟨2, ![512, 128]⟩
abbrev S512x512 : Shape := ⟨2, ![512, 512]⟩
abbrev S512x1536 : Shape := ⟨2, ![512, 1536]⟩
abbrev S512 : Shape := ⟨1, ![512]⟩
abbrev S512x1 : Shape := ⟨2, ![512, 1]⟩
abbrev S8192x64 : Shape := ⟨2, ![8192, 64]⟩
abbrev S8192x4 : Shape := ⟨2, ![8192, 4]⟩

abbrev nBuf : Space → Nat
  | .hbm => 42
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S1024, .f32⟩
  | .hbm, ⟨4, _⟩ => ⟨S1x1024, .f32⟩
  | .hbm, ⟨5, _⟩ => ⟨S1024, .f32⟩
  | .hbm, ⟨6, _⟩ => ⟨S1024x3272, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1024x64, .f32⟩
  | .hbm, ⟨11, _⟩ => ⟨S1024x8, .f32⟩
  | .hbm, ⟨12, _⟩ => ⟨S_, .f32⟩
  | .hbm, ⟨13, _⟩ => ⟨S1024x120, .f32⟩
  | .hbm, ⟨14, _⟩ => ⟨S1024x128, .f32⟩
  | .hbm, ⟨15, _⟩ => ⟨S1024x384, .f32⟩
  | .hbm, ⟨16, _⟩ => ⟨S1024x256, .f32⟩
  | .hbm, ⟨17, _⟩ => ⟨S1024x32, .f32⟩
  | .hbm, ⟨18, _⟩ => ⟨S1024x32, .f32⟩
  | .hbm, ⟨19, _⟩ => ⟨S1024x64, .f32⟩
  | .hbm, ⟨20, _⟩ => ⟨S1024x128, .f32⟩
  | .hbm, ⟨21, _⟩ => ⟨S1024x512, .f32⟩
  | .hbm, ⟨22, _⟩ => ⟨S1024x1536, .f32⟩
  | .hbm, ⟨23, _⟩ => ⟨S1024x512, .f32⟩
  | .hbm, ⟨24, _⟩ => ⟨S1024x384, .bf16⟩
  | .hbm, ⟨25, _⟩ => ⟨S1024x256, .bf16⟩
  | .hbm, ⟨26, _⟩ => ⟨S1024x128, .bf16⟩
  | .hbm, ⟨27, _⟩ => ⟨S1024x512, .bf16⟩
  | .hbm, ⟨28, _⟩ => ⟨S1024x1536, .bf16⟩
  | .hbm, ⟨29, _⟩ => ⟨S1024x128, .bf16⟩
  | .hbm, ⟨30, _⟩ => ⟨S1024x512, .bf16⟩
  | .hbm, ⟨31, _⟩ => ⟨S8192x384, .f32⟩
  | .hbm, ⟨32, _⟩ => ⟨S8192x256, .f32⟩
  | .hbm, ⟨33, _⟩ => ⟨S8192x128, .f32⟩
  | .hbm, ⟨34, _⟩ => ⟨S8192x512, .f32⟩
  | .hbm, ⟨35, _⟩ => ⟨S8192x1536, .f32⟩
  | .hbm, ⟨36, _⟩ => ⟨S8192x128, .f32⟩
  | .hbm, ⟨37, _⟩ => ⟨S8192x512, .f32⟩
  | .hbm, ⟨38, _⟩ => ⟨S8192x64, .f32⟩
  | .hbm, ⟨39, _⟩ => ⟨S8192x64, .f32⟩
  | .hbm, ⟨40, _⟩ => ⟨S8192x4, .f32⟩
  | .hbm, ⟨41, _⟩ => ⟨S8192x4, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1024x384, .bf16⟩
  | .local _ .vmem, ⟨8, _⟩ => ⟨S1024x256, .bf16⟩
  | .local _ .vmem, ⟨9, _⟩ => ⟨S1024x128, .bf16⟩
  | .local _ .vmem, ⟨10, _⟩ => ⟨S1024x512, .bf16⟩
  | .local _ .vmem, ⟨11, _⟩ => ⟨S1024x1536, .bf16⟩
  | .local _ .vmem, ⟨12, _⟩ => ⟨S1024x128, .bf16⟩
  | .local _ .vmem, ⟨13, _⟩ => ⟨S1024x512, .bf16⟩
  | .local _ .vmem, ⟨14, _⟩ => ⟨S512x384, .f32⟩
  | .local _ .vmem, ⟨15, _⟩ => ⟨S512x384, .f32⟩
  | .local _ .vmem, ⟨16, _⟩ => ⟨S512x256, .f32⟩
  | .local _ .vmem, ⟨17, _⟩ => ⟨S512x256, .f32⟩
  | .local _ .vmem, ⟨18, _⟩ => ⟨S512x128, .f32⟩
  | .local _ .vmem, ⟨19, _⟩ => ⟨S512x128, .f32⟩
  | .local _ .vmem, ⟨20, _⟩ => ⟨S512x512, .f32⟩
  | .local _ .vmem, ⟨21, _⟩ => ⟨S512x512, .f32⟩
  | .local _ .vmem, ⟨22, _⟩ => ⟨S512x1536, .f32⟩
  | .local _ .vmem, ⟨23, _⟩ => ⟨S512x1536, .f32⟩
  | .local _ .vmem, ⟨24, _⟩ => ⟨S512x128, .f32⟩
  | .local _ .vmem, ⟨25, _⟩ => ⟨S512x128, .f32⟩
  | .local _ .vmem, ⟨26, _⟩ => ⟨S512x512, .f32⟩
  | .local _ .vmem, ⟨27, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23_0 : Ref sig .tc := ⟨.hbm, 31, rfl⟩
abbrev main_v23_1 : Ref sig .tc := ⟨.hbm, 32, rfl⟩
abbrev main_v23_2 : Ref sig .tc := ⟨.hbm, 33, rfl⟩
abbrev main_v23_3 : Ref sig .tc := ⟨.hbm, 34, rfl⟩
abbrev main_v23_4 : Ref sig .tc := ⟨.hbm, 35, rfl⟩
abbrev main_v23_5 : Ref sig .tc := ⟨.hbm, 36, rfl⟩
abbrev main_v23_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1536 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x384 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1536 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== FrontFwdRefIdeal.lean ====
abbrev S8192x1024 : Shape := ⟨2, ![8192, 1024]⟩
abbrev S1024 : Shape := ⟨1, ![1024]⟩
abbrev S1x1024 : Shape := ⟨2, ![1, 1024]⟩
abbrev S1024x3272 : Shape := ⟨2, ![1024, 3272]⟩
abbrev S_ : Shape := ⟨0, ![]⟩
abbrev S8192 : Shape := ⟨1, ![8192]⟩
abbrev S8192x1 : Shape := ⟨2, ![8192, 1]⟩
abbrev S8192x3272 : Shape := ⟨2, ![8192, 3272]⟩
abbrev S8192x384 : Shape := ⟨2, ![8192, 384]⟩
abbrev S8192x256 : Shape := ⟨2, ![8192, 256]⟩
abbrev S8192x64 : Shape := ⟨2, ![8192, 64]⟩
abbrev S8192x512 : Shape := ⟨2, ![8192, 512]⟩
abbrev S8192x1536 : Shape := ⟨2, ![8192, 1536]⟩
abbrev S8192x4 : Shape := ⟨2, ![8192, 4]⟩
abbrev S8192x32 : Shape := ⟨2, ![8192, 32]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S1024, .f32⟩
  | .hbm, ⟨4, _⟩ => ⟨S1x1024, .f32⟩
  | .hbm, ⟨5, _⟩ => ⟨S1024, .f32⟩
  | .hbm, ⟨6, _⟩ => ⟨S1024x3272, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S1x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x3272, .f32⟩
  | .hbm, ⟨35, _⟩ => ⟨S8192x384, .f32⟩
  | .hbm, ⟨36, _⟩ => ⟨S8192x256, .f32⟩
  | .hbm, ⟨37, _⟩ => ⟨S8192x64, .f32⟩
  | .hbm, ⟨38, _⟩ => ⟨S8192x512, .f32⟩
  | .hbm, ⟨39, _⟩ => ⟨S8192x1536, .f32⟩
  | .hbm, ⟨40, _⟩ => ⟨S8192x4, .f32⟩
  | .hbm, ⟨41, _⟩ => ⟨S8192x4, .f32⟩
  | .hbm, ⟨42, _⟩ => ⟨S8192x512, .f32⟩
  | .hbm, ⟨43, _⟩ => ⟨S8192x32, .f32⟩
  | .hbm, ⟨44, _⟩ => ⟨S8192x32, .f32⟩
  | .hbm, ⟨45, _⟩ => ⟨S8192x64, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Proof.Words.lean ====
/- The values of the float words that the programs spell out. -/
module

public import Idealize.ShloMosaic.PureOps.Ideal.Laws

@[expose] public section

noncomputable section

namespace Cert.Words

open Idealize.ShloMosaic

theorem one : Ideal.ofBits .f32 0x3F800000#32 = 1 := by
  simp [Ideal.ofBits, Ideal.ieee, -EReal.coe_mul]; norm_num
theorem half : Ideal.ofBits .f32 0x3F000000#32 = ((1 / 2 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem n1024 : Ideal.ofBits .f32 0x44800000#32 = ((1024 : ℝ) : EReal) := by
  simp [Ideal.ofBits, Ideal.ieee, -EReal.coe_mul]; norm_num

end Cert.Words

end
-- ==== Proof.LossValue.lean ====
/- The loss's gradient: what `loss_bwd` leaves in its result array, and that the derivative of the loss is the same array.
   At the ideal instance a point writes `d * g + g * d` for `d = y - target`, where `g` is half the cotangent row's sum over the
   1024 columns; the cotangent row is one in its first lane and zero elsewhere, so `g = 1/2048` and the result is `d / 1024`. -/
module

public import proofs.«01_k».proof.Defs
public import proofs.«01_k».proof.Proof.Words
public import proofs.«01_k».proof.Proof.Gen.LossBwdIdeal.Value
public import proofs.«01_k».proof.Proof.Gen.LossBwdRefIdeal.Run
public import proofs.«01_k».proof.Proof.Gen.LossBwdRefIdeal.Read
public import Idealize.ShloMosaic.Lib.Pipeline.Value
public import Idealize.ShloMosaic.Lib.Pointwise
public import Idealize.ShloMosaic.Lib.ValueIdx
public import Idealize.ShloMosaic.Lib.Routing.OpsOne

@[expose] public section

set_option maxRecDepth 16384

noncomputable section

namespace Cert.LossBwdIdeal.LossValue

open Cert.LossBwdIdeal Cert.LossBwdIdeal.Gen Idealize.ShloMosaic Idealize.ShloMosaic.TcCoe Idealize.SL.Sem
open Idealize.ShloMosaic.Pipeline (Dat)

variable (m : (ℓ : Loc nD τ sig) → Buf (Elt Ideal) ℓ)

/-- The result: the difference over 1024 columns, as the kernel adds it up. -/
def G (y t : Vec Ideal S8192x1024 .f32) : Vec Ideal S8192x1024 .f32 :=
  fun i => (y i - t i) * ((1 / 2048 : ℝ) : EReal) + ((1 / 2048 : ℝ) : EReal) * (y i - t i)

/-- The cotangent row as the region finds it: one in the first lane. -/
theorem V_ct (c : Dev nD) (j : S1x128.Idx) : V m c main_v4 j = if (j 1).val = 0 then (1 : EReal) else 0 := by
  have h : V m c main_v4 = Host.scatter scatter_S1x128_S2_S__n_01_01_0 (fun _ b => b)
      (broadcastInDim S1x128 ![] bcast_S_S1x128 (constant S_ .f32 0x00000000#32))
      (concatenate S2 0 [⟨S1, broadcastInDim S1 ![] bcast_S_S1 (constantI S_ 32 0#32)⟩, ⟨S1, broadcastInDim S1 ![] bcast_S_S1 (constantI S_ 32 0#32)⟩] concatenates_S1_S1_S2_d0)
      (constant (F := Ideal) S_ .f32 0x3F800000#32) := by
    unfold V; after_results
  rw [h]
  idx_vars j
  have hw : ∀ q : Fin 2, (concatenate S2 0 [⟨S1, broadcastInDim S1 ![] bcast_S_S1 (constantI S_ 32 0#32)⟩, ⟨S1, broadcastInDim S1 ![] bcast_S_S1 (constantI S_ 32 0#32)⟩]
      concatenates_S1_S1_S2_d0 (ValueIdx.ix1 q)).toInt = 0 := by decide +kernel
  refine (Routing.scatter_cell_signed (R := 1) (C := 128) _ rfl rfl rfl _ _ _ j0 j1).trans ?_
  rw [hw, hw]
  have h0 : j0.val = 0 := by omega
  show (if _ then Ideal.ofBits .f32 0x3F800000#32 else Ideal.ofBits .f32 0x00000000#32) = if j1.val = 0 then (1 : EReal) else 0
  rw [Words.one, Ideal.ofBits_zero_f32]
  simp only [h0, Nat.cast_zero, true_and]
  by_cases hj : j1.val = 0
  · simp [hj]
  · rw [if_neg hj, if_neg]
    intro hc
    exact hj (by exact_mod_cast hc.symm)

/-- The cotangent row's sum is one. -/
theorem sum_ct (ct : Vec Ideal S1x128 .f32) (h : ∀ j, ct j = if (j 1).val = 0 then (1 : EReal) else 0) :
    ∑ x : Fin 128, ct (ix2 0 x) = 1 := by
  rw [Finset.sum_eq_single (0 : Fin 128)]
  · rw [h]; rfl
  · intro b _ hb
    rw [h, if_neg]
    intro hb'
    exact hb (Fin.ext hb')
  · intro hb; exact absurd (Finset.mem_univ _) hb

/-- A point's payload at an index. -/
theorem pay_apply (y t : Vec Ideal S512x1024 .f32) (ct : Vec Ideal S1x128 .f32) (i : S512x1024.Idx)
    (h : ∀ j, ct j = if (j 1).val = 0 then (1 : EReal) else 0) :
    k0_pay1 y t ct i = (y i - t i) * ((1 / 2048 : ℝ) : EReal) + ((1 / 2048 : ℝ) : EReal) * (y i - t i) := by
  idx_vars i
  unfold_payloads
  pointwise
  have hs := sum_ct ct h
  simp only [Finset.univ_unique, Finset.sum_const, Finset.card_singleton, one_smul, hs, mul_one, Words.half, Words.n1024]
  rw [Ideal.div_coe (by norm_num), ← EReal.coe_mul]
  norm_num

theorem out_eq (y t : Vec Ideal S512x1024 .f32) (ct : Vec Ideal S1x128 .f32) : out0_3 y t ct = k0_pay1 y t ct := by
  have hz : (![0, 0] : Fin S512x1024.rank → Nat) = fun _ => 0 := funext fun a => by fin_cases a <;> rfl
  have hz' : (![0, 0] : Fin S1x128.rank → Nat) = fun _ => 0 := funext fun a => by fin_cases a <;> rfl
  unfold out0_3
  rw [View.canon_unit_zero hz, View.ld_unit_zero hz, View.ld_unit_zero hz, View.ld_unit_zero hz']

/-- Every window moves with the point; the cotangent row stays. -/
theorem idx_facts : ∀ t : Fin cfg0.N, win0_0.index t = win0_3.index t ∧ win0_1.index t = win0_3.index t ∧ win0_2.index t = ![0, 0]
    ∧ win0_3.index t = ![t.val, 0] :=
  (by decide +kernel : ∀ t : Fin grid0.N, win0_0.index t = win0_3.index t ∧ win0_1.index t = win0_3.index t ∧ win0_2.index t = ![0, 0]
    ∧ win0_3.index t = ![t.val, 0])

/-- What a point writes back is its block of the result. -/
theorem flushed_eq (c : Dev nD) (t : Fin cfg0.N) :
    (dats m 0 c).flushed 3 t = (win0_3.blk t).view.read (Elt Ideal) (G (m ((c : Thread nD τ).loc main_arg0)) (m ((c : Thread nD τ).loc main_arg1))) := by
  show (cfg0.win 3).cut (grid0.coords t) ((dats m 0 c).after 3 t) = _
  rw [after0_3, out_eq]
  obtain ⟨e0, e1, e2, -⟩ := idx_facts t
  funext i
  refine (pay_apply _ _ _ _ fun j => ?_).trans ?_
  · show V m c main_v4 _ = _
    rw [V_ct]
    congr 2
    show win0_2.index t 1 * 128 + 1 * (j 1).val = (j 1).val
    rw [e2]
    show 0 * 128 + 1 * (j 1).val = (j 1).val
    omega
  · have h0 : iblk m c 0 t ((cfg0.win 3).xinj (grid0.coords t) i) = m ((c : Thread nD τ).loc main_arg0) ((win0_3.blk t).view.emb i) := by
      show V m c main_arg0 _ = _
      rw [V_main_arg0]
      congr 1
    have h1 : iblk m c 1 t ((cfg0.win 3).xinj (grid0.coords t) i) = m ((c : Thread nD τ).loc main_arg1) ((win0_3.blk t).view.emb i) := by
      show V m c main_arg1 _ = _
      rw [V_main_arg1]
      congr 1
    rw [h0, h1]
    rfl

/-- An index is in point `t`'s block when its row is in rows `512 t … 512 t + 511`. -/
theorem mem_blk (t : Fin cfg0.N) (i : S8192x1024.Idx) :
    i ∈ ((cfg0.win 3).blk t).view.set ↔ t.val * 512 ≤ (i 0 : Nat) ∧ (i 0 : Nat) < t.val * 512 + 512 := by
  show i ∈ ((View.whole main_v5).slice (win0_3.rect t)).set ↔ _
  rw [View.set_slice_whole, Rect.mem_set_unit]
  have h1 : (i 1 : Nat) < 1024 := (i 1).isLt
  obtain ⟨-, -, -, e3⟩ := idx_facts t
  have e : win0_3.index t 0 = t.val ∧ win0_3.index t 1 = 0 := by rw [e3]; exact ⟨rfl, rfl⟩
  refine ⟨fun h => ?_, fun h a => ?_⟩
  · have : win0_3.index t 0 * 512 ≤ (i 0 : Nat) ∧ (i 0 : Nat) < win0_3.index t 0 * 512 + 512 := h 0
    rwa [e.1] at this
  · match a with
    | ⟨0, _⟩ => show win0_3.index t 0 * 512 ≤ (i 0 : Nat) ∧ (i 0 : Nat) < win0_3.index t 0 * 512 + 512
                rwa [e.1]
    | ⟨1, _⟩ => show win0_3.index t 1 * 1024 ≤ (i 1 : Nat) ∧ (i 1 : Nat) < win0_3.index t 1 * 1024 + 1024
                rw [e.2]; clear h e e3; omega

theorem cover (i : S8192x1024.Idx) :
    ∃ t : Fin cfg0.N, (cfg0.win 3).flush t = true ∧ i ∈ ((cfg0.win 3).blk t).view.set := by
  have h0 : (i 0 : Nat) < 8192 := (i 0).isLt
  refine ⟨⟨(i 0).val / 512, by show _ < grid0.N; rw [N_0]; omega⟩, flush0_3 _, ?_⟩
  rw [mem_blk]
  dsimp only
  omega

/-- The result array after the run. -/
theorem final (c : Dev nD) : (dats m 0 c).arrAt 3 cfg0.N = G (m ((c : Thread nD τ).loc main_arg0)) (m ((c : Thread nD τ).loc main_arg1)) :=
  (dats m 0 c).arrAt_eq_of_cover 3 _ (fun t _ => flushed_eq m c t) cover

/-- Twice a real times `x` is its sum with itself: what the reference's `2 · d` comes to. -/
theorem twice (d : EReal) : d * ((1 / 2048 : ℝ) : EReal) + ((1 / 2048 : ℝ) : EReal) * d = ((1 / 2048 : ℝ) : EReal) * (((2 : ℝ) : EReal) * d) := by
  induction d using EReal.rec with
  | bot =>
    rw [EReal.bot_mul_coe_of_pos (by norm_num), EReal.coe_mul_bot_of_pos (by norm_num), EReal.coe_mul_bot_of_pos (by norm_num), EReal.coe_mul_bot_of_pos (by norm_num)]
    rfl
  | top =>
    rw [EReal.top_mul_coe_of_pos (by norm_num), EReal.coe_mul_top_of_pos (by norm_num), EReal.coe_mul_top_of_pos (by norm_num), EReal.coe_mul_top_of_pos (by norm_num)]
    rfl
  | coe r => norm_cast; ring

/-- The derivative of the loss as the reference composes it is the kernel's result. -/
theorem ref_eq (y t : Vec Ideal S8192x1024 .f32) : Cert.LossBwdRefIdeal.Read.val_main_v14 (F := Ideal) y t = G y t := by
  funext i
  idx_vars i
  unfold G Cert.LossBwdRefIdeal.Read.val_main_v14
  pointwise [Cert.LossBwdRefIdeal.Read.val_main_v13, Cert.LossBwdRefIdeal.Read.val_main_v12, Cert.LossBwdRefIdeal.Read.val_main_v11,
    Cert.LossBwdRefIdeal.Read.val_main_v10, Cert.LossBwdRefIdeal.Read.val_main_v9, Cert.LossBwdRefIdeal.Read.val_main_v3, Cert.LossBwdRefIdeal.Read.val_main_v2,
    Cert.LossBwdRefIdeal.Read.val_main_v0, Cert.LossBwdRefIdeal.Read.val_main_cst, Cert.LossBwdRefIdeal.Read.val_main_cst_4, Cert.LossBwdRefIdeal.Read.val_main_cst_5,
    Cert.LossBwdRefIdeal.Read.val_main_cst_6, Words.one, Words.half, Words.two, Words.n1024]
  rw [twice, Ideal.div_coe (by norm_num), ← EReal.coe_mul]
  norm_num

/-- The claim: the kernel's result is the derivative of the loss. -/
theorem algebraic : Cert.algebraic_LossBwdIdeal_LossBwdRefIdeal := fun m ρ m' ρ' _ hag =>
  ⟨fun c => G (m ((c : Thread nD τ).loc main_arg0)) (m ((c : Thread nD τ).loc main_arg1)),
    (θ_run _ _ _).mono (fun _ h c => ⟨(h c).1.trans (final m c), (h c).2⟩) (Value.run_blocks (F := Ideal) m ρ),
    (θ_run _ _ _).mono (fun _ h c => ⟨(h c).1.trans (((Cert.LossBwdRefIdeal.Read.val_main_v14_eq _ _).trans (by
      rw [(hag c).1, (hag c).2]; exact ref_eq _ _))), (h c).2⟩) (Cert.LossBwdRefIdeal.Value.run (F := Ideal) m' ρ')⟩

end Cert.LossBwdIdeal.LossValue

end
-- ==== Proof.RowMath.lean ====
/- The row mathematics that the norms' and gates' gradients share, over the extended reals: one row's root mean square, its
   normalised entries, the gradient through the normalisation, and the derivative of `z ↦ z · sigmoid z`. -/
module

public import Idealize.ShloMosaic.Lib.Pointwise
public import Idealize.ShloMosaic.Lib.ValueIdx

@[expose] public section

noncomputable section

namespace Cert.RowMath

open Idealize.ShloMosaic

/-- The norms' small constant. -/
def eps : EReal := Ideal.ofBits .f32 0x358637BD#32

/-- Minus one half, the factor of the reciprocal root's derivative. -/
def negHalf : EReal := Ideal.ofBits .f32 0xBF000000#32

variable {n : Nat}

/-- The mean square of a row of `n` entries (`nw` is `n` as a number), with the small constant added. -/
def ms (nw : EReal) (x : Fin n → EReal) : EReal := Ideal.div (∑ k, x k * x k) nw + eps

/-- The reciprocal root of the mean square. -/
def rs (nw : EReal) (x : Fin n → EReal) : EReal := Ideal.rsqrt (ms nw x)

/-- The normalised row. -/
def nrm (nw : EReal) (x : Fin n → EReal) (k : Fin n) : EReal := x k * rs nw x

/-- The part of the gradient that passes through the mean: what every entry's square contributes. -/
def through (nw : EReal) (x g : Fin n → EReal) : EReal :=
  Ideal.div ((∑ l, x l * g l) * (negHalf * Ideal.div (rs nw x) (ms nw x))) nw

/-- The gradient through the normalisation: `g` is the cotangent of the normalised row. -/
def back (nw : EReal) (x g : Fin n → EReal) (k : Fin n) : EReal :=
  g k * rs nw x + x k * through nw x g + through nw x g * x k

/-- The logistic function. -/
def sg (z : EReal) : EReal := Ideal.div 1 (1 + Ideal.exp (-z))

/-- `z · sigmoid z`. -/
def si (z : EReal) : EReal := z * sg z

/-- The derivative of `z · sigmoid z` times `g`. -/
def dsi (g z : EReal) : EReal := g * sg z + z * g * (sg z * (1 - sg z))

/-- The same derivative as the quotient rule writes it: of `1 / (1 + e⁻ᶻ)`, with the square of the denominator. -/
theorem dsi_quotient (g z : EReal) :
    g * sg z + (0 - (0 - z * g * Ideal.div 1 ((1 + Ideal.exp (-z)) * (1 + Ideal.exp (-z)))) * Ideal.exp (-z)) = dsi g z := by
  unfold dsi sg
  congr 1
  induction z using EReal.rec with
  | bot =>
    have h : (1 : EReal) + ⊤ = ⊤ := EReal.add_top_of_ne_bot (EReal.coe_ne_bot 1)
    simp [Ideal.div, h, EReal.top_mul_top]
  | top =>
    have h : (1 : EReal) - 1 = 0 := by rw [← EReal.coe_one, ← EReal.coe_sub, sub_self, EReal.coe_zero]
    simp [Ideal.div, h]
  | coe r =>
    have he := Real.exp_pos (-r)
    have hd : (1 + Real.exp (-r)) ≠ 0 := by positivity
    rw [← EReal.coe_neg, Ideal.exp_coe, ← EReal.coe_one, ← EReal.coe_add, ← EReal.coe_mul, Ideal.div_coe hd, Ideal.div_coe (mul_ne_zero hd hd), ← EReal.coe_mul,
      ← EReal.coe_mul, ← EReal.coe_sub, ← EReal.coe_mul, zero_sub, zero_sub, EReal.neg_mul, neg_neg, mul_assoc, ← EReal.coe_mul]
    congr 2
    field_simp
    ring

/-- The host's sum over the two leading axes of three: the sum over both coordinates. -/
theorem hostReduceAdd_lead {a b n : Nat} (h : (⟨3, ![a, b, n]⟩ : Shape).ReducesTo [0, 1] ⟨1, ![n]⟩)
    (x : (⟨3, ![a, b, n]⟩ : Shape).Idx → EReal) (c : EReal) (k : Fin n) :
    Ideal.hostReduceAdd h x c (ix1 k) = c + ∑ i : Fin a, ∑ j : Fin b, x (ix3 i j k) := by
  have hd : ∀ i j l, h.drop (ix3 i j l) = ix1 l := by
    intro i j l
    funext e
    match e with
    | ⟨0, _⟩ => exact Fin.ext rfl
  have back : ∀ i, h.drop i = ix1 k → ix3 (n0 := a) (n1 := b) (n2 := n) (i 0) (i 1) k = i := by
    intro i hi
    have hl : i 2 = k := congrFun hi 0
    rw [← hl]
    exact (eq_ix3 i).symm
  unfold Ideal.hostReduceAdd
  congr 1
  rw [← Finset.sum_product' (f := fun i j => x (ix3 i j k))]
  refine Finset.sum_nbij' (fun i => (i 0, i 1)) (fun p => ix3 p.1 p.2 k) ?_ ?_ ?_ ?_ ?_
  · intro i _; simp
  · intro p _; simp [hd]
  · intro i hi; exact back i (Finset.mem_filter.mp hi).2
  · intro p _; rfl
  · intro i hi; exact congrArg x (back i (Finset.mem_filter.mp hi).2).symm

end Cert.RowMath

end
-- ==== Proof.TailRow.lean ====
/- One row of the tail's backward pass, over the extended reals: the output gates, the per-head norm, the output projection,
   the residual's norm and gate, and the gradient of each of them. Both programs are read as these functions of a row. -/
module

public import proofs.«01_k».proof.Proof.RowMath

@[expose] public section

noncomputable section

namespace Cert.Tail

open Idealize.ShloMosaic Cert.RowMath

/-- 128 and 1024 as the programs' words. -/
def n128 : EReal := Ideal.ofBits .f32 0x43000000#32
def n1024 : EReal := Ideal.ofBits .f32 0x44800000#32

/-- Column `k` of head `h` among the 512 columns. -/
abbrev col (h : Fin 4) (k : Fin 128) : Fin 512 := ⟨128 * h.val + k.val, by omega⟩
abbrev headOf (c : Fin 512) : Fin 4 := ⟨c.val / 128, by omega⟩
abbrev laneOf (c : Fin 512) : Fin 128 := ⟨c.val % 128, by omega⟩

theorem col_head_lane (c : Fin 512) : col (headOf c) (laneOf c) = c := Fin.ext (by show 128 * (c.val / 128) + c.val % 128 = _; omega)
theorem headOf_col (h : Fin 4) (k : Fin 128) : headOf (col h k) = h := Fin.ext (by show (128 * h.val + k.val) / 128 = _; omega)
theorem laneOf_col (h : Fin 4) (k : Fin 128) : laneOf (col h k) = k := Fin.ext (by show (128 * h.val + k.val) % 128 = _; omega)

theorem col_zero (k : Fin 128) : col 0 k = ⟨k.val, by omega⟩ := Fin.ext (by show 128 * 0 + k.val = k.val; omega)

/-- A function of a column, read through the head it lies in. -/
theorem split_heads {α : Type} (f : Fin 4 → Fin 128 → α) (c : Fin 512) :
    f (headOf c) (laneOf c) = if h : c.val < 128 then f 0 ⟨c.val, h⟩ else if h : c.val - 128 < 128 then f 1 ⟨c.val - 128, h⟩
      else if h : c.val - 128 - 128 < 128 then f 2 ⟨c.val - 128 - 128, h⟩ else f 3 ⟨c.val - 128 - 128 - 128, by omega⟩ := by
  split_ifs with h0 h1 h2 <;> congr 1 <;> first | congr 1 | skip
  all_goals first | (apply Fin.ext; show _ = _; simp only [Fin.isValue]; omega) | skip

/-- The two halves of the 1024 columns. -/
abbrev lo (c : Fin 512) : Fin 1024 := ⟨c.val, by omega⟩
abbrev hi (c : Fin 512) : Fin 1024 := ⟨512 + c.val, by omega⟩

/-- What one row reads: the two branches' outputs and gates, the parameters, and the cotangent. -/
structure Row where
  o : Fin 512 → EReal
  z : Fin 512 → EReal
  g : Fin 512 → EReal
  zg : Fin 512 → EReal
  w : Fin 128 → EReal
  W : Fin 1024 → Fin 1024 → EReal
  pw : Fin 1024 → EReal
  gp : Fin 1024 → EReal
  ct : Fin 1024 → EReal

namespace Row

variable (R : Row)

/-- A head's row of the second branch. -/
def head (h : Fin 4) (k : Fin 128) : EReal := R.g (col h k)
def ym (c : Fin 512) : EReal := R.o c * si (R.z c)
def part (c : Fin 512) : EReal := nrm n128 (R.head (headOf c)) (laneOf c) * R.w (laneOf c)
def yg (c : Fin 512) : EReal := R.part c * si (R.zg c)
/-- The projected row. -/
def y (k : Fin 1024) : EReal := (∑ c, R.ym c * R.W (lo c) k) + ∑ c, R.yg c * R.W (hi c) k

/-- The gate's product with the cotangent. -/
def gct (k : Fin 1024) : EReal := R.gp k * R.ct k
def dgate (k : Fin 1024) : EReal := R.ct k * (nrm n1024 R.y k * R.pw k)
def dpw (k : Fin 1024) : EReal := nrm n1024 R.y k * R.gct k
/-- The cotangent of the projected row. -/
def dy (k : Fin 1024) : EReal := back n1024 R.y (fun l => R.gct l * R.pw l) k
def dym (c : Fin 512) : EReal := ∑ k, R.dy k * R.W (lo c) k
def dyg (c : Fin 512) : EReal := ∑ k, R.dy k * R.W (hi c) k
def dz (c : Fin 512) : EReal := dsi (R.o c * R.dym c) (R.z c)
def dO (c : Fin 512) : EReal := R.dym c * si (R.z c)
def dzg (c : Fin 512) : EReal := dsi (R.part c * R.dyg c) (R.zg c)
def dn (c : Fin 512) : EReal := R.dyg c * si (R.zg c)
def dhead (h : Fin 4) (k : Fin 128) : EReal := back n128 (R.head h) (fun l => R.dn (col h l) * R.w l) k
def dg (c : Fin 512) : EReal := R.dhead (headOf c) (laneOf c)
/-- One head's part of the per-head norm's weight gradient. -/
def dw (h : Fin 4) (k : Fin 128) : EReal := nrm n128 (R.head h) k * R.dn (col h k)
/-- The projection's weight gradient, one row's part. -/
def dWlo (c : Fin 512) (k : Fin 1024) : EReal := R.ym c * R.dy k
def dWhi (c : Fin 512) (k : Fin 1024) : EReal := R.yg c * R.dy k

end Row

end Cert.Tail

end
-- ==== Proof.TailPay.lean ====
/- The arithmetic of half a tile of the tail's backward pass, read at an index: every value the kernel computes is a function
   of its row, the parameters' gradients the sums over the half tile's 256 rows. `v26`, `v91`, … are the values of the
   program, numbered as it numbers them. -/
module
public import proofs.«01_k».proof.Proof.TailRow
public import proofs.«01_k».proof.Proof.Gen.TailBwdIdeal.Skeleton
public import Idealize.ShloMosaic.Lib.Pointwise
public import Idealize.ShloMosaic.Lib.ValueIdx
@[expose] public section
set_option maxRecDepth 16384
noncomputable section
namespace Cert.TailBwdIdeal.TailPay
open Cert.TailBwdIdeal Cert.TailBwdIdeal.Gen Idealize.ShloMosaic Cert.Tail Cert.RowMath

/-- What one piece of a point loads: 256 rows of the two branches and of the cotangent, and the parameters. -/
structure In where
  o : Vec Ideal S256x512 .f32
  z : Vec Ideal S256x512 .f32
  g : Vec Ideal S256x512 .f32
  zg : Vec Ideal S256x512 .f32
  w : Vec Ideal S1x128 .f32
  W : Vec Ideal S1024x1024 .f32
  pw : Vec Ideal S1x1024 .f32
  gr : Vec Ideal S1x1024 .f32
  gb : Vec Ideal S1x1024 .f32
  ct : Vec Ideal S256x1024 .f32

namespace In

variable (A : In)

/-- Row `i` of the piece. -/
def row (i : Fin 256) : Row where
  o c := A.o (ix2 i c)
  z c := A.z (ix2 i c)
  g c := A.g (ix2 i c)
  zg c := A.zg (ix2 i c)
  w k := A.w (ix2 0 k)
  W c k := A.W (ix2 c k)
  pw k := A.pw (ix2 0 k)
  gp k := A.gr (ix2 0 k) + A.gb (ix2 0 k)
  ct k := A.ct (ix2 i k)

def v8 := k0_pay7 (F := Ideal) A.w
def v11 := k0_pay8 (F := Ideal) A.pw
def v14 := k0_pay9 (F := Ideal) A.gb
def v26 := k0_pay15 (F := Ideal) A.o A.z
def v27 := k0_pay16 (F := Ideal) A.g
def v30 := k0_pay17 (F := Ideal) A.g
def v31 : FVec Ideal S256x1 .f32 := k0_pay18
def v35 := k0_pay20 (F := Ideal) A.v30 v31
def v38 := k0_pay21 (F := Ideal) A.v30 v31
def v40 := k0_pay22 (F := Ideal) A.v27 A.v30 v31
def v42 := k0_pay23 (F := Ideal) A.v8 A.v27 A.v30 v31
def v43 := k0_pay24 (F := Ideal) A.g
def v51 := k0_pay26 (F := Ideal) A.g
def v54 := k0_pay27 (F := Ideal) A.g
def v56 := k0_pay28 (F := Ideal) A.g
def v58 := k0_pay29 (F := Ideal) A.g A.v8
def v59 := k0_pay30 (F := Ideal) A.g
def v67 := k0_pay32 (F := Ideal) A.g
def v70 := k0_pay33 (F := Ideal) A.g
def v72 := k0_pay34 (F := Ideal) A.g
def v74 := k0_pay35 (F := Ideal) A.g A.v8
def v75 := k0_pay36 (F := Ideal) A.g
def v78 := k0_pay37 (F := Ideal) A.g
def v79 : FVec Ideal S256x1 .f32 := k0_pay38
def v83 := k0_pay40 (F := Ideal) A.v78 v79
def v86 := k0_pay41 (F := Ideal) A.v78 v79
def v88 := k0_pay42 (F := Ideal) A.v75 A.v78 v79
def v91 := k0_pay43 (F := Ideal) A.v8 A.v42 A.v58 A.v74 A.v75 A.v78 v79
def v102 := k0_pay48 (F := Ideal) A.zg
def v103 := k0_pay49 (F := Ideal) A.zg A.v8 A.v42 A.v58 A.v74 A.v75 A.v78 v79
def v104 := k0_pay50 (F := Ideal) A.W
def v108 := k0_pay51 (F := Ideal) A.W
def v112 := k0_pay52 (F := Ideal) A.zg A.v8 A.W A.v26 A.v42 A.v58 A.v74 A.v75 A.v78 v79
def v113 := k0_pay53 (F := Ideal) A.gr A.v14
def v121 := k0_pay55 (F := Ideal) A.zg A.v8 A.W A.v26 A.v42 A.v58 A.v74 A.v75 A.v78 v79
def v124 := k0_pay56 (F := Ideal) A.zg A.v8 A.W A.v26 A.v42 A.v58 A.v74 A.v75 A.v78 v79
def v126 := k0_pay57 (F := Ideal) A.zg A.v8 A.W A.v26 A.v42 A.v58 A.v74 A.v75 A.v78 v79
def v127 := k0_pay58 (F := Ideal) A.v11
def v135 := k0_pay61 (F := Ideal) A.v126 A.v127 A.ct
def v138 := k0_pay62 (F := Ideal) A.v113 A.v126 A.ct
def v155 := k0_pay63 (F := Ideal) A.v11 A.v112 A.v113 A.v121 A.v124 A.ct
def v158 := k0_pay64 (F := Ideal) A.v11 A.v108 A.v112 A.v113 A.v121 A.v124 A.ct
def v166 := k0_pay65 (F := Ideal) A.v11 A.v104 A.v112 A.v113 A.v121 A.v124 A.ct
def v172 := k0_pay66 (F := Ideal) A.v11 A.v26 A.v103 A.v112 A.v113 A.v121 A.v124 A.ct
def v173 := k0_pay67 (F := Ideal) A.v11 A.v91 A.v108 A.v112 A.v113 A.v121 A.v124 A.ct
def v174 := k0_pay68 (F := Ideal) A.v11 A.v102 A.v108 A.v112 A.v113 A.v121 A.v124 A.ct
def v185 := k0_pay69 (F := Ideal) A.zg (k0_pay44 (F := Ideal) A.zg) (k0_pay46 (F := Ideal) A.zg) (k0_pay47 (F := Ideal) A.zg) A.v173
def v186 := k0_pay70 (F := Ideal) A.v174
def v187 := k0_pay71 (F := Ideal) A.v174
def v211 := k0_pay74 (F := Ideal) A.v8 A.v75 A.v83 A.v86 A.v174
def v215 := k0_pay75 (F := Ideal) A.v72 A.v88 A.v174
def v222 := k0_pay77 (F := Ideal) A.v8 A.v67 A.v174
def v223 := k0_pay78 (F := Ideal) A.v8 A.v59 A.v70 A.v174
def v263 := k0_pay79 (F := Ideal) A.v8 A.v43 A.v51 A.v54 A.v59 A.v187 A.v211 A.v222 A.v223 (Scalar.ofBits .f32 0x43000000#32)
def v267 := k0_pay80 (F := Ideal) A.v40 A.v56 A.v186 A.v187 A.v215
def v272 := k0_pay82 (F := Ideal) A.v8 A.v27 A.v186
def v274 := k0_pay83 (F := Ideal) A.v8 A.v35 A.v186
def v287 := k0_pay84 (F := Ideal) A.v27 A.v38 A.v263 A.v272 A.v274
def v289 := k0_pay85 (F := Ideal) (k0_pay14 (F := Ideal) A.z) A.v166
def v300 := k0_pay86 (F := Ideal) A.o A.z (k0_pay10 (F := Ideal) A.z) (k0_pay12 (F := Ideal) A.z) (k0_pay13 (F := Ideal) A.z) A.v166

theorem v26_at (i : Fin 256) (c : Fin 512) : A.v26 (ix2 i c) = (A.row i).ym c := by
  unfold v26
  unfold_payloads
  pointwise [zero_sub]
  rfl

theorem v91_at (i : Fin 256) (c : Fin 512) : A.v91 (ix2 i c) = (A.row i).part c := by
  unfold v91 v42 v58 v74 v75 v8 v27 v30 v31 v78 v79
  unfold_payloads
  pointwise [zero_sub]
  refine .trans ?_ (split_heads (fun h k => nrm n128 ((A.row i).head h) k * (A.row i).w k) c).symm
  simp only [nrm, rs, ms, Row.head, col_zero]
  rfl

theorem v102_at (i : Fin 256) (c : Fin 512) : A.v102 (ix2 i c) = si ((A.row i).zg c) := by
  unfold v102
  unfold_payloads
  pointwise [zero_sub]
  rfl

theorem v103_at (i : Fin 256) (c : Fin 512) : A.v103 (ix2 i c) = (A.row i).yg c := by
  show A.v91 (ix2 i c) * A.v102 (ix2 i c) = _
  rw [v91_at, v102_at]
  rfl

theorem v112_at (i : Fin 256) (k : Fin 1024) : A.v112 (ix2 i k) = (A.row i).y k := by
  have h := A.v103_at
  unfold v103 at h
  unfold v112 k0_pay52 k0_pay50 k0_pay51
  pointwise
  simp only [h, v26_at]
  rfl

theorem v113_at (k : Fin 1024) (i : Fin 256) : A.v113 (ix2 0 k) = (A.row i).gp k := by
  unfold v113 v14
  unfold_payloads
  pointwise
  rfl

theorem v121_at (i : Fin 256) (z : Fin 1) : A.v121 (ix2 i z) = rs n1024 (A.row i).y := by
  have h := A.v112_at
  unfold v112 at h
  unfold v121 k0_pay55 k0_pay54
  pointwise
  simp only [h]
  rfl

theorem v124_at (i : Fin 256) (z : Fin 1) :
    A.v124 (ix2 i z) = negHalf * Ideal.div (rs n1024 (A.row i).y) (ms n1024 (A.row i).y) := by
  have h := A.v112_at
  unfold v112 at h
  unfold v124 k0_pay56 k0_pay55 k0_pay54
  pointwise
  simp only [h]
  rfl

theorem v126_at (i : Fin 256) (k : Fin 1024) : A.v126 (ix2 i k) = nrm n1024 (A.row i).y k := by
  have h := A.v112_at
  have h' := A.v121_at
  unfold v112 at h
  unfold v121 at h'
  unfold v126 k0_pay57
  pointwise
  rw [h, h']
  rfl

theorem v127_at (i : Fin 256) (k : Fin 1024) : A.v127 (ix2 i k) = (A.row i).pw k := by
  unfold v127 v11
  unfold_payloads
  pointwise
  rfl

theorem v135_at (k : Fin 1024) : A.v135 (ix2 0 k) = ∑ i, (A.row i).dgate k := by
  unfold v135
  unfold_payloads
  pointwise
  simp only [v126_at, v127_at]
  rfl

theorem v138_at (k : Fin 1024) : A.v138 (ix2 0 k) = ∑ i, (A.row i).dpw k := by
  unfold v138
  unfold_payloads
  pointwise
  simp only [v126_at]
  refine Finset.sum_congr rfl fun i _ => ?_
  rw [A.v113_at k i]
  rfl

theorem v155_at (i : Fin 256) (k : Fin 1024) : A.v155 (ix2 i k) = (A.row i).dy k := by
  unfold v155 v11
  unfold_payloads
  pointwise
  simp only [v112_at, v121_at, v124_at, A.v113_at _ i, Finset.univ_unique, Finset.sum_const, Finset.card_singleton, one_smul]
  rfl

theorem v158_at (i : Fin 256) (c : Fin 512) : A.v158 (ix2 i c) = (A.row i).dyg c := by
  have h := A.v155_at
  unfold v155 at h
  unfold v158 v108 k0_pay64 k0_pay51
  pointwise
  simp only [h]
  rfl

theorem v166_at (i : Fin 256) (c : Fin 512) : A.v166 (ix2 i c) = (A.row i).dym c := by
  have h := A.v155_at
  unfold v155 at h
  unfold v166 v104 k0_pay65 k0_pay50
  pointwise
  simp only [h]
  rfl

theorem v172_at (c k : Fin 1024) : A.v172 (ix2 c k) =
    if h : c.val < 512 then ∑ i, (A.row i).dWlo ⟨c.val, h⟩ k else ∑ i, (A.row i).dWhi ⟨c.val - 512, by omega⟩ k := by
  have h := A.v155_at
  unfold v155 at h
  unfold v172 k0_pay66
  pointwise
  simp only [h, v26_at, v103_at]
  by_cases hc : c.val < 512
  · simp only [hc, ↓reduceDIte, zero_add, Row.dWlo]
  · simp only [hc, ↓reduceDIte, add_zero, Row.dWhi]

theorem v173_at (i : Fin 256) (c : Fin 512) : A.v173 (ix2 i c) = (A.row i).part c * (A.row i).dyg c := by
  show A.v91 (ix2 i c) * A.v158 (ix2 i c) = _
  rw [v91_at, v158_at]

theorem v174_at (i : Fin 256) (c : Fin 512) : A.v174 (ix2 i c) = (A.row i).dn c := by
  show A.v158 (ix2 i c) * A.v102 (ix2 i c) = _
  rw [v102_at, v158_at]
  rfl

theorem v185_at (i : Fin 256) (c : Fin 512) : A.v185 (ix2 i c) = (A.row i).dzg c := by
  unfold v185
  unfold_payloads
  pointwise [zero_sub]
  simp only [v173_at]
  refine .trans ?_ (dsi_quotient _ _)
  simp only [zero_sub]
  rfl

theorem v289_at (i : Fin 256) (c : Fin 512) : A.v289 (ix2 i c) = (A.row i).dO c := by
  unfold v289
  unfold_payloads
  pointwise [zero_sub]
  simp only [v166_at]
  rfl

theorem v300_at (i : Fin 256) (c : Fin 512) : A.v300 (ix2 i c) = (A.row i).dz c := by
  unfold v300
  unfold_payloads
  pointwise [zero_sub]
  simp only [v166_at]
  refine .trans ?_ (dsi_quotient _ _)
  simp only [zero_sub]
  rfl

theorem v267_at (k : Fin 128) : A.v267 (ix2 0 k) = ∑ i, ∑ h, (A.row i).dw h k := by
  unfold v267 v40 v56 v186 v187 v215 v72 v88 v27 v30 v31 v75 v78 v79
  unfold_payloads
  pointwise
  simp only [v174_at, Fin.sum_univ_four, Finset.sum_add_distrib]
  refine .trans ?_ (show (∑ x, (A.row x).dw 3 k) + (∑ x, (A.row x).dw 2 k) + (∑ x, (A.row x).dw 1 k) + ∑ x, (A.row x).dw 0 k = _ from by ac_rfl)
  simp only [Row.dw, nrm, rs, ms, Row.head, col_zero]
  rfl

theorem v287_at (i : Fin 256) (c : Fin 512) : A.v287 (ix2 i c) = (A.row i).dg c := by
  unfold v287 v263 v272 v274 v211 v222 v223 v186 v187 v8 v43 v51 v54 v59 v75 v83 v86 v67 v70 v27 v35 v38 v30 v31 v78 v79
  unfold_payloads
  pointwise
  simp only [v174_at, Finset.univ_unique, Finset.sum_const, Finset.card_singleton, one_smul]
  refine .trans ?_ (split_heads (fun h k => (A.row i).dhead h k) c).symm
  by_cases h0 : c.val < 128
  · have h1 : c.val < 256 := by omega
    have h2 : c.val < 384 := by omega
    simp only [h0, h1, h2, ↓reduceDIte, zero_add, Row.dhead, back, through, rs, ms, Row.head, col_zero]
    rfl
  · by_cases h1 : c.val < 256
    · have h2 : c.val < 384 := by omega
      have h3 : c.val - 128 < 128 := by omega
      simp only [h0, h1, h2, h3, ↓reduceDIte, zero_add, add_zero]
      rfl
    · by_cases h2 : c.val < 384
      · have h3 : ¬ c.val - 128 < 128 := by omega
        have h4 : c.val - 256 < 128 := by omega
        simp only [h0, h1, h2, h3, h4, ↓reduceDIte, zero_add, add_zero, Nat.sub_sub, Nat.reduceAdd]
        rfl
      · have h3 : ¬ c.val - 128 < 128 := by omega
        have h4 : ¬ c.val - 256 < 128 := by omega
        simp only [h0, h1, h2, h3, h4, ↓reduceDIte, zero_add, add_zero, Nat.sub_sub, Nat.reduceAdd]
        rfl

end In
end Cert.TailBwdIdeal.TailPay
-- ==== Proof.TailPiece.lean ====
module
public import proofs.«01_k».proof.Proof.TailPay
/-!
The second half of a tile: the kernel cuts its arithmetic into other steps there,
and every step gives what the corresponding step of the first half gives.
`u349`, `u426`, … are the values of the program, numbered as it numbers them.
-/

@[expose] public section
set_option maxRecDepth 16384
noncomputable section
namespace Cert.TailBwdIdeal.TailPay
open Cert.TailBwdIdeal Cert.TailBwdIdeal.Gen Idealize.ShloMosaic Cert.Tail Cert.RowMath
namespace In
variable (A : In)
def u331 := k0_pay92 (F := Ideal) A.w
def u334 := k0_pay93 (F := Ideal) A.pw
def u337 := k0_pay94 (F := Ideal) A.gb
def u340 := k0_pay95 (F := Ideal) A.z
def u344 := k0_pay97 (F := Ideal) A.z
def u347 := k0_pay98 (F := Ideal) A.z
def u348 := k0_pay99 (F := Ideal) A.z
def u349 := k0_pay100 (F := Ideal) A.o A.z
def u350 := k0_pay101 (F := Ideal) A.g
def u358 := k0_pay103 (F := Ideal) A.g
def u361 := k0_pay104 (F := Ideal) A.g
def u363 := k0_pay105 (F := Ideal) A.g
def u365 := k0_pay106 (F := Ideal) A.g A.u331
def u366 := k0_pay107 (F := Ideal) A.g
def u374 := k0_pay109 (F := Ideal) A.g
def u377 := k0_pay110 (F := Ideal) A.g
def u378 := k0_pay111 (F := Ideal) A.g
def u379 := k0_pay112 (F := Ideal) A.u366 A.u378
def u382 := k0_pay113 (F := Ideal) A.g
def u390 := k0_pay115 (F := Ideal) A.g
def u393 := k0_pay116 (F := Ideal) A.g
def u395 := k0_pay117 (F := Ideal) A.g
def u398 := k0_pay118 (F := Ideal) A.g
def u406 := k0_pay120 (F := Ideal) A.g
def u409 := k0_pay121 (F := Ideal) A.g
def u411 := k0_pay122 (F := Ideal) A.g
def u414 := k0_pay123 (F := Ideal) A.g A.u331 A.u365 A.u366 A.u378
def u417 := k0_pay124 (F := Ideal) A.zg
def u421 := k0_pay126 (F := Ideal) A.zg
def u424 := k0_pay127 (F := Ideal) A.zg
def u425 := k0_pay128 (F := Ideal) A.zg
def u426 := k0_pay129 (F := Ideal) A.g A.zg A.u331 A.u365 A.u366 A.u378
def u427 := k0_pay130 (F := Ideal) A.W
def u431 := k0_pay131 (F := Ideal) A.W
def u435 := k0_pay132 (F := Ideal) A.W A.u349 A.u426
def u458 := k0_pay138 (F := Ideal) A.W A.u334 A.u349 A.u426 A.ct
def u461 := k0_pay139 (F := Ideal) A.W A.gr A.u337 A.u349 A.u426 A.ct
def u468 := k0_pay141 (F := Ideal) A.W A.u334 A.gr A.u337 A.u349 A.u426 A.ct
def u473 := k0_pay142 (F := Ideal) A.W A.u334 A.gr A.u337 A.u349 A.u426 A.ct
def u489 := k0_pay145 (F := Ideal) A.u427 A.u435 A.u468 A.u473
def u495 := k0_pay146 (F := Ideal) A.u349 A.u426 A.u435 A.u468 A.u473
def u508 := k0_pay148 (F := Ideal) A.zg A.u414 A.u417 A.u421 A.u424 A.u431 A.u435 A.u468 A.u473
def u509 := k0_pay149 (F := Ideal) A.u425 A.u431 A.u435 A.u468 A.u473
def u510 := k0_pay150 (F := Ideal) A.u425 A.u431 A.u435 A.u468 A.u473
def u511 := k0_pay151 (F := Ideal) A.u425 A.u431 A.u435 A.u468 A.u473
def u515 := k0_pay153 (F := Ideal) A.u411 A.u425 A.u431 A.u435 A.u468 A.u473
def u520 := k0_pay155 (F := Ideal) A.u331 A.u398 A.u425 A.u431 A.u435 A.u468 A.u473
def u522 := k0_pay156 (F := Ideal) A.u331 A.u406 A.u425 A.u431 A.u435 A.u468 A.u473
def u560 := k0_pay157 (F := Ideal) A.u331 A.u382 A.u390 A.u393 A.u398 A.u409 A.u511 A.u520 A.u522
def u564 := k0_pay158 (F := Ideal) A.u379 A.u395 A.u510 A.u511 A.u515
def u571 := k0_pay160 (F := Ideal) A.u331 A.u374 A.u510
def u572 := k0_pay161 (F := Ideal) A.u331 A.u366 A.u377 A.u510
def u590 := k0_pay162 (F := Ideal) A.u363 A.u509 A.u564
def u610 := k0_pay163 (F := Ideal) A.u331 A.u350 A.u358 A.u361 A.u366 A.u509 A.u560 A.u571 A.u572
def u612 := k0_pay165 (F := Ideal) A.u348 A.u489
def u614 := k0_pay166 (F := Ideal) A.o A.u344 A.u489
def u620 := k0_pay167 (F := Ideal) A.o A.z A.u340 A.u347 A.u489
theorem u349_eq : A.u349 = A.v26 := rfl
theorem u414_eq : A.u414 = A.v91 := rfl
theorem u426_eq : A.u426 = A.v103 := rfl
theorem u435_eq : A.u435 = A.v112 := rfl
theorem u458_eq : A.u458 = A.v135 := rfl
theorem u461_eq : A.u461 = A.v138 := rfl
theorem u489_eq : A.u489 = A.v166 := rfl
theorem u495_eq : A.u495 = A.v172 := rfl
theorem u508_eq : A.u508 = A.v185 := rfl
theorem u509_eq : A.u509 = A.v186 := rfl
theorem u510_eq : A.u510 = A.v187 := rfl
theorem u590_eq : A.u590 = A.v267 := rfl
theorem u610_eq : A.u610 = A.v287 := rfl
theorem u612_eq : A.u612 = A.v289 := rfl
theorem u620_eq : k0_pay169 (F := Ideal) A.u614 A.u620 k0_pay168 = A.v300 := rfl
end In
end Cert.TailBwdIdeal.TailPay
-- ==== Proof.TailPoint.lean ====
module
public import proofs.«01_k».proof.Proof.TailPiece
public import proofs.«01_k».proof.Proof.Gen.TailBwdIdeal.Value
public import Idealize.ShloMosaic.Lib.Pipeline.ValueKit
public import Idealize.ShloMosaic.Lib.Pipeline.ReadBack
/-!
What one grid point leaves in every output window: two half tiles of 256 rows each,
`lo` and `hi`, whose row gradients go out piece by piece and whose weight gradients
are added to what the points before it left.
-/

@[expose] public section
set_option maxRecDepth 16384
noncomputable section
namespace Cert.TailBwdIdeal.TailPoint

open Cert.TailBwdIdeal Cert.TailBwdIdeal.Gen Idealize.ShloMosaic Idealize.ShloMosaic.TcCoe Idealize.SL.Sem Cert.Tail Cert.RowMath
variable (m : (ℓ : Loc nD τ sig) → Buf (Elt Ideal) ℓ)

/-- The first 256 rows of a tile of 512. -/
def loOf (o z g zg : Vec Ideal S512x512 .f32) (w : Vec Ideal S1x128 .f32) (W : Vec Ideal S1024x1024 .f32)
    (pw gr gb : Vec Ideal S1x1024 .f32) (ct : Vec Ideal S512x1024 .f32) : TailPay.In where
  o := View.ld (Val := Elt Ideal) (e' := .f32) o (Rect.unit ![0, 0] ![256, 512] inb_S512x512_S256x512_0_0)
  z := View.ld (Val := Elt Ideal) (e' := .f32) z (Rect.unit ![0, 0] ![256, 512] inb_S512x512_S256x512_0_0)
  g := View.ld (Val := Elt Ideal) (e' := .f32) g (Rect.unit ![0, 0] ![256, 512] inb_S512x512_S256x512_0_0)
  zg := View.ld (Val := Elt Ideal) (e' := .f32) zg (Rect.unit ![0, 0] ![256, 512] inb_S512x512_S256x512_0_0)
  w := w
  W := W
  pw := pw
  gr := gr
  gb := gb
  ct := View.ld (Val := Elt Ideal) (e' := .f32) ct (Rect.unit ![0, 0] ![256, 1024] inb_S512x1024_S256x1024_0_0)

/-- The first 256 rows of the tile of point `t`. -/
def lo (c : Dev nD) (t : Fin cfg0.N) : TailPay.In :=
  loOf (iblk m c 1 t) (iblk m c 2 t) (iblk m c 3 t) (iblk m c 4 t) (iblk m c 5 t) (iblk m c 6 t)
    (iblk m c 7 t) (iblk m c 8 t) (iblk m c 9 t) (iblk m c 10 t)

/-- The last 256 rows of a tile of 512. -/
def hiOf (o z g zg : Vec Ideal S512x512 .f32) (w : Vec Ideal S1x128 .f32) (W : Vec Ideal S1024x1024 .f32)
    (pw gr gb : Vec Ideal S1x1024 .f32) (ct : Vec Ideal S512x1024 .f32) : TailPay.In where
  o := View.ld (Val := Elt Ideal) (e' := .f32) o (Rect.unit ![256, 0] ![256, 512] inb_S512x512_S256x512_256_0)
  z := View.ld (Val := Elt Ideal) (e' := .f32) z (Rect.unit ![256, 0] ![256, 512] inb_S512x512_S256x512_256_0)
  g := View.ld (Val := Elt Ideal) (e' := .f32) g (Rect.unit ![256, 0] ![256, 512] inb_S512x512_S256x512_256_0)
  zg := View.ld (Val := Elt Ideal) (e' := .f32) zg (Rect.unit ![256, 0] ![256, 512] inb_S512x512_S256x512_256_0)
  w := w
  W := W
  pw := pw
  gr := gr
  gb := gb
  ct := View.ld (Val := Elt Ideal) (e' := .f32) ct (Rect.unit ![256, 0] ![256, 1024] inb_S512x1024_S256x1024_256_0)

/-- The last 256 rows of the tile of point `t`. -/
def hi (c : Dev nD) (t : Fin cfg0.N) : TailPay.In :=
  hiOf (iblk m c 1 t) (iblk m c 2 t) (iblk m c 3 t) (iblk m c 4 t) (iblk m c 5 t) (iblk m c 6 t)
    (iblk m c 7 t) (iblk m c 8 t) (iblk m c 9 t) (iblk m c 10 t)

variable (c : Dev nD) (t : Fin cfg0.N)

theorem pay1_add (a b) : k0_pay1 (F := Ideal) a b = addf b a := by
  unfold k0_pay1; simp only [shapeCast_self]
theorem pay87_add (a b) : k0_pay87 (F := Ideal) a b = addf b a := by
  unfold k0_pay87; simp only [shapeCast_self]
theorem pay88_add (a b) : k0_pay88 (F := Ideal) a b = addf b a := by
  unfold k0_pay88; simp only [shapeCast_self]
theorem pay89_add (a b) : k0_pay89 (F := Ideal) a b = addf b a := by
  unfold k0_pay89; simp only [shapeCast_self]
theorem pay90_add (a b) : k0_pay90 (F := Ideal) a b = addf b a := by
  unfold k0_pay90; simp only [shapeCast_self]
theorem pay91_add (a b) : k0_pay91 (F := Ideal) a b = addf b a := by
  unfold k0_pay91; simp only [shapeCast_self]
theorem pay170_add (a b) : k0_pay170 (F := Ideal) a b = addf b a := by
  unfold k0_pay170; simp only [shapeCast_self]
theorem pay171_add (a b) : k0_pay171 (F := Ideal) a b = addf b a := by
  unfold k0_pay171; simp only [shapeCast_self]
theorem pay172_add (a b) : k0_pay172 (F := Ideal) a b = addf b a := by
  unfold k0_pay172; simp only [shapeCast_self]
theorem pay173_add (a b) : k0_pay173 (F := Ideal) a b = addf b a := by
  unfold k0_pay173; simp only [shapeCast_self]

theorem left16 : (t.val % 16 = 0 → (outsAt0 m c t.val t.isLt).2.2.2.2.2.1 =
      addf (addf (k0_pay2 (F := Ideal)) (lo m c t).v267) (hi m c t).v267) ∧
    (¬ t.val % 16 = 0 → (outsAt0 m c t.val t.isLt).2.2.2.2.2.1 =
      addf (addf (outsAt0 m c (t.val - 1) (by omega)).2.2.2.2.2.1 (lo m c t).v267) (hi m c t).v267) := by
  refine ⟨fun h => ?_, fun h => ?_⟩
  on_goal 1 => rw [outsAt0_A m c t h]
  on_goal 2 => rw [outsAt0_B m c t h]
  all_goals
    frame_out
    rw [pay170_add, pay87_add]
    refine congrArg₂ addf (congrArg₂ addf rfl ?_) (Eq.trans ?_ (TailPay.In.u590_eq (hi m c t)))
  all_goals simp only [lo, loOf, hi, hiOf,
    TailPay.In.v27, TailPay.In.v30, TailPay.In.v31, TailPay.In.v40, TailPay.In.v56, TailPay.In.v11,
    TailPay.In.v102, TailPay.In.v108, TailPay.In.v8, TailPay.In.v26, TailPay.In.v42, TailPay.In.v58,
    TailPay.In.v74, TailPay.In.v75, TailPay.In.v78, TailPay.In.v79, TailPay.In.v112, TailPay.In.v14,
    TailPay.In.v113, TailPay.In.v121, TailPay.In.v124, TailPay.In.v174, TailPay.In.v186,
    TailPay.In.v187, TailPay.In.v72, TailPay.In.v88, TailPay.In.v215, TailPay.In.v267, TailPay.In.u363,
    TailPay.In.u425, TailPay.In.u431, TailPay.In.u349, TailPay.In.u331, TailPay.In.u365,
    TailPay.In.u366, TailPay.In.u378, TailPay.In.u426, TailPay.In.u435, TailPay.In.u334,
    TailPay.In.u337, TailPay.In.u468, TailPay.In.u473, TailPay.In.u509, TailPay.In.u379,
    TailPay.In.u395, TailPay.In.u510, TailPay.In.u511, TailPay.In.u411, TailPay.In.u515,
    TailPay.In.u564, TailPay.In.u590]

theorem left17 : (t.val % 16 = 0 → (outsAt0 m c t.val t.isLt).2.2.2.2.2.2.1 =
      addf (addf (k0_pay3 (F := Ideal)) (lo m c t).v172) (hi m c t).v172) ∧
    (¬ t.val % 16 = 0 → (outsAt0 m c t.val t.isLt).2.2.2.2.2.2.1 =
      addf (addf (outsAt0 m c (t.val - 1) (by omega)).2.2.2.2.2.2.1 (lo m c t).v172) (hi m c t).v172) := by
  refine ⟨fun h => ?_, fun h => ?_⟩
  on_goal 1 => rw [outsAt0_A m c t h]
  on_goal 2 => rw [outsAt0_B m c t h]
  all_goals
    frame_out
    rw [pay171_add, pay88_add]
    refine congrArg₂ addf (congrArg₂ addf rfl ?_) (Eq.trans ?_ (TailPay.In.u495_eq (hi m c t)))
  all_goals simp only [lo, loOf, hi, hiOf,
    TailPay.In.v11, TailPay.In.v26, TailPay.In.v8, TailPay.In.v27, TailPay.In.v30, TailPay.In.v31,
    TailPay.In.v42, TailPay.In.v58, TailPay.In.v74, TailPay.In.v75, TailPay.In.v78, TailPay.In.v79,
    TailPay.In.v103, TailPay.In.v112, TailPay.In.v14, TailPay.In.v113, TailPay.In.v121, TailPay.In.v124,
    TailPay.In.v172, TailPay.In.u349, TailPay.In.u331, TailPay.In.u365, TailPay.In.u366,
    TailPay.In.u378, TailPay.In.u426, TailPay.In.u435, TailPay.In.u334, TailPay.In.u337,
    TailPay.In.u468, TailPay.In.u473, TailPay.In.u495]

theorem left18 : (t.val % 16 = 0 → (outsAt0 m c t.val t.isLt).2.2.2.2.2.2.2.1 =
      addf (addf (k0_pay4 (F := Ideal)) (lo m c t).v138) (hi m c t).v138) ∧
    (¬ t.val % 16 = 0 → (outsAt0 m c t.val t.isLt).2.2.2.2.2.2.2.1 =
      addf (addf (outsAt0 m c (t.val - 1) (by omega)).2.2.2.2.2.2.2.1 (lo m c t).v138) (hi m c t).v138) := by
  refine ⟨fun h => ?_, fun h => ?_⟩
  on_goal 1 => rw [outsAt0_A m c t h]
  on_goal 2 => rw [outsAt0_B m c t h]
  all_goals
    frame_out
    rw [pay172_add, pay89_add]
    refine congrArg₂ addf (congrArg₂ addf rfl ?_) (Eq.trans ?_ (TailPay.In.u461_eq (hi m c t)))
  all_goals simp only [lo, loOf, hi, hiOf,
    TailPay.In.v14, TailPay.In.v113, TailPay.In.v8, TailPay.In.v26, TailPay.In.v27, TailPay.In.v30,
    TailPay.In.v31, TailPay.In.v42, TailPay.In.v58, TailPay.In.v74, TailPay.In.v75, TailPay.In.v78,
    TailPay.In.v79, TailPay.In.v126, TailPay.In.v138, TailPay.In.u337, TailPay.In.u349, TailPay.In.u331,
    TailPay.In.u365, TailPay.In.u366, TailPay.In.u378, TailPay.In.u426, TailPay.In.u461]

theorem left19 : (t.val % 16 = 0 → (outsAt0 m c t.val t.isLt).2.2.2.2.2.2.2.2.1 =
      addf (addf (k0_pay5 (F := Ideal)) (lo m c t).v135) (hi m c t).v135) ∧
    (¬ t.val % 16 = 0 → (outsAt0 m c t.val t.isLt).2.2.2.2.2.2.2.2.1 =
      addf (addf (outsAt0 m c (t.val - 1) (by omega)).2.2.2.2.2.2.2.2.1 (lo m c t).v135) (hi m c t).v135) := by
  refine ⟨fun h => ?_, fun h => ?_⟩
  on_goal 1 => rw [outsAt0_A m c t h]
  on_goal 2 => rw [outsAt0_B m c t h]
  all_goals
    frame_out
    rw [pay173_add, pay90_add]
    refine congrArg₂ addf (congrArg₂ addf rfl ?_) (Eq.trans ?_ (TailPay.In.u458_eq (hi m c t)))
  all_goals simp only [lo, loOf, hi, hiOf,
    TailPay.In.v8, TailPay.In.v26, TailPay.In.v27, TailPay.In.v30, TailPay.In.v31, TailPay.In.v42,
    TailPay.In.v58, TailPay.In.v74, TailPay.In.v75, TailPay.In.v78, TailPay.In.v79, TailPay.In.v126,
    TailPay.In.v11, TailPay.In.v127, TailPay.In.v135, TailPay.In.u334, TailPay.In.u349, TailPay.In.u331,
    TailPay.In.u365, TailPay.In.u366, TailPay.In.u378, TailPay.In.u426, TailPay.In.u458]

theorem left20 : (t.val % 16 = 0 → (outsAt0 m c t.val t.isLt).2.2.2.2.2.2.2.2.2 =
      addf (addf (k0_pay6 (F := Ideal)) (lo m c t).v135) (hi m c t).v135) ∧
    (¬ t.val % 16 = 0 → (outsAt0 m c t.val t.isLt).2.2.2.2.2.2.2.2.2 =
      addf (addf (outsAt0 m c (t.val - 1) (by omega)).2.2.2.2.2.2.2.2.2 (lo m c t).v135) (hi m c t).v135) := by
  refine ⟨fun h => ?_, fun h => ?_⟩
  on_goal 1 => rw [outsAt0_A m c t h]
  on_goal 2 => rw [outsAt0_B m c t h]
  all_goals
    frame_out
    rw [pay1_add, pay91_add]
    refine congrArg₂ addf (congrArg₂ addf rfl ?_) (Eq.trans ?_ (TailPay.In.u458_eq (hi m c t)))
  all_goals simp only [lo, loOf, hi, hiOf,
    TailPay.In.v8, TailPay.In.v26, TailPay.In.v27, TailPay.In.v30, TailPay.In.v31, TailPay.In.v42,
    TailPay.In.v58, TailPay.In.v74, TailPay.In.v75, TailPay.In.v78, TailPay.In.v79, TailPay.In.v126,
    TailPay.In.v11, TailPay.In.v127, TailPay.In.v135, TailPay.In.u334, TailPay.In.u349, TailPay.In.u331,
    TailPay.In.u365, TailPay.In.u366, TailPay.In.u378, TailPay.In.u426, TailPay.In.u458]

/-- Two stores of 256 rows each make the tile. -/
theorem canon_halves (f : Fin 512 → Fin 512 → EReal) (a b : FVec Ideal S256x512 .f32)
    (ha : ∀ i k, a (ix2 i k) = f ⟨i, by omega⟩ k) (hb : ∀ i k, b (ix2 i k) = f ⟨256 + i, by omega⟩ k) (i k : Fin 512) :
    View.canon (Val := Elt Ideal) (s := S512x512) (e := .f32)
      [⟨Rect.unit ![256, 0] ![256, 512] inb_S512x512_S256x512_256_0, b⟩,
       ⟨Rect.unit ![0, 0] ![256, 512] inb_S512x512_S256x512_0_0, a⟩] (ix2 i k) = f i k := by
  canon_tiles x h
  · idx_vars x
    rw [hb]
    congr 1 <;> apply Fin.ext <;> simp_all
  · idx_vars x
    rw [ha]
    congr 1 <;> apply Fin.ext <;> simp_all

/-- The same for the two stores of the residual's cotangent, which goes out as it came. -/
theorem canon_self (d : Vec Ideal S512x1024 .f32) (i : Fin 512) (k : Fin 1024) :
    View.canon (Val := Elt Ideal) (s := S512x1024) (e := .f32)
      [⟨Rect.unit ![256, 0] ![256, 1024] inb_S512x1024_S256x1024_256_0,
          View.ld (Val := Elt Ideal) (e' := .f32) d (Rect.unit ![256, 0] ![256, 1024] inb_S512x1024_S256x1024_256_0)⟩,
       ⟨Rect.unit ![0, 0] ![256, 1024] inb_S512x1024_S256x1024_0_0,
          View.ld (Val := Elt Ideal) (e' := .f32) d (Rect.unit ![0, 0] ![256, 1024] inb_S512x1024_S256x1024_0_0)⟩] (ix2 i k) = d (ix2 i k) := by
  canon_tiles x h
  · idx_vars x
    refine congrArg d (funext fun a => Fin.ext ?_)
    match a with
    | ⟨0, _⟩ => show 256 + 1 * x0.val = i.val; omega
    | ⟨1, _⟩ => show 0 + 1 * x1.val = k.val; omega
  · idx_vars x
    refine congrArg d (funext fun a => Fin.ext ?_)
    match a with
    | ⟨0, _⟩ => show 0 + 1 * x0.val = i.val; omega
    | ⟨1, _⟩ => show 0 + 1 * x1.val = k.val; omega

theorem left11 (i : Fin 512) (k : Fin 1024) : (outsAt0 m c t.val t.isLt).1 (ix2 i k) = iblk m c 10 t (ix2 i k) := by
  by_cases h : t.val % 16 = 0
  on_goal 1 => rw [outsAt0_A m c t h]
  on_goal 2 => rw [outsAt0_B m c t h]
  all_goals
    frame_out
    exact canon_self _ i k

theorem left12 (f : Fin 512 → Fin 512 → EReal) (hl : ∀ i k, (lo m c t).v289 (ix2 i k) = f ⟨i, by omega⟩ k)
    (hh : ∀ i k, (hi m c t).v289 (ix2 i k) = f ⟨256 + i, by omega⟩ k) (i k : Fin 512) :
    (outsAt0 m c t.val t.isLt).2.1 (ix2 i k) = f i k := by
  by_cases h : t.val % 16 = 0
  on_goal 1 => rw [outsAt0_A m c t h]
  on_goal 2 => rw [outsAt0_B m c t h]
  all_goals
    frame_out
    refine canon_halves f _ _ (fun i k => (congrFun (?_ : _ = (lo m c t).v289) _).trans (hl i k))
      (fun i k => (congrFun ((?_ : _ = _).trans (TailPay.In.u612_eq (hi m c t))) _).trans (hh i k)) i k
  all_goals simp only [lo, loOf, hi, hiOf,
    TailPay.In.v11, TailPay.In.v104, TailPay.In.v8, TailPay.In.v26, TailPay.In.v27, TailPay.In.v30,
    TailPay.In.v31, TailPay.In.v42, TailPay.In.v58, TailPay.In.v74, TailPay.In.v75, TailPay.In.v78,
    TailPay.In.v79, TailPay.In.v112, TailPay.In.v14, TailPay.In.v113, TailPay.In.v121, TailPay.In.v124,
    TailPay.In.v166, TailPay.In.v289, TailPay.In.u348, TailPay.In.u427, TailPay.In.u349,
    TailPay.In.u331, TailPay.In.u365, TailPay.In.u366, TailPay.In.u378, TailPay.In.u426,
    TailPay.In.u435, TailPay.In.u334, TailPay.In.u337, TailPay.In.u468, TailPay.In.u473,
    TailPay.In.u489, TailPay.In.u612]

theorem left13 (f : Fin 512 → Fin 512 → EReal) (hl : ∀ i k, (lo m c t).v300 (ix2 i k) = f ⟨i, by omega⟩ k)
    (hh : ∀ i k, (hi m c t).v300 (ix2 i k) = f ⟨256 + i, by omega⟩ k) (i k : Fin 512) :
    (outsAt0 m c t.val t.isLt).2.2.1 (ix2 i k) = f i k := by
  by_cases h : t.val % 16 = 0
  on_goal 1 => rw [outsAt0_A m c t h]
  on_goal 2 => rw [outsAt0_B m c t h]
  all_goals
    frame_out
    refine canon_halves f _ _ (fun i k => (congrFun (?_ : _ = (lo m c t).v300) _).trans (hl i k))
      (fun i k => (congrFun ((?_ : _ = _).trans (TailPay.In.u620_eq (hi m c t))) _).trans (hh i k)) i k
  all_goals simp only [lo, loOf, hi, hiOf,
    TailPay.In.v11, TailPay.In.v104, TailPay.In.v8, TailPay.In.v26, TailPay.In.v27, TailPay.In.v30,
    TailPay.In.v31, TailPay.In.v42, TailPay.In.v58, TailPay.In.v74, TailPay.In.v75, TailPay.In.v78,
    TailPay.In.v79, TailPay.In.v112, TailPay.In.v14, TailPay.In.v113, TailPay.In.v121, TailPay.In.v124,
    TailPay.In.v166, TailPay.In.v300, TailPay.In.u344, TailPay.In.u427, TailPay.In.u349,
    TailPay.In.u331, TailPay.In.u365, TailPay.In.u366, TailPay.In.u378, TailPay.In.u426,
    TailPay.In.u435, TailPay.In.u334, TailPay.In.u337, TailPay.In.u468, TailPay.In.u473,
    TailPay.In.u489, TailPay.In.u614, TailPay.In.u340, TailPay.In.u347, TailPay.In.u620]

theorem left14 (f : Fin 512 → Fin 512 → EReal) (hl : ∀ i k, (lo m c t).v287 (ix2 i k) = f ⟨i, by omega⟩ k)
    (hh : ∀ i k, (hi m c t).v287 (ix2 i k) = f ⟨256 + i, by omega⟩ k) (i k : Fin 512) :
    (outsAt0 m c t.val t.isLt).2.2.2.1 (ix2 i k) = f i k := by
  by_cases h : t.val % 16 = 0
  on_goal 1 => rw [outsAt0_A m c t h]
  on_goal 2 => rw [outsAt0_B m c t h]
  all_goals
    frame_out
    refine canon_halves f _ _ (fun i k => (congrFun (?_ : _ = (lo m c t).v287) _).trans (hl i k))
      (fun i k => (congrFun ((?_ : _ = _).trans (TailPay.In.u610_eq (hi m c t))) _).trans (hh i k)) i k
  all_goals simp only [lo, loOf, hi, hiOf,
    TailPay.In.v27, TailPay.In.v30, TailPay.In.v31, TailPay.In.v38, TailPay.In.v8, TailPay.In.v43,
    TailPay.In.v51, TailPay.In.v54, TailPay.In.v59, TailPay.In.v11, TailPay.In.v102, TailPay.In.v108,
    TailPay.In.v26, TailPay.In.v42, TailPay.In.v58, TailPay.In.v74, TailPay.In.v75, TailPay.In.v78,
    TailPay.In.v79, TailPay.In.v112, TailPay.In.v14, TailPay.In.v113, TailPay.In.v121, TailPay.In.v124,
    TailPay.In.v174, TailPay.In.v187, TailPay.In.v83, TailPay.In.v86, TailPay.In.v211, TailPay.In.v67,
    TailPay.In.v222, TailPay.In.v70, TailPay.In.v223, TailPay.In.v263, TailPay.In.v186, TailPay.In.v272,
    TailPay.In.v35, TailPay.In.v274, TailPay.In.v287, TailPay.In.u331, TailPay.In.u350, TailPay.In.u358,
    TailPay.In.u361, TailPay.In.u366, TailPay.In.u425, TailPay.In.u431, TailPay.In.u349,
    TailPay.In.u365, TailPay.In.u378, TailPay.In.u426, TailPay.In.u435, TailPay.In.u334,
    TailPay.In.u337, TailPay.In.u468, TailPay.In.u473, TailPay.In.u509, TailPay.In.u382,
    TailPay.In.u390, TailPay.In.u393, TailPay.In.u398, TailPay.In.u409, TailPay.In.u511,
    TailPay.In.u520, TailPay.In.u406, TailPay.In.u522, TailPay.In.u560, TailPay.In.u374,
    TailPay.In.u510, TailPay.In.u571, TailPay.In.u377, TailPay.In.u572, TailPay.In.u610]

theorem left15 (f : Fin 512 → Fin 512 → EReal) (hl : ∀ i k, (lo m c t).v185 (ix2 i k) = f ⟨i, by omega⟩ k)
    (hh : ∀ i k, (hi m c t).v185 (ix2 i k) = f ⟨256 + i, by omega⟩ k) (i k : Fin 512) :
    (outsAt0 m c t.val t.isLt).2.2.2.2.1 (ix2 i k) = f i k := by
  by_cases h : t.val % 16 = 0
  on_goal 1 => rw [outsAt0_A m c t h]
  on_goal 2 => rw [outsAt0_B m c t h]
  all_goals
    frame_out
    refine canon_halves f _ _ (fun i k => (congrFun (?_ : _ = (lo m c t).v185) _).trans (hl i k))
      (fun i k => (congrFun ((?_ : _ = _).trans (TailPay.In.u508_eq (hi m c t))) _).trans (hh i k)) i k
  all_goals simp only [lo, loOf, hi, hiOf,
    TailPay.In.v11, TailPay.In.v8, TailPay.In.v27, TailPay.In.v30, TailPay.In.v31, TailPay.In.v42,
    TailPay.In.v58, TailPay.In.v74, TailPay.In.v75, TailPay.In.v78, TailPay.In.v79, TailPay.In.v91,
    TailPay.In.v108, TailPay.In.v26, TailPay.In.v112, TailPay.In.v14, TailPay.In.v113, TailPay.In.v121,
    TailPay.In.v124, TailPay.In.v173, TailPay.In.v185, TailPay.In.u331, TailPay.In.u365,
    TailPay.In.u366, TailPay.In.u378, TailPay.In.u414, TailPay.In.u417, TailPay.In.u421,
    TailPay.In.u424, TailPay.In.u431, TailPay.In.u349, TailPay.In.u426, TailPay.In.u435,
    TailPay.In.u334, TailPay.In.u337, TailPay.In.u468, TailPay.In.u473, TailPay.In.u508]
end Cert.TailBwdIdeal.TailPoint
-- ==== Proof.TailValue.lean ====
module
public import proofs.«01_k».proof.Proof.TailPoint
/-! What the tail's backward pass leaves in its ten result arrays: the sums over all 8192 rows of the weight gradients, and
every row's own gradients. -/
@[expose] public section
set_option maxRecDepth 16384
noncomputable section
namespace Cert.TailBwdIdeal.TailValue
open Cert.TailBwdIdeal Cert.TailBwdIdeal.Gen Idealize.ShloMosaic Idealize.ShloMosaic.TcCoe Idealize.SL.Sem Cert.Tail Cert.RowMath TailPoint
open Idealize.ShloMosaic.Pipeline (Dat)
variable (m : (ℓ : Loc nD τ sig) → Buf (Elt Ideal) ℓ) (c : Dev nD)

/-- The arguments, each at its literal shape. -/
abbrev a1 : Vec Ideal S8192x512 .f32 := m ((c : Thread nD τ).loc main_arg1)
abbrev a2 : Vec Ideal S8192x512 .f32 := m ((c : Thread nD τ).loc main_arg2)
abbrev a3 : Vec Ideal S8192x512 .f32 := m ((c : Thread nD τ).loc main_arg3)
abbrev a4 : Vec Ideal S8192x512 .f32 := m ((c : Thread nD τ).loc main_arg4)
abbrev a5 : Vec Ideal S128 .f32 := m ((c : Thread nD τ).loc main_arg5)
abbrev a6 : Vec Ideal S1024x1024 .f32 := m ((c : Thread nD τ).loc main_arg6)
abbrev a7 : Vec Ideal S1024 .f32 := m ((c : Thread nD τ).loc main_arg7)
abbrev a8 : Vec Ideal S1x1024 .f32 := m ((c : Thread nD τ).loc main_arg8)
abbrev a9 : Vec Ideal S1024 .f32 := m ((c : Thread nD τ).loc main_arg9)
abbrev a10 : Vec Ideal S8192x1024 .f32 := m ((c : Thread nD τ).loc main_arg10)

/-- Row `i` of the program's arguments. -/
def krow (i : Fin 8192) : Row where
  o k := a1 m c (ix2 i k)
  z k := a2 m c (ix2 i k)
  g k := a3 m c (ix2 i k)
  zg k := a4 m c (ix2 i k)
  w k := a5 m c (ix1 k)
  W j k := a6 m c (ix2 j k)
  pw k := a7 m c (ix1 k)
  gp k := a8 m c (ix2 0 k) + a9 m c (ix1 k)
  ct k := a10 m c (ix2 i k)

theorem bcast_128 (x : Vec Ideal S128 .f32) (k : Fin 128) : broadcastInDim S1x128 ![1] bcast_S128_S1x128_1 x (ix2 0 k) = x (ix1 k) := by
  pointwise
theorem bcast_1024 (x : Vec Ideal S1024 .f32) (k : Fin 1024) : broadcastInDim S1x1024 ![1] bcast_S1024_S1x1024_1 x (ix2 0 k) = x (ix1 k) := by
  pointwise

theorem V_v0 (k : Fin 128) : V m c main_v0 (ix2 0 k) = a5 m c (ix1 k) := by
  unfold V; after_results
  exact bcast_128 _ k
theorem V_v1 (k : Fin 1024) : V m c main_v1 (ix2 0 k) = a7 m c (ix1 k) := by
  unfold V; after_results
  exact bcast_1024 _ k
theorem V_v2 (k : Fin 1024) : V m c main_v2 (ix2 0 k) = a9 m c (ix1 k) := by
  unfold V; after_results
  exact bcast_1024 _ k

theorem idx (t : Fin cfg0.N) : win0_1.index t = ![t.val, 0] ∧ win0_2.index t = ![t.val, 0] ∧ win0_3.index t = ![t.val, 0] ∧ win0_4.index t = ![t.val, 0] ∧
    win0_10.index t = ![t.val, 0] ∧ win0_5.index t = ![0, 0] ∧ win0_6.index t = ![0, 0] ∧ win0_7.index t = ![0, 0] ∧ win0_8.index t = ![0, 0] ∧ win0_9.index t = ![0, 0] :=
  (by decide +kernel : ∀ t : Fin grid0.N, win0_1.index t = ![t.val, 0] ∧ win0_2.index t = ![t.val, 0] ∧ win0_3.index t = ![t.val, 0] ∧ win0_4.index t = ![t.val, 0] ∧
    win0_10.index t = ![t.val, 0] ∧ win0_5.index t = ![0, 0] ∧ win0_6.index t = ![0, 0] ∧ win0_7.index t = ![0, 0] ∧ win0_8.index t = ![0, 0] ∧ win0_9.index t = ![0, 0]) t

theorem pt_lt (t : Fin cfg0.N) : t.val < 16 := Nat.lt_of_lt_of_eq t.isLt N_0

/-- Row `i` of point `t`'s tile. -/
abbrev rowOf (t : Fin cfg0.N) (i : Fin 512) : Fin 8192 := ⟨t.val * 512 + i.val, by have := pt_lt t; omega⟩

variable (t : Fin cfg0.N)

theorem blk1 (i k : Fin 512) : iblk m c 1 t (ix2 i k) = a1 m c (ix2 (rowOf t i) k) := by
  show V m c main_arg1 _ = _
  rw [V_main_arg1]
  blk_ext [(idx t).1]
theorem blk2 (i k : Fin 512) : iblk m c 2 t (ix2 i k) = a2 m c (ix2 (rowOf t i) k) := by
  show V m c main_arg2 _ = _
  rw [V_main_arg2]
  blk_ext [(idx t).2.1]
theorem blk3 (i k : Fin 512) : iblk m c 3 t (ix2 i k) = a3 m c (ix2 (rowOf t i) k) := by
  show V m c main_arg3 _ = _
  rw [V_main_arg3]
  blk_ext [(idx t).2.2.1]
theorem blk4 (i k : Fin 512) : iblk m c 4 t (ix2 i k) = a4 m c (ix2 (rowOf t i) k) := by
  show V m c main_arg4 _ = _
  rw [V_main_arg4]
  blk_ext [(idx t).2.2.2.1]
theorem blk10 (i : Fin 512) (k : Fin 1024) : iblk m c 10 t (ix2 i k) = a10 m c (ix2 (rowOf t i) k) := by
  show V m c main_arg10 _ = _
  rw [V_main_arg10]
  blk_ext [(idx t).2.2.2.2.1]
theorem blk6 (i k : Fin 1024) : iblk m c 6 t (ix2 i k) = a6 m c (ix2 i k) := by
  show V m c main_arg6 _ = _
  rw [V_main_arg6]
  blk_ext [(idx t).2.2.2.2.2.2.1]
theorem blk8 (k : Fin 1024) : iblk m c 8 t (ix2 0 k) = a8 m c (ix2 0 k) := by
  show V m c main_arg8 _ = _
  rw [V_main_arg8]
  blk_ext [(idx t).2.2.2.2.2.2.2.2.1]
theorem blk5 (k : Fin 128) : iblk m c 5 t (ix2 0 k) = a5 m c (ix1 k) := by
  rw [← V_v0]
  show V m c main_v0 _ = _
  blk_ext [(idx t).2.2.2.2.2.1]
theorem blk7 (k : Fin 1024) : iblk m c 7 t (ix2 0 k) = a7 m c (ix1 k) := by
  rw [← V_v1]
  show V m c main_v1 _ = _
  blk_ext [(idx t).2.2.2.2.2.2.2.1]
theorem blk9 (k : Fin 1024) : iblk m c 9 t (ix2 0 k) = a9 m c (ix1 k) := by
  rw [← V_v2]
  show V m c main_v2 _ = _
  blk_ext [(idx t).2.2.2.2.2.2.2.2.2]

theorem ld_lo512 (x : Vec Ideal S512x512 .f32) (i : Fin 256) (k : Fin 512) :
    View.ld (Val := Elt Ideal) (e' := .f32) x (Rect.unit ![0, 0] ![256, 512] inb_S512x512_S256x512_0_0) (ix2 i k) = x (ix2 ⟨i.val, by omega⟩ k) := by
  refine congrArg x (funext fun a => Fin.ext ?_)
  match a with
  | ⟨0, _⟩ => show 0 + 1 * i.val = i.val; omega
  | ⟨1, _⟩ => show 0 + 1 * k.val = k.val; omega
theorem ld_hi512 (x : Vec Ideal S512x512 .f32) (i : Fin 256) (k : Fin 512) :
    View.ld (Val := Elt Ideal) (e' := .f32) x (Rect.unit ![256, 0] ![256, 512] inb_S512x512_S256x512_256_0) (ix2 i k) = x (ix2 ⟨256 + i.val, by omega⟩ k) := by
  refine congrArg x (funext fun a => Fin.ext ?_)
  match a with
  | ⟨0, _⟩ => show 256 + 1 * i.val = 256 + i.val; omega
  | ⟨1, _⟩ => show 0 + 1 * k.val = k.val; omega
theorem ld_lo1024 (x : Vec Ideal S512x1024 .f32) (i : Fin 256) (k : Fin 1024) :
    View.ld (Val := Elt Ideal) (e' := .f32) x (Rect.unit ![0, 0] ![256, 1024] inb_S512x1024_S256x1024_0_0) (ix2 i k) = x (ix2 ⟨i.val, by omega⟩ k) := by
  refine congrArg x (funext fun a => Fin.ext ?_)
  match a with
  | ⟨0, _⟩ => show 0 + 1 * i.val = i.val; omega
  | ⟨1, _⟩ => show 0 + 1 * k.val = k.val; omega
theorem ld_hi1024 (x : Vec Ideal S512x1024 .f32) (i : Fin 256) (k : Fin 1024) :
    View.ld (Val := Elt Ideal) (e' := .f32) x (Rect.unit ![256, 0] ![256, 1024] inb_S512x1024_S256x1024_256_0) (ix2 i k) = x (ix2 ⟨256 + i.val, by omega⟩ k) := by
  refine congrArg x (funext fun a => Fin.ext ?_)
  match a with
  | ⟨0, _⟩ => show 256 + 1 * i.val = 256 + i.val; omega
  | ⟨1, _⟩ => show 0 + 1 * k.val = k.val; omega

theorem lo_row (i : Fin 256) : (TailPoint.lo m c t).row i = krow m c (rowOf t ⟨i.val, by omega⟩) := by
  unfold krow TailPay.In.row TailPoint.lo loOf
  simp only [← blk1 m c t, ← blk2 m c t, ← blk3 m c t, ← blk4 m c t, ← blk5 m c t, ← blk6 m c t, ← blk7 m c t, ← blk8 m c t, ← blk9 m c t, ← blk10 m c t]
  congr 1 <;> funext k
  all_goals first | exact ld_lo512 _ _ _ | exact ld_lo1024 _ _ _

theorem hi_row (i : Fin 256) : (TailPoint.hi m c t).row i = krow m c (rowOf t ⟨256 + i.val, by omega⟩) := by
  unfold krow TailPay.In.row TailPoint.hi hiOf
  simp only [← blk1 m c t, ← blk2 m c t, ← blk3 m c t, ← blk4 m c t, ← blk5 m c t, ← blk6 m c t, ← blk7 m c t, ← blk8 m c t, ← blk9 m c t, ← blk10 m c t]
  congr 1 <;> funext k
  all_goals first | exact ld_hi512 _ _ _ | exact ld_hi1024 _ _ _

/-- The rows of all tiles, half by half, are all rows. -/
theorem sum_rows (g : Fin 8192 → EReal) :
    ∑ t : Fin cfg0.N, ((∑ i : Fin 256, g (rowOf t ⟨i.val, by omega⟩)) + ∑ i : Fin 256, g (rowOf t ⟨256 + i.val, by omega⟩)) = ∑ i, g i := by
  have h (t : Fin cfg0.N) : ((∑ i : Fin 256, g (rowOf t ⟨i.val, by omega⟩)) + ∑ i : Fin 256, g (rowOf t ⟨256 + i.val, by omega⟩)) = ∑ i : Fin 512, g (rowOf t i) :=
    (Fin.sum_univ_add (a := 256) (b := 256) fun i => g (rowOf t i)).symm
  rw [Finset.sum_congr rfl fun t _ => h t]
  exact Fin.sum_mul_add_fin 16 512 g

/-- What an accumulator holds after the last point, from what each point adds to it. -/
theorem acc_last {ι : Type} (f : (n : Nat) → n < cfg0.N → ι → EReal) (z : ι → EReal) (a b : Fin cfg0.N → ι → EReal)
    (h : ∀ t : Fin cfg0.N, (t.val % 16 = 0 → f t.val t.isLt = fun j => z j + a t j + b t j) ∧
      (¬ t.val % 16 = 0 → f t.val t.isLt = fun j => f (t.val - 1) (by omega) j + a t j + b t j))
    (j : ι) (hz : z j = 0) (g : Fin 8192 → EReal)
    (ha : ∀ t, a t j = ∑ i : Fin 256, g (rowOf t ⟨i.val, by omega⟩)) (hb : ∀ t, b t j = ∑ i : Fin 256, g (rowOf t ⟨256 + i.val, by omega⟩)) :
    f t0_15.val t0_15.isLt j = ∑ i, g i := by
  rw [Pipeline.eq_sum_fin_of_reset_step_apply_last f 16 z (fun t j => a t j + b t j)
    (fun t ht i => by rw [(h t).1 ht]; exact add_assoc _ _ _) (fun t ht i => by rw [(h t).2 ht]; exact add_assoc _ _ _) (by decide +kernel) t0_15 rfl j, hz, zero_add]
  simp only [ha, hb]
  exact sum_rows g

theorem idxOut (t : Fin cfg0.N) : win0_11.index t = ![t.val, 0] ∧ win0_12.index t = ![t.val, 0] ∧ win0_13.index t = ![t.val, 0] ∧ win0_14.index t = ![t.val, 0] ∧
    win0_15.index t = ![t.val, 0] :=
  (by decide +kernel : ∀ t : Fin grid0.N, win0_11.index t = ![t.val, 0] ∧ win0_12.index t = ![t.val, 0] ∧ win0_13.index t = ![t.val, 0] ∧ win0_14.index t = ![t.val, 0] ∧
    win0_15.index t = ![t.val, 0]) t

theorem final11 : (dats m 0 c).arrAt 11 cfg0.N = a10 m c := by
  refine (dats m 0 c).arrAt_eq_of_covers 11 _ (by decide +kernel) fun t hf y => ?_
  blk_simp
  rw [after0_11]
  idx_vars y
  refine (left11 m c t y0 y1).trans ((blk10 m c t y0 y1).trans ?_)
  blk_ext [(idxOut t).1]

theorem final12 : (dats m 0 c).arrAt 12 cfg0.N = (fun j => (krow m c (j 0)).dO (j 1) : Vec Ideal S8192x512 .f32) := by
  refine (dats m 0 c).arrAt_eq_of_covers 12 _ (by decide +kernel) fun t hf y => ?_
  blk_simp
  rw [after0_12]
  idx_vars y
  refine (left12 m c t (fun i k => (krow m c (rowOf t i)).dO k) (fun i k => by rw [TailPay.In.v289_at, lo_row])
    (fun i k => by rw [TailPay.In.v289_at, hi_row]) y0 y1).trans ?_
  refine congrArg₂ (fun i k => (krow m c i).dO k) ?_ ?_
  · apply Fin.ext; blk_simp [(idxOut t).2.1]
  · apply Fin.ext; blk_simp [(idxOut t).2.1]

theorem final13 : (dats m 0 c).arrAt 13 cfg0.N = (fun j => (krow m c (j 0)).dz (j 1) : Vec Ideal S8192x512 .f32) := by
  refine (dats m 0 c).arrAt_eq_of_covers 13 _ (by decide +kernel) fun t hf y => ?_
  blk_simp
  rw [after0_13]
  idx_vars y
  refine (left13 m c t (fun i k => (krow m c (rowOf t i)).dz k) (fun i k => by rw [TailPay.In.v300_at, lo_row])
    (fun i k => by rw [TailPay.In.v300_at, hi_row]) y0 y1).trans ?_
  refine congrArg₂ (fun i k => (krow m c i).dz k) ?_ ?_
  · apply Fin.ext; blk_simp [(idxOut t).2.2.1]
  · apply Fin.ext; blk_simp [(idxOut t).2.2.1]

theorem final14 : (dats m 0 c).arrAt 14 cfg0.N = (fun j => (krow m c (j 0)).dg (j 1) : Vec Ideal S8192x512 .f32) := by
  refine (dats m 0 c).arrAt_eq_of_covers 14 _ (by decide +kernel) fun t hf y => ?_
  blk_simp
  rw [after0_14]
  idx_vars y
  refine (left14 m c t (fun i k => (krow m c (rowOf t i)).dg k) (fun i k => by rw [TailPay.In.v287_at, lo_row])
    (fun i k => by rw [TailPay.In.v287_at, hi_row]) y0 y1).trans ?_
  refine congrArg₂ (fun i k => (krow m c i).dg k) ?_ ?_
  · apply Fin.ext; blk_simp [(idxOut t).2.2.2.1]
  · apply Fin.ext; blk_simp [(idxOut t).2.2.2.1]

theorem final15 : (dats m 0 c).arrAt 15 cfg0.N = (fun j => (krow m c (j 0)).dzg (j 1) : Vec Ideal S8192x512 .f32) := by
  refine (dats m 0 c).arrAt_eq_of_covers 15 _ (by decide +kernel) fun t hf y => ?_
  blk_simp
  rw [after0_15]
  idx_vars y
  refine (left15 m c t (fun i k => (krow m c (rowOf t i)).dzg k) (fun i k => by rw [TailPay.In.v185_at, lo_row])
    (fun i k => by rw [TailPay.In.v185_at, hi_row]) y0 y1).trans ?_
  refine congrArg₂ (fun i k => (krow m c i).dzg k) ?_ ?_
  · apply Fin.ext; blk_simp [(idxOut t).2.2.2.2]
  · apply Fin.ext; blk_simp [(idxOut t).2.2.2.2]

/-- One row's part of the projection's weight gradient, both halves of the columns. -/
def dW (R : Row) (j k : Fin 1024) : EReal := if h : j.val < 512 then R.dWlo ⟨j.val, h⟩ k else R.dWhi ⟨j.val - 512, by omega⟩ k

theorem sum_dW {n : Nat} (R : Fin n → Row) (j k : Fin 1024) : ∑ i, dW (R i) j k =
    if h : j.val < 512 then ∑ i, (R i).dWlo ⟨j.val, h⟩ k else ∑ i, (R i).dWhi ⟨j.val - 512, by omega⟩ k := by
  by_cases h : j.val < 512
  · rw [dif_pos h]; exact Finset.sum_congr rfl fun i _ => dif_pos h
  · rw [dif_neg h]; exact Finset.sum_congr rfl fun i _ => dif_neg h

theorem final17 : (dats m 0 c).arrAt 17 cfg0.N = (fun j => ∑ i, dW (krow m c i) (j 0) (j 1) : Vec Ideal S1024x1024 .f32) := by
  refine (dats m 0 c).arrAt_eq_of_after_last 17 t0_15 (by decide +kernel) _ fun j => ?_
  blk_simp
  rw [after0_17]
  idx_vars j
  refine acc_last (fun n hn => (outsAt0 m c n hn).2.2.2.2.2.2.1) _ _ _ (fun t => left17 m c t) _ ?_ (fun i => dW (krow m c i) j0 j1) (fun t => ?_) (fun t => ?_)
  · unfold k0_pay3; pointwise
  · rw [TailPay.In.v172_at, ← sum_dW]; simp only [lo_row]
  · rw [TailPay.In.v172_at, ← sum_dW]; simp only [hi_row]

theorem final16 : (dats m 0 c).arrAt 16 cfg0.N = (fun j => ∑ i, ∑ h, (krow m c i).dw h (j 1) : Vec Ideal S1x128 .f32) := by
  refine (dats m 0 c).arrAt_eq_of_after_last 16 t0_15 (by decide +kernel) _ fun j => ?_
  blk_simp
  rw [after0_16]
  idx_vars j
  obtain rfl : j0 = 0 := Subsingleton.elim _ _
  refine acc_last (fun n hn => (outsAt0 m c n hn).2.2.2.2.2.1) _ _ _ (fun t => left16 m c t) _ ?_ (fun i => ∑ h, (krow m c i).dw h j1) (fun t => ?_) (fun t => ?_)
  · unfold k0_pay2; pointwise
  · rw [TailPay.In.v267_at]; simp only [lo_row]
  · rw [TailPay.In.v267_at]; simp only [hi_row]

theorem final18 : (dats m 0 c).arrAt 18 cfg0.N = (fun j => ∑ i, (krow m c i).dpw (j 1) : Vec Ideal S1x1024 .f32) := by
  refine (dats m 0 c).arrAt_eq_of_after_last 18 t0_15 (by decide +kernel) _ fun j => ?_
  blk_simp
  rw [after0_18]
  idx_vars j
  obtain rfl : j0 = 0 := Subsingleton.elim _ _
  refine acc_last (fun n hn => (outsAt0 m c n hn).2.2.2.2.2.2.2.1) _ _ _ (fun t => left18 m c t) _ ?_ (fun i => (krow m c i).dpw j1) (fun t => ?_) (fun t => ?_)
  · unfold k0_pay4; pointwise
  · rw [TailPay.In.v138_at]; simp only [lo_row]
  · rw [TailPay.In.v138_at]; simp only [hi_row]

theorem final19 : (dats m 0 c).arrAt 19 cfg0.N = (fun j => ∑ i, (krow m c i).dgate (j 1) : Vec Ideal S1x1024 .f32) := by
  refine (dats m 0 c).arrAt_eq_of_after_last 19 t0_15 (by decide +kernel) _ fun j => ?_
  blk_simp
  rw [after0_19]
  idx_vars j
  obtain rfl : j0 = 0 := Subsingleton.elim _ _
  refine acc_last (fun n hn => (outsAt0 m c n hn).2.2.2.2.2.2.2.2.1) _ _ _ (fun t => left19 m c t) _ ?_ (fun i => (krow m c i).dgate j1) (fun t => ?_) (fun t => ?_)
  · unfold k0_pay5; pointwise
  · rw [TailPay.In.v135_at]; simp only [lo_row]
  · rw [TailPay.In.v135_at]; simp only [hi_row]

theorem final20 : (dats m 0 c).arrAt 20 cfg0.N = (fun j => ∑ i, (krow m c i).dgate (j 1) : Vec Ideal S1x1024 .f32) := by
  refine (dats m 0 c).arrAt_eq_of_after_last 20 t0_15 (by decide +kernel) _ fun j => ?_
  blk_simp
  rw [after0_20]
  idx_vars j
  obtain rfl : j0 = 0 := Subsingleton.elim _ _
  refine acc_last (fun n hn => (outsAt0 m c n hn).2.2.2.2.2.2.2.2.2) _ _ _ (fun t => left20 m c t) _ ?_ (fun i => (krow m c i).dgate j1) (fun t => ?_) (fun t => ?_)
  · unfold k0_pay6; pointwise
  · rw [TailPay.In.v135_at]; simp only [lo_row]
  · rw [TailPay.In.v135_at]; simp only [hi_row]
end Cert.TailBwdIdeal.TailValue
-- ==== Proof.TailRef.lean ====
/- The reference of the tail's backward pass, read at an index: every result is the row functions of its row, the
   parameters' gradients their sums over all rows. -/
module

public import proofs.«01_k».proof.Proof.TailRow
public import proofs.«01_k».proof.Proof.Gen.TailBwdRefIdeal.Read
public import Idealize.ShloMosaic.Lib.Pointwise
public import Idealize.ShloMosaic.Lib.IdealHost

@[expose] public section

set_option maxRecDepth 16384

noncomputable section

namespace Cert.TailBwdRefIdeal.TailRef

open Cert.TailBwdRefIdeal Cert.TailBwdRefIdeal.Read Idealize.ShloMosaic Cert.Tail Cert.RowMath

/-- The arguments: the two branches' outputs and gates, the parameters, the cotangent. -/
structure Args where
  x1 : FVec Ideal S8192x512 .f32
  x2 : FVec Ideal S8192x512 .f32
  x3 : FVec Ideal S8192x512 .f32
  x4 : FVec Ideal S8192x512 .f32
  x5 : FVec Ideal S128 .f32
  x6 : FVec Ideal S1024x1024 .f32
  x7 : FVec Ideal S1024 .f32
  x8 : FVec Ideal S1x1024 .f32
  x9 : FVec Ideal S1024 .f32
  x10 : FVec Ideal S8192x1024 .f32

namespace Args

variable (A : Args)

/-- Row `i` of the arguments. -/
def row (i : Fin 8192) : Row where
  o c := A.x1 (ix2 i c)
  z c := A.x2 (ix2 i c)
  g c := A.x3 (ix2 i c)
  zg c := A.x4 (ix2 i c)
  w k := A.x5 (ix1 k)
  W c k := A.x6 (ix2 c k)
  pw k := A.x7 (ix1 k)
  gp k := A.x8 (ix2 0 k) + A.x9 (ix1 k)
  ct k := A.x10 (ix2 i k)

abbrev v3_0 := val_main_v3_0 (F := Ideal) A.x2
abbrev v4 := val_main_v4 (F := Ideal) A.x1 A.x2
abbrev v5 := val_main_v5 (F := Ideal) A.x3
abbrev v12 := val_main_v12 (F := Ideal) A.x3
abbrev v13 := val_main_v13 (F := Ideal) A.x3
abbrev v16 := val_main_v16 (F := Ideal) A.x3
abbrev v18 := val_main_v18 (F := Ideal) A.x3
abbrev v22 := val_main_v22 (F := Ideal) A.x3 A.x5
abbrev v23_0 := val_main_v23_0 (F := Ideal) A.x4
abbrev v25 := val_main_v25 (F := Ideal) A.x1 A.x2 A.x3 A.x4 A.x5
abbrev v26 := val_main_v26 (F := Ideal) A.x1 A.x2 A.x3 A.x4 A.x5 A.x6
abbrev v27 := val_main_v27 (F := Ideal) A.x8 A.x9
abbrev v34 := val_main_v34 (F := Ideal) A.x1 A.x2 A.x3 A.x4 A.x5 A.x6
abbrev v35 := val_main_v35 (F := Ideal) A.x1 A.x2 A.x3 A.x4 A.x5 A.x6
abbrev v38 := val_main_v38 (F := Ideal) A.x1 A.x2 A.x3 A.x4 A.x5 A.x6
abbrev v40 := val_main_v40 (F := Ideal) A.x1 A.x2 A.x3 A.x4 A.x5 A.x6
abbrev v46 := val_main_v46 (F := Ideal) A.x10
abbrev v48 := val_main_v48 (F := Ideal) A.x8 A.x9 A.x10
abbrev v51 := val_main_v51 (F := Ideal) A.x1 A.x2 A.x3 A.x4 A.x5 A.x6 A.x7 A.x10
abbrev v54 := val_main_v54 (F := Ideal) A.x1 A.x2 A.x3 A.x4 A.x5 A.x6 A.x8 A.x9 A.x10
abbrev v56 := val_main_v56 (F := Ideal) A.x7 A.x8 A.x9 A.x10
abbrev v65 := val_main_v65 (F := Ideal) A.x1 A.x2 A.x3 A.x4 A.x5 A.x6 A.x7 A.x8 A.x9 A.x10
abbrev v70 := val_main_v70 (F := Ideal) A.x1 A.x2 A.x3 A.x4 A.x5 A.x6 A.x7 A.x8 A.x9 A.x10
abbrev v72 := val_main_v72 (F := Ideal) A.x1 A.x2 A.x3 A.x4 A.x5 A.x6 A.x7 A.x8 A.x9 A.x10
abbrev v74 := val_main_v74 (F := Ideal) A.x1 A.x2 A.x3 A.x4 A.x5 A.x6 A.x7 A.x8 A.x9 A.x10
abbrev v75 := val_main_v75 (F := Ideal) A.x1 A.x2 A.x3 A.x4 A.x5 A.x6 A.x7 A.x8 A.x9 A.x10
abbrev v77 := val_main_v77 (F := Ideal) A.x1 A.x2 A.x3 A.x4 A.x5 A.x6 A.x7 A.x8 A.x9 A.x10
abbrev v78 := val_main_v78 (F := Ideal) A.x1 A.x2 A.x3 A.x4 A.x5 A.x6 A.x7 A.x8 A.x9 A.x10
abbrev v79 := val_main_v79 (F := Ideal) A.x1 A.x2 A.x3 A.x4 A.x5 A.x6 A.x7 A.x8 A.x9 A.x10
abbrev v81 := val_main_v81 (F := Ideal) A.x1 A.x2 A.x3 A.x4 A.x5 A.x6 A.x7 A.x8 A.x9 A.x10
abbrev v84 := val_main_v84 (F := Ideal) A.x1 A.x2 A.x3 A.x4 A.x5 A.x6 A.x7 A.x8 A.x9 A.x10
abbrev v85 := val_main_v85 (F := Ideal) A.x1 A.x2 A.x3 A.x4 A.x5 A.x6 A.x7 A.x8 A.x9 A.x10
abbrev v86 := val_main_v86 (F := Ideal) A.x1 A.x2 A.x3 A.x4 A.x5 A.x6 A.x7 A.x8 A.x9 A.x10
abbrev v95 := val_main_v95 (F := Ideal) A.x1 A.x2 A.x3 A.x4 A.x5 A.x6 A.x7 A.x8 A.x9 A.x10
abbrev v101 := val_main_v101 (F := Ideal) A.x1 A.x2 A.x3 A.x4 A.x5 A.x6 A.x7 A.x8 A.x9 A.x10
abbrev v103 := val_main_v103 (F := Ideal) A.x1 A.x2 A.x3 A.x4 A.x5 A.x6 A.x7 A.x8 A.x9 A.x10
abbrev v104 := val_main_v104 (F := Ideal) A.x1 A.x2 A.x3 A.x4 A.x5 A.x6 A.x7 A.x8 A.x9 A.x10

theorem v4_at (i : Fin 8192) (c : Fin 512) : A.v4 (ix2 i c) = (A.row i).ym c := by
  unfold v4 val_main_v4 val_main_v3_0 val_main_v3_2 val_main_call0_v4 val_main_call0_v3 val_main_call0_v2 val_main_call0_v1 val_main_call0_v0
  pointwise [val_main_call0_cst, val_main_call0_cst_0]
  rfl

theorem v3_0_at (i : Fin 8192) (c : Fin 512) : A.v3_0 (ix2 i c) = si ((A.row i).z c) := by
  unfold v3_0 val_main_v3_0 val_main_v3_2 val_main_call0_v4 val_main_call0_v3 val_main_call0_v2 val_main_call0_v1 val_main_call0_v0
  pointwise [val_main_call0_cst, val_main_call0_cst_0]
  rfl

theorem v23_0_at (i : Fin 8192) (c : Fin 512) : A.v23_0 (ix2 i c) = si ((A.row i).zg c) := by
  unfold v23_0 val_main_v23_0 val_main_v23_2 val_main_call1_v4 val_main_call1_v3 val_main_call1_v2 val_main_call1_v1 val_main_call1_v0
  pointwise [val_main_call1_cst, val_main_call1_cst_0]
  rfl

theorem v5_at (i : Fin 8192) (h : Fin 4) (k : Fin 128) : A.v5 (ix3 i h k) = (A.row i).head h k := by
  unfold v5 val_main_v5
  pointwise
  exact congrArg (fun c => A.x3 (ix2 i c)) (Fin.ext (by show h.val * 128 + k.val = 128 * h.val + k.val; omega))

theorem v12_at (i : Fin 8192) (h : Fin 4) (z : Fin 1) : A.v12 (ix3 i h z) = ms n128 ((A.row i).head h) := by
  unfold v12 val_main_v12 val_main_v10 val_main_v9 val_main_v8 val_main_v7 val_main_v6 val_main_v11
  pointwise [val_main_cst, val_main_cst_0, val_main_cst_1, v5_at]
  rfl

theorem v13_at (i : Fin 8192) (h : Fin 4) (z : Fin 1) : A.v13 (ix3 i h z) = rs n128 ((A.row i).head h) := by
  unfold v13 val_main_v13
  pointwise [v12_at]
  rfl

theorem v16_at (i : Fin 8192) (h : Fin 4) (z : Fin 1) :
    A.v16 (ix3 i h z) = negHalf * Ideal.div (rs n128 ((A.row i).head h)) (ms n128 ((A.row i).head h)) := by
  unfold v16 val_main_v16 val_main_v15 val_main_v14
  pointwise [val_main_cst_2, v12_at, v13_at]
  rfl

theorem v18_at (i : Fin 8192) (h : Fin 4) (k : Fin 128) : A.v18 (ix3 i h k) = nrm n128 ((A.row i).head h) k := by
  unfold v18 val_main_v18 val_main_v17
  pointwise [v5_at, v13_at]
  rfl

theorem v22_at (i : Fin 8192) (c : Fin 512) : A.v22 (ix2 i c) = (A.row i).part c := by
  unfold v22 val_main_v22 val_main_v21 val_main_v20 val_main_v19 val_main_v0
  pointwise [v18_at]
  rfl

theorem v25_at (i : Fin 8192) (c : Fin 1024) :
    A.v25 (ix2 i c) = if h : c.val < 512 then (A.row i).ym ⟨c.val, h⟩ else (A.row i).yg ⟨c.val - 512, by omega⟩ := by
  unfold v25 val_main_v25 val_main_v24
  pointwise [v4_at, v22_at, v23_0_at]
  rfl

theorem v26_at (i : Fin 8192) (k : Fin 1024) : A.v26 (ix2 i k) = (A.row i).y k := by
  unfold v26 val_main_v26
  pointwise [v25_at]
  rfl

theorem v27_at (k : Fin 1024) (i : Fin 8192) : A.v27 (ix2 0 k) = (A.row i).gp k := by
  unfold v27 val_main_v27 val_main_v2
  pointwise
  rfl

theorem v34_at (i : Fin 8192) (z : Fin 1) : A.v34 (ix2 i z) = ms n1024 (A.row i).y := by
  unfold v34 val_main_v34 val_main_v33 val_main_v32 val_main_v31 val_main_v30 val_main_v29 val_main_v28
  pointwise [v26_at, val_main_cst_3, val_main_cst_4, val_main_cst_5]
  rfl

theorem v35_at (i : Fin 8192) (z : Fin 1) : A.v35 (ix2 i z) = rs n1024 (A.row i).y := by
  unfold v35 val_main_v35
  pointwise [v34_at]
  rfl

theorem v38_at (i : Fin 8192) (z : Fin 1) :
    A.v38 (ix2 i z) = negHalf * Ideal.div (rs n1024 (A.row i).y) (ms n1024 (A.row i).y) := by
  unfold v38 val_main_v38 val_main_v37 val_main_v36
  pointwise [v34_at, v35_at, val_main_cst_6]
  rfl

theorem v40_at (i : Fin 8192) (k : Fin 1024) : A.v40 (ix2 i k) = nrm n1024 (A.row i).y k := by
  unfold v40 val_main_v40 val_main_v39
  pointwise [v26_at, v35_at]
  rfl

theorem v46_eq : A.v46 = A.x10 := by
  funext i
  idx_vars i
  unfold v46 val_main_v46
  pointwise

theorem v48_at (i : Fin 8192) (k : Fin 1024) : A.v48 (ix2 i k) = (A.row i).gct k := by
  unfold v48 val_main_v48 val_main_v47 val_main_v46
  pointwise [A.v27_at _ i]
  rfl

theorem v51_at (k : Fin 1024) : A.v51 (ix2 0 k) = ∑ i, (A.row i).dgate k := by
  unfold v51 val_main_v51 val_main_v50 val_main_v49 val_main_v46 val_main_v42 val_main_v41 val_main_v1
  pointwise [v40_at, val_main_cst_7, zero_add]
  rfl

theorem v54_at (k : Fin 1024) : A.v54 (ix2 0 k) = ∑ i, (A.row i).dpw k := by
  unfold v54 val_main_v54 val_main_v53 val_main_v52
  pointwise [v40_at, v48_at, val_main_cst_8, zero_add]
  rfl

theorem v56_at (i : Fin 8192) (k : Fin 1024) : A.v56 (ix2 i k) = (A.row i).gct k * (A.row i).pw k := by
  unfold v56 val_main_v56 val_main_v55 val_main_v1
  pointwise [v48_at]
  rfl

theorem v65_at (i : Fin 8192) : A.v65 (ix1 i) = through n1024 (A.row i).y fun l => (A.row i).gct l * (A.row i).pw l := by
  unfold v65 val_main_v65 val_main_v64 val_main_v63 val_main_v62 val_main_v59 val_main_v58 val_main_v57
  pointwise [v26_at, v56_at, v38_at, val_main_cst_9, val_main_cst_10, val_main_cst_11, zero_add, Finset.univ_unique, Finset.sum_const, Finset.card_singleton, one_smul]
  rfl

theorem v70_at (i : Fin 8192) (k : Fin 1024) : A.v70 (ix2 i k) = (A.row i).dy k := by
  unfold v70 val_main_v70 val_main_v69 val_main_v68 val_main_v67 val_main_v66 val_main_v61 val_main_v60
  pointwise [v26_at, v56_at, v35_at, v65_at]
  rfl

theorem v72_at (c k : Fin 1024) : A.v72 (ix2 c k) =
    if h : c.val < 512 then ∑ i, (A.row i).dWlo ⟨c.val, h⟩ k else ∑ i, (A.row i).dWhi ⟨c.val - 512, by omega⟩ k := by
  unfold v72 val_main_v72 val_main_v71
  pointwise [v70_at, v25_at]
  split_ifs
  · exact Finset.sum_congr rfl fun i _ => mul_comm _ _
  · exact Finset.sum_congr rfl fun i _ => mul_comm _ _

theorem v74_at (i : Fin 8192) (c : Fin 512) : A.v74 (ix2 i c) = (A.row i).dym c := by
  unfold v74 val_main_v74 val_main_v73
  pointwise [v70_at]
  rfl

theorem v75_at (i : Fin 8192) (c : Fin 512) : A.v75 (ix2 i c) = (A.row i).dyg c := by
  unfold v75 val_main_v75 val_main_v73
  pointwise [v70_at]
  rfl

theorem v78_at (i : Fin 8192) (c : Fin 512) : A.v78 (ix2 i c) = (A.row i).dzg c := by
  unfold v78 val_main_v78 val_main_call2_v2 val_main_call2_v1 val_main_call2_v0 val_main_v76 val_main_v23_1 val_main_call1_v7 val_main_call1_v6
    val_main_v23_2 val_main_call1_v4 val_main_call1_v3 val_main_call1_v2 val_main_call1_v1 val_main_call1_v0
  pointwise [v22_at, v75_at, val_main_call1_cst, val_main_call1_cst_0, val_main_call1_cst_1]
  rfl

theorem v103_at (i : Fin 8192) (c : Fin 512) : A.v103 (ix2 i c) = (A.row i).dO c := by
  unfold v103 val_main_v103
  pointwise [v74_at, v3_0_at]
  rfl

theorem v104_at (i : Fin 8192) (c : Fin 512) : A.v104 (ix2 i c) = (A.row i).dz c := by
  unfold v104 val_main_v104 val_main_call3_v2 val_main_call3_v1 val_main_call3_v0 val_main_v102 val_main_v3_1 val_main_call0_v7 val_main_call0_v6
    val_main_v3_2 val_main_call0_v4 val_main_call0_v3 val_main_call0_v2 val_main_call0_v1 val_main_call0_v0
  pointwise [v74_at, val_main_call0_cst, val_main_call0_cst_0, val_main_call0_cst_1]
  rfl

theorem v77_at (i : Fin 8192) (c : Fin 512) : A.v77 (ix2 i c) = (A.row i).dn c := by
  unfold v77 val_main_v77
  pointwise [v75_at, v23_0_at]
  rfl

theorem v79_at (i : Fin 8192) (h : Fin 4) (k : Fin 128) : A.v79 (ix3 i h k) = (A.row i).dn (col h k) := by
  unfold v79 val_main_v79
  pointwise [v77_at]
  exact congrArg (A.row i).dn (Fin.ext (by show h.val * 128 + k.val = 128 * h.val + k.val; omega))

theorem v81_at (k : Fin 128) : A.v81 (ix1 k) = ∑ i, ∑ h, (A.row i).dw h k := by
  unfold v81 val_main_v81 val_main_v80
  rw [Idealize.ShloMosaic.ValueIdx.hostReduceAdd_apply, hostReduceAdd_lead]
  pointwise [v18_at, v79_at, val_main_cst_12, zero_add]
  rfl

theorem v86_at (k : Fin 128) : A.v86 (ix2 0 k) = ∑ i, ∑ h, (A.row i).dw h k := by
  have h : A.v85 (ix1 k) = ∑ i, ∑ h, (A.row i).dw h k := by
    unfold v85 val_main_v85 val_main_v82
    rw [Idealize.ShloMosaic.ValueIdx.hostReduceAdd_apply, hostReduceAdd_lead]
    pointwise [v81_at, val_main_cst_13, zero_add, Finset.univ_unique, Finset.sum_const, Finset.card_singleton, one_smul]
  rw [← h]
  unfold v86 val_main_v86
  pointwise

theorem v84_at (i : Fin 8192) (h : Fin 4) (k : Fin 128) : A.v84 (ix3 i h k) = (A.row i).dn (col h k) * (A.row i).w k := by
  unfold v84 val_main_v84 val_main_v83 val_main_v19 val_main_v0
  pointwise [v79_at]
  rfl

theorem v95_at (i : Fin 8192) (h : Fin 4) :
    A.v95 (ix2 i h) = through n128 ((A.row i).head h) fun l => (A.row i).dn (col h l) * (A.row i).w l := by
  unfold v95 val_main_v95 val_main_v94 val_main_v93 val_main_v92 val_main_v89 val_main_v88 val_main_v87
  pointwise [v5_at, v84_at, v16_at, val_main_cst_14, val_main_cst_15, val_main_cst_16, zero_add, Finset.univ_unique, Finset.sum_const, Finset.card_singleton, one_smul]
  rfl

theorem v101_at (i : Fin 8192) (c : Fin 512) : A.v101 (ix2 i c) = (A.row i).dg c := by
  unfold v101 val_main_v101 val_main_v100 val_main_v99 val_main_v98 val_main_v97 val_main_v96 val_main_v91 val_main_v90
  pointwise [v5_at, v84_at, v13_at, v95_at]
  rfl

end Args

end Cert.TailBwdRefIdeal.TailRef

end
-- ==== Proof.TailAlg.lean ====
module
public import proofs.«01_k».proof.Defs
public import proofs.«01_k».proof.Proof.TailValue
public import proofs.«01_k».proof.Proof.TailRef
public import proofs.«01_k».proof.Proof.Gen.TailBwdRefIdeal.Run
/-! The tail's backward pass and the derivative of the tail leave the same ten arrays, whatever the arguments hold. -/

@[expose] public section

set_option maxRecDepth 16384

noncomputable section

namespace Cert.TailBwdIdeal.TailAlg

open Idealize.ShloMosaic Idealize.ShloMosaic.TcCoe Idealize.SL.Sem Cert.Tail TailValue Cert.TailBwdIdeal

/-- The reference's arguments. -/
def args (m' : (ℓ : Loc Cert.TailBwdRefIdeal.nD Cert.TailBwdRefIdeal.τ Cert.TailBwdRefIdeal.sig) → Buf (Elt Ideal) ℓ)
    (c : Dev Cert.TailBwdRefIdeal.nD) : Cert.TailBwdRefIdeal.TailRef.Args where
  x1 := m' ((c.tc : Thread _ _).loc Cert.TailBwdRefIdeal.main_arg1)
  x2 := m' ((c.tc : Thread _ _).loc Cert.TailBwdRefIdeal.main_arg2)
  x3 := m' ((c.tc : Thread _ _).loc Cert.TailBwdRefIdeal.main_arg3)
  x4 := m' ((c.tc : Thread _ _).loc Cert.TailBwdRefIdeal.main_arg4)
  x5 := m' ((c.tc : Thread _ _).loc Cert.TailBwdRefIdeal.main_arg5)
  x6 := m' ((c.tc : Thread _ _).loc Cert.TailBwdRefIdeal.main_arg6)
  x7 := m' ((c.tc : Thread _ _).loc Cert.TailBwdRefIdeal.main_arg7)
  x8 := m' ((c.tc : Thread _ _).loc Cert.TailBwdRefIdeal.main_arg8)
  x9 := m' ((c.tc : Thread _ _).loc Cert.TailBwdRefIdeal.main_arg9)
  x10 := m' ((c.tc : Thread _ _).loc Cert.TailBwdRefIdeal.main_arg10)

theorem algebraic : Cert.algebraic_TailBwdIdeal_TailBwdRefIdeal := by
  intro m ρ m' ρ' _ hag
  have hr (c : Dev Cert.TailBwdIdeal.nD) (i : Fin 8192) : (args m' c).row i = krow m c i := by
    obtain ⟨-, e1, e2, e3, e4, e5, e6, e7, e8, e9, e10⟩ := hag c
    unfold Cert.TailBwdRefIdeal.TailRef.Args.row krow args
    rw [e1, e2, e3, e4, e5, e6, e7, e8, e9, e10]
  let row (f : Row → Fin 512 → EReal) (c : Dev Cert.TailBwdIdeal.nD) : Vec Ideal S8192x512 .f32 := fun j => f (krow m c (j 0)) (j 1)
  let total (f : Row → Fin 1024 → EReal) (c : Dev Cert.TailBwdIdeal.nD) : Vec Ideal S1x1024 .f32 := fun j => ∑ i, f (krow m c i) (j 1)
  let norm (c : Dev Cert.TailBwdIdeal.nD) : Vec Ideal S1x128 .f32 := fun j => ∑ i, ∑ h, (krow m c i).dw h (j 1)
  let proj (c : Dev Cert.TailBwdIdeal.nD) : Vec Ideal S1024x1024 .f32 := fun j => ∑ i, dW (krow m c i) (j 0) (j 1)
  refine ⟨fun c => a10 m c, row Row.dO, row Row.dz, row Row.dg, row Row.dzg, norm, proj, total Row.dpw, total Row.dgate, total Row.dgate,
    (θ_run _ _ _).mono (fun r h c => ?_) (Cert.TailBwdIdeal.Value.run_blocks (F := Ideal) m ρ),
    (θ_run _ _ _).mono (fun r h c => ?_) (Cert.TailBwdRefIdeal.Value.run (F := Ideal) m' ρ')⟩
  · obtain ⟨h0, h1, h2, h3, h4, h5, h6, h7, h8, h9, hk⟩ := h c
    exact ⟨h0.trans (final11 m c), h1.trans (final12 m c), h2.trans (final13 m c), h3.trans (final14 m c), h4.trans (final15 m c),
      h5.trans (final16 m c), h6.trans (final17 m c), h7.trans (final18 m c), h8.trans (final19 m c), h9.trans (final20 m c), hk⟩
  · obtain ⟨h0, h1, h2, h3, h4, h5, h6, h7, h8, h9, hk⟩ := h c
    refine ⟨h0.trans ?_, h1.trans ((Cert.TailBwdRefIdeal.Read.val_main_v103_eq _ _).trans ?_), h2.trans ((Cert.TailBwdRefIdeal.Read.val_main_v104_eq _ _).trans ?_),
      h3.trans ((Cert.TailBwdRefIdeal.Read.val_main_v101_eq _ _).trans ?_), h4.trans ((Cert.TailBwdRefIdeal.Read.val_main_v78_eq _ _).trans ?_),
      h5.trans ((Cert.TailBwdRefIdeal.Read.val_main_v86_eq _ _).trans ?_), h6.trans ((Cert.TailBwdRefIdeal.Read.val_main_v72_eq _ _).trans ?_),
      h7.trans ((Cert.TailBwdRefIdeal.Read.val_main_v54_eq _ _).trans ?_), h8.trans ((Cert.TailBwdRefIdeal.Read.val_main_v51_eq _ _).trans ?_),
      h9.trans ((Cert.TailBwdRefIdeal.Read.val_main_v51_eq _ _).trans ?_), hk⟩
    · exact (hag c).2.2.2.2.2.2.2.2.2.2
    · funext j; idx_vars j; exact ((args m' c).v103_at j0 j1).trans (by rw [hr]; rfl)
    · funext j; idx_vars j; exact ((args m' c).v104_at j0 j1).trans (by rw [hr]; rfl)
    · funext j; idx_vars j; exact ((args m' c).v101_at j0 j1).trans (by rw [hr]; rfl)
    · funext j; idx_vars j; exact ((args m' c).v78_at j0 j1).trans (by rw [hr]; rfl)
    · funext j; idx_vars j; obtain rfl : j0 = 0 := Subsingleton.elim _ _
      exact ((args m' c).v86_at j1).trans (by simp only [hr]; rfl)
    · funext j; idx_vars j; exact ((args m' c).v72_at j0 j1).trans (by rw [← sum_dW]; simp only [hr]; rfl)
    · funext j; idx_vars j; obtain rfl : j0 = 0 := Subsingleton.elim _ _
      exact ((args m' c).v54_at j1).trans (by simp only [hr]; rfl)
    · funext j; idx_vars j; obtain rfl : j0 = 0 := Subsingleton.elim _ _
      exact ((args m' c).v51_at j1).trans (by simp only [hr]; rfl)
    · funext j; idx_vars j; obtain rfl : j0 = 0 := Subsingleton.elim _ _
      exact ((args m' c).v51_at j1).trans (by simp only [hr]; rfl)

end Cert.TailBwdIdeal.TailAlg

end
-- ==== Proof.FlashOff.lean ====
/- Where the loads and stores of the attention backward's loops lie: the offsets the kernel computes, in closed form. -/
module

public import proofs.«01_k».proof.Proof.Gen.FlashBwdIdeal.Skeleton
public import Idealize.ShloMosaic.Lib.Exec

@[expose] public section

set_option maxRecDepth 16384

namespace Cert.FlashBwdIdeal.Flash

open Idealize.ShloMosaic Idealize.ShloMosaic.TcCoe Idealize.ShloMosaic.Tactic

/-- Where row block `n` (taken round the sixteen) begins. -/
def blk (n : ℕ) : ℕ := 512 * (n % 16)

theorem blk_le (n : ℕ) : blk n + 512 ≤ 8192 := by unfold blk; omega

/-- The row block that trip `k` of the loop of four steps takes at its step `u`. -/
abbrev row4 (i : grid0.Coords) (k u : ℕ) : ℕ := (i 1).val + 1 + 4 * k + u

theorem off7_eq : ∀ (i : grid0.Coords) (k : Fin (k0_t2_loop i).trips) (u : Fin 4),
    k0_off7 i k (BitVec.ofNat 32 u.val) = ![blk (row4 i k.val u.val), 0] := by decide +kernel
theorem off8_eq : ∀ (i : grid0.Coords) (k : Fin (k0_t2_loop i).trips) (u : Fin 4),
    k0_off8 i k (BitVec.ofNat 32 u.val) = ![blk (row4 i k.val u.val), 0] := by decide +kernel
theorem off9_eq : ∀ (i : grid0.Coords) (k : Fin (k0_t2_loop i).trips) (u : Fin 4),
    k0_off9 i k (BitVec.ofNat 32 u.val) = ![0, 0, blk (row4 i k.val u.val)] := by decide +kernel
theorem off10_eq : ∀ (i : grid0.Coords) (k : Fin (k0_t2_loop i).trips) (u : Fin 4),
    k0_off10 i k (BitVec.ofNat 32 u.val) = ![0, blk (row4 i k.val u.val)] := by decide +kernel

theorem trips1 : k0_t1_loop.trips = 16 := by decide +kernel
theorem trips2 : ∀ i : grid0.Coords, (k0_t2_loop i).trips = (15 - (i 1).val) / 4 := by decide +kernel
theorem trips3 : ∀ i : grid0.Coords, (k0_t3_loop i).trips = 0 := by decide +kernel
theorem trips4 : ∀ i : grid0.Coords, (k0_t4_loop i).trips = (15 - (i 1).val) % 4 := by decide +kernel
theorem trips5 : ∀ i : grid0.Coords, (k0_t5_loop i).trips = 0 := by decide +kernel

theorem off15_eq : ∀ (i : grid0.Coords) (k : Fin (k0_t4_loop i).trips),
    k0_off15 i k = ![blk (15 - k.val), 0] := by decide +kernel
theorem off16_eq : ∀ (i : grid0.Coords) (k : Fin (k0_t4_loop i).trips),
    k0_off16 i k = ![blk (15 - k.val), 0] := by decide +kernel
theorem off17_eq : ∀ (i : grid0.Coords) (k : Fin (k0_t4_loop i).trips),
    k0_off17 i k = ![0, 0, blk (15 - k.val)] := by decide +kernel
theorem off18_eq : ∀ (i : grid0.Coords) (k : Fin (k0_t4_loop i).trips),
    k0_off18 i k = ![0, blk (15 - k.val)] := by decide +kernel

theorem off3_eq : ∀ i : grid0.Coords, k0_off3 i = ![blk (i 1).val, 0] := by decide +kernel
theorem off4_eq : ∀ i : grid0.Coords, k0_off4 i = ![blk (i 1).val, 0] := by decide +kernel
theorem off5_eq : ∀ i : grid0.Coords, k0_off5 i = ![0, 0, blk (i 1).val] := by decide +kernel
theorem off6_eq : ∀ i : grid0.Coords, k0_off6 i = ![0, blk (i 1).val] := by decide +kernel
theorem off1_eq : ∀ k : Fin k0_t1_loop.trips, k0_off1 k = ![blk k.val, 0] := by decide +kernel
theorem off2_eq : ∀ k : Fin k0_t1_loop.trips, k0_off2 k = ![0, blk k.val] := by decide +kernel

end Cert.FlashBwdIdeal.Flash
-- ==== Proof.FlashModel.lean ====
/- What one grid point of the attention backward computes, as a function of the blocks it reads: the state it carries is the
   gradient of the queries of the whole head and the two gradients of the point's block of keys and values. -/
module

public import proofs.«01_k».proof.Proof.FlashOff
public import Idealize.ShloMosaic.Lib.WholeRead
public import Idealize.ShloMosaic.Lib.WritesUnit

@[expose] public section

set_option maxRecDepth 16384

noncomputable section

namespace Cert.FlashBwdIdeal.Flash

open Idealize.ShloMosaic Idealize.ShloMosaic.TcCoe
open Cert.FlashBwdIdeal.Gen

/-- The part of an array that lies in the box at `off` of extents `size`. -/
def win {s : Shape} {α : Type} (off size : Fin s.rank → ℕ) (inb : ∀ a, off a + size a ≤ s.size a) (X : s.Idx → α) :
    (⟨s.rank, size⟩ : Shape).Idx → α :=
  fun y => X ((Rect.unit off size inb).toLoadRect.idx y)

/-- An array with the box at `off` overwritten by `w`. -/
def put {s : Shape} {α : Type} (off size : Fin s.rank → ℕ) (inb : ∀ a, off a + size a ≤ s.size a)
    (w : (⟨s.rank, size⟩ : Shape).Idx → α) (X : s.Idx → α) : s.Idx → α :=
  fun y => if h : ∀ a, off a ≤ (y a).val ∧ (y a).val < off a + size a then w (Rect.unitLocal (s := s) (off := off) (size := size) y h) else X y

section views

variable {sig : RefSig} {κ : Kind} {sp : Space} {s : Shape} {e : EltTy} {Val : EltTy → Type} (v : View sig κ sp s e)

theorem readAt_win {off off' size : Fin s.rank → ℕ} (inb : ∀ a, off a + size a ≤ s.size a) (h : off = off') (f : v.ty.Contents Val) :
    View.readAt Val v (Rect.unit off size inb).toLoadRect f = win off' size (fun a => h ▸ inb a) (v.read Val f) := by
  subst h; rfl

theorem read_writes_put {off off' size : Fin s.rank → ℕ} (inb : ∀ a, off a + size a ≤ s.size a) (h : off = off')
    (w : (Rect.unit off size inb).shape.Idx → Val e) (L : List (View.Piece Val s e)) (f : v.ty.Contents Val) :
    v.read Val (v.writes Val f (⟨Rect.unit off size inb, w⟩ :: L))
      = put off' size (fun a => h ▸ inb a) w (v.read Val (v.writes Val f L)) := by
  funext y; exact View.read_writes_cons_unit v f inb w L y h

theorem put_whole {α : Type} (off : Fin s.rank → ℕ) (h0 : off = fun _ => 0) (inb : ∀ a, off a + s.size a ≤ s.size a) (w X : s.Idx → α) :
    put (s := s) off s.size inb w X = w := by
  subst h0
  funext y
  have h : ∀ a, (fun _ => 0 : Fin s.rank → ℕ) a ≤ (y a).val ∧ (y a).val < (fun _ => 0 : Fin s.rank → ℕ) a + s.size a :=
    fun a => ⟨Nat.zero_le _, by simp⟩
  unfold put; rw [dif_pos h]; rfl

theorem win_whole {α : Type} (off : Fin s.rank → ℕ) (h0 : off = fun _ => 0) (inb : ∀ a, off a + s.size a ≤ s.size a) (X : s.Idx → α) :
    win (s := s) off s.size inb X = X := by
  subst h0
  funext y
  unfold win; congr 1; funext a; apply Fin.ext; simp [LoadRect.idx, Rect.unit]

/-- A store of the whole array leaves it holding what was stored. -/
theorem read_writes_all (off : Fin s.rank → ℕ) (h0 : off = fun _ => 0) (inb : ∀ a, off a + s.size a ≤ s.size a)
    (w : (Rect.unit off s.size inb).shape.Idx → Val e) (L : List (View.Piece Val s e)) (f : v.ty.Contents Val) :
    v.read Val (v.writes Val f (⟨Rect.unit off s.size inb, w⟩ :: L)) = w := by
  rw [read_writes_put v inb rfl, put_whole off h0]

/-- A load of the whole array reads what it holds. -/
theorem readAt_all (off : Fin s.rank → ℕ) (h0 : off = fun _ => 0) (inb : ∀ a, off a + s.size a ≤ s.size a) (f : v.ty.Contents Val) :
    View.readAt Val v (Rect.unit off s.size inb).toLoadRect f = v.read Val f := by
  rw [readAt_win v inb rfl, win_whole off h0]

end views

theorem zero2 : (![0, 0] : Fin 2 → ℕ) = fun _ => 0 := by funext a; fin_cases a <;> rfl

variable {F : FTy → Type} [FloatOps F] [Named F]

theorem inbA (n : ℕ) : ∀ a, (![blk n, 0] : Fin 2 → ℕ) a + (![512, 256] : Fin 2 → ℕ) a ≤ S8192x256.size a := by
  have := blk_le n; intro a; fin_cases a <;> simp [S8192x256] <;> omega
theorem inbB (n : ℕ) : ∀ a, (![blk n, 0] : Fin 2 → ℕ) a + (![512, 128] : Fin 2 → ℕ) a ≤ S8192x128.size a := by
  have := blk_le n; intro a; fin_cases a <;> simp [S8192x128] <;> omega
theorem inbC (n : ℕ) : ∀ a, (![0, 0, blk n] : Fin 3 → ℕ) a + (![1, 1, 512] : Fin 3 → ℕ) a ≤ S1x8x8192.size a := by
  have := blk_le n; intro a; fin_cases a <;> simp [S1x8x8192] <;> omega
theorem inbD (n : ℕ) : ∀ a, (![0, blk n] : Fin 2 → ℕ) a + (![1, 512] : Fin 2 → ℕ) a ≤ S8x8192.size a := by
  have := blk_le n; intro a; fin_cases a <;> simp [S8x8192] <;> omega
theorem inbE (n : ℕ) : ∀ a, (![0, blk n] : Fin 2 → ℕ) a + (![8, 512] : Fin 2 → ℕ) a ≤ S8x8192.size a := by
  have := blk_le n; intro a; fin_cases a <;> simp [S8x8192] <;> omega

/-- What every step of a grid point reads: the head's queries, its row log-sums, the row sums of `do · o` and the cotangent. -/
structure Ins (F : FTy → Type) where
  q : Vec F S8192x256 .bf16
  l : Vec F S1x8x8192 .f32
  dl : Vec F S8x8192 .f32
  ct : Vec F S8192x128 .bf16

/-- What the steps add to: the gradients of the head's queries and of the point's keys and values. -/
@[ext] structure St (F : FTy → Type) where
  dq : Vec F S8192x256 .f32
  dk : Vec F S512x256 .f32
  dv : Vec F S512x128 .f32

namespace Ins

variable (I : Ins F) (n : ℕ)

def qr : Vec F S512x256 .bf16 := win (s := S8192x256) ![blk n, 0] ![512, 256] (inbA n) I.q
def cr : Vec F S512x128 .bf16 := win (s := S8192x128) ![blk n, 0] ![512, 128] (inbB n) I.ct
def lr : Vec F S1x1x512 .f32 := win (s := S1x8x8192) ![0, 0, blk n] ![1, 1, 512] (inbC n) I.l
def dr : Vec F S1x512 .f32 := win (s := S8x8192) ![0, blk n] ![1, 512] (inbD n) I.dl

end Ins

/-- Row block `n` of the gradient of the queries. -/
def dqr (n : ℕ) (X : Vec F S8192x256 .f32) : Vec F S512x256 .f32 := win (s := S8192x256) ![blk n, 0] ![512, 256] (inbA n) X
/-- The gradient of the queries with row block `n` replaced. -/
def setdq (n : ℕ) (w : Vec F S512x256 .f32) (X : Vec F S8192x256 .f32) : Vec F S8192x256 .f32 :=
  put (s := S8192x256) ![blk n, 0] ![512, 256] (inbA n) w X

/-- One step: the queries of row block `n` against the point's keys `k` and values `v`. -/
def step (I : Ins F) (k : FVec F S512x256 .bf16) (v : FVec F S512x128 .bf16) (n : ℕ) (s : St F) : St F where
  dq := setdq n (k0_pay7 k (k0_pay4 k v (I.qr n) (I.cr n) (I.lr n) (I.dr n)) (dqr n s.dq)) s.dq
  dk := k0_pay6 k v (I.qr n) (I.cr n) (I.lr n) (I.dr n) s.dk
  dv := k0_pay5 k (I.qr n) (I.cr n) (I.lr n) s.dv

/-- The four steps of one trip, from row block `n` on. -/
def step4 (I : Ins F) (k : FVec F S512x256 .bf16) (v : FVec F S512x128 .bf16) (n : ℕ) (s : St F) : St F :=
  step I k v (n + 3) (step I k v (n + 2) (step I k v (n + 1) (step I k v (n + 0) s)))

/-- The loop of four steps after `m` trips. -/
def fours (I : Ins F) (k : FVec F S512x256 .bf16) (v : FVec F S512x128 .bf16) (j : ℕ) (s : St F) : ℕ → St F
  | 0 => s
  | m + 1 => step4 I k v (j + 1 + 4 * m) (fours I k v j s m)

/-- The loop of single steps after `m` trips, from the last row block down. -/
def ones (I : Ins F) (k : FVec F S512x256 .bf16) (v : FVec F S512x128 .bf16) (s : St F) : ℕ → St F
  | 0 => s
  | m + 1 => step I k v (15 - m) (ones I k v s m)

/-- The step on the diagonal: row block `j` against the same block of keys, masked. -/
def diag (I : Ins F) (k : Vec F S512x256 .bf16) (v : Vec F S512x128 .bf16) (j : ℕ) (s : St F) : St F where
  dq := setdq j (k0_pay78 (k0_pay70 k) (k0_pay73 k (I.qr j) (I.lr j)) (k0_pay74 v (I.cr j)) (I.dr j) (dqr j s.dq)) s.dq
  dk := k0_pay77 (k0_pay72 (I.qr j)) (k0_pay73 k (I.qr j) (I.lr j)) (k0_pay74 v (I.cr j)) (I.dr j) s.dk
  dv := k0_pay76 (I.cr j) (k0_pay73 k (I.qr j) (I.lr j)) s.dv

/-- All the steps of the grid point that holds block `j` of the keys. -/
def steps (I : Ins F) (k : Vec F S512x256 .bf16) (v : Vec F S512x128 .bf16) (j : ℕ) (dq : Vec F S8192x256 .f32) : St F :=
  ones I (k0_pay70 k) (k0_pay71 v)
    (fours I (k0_pay70 k) (k0_pay71 v) j (diag I k v j ⟨dq, k0_pay68, k0_pay69⟩) ((15 - j) / 4)) ((15 - j) % 4)

/-- One trip of the loop that stages the row sums of `do · o` and the cast cotangent. -/
def stage1 (m : ℕ) (o ct : Vec F S8192x128 .f32) (x : Vec F S8x8192 .f32 × Vec F S8192x128 .bf16) : Vec F S8x8192 .f32 × Vec F S8192x128 .bf16 :=
  (put (s := S8x8192) ![0, blk m] ![8, 512] (inbE m)
      (k0_pay66 (win (s := S8192x128) ![blk m, 0] ![512, 128] (inbB m) ct) (win (s := S8192x128) ![blk m, 0] ![512, 128] (inbB m) o)) x.1,
    put (s := S8192x128) ![blk m, 0] ![512, 128] (inbB m) (k0_pay67 (win (s := S8192x128) ![blk m, 0] ![512, 128] (inbB m) ct)) x.2)

/-- The staged arrays after `m` trips. -/
def stage (o ct : Vec F S8192x128 .f32) (x : Vec F S8x8192 .f32 × Vec F S8192x128 .bf16) : ℕ → Vec F S8x8192 .f32 × Vec F S8192x128 .bf16
  | 0 => x
  | m + 1 => stage1 m o ct (stage o ct x m)

/-! The program splits a step's values over its parts in several ways; they are the same functions. -/

theorem pay13_eq (k v q l s) : k0_pay13 (F := F) (k0_pay11 s) (k0_pay12 k q v l) = k0_pay5 k q v l s := rfl
theorem pay14_eq (k v q c l d s) : k0_pay14 (F := F) (k0_pay8 q) (k0_pay10 k v q c l d) s = k0_pay6 k v q c l d s := rfl
theorem pay15_eq (k v q c l d s) : k0_pay15 (F := F) k (k0_pay10 k v q c l d) s = k0_pay7 k (k0_pay4 k v q c l d) s := rfl
theorem pay19_eq (k q c l s) : k0_pay19 (F := F) c (k0_pay17 k q l) s = k0_pay5 k q c l s := rfl
theorem pay20_eq (k v q c l d s) : k0_pay20 (F := F) v (k0_pay16 q) c (k0_pay17 k q l) (constant S512x512 .f32 0x00000000#32) d s = k0_pay6 k v q c l d s := rfl
theorem pay21_eq (k v q c l d s) : k0_pay21 (F := F) k v c (k0_pay17 k q l) (constant S512x512 .f32 0x00000000#32) d s = k0_pay7 k (k0_pay4 k v q c l d) s := rfl
theorem pay25_eq (k q c l s) : k0_pay25 (F := F) k (k0_pay22 q) c l s = k0_pay5 k q c l s := rfl
theorem pay26_eq (k v q c l d s) : k0_pay26 (F := F) k v (k0_pay22 q) c l d s = k0_pay6 k v q c l d s := rfl
theorem pay27_eq (k v q c l d s) : k0_pay27 (F := F) k v (k0_pay22 q) c l d s = k0_pay7 k (k0_pay4 k v q c l d) s := rfl
theorem pay57_eq (k q c l s) : k0_pay57 (F := F) k q c l s = k0_pay5 k q c l s := rfl
theorem pay58_eq (k v q c l d s) : k0_pay58 (F := F) k v q c l d s = k0_pay6 k v q c l d s := rfl
theorem pay79_eq (k v q c l d s) : k0_pay79 (F := F) k (k0_pay56 k v q c l d) s = k0_pay7 k (k0_pay4 k v q c l d) s := rfl

end Cert.FlashBwdIdeal.Flash

end
-- ==== Proof.FlashTrip.lean ====
module

public import proofs.«01_k».proof.Proof.FlashModel
public import Idealize.ShloMosaic.Lib.Tactic
public import Idealize.ShloMosaic.Lib.Pipeline.Kit
public import Idealize.ShloMosaic.Lib.WholeRead
public import Idealize.ShloMosaic.Lib.WritesUnit

@[expose] public section

set_option maxRecDepth 16384

noncomputable section

namespace Cert.FlashBwdIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FlashBwdIdeal.Gen

variable {F : FTy → Type} [FloatOps F] [Named F]

local notation "𝕄G" => MT nD τ sig Unit (Elt F) ℕ (UR sig nD τ) ℕ

instance (i : grid0.Coords) (k : Fin (k0_t2_loop i).trips) : ClosedOff (k0_off7 i k 0#32) := ⟨_, off7_eq i k 0⟩
instance (i : grid0.Coords) (k : Fin (k0_t2_loop i).trips) : ClosedOff (k0_off7 i k 1#32) := ⟨_, off7_eq i k 1⟩
instance (i : grid0.Coords) (k : Fin (k0_t2_loop i).trips) : ClosedOff (k0_off7 i k 2#32) := ⟨_, off7_eq i k 2⟩
instance (i : grid0.Coords) (k : Fin (k0_t2_loop i).trips) : ClosedOff (k0_off7 i k 3#32) := ⟨_, off7_eq i k 3⟩

variable (c : Dev nD) (i : grid0.Coords)
  (arg2 : Memref sig .tc .vmem S8192x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S1x8x8192 .f32) (harg5 : arg5.IsWhole) (arg6 : Memref sig .tc .vmem S8192x128 .f32) (harg6 : arg6.IsWhole) (arg7 : Memref sig .tc .vmem S8192x128 .f32) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x128 .f32) (harg10 : arg10.IsWhole) (arg11 : Memref sig .tc .vmem S8x8192 .f32) (harg11 : arg11.IsWhole) (arg12 : Memref sig .tc .vmem S8192x128 .bf16) (harg12 : arg12.IsWhole)
  (arg1 : BitVec 32) (v8 : FVec F S512x256 .bf16) (v10 : FVec F S512x128 .bf16) (v58 c4_i32 v59 : BitVec 32) (v70 : BitVec 1)

/-- The points-to of a whole memref on device `c`. -/
abbrev pts {s : Shape} {e : EltTy} (a : Memref sig .tc .vmem s e) (f : BufTy.Contents (Elt F) a.view.ty) : sProp 𝕄G :=
  (a.view.loc (c : Thread nD τ) ↦[a.view.set]{fullShare} f)

/-- What the steps read, from the contents of the four memrefs. -/
abbrev insOf (X2 : BufTy.Contents (Elt F) arg2.view.ty) (X5 : BufTy.Contents (Elt F) arg5.view.ty) (X11 : BufTy.Contents (Elt F) arg11.view.ty)
    (X12 : BufTy.Contents (Elt F) arg12.view.ty) : Ins F :=
  ⟨arg2.view.read (Elt F) X2, arg5.view.read (Elt F) X5, arg11.view.read (Elt F) X11, arg12.view.read (Elt F) X12⟩

/-- What the steps add to, from the contents of the three memrefs. -/
abbrev stOf (f8 : BufTy.Contents (Elt F) arg8.view.ty) (f9 : BufTy.Contents (Elt F) arg9.view.ty) (f10 : BufTy.Contents (Elt F) arg10.view.ty) : St F :=
  ⟨arg8.view.read (Elt F) f8, arg9.view.read (Elt F) f9, arg10.view.read (Elt F) f10⟩

omit [FloatOps F] [Named F] in
/-- Contents that read `X` are the contents that hold `X`. -/
theorem pts_unread {s : Shape} {e : EltTy} (a : Memref sig .tc .vmem s e) (h : a.IsWhole) (f : BufTy.Contents (Elt F) a.view.ty) (X : s.Idx → Elt F e)
    (hf : a.view.read (Elt F) f = X) : (pts (F := F) c a f) ⊢ pts (F := F) c a (h.unread X) := by
  rw [h.eq_unread hf]

section loads

variable {arg2 arg5 arg8 arg9 arg10 arg11 arg12}

theorem rd9 (f : BufTy.Contents (Elt F) arg9.view.ty) :
    View.readAt (Elt F) arg9.view (Rect.unit (s := S512x256) ![0, 0] ![512, 256] inb_S512x256_S512x256_0_0).toLoadRect f = arg9.view.read (Elt F) f :=
  readAt_all arg9.view _ zero2 inb_S512x256_S512x256_0_0 f
theorem rd10 (f : BufTy.Contents (Elt F) arg10.view.ty) :
    View.readAt (Elt F) arg10.view (Rect.unit (s := S512x128) ![0, 0] ![512, 128] inb_S512x128_S512x128_0_0).toLoadRect f = arg10.view.read (Elt F) f :=
  readAt_all arg10.view _ zero2 inb_S512x128_S512x128_0_0 f
theorem wr9 (f : BufTy.Contents (Elt F) arg9.view.ty) (w : S512x256.Idx → Elt F .f32) (L) :
    arg9.view.read (Elt F) (arg9.view.writes (Elt F) f (⟨Rect.unit (s := S512x256) ![0, 0] ![512, 256] inb_S512x256_S512x256_0_0, w⟩ :: L)) = w :=
  read_writes_all arg9.view _ zero2 inb_S512x256_S512x256_0_0 w L f
theorem wr10 (f : BufTy.Contents (Elt F) arg10.view.ty) (w : S512x128.Idx → Elt F .f32) (L) :
    arg10.view.read (Elt F) (arg10.view.writes (Elt F) f (⟨Rect.unit (s := S512x128) ![0, 0] ![512, 128] inb_S512x128_S512x128_0_0, w⟩ :: L)) = w :=
  read_writes_all arg10.view _ zero2 inb_S512x128_S512x128_0_0 w L f

theorem cv9 (w : S512x256.Idx → Elt F .f32) (L) :
    arg9.view.readCov (Val := Elt F) (⟨Rect.unit (s := S512x256) ![0, 0] ![512, 256] inb_S512x256_S512x256_0_0, w⟩ :: L)
      (Rect.unit (s := S512x256) ![0, 0] ![512, 256] inb_S512x256_S512x256_0_0).toLoadRect = w :=
  (rd9 _).trans (wr9 _ w L)
theorem cv10 (w : S512x128.Idx → Elt F .f32) (L) :
    arg10.view.readCov (Val := Elt F) (⟨Rect.unit (s := S512x128) ![0, 0] ![512, 128] inb_S512x128_S512x128_0_0, w⟩ :: L)
      (Rect.unit (s := S512x128) ![0, 0] ![512, 128] inb_S512x128_S512x128_0_0).toLoadRect = w :=
  (rd10 _).trans (wr10 _ w L)

end loads

section boxes

variable {arg2 arg5 arg6 arg8 arg11 arg12} {i} {off : Fin 2 → ℕ} {off3 : Fin 3 → ℕ}

theorem rd2 (n : ℕ) (h : off = ![blk n, 0]) (inb) (f : BufTy.Contents (Elt F) arg2.view.ty) :
    View.readAt (Elt F) arg2.view (Rect.unit (s := S8192x256) off ![512, 256] inb).toLoadRect f
      = win (s := S8192x256) ![blk n, 0] ![512, 256] (inbA n) (arg2.view.read (Elt F) f) := readAt_win arg2.view inb h f
theorem rd12 (n : ℕ) (h : off = ![blk n, 0]) (inb) (f : BufTy.Contents (Elt F) arg12.view.ty) :
    View.readAt (Elt F) arg12.view (Rect.unit (s := S8192x128) off ![512, 128] inb).toLoadRect f
      = win (s := S8192x128) ![blk n, 0] ![512, 128] (inbB n) (arg12.view.read (Elt F) f) := readAt_win arg12.view inb h f
theorem rd5 (n : ℕ) (h : off3 = ![0, 0, blk n]) (inb) (f : BufTy.Contents (Elt F) arg5.view.ty) :
    View.readAt (Elt F) arg5.view (Rect.unit (s := S1x8x8192) off3 ![1, 1, 512] inb).toLoadRect f
      = win (s := S1x8x8192) ![0, 0, blk n] ![1, 1, 512] (inbC n) (arg5.view.read (Elt F) f) := readAt_win arg5.view inb h f
theorem rd11 (n : ℕ) (h : off = ![0, blk n]) (inb) (f : BufTy.Contents (Elt F) arg11.view.ty) :
    View.readAt (Elt F) arg11.view (Rect.unit (s := S8x8192) off ![1, 512] inb).toLoadRect f
      = win (s := S8x8192) ![0, blk n] ![1, 512] (inbD n) (arg11.view.read (Elt F) f) := readAt_win arg11.view inb h f
theorem rd8 (n : ℕ) (h : off = ![blk n, 0]) (inb) (f : BufTy.Contents (Elt F) arg8.view.ty) :
    View.readAt (Elt F) arg8.view (Rect.unit (s := S8192x256) off ![512, 256] inb).toLoadRect f
      = dqr n (arg8.view.read (Elt F) f) := readAt_win arg8.view inb h f
theorem wr8 (n : ℕ) (h : off = ![blk n, 0]) (inb) (w : S512x256.Idx → Elt F .f32) (L) (f : BufTy.Contents (Elt F) arg8.view.ty) :
    arg8.view.read (Elt F) (arg8.view.writes (Elt F) f (⟨Rect.unit (s := S8192x256) off ![512, 256] inb, w⟩ :: L))
      = setdq n w (arg8.view.read (Elt F) (arg8.view.writes (Elt F) f L)) := read_writes_put arg8.view inb h w L f

theorem rd6 (n : ℕ) (h : off = ![blk n, 0]) (inb) (f : BufTy.Contents (Elt F) arg6.view.ty) :
    View.readAt (Elt F) arg6.view (Rect.unit (s := S8192x128) off ![512, 128] inb).toLoadRect f
      = win (s := S8192x128) ![blk n, 0] ![512, 128] (inbB n) (arg6.view.read (Elt F) f) := readAt_win arg6.view inb h f
theorem wr11 (n : ℕ) (h : off = ![0, blk n]) (inb) (w : S8x512.Idx → Elt F .f32) (L) (f : BufTy.Contents (Elt F) arg11.view.ty) :
    arg11.view.read (Elt F) (arg11.view.writes (Elt F) f (⟨Rect.unit (s := S8x8192) off ![8, 512] inb, w⟩ :: L))
      = put (s := S8x8192) ![0, blk n] ![8, 512] (inbE n) w (arg11.view.read (Elt F) (arg11.view.writes (Elt F) f L)) := read_writes_put arg11.view inb h w L f
theorem wr12 (n : ℕ) (h : off = ![blk n, 0]) (inb) (w : S512x128.Idx → Elt F .bf16) (L) (f : BufTy.Contents (Elt F) arg12.view.ty) :
    arg12.view.read (Elt F) (arg12.view.writes (Elt F) f (⟨Rect.unit (s := S8192x128) off ![512, 128] inb, w⟩ :: L))
      = put (s := S8192x128) ![blk n, 0] ![512, 128] (inbB n) w (arg12.view.read (Elt F) (arg12.view.writes (Elt F) f L)) := read_writes_put arg12.view inb h w L f

variable (k : Fin (k0_t2_loop i).trips) (u : ℕ) (hu : u < 4)
include hu

theorem o7 : k0_off7 i k (BitVec.ofNat 32 u) = ![blk (row4 i k.val u), 0] := off7_eq i k ⟨u, hu⟩
theorem o8 : k0_off8 i k (BitVec.ofNat 32 u) = ![blk (row4 i k.val u), 0] := off8_eq i k ⟨u, hu⟩
theorem o9 : k0_off9 i k (BitVec.ofNat 32 u) = ![0, 0, blk (row4 i k.val u)] := off9_eq i k ⟨u, hu⟩
theorem o10 : k0_off10 i k (BitVec.ofNat 32 u) = ![0, blk (row4 i k.val u)] := off10_eq i k ⟨u, hu⟩

end boxes

/-- One trip of the loop of four steps. -/
theorem trip2 (k : Fin (k0_t2_loop i).trips) (X2 X5 X11 X12 f8 f9 f10) (E : Set ℕ) :
    iprop(pts (F := F) c arg2 X2 ∗ pts (F := F) c arg5 X5 ∗ pts (F := F) c arg11 X11 ∗ pts (F := F) c arg12 X12 ∗ pts (F := F) c arg8 f8 ∗ pts (F := F) c arg9 f9 ∗ pts (F := F) c arg10 f10)
      ⊢ wp frame (wpE (defs₀ (F := F)) Variants.none (c : Thread nD τ) none) E
        (k0_t2_body (F := F) i arg2 harg2 arg3 harg3 arg4 harg4 arg5 harg5 arg6 harg6 arg7 harg7 arg8 harg8 arg9 harg9 arg10 harg10 arg11 harg11 arg12 harg12 arg1 v8 v10 v58 c4_i32 v59 v70 k ())
        (fun _ => iprop(pts (F := F) c arg2 X2 ∗ pts (F := F) c arg5 X5 ∗ pts (F := F) c arg11 X11 ∗ pts (F := F) c arg12 X12
          ∗ pts (F := F) c arg8 (harg8.unread (step4 (insOf arg2 arg5 arg11 arg12 X2 X5 X11 X12) v8 v10 ((i 1).val + 1 + 4 * k.val) (stOf arg8 arg9 arg10 f8 f9 f10)).dq)
          ∗ pts (F := F) c arg9 (harg9.unread (step4 (insOf arg2 arg5 arg11 arg12 X2 X5 X11 X12) v8 v10 ((i 1).val + 1 + 4 * k.val) (stOf arg8 arg9 arg10 f8 f9 f10)).dk)
          ∗ pts (F := F) c arg10 (harg10.unread (step4 (insOf arg2 arg5 arg11 arg12 X2 X5 X11 X12) v8 v10 ((i 1).val + 1 + 4 * k.val) (stOf arg8 arg9 arg10 f8 f9 f10)).dv))) := by
  have a0 := o7 k 0 (by decide); have a1 := o7 k 1 (by decide); have a2 := o7 k 2 (by decide); have a3 := o7 k 3 (by decide)
  have b0 := o8 k 0 (by decide); have b1 := o8 k 1 (by decide); have b2 := o8 k 2 (by decide); have b3 := o8 k 3 (by decide)
  have c0 := o9 k 0 (by decide); have c1 := o9 k 1 (by decide); have c2 := o9 k 2 (by decide); have c3 := o9 k 3 (by decide)
  have d0 := o10 k 0 (by decide); have d1 := o10 k 1 (by decide); have d2 := o10 k 2 (by decide); have d3 := o10 k 3 (by decide)
  unfold k0_t2_body
  simp only [k0_part5_eq_skeleton]; unfold k0_part5_skel
  simp only [k0_part1_eq_skeleton, k0_part2_eq_skeleton, k0_part3_eq_skeleton, k0_part4_eq_skeleton]
  unfold pts
  iintro ⟨H2, H5, H11, H12, H8, H9, H10⟩
  sl_exec
  sl_step
  isplitl [H2]; · iexact H2
  isplitl [H5]; · iexact H5
  isplitl [H11]; · iexact H11
  isplitl [H12]; · iexact H12
  isplitl [H8]
  · refine pts_unread c arg8 harg8 _ _ ?_
    delta trip2.sl.H8_3 trip2.sl.H8_2 trip2.sl.H8_1 trip2.sl.r_9 trip2.sl.r_10 trip2.sl.r_7 trip2.sl.r_8 trip2.sl.cst_118 trip2.sl.r_3 trip2.sl.r
    simp only [pay15_eq, pay21_eq, pay27_eq, wr8 _ a0, wr8 _ a1, wr8 _ a2, wr8 _ a3, rd8 _ a0, rd8 _ a1, rd8 _ a2, rd8 _ a3,
      rd2 _ a0, rd2 _ a1, rd2 _ a2, rd2 _ a3, rd12 _ b0, rd12 _ b1, rd12 _ b2, rd12 _ b3,
      rd5 _ c0, rd5 _ c1, rd5 _ c2, rd5 _ c3, rd11 _ d0, rd11 _ d1, rd11 _ d2, rd11 _ d3, View.writes_nil]
    rfl
  isplitl [H9]
  · refine pts_unread c arg9 harg9 _ _ ?_
    delta trip2.sl.v274 trip2.sl.H9_3 trip2.sl.v228 trip2.sl.H9_2 trip2.sl.v182 trip2.sl.H9_1 trip2.sl.r_1 trip2.sl.r_2 trip2.sl.r_3 trip2.sl.r_9 trip2.sl.r_10 trip2.sl.r_6 trip2.sl.r_7 trip2.sl.r_8 trip2.sl.cst_118
    simp only [pay14_eq, pay20_eq, pay26_eq, wr9, cv9, rd9,
      rd2 _ a0, rd2 _ a1, rd2 _ a2, rd2 _ a3, rd12 _ b0, rd12 _ b1, rd12 _ b2, rd12 _ b3,
      rd5 _ c0, rd5 _ c1, rd5 _ c2, rd5 _ c3, rd11 _ d0, rd11 _ d1, rd11 _ d2, rd11 _ d3, View.writes_nil]
    rfl
  · refine pts_unread c arg10 harg10 _ _ ?_
    delta trip2.sl.v268 trip2.sl.H10_3 trip2.sl.v222 trip2.sl.H10_2 trip2.sl.r_4 trip2.sl.r_5 trip2.sl.v176 trip2.sl.H10_1 trip2.sl.r_9 trip2.sl.r_10 trip2.sl.r_7 trip2.sl.r_8
    simp only [pay13_eq, pay19_eq, pay25_eq, wr10, cv10, rd10,
      rd2 _ a0, rd2 _ a1, rd2 _ a2, rd2 _ a3, rd12 _ b0, rd12 _ b1, rd12 _ b2, rd12 _ b3,
      rd5 _ c0, rd5 _ c1, rd5 _ c2, rd5 _ c3, View.writes_nil]
    rfl

/-- One trip of the loop of single steps. -/
theorem trip4 (k : Fin (k0_t4_loop i).trips) (X2 X5 X11 X12 f8 f9 f10) (E : Set ℕ) :
    iprop(pts (F := F) c arg2 X2 ∗ pts (F := F) c arg5 X5 ∗ pts (F := F) c arg11 X11 ∗ pts (F := F) c arg12 X12 ∗ pts (F := F) c arg8 f8 ∗ pts (F := F) c arg9 f9 ∗ pts (F := F) c arg10 f10)
      ⊢ wp frame (wpE (defs₀ (F := F)) Variants.none (c : Thread nD τ) none) E
        (k0_t4_body (F := F) i arg2 harg2 arg3 harg3 arg4 harg4 arg5 harg5 arg6 harg6 arg7 harg7 arg8 harg8 arg9 harg9 arg10 harg10 arg11 harg11 arg12 harg12 arg1 v8 v10 v58 c4_i32 v59 v70 k ())
        (fun _ => iprop(pts (F := F) c arg2 X2 ∗ pts (F := F) c arg5 X5 ∗ pts (F := F) c arg11 X11 ∗ pts (F := F) c arg12 X12
          ∗ pts (F := F) c arg8 (harg8.unread (step (insOf arg2 arg5 arg11 arg12 X2 X5 X11 X12) v8 v10 (15 - k.val) (stOf arg8 arg9 arg10 f8 f9 f10)).dq)
          ∗ pts (F := F) c arg9 (harg9.unread (step (insOf arg2 arg5 arg11 arg12 X2 X5 X11 X12) v8 v10 (15 - k.val) (stOf arg8 arg9 arg10 f8 f9 f10)).dk)
          ∗ pts (F := F) c arg10 (harg10.unread (step (insOf arg2 arg5 arg11 arg12 X2 X5 X11 X12) v8 v10 (15 - k.val) (stOf arg8 arg9 arg10 f8 f9 f10)).dv))) := by
  have a := off15_eq i k; have b := off16_eq i k; have d := off17_eq i k; have g := off18_eq i k
  unfold k0_t4_body
  simp only [k0_part11_eq_skeleton]
  unfold pts
  iintro ⟨H2, H5, H11, H12, H8, H9, H10⟩
  sl_exec
  sl_step
  isplitl [H2]; · iexact H2
  isplitl [H5]; · iexact H5
  isplitl [H11]; · iexact H11
  isplitl [H12]; · iexact H12
  isplitl [H8]
  · refine pts_unread c arg8 harg8 _ _ ?_
    delta trip4.sl.r
    simp only [pay79_eq, wr8 _ a, rd8 _ a, rd2 _ a, rd12 _ b, rd5 _ d, rd11 _ g, View.writes_nil]
    rfl
  isplitl [H9]
  · refine pts_unread c arg9 harg9 _ _ ?_
    simp only [pay58_eq, wr9, rd9, rd2 _ a, rd12 _ b, rd5 _ d, rd11 _ g]
    rfl
  · refine pts_unread c arg10 harg10 _ _ ?_
    simp only [pay57_eq, wr10, rd10, rd2 _ a, rd12 _ b, rd5 _ d]
    rfl

/-- One trip of the loop that stages the row sums and the cast cotangent. -/
theorem trip1 (h : k0_cond1 i = 1#1) (k : Fin k0_t1_loop.trips) (X6 X7 f11 f12) (E : Set ℕ) :
    iprop(pts (F := F) c arg6 X6 ∗ pts (F := F) c arg7 X7 ∗ pts (F := F) c arg11 f11 ∗ pts (F := F) c arg12 f12)
      ⊢ wp frame (wpE (defs₀ (F := F)) Variants.none (c : Thread nD τ) none) E
        (k0_t1_body (F := F) i arg2 harg2 arg3 harg3 arg4 harg4 arg5 harg5 arg6 harg6 arg7 harg7 arg8 harg8 arg9 harg9 arg10 harg10 arg11 harg11 arg12 harg12 h k ())
        (fun _ => iprop(pts (F := F) c arg6 X6 ∗ pts (F := F) c arg7 X7
          ∗ pts (F := F) c arg11 (harg11.unread (stage1 k.val (arg6.view.read (Elt F) X6) (arg7.view.read (Elt F) X7) (arg11.view.read (Elt F) f11, arg12.view.read (Elt F) f12)).1)
          ∗ pts (F := F) c arg12 (harg12.unread (stage1 k.val (arg6.view.read (Elt F) X6) (arg7.view.read (Elt F) X7) (arg11.view.read (Elt F) f11, arg12.view.read (Elt F) f12)).2))) := by
  have a := off1_eq k; have b := off2_eq k
  unfold k0_t1_body
  unfold pts
  iintro ⟨H6, H7, H11, H12⟩
  sl_exec
  sl_step
  isplitl [H6]; · iexact H6
  isplitl [H7]; · iexact H7
  isplitl [H11]
  · refine pts_unread c arg11 harg11 _ _ ?_
    simp only [wr11 _ b, rd6 _ a, View.writes_nil]
    rfl
  · refine pts_unread c arg12 harg12 _ _ ?_
    simp only [wr12 _ a, rd6 _ a, View.writes_nil]
    rfl

end Cert.FlashBwdIdeal.Flash

end
-- ==== Proof.FlashLoops.lean ====
/- The loops of a grid point of the attention backward, each by its invariant. -/
module

public import proofs.«01_k».proof.Proof.FlashTrip

@[expose] public section

set_option maxRecDepth 16384

noncomputable section

namespace Cert.FlashBwdIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FlashBwdIdeal.Gen

variable {F : FTy → Type} [FloatOps F] [Named F]

local notation "𝕄G" => MT nD τ sig Unit (Elt F) ℕ (UR sig nD τ) ℕ

variable (c : Dev nD) (i : grid0.Coords)
  (arg2 : Memref sig .tc .vmem S8192x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S1x8x8192 .f32) (harg5 : arg5.IsWhole) (arg6 : Memref sig .tc .vmem S8192x128 .f32) (harg6 : arg6.IsWhole) (arg7 : Memref sig .tc .vmem S8192x128 .f32) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x128 .f32) (harg10 : arg10.IsWhole) (arg11 : Memref sig .tc .vmem S8x8192 .f32) (harg11 : arg11.IsWhole) (arg12 : Memref sig .tc .vmem S8192x128 .bf16) (harg12 : arg12.IsWhole)
  (arg1 : BitVec 32) (v8 : FVec F S512x256 .bf16) (v10 : FVec F S512x128 .bf16) (v58 c4_i32 v59 : BitVec 32) (v70 : BitVec 1)

/-- Contents before trip `k` of a memref that holds `G` at the loop's entry and the value `X k` after trip `k - 1`. -/
abbrev cont {s : Shape} {e : EltTy} {a : Memref sig .tc .vmem s e} (h : a.IsWhole) (G : BufTy.Contents (Elt F) a.view.ty) (X : ℕ → s.Idx → Elt F e) (k : ℕ) :
    BufTy.Contents (Elt F) a.view.ty :=
  Nat.rec (motive := fun _ => BufTy.Contents (Elt F) a.view.ty) G (fun m _ => h.unread (X (m + 1))) k

omit [FloatOps F] [Named F] in
theorem cont_read {s : Shape} {e : EltTy} {a : Memref sig .tc .vmem s e} (h : a.IsWhole) (G : BufTy.Contents (Elt F) a.view.ty) (X : ℕ → s.Idx → Elt F e)
    (h0 : a.view.read (Elt F) G = X 0) (k : ℕ) : a.view.read (Elt F) (cont h G X k) = X k := by
  cases k with
  | zero => exact h0
  | succ k => exact h.read_unread _

set_option warn.classDefReducibility false in
/-- The staging loop. -/
@[sl_loop] def inv1 (E : Set ℕ) (h : k0_cond1 i = 1#1) (X6 : BufTy.Contents (Elt F) arg6.view.ty) (X7 : BufTy.Contents (Elt F) arg7.view.ty)
    (G11 : BufTy.Contents (Elt F) arg11.view.ty) (G12 : BufTy.Contents (Elt F) arg12.view.ty) :
    Idealize.ShloMosaic.LoopInv (M := 𝕄G) Idealize.ShloMosaic.frame (wpE (defs₀ (F := F)) Variants.none (c : Thread nD τ) none) E
      k0_t1_loop.lb k0_t1_loop.ub k0_t1_loop.st (k0_t1_ok i h) () (k0_t1_body (F := F) i arg2 harg2 arg3 harg3 arg4 harg4 arg5 harg5 arg6 harg6 arg7 harg7 arg8 harg8 arg9 harg9 arg10 harg10 arg11 harg11 arg12 harg12 h) where
  inv k _ := iprop(pts (F := F) c arg6 X6 ∗ pts (F := F) c arg7 X7
    ∗ (∃ f, pts (F := F) c arg11 f ∗ ⌜f = cont harg11 G11 (fun m => (stage (arg6.view.read (Elt F) X6) (arg7.view.read (Elt F) X7) (arg11.view.read (Elt F) G11, arg12.view.read (Elt F) G12) m).1) k⌝)
    ∗ (∃ f, pts (F := F) c arg12 f ∗ ⌜f = cont harg12 G12 (fun m => (stage (arg6.view.read (Elt F) X6) (arg7.view.read (Elt F) X7) (arg11.view.read (Elt F) G11, arg12.view.read (Elt F) G12) m).2) k⌝))
  step k acc := by
    have hs : (arg11.view.read (Elt F) (cont harg11 G11 (fun m => (stage (arg6.view.read (Elt F) X6) (arg7.view.read (Elt F) X7) (arg11.view.read (Elt F) G11, arg12.view.read (Elt F) G12) m).1) k), arg12.view.read (Elt F) (cont harg12 G12 (fun m => (stage (arg6.view.read (Elt F) X6) (arg7.view.read (Elt F) X7) (arg11.view.read (Elt F) G11, arg12.view.read (Elt F) G12) m).2) k)) = (stage (arg6.view.read (Elt F) X6) (arg7.view.read (Elt F) X7) (arg11.view.read (Elt F) G11, arg12.view.read (Elt F) G12) k) := by
      rw [cont_read, cont_read] <;> rfl
    iintro ⟨H6, H7, ⟨%f11, H11, %e11⟩, ⟨%f12, H12, %e12⟩⟩
    iapply (wp_wand_r Idealize.ShloMosaic.frame (wpE (defs₀ (F := F)) Variants.none (c : Thread nD τ) none) E)
    isplitl [H6 H7 H11 H12]
    · iapply (trip1 (F := F) c i arg2 harg2 arg3 harg3 arg4 harg4 arg5 harg5 arg6 harg6 arg7 harg7 arg8 harg8 arg9 harg9 arg10 harg10 arg11 harg11 arg12 harg12 h k X6 X7 f11 f12 E)
      isplitl [H6]; · iexact H6
      isplitl [H7]; · iexact H7
      isplitl [H11]; · iexact H11
      iexact H12
    · iintro %_ ⟨H6, H7, H11, H12⟩
      isplitl [H6]; · iexact H6
      isplitl [H7]; · iexact H7
      isplitl [H11]
      · iexists _; isplitl [H11]; · iexact H11
        ipureintro; rw [e11, e12, hs]; rfl
      iexists _; isplitl [H12]; · iexact H12
      ipureintro; rw [e11, e12, hs]; rfl

set_option warn.classDefReducibility false in
/-- The loop of four steps. -/
@[sl_loop] def inv2 (E : Set ℕ) (X2 : BufTy.Contents (Elt F) arg2.view.ty) (X5 : BufTy.Contents (Elt F) arg5.view.ty)
    (X11 : BufTy.Contents (Elt F) arg11.view.ty) (X12 : BufTy.Contents (Elt F) arg12.view.ty)
    (G8 : BufTy.Contents (Elt F) arg8.view.ty) (G9 : BufTy.Contents (Elt F) arg9.view.ty) (G10 : BufTy.Contents (Elt F) arg10.view.ty) :
    Idealize.ShloMosaic.LoopInv (M := 𝕄G) Idealize.ShloMosaic.frame (wpE (defs₀ (F := F)) Variants.none (c : Thread nD τ) none) E
      (k0_t2_loop i).lb (k0_t2_loop i).ub (k0_t2_loop i).st (k0_t2_ok i) () (k0_t2_body (F := F) i arg2 harg2 arg3 harg3 arg4 harg4 arg5 harg5 arg6 harg6 arg7 harg7 arg8 harg8 arg9 harg9 arg10 harg10 arg11 harg11 arg12 harg12 arg1 v8 v10 v58 c4_i32 v59 v70) where
  inv k _ := iprop(pts (F := F) c arg2 X2 ∗ pts (F := F) c arg5 X5 ∗ pts (F := F) c arg11 X11 ∗ pts (F := F) c arg12 X12
    ∗ (∃ f, pts (F := F) c arg8 f ∗ ⌜f = cont harg8 G8 (fun m => (fours (insOf arg2 arg5 arg11 arg12 X2 X5 X11 X12) v8 v10 (i 1).val (stOf arg8 arg9 arg10 G8 G9 G10) m).dq) k⌝)
    ∗ (∃ f, pts (F := F) c arg9 f ∗ ⌜f = cont harg9 G9 (fun m => (fours (insOf arg2 arg5 arg11 arg12 X2 X5 X11 X12) v8 v10 (i 1).val (stOf arg8 arg9 arg10 G8 G9 G10) m).dk) k⌝)
    ∗ (∃ f, pts (F := F) c arg10 f ∗ ⌜f = cont harg10 G10 (fun m => (fours (insOf arg2 arg5 arg11 arg12 X2 X5 X11 X12) v8 v10 (i 1).val (stOf arg8 arg9 arg10 G8 G9 G10) m).dv) k⌝))
  step k acc := by
    have hs : stOf arg8 arg9 arg10 (cont harg8 G8 (fun m => (fours (insOf arg2 arg5 arg11 arg12 X2 X5 X11 X12) v8 v10 (i 1).val (stOf arg8 arg9 arg10 G8 G9 G10) m).dq) k) (cont harg9 G9 (fun m => (fours (insOf arg2 arg5 arg11 arg12 X2 X5 X11 X12) v8 v10 (i 1).val (stOf arg8 arg9 arg10 G8 G9 G10) m).dk) k) (cont harg10 G10 (fun m => (fours (insOf arg2 arg5 arg11 arg12 X2 X5 X11 X12) v8 v10 (i 1).val (stOf arg8 arg9 arg10 G8 G9 G10) m).dv) k) = (fours (insOf arg2 arg5 arg11 arg12 X2 X5 X11 X12) v8 v10 (i 1).val (stOf arg8 arg9 arg10 G8 G9 G10) k) := by
      simp only [stOf]; rw [cont_read, cont_read, cont_read] <;> rfl
    iintro ⟨H2, H5, H11, H12, ⟨%f8, H8, %e8⟩, ⟨%f9, H9, %e9⟩, ⟨%f10, H10, %e10⟩⟩
    iapply (wp_wand_r Idealize.ShloMosaic.frame (wpE (defs₀ (F := F)) Variants.none (c : Thread nD τ) none) E)
    isplitl [H2 H5 H11 H12 H8 H9 H10]
    · iapply (trip2 (F := F) c i arg2 harg2 arg3 harg3 arg4 harg4 arg5 harg5 arg6 harg6 arg7 harg7 arg8 harg8 arg9 harg9 arg10 harg10 arg11 harg11 arg12 harg12 arg1 v8 v10 v58 c4_i32 v59 v70 k X2 X5 X11 X12 f8 f9 f10 E)
      isplitl [H2]; · iexact H2
      isplitl [H5]; · iexact H5
      isplitl [H11]; · iexact H11
      isplitl [H12]; · iexact H12
      isplitl [H8]; · iexact H8
      isplitl [H9]; · iexact H9
      iexact H10
    · iintro %_ ⟨H2, H5, H11, H12, H8, H9, H10⟩
      isplitl [H2]; · iexact H2
      isplitl [H5]; · iexact H5
      isplitl [H11]; · iexact H11
      isplitl [H12]; · iexact H12
      isplitl [H8]
      · iexists _; isplitl [H8]; · iexact H8
        ipureintro; rw [e8, e9, e10, hs]; rfl
      isplitl [H9]
      · iexists _; isplitl [H9]; · iexact H9
        ipureintro; rw [e8, e9, e10, hs]; rfl
      iexists _; isplitl [H10]; · iexact H10
      ipureintro; rw [e8, e9, e10, hs]; rfl

set_option warn.classDefReducibility false in
/-- The loop of single steps. -/
@[sl_loop] def inv4 (E : Set ℕ) (X2 : BufTy.Contents (Elt F) arg2.view.ty) (X5 : BufTy.Contents (Elt F) arg5.view.ty)
    (X11 : BufTy.Contents (Elt F) arg11.view.ty) (X12 : BufTy.Contents (Elt F) arg12.view.ty)
    (G8 : BufTy.Contents (Elt F) arg8.view.ty) (G9 : BufTy.Contents (Elt F) arg9.view.ty) (G10 : BufTy.Contents (Elt F) arg10.view.ty) :
    Idealize.ShloMosaic.LoopInv (M := 𝕄G) Idealize.ShloMosaic.frame (wpE (defs₀ (F := F)) Variants.none (c : Thread nD τ) none) E
      (k0_t4_loop i).lb (k0_t4_loop i).ub (k0_t4_loop i).st (k0_t4_ok i) () (k0_t4_body (F := F) i arg2 harg2 arg3 harg3 arg4 harg4 arg5 harg5 arg6 harg6 arg7 harg7 arg8 harg8 arg9 harg9 arg10 harg10 arg11 harg11 arg12 harg12 arg1 v8 v10 v58 c4_i32 v59 v70) where
  inv k _ := iprop(pts (F := F) c arg2 X2 ∗ pts (F := F) c arg5 X5 ∗ pts (F := F) c arg11 X11 ∗ pts (F := F) c arg12 X12
    ∗ (∃ f, pts (F := F) c arg8 f ∗ ⌜f = cont harg8 G8 (fun m => (ones (insOf arg2 arg5 arg11 arg12 X2 X5 X11 X12) v8 v10 (stOf arg8 arg9 arg10 G8 G9 G10) m).dq) k⌝)
    ∗ (∃ f, pts (F := F) c arg9 f ∗ ⌜f = cont harg9 G9 (fun m => (ones (insOf arg2 arg5 arg11 arg12 X2 X5 X11 X12) v8 v10 (stOf arg8 arg9 arg10 G8 G9 G10) m).dk) k⌝)
    ∗ (∃ f, pts (F := F) c arg10 f ∗ ⌜f = cont harg10 G10 (fun m => (ones (insOf arg2 arg5 arg11 arg12 X2 X5 X11 X12) v8 v10 (stOf arg8 arg9 arg10 G8 G9 G10) m).dv) k⌝))
  step k acc := by
    have hs : stOf arg8 arg9 arg10 (cont harg8 G8 (fun m => (ones (insOf arg2 arg5 arg11 arg12 X2 X5 X11 X12) v8 v10 (stOf arg8 arg9 arg10 G8 G9 G10) m).dq) k) (cont harg9 G9 (fun m => (ones (insOf arg2 arg5 arg11 arg12 X2 X5 X11 X12) v8 v10 (stOf arg8 arg9 arg10 G8 G9 G10) m).dk) k) (cont harg10 G10 (fun m => (ones (insOf arg2 arg5 arg11 arg12 X2 X5 X11 X12) v8 v10 (stOf arg8 arg9 arg10 G8 G9 G10) m).dv) k) = (ones (insOf arg2 arg5 arg11 arg12 X2 X5 X11 X12) v8 v10 (stOf arg8 arg9 arg10 G8 G9 G10) k) := by
      simp only [stOf]; rw [cont_read, cont_read, cont_read] <;> rfl
    iintro ⟨H2, H5, H11, H12, ⟨%f8, H8, %e8⟩, ⟨%f9, H9, %e9⟩, ⟨%f10, H10, %e10⟩⟩
    iapply (wp_wand_r Idealize.ShloMosaic.frame (wpE (defs₀ (F := F)) Variants.none (c : Thread nD τ) none) E)
    isplitl [H2 H5 H11 H12 H8 H9 H10]
    · iapply (trip4 (F := F) c i arg2 harg2 arg3 harg3 arg4 harg4 arg5 harg5 arg6 harg6 arg7 harg7 arg8 harg8 arg9 harg9 arg10 harg10 arg11 harg11 arg12 harg12 arg1 v8 v10 v58 c4_i32 v59 v70 k X2 X5 X11 X12 f8 f9 f10 E)
      isplitl [H2]; · iexact H2
      isplitl [H5]; · iexact H5
      isplitl [H11]; · iexact H11
      isplitl [H12]; · iexact H12
      isplitl [H8]; · iexact H8
      isplitl [H9]; · iexact H9
      iexact H10
    · iintro %_ ⟨H2, H5, H11, H12, H8, H9, H10⟩
      isplitl [H2]; · iexact H2
      isplitl [H5]; · iexact H5
      isplitl [H11]; · iexact H11
      isplitl [H12]; · iexact H12
      isplitl [H8]
      · iexists _; isplitl [H8]; · iexact H8
        ipureintro; rw [e8, e9, e10, hs]; rfl
      isplitl [H9]
      · iexists _; isplitl [H9]; · iexact H9
        ipureintro; rw [e8, e9, e10, hs]; rfl
      iexists _; isplitl [H10]; · iexact H10
      ipureintro; rw [e8, e9, e10, hs]; rfl

set_option warn.classDefReducibility false in
/-- A loop that makes no trip. -/
@[sl_loop] def inv3 (E : Set ℕ) (v80 : BitVec 32) :
    Idealize.ShloMosaic.LoopInv (M := 𝕄G) Idealize.ShloMosaic.frame (wpE (defs₀ (F := F)) Variants.none (c : Thread nD τ) none) E
      (k0_t3_loop i).lb (k0_t3_loop i).ub (k0_t3_loop i).st (k0_t3_ok i) () (k0_t3_body (F := F) i arg2 harg2 arg3 harg3 arg4 harg4 arg5 harg5 arg6 harg6 arg7 harg7 arg8 harg8 arg9 harg9 arg10 harg10 arg11 harg11 arg12 harg12 arg1 v8 v10 v58 c4_i32 v59 v70 v80) where
  inv _ _ := iprop(emp)
  step k acc := absurd (lt_of_lt_of_eq k.isLt (trips3 i)) (Nat.not_lt_zero _)

set_option warn.classDefReducibility false in
/-- A loop that makes no trip. -/
@[sl_loop] def inv5 (E : Set ℕ) (v95 : BitVec 32) :
    Idealize.ShloMosaic.LoopInv (M := 𝕄G) Idealize.ShloMosaic.frame (wpE (defs₀ (F := F)) Variants.none (c : Thread nD τ) none) E
      (k0_t5_loop i).lb (k0_t5_loop i).ub (k0_t5_loop i).st (k0_t5_ok i) () (k0_t5_body (F := F) i arg2 harg2 arg3 harg3 arg4 harg4 arg5 harg5 arg6 harg6 arg7 harg7 arg8 harg8 arg9 harg9 arg10 harg10 arg11 harg11 arg12 harg12 arg1 v8 v10 v58 c4_i32 v59 v70 v95) where
  inv _ _ := iprop(emp)
  step k acc := absurd (lt_of_lt_of_eq k.isLt (trips5 i)) (Nat.not_lt_zero _)

end Cert.FlashBwdIdeal.Flash

end
-- ==== Proof.FlashBody.lean ====
/- A grid point of the attention backward, run once: what its memrefs hold afterwards. -/
module

public import proofs.«01_k».proof.Proof.FlashLoops

@[expose] public section

set_option maxRecDepth 16384

noncomputable section

namespace Cert.FlashBwdIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FlashBwdIdeal.Gen

variable {F : FTy → Type} [FloatOps F] [Named F]

local notation "𝕄G" => MT nD τ sig Unit (Elt F) ℕ (UR sig nD τ) ℕ

variable (c : Dev nD) (i : grid0.Coords)
  (arg2 : Memref sig .tc .vmem S8192x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S1x8x8192 .f32) (harg5 : arg5.IsWhole) (arg6 : Memref sig .tc .vmem S8192x128 .f32) (harg6 : arg6.IsWhole) (arg7 : Memref sig .tc .vmem S8192x128 .f32) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x128 .f32) (harg10 : arg10.IsWhole) (arg11 : Memref sig .tc .vmem S8x8192 .f32) (harg11 : arg11.IsWhole) (arg12 : Memref sig .tc .vmem S8192x128 .bf16) (harg12 : arg12.IsWhole)

/-- The inputs' memrefs at their blocks. -/
abbrev held (x2 : Vec F S8192x256 .bf16) (x3 : Vec F S512x256 .bf16) (x4 : Vec F S512x128 .bf16) (x5 : Vec F S1x8x8192 .f32) (x6 x7 : Vec F S8192x128 .f32) : sProp 𝕄G :=
  iprop(pts (F := F) c arg2 (harg2.unread x2) ∗ pts (F := F) c arg3 (harg3.unread x3) ∗ pts (F := F) c arg4 (harg4.unread x4) ∗ pts (F := F) c arg5 (harg5.unread x5)
    ∗ pts (F := F) c arg6 (harg6.unread x6) ∗ pts (F := F) c arg7 (harg7.unread x7))

/-- The memrefs written, at given values. -/
abbrev kept (s : St F) (dl : Vec F S8x8192 .f32) (ct : Vec F S8192x128 .bf16) : sProp 𝕄G :=
  iprop(pts (F := F) c arg8 (harg8.unread s.dq) ∗ pts (F := F) c arg9 (harg9.unread s.dk) ∗ pts (F := F) c arg10 (harg10.unread s.dv)
    ∗ pts (F := F) c arg11 (harg11.unread dl) ∗ pts (F := F) c arg12 (harg12.unread ct))

section parts

omit [FloatOps F] [Named F] in
theorem rd8all {arg8 : Memref sig .tc .vmem S8192x256 .f32} (f : BufTy.Contents (Elt F) arg8.view.ty) :
    View.readAt (Elt F) arg8.view (Rect.unit (s := S8192x256) ![0, 0] ![8192, 256] inb_S8192x256_S8192x256_0_0).toLoadRect f = arg8.view.read (Elt F) f :=
  readAt_all arg8.view _ zero2 inb_S8192x256_S8192x256_0_0 f
omit [FloatOps F] [Named F] in
theorem wr8all {arg8 : Memref sig .tc .vmem S8192x256 .f32} (f : BufTy.Contents (Elt F) arg8.view.ty) (w : S8192x256.Idx → Elt F .f32) (L) :
    arg8.view.read (Elt F) (arg8.view.writes (Elt F) f (⟨Rect.unit (s := S8192x256) ![0, 0] ![8192, 256] inb_S8192x256_S8192x256_0_0, w⟩ :: L)) = w :=
  read_writes_all arg8.view _ zero2 inb_S8192x256_S8192x256_0_0 w L f
omit [FloatOps F] [Named F] in
theorem rd3 {arg3 : Memref sig .tc .vmem S512x256 .bf16} (f : BufTy.Contents (Elt F) arg3.view.ty) :
    View.readAt (Elt F) arg3.view (Rect.unit (s := S512x256) ![0, 0] ![512, 256] inb_S512x256_S512x256_0_0).toLoadRect f = arg3.view.read (Elt F) f :=
  readAt_all arg3.view _ zero2 inb_S512x256_S512x256_0_0 f
omit [FloatOps F] [Named F] in
theorem rd4 {arg4 : Memref sig .tc .vmem S512x128 .bf16} (f : BufTy.Contents (Elt F) arg4.view.ty) :
    View.readAt (Elt F) arg4.view (Rect.unit (s := S512x128) ![0, 0] ![512, 128] inb_S512x128_S512x128_0_0).toLoadRect f = arg4.view.read (Elt F) f :=
  readAt_all arg4.view _ zero2 inb_S512x128_S512x128_0_0 f

variable (x2 : Vec F S8192x256 .bf16) (x3 : Vec F S512x256 .bf16) (x4 : Vec F S512x128 .bf16) (x5 : Vec F S1x8x8192 .f32) (x6 x7 : Vec F S8192x128 .f32)
  (s : St F) (dl : Vec F S8x8192 .f32) (ct : Vec F S8192x128 .bf16)

/-- What the first part of the body hands on. -/
abbrev heads (i : grid0.Coords) (I : Ins F) (k : Vec F S512x256 .bf16) (v : Vec F S512x128 .bf16) :
    (Σ' (_ : BitVec 32) (_ : FVec F S512x256 .bf16) (_ : FVec F S512x128 .bf16) (_ : BitVec 32) (_ : FVec F S512x256 .bf16) (_ : Vec F S512x128 .bf16) (_ : FVec F S512x512 .f32), FVec F S512x512 .f32) :=
  ⟨BitVec.ofNat 32 (i 1).val, k0_pay70 k, k0_pay71 v, Scalar.muli (BitVec.ofNat 32 (i 1).val) 512#32, k0_pay72 (I.qr (i 1).val), I.cr (i 1).val,
    k0_pay73 k (I.qr (i 1).val) (I.lr (i 1).val), k0_pay74 v (I.cr (i 1).val)⟩

set_option maxHeartbeats 1000000 in
/-- The first part at a point that is not the first of its head. -/
theorem part13_B (h : ¬k0_cond1 i = 1#1) (E : Set ℕ) (K : _ → sProp 𝕄G) :
    iprop(iprop(held c arg2 harg2 arg3 harg3 arg4 harg4 arg5 harg5 arg6 harg6 arg7 harg7 x2 x3 x4 x5 x6 x7 ∗ kept c arg8 harg8 arg9 harg9 arg10 harg10 arg11 harg11 arg12 harg12 s dl ct)
      ∗ (iprop(held c arg2 harg2 arg3 harg3 arg4 harg4 arg5 harg5 arg6 harg6 arg7 harg7 x2 x3 x4 x5 x6 x7 ∗ kept c arg8 harg8 arg9 harg9 arg10 harg10 arg11 harg11 arg12 harg12 ⟨s.dq, k0_pay68, k0_pay69⟩ dl ct) -∗ K (heads i ⟨x2, x5, dl, ct⟩ x3 x4)))
      ⊢ wp frame (wpE (defs₀ (F := F)) Variants.none (c : Thread nD τ) none) E (k0_part13 (F := F) i arg2 harg2 arg3 harg3 arg4 harg4 arg5 harg5 arg6 harg6 arg7 harg7 arg8 harg8 arg9 harg9 arg10 harg10 arg11 harg11 arg12 harg12) K := by
  have a := off3_eq i; have b := off4_eq i; have d := off5_eq i
  simp only [k0_part13_eq_skeleton]; unfold k0_part13_skel
  unfold held kept pts
  iintro ⟨⟨⟨H2, H3, H4, H5, H6, H7⟩, ⟨H8, H9, H10, H11, H12⟩⟩, Hk⟩
  sl_exec (disch := first | sl_exact h)
  sl_step
  delta part13_B.sl.v11
  simp only [rd2 _ a, rd3, rd4, rd12 _ b, rd5 _ d, Memref.IsWhole.read_unread, heads, Ins.qr, Ins.lr, Ins.cr]
  iapply Hk
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [H8]; · iexact H8
  isplitl [H9]; · refine pts_unread c arg9 harg9 _ _ (wr9 _ _ _)
  isplitl [H10]; · refine pts_unread c arg10 harg10 _ _ (wr10 _ _ _)
  isplitl [H11]; · iexact H11
  iexact H12

/-- What the staged arrays hold after the staging loop. -/
theorem staged_read (G11 : BufTy.Contents (Elt F) arg11.view.ty) (G12 : BufTy.Contents (Elt F) arg12.view.ty) (x6' x7' : Vec F S8192x128 .f32)
    (x6 x7 : Vec F S8192x128 .f32) (dl : Vec F S8x8192 .f32) (ct : Vec F S8192x128 .bf16) (h6 : x6' = x6) (h7 : x7' = x7)
    (hd : arg11.view.read (Elt F) G11 = dl) (hc : arg12.view.read (Elt F) G12 = ct) (n N : ℕ) (hn : n = N) :
    let f := fun m => stage x6' x7' (arg11.view.read (Elt F) G11, arg12.view.read (Elt F) G12) m
    arg11.view.read (Elt F) (cont harg11 G11 (fun m => (f m).1) n) = (stage x6 x7 (dl, ct) N).1
      ∧ arg12.view.read (Elt F) (cont harg12 G12 (fun m => (f m).2) n) = (stage x6 x7 (dl, ct) N).2 := by
  subst h6 h7 hd hc hn
  intro f
  exact ⟨cont_read harg11 G11 (fun m => (f m).1) rfl n, cont_read harg12 G12 (fun m => (f m).2) rfl n⟩

set_option maxHeartbeats 1000000 in
/-- The first part at the first point of a head. -/
theorem part13_A (h : k0_cond1 i = 1#1) (E : Set ℕ) (K : _ → sProp 𝕄G) :
    iprop(iprop(held c arg2 harg2 arg3 harg3 arg4 harg4 arg5 harg5 arg6 harg6 arg7 harg7 x2 x3 x4 x5 x6 x7 ∗ kept c arg8 harg8 arg9 harg9 arg10 harg10 arg11 harg11 arg12 harg12 s dl ct)
      ∗ (iprop(held c arg2 harg2 arg3 harg3 arg4 harg4 arg5 harg5 arg6 harg6 arg7 harg7 x2 x3 x4 x5 x6 x7 ∗ kept c arg8 harg8 arg9 harg9 arg10 harg10 arg11 harg11 arg12 harg12 ⟨k0_pay64, k0_pay68, k0_pay69⟩ (stage x6 x7 (dl, ct) 16).1 (stage x6 x7 (dl, ct) 16).2)
        -∗ K (heads i ⟨x2, x5, (stage x6 x7 (dl, ct) 16).1, (stage x6 x7 (dl, ct) 16).2⟩ x3 x4)))
      ⊢ wp frame (wpE (defs₀ (F := F)) Variants.none (c : Thread nD τ) none) E (k0_part13 (F := F) i arg2 harg2 arg3 harg3 arg4 harg4 arg5 harg5 arg6 harg6 arg7 harg7 arg8 harg8 arg9 harg9 arg10 harg10 arg11 harg11 arg12 harg12) K := by
  have a := off3_eq i; have b := off4_eq i; have d := off5_eq i
  simp only [k0_part13_eq_skeleton]; unfold k0_part13_skel
  unfold held kept pts
  iintro ⟨⟨⟨H2, H3, H4, H5, H6, H7⟩, ⟨H8, H9, H10, H11, H12⟩⟩, Hk⟩
  sl_exec (disch := first | sl_exact h)
  sl_step
  have st := staged_read arg11 harg11 arg12 harg12 (harg11.unread dl) (harg12.unread ct) (arg6.view.read (Elt F) (harg6.unread x6)) (arg7.view.read (Elt F) (harg7.unread x7))
    x6 x7 dl ct (harg6.read_unread _) (harg7.read_unread _) (harg11.read_unread _) (harg12.read_unread _) _ 16 trips1
  have e17 : part13_A.sl.v17 (F := F) i arg6 harg6 arg7 harg7 arg11 harg11 arg12 harg12 x6 x7 dl ct = Ins.cr ⟨x2, x5, (stage x6 x7 (dl, ct) 16).1, (stage x6 x7 (dl, ct) 16).2⟩ (i 1).val := by
    delta part13_A.sl.v17
    refine (rd12 _ b _ _).trans (congrArg (win (s := S8192x128) ![blk (i 1).val, 0] ![512, 128] (inbB (i 1).val)) ?_)
    exact st.2
  have st' := staged_read arg11 harg11 arg12 harg12 (harg11.unread dl) (harg12.unread ct) x6 x7
    x6 x7 dl ct rfl rfl (harg11.read_unread _) (harg12.read_unread _) (Scf.trips 0#32 (Scalar.addi 0#32 16#32) 1#32) 16 trips1
  simp only [Memref.IsWhole.read_unread] at st'
  rw [e17]
  delta part13_A.sl.v11
  simp only [rd2 _ a, rd3, rd4, rd5 _ d, Memref.IsWhole.read_unread, heads, Ins.qr, Ins.lr, Ins.cr]
  iapply Hk
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [H8]; · delta part13_A.sl.H8_1; refine pts_unread c arg8 harg8 _ _ (wr8all _ _ _)
  isplitl [H9]; · refine pts_unread c arg9 harg9 _ _ (wr9 _ _ _)
  isplitl [H10]; · refine pts_unread c arg10 harg10 _ _ (wr10 _ _ _)
  isplitl [H11]
  · refine pts_unread c arg11 harg11 _ _ ?_
    exact st'.1
  refine pts_unread c arg12 harg12 _ _ ?_
  exact st'.2

/-- The condition of the last `if`, as the body computes it. -/
theorem cond2_iff : ∀ i : grid0.Coords, Scalar.cmpi .ne (Scalar.extui (Scalar.cmpi .eq (BitVec.ofNat 32 (i 1).val) 15#32) : BitVec 32) 0#32 = 1#1 ↔ (i 1).val = 15 := by
  decide +kernel

/-- What a point leaves in the memrefs it writes, from the gradient of the queries it finds. -/
def final (I : Ins F) (k : Vec F S512x256 .bf16) (v : Vec F S512x128 .bf16) (j : ℕ) (dq : Vec F S8192x256 .f32) : St F where
  dq := if j = 15 then k0_pay1 (steps I k v j dq).dq else (steps I k v j dq).dq
  dk := k0_pay81 (steps I k v j dq).dk
  dv := (steps I k v j dq).dv

/-- What the memrefs hold after the two loops of steps. -/
theorem loops_read (I : Ins F) (k : FVec F S512x256 .bf16) (v : FVec F S512x128 .bf16) (j : ℕ)
    (G8 : BufTy.Contents (Elt F) arg8.view.ty) (G9 : BufTy.Contents (Elt F) arg9.view.ty) (G10 : BufTy.Contents (Elt F) arg10.view.ty)
    (S : St F) (hS : stOf arg8 arg9 arg10 G8 G9 G10 = S) (n n' N N' : ℕ) (hn : n = N) (hn' : n' = N') :
    let f := fun m => fours I k v j (stOf arg8 arg9 arg10 G8 G9 G10) m
    let C8 := cont harg8 G8 (fun m => (f m).dq) n
    let C9 := cont harg9 G9 (fun m => (f m).dk) n
    let C10 := cont harg10 G10 (fun m => (f m).dv) n
    let o := fun m => ones I k v (stOf arg8 arg9 arg10 C8 C9 C10) m
    arg8.view.read (Elt F) (cont harg8 C8 (fun m => (o m).dq) n') = (ones I k v (fours I k v j S N) N').dq
      ∧ arg9.view.read (Elt F) (cont harg9 C9 (fun m => (o m).dk) n') = (ones I k v (fours I k v j S N) N').dk
      ∧ arg10.view.read (Elt F) (cont harg10 C10 (fun m => (o m).dv) n') = (ones I k v (fours I k v j S N) N').dv := by
  subst hn hn'
  intro f C8 C9 C10 o
  have h2 : stOf arg8 arg9 arg10 C8 C9 C10 = fours I k v j S n := by
    rw [← hS]
    simp only [stOf, C8, C9, C10]
    rw [cont_read harg8 G8 (fun m => (f m).dq) rfl, cont_read harg9 G9 (fun m => (f m).dk) rfl, cont_read harg10 G10 (fun m => (f m).dv) rfl]
  rw [← h2]
  exact ⟨cont_read harg8 C8 (fun m => (o m).dq) rfl n', cont_read harg9 C9 (fun m => (o m).dk) rfl n', cont_read harg10 C10 (fun m => (o m).dv) rfl n'⟩

set_option maxHeartbeats 4000000 in
theorem body_of (pre : sProp 𝕄G) (E : Set ℕ)
    (h13 : ∀ K, iprop(pre ∗ (iprop(held c arg2 harg2 arg3 harg3 arg4 harg4 arg5 harg5 arg6 harg6 arg7 harg7 x2 x3 x4 x5 x6 x7 ∗ kept c arg8 harg8 arg9 harg9 arg10 harg10 arg11 harg11 arg12 harg12 ⟨s.dq, k0_pay68, k0_pay69⟩ dl ct) -∗ K (heads i ⟨x2, x5, dl, ct⟩ x3 x4)))
      ⊢ wp frame (wpE (defs₀ (F := F)) Variants.none (c : Thread nD τ) none) E (k0_part13 (F := F) i arg2 harg2 arg3 harg3 arg4 harg4 arg5 harg5 arg6 harg6 arg7 harg7 arg8 harg8 arg9 harg9 arg10 harg10 arg11 harg11 arg12 harg12) K)
    (K : _ → sProp 𝕄G) :
    iprop(pre ∗ (iprop(held c arg2 harg2 arg3 harg3 arg4 harg4 arg5 harg5 arg6 harg6 arg7 harg7 x2 x3 x4 x5 x6 x7 ∗ kept c arg8 harg8 arg9 harg9 arg10 harg10 arg11 harg11 arg12 harg12 (final ⟨x2, x5, dl, ct⟩ x3 x4 (i 1).val s.dq) dl ct) -∗ K ⟨⟩))
      ⊢ wp frame (wpE (defs₀ (F := F)) Variants.none (c : Thread nD τ) none) E (cc0_flash_bwd (F := F) i arg2 harg2 arg3 harg3 arg4 harg4 arg5 harg5 arg6 harg6 arg7 harg7 arg8 harg8 arg9 harg9 arg10 harg10 arg11 harg11 arg12 harg12) K := by
  have a := off3_eq i; have b := off6_eq i
  simp only [cc0_flash_bwd_eq_skeleton]; unfold cc0_flash_bwd_skel
  rw [wp_bind]
  refine BIBase.Entails.trans ?_ (h13 _)
  iintro ⟨Hp, Hk⟩
  isplitl [Hp]; · iexact Hp
  unfold held kept pts heads
  dsimp only
  iintro ⟨⟨H2, H3, H4, H5, H6, H7⟩, ⟨H8, H9, H10, H11, H12⟩⟩
  simp only [k0_part14_eq_skeleton, k0_part15_eq_skeleton]
  by_cases h : (i 1).val = 15
  · have h' := (cond2_iff i).mpr h
    sl_exec (disch := first | sl_exact h')
    sl_step
    iapply Hk
    isplitl [H2 H3 H4 H5 H6 H7]
    · isplitl [H2]; · iexact H2
      isplitl [H3]; · iexact H3
      isplitl [H4]; · iexact H4
      isplitl [H5]; · iexact H5
      isplitl [H6]; · iexact H6
      iexact H7
    isplitl [H8]
    · refine pts_unread c arg8 harg8 _ _ ?_
      refine (wr8all _ _ _).trans ?_
      delta body_of.sl.v104
      rw [rd8all]
      refine (congrArg k0_pay1 (loops_read arg8 harg8 arg9 harg9 arg10 harg10 _ _ _ _ _ _ _ (diag ⟨x2, x5, dl, ct⟩ x3 x4 (i 1).val ⟨s.dq, k0_pay68, k0_pay69⟩) ?hS _ _ _ _ (trips2 i) (trips4 i)).1).trans ?_
      case hS =>
        apply St.ext
        · change arg8.view.read (Elt F) _ = _
          simp only [wr8 _ a, rd8 _ a, rd11 _ b, View.writes_nil, Memref.IsWhole.read_unread]
          rfl
        · change arg9.view.read (Elt F) _ = _
          first | delta body_of.sl.H9_1_1 | delta body_of.sl.H9_1
          simp only [wr9, cv9, rd9, rd11 _ b, Memref.IsWhole.read_unread]
          rfl
        · change arg10.view.read (Elt F) _ = _
          first | delta body_of.sl.H10_1_1 | delta body_of.sl.H10_1
          simp only [wr10, cv10, rd10, Memref.IsWhole.read_unread]
          rfl
      simp only [final, steps, insOf, Memref.IsWhole.read_unread, h, if_true, if_false]
    isplitl [H9]
    · refine pts_unread c arg9 harg9 _ _ ((wr9 _ _ _).trans ?_)
      first | delta body_of.sl.v96 | delta body_of.sl.v96_1
      rw [rd9]
      refine (congrArg k0_pay81 (loops_read arg8 harg8 arg9 harg9 arg10 harg10 _ _ _ _ _ _ _ (diag ⟨x2, x5, dl, ct⟩ x3 x4 (i 1).val ⟨s.dq, k0_pay68, k0_pay69⟩) ?hS _ _ _ _ (trips2 i) (trips4 i)).2.1).trans ?_
      case hS =>
        apply St.ext
        · change arg8.view.read (Elt F) _ = _
          simp only [wr8 _ a, rd8 _ a, rd11 _ b, View.writes_nil, Memref.IsWhole.read_unread]
          rfl
        · change arg9.view.read (Elt F) _ = _
          first | delta body_of.sl.H9_1_1 | delta body_of.sl.H9_1
          simp only [wr9, cv9, rd9, rd11 _ b, Memref.IsWhole.read_unread]
          rfl
        · change arg10.view.read (Elt F) _ = _
          first | delta body_of.sl.H10_1_1 | delta body_of.sl.H10_1
          simp only [wr10, cv10, rd10, Memref.IsWhole.read_unread]
          rfl
      simp only [final, steps, insOf, Memref.IsWhole.read_unread]
    isplitl [H10]
    · refine pts_unread c arg10 harg10 _ _ ?_
      refine (loops_read arg8 harg8 arg9 harg9 arg10 harg10 _ _ _ _ _ _ _ (diag ⟨x2, x5, dl, ct⟩ x3 x4 (i 1).val ⟨s.dq, k0_pay68, k0_pay69⟩) ?hS _ _ _ _ (trips2 i) (trips4 i)).2.2.trans ?_
      case hS =>
        apply St.ext
        · change arg8.view.read (Elt F) _ = _
          simp only [wr8 _ a, rd8 _ a, rd11 _ b, View.writes_nil, Memref.IsWhole.read_unread]
          rfl
        · change arg9.view.read (Elt F) _ = _
          first | delta body_of.sl.H9_1_1 | delta body_of.sl.H9_1
          simp only [wr9, cv9, rd9, rd11 _ b, Memref.IsWhole.read_unread]
          rfl
        · change arg10.view.read (Elt F) _ = _
          first | delta body_of.sl.H10_1_1 | delta body_of.sl.H10_1
          simp only [wr10, cv10, rd10, Memref.IsWhole.read_unread]
          rfl
      simp only [final, steps, insOf, Memref.IsWhole.read_unread]
    isplitl [H11]; · iexact H11
    iexact H12
  · have h' := mt (cond2_iff i).mp h
    sl_exec (disch := first | sl_exact h')
    sl_step
    iapply Hk
    isplitl [H2 H3 H4 H5 H6 H7]
    · isplitl [H2]; · iexact H2
      isplitl [H3]; · iexact H3
      isplitl [H4]; · iexact H4
      isplitl [H5]; · iexact H5
      isplitl [H6]; · iexact H6
      iexact H7
    isplitl [H8]
    · refine pts_unread c arg8 harg8 _ _ ?_
      refine (loops_read arg8 harg8 arg9 harg9 arg10 harg10 _ _ _ _ _ _ _ (diag ⟨x2, x5, dl, ct⟩ x3 x4 (i 1).val ⟨s.dq, k0_pay68, k0_pay69⟩) ?hS _ _ _ _ (trips2 i) (trips4 i)).1.trans ?_
      case hS =>
        apply St.ext
        · change arg8.view.read (Elt F) _ = _
          simp only [wr8 _ a, rd8 _ a, rd11 _ b, View.writes_nil, Memref.IsWhole.read_unread]
          rfl
        · change arg9.view.read (Elt F) _ = _
          first | delta body_of.sl.H9_1_1 | delta body_of.sl.H9_1
          simp only [wr9, cv9, rd9, rd11 _ b, Memref.IsWhole.read_unread]
          rfl
        · change arg10.view.read (Elt F) _ = _
          first | delta body_of.sl.H10_1_1 | delta body_of.sl.H10_1
          simp only [wr10, cv10, rd10, Memref.IsWhole.read_unread]
          rfl
      simp only [final, steps, insOf, Memref.IsWhole.read_unread, h, if_true, if_false]
    isplitl [H9]
    · refine pts_unread c arg9 harg9 _ _ ((wr9 _ _ _).trans ?_)
      first | delta body_of.sl.v96 | delta body_of.sl.v96_1
      rw [rd9]
      refine (congrArg k0_pay81 (loops_read arg8 harg8 arg9 harg9 arg10 harg10 _ _ _ _ _ _ _ (diag ⟨x2, x5, dl, ct⟩ x3 x4 (i 1).val ⟨s.dq, k0_pay68, k0_pay69⟩) ?hS _ _ _ _ (trips2 i) (trips4 i)).2.1).trans ?_
      case hS =>
        apply St.ext
        · change arg8.view.read (Elt F) _ = _
          simp only [wr8 _ a, rd8 _ a, rd11 _ b, View.writes_nil, Memref.IsWhole.read_unread]
          rfl
        · change arg9.view.read (Elt F) _ = _
          first | delta body_of.sl.H9_1_1 | delta body_of.sl.H9_1
          simp only [wr9, cv9, rd9, rd11 _ b, Memref.IsWhole.read_unread]
          rfl
        · change arg10.view.read (Elt F) _ = _
          first | delta body_of.sl.H10_1_1 | delta body_of.sl.H10_1
          simp only [wr10, cv10, rd10, Memref.IsWhole.read_unread]
          rfl
      simp only [final, steps, insOf, Memref.IsWhole.read_unread]
    isplitl [H10]
    · refine pts_unread c arg10 harg10 _ _ ?_
      refine (loops_read arg8 harg8 arg9 harg9 arg10 harg10 _ _ _ _ _ _ _ (diag ⟨x2, x5, dl, ct⟩ x3 x4 (i 1).val ⟨s.dq, k0_pay68, k0_pay69⟩) ?hS _ _ _ _ (trips2 i) (trips4 i)).2.2.trans ?_
      case hS =>
        apply St.ext
        · change arg8.view.read (Elt F) _ = _
          simp only [wr8 _ a, rd8 _ a, rd11 _ b, View.writes_nil, Memref.IsWhole.read_unread]
          rfl
        · change arg9.view.read (Elt F) _ = _
          first | delta body_of.sl.H9_1_1 | delta body_of.sl.H9_1
          simp only [wr9, cv9, rd9, rd11 _ b, Memref.IsWhole.read_unread]
          rfl
        · change arg10.view.read (Elt F) _ = _
          first | delta body_of.sl.H10_1_1 | delta body_of.sl.H10_1
          simp only [wr10, cv10, rd10, Memref.IsWhole.read_unread]
          rfl
      simp only [final, steps, insOf, Memref.IsWhole.read_unread]
    isplitl [H11]; · iexact H11
    iexact H12

end parts
end Cert.FlashBwdIdeal.Flash

end
-- ==== Proof.FlashStage.lean ====
/- The arrays the first point of a head stages do not depend on what they held before: the sixteen blocks cover them. -/
module

public import proofs.«01_k».proof.Proof.FlashModel

@[expose] public section

set_option maxRecDepth 16384

noncomputable section

namespace Cert.FlashBwdIdeal.Flash

open Idealize.ShloMosaic Idealize.ShloMosaic.TcCoe
open Cert.FlashBwdIdeal.Gen

variable {F : FTy → Type} [FloatOps F] [Named F]

theorem put_congr {s : Shape} {α : Type} (off size : Fin s.rank → ℕ) (inb : ∀ a, off a + size a ≤ s.size a)
    (w : (⟨s.rank, size⟩ : Shape).Idx → α) (X X' : s.Idx → α) (y : s.Idx)
    (h : (∀ a, off a ≤ (y a).val ∧ (y a).val < off a + size a) ∨ X y = X' y) :
    put off size inb w X y = put off size inb w X' y := by
  unfold put
  split
  · rfl
  · rename_i hn; exact h.resolve_left hn

theorem stage_indep (o ct : Vec F S8192x128 .f32) (x x' : Vec F S8x8192 .f32 × Vec F S8192x128 .bf16) :
    ∀ m ≤ 16, (∀ y : S8x8192.Idx, (y 1).val < 512 * m → (stage o ct x m).1 y = (stage o ct x' m).1 y)
      ∧ ∀ y : S8192x128.Idx, (y 0).val < 512 * m → (stage o ct x m).2 y = (stage o ct x' m).2 y := by
  intro m
  induction m with
  | zero => exact fun _ => ⟨fun y h => absurd h (by omega), fun y h => absurd h (by omega)⟩
  | succ m ih =>
    intro hm
    obtain ⟨h1, h2⟩ := ih (by omega)
    have hb : blk m = 512 * m := by unfold blk; omega
    refine ⟨fun y hy => put_congr (s := S8x8192) ![0, blk m] ![8, 512] (inbE m) _ _ _ y ?_, fun y hy => put_congr (s := S8192x128) ![blk m, 0] ![512, 128] (inbB m) _ _ _ y ?_⟩
    · by_cases h : (y 1).val < 512 * m
      · exact .inr (h1 y h)
      · refine .inl fun a => ?_
        have h0 : (y 0).val < 8 := (y 0).isLt
        fin_cases a <;> simp [hb] <;> omega
    · by_cases h : (y 0).val < 512 * m
      · exact .inr (h2 y h)
      · refine .inl fun a => ?_
        have h0 : (y 1).val < 128 := (y 1).isLt
        fin_cases a <;> simp [hb] <;> omega

/-- Staged, whatever they held. -/
theorem stage_all (o ct : Vec F S8192x128 .f32) (x x' : Vec F S8x8192 .f32 × Vec F S8192x128 .bf16) : stage o ct x 16 = stage o ct x' 16 := by
  obtain ⟨h1, h2⟩ := stage_indep o ct x x' 16 le_rfl
  refine Prod.ext ?_ ?_
  · funext y; exact h1 y (by have h : (y 1).val < 8192 := (y 1).isLt; omega)
  · funext y; exact h2 y (by have h : (y 0).val < 8192 := (y 0).isLt; omega)

end Cert.FlashBwdIdeal.Flash

end
-- ==== Proof.FlashFrame.lean ====
/- The run of the attention backward, at any values: what every grid point leaves in the windows it writes and in the two
   scratch arrays it carries, the body's obligation, the run of the whole program and its frame. -/
module

public import proofs.«01_k».proof.Proof.FlashBody
public import proofs.«01_k».proof.Proof.FlashStage
public import proofs.«01_k».proof.Proof.Gen.FlashBwdIdeal.Frame
public import Idealize.ShloMosaic.Lib.Claim

@[expose] public section

set_option maxRecDepth 16384

noncomputable section

namespace Cert.FlashBwdIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FlashBwdIdeal.Gen

variable {F : FTy → Type} [FloatOps F] [Named F]

local notation "𝕄G" => MT nD τ sig Unit (Elt F) ℕ (UR sig nD τ) ℕ

/-! ## A memref at given values -/

theorem owns_pts (c : Dev nD) {s : Shape} {e : EltTy} (a : Memref sig .tc .vmem s e) (h : a.IsWhole) (X : s.Idx → Elt F e) :
    (owns (c : Thread nD τ) a fullShare X : sProp 𝕄G) ⊢ pts (F := F) c a (h.unread X) := by
  unfold owns
  iintro ⟨%f, %hf, H⟩
  refine pts_unread c a h f X hf

theorem pts_owns (c : Dev nD) {s : Shape} {e : EltTy} (a : Memref sig .tc .vmem s e) (h : a.IsWhole) (X : s.Idx → Elt F e) :
    pts (F := F) c a (h.unread X) ⊢ (owns (c : Thread nD τ) a fullShare X : sProp 𝕄G) := by
  unfold owns
  iintro H
  iexists _; isplitr
  swap; · iexact H
  ipureintro; exact h.read_unread X

variable (m : (ℓ : Loc nD τ sig) → Buf (Elt F) ℓ) (ρ : Dev nD → PrngReg)

/-! ## What the points leave -/

/-- The staged arrays of a head's first point, written over the given ones. -/
abbrev Staged (F : FTy → Type) := Vec F S8x8192 .f32 × Vec F S8192x128 .bf16

/-- Arrays to stage over: any will do. -/
def bare : Staged F := (fun _ => Scalar.ofBits .f32 0x00000000#32, fun _ => Scalar.ofBits .bf16 0x0000#16)

/-- What point `t` starts from: at a head's first point zeros and the arrays staged from the head's `o` and `do`; at another
    point what the point before left. -/
def start (c : Dev nD) (t : Fin cfg0.N) (prev : Vec F S8192x256 .f32 × Staged F) : Vec F S8192x256 .f32 × Staged F :=
  if t.val % 16 = 0 then (k0_pay64, stage (iblk m c 4 t) (iblk m c 5 t) bare 16) else prev

/-- What point `t` leaves, from what it starts from. -/
def leaves (c : Dev nD) (t : Fin cfg0.N) (p : Vec F S8192x256 .f32 × Staged F) : St F :=
  final ⟨iblk m c 0 t, iblk m c 3 t, p.2.1, p.2.2⟩ (iblk m c 1 t) (iblk m c 2 t) (t.val % 16) p.1

/-- What every point leaves. -/
def outs (c : Dev nD) : (n : ℕ) → n < cfg0.N → St F × Staged F
  | 0, h => (leaves m c ⟨0, h⟩ (start m c ⟨0, h⟩ (k0_pay64, bare)), (start m c ⟨0, h⟩ (k0_pay64, bare)).2)
  | n + 1, h =>
    (leaves m c ⟨n + 1, h⟩ (start m c ⟨n + 1, h⟩ ((outs c n (by omega)).1.dq, (outs c n (by omega)).2)),
      (start m c ⟨n + 1, h⟩ ((outs c n (by omega)).1.dq, (outs c n (by omega)).2)).2)

theorem outs_A (c : Dev nD) (t : Fin cfg0.N) (h : t.val % 16 = 0) :
    outs m c t.val t.isLt = (leaves m c t (k0_pay64, stage (iblk m c 4 t) (iblk m c 5 t) bare 16), stage (iblk m c 4 t) (iblk m c 5 t) bare 16) := by
  obtain ⟨n, hn⟩ := t
  cases n with
  | zero => show (leaves m c _ (start m c _ _), (start m c _ _).2) = _; unfold start; rw [if_pos h]
  | succ n => show (leaves m c _ (start m c _ _), (start m c _ _).2) = _; unfold start; rw [if_pos h]

theorem outs_B (c : Dev nD) (t : Fin cfg0.N) (h : ¬t.val % 16 = 0) :
    outs m c t.val t.isLt = (leaves m c t ((outs m c (t.val - 1) (by omega)).1.dq, (outs m c (t.val - 1) (by omega)).2), (outs m c (t.val - 1) (by omega)).2) := by
  obtain ⟨n, hn⟩ := t
  cases n with
  | zero => exact absurd (Nat.zero_mod _) h
  | succ n => show (leaves m c _ (start m c _ _), (start m c _ _).2) = _; unfold start; rw [if_neg h]; rfl

/-! ## The invariant and the proof data -/

abbrev sc0 : Memref sig .tc .vmem S8x8192 .f32 := Memref.whole cc0_scratch0
abbrev sc1 : Memref sig .tc .vmem S8192x128 .bf16 := Memref.whole cc0_scratch1

theorem PhiA_eq (c : Dev nD) :
    (Pipeline.ΦA spec0 c : sProp 𝕄G)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- Before the first point the scratch arrays hold anything, afterwards what the point before left. -/
def PhiS (c : Dev nD) : (n : ℕ) → n ≤ cfg0.N → sProp 𝕄G
  | 0, _ => Pipeline.ΦA spec0 c
  | n + 1, hn => iprop(iprop(owns (c : Thread nD τ) sc0 fullShare (outs m c n hn).2.1 ∗ owns (c : Thread nD τ) sc1 fullShare (outs m c n hn).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) sc0 fullShare (outs m c n hn).2.1 ∗ owns (c : Thread nD τ) sc1 fullShare (outs m c n hn).2.2) ∗ (∃ r, prngReg c r)) := rfl

theorem PhiS_pos (c : Dev nD) (n : ℕ) (h : n ≤ cfg0.N) (hz : n ≠ 0) :
    PhiS m c n h = iprop(iprop(owns (c : Thread nD τ) sc0 fullShare (outs m c (n - 1) (by omega)).2.1
      ∗ owns (c : Thread nD τ) sc1 fullShare (outs m c (n - 1) (by omega)).2.2) ∗ (∃ r, prngReg c r)) := by
  cases n with
  | zero => exact absurd rfl hz
  | succ n => rfl

/-- The invariant gives both arrays at some contents. -/
theorem PhiS_any (c : Dev nD) (n : ℕ) (h : n ≤ cfg0.N) :
    PhiS m c n h ⊢ iprop(iprop((∃ d, owns (c : Thread nD τ) sc0 fullShare d) ∗ (∃ d, owns (c : Thread nD τ) sc1 fullShare d)) ∗ (∃ r, prngReg c r)) := by
  by_cases hz : n = 0
  · rw [PhiS_zero m c n h hz, PhiA_eq]
  · rw [PhiS_pos m c n h hz]
    iintro ⟨⟨H0, H1⟩, Hg⟩
    isplitl [H0 H1]
    · isplitl [H0]; · iexists _; iexact H0
      iexists _; iexact H1
    iexact Hg

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outs m c t.val t.isLt).1.dq
    | ⟨7, _⟩ => (outs m c t.val t.isLt).1.dk
    | ⟨8, _⟩ => (outs m c t.val t.isLt).1.dv
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (outs m c t.val t.isLt).1.dq := by dsimp only [dats]
theorem after_7 (c : Dev nD) (t : Fin cfg0.N) : (dats m 0 c).after 7 t = (outs m c t.val t.isLt).1.dk := by dsimp only [dats]
theorem after_8 (c : Dev nD) (t : Fin cfg0.N) : (dats m 0 c).after 8 t = (outs m c t.val t.isLt).1.dv := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- Within a head the gradient of the queries stays where the point before left it. -/
theorem before_6 (c : Dev nD) (t : Fin cfg0.N) (h : ¬t.val % 16 = 0) (d) :
    (dats m 0 c).before 6 t d = (outs m c (t.val - 1) (by omega)).1.dq := by
  have hz : t.val ≠ 0 := fun h0 => h (by rw [h0])
  refine ((dats m 0 c).before_out_kept 6 rfl t hz ?_ (fun _ => rfl) (fun _ _ => rfl) d).trans (after_6 m c _)
  refine Bool.eq_false_iff.mpr fun hf => ?_
  have := (flush0_6 ⟨t.val - 1, Nat.lt_of_le_of_lt (Nat.sub_le _ _) t.isLt⟩).mp hf
  dsimp only at this; omega

/-! ## The body obligation -/

abbrev mr0 (t : Fin cfg0.N) := win0_0.stage (cfg0.slots t 0)
abbrev mr1 (t : Fin cfg0.N) := win0_1.stage (cfg0.slots t 1)
abbrev mr2 (t : Fin cfg0.N) := win0_2.stage (cfg0.slots t 2)
abbrev mr3 (t : Fin cfg0.N) := win0_3.stage (cfg0.slots t 3)
abbrev mr4 (t : Fin cfg0.N) := win0_4.stage (cfg0.slots t 4)
abbrev mr5 (t : Fin cfg0.N) := win0_5.stage (cfg0.slots t 5)
abbrev mr6 (t : Fin cfg0.N) := win0_6.stage (cfg0.slots t 6)
abbrev mr7 (t : Fin cfg0.N) := win0_7.stage (cfg0.slots t 7)
abbrev mr8 (t : Fin cfg0.N) := win0_8.stage (cfg0.slots t 8)

theorem cond1_iff : ∀ t : Fin cfg0.N, k0_cond1 (grid0.coords t) = 1#1 ↔ t.val % 16 = 0 :=
  (by decide +kernel : ∀ t : Fin grid0.N, k0_cond1 (grid0.coords t) = 1#1 ↔ t.val % 16 = 0)

theorem coord1 : ∀ t : Fin cfg0.N, ((grid0.coords t) 1).val = t.val % 16 :=
  (by decide +kernel : ∀ t : Fin grid0.N, ((grid0.coords t) 1).val = t.val % 16)

def bodyPre (c : Dev nD) (t : Fin cfg0.N) : sProp 𝕄G :=
  iprop((dats m 0 c).Φ t.castSucc ∗ (dats m 0 c).owesAt () t.castSucc
    ∗ (∃ d, owns (c : Thread nD τ) (mr0 t) fullShare ((dats m 0 c).before 0 t d))
    ∗ (∃ d, owns (c : Thread nD τ) (mr1 t) fullShare ((dats m 0 c).before 1 t d))
    ∗ (∃ d, owns (c : Thread nD τ) (mr2 t) fullShare ((dats m 0 c).before 2 t d))
    ∗ (∃ d, owns (c : Thread nD τ) (mr3 t) fullShare ((dats m 0 c).before 3 t d))
    ∗ (∃ d, owns (c : Thread nD τ) (mr4 t) fullShare ((dats m 0 c).before 4 t d))
    ∗ (∃ d, owns (c : Thread nD τ) (mr5 t) fullShare ((dats m 0 c).before 5 t d))
    ∗ (∃ d, owns (c : Thread nD τ) (mr6 t) fullShare ((dats m 0 c).before 6 t d))
    ∗ (∃ d, owns (c : Thread nD τ) (mr7 t) fullShare ((dats m 0 c).before 7 t d))
    ∗ (∃ d, owns (c : Thread nD τ) (mr8 t) fullShare ((dats m 0 c).before 8 t d)))

def bodyPost (c : Dev nD) (t : Fin cfg0.N) : sProp 𝕄G :=
  iprop((dats m 0 c).Φ t.succ ∗ (dats m 0 c).owesAt () t.succ
    ∗ owns (c : Thread nD τ) (mr0 t) fullShare ((dats m 0 c).after 0 t)
    ∗ owns (c : Thread nD τ) (mr1 t) fullShare ((dats m 0 c).after 1 t)
    ∗ owns (c : Thread nD τ) (mr2 t) fullShare ((dats m 0 c).after 2 t)
    ∗ owns (c : Thread nD τ) (mr3 t) fullShare ((dats m 0 c).after 3 t)
    ∗ owns (c : Thread nD τ) (mr4 t) fullShare ((dats m 0 c).after 4 t)
    ∗ owns (c : Thread nD τ) (mr5 t) fullShare ((dats m 0 c).after 5 t)
    ∗ owns (c : Thread nD τ) (mr6 t) fullShare ((dats m 0 c).after 6 t)
    ∗ owns (c : Thread nD τ) (mr7 t) fullShare ((dats m 0 c).after 7 t)
    ∗ owns (c : Thread nD τ) (mr8 t) fullShare ((dats m 0 c).after 8 t))

section point

variable (c : Dev nD) (i : grid0.Coords)
  (arg2 : Memref sig .tc .vmem S8192x256 .bf16) (harg2 : arg2.IsWhole) (arg3 : Memref sig .tc .vmem S512x256 .bf16) (harg3 : arg3.IsWhole)
  (arg4 : Memref sig .tc .vmem S512x128 .bf16) (harg4 : arg4.IsWhole) (arg5 : Memref sig .tc .vmem S1x8x8192 .f32) (harg5 : arg5.IsWhole)
  (arg6 : Memref sig .tc .vmem S8192x128 .f32) (harg6 : arg6.IsWhole) (arg7 : Memref sig .tc .vmem S8192x128 .f32) (harg7 : arg7.IsWhole)
  (arg8 : Memref sig .tc .vmem S8192x256 .f32) (harg8 : arg8.IsWhole) (arg9 : Memref sig .tc .vmem S512x256 .f32) (harg9 : arg9.IsWhole)
  (arg10 : Memref sig .tc .vmem S512x128 .f32) (harg10 : arg10.IsWhole) (arg11 : Memref sig .tc .vmem S8x8192 .f32) (harg11 : arg11.IsWhole)
  (arg12 : Memref sig .tc .vmem S8192x128 .bf16) (harg12 : arg12.IsWhole)
  (x2 : Vec F S8192x256 .bf16) (x3 : Vec F S512x256 .bf16) (x4 : Vec F S512x128 .bf16) (x5 : Vec F S1x8x8192 .f32) (x6 x7 : Vec F S8192x128 .f32)

/-- The memrefs of a point at given values. -/
def at_ (s : St F) (g : Staged F) : sProp 𝕄G :=
  iprop(owns (c : Thread nD τ) arg2 fullShare x2 ∗ owns (c : Thread nD τ) arg3 fullShare x3 ∗ owns (c : Thread nD τ) arg4 fullShare x4
    ∗ owns (c : Thread nD τ) arg5 fullShare x5 ∗ owns (c : Thread nD τ) arg6 fullShare x6 ∗ owns (c : Thread nD τ) arg7 fullShare x7
    ∗ owns (c : Thread nD τ) arg8 fullShare s.dq ∗ owns (c : Thread nD τ) arg9 fullShare s.dk ∗ owns (c : Thread nD τ) arg10 fullShare s.dv
    ∗ owns (c : Thread nD τ) arg11 fullShare g.1 ∗ owns (c : Thread nD τ) arg12 fullShare g.2)

theorem at_held (s : St F) (g : Staged F) :
    at_ c arg2 arg3 arg4 arg5 arg6 arg7 arg8 arg9 arg10 arg11 arg12 x2 x3 x4 x5 x6 x7 s g
      ⊢ iprop(held c arg2 harg2 arg3 harg3 arg4 harg4 arg5 harg5 arg6 harg6 arg7 harg7 x2 x3 x4 x5 x6 x7
          ∗ kept c arg8 harg8 arg9 harg9 arg10 harg10 arg11 harg11 arg12 harg12 s g.1 g.2) := by
  unfold at_ held kept
  iintro ⟨H2, H3, H4, H5, H6, H7, H8, H9, H10, H11, H12⟩
  isplitl [H2 H3 H4 H5 H6 H7]
  · isplitl [H2]; · iapply (owns_pts c arg2 harg2 x2); iexact H2
    isplitl [H3]; · iapply (owns_pts c arg3 harg3 x3); iexact H3
    isplitl [H4]; · iapply (owns_pts c arg4 harg4 x4); iexact H4
    isplitl [H5]; · iapply (owns_pts c arg5 harg5 x5); iexact H5
    isplitl [H6]; · iapply (owns_pts c arg6 harg6 x6); iexact H6
    iapply (owns_pts c arg7 harg7 x7); iexact H7
  isplitl [H8]; · iapply (owns_pts c arg8 harg8 s.dq); iexact H8
  isplitl [H9]; · iapply (owns_pts c arg9 harg9 s.dk); iexact H9
  isplitl [H10]; · iapply (owns_pts c arg10 harg10 s.dv); iexact H10
  isplitl [H11]; · iapply (owns_pts c arg11 harg11 g.1); iexact H11
  iapply (owns_pts c arg12 harg12 g.2); iexact H12

theorem held_at (s : St F) (g : Staged F) :
    iprop(held c arg2 harg2 arg3 harg3 arg4 harg4 arg5 harg5 arg6 harg6 arg7 harg7 x2 x3 x4 x5 x6 x7
          ∗ kept c arg8 harg8 arg9 harg9 arg10 harg10 arg11 harg11 arg12 harg12 s g.1 g.2)
      ⊢ at_ c arg2 arg3 arg4 arg5 arg6 arg7 arg8 arg9 arg10 arg11 arg12 x2 x3 x4 x5 x6 x7 s g := by
  unfold at_ held kept
  iintro ⟨⟨H2, H3, H4, H5, H6, H7⟩, ⟨H8, H9, H10, H11, H12⟩⟩
  isplitl [H2]; · iapply (pts_owns c arg2 harg2 x2); iexact H2
  isplitl [H3]; · iapply (pts_owns c arg3 harg3 x3); iexact H3
  isplitl [H4]; · iapply (pts_owns c arg4 harg4 x4); iexact H4
  isplitl [H5]; · iapply (pts_owns c arg5 harg5 x5); iexact H5
  isplitl [H6]; · iapply (pts_owns c arg6 harg6 x6); iexact H6
  isplitl [H7]; · iapply (pts_owns c arg7 harg7 x7); iexact H7
  isplitl [H8]; · iapply (pts_owns c arg8 harg8 s.dq); iexact H8
  isplitl [H9]; · iapply (pts_owns c arg9 harg9 s.dk); iexact H9
  isplitl [H10]; · iapply (pts_owns c arg10 harg10 s.dv); iexact H10
  isplitl [H11]; · iapply (pts_owns c arg11 harg11 g.1); iexact H11
  iapply (pts_owns c arg12 harg12 g.2); iexact H12

theorem point_A (h : k0_cond1 i = 1#1) (s : St F) (g : Staged F) (K : PUnit → sProp 𝕄G) :
    iprop(at_ c arg2 arg3 arg4 arg5 arg6 arg7 arg8 arg9 arg10 arg11 arg12 x2 x3 x4 x5 x6 x7 s g
      ∗ (at_ c arg2 arg3 arg4 arg5 arg6 arg7 arg8 arg9 arg10 arg11 arg12 x2 x3 x4 x5 x6 x7
          (final ⟨x2, x5, (stage x6 x7 g 16).1, (stage x6 x7 g 16).2⟩ x3 x4 (i 1).val k0_pay64) (stage x6 x7 g 16) -∗ K ⟨⟩))
      ⊢ wp frame (wpE (defs₀ (F := F)) Variants.none (c : Thread nD τ) none) Set.univ (cc0_flash_bwd (F := F) i arg2 harg2 arg3 harg3 arg4 harg4 arg5 harg5 arg6 harg6 arg7 harg7 arg8 harg8 arg9 harg9 arg10 harg10 arg11 harg11 arg12 harg12) K := by
  refine BIBase.Entails.trans ?_ (body_of c i arg2 harg2 arg3 harg3 arg4 harg4 arg5 harg5 arg6 harg6 arg7 harg7 arg8 harg8 arg9 harg9 arg10 harg10 arg11 harg11 arg12 harg12
    x2 x3 x4 x5 x6 x7 ⟨k0_pay64, k0_pay68, k0_pay69⟩ (stage x6 x7 g 16).1 (stage x6 x7 g 16).2 _ Set.univ
    (part13_A c i arg2 harg2 arg3 harg3 arg4 harg4 arg5 harg5 arg6 harg6 arg7 harg7 arg8 harg8 arg9 harg9 arg10 harg10 arg11 harg11 arg12 harg12 x2 x3 x4 x5 x6 x7 s g.1 g.2 h Set.univ) K)
  iintro ⟨H, Hk⟩
  isplitl [H]
  · iapply (at_held c arg2 harg2 arg3 harg3 arg4 harg4 arg5 harg5 arg6 harg6 arg7 harg7 arg8 harg8 arg9 harg9 arg10 harg10 arg11 harg11 arg12 harg12 x2 x3 x4 x5 x6 x7 s g); iexact H
  iintro H
  iapply Hk
  iapply (held_at c arg2 harg2 arg3 harg3 arg4 harg4 arg5 harg5 arg6 harg6 arg7 harg7 arg8 harg8 arg9 harg9 arg10 harg10 arg11 harg11 arg12 harg12 x2 x3 x4 x5 x6 x7 _ (stage x6 x7 g 16)); iexact H

theorem point_B (h : ¬k0_cond1 i = 1#1) (s : St F) (g : Staged F) (K : PUnit → sProp 𝕄G) :
    iprop(at_ c arg2 arg3 arg4 arg5 arg6 arg7 arg8 arg9 arg10 arg11 arg12 x2 x3 x4 x5 x6 x7 s g
      ∗ (at_ c arg2 arg3 arg4 arg5 arg6 arg7 arg8 arg9 arg10 arg11 arg12 x2 x3 x4 x5 x6 x7
          (final ⟨x2, x5, g.1, g.2⟩ x3 x4 (i 1).val s.dq) g -∗ K ⟨⟩))
      ⊢ wp frame (wpE (defs₀ (F := F)) Variants.none (c : Thread nD τ) none) Set.univ (cc0_flash_bwd (F := F) i arg2 harg2 arg3 harg3 arg4 harg4 arg5 harg5 arg6 harg6 arg7 harg7 arg8 harg8 arg9 harg9 arg10 harg10 arg11 harg11 arg12 harg12) K := by
  refine BIBase.Entails.trans ?_ (body_of c i arg2 harg2 arg3 harg3 arg4 harg4 arg5 harg5 arg6 harg6 arg7 harg7 arg8 harg8 arg9 harg9 arg10 harg10 arg11 harg11 arg12 harg12
    x2 x3 x4 x5 x6 x7 s g.1 g.2 _ Set.univ
    (part13_B c i arg2 harg2 arg3 harg3 arg4 harg4 arg5 harg5 arg6 harg6 arg7 harg7 arg8 harg8 arg9 harg9 arg10 harg10 arg11 harg11 arg12 harg12 x2 x3 x4 x5 x6 x7 s g.1 g.2 h Set.univ) K)
  iintro ⟨H, Hk⟩
  isplitl [H]
  · iapply (at_held c arg2 harg2 arg3 harg3 arg4 harg4 arg5 harg5 arg6 harg6 arg7 harg7 arg8 harg8 arg9 harg9 arg10 harg10 arg11 harg11 arg12 harg12 x2 x3 x4 x5 x6 x7 s g); iexact H
  iintro H
  iapply Hk
  iapply (held_at c arg2 harg2 arg3 harg3 arg4 harg4 arg5 harg5 arg6 harg6 arg7 harg7 arg8 harg8 arg9 harg9 arg10 harg10 arg11 harg11 arg12 harg12 x2 x3 x4 x5 x6 x7 _ g); iexact H

end point

/-- A point's memrefs, at given values. -/
abbrev atT (c : Dev nD) (t : Fin cfg0.N) (s : St F) (g : Staged F) : sProp 𝕄G :=
  at_ c (mr0 t) (mr1 t) (mr2 t) (mr3 t) (mr4 t) (mr5 t) (mr6 t) (mr7 t) (mr8 t) sc0 sc1
    (iblk m c 0 t) (iblk m c 1 t) (iblk m c 2 t) (iblk m c 3 t) (iblk m c 4 t) (iblk m c 5 t) s g

theorem sound_point (c : Dev nD) (t : Fin cfg0.N) (s : St F) (g : Staged F)
    (h : t.val % 16 = 0 ∨ (¬t.val % 16 = 0 ∧ s.dq = (outs m c (t.val - 1) (by omega)).1.dq ∧ g = (outs m c (t.val - 1) (by omega)).2))
    (K : PUnit → sProp 𝕄G) :
    iprop(atT m c t s g ∗ (atT m c t (outs m c t.val t.isLt).1 (outs m c t.val t.isLt).2 -∗ K ⟨⟩))
      ⊢ wp frame (wpE (defs₀ (F := F)) Variants.none (c : Thread nD τ) none) Set.univ (bodyAt0 t) K := by
  unfold bodyAt0 atT
  rcases h with h | ⟨h, hd, hg⟩
  · rw [outs_A m c t h]
    unfold leaves
    rw [stage_all (iblk m c 4 t) (iblk m c 5 t) bare g, ← coord1 t]
    exact point_A c (grid0.coords t) _ _ _ _ _ _ _ _ _ _ _ _ _ _ _ _ _ _ _ _ _ _ _ _ _ _ _ _ ((cond1_iff t).mpr h) s g K
  · rw [outs_B m c t h, ← hg, ← hd]
    unfold leaves
    rw [← coord1 t]
    exact point_B c (grid0.coords t) _ _ _ _ _ _ _ _ _ _ _ _ _ _ _ _ _ _ _ _ _ _ _ _ _ _ _ _ (fun h' => h ((cond1_iff t).mp h')) s g K

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5]
  rw [show (dats m 0 c).owesAt () t.succ = (dats m 0 c).owesAt () t.castSucc from rfl,
    after_0, after_1, after_2, after_3, after_4, after_5, after_6, after_7, after_8]
  rw [show (dats m 0 c).Φ t.succ = PhiS m c (t.val + 1) t.isLt from rfl, PhiS_succ, PhiS_castSucc]
  by_cases h : t.val % 16 = 0
  · iintro ⟨Hφ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave ⟨⟨⟨%g0, HS0⟩, ⟨%g1, HS1⟩⟩, Hg⟩ := (PhiS_any m c t.val (Nat.le_of_lt t.isLt)) $$ Hφ
    iapply (sound_point m c t ⟨_, _, _⟩ (g0, g1) (.inl h))
    unfold atT at_
    isplitl [H0 H1 H2 H3 H4 H5 H6 H7 H8 HS0 HS1]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      iexact HS1
    iintro ⟨H0, H1, H2, H3, H4, H5, H6, H7, H8, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hz : t.val ≠ 0 := fun h0 => h (by rw [h0])
    simp only [before_6 m c t h]
    rw [PhiS_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_point m c t ⟨(outs m c (t.val - 1) (by omega)).1.dq, (dats m 0 c).before 7 t d7, (dats m 0 c).before 8 t d8⟩ (outs m c (t.val - 1) (by omega)).2 (.inr ⟨h, rfl, rfl⟩))
    unfold atT at_
    isplitl [H0 H1 H2 H3 H4 H5 H6 H7 H8 HS0 HS1]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      iexact HS1
    iintro ⟨H0, H1, H2, H3, H4, H5, H6, H7, H8, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [show (dats m 0 c).Φ (Fin.last cfg0.N) = PhiS m c cfg0.N le_rfl from rfl, PhiA_eq]
  exact PhiS_any m c cfg0.N le_rfl

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The program ends, with its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.FlashBwdIdeal.Flash

end
-- ==== Proof.FlashBits.lean ====
/- The attention backward on words: with each named constant read as its word, the program of the run is this one. -/
module

public import proofs.«01_k».proof.Defs
public import proofs.«01_k».proof.Proof.FlashFrame
public import proofs.«01_k».proof.Proof.Gen.FlashBwd

@[expose] public section

set_option maxRecDepth 16384

noncomputable section

namespace Cert.FlashBwdIdeal.Flash

open Idealize.ShloMosaic Idealize.ShloMosaic.TcCoe Idealize.ShloMosaic.Tactic
open Idealize.SL Idealize.SL.Sem

/-- A named constant at its word. -/
abbrev words : Named Bits where
  named _ _ {φ} b := Scalar.ofBits φ b

attribute [local instance] words

set_option maxHeartbeats 4000000 in
theorem frame_bits : Cert.quiescent_FlashBwd := fun m ρ _ => by
  have h := frame (F := Bits) m ρ
  refine cast ?_ h
  sl_kernel_rfl

end Cert.FlashBwdIdeal.Flash

end
-- ==== Proof.FlashReal.lean ====
/- Causal attention of one head and its derivative over the real numbers: the weights, the output, and the three gradients.
   The facts below are the ones two programs need to meet: the weights do not depend on the number subtracted from a row's scores,
   a weight is a power of two, and the row sum the backward pass subtracts is the output times its cotangent. -/
module

public import Idealize.ShloMosaic.PureOps.Ideal
public import Mathlib.Analysis.SpecialFunctions.Pow.Real

@[expose] public section

noncomputable section

namespace Cert.FlashBwdIdeal.Flash

/-- One head's queries, keys, values and the cotangent of its output. -/
structure Head where
  q : Fin 8192 → Fin 192 → ℝ
  k : Fin 8192 → Fin 192 → ℝ
  v : Fin 8192 → Fin 128 → ℝ
  g : Fin 8192 → Fin 128 → ℝ

namespace Head

variable (H : Head)

/-- The scale of the scores. -/
def c : ℝ := (Real.sqrt 192)⁻¹

/-- A query row times a key row. -/
def dot (i j : Fin 8192) : ℝ := ∑ d, H.q i d * H.k j d

/-- The exponential of a score above what is subtracted from its row; nothing past the diagonal. -/
def e (M : ℝ) (i j : Fin 8192) : ℝ := if j ≤ i then Real.exp (H.dot i j * c - M) else 0

/-- A row's sum of exponentials. -/
def sum (M : ℝ) (i : Fin 8192) : ℝ := ∑ j, H.e M i j

/-- The weights. -/
def p (i j : Fin 8192) : ℝ := H.e 0 i j / H.sum 0 i

/-- The output. -/
def o (i : Fin 8192) (d : Fin 128) : ℝ := ∑ j, H.v j d * H.p i j

/-- The weights' cotangent. -/
def dp (i j : Fin 8192) : ℝ := ∑ d, H.g i d * H.v j d

/-- A row's weights times their cotangent. -/
def delta (i : Fin 8192) : ℝ := ∑ j, H.p i j * H.dp i j

/-- The scores' cotangent. -/
def ds (i j : Fin 8192) : ℝ := H.p i j * (H.dp i j - H.delta i)

/-- The queries' gradient. -/
def dq (i : Fin 8192) (d : Fin 192) : ℝ := (∑ j, H.ds i j * H.k j d) * c

/-- The keys' gradient. -/
def dk (j : Fin 8192) (d : Fin 192) : ℝ := (∑ i, H.ds i j * H.q i d) * c

/-- The values' gradient. -/
def dv (j : Fin 8192) (d : Fin 128) : ℝ := ∑ i, H.p i j * H.g i d

theorem e_nonneg (M : ℝ) (i j : Fin 8192) : 0 ≤ H.e M i j := by
  unfold e; split
  · exact (Real.exp_pos _).le
  · exact le_rfl

/-- A row's own key is never masked, so its sum is positive. -/
theorem sum_pos (M : ℝ) (i : Fin 8192) : 0 < H.sum M i := by
  refine Finset.sum_pos' (fun j _ => H.e_nonneg M i j) ⟨i, Finset.mem_univ _, ?_⟩
  unfold e; rw [if_pos le_rfl]; exact Real.exp_pos _

theorem e_shift (M : ℝ) (i j : Fin 8192) : H.e M i j = H.e 0 i j * Real.exp (-M) := by
  unfold e; split
  · rw [← Real.exp_add]; congr 1; ring
  · rw [zero_mul]

theorem sum_shift (M : ℝ) (i : Fin 8192) : H.sum M i = H.sum 0 i * Real.exp (-M) := by
  unfold sum; rw [Finset.sum_mul]; exact Finset.sum_congr rfl fun j _ => H.e_shift M i j

/-- The weights are the same whatever is subtracted from a row. -/
theorem e_div_sum (M : ℝ) (i j : Fin 8192) : H.e M i j / H.sum M i = H.p i j := by
  rw [e_shift, sum_shift, mul_div_mul_right _ _ (Real.exp_pos _).ne']; rfl

/-- So is the logarithm of a row's sum, once what was subtracted is added again. -/
theorem log_sum (M : ℝ) (i : Fin 8192) : M + Real.log (H.sum M i) = Real.log (H.sum 0 i) := by
  rw [sum_shift, Real.log_mul (H.sum_pos 0 i).ne' (Real.exp_pos _).ne', Real.log_exp]; ring

theorem p_masked (i j : Fin 8192) (h : ¬ j ≤ i) : H.p i j = 0 := by
  unfold p e; rw [if_neg h, zero_div]

/-- A weight as a power of two, from the row's sum's logarithm to base two. -/
theorem p_pow (i j : Fin 8192) (h : j ≤ i) :
    Real.rpow 2 (H.dot i j * (Real.sqrt 192 * Real.log 2)⁻¹ - Real.log (H.sum 0 i) / Real.log 2) = H.p i j := by
  have l2 : Real.log 2 ≠ 0 := (Real.log_pos (by norm_num)).ne'
  have hx : Real.log 2 * (H.dot i j * (Real.sqrt 192 * Real.log 2)⁻¹ - Real.log (H.sum 0 i) / Real.log 2)
      = (H.dot i j * c - 0) - Real.log (H.sum 0 i) := by
    unfold c; rw [mul_inv]; field_simp; ring
  show (2 : ℝ) ^ (_ : ℝ) = _
  rw [Real.rpow_def_of_pos (by norm_num), hx, Real.exp_sub, Real.exp_log (H.sum_pos 0 i)]
  unfold p e; rw [if_pos h]

/-- The output times its cotangent is the weights times theirs. -/
theorem sum_g_o (i : Fin 8192) : ∑ d, H.g i d * H.o i d = H.delta i := by
  unfold o delta dp
  simp only [Finset.mul_sum]
  rw [Finset.sum_comm]
  exact Finset.sum_congr rfl fun j _ => Finset.sum_congr rfl fun d _ => by ring

/-- The scores' cotangent as the derivative of a quotient spells it. -/
theorem ds_quot (M : ℝ) (i j : Fin 8192) :
    (H.dp i j / H.sum M i + -∑ l, H.dp i l * (1 / (H.sum M i * H.sum M i)) * H.e M i l) * H.e M i j = H.ds i j := by
  have hs := (H.sum_pos M i).ne'
  have h1 : ∑ l, H.dp i l * (1 / (H.sum M i * H.sum M i)) * H.e M i l = H.delta i / H.sum M i := by
    unfold delta; rw [Finset.sum_div]
    refine Finset.sum_congr rfl fun l _ => ?_
    rw [← H.e_div_sum M]; field_simp
  rw [h1]; unfold ds; rw [← H.e_div_sum M]; field_simp; ring

theorem ds_masked (i j : Fin 8192) (h : ¬ j ≤ i) : H.ds i j = 0 := by
  unfold ds; rw [H.p_masked i j h, zero_mul]

end Head

end Cert.FlashBwdIdeal.Flash
-- ==== Proof.FlashPay.lean ====
/- What the values of one step are on blocks of real numbers. A 512 x 512 tile has the point's keys as rows and queries as columns. -/
module

public import proofs.«01_k».proof.Proof.Gen.FlashBwdIdeal.Skeleton
public import proofs.«01_k».proof.Proof.FlashReal
public import Idealize.ShloMosaic.Lib.Pointwise

@[expose] public section

set_option maxRecDepth 16384

noncomputable section

namespace Cert.FlashBwdIdeal.Flash

open Cert.FlashBwdIdeal Cert.FlashBwdIdeal.Gen Idealize.ShloMosaic

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A block of real numbers. -/
def re {r c : ℕ} (f : Fin r → Fin c → ℝ) : (⟨2, ![r, c]⟩ : Shape).Idx → EReal := fun i => ((f (i 0) (i 1) : ℝ) : EReal)
/-- A row of real numbers in a block with two leading axes of one. -/
def row3 {c : ℕ} (f : Fin c → ℝ) : (⟨3, ![1, 1, c]⟩ : Shape).Idx → EReal := fun i => ((f (i 2) : ℝ) : EReal)
/-- A row of real numbers. -/
def row2 {c : ℕ} (f : Fin c → ℝ) : (⟨2, ![1, c]⟩ : Shape).Idx → EReal := fun i => ((f (i 1) : ℝ) : EReal)

/-- The factor of the exponents. -/
def c2 : ℝ := (Real.sqrt 192 * Real.log 2)⁻¹

theorem named_exp2 : (Named.named (F := Ideal) κ "exp2" 0x3DD53B95#32 : Ideal .f32) = ((c2 : ℝ) : EReal) := rfl
theorem named_scale : (Named.named (F := Ideal) κ "scale" 0x3D93CD3A#32 : Ideal .f32) = ((Head.c : ℝ) : EReal) := rfl
theorem named_mask : (Named.named (F := Ideal) κ "mask" 0xF149F2CA#32 : Ideal .f32) = (⊥ : EReal) := rfl

/-- The tile of powers of two. -/
def pT (K Q : Fin 512 → Fin 256 → ℝ) (l : Fin 512 → ℝ) (b a : Fin 512) : ℝ := Real.rpow 2 ((∑ d, K b d * Q a d) * c2 - l a)
/-- The tile on the diagonal: nothing where the key comes after the query. -/
def pD (K Q : Fin 512 → Fin 256 → ℝ) (l : Fin 512 → ℝ) (b a : Fin 512) : ℝ := if b ≤ a then pT K Q l b a else 0
/-- The weights' cotangent. -/
def gT (V G : Fin 512 → Fin 128 → ℝ) (b a : Fin 512) : ℝ := ∑ d, V b d * G a d
/-- The scores' cotangent from a tile of weights. -/
def sT (P : Fin 512 → Fin 512 → ℝ) (V G : Fin 512 → Fin 128 → ℝ) (δ : Fin 512 → ℝ) (b a : Fin 512) : ℝ := P b a * (gT V G b a - δ a)

variable (K Q dk : Fin 512 → Fin 256 → ℝ) (V G dv : Fin 512 → Fin 128 → ℝ) (l δ : Fin 512 → ℝ)

theorem exp2_coe (x : ℝ) : FloatOps.exp2 (F := Ideal) (φ := .f32) ((x : ℝ) : EReal) = ((Real.rpow 2 x : ℝ) : EReal) := rfl
theorem exp2_bot : FloatOps.exp2 (F := Ideal) (φ := .f32) (⊥ : EReal) = (0 : EReal) := rfl

theorem toInt_small (a : ℕ) (h : a < 2 ^ 31) : (BitVec.ofNat 32 a).toInt = a := by
  rw [BitVec.toInt_eq_toNat_cond, BitVec.toNat_ofNat]
  have : a % 2 ^ 32 = a := Nat.mod_eq_of_lt (by omega)
  rw [this, if_pos (by omega)]

/-- A comparison of two small positions. -/
theorem sle_eq (b a : ℕ) (hb : b < 2 ^ 31) (ha : a < 2 ^ 31) :
    IntOp.cmpi .sle (BitVec.ofNat 32 b) (BitVec.ofNat 32 a) = if b ≤ a then 1#1 else 0#1 := by
  by_cases h : b ≤ a
  · rw [if_pos h]; simp [IntOp.cmpi, BitVec.sle, toInt_small _ hb, toInt_small _ ha, h]
  · rw [if_neg h]; simp [IntOp.cmpi, BitVec.sle, toInt_small _ hb, toInt_small _ ha, h]

theorem select_one {α : Type} (x y : α) : Scalar.select (1#1) x y = x := rfl
theorem select_zero {α : Type} (x y : α) : Scalar.select (0#1) x y = y := rfl

theorem lane_word : Ideal.ofBits .f32 0x3C000000#32 = ((1 / 128 : ℝ) : EReal) := by
  simp [Ideal.ofBits, Ideal.ieee, -EReal.coe_mul]; norm_num

theorem pay3_re : k0_pay3 (F := Ideal) (re K) (re Q) (row3 l) = re (pT K Q l) := by
  funext i; idx_vars i
  unfold k0_pay3 k0_pay2
  pointwise [re, row3, named_exp2]
  simp only [← EReal.coe_mul, ← EReal.coe_sub, coe_sum, exp2_coe, pT]

theorem pay4_re : k0_pay4 (F := Ideal) (re K) (re V) (re Q) (re G) (row3 l) (row2 δ) = re (sT (pT K Q l) V G δ) := by
  unfold k0_pay4; rw [pay3_re]
  funext i; idx_vars i
  pointwise [re, row2]
  simp only [← EReal.coe_mul, ← EReal.coe_sub, coe_sum, sT, gT]

theorem pay5_re : k0_pay5 (F := Ideal) (re K) (re Q) (re G) (row3 l) (re dv) = re (fun b d => dv b d + ∑ a, pT K Q l b a * G a d) := by
  unfold k0_pay5; rw [pay3_re]
  funext i; idx_vars i
  pointwise [re]
  simp only [← EReal.coe_mul, ← EReal.coe_add, coe_sum]

theorem pay6_re : k0_pay6 (F := Ideal) (re K) (re V) (re Q) (re G) (row3 l) (row2 δ) (re dk)
    = re (fun b d => dk b d + ∑ a, sT (pT K Q l) V G δ b a * Q a d) := by
  unfold k0_pay6 k0_pay2; rw [pay4_re]
  funext i; idx_vars i
  pointwise [re]
  simp only [← EReal.coe_mul, ← EReal.coe_add, coe_sum]

theorem pay7_re (S : Fin 512 → Fin 512 → ℝ) : k0_pay7 (F := Ideal) (re K) (re S) (re dk) = re (fun a d => dk a d + ∑ b, S b a * K b d) := by
  unfold k0_pay7
  funext i; idx_vars i
  pointwise [re]
  simp only [← EReal.coe_mul, ← EReal.coe_add, coe_sum]

theorem pay73_re : k0_pay73 (F := Ideal) (re K) (re Q) (row3 l) = re (pD K Q l) := by
  funext i; idx_vars i
  unfold k0_pay73 k0_pay70 k0_pay72
  pointwise [re, row3, named_exp2, named_mask]
  rw [sle_eq _ _ (by omega) (by omega)]
  by_cases h : i0 ≤ i1
  · have h' : i0.val ≤ i1.val := h
    rw [if_pos h', select_one, pD, if_pos h]
    simp only [← EReal.coe_mul, ← EReal.coe_sub, coe_sum, exp2_coe, pT]
  · have h' : ¬ i0.val ≤ i1.val := h
    rw [if_neg h', select_zero, pD, if_neg h]
    rfl

theorem pay74_re : k0_pay74 (F := Ideal) (re V) (re G) = re (gT V G) := by
  funext i; idx_vars i
  unfold k0_pay74 k0_pay71
  pointwise [re]
  simp only [← EReal.coe_mul, coe_sum, gT]

theorem pay75_re (P : Fin 512 → Fin 512 → ℝ) : k0_pay75 (F := Ideal) (re P) (re (gT V G)) (row2 δ) = re (sT P V G δ) := by
  funext i; idx_vars i
  unfold k0_pay75
  pointwise [re, row2]
  simp only [← EReal.coe_mul, ← EReal.coe_sub, sT]

theorem pay76_re (P : Fin 512 → Fin 512 → ℝ) : k0_pay76 (F := Ideal) (re G) (re P) (re dv) = re (fun b d => dv b d + ∑ a, P b a * G a d) := by
  funext i; idx_vars i
  unfold k0_pay76
  pointwise [re]
  simp only [← EReal.coe_mul, ← EReal.coe_add, coe_sum]

theorem pay77_re (P : Fin 512 → Fin 512 → ℝ) : k0_pay77 (F := Ideal) (re Q) (re P) (re (gT V G)) (row2 δ) (re dk)
    = re (fun b d => dk b d + ∑ a, sT P V G δ b a * Q a d) := by
  unfold k0_pay77; rw [pay75_re]
  funext i; idx_vars i
  pointwise [re]
  simp only [← EReal.coe_mul, ← EReal.coe_add, coe_sum]

theorem pay78_re (P : Fin 512 → Fin 512 → ℝ) : k0_pay78 (F := Ideal) (re K) (re P) (re (gT V G)) (row2 δ) (re dk)
    = re (fun a d => dk a d + ∑ b, sT P V G δ b a * K b d) := by
  unfold k0_pay78; rw [pay75_re]
  funext i; idx_vars i
  pointwise [re]
  simp only [← EReal.coe_mul, ← EReal.coe_add, coe_sum]

theorem pay66_re (O : Fin 512 → Fin 128 → ℝ) : k0_pay66 (F := Ideal) (re G) (re O) = re (fun _ a => ∑ d, G a d * O a d) := by
  funext i; idx_vars i
  unfold k0_pay66 k0_pay65
  pointwise [re]
  simp only [lane_word, ← EReal.coe_mul, coe_sum]
  congr 1
  rw [Finset.sum_const, Finset.card_univ, Fintype.card_fin, nsmul_eq_mul]
  push_cast; ring

theorem pay67_re : k0_pay67 (F := Ideal) (re G) = re G := by
  funext i; idx_vars i
  unfold k0_pay67 k0_pay65
  pointwise [re]

theorem pay70_re (X : Vec Ideal S512x256 .bf16) : k0_pay70 X = X := by
  funext i; idx_vars i
  unfold k0_pay70
  pointwise
theorem pay71_re (X : Vec Ideal S512x128 .bf16) : k0_pay71 X = X := by
  funext i; idx_vars i
  unfold k0_pay71
  pointwise
theorem pay72_re (X : Vec Ideal S512x256 .bf16) : k0_pay72 X = X := by
  funext i; idx_vars i
  unfold k0_pay72
  pointwise
theorem pay68_re : k0_pay68 (F := Ideal) = re (fun _ _ => 0) := by
  funext i; idx_vars i
  unfold k0_pay68
  pointwise [re]
  simp
theorem pay69_re : k0_pay69 (F := Ideal) = re (fun _ _ => 0) := by
  funext i; idx_vars i
  unfold k0_pay69
  pointwise [re]
  simp
theorem pay64_re : k0_pay64 (F := Ideal) = re (fun _ _ => 0) := by
  funext i; idx_vars i
  unfold k0_pay64
  pointwise [re]
  simp
theorem pay1_re (X : Fin 8192 → Fin 256 → ℝ) : k0_pay1 (F := Ideal) (re X) = re (fun a d => X a d * Head.c) := by
  funext i; idx_vars i
  unfold k0_pay1
  pointwise [re, named_scale]
  simp only [← EReal.coe_mul]
theorem pay81_re : k0_pay81 (F := Ideal) (re dk) = re (fun b d => dk b d * Head.c) := by
  funext i; idx_vars i
  unfold k0_pay81
  pointwise [re, named_scale]
  simp only [← EReal.coe_mul]

end Cert.FlashBwdIdeal.Flash
-- ==== Proof.FlashSteps.lean ====
/- The steps of a grid point on real numbers: after the steps on a set of row blocks the three gradients hold the sums over those blocks. -/
module

public import proofs.«01_k».proof.Proof.FlashModel
public import proofs.«01_k».proof.Proof.FlashPay

@[expose] public section

set_option maxRecDepth 16384

noncomputable section

namespace Cert.FlashBwdIdeal.Flash

open Cert.FlashBwdIdeal Cert.FlashBwdIdeal.Gen Idealize.ShloMosaic

/-- Row `a` of row block `n`. -/
def row (n : ℕ) (a : Fin 512) : Fin 8192 := ⟨blk n + a.val, by unfold blk; omega⟩

theorem row_val (n : ℕ) (a : Fin 512) : (row n a).val = 512 * (n % 16) + a.val := rfl

namespace Head

variable (H : Head)

/-- A row of 192 lanes followed by 64 lanes of zero. -/
def pad (f : Fin 8192 → Fin 192 → ℝ) (i : Fin 8192) (d : Fin 256) : ℝ := if h : d.val < 192 then f i ⟨d.val, h⟩ else 0

theorem sum_pad (f g : Fin 8192 → Fin 192 → ℝ) (i j : Fin 8192) : ∑ d, pad f i d * pad g j d = ∑ d, f i d * g j d := by
  have h := Fin.sum_univ_add (a := 192) (b := 64) (fun d => pad f i d * pad g j d)
  refine h.trans ?_
  rw [Finset.sum_eq_zero (s := Finset.univ) (f := fun d : Fin 64 => _), add_zero]
  · refine Finset.sum_congr rfl fun d _ => ?_
    have : (Fin.castAdd 64 d).val < 192 := d.isLt
    unfold pad; rw [dif_pos this, dif_pos this]; rfl
  · intro d _
    have : ¬ (Fin.natAdd 192 d).val < 192 := by simp
    unfold pad; rw [dif_neg this, zero_mul]

/-- A row's logarithm to base two of its sum of exponentials. -/
def lse (i : Fin 8192) : ℝ := Real.log (H.sum 0 i) / Real.log 2

/-- The arrays a point's steps read. -/
def ins : Ins Ideal where
  q := re (pad H.q)
  l := fun i => ((H.lse (i 2) : ℝ) : EReal)
  dl := fun i => ((H.delta (i 1) : ℝ) : EReal)
  ct := re H.g

/-- The point's keys. -/
def kb (j : ℕ) : Vec Ideal S512x256 .bf16 := re fun b d => pad H.k (row j b) d
/-- The point's values. -/
def vb (j : ℕ) : Vec Ideal S512x128 .bf16 := re fun b d => H.v (row j b) d

theorem qr_eq (n : ℕ) : H.ins.qr n = re fun a d => pad H.q (row n a) d := by
  funext y
  show ((pad H.q _ _ : ℝ) : EReal) = _
  unfold re
  congr 2 <;> exact Fin.ext (by simp [row, Rect.toLoadRect, Rect.unit, LoadRect.idx])

theorem cr_eq (n : ℕ) : H.ins.cr n = re fun a d => H.g (row n a) d := by
  funext y
  show ((H.g _ _ : ℝ) : EReal) = _
  unfold re
  congr 2 <;> exact Fin.ext (by simp [row, Rect.toLoadRect, Rect.unit, LoadRect.idx])

theorem lr_eq (n : ℕ) : H.ins.lr n = row3 fun a => H.lse (row n a) := by
  funext y
  show ((H.lse _ : ℝ) : EReal) = _
  unfold row3
  congr 2; exact Fin.ext (by simp [row, Rect.toLoadRect, Rect.unit, LoadRect.idx])

theorem dr_eq (n : ℕ) : H.ins.dr n = row2 fun a => H.delta (row n a) := by
  funext y
  show ((H.delta _ : ℝ) : EReal) = _
  unfold row2
  congr 2; exact Fin.ext (by simp [row, Rect.toLoadRect, Rect.unit, LoadRect.idx])

end Head

theorem dqr_eq (n : ℕ) (X : Fin 8192 → Fin 256 → ℝ) : dqr (F := Ideal) n (re X) = re fun a d => X (row n a) d := by
  funext y
  show ((X _ _ : ℝ) : EReal) = _
  unfold re
  congr 2 <;> exact Fin.ext (by simp [row, Rect.toLoadRect, Rect.unit, LoadRect.idx])

/-- A row's position in its block. -/
def pos (i : Fin 8192) : Fin 512 := ⟨i.val % 512, by omega⟩

theorem row_pos (i : Fin 8192) (n : ℕ) (h : i.val / 512 = n) : row n (pos i) = i :=
  Fin.ext (by unfold row pos blk; simp only; omega)

theorem row_div (n : ℕ) (hn : n < 16) (a : Fin 512) : (row n a).val / 512 = n := by unfold row blk; simp only; omega

theorem setdq_eq (n : ℕ) (hn : n < 16) (w : Fin 512 → Fin 256 → ℝ) (X : Fin 8192 → Fin 256 → ℝ) :
    setdq (F := Ideal) n (re w) (re X) = re fun i d => if i.val / 512 = n then w (pos i) d else X i d := by
  funext y
  unfold setdq put
  have h0 : (y 0).val < 8192 := (y 0).isLt
  have h1 : (y 1).val < 256 := (y 1).isLt
  by_cases h : (y 0).val / 512 = n
  · have hin : ∀ a, (![blk n, 0] : Fin 2 → ℕ) a ≤ (y a).val ∧ (y a).val < (![blk n, 0] : Fin 2 → ℕ) a + (![512, 256] : Fin 2 → ℕ) a := by
      intro a
      match a with
      | ⟨0, _⟩ => show blk n ≤ (y 0).val ∧ (y 0).val < blk n + 512; unfold blk; omega
      | ⟨1, _⟩ => show 0 ≤ (y 1).val ∧ (y 1).val < 0 + 256; omega
    rw [dif_pos hin]
    show ((w _ _ : ℝ) : EReal) = ((if _ then _ else _ : ℝ) : EReal)
    rw [if_pos h]
    congr 2
    exact Fin.ext (by show (y 0).val - blk n = (y 0).val % 512; unfold blk; omega)
  · have hin : ¬ ∀ a, (![blk n, 0] : Fin 2 → ℕ) a ≤ (y a).val ∧ (y a).val < (![blk n, 0] : Fin 2 → ℕ) a + (![512, 256] : Fin 2 → ℕ) a := by
      intro hc
      have := hc 0
      change blk n ≤ (y 0).val ∧ (y 0).val < blk n + 512 at this
      unfold blk at this; omega
    rw [dif_neg hin]
    show ((X _ _ : ℝ) : EReal) = ((if _ then _ else _ : ℝ) : EReal)
    rw [if_neg h]

namespace Head

variable (H : Head)

theorem pT_eq (j n : ℕ) (b a : Fin 512) (h : row j b ≤ row n a) :
    pT (fun b d => pad H.k (row j b) d) (fun a d => pad H.q (row n a) d) (fun a => H.lse (row n a)) b a = H.p (row n a) (row j b) := by
  rw [← H.p_pow _ _ h]
  unfold pT lse c2 dot
  have hd : ∑ d, pad H.k (row j b) d * pad H.q (row n a) d = ∑ d, H.q (row n a) d * H.k (row j b) d := by
    rw [sum_pad]; exact Finset.sum_congr rfl fun d _ => mul_comm _ _
  rw [hd]

theorem sT_eq (P : Fin 512 → Fin 512 → ℝ) (j n : ℕ) (b a : Fin 512) (hP : P b a = H.p (row n a) (row j b)) :
    sT P (fun b d => H.v (row j b) d) (fun a d => H.g (row n a) d) (fun a => H.delta (row n a)) b a = H.ds (row n a) (row j b) := by
  unfold sT gT ds dp
  rw [hP]
  congr 2
  exact Finset.sum_congr rfl fun d _ => mul_comm _ _

/-- What one block of keys adds to a query's gradient, before the scale. -/
def qterm (j : ℕ) (i : Fin 8192) (d : Fin 256) : ℝ := ∑ b, H.ds i (row j b) * pad H.k (row j b) d
/-- What one block of queries adds to a key's gradient, before the scale. -/
def kterm (j n : ℕ) (b : Fin 512) (d : Fin 256) : ℝ := ∑ a, H.ds (row n a) (row j b) * pad H.q (row n a) d
/-- What one block of queries adds to a value's gradient. -/
def vterm (j n : ℕ) (b : Fin 512) (d : Fin 128) : ℝ := ∑ a, H.p (row n a) (row j b) * H.g (row n a) d

/-- The gradients after the steps on the row blocks `T`. -/
def after (j : ℕ) (dq : Fin 8192 → Fin 256 → ℝ) (T : Finset ℕ) : St Ideal where
  dq := re fun i d => dq i d + if i.val / 512 ∈ T then H.qterm j i d else 0
  dk := re fun b d => ∑ n ∈ T, H.kterm j n b d
  dv := re fun b d => ∑ n ∈ T, H.vterm j n b d

variable (j : ℕ) (dq : Fin 8192 → Fin 256 → ℝ)

theorem insert_q (n : ℕ) (T : Finset ℕ) (hT : n ∉ T) (i : Fin 8192) (d : Fin 256) :
    (if i.val / 512 = n then (dq i d + if i.val / 512 ∈ T then H.qterm j i d else 0) + H.qterm j i d
      else dq i d + if i.val / 512 ∈ T then H.qterm j i d else 0)
      = dq i d + if i.val / 512 ∈ insert n T then H.qterm j i d else 0 := by
  by_cases h : i.val / 512 = n
  · rw [if_pos h, h, if_neg hT, if_pos (Finset.mem_insert_self n T), add_zero]
  · rw [if_neg h]
    have : i.val / 512 ∈ insert n T ↔ i.val / 512 ∈ T := by simp [h]
    simp only [this]

theorem step_after (n : ℕ) (T : Finset ℕ) (hT : n ∉ T) (hn : n < 16) (hj : j < n) :
    step H.ins (H.kb j) (H.vb j) n (H.after j dq T) = H.after j dq (insert n T) := by
  have hle : ∀ b a : Fin 512, row j b ≤ row n a := fun b a => by
    show (row j b).val ≤ (row n a).val; unfold row blk; simp only; omega
  have hp : ∀ b a, pT (fun b d => pad H.k (row j b) d) (fun a d => pad H.q (row n a) d) (fun a => H.lse (row n a)) b a = H.p (row n a) (row j b) :=
    fun b a => H.pT_eq j n b a (hle b a)
  unfold step after kb vb
  rw [H.qr_eq, H.cr_eq, H.lr_eq, H.dr_eq, dqr_eq, pay4_re, pay7_re, pay6_re, pay5_re, setdq_eq n hn]
  simp only [H.sT_eq _ j n _ _ (hp _ _), hp]
  congr 1
  · congr 1; funext i d
    rw [← H.insert_q j dq n T hT i d]
    by_cases h : i.val / 512 = n
    · rw [if_pos h, if_pos h, row_pos i n h]; rfl
    · rw [if_neg h, if_neg h]
  · congr 1; funext b d; rw [Finset.sum_insert hT, add_comm]; rfl
  · congr 1; funext b d; rw [Finset.sum_insert hT, add_comm]; rfl

theorem diag_after (hj : j < 16) :
    diag H.ins (H.kb j) (H.vb j) j ⟨re dq, k0_pay68 (F := Ideal), k0_pay69 (F := Ideal)⟩ = H.after j dq {j} := by
  have hp : ∀ b a, pD (fun b d => pad H.k (row j b) d) (fun a d => pad H.q (row j a) d) (fun a => H.lse (row j a)) b a = H.p (row j a) (row j b) := by
    intro b a
    unfold pD
    have hiff : b ≤ a ↔ row j b ≤ row j a := by
      show b.val ≤ a.val ↔ (row j b).val ≤ (row j a).val; unfold row; simp
    by_cases h : b ≤ a
    · rw [if_pos h]; exact H.pT_eq j j b a (hiff.1 h)
    · rw [if_neg h, H.p_masked _ _ (fun hc => h (hiff.2 hc))]
  unfold diag after kb vb
  simp only
  rw [H.qr_eq, H.cr_eq, H.lr_eq, H.dr_eq, dqr_eq, pay73_re, pay74_re, pay70_re, pay72_re, pay68_re, pay69_re, pay78_re, pay77_re, pay76_re, setdq_eq j hj]
  simp only [H.sT_eq _ j j _ _ (hp _ _), hp]
  congr 1
  · congr 1; funext i d
    by_cases h : i.val / 512 = j
    · rw [if_pos h, if_pos (by simp [h]), row_pos i j h]; rfl
    · rw [if_neg h, if_neg (by simp [h]), add_zero]
  · congr 1; funext b d; rw [Finset.sum_singleton, zero_add]; rfl
  · congr 1; funext b d; rw [Finset.sum_singleton, zero_add]; rfl

theorem fours_after (m : ℕ) (hm : j + 4 * m ≤ 15) :
    fours H.ins (H.kb j) (H.vb j) j (H.after j dq {j}) m = H.after j dq (Finset.Icc j (j + 4 * m)) := by
  induction m with
  | zero => simp [fours]
  | succ m ih =>
    unfold fours
    rw [ih (by omega)]
    unfold step4
    rw [H.step_after j dq (j + 1 + 4 * m + 0) _ (by simp) (by omega) (by omega),
      H.step_after j dq (j + 1 + 4 * m + 1) _ (by simp) (by omega) (by omega),
      H.step_after j dq (j + 1 + 4 * m + 2) _ (by simp; omega) (by omega) (by omega),
      H.step_after j dq (j + 1 + 4 * m + 3) _ (by simp; omega) (by omega) (by omega)]
    congr 1
    ext x; simp; omega

theorem ones_after (r m : ℕ) (hr : j ≤ r) (hm : r + m ≤ 15) :
    ones H.ins (H.kb j) (H.vb j) (H.after j dq (Finset.Icc j r)) m = H.after j dq (Finset.Icc j r ∪ Finset.Ioc (15 - m) 15) := by
  induction m with
  | zero => simp [ones]
  | succ m ih =>
    unfold ones
    rw [ih (by omega), H.step_after j dq (15 - m) _ (by simp; omega) (by omega) (by omega)]
    congr 1
    ext x; simp; omega

/-- All the steps of a point: the row blocks from the diagonal on. -/
theorem steps_after (hj : j < 16) : steps H.ins (H.kb j) (H.vb j) j (re dq) = H.after j dq (Finset.Icc j 15) := by
  unfold steps
  rw [pay70_re, pay71_re, H.diag_after j dq hj, H.fours_after j dq _ (by omega), H.ones_after j dq _ _ (by omega) (by omega)]
  congr 1
  ext x; simp; omega

end Head

end Cert.FlashBwdIdeal.Flash
-- ==== Proof.FlashHost.lean ====
/- What the forward lines before the region compute from real queries, keys and values: the output, and each row's logarithm to base
   two of its sum of exponentials. -/
module

public import proofs.«01_k».proof.Proof.FlashSteps

@[expose] public section

set_option maxRecDepth 16384

noncomputable section

namespace Cert.FlashBwdIdeal.Flash

open Cert.FlashBwdIdeal Cert.FlashBwdIdeal.Gen Idealize.ShloMosaic

/-- An array of real numbers of three axes. -/
def re3 {r h c : ℕ} (f : Fin r → Fin h → Fin c → ℝ) : (⟨3, ![r, h, c]⟩ : Shape).Idx → EReal := fun i => ((f (i 0) (i 1) (i 2) : ℝ) : EReal)

/-- Queries, keys, values and the cotangent of all heads, as real numbers. -/
structure Arr where
  q : Fin 8192 → Fin 4 → Fin 192 → ℝ
  k : Fin 8192 → Fin 4 → Fin 192 → ℝ
  v : Fin 8192 → Fin 4 → Fin 128 → ℝ
  g : Fin 8192 → Fin 4 → Fin 128 → ℝ

/-- One of the heads. -/
def Arr.head (A : Arr) (h : Fin 4) : Head where
  q := fun i d => A.q i h d
  k := fun i d => A.k i h d
  v := fun i d => A.v i h d
  g := fun i d => A.g i h d

/-- The largest of finitely many numbers, each real or the least, one of them real, is real. -/
theorem fold_max_real {ι : Type} [Fintype ι] (f : ι → EReal) (hf : ∀ j, f j = ⊥ ∨ ∃ r : ℝ, f j = r) (i : ι) (hi : ∃ r : ℝ, f i = r) :
    ∃ r : ℝ, Finset.fold max (⊥ : EReal) f Finset.univ = r := by
  classical
  have h : ∀ s : Finset ι, Finset.fold max (⊥ : EReal) f s = ⊥ ∨ ∃ r : ℝ, Finset.fold max (⊥ : EReal) f s = r := by
    intro s
    induction s using Finset.induction_on with
    | empty => exact .inl rfl
    | insert a s ha ih =>
      rw [Finset.fold_insert ha]
      rcases max_choice (f a) (Finset.fold max ⊥ f s) with h | h <;> rw [h]
      · exact hf a
      · exact ih
  refine (h _).resolve_left fun hb => ?_
  obtain ⟨r, hr⟩ := hi
  have hle : (r : EReal) ≤ Finset.fold max (⊥ : EReal) f Finset.univ := by
    rw [Finset.le_fold_max]; exact .inr ⟨i, Finset.mem_univ i, hr.ge⟩
  rw [hb] at hle
  exact absurd hle (by simp)

theorem sqrt_word : Ideal.ofBits .f32 0x43400000#32 = ((192 : ℝ) : EReal) := by
  simp [Ideal.ofBits, Ideal.ieee, -EReal.coe_mul]; norm_num
theorem two_word : Ideal.ofBits .f32 0x40000000#32 = ((2 : ℝ) : EReal) := by
  simp [Ideal.ofBits, Ideal.ieee, -EReal.coe_mul]; norm_num
theorem bot_word : Ideal.ofBits .f32 0xFF800000#32 = (⊥ : EReal) := by
  simp [Ideal.ofBits, Ideal.ieee]

/-- The masked scores. -/
def hs (q k : FVec Ideal S8192x4x192 .f32) : FVec Ideal S4x8192x8192 .f32 :=
  select (broadcastInDim S4x8192x8192 ![1, 2] bcast_S8192x8192_S4x8192x8192_1_2
      (cmpi .sle
        (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0)))))
    (Host.divf (Host.dotGeneral dot_S8192x4x192_S8192x4x192_S4x8192x8192_2_2_0_0_1_1 none q k)
      (broadcastInDim S4x8192x8192 ![] bcast_S_S4x8192x8192 (Host.sqrt (constant S_ .f32 0x43400000#32))))
    (broadcastInDim S4x8192x8192 ![] bcast_S_S4x8192x8192 (id (constant S_ .f32 0xFF800000#32)))
/-- A row's largest score. -/
def hm (q k : FVec Ideal S8192x4x192 .f32) : FVec Ideal S4x8192 .f32 :=
  Host.reduce FloatOps.maximumf (hs q k) (constant S_ .f32 0xFF800000#32) reducesTo_S4x8192x8192_S4x8192_d2 h_S_
def hm1 (q k : FVec Ideal S8192x4x192 .f32) : FVec Ideal S4x8192x1 .f32 := broadcastInDim S4x8192x1 ![0, 1] bcast_S4x8192_S4x8192x1_0_1 (hm q k)
/-- The exponentials. -/
def he (q k : FVec Ideal S8192x4x192 .f32) : FVec Ideal S4x8192x8192 .f32 :=
  Host.exp (subf (hs q k) (broadcastInDim S4x8192x8192 ![0, 1, 2] bcast_S4x8192x1_S4x8192x8192_0_1_2 (hm1 q k)))
/-- A row's sum of exponentials. -/
def hl (q k : FVec Ideal S8192x4x192 .f32) : FVec Ideal S4x8192x1 .f32 :=
  broadcastInDim S4x8192x1 ![0, 1] bcast_S4x8192_S4x8192x1_0_1
    (Host.reduceAdd (he q k) (constant S_ .f32 0x00000000#32) reducesTo_S4x8192x8192_S4x8192_d2 h_S_)
/-- The output. -/
def ho (q k : FVec Ideal S8192x4x192 .f32) (v : FVec Ideal S8192x4x128 .f32) : FVec Ideal S8192x4x128 .f32 :=
  transpose S8192x4x128 [2, 0, 1]
    (Host.dotGeneral dot_S8192x4x128_S4x8192x8192_S4x128x8192_0_2_2_1_1_0 none v
      (Host.divf (he q k) (broadcastInDim S4x8192x8192 ![0, 1, 2] bcast_S4x8192x1_S4x8192x8192_0_1_2 (hl q k))))
    transposes_S4x128x8192_S8192x4x128_2_0_1
/-- The logarithms of the rows' sums. -/
def hlog (q k : FVec Ideal S8192x4x192 .f32) : FVec Ideal S4x8192x1 .f32 := addf (hm1 q k) (Host.log (hl q k))
def hlog2 (q k : FVec Ideal S8192x4x192 .f32) : FVec Ideal S4x8192 .f32 := shapeCast S4x8192 (hlog q k) shapeCasts_S4x8192x1_S4x8192
/-- The same to base two, in eight rows. -/
def hlse (q k : FVec Ideal S8192x4x192 .f32) : FVec Ideal S4x8x8192 .f32 :=
  broadcastInDim S4x8x8192 ![0, 1, 2] bcast_S4x1x8192_S4x8x8192_0_1_2
    (broadcastInDim S4x1x8192 ![0, 2] bcast_S4x8192_S4x1x8192_0_2
      (Host.divf (hlog2 q k)
        (broadcastInDim S4x8192 ![] bcast_S_S4x8192 (Host.log (constant S_ .f32 0x40000000#32)))))

variable (A : Arr)

theorem div_sqrt (x : ℝ) : Ideal.div (x : EReal) (Ideal.sqrt (Ideal.ofBits .f32 0x43400000#32)) = ((x * Head.c : ℝ) : EReal) := by
  have h : Real.sqrt 192 ≠ 0 := (Real.sqrt_pos.2 (by norm_num)).ne'
  rw [sqrt_word, Ideal.sqrt_coe, if_neg (by norm_num), Ideal.div_coe h, one_div, ← EReal.coe_mul]; rfl

theorem hs_re (h : Fin 4) (i j : Fin 8192) :
    hs (re3 A.q) (re3 A.k) (ix3 h i j) = if j ≤ i then (((A.head h).dot i j * Head.c : ℝ) : EReal) else ⊥ := by
  unfold hs
  pointwise [re3]
  rw [sle_eq _ _ (by omega) (by omega)]
  by_cases hj : j ≤ i
  · have h' : j.val ≤ i.val := hj
    rw [if_pos h', select_one, if_pos hj]
    simp only [← EReal.coe_mul, coe_sum, div_sqrt]
    rfl
  · have h' : ¬ j.val ≤ i.val := hj
    rw [if_neg h', select_zero, if_neg hj]
    exact bot_word

theorem hm_real : ∃ M : Fin 4 → Fin 8192 → ℝ, ∀ h i, hm (re3 A.q) (re3 A.k) (ix2 h i) = ((M h i : ℝ) : EReal) := by
  have h : ∀ h i, ∃ r : ℝ, hm (re3 A.q) (re3 A.k) (ix2 h i) = r := by
    intro h i
    unfold hm
    pointwise [hs_re]
    rw [bot_word]
    refine fold_max_real _ (fun j => ?_) i ⟨_, if_pos le_rfl⟩
    by_cases hj : j ≤ i
    · exact .inr ⟨_, if_pos hj⟩
    · exact .inl (if_neg hj)
  choose M hM using h
  exact ⟨M, hM⟩

theorem exp_score (H : Head) (M : ℝ) (i j : Fin 8192) :
    Ideal.exp ((if j ≤ i then ((H.dot i j * Head.c : ℝ) : EReal) else ⊥) - (M : EReal)) = ((H.e M i j : ℝ) : EReal) := by
  unfold Head.e
  by_cases hj : j ≤ i
  · rw [if_pos hj, if_pos hj, ← EReal.coe_sub, Ideal.exp_coe]
  · rw [if_neg hj, if_neg hj]; rfl

theorem he_re (M : Fin 4 → Fin 8192 → ℝ) (hM : ∀ h i, hm (re3 A.q) (re3 A.k) (ix2 h i) = ((M h i : ℝ) : EReal)) (h : Fin 4) (i j : Fin 8192) :
    he (re3 A.q) (re3 A.k) (ix3 h i j) = (((A.head h).e (M h i) i j : ℝ) : EReal) := by
  unfold he hm1
  pointwise [hs_re, hM]
  exact exp_score _ _ _ _

theorem hl_re (M : Fin 4 → Fin 8192 → ℝ) (hM : ∀ h i, hm (re3 A.q) (re3 A.k) (ix2 h i) = ((M h i : ℝ) : EReal)) (h : Fin 4) (i : Fin 8192) (z : Fin 1) :
    hl (re3 A.q) (re3 A.k) (ix3 h i z) = (((A.head h).sum (M h i) i : ℝ) : EReal) := by
  unfold hl
  pointwise [he_re A M hM]
  rw [coe_sum]; rfl

theorem div_sum (H : Head) (M : ℝ) (i j : Fin 8192) : Ideal.div ((H.e M i j : ℝ) : EReal) ((H.sum M i : ℝ) : EReal) = ((H.p i j : ℝ) : EReal) := by
  rw [Ideal.div_coe (H.sum_pos M i).ne', ← EReal.coe_mul, mul_one_div, H.e_div_sum]

theorem ho_re (i : Fin 8192) (h : Fin 4) (d : Fin 128) :
    ho (re3 A.q) (re3 A.k) (re3 A.v) (ix3 i h d) = (((A.head h).o i d : ℝ) : EReal) := by
  obtain ⟨M, hM⟩ := hm_real A
  unfold ho
  pointwise [he_re A M hM, hl_re A M hM, re3]
  simp only [div_sum, ← EReal.coe_mul, coe_sum]
  rfl

theorem drop_last (X : FVec Ideal S4x8192x1 .f32) (h : Fin 4) (i : Fin 8192) :
    shapeCast S4x8192 X shapeCasts_S4x8192x1_S4x8192 (ix2 h i) = X (ix3 h i (0 : Fin 1)) :=
  shapeCast_apply X shapeCasts_S4x8192x1_S4x8192 (ix2 h i) (ix3 h i (0 : Fin 1)) (by
    rewrite [Shape.rowMajor_val_three, Shape.rowMajor_val_two]
    show (h.val * 8192 + i.val) * 1 + 0 = h.val * 8192 + i.val; omega)

theorem hm1_re (M : Fin 4 → Fin 8192 → ℝ) (hM : ∀ h i, hm (re3 A.q) (re3 A.k) (ix2 h i) = ((M h i : ℝ) : EReal)) (h : Fin 4) (i : Fin 8192) (z : Fin 1) :
    hm1 (re3 A.q) (re3 A.k) (ix3 h i z) = ((M h i : ℝ) : EReal) := by
  unfold hm1
  pointwise [hM]

theorem log_add (H : Head) (M : ℝ) (i : Fin 8192) :
    (M : EReal) + Ideal.log ((H.sum M i : ℝ) : EReal) = ((Real.log (H.sum 0 i) : ℝ) : EReal) := by
  rw [Ideal.log_coe, if_neg (not_le.2 (H.sum_pos M i)), ← EReal.coe_add, H.log_sum]

theorem addlog (X Y : FVec Ideal S4x8192x1 .f32) (i : S4x8192x1.Idx) : addf X (Host.log Y) i = (X i + Ideal.log (Y i) : EReal) := rfl

theorem hlog_re (h : Fin 4) (i : Fin 8192) (z : Fin 1) :
    hlog (re3 A.q) (re3 A.k) (ix3 h i z) = ((Real.log ((A.head h).sum 0 i) : ℝ) : EReal) := by
  obtain ⟨M, hM⟩ := hm_real A
  unfold hlog
  rw [addlog, hm1_re A M hM, hl_re A M hM, log_add]

theorem hlog2_re (h : Fin 4) (i : Fin 8192) :
    hlog2 (re3 A.q) (re3 A.k) (ix2 h i) = ((Real.log ((A.head h).sum 0 i) : ℝ) : EReal) := by
  unfold hlog2
  exact (drop_last _ h i).trans (hlog_re A h i 0)

theorem div_log (x : ℝ) : Ideal.div (x : EReal) (Ideal.log (Ideal.ofBits .f32 0x40000000#32)) = ((x / Real.log 2 : ℝ) : EReal) := by
  have l2 : Real.log 2 ≠ 0 := (Real.log_pos (by norm_num)).ne'
  rw [two_word, Ideal.log_coe, if_neg (by norm_num), Ideal.div_coe l2, ← EReal.coe_mul, mul_one_div]

theorem hlse_re (h : Fin 4) (r : Fin 8) (i : Fin 8192) :
    hlse (re3 A.q) (re3 A.k) (ix3 h r i) = (((A.head h).lse i : ℝ) : EReal) := by
  unfold hlse
  pointwise [hlog2_re]
  rw [div_log]
  rfl

end Cert.FlashBwdIdeal.Flash
-- ==== Proof.FlashIns.lean ====
/- What the windows' arrays hold before the region, from real arguments: padded queries and keys, values, the saved output and
   row logarithms, and the cotangent, a head's columns side by side. -/
module

public import proofs.«01_k».proof.Proof.FlashHost
public import proofs.«01_k».proof.Proof.FlashFrame
public import Idealize.ShloMosaic.Lib.KernelVsHost
public import Idealize.ShloMosaic.Lib.StableHlo.RunRead

@[expose] public section

set_option maxRecDepth 16384

noncomputable section

namespace Cert.FlashBwdIdeal.Flash

open Cert.FlashBwdIdeal Cert.FlashBwdIdeal.Gen Idealize.ShloMosaic Idealize.ShloMosaic.TcCoe Idealize.ShloMosaic.Tactic

/-- Lane `d` of head `h` of 256 lanes each. -/
def lane (h : Fin 4) (d : Fin 256) : Fin 1024 := ⟨256 * h.val + d.val, by omega⟩
/-- Lane `d` of head `h` of 128 lanes each. -/
def lane' (h : Fin 4) (d : Fin 128) : Fin 512 := ⟨128 * h.val + d.val, by omega⟩

theorem flat (X : FVec Ideal S8192x4x256 .f32) (i : Fin 8192) (h : Fin 4) (d : Fin 256) :
    shapeCast S8192x1024 X shapeCasts_S8192x4x256_S8192x1024 (ix2 i (lane h d)) = X (ix3 i h d) :=
  shapeCast_apply X shapeCasts_S8192x4x256_S8192x1024 (ix2 i (lane h d)) (ix3 i h d) (by
    rewrite [Shape.rowMajor_val_three, Shape.rowMajor_val_two]
    show (i.val * 4 + h.val) * 256 + d.val = i.val * 1024 + (256 * h.val + d.val); omega)

theorem flat' (X : FVec Ideal S8192x4x128 .f32) (i : Fin 8192) (h : Fin 4) (d : Fin 128) :
    shapeCast S8192x512 X shapeCasts_S8192x4x128_S8192x512 (ix2 i (lane' h d)) = X (ix3 i h d) :=
  shapeCast_apply X shapeCasts_S8192x4x128_S8192x512 (ix2 i (lane' h d)) (ix3 i h d) (by
    rewrite [Shape.rowMajor_val_three, Shape.rowMajor_val_two]
    show (i.val * 4 + h.val) * 128 + d.val = i.val * 512 + (128 * h.val + d.val); omega)

/-- The padding of the lanes by zero. -/
theorem padded (f : Fin 8192 → Fin 4 → Fin 192 → ℝ) (z : FVec Ideal S_ .f32) (hz : ∀ i, z i = (0 : EReal)) (i : Fin 8192) (h : Fin 4) (d : Fin 256) :
    pad S8192x4x256 ![0, 0, 0] ![0, 0, 64] ![0, 0, 0] (re3 f : FVec Ideal S8192x4x192 .f32) z pads_S8192x4x192_S8192x4x256_000_000_0640 h_S_ (ix3 i h d)
      = ((Head.pad (fun i d => f i h d) i d : ℝ) : EReal) := by
  unfold Head.pad
  by_cases hd : d.val < 192
  · rw [dif_pos hd]
    refine (pad_apply_of_inside _ _ _ _ _ _ _ _ (ix3 i h (⟨d.val, hd⟩ : Fin 192)) fun a => ?_).trans rfl
    match a with
    | ⟨0, _⟩ => show i.val = 0 + i.val * (0 + 1); omega
    | ⟨1, _⟩ => show h.val = 0 + h.val * (0 + 1); omega
    | ⟨2, _⟩ => show d.val = 0 + d.val * (0 + 1); omega
  · rw [dif_neg hd]
    refine (pad_apply_of_not_inside _ _ _ _ _ _ _ _ (2 : Fin 3) fun hh => hd ?_).trans ((hz _).trans rfl)
    have : (d.val - 0) / (0 + 1) < 192 := hh.2.2
    omega

variable (m : (ℓ : Loc nD τ sig) → Buf (Elt Ideal) ℓ)

/-- The arguments of a device are the real arrays `A`. -/
structure Holds (A : Arr) (c : Dev nD) : Prop where
  q : m ((c : Thread nD τ).loc main_arg0) = re3 A.q
  k : m ((c : Thread nD τ).loc main_arg1) = re3 A.k
  v : m ((c : Thread nD τ).loc main_arg2) = re3 A.v
  g : m ((c : Thread nD τ).loc main_arg3) = re3 A.g

theorem V_29 (c : Dev nD) : V m c main_v29 = hlse (m ((c : Thread nD τ).loc main_arg0)) (m ((c : Thread nD τ).loc main_arg1)) := by
  unfold V
  simp only [hostOps0, hostOps0_1, hostOps0_2, hostOps0_3, hostOps0_4, hostOps0_5, hostOps0_6, List.flatten_cons, List.flatten_nil, List.append_nil, List.cons_append, List.nil_append]
  after_reads_simp
  rfl

theorem V_38 (c : Dev nD) : V m c main_v38 = shapeCast S8192x512 (ho (m ((c : Thread nD τ).loc main_arg0)) (m ((c : Thread nD τ).loc main_arg1)) (m ((c : Thread nD τ).loc main_arg2)))
    shapeCasts_S8192x4x128_S8192x512 := by
  unfold V
  simp only [hostOps0, hostOps0_1, hostOps0_2, hostOps0_3, hostOps0_4, hostOps0_5, hostOps0_6, List.flatten_cons, List.flatten_nil, List.append_nil, List.cons_append, List.nil_append]
  after_reads_simp
  rfl

theorem V_39 (c : Dev nD) : V m c main_v39 = shapeCast S8192x512 (m ((c : Thread nD τ).loc main_arg3)) shapeCasts_S8192x4x128_S8192x512 := by
  unfold V
  simp only [hostOps0, hostOps0_1, hostOps0_2, hostOps0_3, hostOps0_4, hostOps0_5, hostOps0_6, List.flatten_cons, List.flatten_nil, List.append_nil, List.cons_append, List.nil_append]
  after_reads_simp
  rfl

theorem V_37 (c : Dev nD) : V m c main_v37 = truncf .bf16 (shapeCast S8192x512 (m ((c : Thread nD τ).loc main_arg2)) shapeCasts_S8192x4x128_S8192x512 : FVec Ideal S8192x512 .f32) bitsLt_bf16_f32 := by
  unfold V
  simp only [hostOps0, hostOps0_1, hostOps0_2, hostOps0_3, hostOps0_4, hostOps0_5, hostOps0_6, List.flatten_cons, List.flatten_nil, List.append_nil, List.cons_append, List.nil_append]
  after_reads_simp
  rfl

/-- The zero the lanes are padded with. -/
def z0 : FVec Ideal S_ .f32 := sitofp .f32 (constantI S_ 32 0#32)

theorem V_32 (c : Dev nD) : V m c main_v32 = truncf .bf16 (shapeCast S8192x1024
    (pad S8192x4x256 ![0, 0, 0] ![0, 0, 64] ![0, 0, 0] (m ((c : Thread nD τ).loc main_arg0)) z0 pads_S8192x4x192_S8192x4x256_000_000_0640 h_S_) shapeCasts_S8192x4x256_S8192x1024 : FVec Ideal S8192x1024 .f32) bitsLt_bf16_f32 := by
  unfold V
  simp only [hostOps0, hostOps0_1, hostOps0_2, hostOps0_3, hostOps0_4, hostOps0_5, hostOps0_6, List.flatten_cons, List.flatten_nil, List.append_nil, List.cons_append, List.nil_append]
  after_reads_simp
  rfl

theorem V_35 (c : Dev nD) : V m c main_v35 = truncf .bf16 (shapeCast S8192x1024
    (pad S8192x4x256 ![0, 0, 0] ![0, 0, 64] ![0, 0, 0] (m ((c : Thread nD τ).loc main_arg1)) z0 pads_S8192x4x192_S8192x4x256_000_000_0640 h_S_) shapeCasts_S8192x4x256_S8192x1024 : FVec Ideal S8192x1024 .f32) bitsLt_bf16_f32 := by
  unfold V
  simp only [hostOps0, hostOps0_1, hostOps0_2, hostOps0_3, hostOps0_4, hostOps0_5, hostOps0_6, List.flatten_cons, List.flatten_nil, List.append_nil, List.cons_append, List.nil_append]
  after_reads_simp
  rfl

theorem z0_apply (i : S_.Idx) : z0 i = (0 : EReal) := by
  show (((0#32 : BitVec 32).toInt : ℝ) : EReal) = 0
  simp

variable {m} {A : Arr} {c : Dev nD} (H : Holds m A c)
include H

theorem V_q (i : Fin 8192) (h : Fin 4) (d : Fin 256) : V m c main_v32 (ix2 i (lane h d)) = ((Head.pad (A.head h).q i d : ℝ) : EReal) := by
  rw [V_32, H.q]
  exact (flat _ i h d).trans (padded A.q z0 z0_apply i h d)

theorem V_k (i : Fin 8192) (h : Fin 4) (d : Fin 256) : V m c main_v35 (ix2 i (lane h d)) = ((Head.pad (A.head h).k i d : ℝ) : EReal) := by
  rw [V_35, H.k]
  exact (flat _ i h d).trans (padded A.k z0 z0_apply i h d)

theorem V_v (i : Fin 8192) (h : Fin 4) (d : Fin 128) : V m c main_v37 (ix2 i (lane' h d)) = (((A.head h).v i d : ℝ) : EReal) := by
  rw [V_37, H.v]
  exact (flat' (re3 A.v) i h d).trans rfl

theorem V_g (i : Fin 8192) (h : Fin 4) (d : Fin 128) : V m c main_v39 (ix2 i (lane' h d)) = (((A.head h).g i d : ℝ) : EReal) := by
  rw [V_39, H.g]
  exact (flat' (re3 A.g) i h d).trans rfl

theorem V_o (i : Fin 8192) (h : Fin 4) (d : Fin 128) : V m c main_v38 (ix2 i (lane' h d)) = (((A.head h).o i d : ℝ) : EReal) := by
  rw [V_38, H.q, H.k, H.v]
  exact (flat' _ i h d).trans (ho_re A i h d)

theorem V_l (h : Fin 4) (r : Fin 8) (i : Fin 8192) : V m c main_v29 (ix3 h r i) = (((A.head h).lse i : ℝ) : EReal) := by
  rw [V_29, H.q, H.k]
  exact hlse_re A h r i

/-! ## The blocks of a point -/

omit H in
/-- Where every window lies at a point: head `t / 16`, block `t % 16`. -/
theorem idx_facts : ∀ t : Fin cfg0.N,
    (win0_0.index t = ![0, t.val / 16] ∧ win0_1.index t = ![t.val % 16, t.val / 16] ∧ win0_2.index t = ![t.val % 16, t.val / 16])
    ∧ (win0_3.index t = ![t.val / 16, 0, 0] ∧ win0_4.index t = ![0, t.val / 16] ∧ win0_5.index t = ![0, t.val / 16])
    ∧ (win0_6.index t = ![0, t.val / 16] ∧ win0_7.index t = ![t.val % 16, t.val / 16] ∧ win0_8.index t = ![t.val % 16, t.val / 16]) :=
  (by decide +kernel : ∀ t : Fin grid0.N,
    (win0_0.index t = ![0, t.val / 16] ∧ win0_1.index t = ![t.val % 16, t.val / 16] ∧ win0_2.index t = ![t.val % 16, t.val / 16])
    ∧ (win0_3.index t = ![t.val / 16, 0, 0] ∧ win0_4.index t = ![0, t.val / 16] ∧ win0_5.index t = ![0, t.val / 16])
    ∧ (win0_6.index t = ![0, t.val / 16] ∧ win0_7.index t = ![t.val % 16, t.val / 16] ∧ win0_8.index t = ![t.val % 16, t.val / 16]))

omit H in
/-- The head of a point. -/
def hd (t : Fin cfg0.N) : Fin 4 := ⟨t.val / 16, by have : t.val < grid0.N := t.isLt; rw [N_0] at this; omega⟩

theorem iblk_q (t : Fin cfg0.N) : iblk m c 0 t = (A.head (hd t)).ins.q := by
  funext i
  refine Eq.trans ?_ (V_q H (i 0) (hd t) (i 1))
  show V m c main_v32 _ = _
  obtain ⟨⟨e, -, -⟩, -, -⟩ := idx_facts t
  congr 1
  funext a
  match a with
  | ⟨0, _⟩ => exact Fin.ext (by show win0_0.index t 0 * 8192 + 1 * (i 0).val = (i 0).val; rw [e]; show 0 * 8192 + 1 * (i 0).val = _; omega)
  | ⟨1, _⟩ => exact Fin.ext (by show win0_0.index t 1 * 256 + 1 * (i 1).val = 256 * (t.val / 16) + (i 1).val; rw [e]; show t.val / 16 * 256 + 1 * (i 1).val = _; omega)

theorem iblk_k (t : Fin cfg0.N) : iblk m c 1 t = (A.head (hd t)).kb (t.val % 16) := by
  funext i
  refine Eq.trans ?_ (V_k H (row (t.val % 16) (i 0)) (hd t) (i 1))
  show V m c main_v35 _ = _
  obtain ⟨⟨-, e, -⟩, -, -⟩ := idx_facts t
  congr 1
  funext a
  match a with
  | ⟨0, _⟩ => exact Fin.ext (by show win0_1.index t 0 * 512 + 1 * (i 0).val = 512 * (t.val % 16 % 16) + (i 0).val; rw [e]; show t.val % 16 * 512 + 1 * (i 0).val = _; omega)
  | ⟨1, _⟩ => exact Fin.ext (by show win0_1.index t 1 * 256 + 1 * (i 1).val = 256 * (t.val / 16) + (i 1).val; rw [e]; show t.val / 16 * 256 + 1 * (i 1).val = _; omega)

theorem iblk_v (t : Fin cfg0.N) : iblk m c 2 t = (A.head (hd t)).vb (t.val % 16) := by
  funext i
  refine Eq.trans ?_ (V_v H (row (t.val % 16) (i 0)) (hd t) (i 1))
  show V m c main_v37 _ = _
  obtain ⟨⟨-, -, e⟩, -, -⟩ := idx_facts t
  congr 1
  funext a
  match a with
  | ⟨0, _⟩ => exact Fin.ext (by show win0_2.index t 0 * 512 + 1 * (i 0).val = 512 * (t.val % 16 % 16) + (i 0).val; rw [e]; show t.val % 16 * 512 + 1 * (i 0).val = _; omega)
  | ⟨1, _⟩ => exact Fin.ext (by show win0_2.index t 1 * 128 + 1 * (i 1).val = 128 * (t.val / 16) + (i 1).val; rw [e]; show t.val / 16 * 128 + 1 * (i 1).val = _; omega)

theorem iblk_l (t : Fin cfg0.N) : iblk m c 3 t = (A.head (hd t)).ins.l := by
  funext i
  refine Eq.trans ?_ (V_l H (hd t) (i 1) (i 2))
  show V m c main_v29 _ = _
  obtain ⟨-, ⟨e, -, -⟩, -⟩ := idx_facts t
  congr 1
  funext a
  match a with
  | ⟨0, _⟩ => exact Fin.ext (by
      have h0 : (i 0).val < 1 := (i 0).isLt
      show win0_3.index t 0 * 1 + 1 * (i 0).val = t.val / 16; rw [e]; show t.val / 16 * 1 + 1 * (i 0).val = _; omega)
  | ⟨1, _⟩ => exact Fin.ext (by show win0_3.index t 1 * 8 + 1 * (i 1).val = (i 1).val; rw [e]; show 0 * 8 + 1 * (i 1).val = _; omega)
  | ⟨2, _⟩ => exact Fin.ext (by show win0_3.index t 2 * 8192 + 1 * (i 2).val = (i 2).val; rw [e]; show 0 * 8192 + 1 * (i 2).val = _; omega)

theorem iblk_o (t : Fin cfg0.N) : iblk m c 4 t = re (A.head (hd t)).o := by
  funext i
  refine Eq.trans ?_ (V_o H (i 0) (hd t) (i 1))
  show V m c main_v38 _ = _
  obtain ⟨-, ⟨-, e, -⟩, -⟩ := idx_facts t
  congr 1
  funext a
  match a with
  | ⟨0, _⟩ => exact Fin.ext (by show win0_4.index t 0 * 8192 + 1 * (i 0).val = (i 0).val; rw [e]; show 0 * 8192 + 1 * (i 0).val = _; omega)
  | ⟨1, _⟩ => exact Fin.ext (by show win0_4.index t 1 * 128 + 1 * (i 1).val = 128 * (t.val / 16) + (i 1).val; rw [e]; show t.val / 16 * 128 + 1 * (i 1).val = _; omega)

theorem iblk_g (t : Fin cfg0.N) : iblk m c 5 t = re (A.head (hd t)).g := by
  funext i
  refine Eq.trans ?_ (V_g H (i 0) (hd t) (i 1))
  show V m c main_v39 _ = _
  obtain ⟨-, ⟨-, -, e⟩, -⟩ := idx_facts t
  congr 1
  funext a
  match a with
  | ⟨0, _⟩ => exact Fin.ext (by show win0_5.index t 0 * 8192 + 1 * (i 0).val = (i 0).val; rw [e]; show 0 * 8192 + 1 * (i 0).val = _; omega)
  | ⟨1, _⟩ => exact Fin.ext (by show win0_5.index t 1 * 128 + 1 * (i 1).val = 128 * (t.val / 16) + (i 1).val; rw [e]; show t.val / 16 * 128 + 1 * (i 1).val = _; omega)

end Cert.FlashBwdIdeal.Flash

end
-- ==== Proof.FlashPoint.lean ====
/- What a grid point leaves on real numbers: the staged row sums, and the three gradients as sums over whole rows. -/
module

public import proofs.«01_k».proof.Proof.FlashSteps
public import proofs.«01_k».proof.Proof.FlashStage
public import proofs.«01_k».proof.Proof.FlashBody

@[expose] public section

set_option maxRecDepth 16384

noncomputable section

namespace Cert.FlashBwdIdeal.Flash

open Cert.FlashBwdIdeal Cert.FlashBwdIdeal.Gen Idealize.ShloMosaic

/-- A sum over all rows, block by block. -/
theorem sum_rows (f : Fin 8192 → ℝ) : ∑ i, f i = ∑ n ∈ Finset.range 16, ∑ a, f (row n a) := by
  rw [Finset.sum_range (fun n => ∑ a, f (row n a)), ← Fintype.sum_prod_type' (f := fun (n : Fin 16) a => f (row n a))]
  refine (Fintype.sum_equiv (finProdFinEquiv (m := 16) (n := 512)) _ _ fun x => ?_).symm
  congr 1
  refine Fin.ext ?_
  show 512 * (x.1.val % 16) + x.2.val = x.2.val + 512 * x.1.val
  have := x.1.isLt
  omega

/-- Row block `n` of an array of 128 lanes. -/
theorem rows_eq (n : ℕ) (X : Fin 8192 → Fin 128 → ℝ) :
    win (s := S8192x128) ![blk n, 0] ![512, 128] (inbB n) (re X) = re fun a d => X (row n a) d := by
  funext y
  show ((X _ _ : ℝ) : EReal) = _
  unfold re
  congr 2 <;> exact Fin.ext (by simp [row, Rect.toLoadRect, Rect.unit, LoadRect.idx])

theorem put_in {s : Shape} {α : Type} (off size : Fin s.rank → ℕ) (inb : ∀ a, off a + size a ≤ s.size a)
    (w : (⟨s.rank, size⟩ : Shape).Idx → α) (X : s.Idx → α) (y : s.Idx) (h : ∀ a, off a ≤ (y a).val ∧ (y a).val < off a + size a) :
    put off size inb w X y = w (Rect.unitLocal (s := s) (off := off) (size := size) y h) := dif_pos h

theorem put_out {s : Shape} {α : Type} (off size : Fin s.rank → ℕ) (inb : ∀ a, off a + size a ≤ s.size a)
    (w : (⟨s.rank, size⟩ : Shape).Idx → α) (X : s.Idx → α) (y : s.Idx) (h : ¬ ∀ a, off a ≤ (y a).val ∧ (y a).val < off a + size a) :
    put off size inb w X y = X y := dif_neg h

namespace Head

variable (H : Head)

theorem stage_some (x : Vec Ideal S8x8192 .f32 × Vec Ideal S8192x128 .bf16) :
    ∀ m ≤ 16, (∀ y : S8x8192.Idx, (y 1).val < 512 * m → (stage (F := Ideal) (re H.o) (re H.g) x m).1 y = ((H.delta (y 1) : ℝ) : EReal))
      ∧ ∀ y : S8192x128.Idx, (y 0).val < 512 * m → (stage (F := Ideal) (re H.o) (re H.g) x m).2 y = re H.g y := by
  intro m
  induction m with
  | zero => exact fun _ => ⟨fun y h => absurd h (by omega), fun y h => absurd h (by omega)⟩
  | succ m ih =>
    intro hm
    obtain ⟨h1, h2⟩ := ih (by omega)
    have hb : blk m = 512 * m := by unfold blk; omega
    unfold stage stage1
    rw [rows_eq, rows_eq, pay66_re, pay67_re]
    refine ⟨fun y hy => ?_, fun y hy => ?_⟩
    · by_cases h : (y 1).val < 512 * m
      · have hn : ¬ ∀ a, (![0, blk m] : Fin 2 → ℕ) a ≤ (y a).val ∧ (y a).val < (![0, blk m] : Fin 2 → ℕ) a + (![8, 512] : Fin 2 → ℕ) a := by
          intro hc
          have := (hc 1).1
          change blk m ≤ (y 1).val at this
          omega
        exact (put_out (s := S8x8192) ![0, blk m] ![8, 512] (inbE m) _ _ y hn).trans (h1 y h)
      · have hin : ∀ a, (![0, blk m] : Fin 2 → ℕ) a ≤ (y a).val ∧ (y a).val < (![0, blk m] : Fin 2 → ℕ) a + (![8, 512] : Fin 2 → ℕ) a := by
          intro a
          match a with
          | ⟨0, _⟩ => show 0 ≤ (y 0).val ∧ (y 0).val < 0 + 8; have h0 : (y 0).val < 8 := (y 0).isLt; omega
          | ⟨1, _⟩ => show blk m ≤ (y 1).val ∧ (y 1).val < blk m + 512; omega
        refine (put_in (s := S8x8192) ![0, blk m] ![8, 512] (inbE m) _ _ y hin).trans ?_
        show ((∑ d, H.g (row m _) d * H.o (row m _) d : ℝ) : EReal) = _
        rw [H.sum_g_o]
        congr 2
        exact Fin.ext (by show blk m + ((y 1).val - blk m) = (y 1).val; omega)
    · by_cases h : (y 0).val < 512 * m
      · have hn : ¬ ∀ a, (![blk m, 0] : Fin 2 → ℕ) a ≤ (y a).val ∧ (y a).val < (![blk m, 0] : Fin 2 → ℕ) a + (![512, 128] : Fin 2 → ℕ) a := by
          intro hc
          have := (hc 0).1
          change blk m ≤ (y 0).val at this
          omega
        exact (put_out (s := S8192x128) ![blk m, 0] ![512, 128] (inbB m) _ _ y hn).trans (h2 y h)
      · have hin : ∀ a, (![blk m, 0] : Fin 2 → ℕ) a ≤ (y a).val ∧ (y a).val < (![blk m, 0] : Fin 2 → ℕ) a + (![512, 128] : Fin 2 → ℕ) a := by
          intro a
          match a with
          | ⟨0, _⟩ => show blk m ≤ (y 0).val ∧ (y 0).val < blk m + 512; omega
          | ⟨1, _⟩ => show 0 ≤ (y 1).val ∧ (y 1).val < 0 + 128; have h0 : (y 1).val < 128 := (y 1).isLt; omega
        refine (put_in (s := S8192x128) ![blk m, 0] ![512, 128] (inbB m) _ _ y hin).trans ?_
        show ((H.g (row m _) _ : ℝ) : EReal) = ((H.g _ _ : ℝ) : EReal)
        congr 2
        exact Fin.ext (by show blk m + ((y 0).val - blk m) = (y 0).val; omega)

/-- The staged arrays: every row sum of `do · o`, and the cotangent. -/
theorem stage_eq (x : Vec Ideal S8x8192 .f32 × Vec Ideal S8192x128 .bf16) :
    stage (F := Ideal) (re H.o) (re H.g) x 16 = (H.ins.dl, H.ins.ct) := by
  obtain ⟨h1, h2⟩ := H.stage_some x 16 le_rfl
  refine Prod.ext ?_ ?_
  · funext y; exact h1 y (by have h : (y 1).val < 8192 := (y 1).isLt; omega)
  · funext y; exact h2 y (by have h : (y 0).val < 8192 := (y 0).isLt; omega)

/-- The queries' gradient before the scale after the first `n` blocks of keys. -/
def acc (n : ℕ) (i : Fin 8192) (d : Fin 256) : ℝ := ∑ j ∈ Finset.range n, H.qterm j i d

theorem pad_mul (f : Fin 8192 → Fin 192 → ℝ) (i : Fin 8192) (d : Fin 256) (x : ℝ) : pad f i d * x = pad (fun i d => f i d * x) i d := by
  unfold pad; split
  · rfl
  · exact zero_mul _

theorem acc_all (i : Fin 8192) (d : Fin 256) : H.acc 16 i d * c = pad H.dq i d := by
  unfold acc qterm
  rw [← sum_rows (fun j => H.ds i j * pad H.k j d)]
  unfold pad dq
  split
  · rfl
  · simp

theorem qterm_masked (j : ℕ) (hj : j < 16) (i : Fin 8192) (d : Fin 256) (h : i.val / 512 < j) : H.qterm j i d = 0 := by
  unfold qterm
  refine Finset.sum_eq_zero fun b _ => ?_
  rw [H.ds_masked i (row j b), zero_mul]
  intro hc
  have : (row j b).val ≤ i.val := hc
  unfold row blk at this; simp only at this; omega

theorem acc_succ (j : ℕ) (hj : j < 16) (i : Fin 8192) (d : Fin 256) :
    (H.acc j i d + if i.val / 512 ∈ Finset.Icc j 15 then H.qterm j i d else 0) = H.acc (j + 1) i d := by
  unfold acc
  rw [Finset.sum_range_succ]
  congr 1
  have hi := i.isLt
  by_cases h : i.val / 512 < j
  · rw [H.qterm_masked j hj i d h]; simp
  · rw [if_pos (by rw [Finset.mem_Icc]; omega)]

/-- Row blocks before the diagonal add nothing. -/
theorem sum_from (j : ℕ) (hj : j < 16) (f : ℕ → ℝ) (h : ∀ n < j, f n = 0) : ∑ n ∈ Finset.Icc j 15, f n = ∑ n ∈ Finset.range 16, f n := by
  refine Finset.sum_subset (fun n hn => ?_) fun n hn hn' => h n ?_
  · rw [Finset.mem_Icc] at hn; rw [Finset.mem_range]; omega
  · rw [Finset.mem_range] at hn; rw [Finset.mem_Icc] at hn'; omega

theorem row_lt (j n : ℕ) (hj : j < 16) (h : n < j) (b a : Fin 512) : ¬ row j b ≤ row n a := by
  intro hc
  have : (row j b).val ≤ (row n a).val := hc
  unfold row blk at this; simp only at this; omega

theorem dk_all (j : ℕ) (hj : j < 16) (b : Fin 512) (d : Fin 256) :
    (∑ n ∈ Finset.Icc j 15, H.kterm j n b d) * c = pad H.dk (row j b) d := by
  rw [sum_from j hj (fun n => H.kterm j n b d)]
  · unfold kterm
    rw [← sum_rows (fun i => H.ds i (row j b) * pad H.q i d)]
    unfold pad dk
    split
    · rfl
    · simp
  · intro n hn
    exact Finset.sum_eq_zero fun a _ => by rw [H.ds_masked _ _ (row_lt j n hj hn b a), zero_mul]

theorem dv_all (j : ℕ) (hj : j < 16) (b : Fin 512) (d : Fin 128) :
    ∑ n ∈ Finset.Icc j 15, H.vterm j n b d = H.dv (row j b) d := by
  rw [sum_from j hj (fun n => H.vterm j n b d)]
  · unfold vterm
    rw [← sum_rows (fun i => H.p i (row j b) * H.g i d)]
    rfl
  · intro n hn
    exact Finset.sum_eq_zero fun a _ => by rw [H.p_masked _ _ (row_lt j n hj hn b a), zero_mul]

/-- What the point that holds block `j` of the keys leaves. -/
def leaf (j : ℕ) : St Ideal where
  dq := if j = 15 then re (pad H.dq) else re (H.acc (j + 1))
  dk := re fun b d => pad H.dk (row j b) d
  dv := re fun b d => H.dv (row j b) d

theorem final_eq (j : ℕ) (hj : j < 16) : final H.ins (H.kb j) (H.vb j) j (re (H.acc j)) = H.leaf j := by
  unfold final leaf
  rw [H.steps_after j (H.acc j) hj]
  unfold after
  simp only [H.acc_succ j hj, pay81_re, pay1_re, H.dk_all j hj, H.dv_all j hj]
  congr 1
  by_cases h : j = 15
  · subst h; rw [if_pos rfl, if_pos rfl]; congr 1; funext i d; exact H.acc_all i d
  · rw [if_neg h, if_neg h]

end Head

end Cert.FlashBwdIdeal.Flash
-- ==== Proof.FlashValue.lean ====
/- The three gradients the attention backward leaves, from real arguments. -/
module

public import proofs.«01_k».proof.Proof.FlashIns
public import proofs.«01_k».proof.Proof.FlashPoint
public import Idealize.ShloMosaic.Lib.Pipeline.Value

@[expose] public section

set_option maxRecDepth 16384

noncomputable section

namespace Cert.FlashBwdIdeal.Flash

open Cert.FlashBwdIdeal Cert.FlashBwdIdeal.Gen Idealize.ShloMosaic Idealize.ShloMosaic.TcCoe Idealize.SL.Sem
open Idealize.ShloMosaic.Pipeline (Dat)

/-- The gradient of the queries, a head's 256 lanes side by side, the last 64 of them zero. -/
def Gq (A : Arr) : S8192x1024.Idx → EReal := fun i =>
  ((Head.pad (A.head ⟨(i 1).val / 256, by have : (i 1).val < 1024 := (i 1).isLt; omega⟩).dq (i 0) ⟨(i 1).val % 256, Nat.mod_lt _ (by norm_num)⟩ : ℝ) : EReal)
/-- The gradient of the keys. -/
def Gk (A : Arr) : S8192x1024.Idx → EReal := fun i =>
  ((Head.pad (A.head ⟨(i 1).val / 256, by have : (i 1).val < 1024 := (i 1).isLt; omega⟩).dk (i 0) ⟨(i 1).val % 256, Nat.mod_lt _ (by norm_num)⟩ : ℝ) : EReal)
/-- The gradient of the values. -/
def Gv (A : Arr) : S8192x512.Idx → EReal := fun i =>
  (((A.head ⟨(i 1).val / 128, by have : (i 1).val < 512 := (i 1).isLt; omega⟩).dv (i 0) ⟨(i 1).val % 128, Nat.mod_lt _ (by norm_num)⟩ : ℝ) : EReal)

theorem Gq_at (A : Arr) (j : S8192x1024.Idx) (i : Fin 8192) (h : Fin 4) (d : Fin 256) (h0 : (j 0).val = i.val) (h1 : (j 1).val = 256 * h.val + d.val) :
    Gq A j = ((Head.pad (A.head h).dq i d : ℝ) : EReal) := by
  unfold Gq
  have e0 : j 0 = i := Fin.ext h0
  have e1 : (⟨(j 1).val / 256, by have : (j 1).val < 1024 := (j 1).isLt; omega⟩ : Fin 4) = h := Fin.ext (by show (j 1).val / 256 = h.val; omega)
  have e2 : (⟨(j 1).val % 256, Nat.mod_lt _ (by norm_num)⟩ : Fin 256) = d := Fin.ext (by show (j 1).val % 256 = d.val; omega)
  rw [e1, e2, e0]
theorem Gk_at (A : Arr) (j : S8192x1024.Idx) (i : Fin 8192) (h : Fin 4) (d : Fin 256) (h0 : (j 0).val = i.val) (h1 : (j 1).val = 256 * h.val + d.val) :
    Gk A j = ((Head.pad (A.head h).dk i d : ℝ) : EReal) := by
  unfold Gk
  have e0 : j 0 = i := Fin.ext h0
  have e1 : (⟨(j 1).val / 256, by have : (j 1).val < 1024 := (j 1).isLt; omega⟩ : Fin 4) = h := Fin.ext (by show (j 1).val / 256 = h.val; omega)
  have e2 : (⟨(j 1).val % 256, Nat.mod_lt _ (by norm_num)⟩ : Fin 256) = d := Fin.ext (by show (j 1).val % 256 = d.val; omega)
  rw [e1, e2, e0]
theorem Gv_at (A : Arr) (j : S8192x512.Idx) (i : Fin 8192) (h : Fin 4) (d : Fin 128) (h0 : (j 0).val = i.val) (h1 : (j 1).val = 128 * h.val + d.val) :
    Gv A j = (((A.head h).dv i d : ℝ) : EReal) := by
  unfold Gv
  have e0 : j 0 = i := Fin.ext h0
  have e1 : (⟨(j 1).val / 128, by have : (j 1).val < 512 := (j 1).isLt; omega⟩ : Fin 4) = h := Fin.ext (by show (j 1).val / 128 = h.val; omega)
  have e2 : (⟨(j 1).val % 128, Nat.mod_lt _ (by norm_num)⟩ : Fin 128) = d := Fin.ext (by show (j 1).val % 128 = d.val; omega)
  rw [e1, e2, e0]

variable {m : (ℓ : Loc nD τ sig) → Buf (Elt Ideal) ℓ} {A : Arr} {c : Dev nD}

theorem leaves_eq (H : Holds m A c) (t : Fin cfg0.N) : leaves m c t (re ((A.head (hd t)).acc (t.val % 16)), ((A.head (hd t)).ins.dl, (A.head (hd t)).ins.ct))
    = (A.head (hd t)).leaf (t.val % 16) := by
  unfold leaves
  rw [iblk_q H, iblk_k H, iblk_v H, iblk_l H]
  exact (A.head (hd t)).final_eq _ (Nat.mod_lt _ (by norm_num))

/-- What every point leaves: the sums so far. -/
theorem outs_eq (H : Holds m A c) : ∀ (n : ℕ) (hn : n < cfg0.N), outs m c n hn
    = ((A.head (hd ⟨n, hn⟩)).leaf (n % 16), ((A.head (hd ⟨n, hn⟩)).ins.dl, (A.head (hd ⟨n, hn⟩)).ins.ct)) := by
  intro n
  induction n using Nat.strong_induction_on with
  | _ n ih =>
    intro hn
    by_cases h : n % 16 = 0
    · refine (outs_A m c ⟨n, hn⟩ h).trans ?_
      rw [iblk_o H, iblk_g H, (A.head (hd ⟨n, hn⟩)).stage_eq, pay64_re]
      refine Prod.ext ?_ rfl
      refine Eq.trans ?_ (leaves_eq H ⟨n, hn⟩)
      show leaves m c _ _ = leaves m c _ (re ((A.head (hd ⟨n, hn⟩)).acc (n % 16)), _)
      rw [h]
      have : (A.head (hd ⟨n, hn⟩)).acc 0 = fun _ _ => 0 := by funext i d; exact Finset.sum_range_zero _
      rw [this]
    · have h' : n - 1 < cfg0.N := by omega
      have e : hd ⟨n - 1, h'⟩ = hd ⟨n, hn⟩ := Fin.ext (by show (n - 1) / 16 = n / 16; omega)
      have e2 : (n - 1) % 16 + 1 = n % 16 := by omega
      refine (outs_B m c ⟨n, hn⟩ h).trans ?_
      show (leaves m c ⟨n, hn⟩ ((outs m c (n - 1) h').1.dq, (outs m c (n - 1) h').2), (outs m c (n - 1) h').2) = _
      rw [ih (n - 1) (by omega) h', e]
      refine Prod.ext ?_ rfl
      refine Eq.trans ?_ (leaves_eq H ⟨n, hn⟩)
      show leaves m c _ (((A.head (hd ⟨n, hn⟩)).leaf ((n - 1) % 16)).dq, _) = leaves m c _ (re ((A.head (hd ⟨n, hn⟩)).acc (n % 16)), _)
      unfold Head.leaf
      dsimp only
      rw [if_neg (by omega), e2]

/-! ## The result arrays -/

theorem flushed_6 (H : Holds m A c) (t : Fin cfg0.N) (hf : (cfg0.win 6).flush t = true) :
    (dats m 0 c).flushed 6 t = (win0_6.blk t).view.read (Elt Ideal) (Gq A) := by
  have h15 : t.val % 16 = 15 := (flush0_6 t).1 hf
  show (cfg0.win 6).cut (grid0.coords t) ((dats m 0 c).after 6 t) = _
  rw [after_6, outs_eq H]
  obtain ⟨-, -, e, -, -⟩ := idx_facts t
  funext i
  refine Eq.trans ?_ (Gq_at A ((win0_6.blk t).view.emb i) (i 0) (hd t) (i 1) ?_ ?_).symm
  · show ((A.head (hd t)).leaf (t.val % 16)).dq _ = _
    unfold Head.leaf
    dsimp only
    rw [if_pos h15]
    rfl
  · show win0_6.index t 0 * 8192 + 1 * (i 0).val = (i 0).val
    rw [e]; show 0 * 8192 + 1 * (i 0).val = _; omega
  · show win0_6.index t 1 * 256 + 1 * (i 1).val = 256 * (t.val / 16) + (i 1).val
    rw [e]; show t.val / 16 * 256 + 1 * (i 1).val = _; omega

theorem flushed_7 (H : Holds m A c) (t : Fin cfg0.N) : (dats m 0 c).flushed 7 t = (win0_7.blk t).view.read (Elt Ideal) (Gk A) := by
  show (cfg0.win 7).cut (grid0.coords t) ((dats m 0 c).after 7 t) = _
  rw [after_7, outs_eq H]
  obtain ⟨-, -, -, e, -⟩ := idx_facts t
  funext i
  refine Eq.trans ?_ (Gk_at A ((win0_7.blk t).view.emb i) (row (t.val % 16) (i 0)) (hd t) (i 1) ?_ ?_).symm
  · rfl
  · show win0_7.index t 0 * 512 + 1 * (i 0).val = 512 * (t.val % 16 % 16) + (i 0).val
    rw [e]; show t.val % 16 * 512 + 1 * (i 0).val = _; omega
  · show win0_7.index t 1 * 256 + 1 * (i 1).val = 256 * (t.val / 16) + (i 1).val
    rw [e]; show t.val / 16 * 256 + 1 * (i 1).val = _; omega

theorem flushed_8 (H : Holds m A c) (t : Fin cfg0.N) : (dats m 0 c).flushed 8 t = (win0_8.blk t).view.read (Elt Ideal) (Gv A) := by
  show (cfg0.win 8).cut (grid0.coords t) ((dats m 0 c).after 8 t) = _
  rw [after_8, outs_eq H]
  obtain ⟨-, -, -, -, e⟩ := idx_facts t
  funext i
  refine Eq.trans ?_ (Gv_at A ((win0_8.blk t).view.emb i) (row (t.val % 16) (i 0)) (hd t) (i 1) ?_ ?_).symm
  · rfl
  · show win0_8.index t 0 * 512 + 1 * (i 0).val = 512 * (t.val % 16 % 16) + (i 0).val
    rw [e]; show t.val % 16 * 512 + 1 * (i 0).val = _; omega
  · show win0_8.index t 1 * 128 + 1 * (i 1).val = 128 * (t.val / 16) + (i 1).val
    rw [e]; show t.val / 16 * 128 + 1 * (i 1).val = _; omega

theorem mem_6 (t : Fin cfg0.N) (i : S8192x1024.Idx) (h : (i 1).val / 256 = t.val / 16) : i ∈ ((cfg0.win 6).blk t).view.set := by
  show i ∈ ((View.whole main_v40_0).slice (win0_6.rect t)).set
  rw [View.set_slice_whole, Rect.mem_set_unit]
  obtain ⟨-, -, e, -, -⟩ := idx_facts t
  have e0 : win0_6.index t 0 = 0 := by rw [e]; rfl
  have e1 : win0_6.index t 1 = t.val / 16 := by rw [e]; rfl
  have b0 : (i 0).val < 8192 := (i 0).isLt
  intro a
  match a with
  | ⟨0, _⟩ => show win0_6.index t 0 * 8192 ≤ (i 0).val ∧ (i 0).val < win0_6.index t 0 * 8192 + 8192
              rw [e0]; clear e e0 e1; omega
  | ⟨1, _⟩ => show win0_6.index t 1 * 256 ≤ (i 1).val ∧ (i 1).val < win0_6.index t 1 * 256 + 256
              rw [e1]; clear e e0 e1; omega

theorem mem_7 (t : Fin cfg0.N) (i : S8192x1024.Idx) (h : (i 1).val / 256 = t.val / 16) (h' : (i 0).val / 512 = t.val % 16) : i ∈ ((cfg0.win 7).blk t).view.set := by
  show i ∈ ((View.whole main_v40_1).slice (win0_7.rect t)).set
  rw [View.set_slice_whole, Rect.mem_set_unit]
  obtain ⟨-, -, -, e, -⟩ := idx_facts t
  have e0 : win0_7.index t 0 = t.val % 16 := by rw [e]; rfl
  have e1 : win0_7.index t 1 = t.val / 16 := by rw [e]; rfl
  intro a
  match a with
  | ⟨0, _⟩ => show win0_7.index t 0 * 512 ≤ (i 0).val ∧ (i 0).val < win0_7.index t 0 * 512 + 512
              rw [e0]; clear e e0 e1; omega
  | ⟨1, _⟩ => show win0_7.index t 1 * 256 ≤ (i 1).val ∧ (i 1).val < win0_7.index t 1 * 256 + 256
              rw [e1]; clear e e0 e1; omega

theorem mem_8 (t : Fin cfg0.N) (i : S8192x512.Idx) (h : (i 1).val / 128 = t.val / 16) (h' : (i 0).val / 512 = t.val % 16) : i ∈ ((cfg0.win 8).blk t).view.set := by
  show i ∈ ((View.whole main_v40_2).slice (win0_8.rect t)).set
  rw [View.set_slice_whole, Rect.mem_set_unit]
  obtain ⟨-, -, -, -, e⟩ := idx_facts t
  have e0 : win0_8.index t 0 = t.val % 16 := by rw [e]; rfl
  have e1 : win0_8.index t 1 = t.val / 16 := by rw [e]; rfl
  intro a
  match a with
  | ⟨0, _⟩ => show win0_8.index t 0 * 512 ≤ (i 0).val ∧ (i 0).val < win0_8.index t 0 * 512 + 512
              rw [e0]; clear e e0 e1; omega
  | ⟨1, _⟩ => show win0_8.index t 1 * 128 ≤ (i 1).val ∧ (i 1).val < win0_8.index t 1 * 128 + 128
              rw [e1]; clear e e0 e1; omega

theorem final_6 (H : Holds m A c) : (dats m 0 c).arrAt 6 cfg0.N = Gq A :=
  (dats m 0 c).arrAt_eq_of_cover 6 _ (flushed_6 H) fun i => by
    have b1 : (i 1).val < 1024 := (i 1).isLt
    have hN : 16 * ((i 1).val / 256) + 15 < cfg0.N := by show _ < grid0.N; rw [N_0]; omega
    refine ⟨⟨16 * ((i 1).val / 256) + 15, hN⟩, (flush0_6 _).2 ?_, mem_6 _ _ ?_⟩
    · show (16 * ((i 1).val / 256) + 15) % 16 = 15; omega
    · show _ = (16 * ((i 1).val / 256) + 15) / 16; omega

theorem final_7 (H : Holds m A c) : (dats m 0 c).arrAt 7 cfg0.N = Gk A :=
  (dats m 0 c).arrAt_eq_of_cover 7 _ (fun t _ => flushed_7 H t) fun i => by
    have b0 : (i 0).val < 8192 := (i 0).isLt
    have b1 : (i 1).val < 1024 := (i 1).isLt
    have hN : 16 * ((i 1).val / 256) + (i 0).val / 512 < cfg0.N := by show _ < grid0.N; rw [N_0]; omega
    refine ⟨⟨16 * ((i 1).val / 256) + (i 0).val / 512, hN⟩, flush0_7 _, mem_7 _ _ ?_ ?_⟩
    · show _ = (16 * ((i 1).val / 256) + (i 0).val / 512) / 16; omega
    · show _ = (16 * ((i 1).val / 256) + (i 0).val / 512) % 16; omega

theorem final_8 (H : Holds m A c) : (dats m 0 c).arrAt 8 cfg0.N = Gv A :=
  (dats m 0 c).arrAt_eq_of_cover 8 _ (fun t _ => flushed_8 H t) fun i => by
    have b0 : (i 0).val < 8192 := (i 0).isLt
    have b1 : (i 1).val < 512 := (i 1).isLt
    have hN : 16 * ((i 1).val / 128) + (i 0).val / 512 < cfg0.N := by show _ < grid0.N; rw [N_0]; omega
    refine ⟨⟨16 * ((i 1).val / 128) + (i 0).val / 512, hN⟩, flush0_8 _, mem_8 _ _ ?_ ?_⟩
    · show _ = (16 * ((i 1).val / 128) + (i 0).val / 512) / 16; omega
    · show _ = (16 * ((i 1).val / 128) + (i 0).val / 512) % 16; omega

end Cert.FlashBwdIdeal.Flash

end
-- ==== Proof.FlashRef.lean ====
/- The derivative of the plain attention, line by line on real arguments: its three results are the sums the kernel leaves. -/
module

public import proofs.«01_k».proof.Proof.FlashValue
public import proofs.«01_k».proof.Proof.Gen.FlashBwdRefIdeal.Run
public import proofs.«01_k».proof.Proof.Gen.FlashBwdRefIdeal.Read
public import Idealize.ShloMosaic.Lib.Pointwise

@[expose] public section

set_option maxRecDepth 16384

noncomputable section

namespace Cert.FlashBwdIdeal.FlashRef

open Idealize.ShloMosaic Cert.FlashBwdIdeal.Flash Cert.FlashBwdRefIdeal.Read

theorem one_word : Ideal.ofBits .f32 0x3F800000#32 = ((1 : ℝ) : EReal) := by
  simp [Ideal.ofBits, Ideal.ieee, -EReal.coe_mul]; norm_num
theorem zero_word : Ideal.ofBits .f32 0x00000000#32 = ((0 : ℝ) : EReal) := by
  simp [Ideal.ofBits, Ideal.ieee, -EReal.coe_mul]

variable (A : Arr)

theorem scale_eq : Ideal.div (Ideal.ofBits .f32 0x3F800000#32) (Ideal.sqrt (Ideal.ofBits .f32 0x43400000#32)) = ((Head.c : ℝ) : EReal) := by
  rw [one_word, div_sqrt, one_mul]

theorem v1_re (i : Cert.FlashBwdRefIdeal.S_.Idx) : val_main_v1 (F := Ideal) i = ((Head.c : ℝ) : EReal) := scale_eq

theorem v4_re (h : Fin 4) (i j : Fin 8192) : val_main_v4 (F := Ideal) (re3 A.q) (re3 A.k) (ix3 h i j) = (((A.head h).dot i j * Head.c : ℝ) : EReal) := by
  unfold val_main_v4 val_main_v3 val_main_v2
  pointwise [v1_re, re3]
  simp only [← EReal.coe_mul, coe_sum]
  rfl

theorem v11_1_re (h : Fin 4) (i j : Fin 8192) : val_main_v11_1 (F := Ideal) (ix3 h i j) = if j ≤ i then 1#1 else 0#1 := by
  unfold val_main_v11_1 val_main_v10 val_main_v9 val_main_v8 val_main_v7 val_main_v6 val_main_v5
  pointwise []
  rw [sle_eq _ _ (by omega) (by omega)]
  rfl

theorem v11_re (h : Fin 4) (i j : Fin 8192) :
    val_main_v11_0 (F := Ideal) (re3 A.q) (re3 A.k) (ix3 h i j) = if j ≤ i then (((A.head h).dot i j * Head.c : ℝ) : EReal) else ⊥ := by
  unfold val_main_v11_0 val_main_call0_v2 val_main_call0_v0 val_main_cst_1
  pointwise [v11_1_re, v4_re]
  by_cases hj : j ≤ i
  · rw [if_pos hj, if_pos hj, select_one]
  · rw [if_neg hj, if_neg hj, select_zero]; exact bot_word

theorem v12_real : ∃ M : Fin 4 → Fin 8192 → ℝ, ∀ h i, val_main_v12 (F := Ideal) (re3 A.q) (re3 A.k) (ix2 h i) = ((M h i : ℝ) : EReal) := by
  have h : ∀ h i, ∃ r : ℝ, val_main_v12 (F := Ideal) (re3 A.q) (re3 A.k) (ix2 h i) = r := by
    intro h i
    unfold val_main_v12 val_main_cst_2
    pointwise [v11_re]
    rw [bot_word]
    refine fold_max_real _ (fun j => ?_) i ?_
    · by_cases hj : j ≤ i
      · exact Or.inr ⟨_, if_pos hj⟩
      · exact Or.inl (if_neg hj)
    · exact ⟨_, if_pos le_rfl⟩
  exact ⟨fun a b => (h a b).choose, fun a b => (h a b).choose_spec⟩

variable (M : Fin 4 → Fin 8192 → ℝ) (hM : ∀ h i, val_main_v12 (F := Ideal) (re3 A.q) (re3 A.k) (ix2 h i) = ((M h i : ℝ) : EReal))
include hM

omit hM in
theorem max_low (X : FVec Ideal Cert.FlashBwdRefIdeal.S4x8192 .f32) (i : Cert.FlashBwdRefIdeal.S4x8192.Idx) : maximumf (val_main_v18 (F := Ideal)) X i = (max (Ideal.ofBits .f32 0xFF800000#32) (X i) : EReal) := rfl

theorem v19_re (h : Fin 4) (i : Fin 8192) : val_main_v19 (F := Ideal) (re3 A.q) (re3 A.k) (ix2 h i) = ((M h i : ℝ) : EReal) := by
  unfold val_main_v19
  rw [max_low, hM, bot_word, max_eq_right bot_le]

theorem v32_re (h : Fin 4) (i j : Fin 8192) : val_main_v32 (F := Ideal) (re3 A.q) (re3 A.k) (ix3 h i j) = (((A.head h).e (M h i) i j : ℝ) : EReal) := by
  unfold val_main_v32 val_main_v31 val_main_v30 val_main_v29
  pointwise [v11_re, v19_re A M hM]
  exact exp_score _ _ _ _

theorem v34_re (h : Fin 4) (i : Fin 8192) (z : Fin 1) : val_main_v34 (F := Ideal) (re3 A.q) (re3 A.k) (ix3 h i z) = (((A.head h).sum (M h i) i : ℝ) : EReal) := by
  unfold val_main_v34 val_main_v33 val_main_cst_10
  pointwise [v32_re A M hM]
  rw [coe_sum]; rfl

theorem v36_re (h : Fin 4) (i j : Fin 8192) : val_main_v36 (F := Ideal) (re3 A.q) (re3 A.k) (ix3 h i j) = (((A.head h).p i j : ℝ) : EReal) := by
  unfold val_main_v36 val_main_v35
  pointwise [v32_re A M hM, v34_re A M hM]
  exact div_sum _ _ _ _

omit hM in
theorem v43_re (h : Fin 4) (i j : Fin 8192) : val_main_v43 (F := Ideal) (re3 A.v) (re3 A.g) (ix3 h i j) = (((A.head h).dp i j : ℝ) : EReal) := by
  unfold val_main_v43 val_main_v42
  pointwise [re3]
  simp only [← EReal.coe_mul, coe_sum]
  rfl

theorem v45_re (h : Fin 4) (j : Fin 8192) (d : Fin 128) : val_main_v45 (F := Ideal) (re3 A.q) (re3 A.k) (re3 A.g) (ix3 j h d) = (((A.head h).dv j d : ℝ) : EReal) := by
  unfold val_main_v45 val_main_v44 val_main_v42
  pointwise [v36_re A M hM, re3]
  simp only [← EReal.coe_mul, coe_sum]
  unfold Head.dv
  congr 1
  exact Finset.sum_congr rfl fun i _ => mul_comm _ _

omit hM in
theorem inv_sq (H : Head) (M : ℝ) (i : Fin 8192) :
    Ideal.div (1 : EReal) (((H.sum M i : ℝ) : EReal) * ((H.sum M i : ℝ) : EReal)) = ((1 / (H.sum M i * H.sum M i) : ℝ) : EReal) := by
  have h := (H.sum_pos M i).ne'
  rw [← EReal.coe_mul, Ideal.div_coe (mul_ne_zero h h), one_mul]

theorem v39_re (h : Fin 4) (i : Fin 8192) (z : Fin 1) : val_main_v39 (F := Ideal) (re3 A.q) (re3 A.k) (ix3 h i z)
    = ((1 / ((A.head h).sum (M h i) i * (A.head h).sum (M h i) i) : ℝ) : EReal) := by
  unfold val_main_v39 val_main_v38 val_main_v37 val_main_cst_11
  pointwise [v34_re A M hM]
  exact inv_sq _ _ _

theorem v49_re (h : Fin 4) (i : Fin 8192) : val_main_v49 (F := Ideal) (re3 A.q) (re3 A.k) (re3 A.v) (re3 A.g) (ix2 h i)
    = ((∑ l, (A.head h).dp i l * (1 / ((A.head h).sum (M h i) i * (A.head h).sum (M h i) i)) * (A.head h).e (M h i) i l : ℝ) : EReal) := by
  unfold val_main_v49 val_main_v48 val_main_v47 val_main_v46 val_main_cst_12
  pointwise [v43_re, v39_re A M hM, v32_re A M hM]
  simp only [← EReal.coe_mul, coe_sum]

omit hM in
theorem add_last (X : FVec Ideal Cert.FlashBwdRefIdeal.S4x8192 .f32) (h : Fin 4) (i : Fin 8192) (z : Fin 1) :
    shapeCast Cert.FlashBwdRefIdeal.S4x8192x1 X Cert.FlashBwdRefIdeal.Facts₀.shapeCasts_S4x8192_S4x8192x1 (ix3 h i z) = X (ix2 h i) :=
  shapeCast_apply X Cert.FlashBwdRefIdeal.Facts₀.shapeCasts_S4x8192_S4x8192x1 (ix3 h i z) (ix2 h i) (by
    rewrite [Shape.rowMajor_val_three, Shape.rowMajor_val_two]
    show h.val * 8192 + i.val = (h.val * 8192 + i.val) * 1 + z.val; omega)

theorem v51_re (h : Fin 4) (i : Fin 8192) (z : Fin 1) : val_main_v51 (F := Ideal) (re3 A.q) (re3 A.k) (re3 A.v) (re3 A.g) (ix3 h i z)
    = ((-∑ l, (A.head h).dp i l * (1 / ((A.head h).sum (M h i) i * (A.head h).sum (M h i) i)) * (A.head h).e (M h i) i l : ℝ) : EReal) := by
  unfold val_main_v51 val_main_v50
  pointwise [v49_re A M hM]
  first | (rw [EReal.coe_neg]; done) | (rw [← EReal.coe_neg]; done) | skip

theorem v54_re (h : Fin 4) (i : Fin 8192) : val_main_v54 (F := Ideal) (re3 A.q) (re3 A.k) (re3 A.v) (re3 A.g) (ix2 h i)
    = ((-∑ l, (A.head h).dp i l * (1 / ((A.head h).sum (M h i) i * (A.head h).sum (M h i) i)) * (A.head h).e (M h i) i l : ℝ) : EReal) := by
  unfold val_main_v54 val_main_cst_13
  pointwise [v51_re A M hM]
  simp

omit hM in
theorem quot (H : Head) (M : ℝ) (i j : Fin 8192) (x : ℝ) :
    Ideal.div ((H.dp i j : ℝ) : EReal) ((H.sum M i : ℝ) : EReal) + (x : EReal) = ((H.dp i j / H.sum M i + x : ℝ) : EReal) := by
  rw [Ideal.div_coe (H.sum_pos M i).ne', ← EReal.coe_mul, mul_one_div, ← EReal.coe_add]

theorem v57_re (h : Fin 4) (i j : Fin 8192) : val_main_v57 (F := Ideal) (re3 A.q) (re3 A.k) (re3 A.v) (re3 A.g) (ix3 h i j) = (((A.head h).ds i j : ℝ) : EReal) := by
  unfold val_main_v57 val_main_v56 val_main_v55 val_main_v53 val_main_v52
  pointwise [v54_re A M hM, v43_re, v34_re A M hM, v32_re A M hM]
  rw [quot, ← EReal.coe_mul, Head.ds_quot]

theorem v60_re (h : Fin 4) (i j : Fin 8192) : val_main_v60 (F := Ideal) (re3 A.q) (re3 A.k) (re3 A.v) (re3 A.g) (ix3 h i j) = (((A.head h).ds i j * Head.c : ℝ) : EReal) := by
  unfold val_main_v60 val_main_v59 val_main_v58 val_main_call1_v0 val_main_call1_cst
  pointwise [v11_1_re, v57_re A M hM, v1_re]
  by_cases hj : j ≤ i
  · rw [if_pos hj, select_one, EReal.coe_mul]
  · rw [if_neg hj, select_zero, (A.head h).ds_masked i j (by omega), zero_mul]; rfl

theorem v62_re (h : Fin 4) (j : Fin 8192) (d : Fin 192) : val_main_v62 (F := Ideal) (re3 A.q) (re3 A.k) (re3 A.v) (re3 A.g) (ix3 j h d) = (((A.head h).dk j d : ℝ) : EReal) := by
  unfold val_main_v62 val_main_v61
  pointwise [v60_re A M hM, re3]
  simp only [← EReal.coe_mul, coe_sum]
  unfold Head.dk
  rw [Finset.sum_mul]
  congr 1
  exact Finset.sum_congr rfl fun i _ => mul_right_comm _ _ _

theorem v64_re (h : Fin 4) (i : Fin 8192) (d : Fin 192) : val_main_v64 (F := Ideal) (re3 A.q) (re3 A.k) (re3 A.v) (re3 A.g) (ix3 i h d) = (((A.head h).dq i d : ℝ) : EReal) := by
  unfold val_main_v64 val_main_v63
  pointwise [v60_re A M hM, re3]
  simp only [← EReal.coe_mul, coe_sum]
  unfold Head.dq
  rw [Finset.sum_mul]
  congr 1
  exact Finset.sum_congr rfl fun j _ => mul_right_comm _ _ _

end Cert.FlashBwdIdeal.FlashRef

end
-- ==== Proof.FlashAlg.lean ====
/- The claim of the attention backward: on finite arguments the kernel's three results are the derivative of the plain attention. -/
module

public import proofs.«01_k».proof.Defs
public import proofs.«01_k».proof.Proof.FlashRef

@[expose] public section

set_option maxRecDepth 16384

noncomputable section

namespace Cert.FlashBwdIdeal.FlashAlg

open Cert.FlashBwdIdeal Cert.FlashBwdIdeal.Gen Idealize.ShloMosaic Idealize.ShloMosaic.TcCoe Idealize.SL.Sem
open Cert.FlashBwdIdeal.Flash Cert.FlashBwdIdeal.FlashRef Cert.FlashBwdRefIdeal.Read

/-! ## The reference's results -/

variable (A : Arr)

theorem ref_q (a : FVec Ideal Cert.FlashBwdRefIdeal.S8192x4x192 .f32) (f : Fin 8192 → Fin 4 → Fin 192 → ℝ) (ha : a = re3 f)
    (z : FVec Ideal Cert.FlashBwdRefIdeal.S_ .f32) (hz : ∀ i, z i = (0 : EReal)) (i : Fin 8192) (h : Fin 4) (d : Fin 256) :
    shapeCast Cert.FlashBwdRefIdeal.S8192x1024 (pad Cert.FlashBwdRefIdeal.S8192x4x256 ![0, 0, 0] ![0, 0, 64] ![0, 0, 0] a z
      Cert.FlashBwdRefIdeal.Facts₀.pads_S8192x4x192_S8192x4x256_000_000_0640 Cert.FlashBwdRefIdeal.Facts₀.h_S_)
      Cert.FlashBwdRefIdeal.Facts₀.shapeCasts_S8192x4x256_S8192x1024 (ix2 i (lane h d)) = ((Head.pad (fun i d => f i h d) i d : ℝ) : EReal) := by
  subst ha
  exact (flat _ i h d).trans (padded f z hz i h d)

theorem split (j : S8192x1024.Idx) : ∃ (i : Fin 8192) (h : Fin 4) (d : Fin 256), j = ix2 i (lane h d) := by
  have b : (j 1).val < 1024 := (j 1).isLt
  refine ⟨j 0, ⟨(j 1).val / 256, by omega⟩, ⟨(j 1).val % 256, Nat.mod_lt _ (by norm_num)⟩, ?_⟩
  funext a
  match a with
  | ⟨0, _⟩ => rfl
  | ⟨1, _⟩ => exact Fin.ext (by show (j 1).val = 256 * ((j 1).val / 256) + (j 1).val % 256; omega)

theorem split' (j : S8192x512.Idx) : ∃ (i : Fin 8192) (h : Fin 4) (d : Fin 128), j = ix2 i (lane' h d) := by
  have b : (j 1).val < 512 := (j 1).isLt
  refine ⟨j 0, ⟨(j 1).val / 128, by omega⟩, ⟨(j 1).val % 128, Nat.mod_lt _ (by norm_num)⟩, ?_⟩
  funext a
  match a with
  | ⟨0, _⟩ => rfl
  | ⟨1, _⟩ => exact Fin.ext (by show (j 1).val = 128 * ((j 1).val / 128) + (j 1).val % 128; omega)

theorem re3_ext {r h c : ℕ} (X : (⟨3, ![r, h, c]⟩ : Shape).Idx → EReal) (f : Fin r → Fin h → Fin c → ℝ) (H : ∀ a b d, X (ix3 a b d) = ((f a b d : ℝ) : EReal)) : X = re3 f := by
  funext i
  refine Eq.trans (congrArg X ?_) (H (i 0) (i 1) (i 2))
  funext a
  match a with
  | ⟨0, _⟩ => rfl
  | ⟨1, _⟩ => rfl
  | ⟨2, _⟩ => rfl

theorem zero_i (i : Cert.FlashBwdRefIdeal.S_.Idx) : (sitofp .f32 (constantI Cert.FlashBwdRefIdeal.S_ 32 0#32) : FVec Ideal Cert.FlashBwdRefIdeal.S_ .f32) i = (0 : EReal) := by
  show (((0#32 : BitVec 32).toInt : ℝ) : EReal) = 0
  simp

theorem v66_eq : val_main_v66 (F := Ideal) (re3 A.q) (re3 A.k) (re3 A.v) (re3 A.g) = Gq A := by
  obtain ⟨M, hM⟩ := v12_real A
  funext j
  obtain ⟨i, h, d, rfl⟩ := split j
  rw [Gq_at A _ i h d rfl rfl]
  unfold val_main_v66 val_main_v65 val_main_call2_v0 val_main_c
  exact ref_q _ (fun i h d => (A.head h).dq i d) (re3_ext _ _ fun i h d => v64_re A M hM h i d) _ zero_i i h d

theorem v68_eq : val_main_v68 (F := Ideal) (re3 A.q) (re3 A.k) (re3 A.v) (re3 A.g) = Gk A := by
  obtain ⟨M, hM⟩ := v12_real A
  funext j
  obtain ⟨i, h, d, rfl⟩ := split j
  rw [Gk_at A _ i h d rfl rfl]
  unfold val_main_v68 val_main_v67 val_main_call3_v0 val_main_c_14
  exact ref_q _ (fun i h d => (A.head h).dk i d) (re3_ext _ _ fun i h d => v62_re A M hM h i d) _ zero_i i h d

theorem v69_eq : val_main_v69 (F := Ideal) (re3 A.q) (re3 A.k) (re3 A.g) = Gv A := by
  obtain ⟨M, hM⟩ := v12_real A
  funext j
  obtain ⟨i, h, d, rfl⟩ := split' j
  rw [Gv_at A _ i h d rfl rfl]
  unfold val_main_v69
  exact (flat' _ i h d).trans (v45_re A M hM h i d)

/-! ## Finite arguments are real arrays -/

theorem inf_word : Ideal.ofBits .f32 0x7F800000#32 = (⊤ : EReal) := by
  simp [Ideal.ofBits, Ideal.ieee]

theorem finite_real (x : EReal) (h : Ideal.cmp .olt (max x (-x)) (Ideal.ofBits .f32 0x7F800000#32) = 1#1) : x = ((x.toReal : ℝ) : EReal) := by
  rw [inf_word] at h
  have h' : max x (-x) < ⊤ := by
    by_contra hn
    unfold Ideal.cmp at h
    simp [hn] at h
  refine (EReal.coe_toReal (fun e => ?_) fun e => ?_).symm
  · rw [e] at h'; simp at h'
  · rw [e] at h'; simp at h'

/-- The real part of an array. -/
def part {r h c : ℕ} (X : (⟨3, ![r, h, c]⟩ : Shape).Idx → EReal) (a : Fin r) (b : Fin h) (d : Fin c) : ℝ := (X (ix3 a b d)).toReal

theorem part_eq {r h c : ℕ} (X : (⟨3, ![r, h, c]⟩ : Shape).Idx → EReal)
    (H : ∀ i, Ideal.cmp .olt (max (X i) (-(X i))) (Ideal.ofBits .f32 0x7F800000#32) = 1#1) : X = re3 (part X) :=
  re3_ext X _ fun a b d => finite_real _ (H _)

section
variable [Cert.Pre_finite.Facts] {m : (ℓ : Loc nD τ sig) → Buf (Elt Ideal) ℓ}

/-- The real arrays a device's arguments are. -/
def arr (m : (ℓ : Loc nD τ sig) → Buf (Elt Ideal) ℓ) (c : Dev nD) : Arr where
  q := part (m ((c : Thread nD τ).loc main_arg0))
  k := part (m ((c : Thread nD τ).loc main_arg1))
  v := part (m ((c : Thread nD τ).loc main_arg2))
  g := part (m ((c : Thread nD τ).loc main_arg3))

theorem holds (h : Cert.Pre_FlashBwdIdeal_finite m) (c : Dev nD) : Holds m (arr m c) c where
  q := part_eq _ fun i => congrFun (h c).1 i
  k := part_eq _ fun i => congrFun (h c).2.1 i
  v := part_eq _ fun i => congrFun (h c).2.2.1 i
  g := part_eq _ fun i => congrFun (h c).2.2.2 i

/-- The kernel's run: its results are the three gradients, its arguments as they were. -/
theorem run_kernel (ρ : Dev nD → PrngReg) (h : Cert.Pre_FlashBwdIdeal_finite m) :
    θ_run (defs (F := Ideal)) (onTc (τ := τ) (main (F := Ideal))) ⟨m, fun _ => 0, ρ⟩ fun r => ∀ c : Dev nD,
      r.2.mem ((c : Thread nD τ).loc main_v40_0) = Gq (arr m c) ∧ r.2.mem ((c : Thread nD τ).loc main_v40_1) = Gk (arr m c)
      ∧ r.2.mem ((c : Thread nD τ).loc main_v40_2) = Gv (arr m c) :=
  (θ_run _ _ _).mono (fun _ hr c => ⟨((hr c).1 6).trans (final_6 (holds h c)), ((hr c).1 7).trans (final_7 (holds h c)), ((hr c).1 8).trans (final_8 (holds h c))⟩)
    (run_main m ρ)
end

/-- The claim: on finite arguments the kernel's results are the derivative of the attention. -/
theorem algebraic [Cert.Pre_finite.Facts] : Cert.algebraic_FlashBwdIdeal_FlashBwdRefIdeal_pre_finite := fun m ρ m' ρ' hpre hag =>
  ⟨fun c => Gq (arr m c), fun c => Gk (arr m c), fun c => Gv (arr m c),
    (θ_run _ _ _).mono (fun _ h c => ⟨(h.1 c).1, (h.1 c).2.1, (h.1 c).2.2, h.2.1 c⟩)
      (θ_run_and (run_kernel ρ hpre) (frame m ρ)),
    (θ_run _ _ _).mono (fun _ h c => ⟨(h c).1.trans ((val_main_v66_eq m' c).trans (by
        rw [(hag c).1, (hag c).2.1, (hag c).2.2.1, (hag c).2.2.2, (holds hpre c).q, (holds hpre c).k, (holds hpre c).v, (holds hpre c).g]; exact v66_eq _)),
      (h c).2.1.trans ((val_main_v68_eq m' c).trans (by
        rw [(hag c).1, (hag c).2.1, (hag c).2.2.1, (hag c).2.2.2, (holds hpre c).q, (holds hpre c).k, (holds hpre c).v, (holds hpre c).g]; exact v68_eq _)),
      (h c).2.2.1.trans ((val_main_v69_eq m' c).trans (by
        rw [(hag c).1, (hag c).2.1, (hag c).2.2.2, (holds hpre c).q, (holds hpre c).k, (holds hpre c).g]; exact v69_eq _)),
      (h c).2.2.2⟩) (Cert.FlashBwdRefIdeal.Value.run (F := Ideal) m' ρ')⟩

end Cert.FlashBwdIdeal.FlashAlg

end
-- ==== Proof.MlaRun.lean ====
/- One point of the grid of the latent attention's front backward: the body run on whole buffers, and what it leaves in each. -/
module

public import proofs.«01_k».proof.Proof.Gen.MlaFrontBwdIdeal.Frame.Runs
public import Idealize.ShloMosaic.Lib.WritesUnit
public import Idealize.ShloMosaic.Lib.Pipeline.ValueKit.Acc

@[expose] public section

set_option maxRecDepth 16384

noncomputable section

namespace Cert.MlaFrontBwdIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Gen

variable {F : FTy → Type} [FloatOps F]

local notation "𝕄" => MT nD τ sig Unit (Elt F) ℕ (UR sig nD τ) ℕ

/-- The twelve blocks a point reads. -/
structure Ins (F : FTy → Type) where
  x0 : Vec F S512x384 .f32
  x1 : Vec F S512x256 .f32
  x2 : Vec F S512x128 .f32
  x3 : Vec F S512x128 .f32
  x4 : Vec F S512x128 .f32
  x5 : Vec F S1x384 .f32
  x6 : Vec F S384x1024 .f32
  x7 : Vec F S1x256 .f32
  x8 : Vec F S256x1024 .f32
  x9 : Vec F S512x1024 .f32
  x10 : Vec F S512x1024 .f32
  x11 : Vec F S512x512 .f32

/-- The seven blocks a point leaves: three of its own, four it adds to. -/
structure Outs (F : FTy → Type) where
  y0 : Vec F S512x384 .f32
  y1 : Vec F S512x256 .f32
  y2 : Vec F S512x128 .f32
  y3 : Vec F S1x384 .f32
  y4 : Vec F S384x1024 .f32
  y5 : Vec F S1x256 .f32
  y6 : Vec F S256x1024 .f32

namespace Ins

variable (X : Ins F)

/-! The values the body passes from one of its parts to the next. -/
def v39 := k0_pay17 X.x1
def v42 := k0_pay18 (k0_pay16 X.x1) X.v39
def v44 := k0_pay19 X.x1 X.v39
def v14 := k0_pay9 X.x7
def v46 := k0_pay20 X.x1 X.v14 X.v39
def v6 := k0_pay5 X.x3
def v8 := k0_pay6 X.x4
def v12 := k0_pay8 X.x6
def v16 := k0_pay10 X.x8
/-- The cotangent of the queries before rotation, four heads of 256 columns less the last. -/
def v127 := k0_pay37 X.v6 X.v8 (k0_pay29 X.x9) (k0_pay30 X.x9) (k0_pay31 X.x9) (k0_pay32 X.x9) (k0_pay34 X.v6 X.v8 X.x9) (k0_pay35 X.x9) k0_pay36
def v130 := k0_pay38 (k0_pay23 X.x10) (k0_pay24 X.x10) (k0_pay25 X.x10) (k0_pay33 X.x10 X.x11)
def v134 := k0_pay39 X.v6 X.v8 (k0_pay28 X.x9)
def v136 := k0_pay40 (k0_pay27 X.x9)

/-- What the point leaves, over what its accumulators held. -/
def step (a0 : Vec F S1x384 .f32) (a1 : Vec F S384x1024 .f32) (a2 : Vec F S1x256 .f32) (a3 : Vec F S256x1024 .f32) : Outs F where
  y0 := k0_pay52 X.x0 (k0_pay12 X.x0) (k0_pay13 X.x0) (k0_pay50 (k0_pay7 X.x5) X.v12 X.v127 X.v134 X.v136)
    (k0_pay51 X.x0 (k0_pay7 X.x5) X.v12 X.v127 X.v134 X.v136)
  y1 := k0_pay46 X.x1 X.v14 X.v16 X.v39 X.v42 X.v130
  y2 := k0_pay42 X.v6 X.v8 (k0_pay26 X.x10)
  y3 := k0_pay53 (k0_pay49 X.v12 (k0_pay14 X.x0) X.v127 X.v134 X.v136) a0
  y4 := k0_pay54 (k0_pay48 (k0_pay15 X.x0 X.x5) X.v127 X.v134 X.v136) a1
  y5 := k0_pay55 (k0_pay45 X.v16 X.v44 X.v130) a2
  y6 := k0_pay56 (k0_pay44 X.v46 X.v130) a3

/-- The first point's: over cleared accumulators. -/
def first : Outs F := X.step k0_pay1 k0_pay2 k0_pay3 k0_pay4

/-- A later point's: over what the point before left. -/
def next (Y : Outs F) : Outs F := X.step Y.y3 Y.y4 Y.y5 Y.y6

end Ins

/-- A buffer written whole holds what was written. -/
theorem read_whole {Val : EltTy → Type} {S : Shape} {e : EltTy} {κ : Kind} {sp : Space} (v : View sig κ sp S e) (f)
    {off : Fin S.rank → ℕ} (inb : ∀ a, off a + S.size a ≤ S.size a) (w : S.Idx → Val e) (L : List (View.Piece Val S e))
    (h : ∀ a, off a = 0) : v.read Val (v.writes Val f ((⟨Rect.unit off S.size inb, w⟩ : View.Piece Val S e) :: L)) = w :=
  funext fun y => View.read_writes_cons_unit_of_mem v f inb w L y y rfl fun a => by rw [h a, Nat.zero_add]

section
variable
  (arg1 : Memref sig .tc .vmem S512x384 .f32) (harg1 : arg1.IsWhole)
  (arg2 : Memref sig .tc .vmem S512x256 .f32) (harg2 : arg2.IsWhole)
  (arg3 : Memref sig .tc .vmem S512x128 .f32) (harg3 : arg3.IsWhole)
  (arg4 : Memref sig .tc .vmem S512x128 .f32) (harg4 : arg4.IsWhole)
  (arg5 : Memref sig .tc .vmem S512x128 .f32) (harg5 : arg5.IsWhole)
  (arg6 : Memref sig .tc .vmem S1x384 .f32) (harg6 : arg6.IsWhole)
  (arg7 : Memref sig .tc .vmem S384x1024 .f32) (harg7 : arg7.IsWhole)
  (arg8 : Memref sig .tc .vmem S1x256 .f32) (harg8 : arg8.IsWhole)
  (arg9 : Memref sig .tc .vmem S256x1024 .f32) (harg9 : arg9.IsWhole)
  (arg10 : Memref sig .tc .vmem S512x1024 .f32) (harg10 : arg10.IsWhole)
  (arg11 : Memref sig .tc .vmem S512x1024 .f32) (harg11 : arg11.IsWhole)
  (arg12 : Memref sig .tc .vmem S512x512 .f32) (harg12 : arg12.IsWhole)
  (arg13 : Memref sig .tc .vmem S512x384 .f32) (harg13 : arg13.IsWhole)
  (arg14 : Memref sig .tc .vmem S512x256 .f32) (harg14 : arg14.IsWhole)
  (arg15 : Memref sig .tc .vmem S512x128 .f32) (harg15 : arg15.IsWhole)
  (arg16 : Memref sig .tc .vmem S1x384 .f32) (harg16 : arg16.IsWhole)
  (arg17 : Memref sig .tc .vmem S384x1024 .f32) (harg17 : arg17.IsWhole)
  (arg18 : Memref sig .tc .vmem S1x256 .f32) (harg18 : arg18.IsWhole)
  (arg19 : Memref sig .tc .vmem S256x1024 .f32) (harg19 : arg19.IsWhole)

/-- The body at the buffers of a point. -/
abbrev call (i : grid0.Coords) : Prog (TpuEff nD τ sig (Elt F) Λ₀ .tc) PUnit :=
  cc0_mla_front_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19

/-- The inputs' buffers, at a point's blocks. -/
def given (c : Dev nD) (X : Ins F) : sProp 𝕄 :=
  iprop(owns (c : Thread nD τ) arg1 fullShare X.x0
    ∗ owns (c : Thread nD τ) arg2 fullShare X.x1
    ∗ owns (c : Thread nD τ) arg3 fullShare X.x2
    ∗ owns (c : Thread nD τ) arg4 fullShare X.x3
    ∗ owns (c : Thread nD τ) arg5 fullShare X.x4
    ∗ owns (c : Thread nD τ) arg6 fullShare X.x5
    ∗ owns (c : Thread nD τ) arg7 fullShare X.x6
    ∗ owns (c : Thread nD τ) arg8 fullShare X.x7
    ∗ owns (c : Thread nD τ) arg9 fullShare X.x8
    ∗ owns (c : Thread nD τ) arg10 fullShare X.x9
    ∗ owns (c : Thread nD τ) arg11 fullShare X.x10
    ∗ owns (c : Thread nD τ) arg12 fullShare X.x11)

/-- The outputs' buffers, at given contents. -/
def held (c : Dev nD) (Y : Outs F) : sProp 𝕄 :=
  iprop(owns (c : Thread nD τ) arg13 fullShare Y.y0
    ∗ owns (c : Thread nD τ) arg14 fullShare Y.y1
    ∗ owns (c : Thread nD τ) arg15 fullShare Y.y2
    ∗ owns (c : Thread nD τ) arg16 fullShare Y.y3
    ∗ owns (c : Thread nD τ) arg17 fullShare Y.y4
    ∗ owns (c : Thread nD τ) arg18 fullShare Y.y5
    ∗ owns (c : Thread nD τ) arg19 fullShare Y.y6)

set_option maxHeartbeats 8000000 in
/-- The first point clears the accumulators and adds to them. -/
theorem run_first (c : Dev nD) (i : grid0.Coords) (hc0 : cond0_0 i) (X : Ins F) (Y : Outs F) (E : Set ℕ) (K : PUnit → sProp 𝕄) :
    iprop(given arg1 arg2 arg3 arg4 arg5 arg6 arg7 arg8 arg9 arg10 arg11 arg12 c X ∗ held arg13 arg14 arg15 arg16 arg17 arg18 arg19 c Y
      ∗ (iprop(given arg1 arg2 arg3 arg4 arg5 arg6 arg7 arg8 arg9 arg10 arg11 arg12 c X ∗ held arg13 arg14 arg15 arg16 arg17 arg18 arg19 c X.first) -∗ K ⟨⟩))
    ⊢ wp frame (wpE (defs₀ (F := F)) Variants.none c none) E (cc0_mla_front_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_mla_front_bwd_eq_skeleton]; unfold cc0_mla_front_bwd_skel
  simp only [k0_part1_eq_skeleton, k0_part2_eq_skeleton, k0_part3_eq_skeleton, k0_part4_eq_skeleton, k0_part5_eq_skeleton, k0_part6_eq_skeleton, k0_part7_eq_skeleton]
  unfold given held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg9.eq_unread hf8
  obtain rfl := harg10.eq_unread hf9
  obtain rfl := harg11.eq_unread hf10
  obtain rfl := harg12.eq_unread hf11
  obtain rfl := harg13.eq_unread hf12
  obtain rfl := harg14.eq_unread hf13
  obtain rfl := harg15.eq_unread hf14
  obtain rfl := harg16.eq_unread hf15
  obtain rfl := harg17.eq_unread hf16
  obtain rfl := harg18.eq_unread hf17
  obtain rfl := harg19.eq_unread hf18
  sl_exec (disch := first | sl_exact hc0)
  sl_step
  iapply Hk
  isplitl [H0 H1 H2 H3 H4 H5 H6 H7 H8 H9 H10 H11]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    iexists _; isplitr; · ipureintro; exact harg12.read_unread _
    iexact H11
  isplitl [H12]
  · iexists _; isplitr; swap; · iexact H12
    ipureintro; exact (read_whole _ _ _ _ _ (by decide)).trans (by frame_out; rfl)
  isplitl [H13]
  · iexists _; isplitr; swap; · iexact H13
    ipureintro; exact (read_whole _ _ _ _ _ (by decide)).trans (by frame_out; rfl)
  isplitl [H14]
  · iexists _; isplitr; swap; · iexact H14
    ipureintro; exact (read_whole _ _ _ _ _ (by decide)).trans (by frame_out; rfl)
  isplitl [H15]
  · iexists _; isplitr; swap; · iexact H15
    ipureintro; exact (read_whole _ _ _ _ _ (by decide)).trans (by frame_out; rfl)
  isplitl [H16]
  · iexists _; isplitr; swap; · iexact H16
    ipureintro; exact (read_whole _ _ _ _ _ (by decide)).trans (by frame_out; rfl)
  isplitl [H17]
  · iexists _; isplitr; swap; · iexact H17
    ipureintro; exact (read_whole _ _ _ _ _ (by decide)).trans (by frame_out; rfl)
  iexists _; isplitr; swap; · iexact H18
  ipureintro; exact (read_whole _ _ _ _ _ (by decide)).trans (by frame_out; rfl)

set_option maxHeartbeats 8000000 in
/-- A later point adds to what the accumulators hold. -/
theorem run_next (c : Dev nD) (i : grid0.Coords) (hc0 : ¬cond0_0 i) (X : Ins F) (Y : Outs F) (E : Set ℕ) (K : PUnit → sProp 𝕄) :
    iprop(given arg1 arg2 arg3 arg4 arg5 arg6 arg7 arg8 arg9 arg10 arg11 arg12 c X ∗ held arg13 arg14 arg15 arg16 arg17 arg18 arg19 c Y
      ∗ (iprop(given arg1 arg2 arg3 arg4 arg5 arg6 arg7 arg8 arg9 arg10 arg11 arg12 c X ∗ held arg13 arg14 arg15 arg16 arg17 arg18 arg19 c (X.next Y)) -∗ K ⟨⟩))
    ⊢ wp frame (wpE (defs₀ (F := F)) Variants.none c none) E (cc0_mla_front_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_mla_front_bwd_eq_skeleton]; unfold cc0_mla_front_bwd_skel
  simp only [k0_part1_eq_skeleton, k0_part2_eq_skeleton, k0_part3_eq_skeleton, k0_part4_eq_skeleton, k0_part5_eq_skeleton, k0_part6_eq_skeleton, k0_part7_eq_skeleton]
  unfold given held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg9.eq_unread hf8
  obtain rfl := harg10.eq_unread hf9
  obtain rfl := harg11.eq_unread hf10
  obtain rfl := harg12.eq_unread hf11
  obtain rfl := harg13.eq_unread hf12
  obtain rfl := harg14.eq_unread hf13
  obtain rfl := harg15.eq_unread hf14
  obtain rfl := harg16.eq_unread hf15
  obtain rfl := harg17.eq_unread hf16
  obtain rfl := harg18.eq_unread hf17
  obtain rfl := harg19.eq_unread hf18
  sl_exec (disch := first | sl_exact hc0)
  sl_step
  iapply Hk
  isplitl [H0 H1 H2 H3 H4 H5 H6 H7 H8 H9 H10 H11]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    iexists _; isplitr; · ipureintro; exact harg12.read_unread _
    iexact H11
  isplitl [H12]
  · iexists _; isplitr; swap; · iexact H12
    ipureintro; exact (read_whole _ _ _ _ _ (by decide)).trans (by frame_out; rfl)
  isplitl [H13]
  · iexists _; isplitr; swap; · iexact H13
    ipureintro; exact (read_whole _ _ _ _ _ (by decide)).trans (by frame_out; rfl)
  isplitl [H14]
  · iexists _; isplitr; swap; · iexact H14
    ipureintro; exact (read_whole _ _ _ _ _ (by decide)).trans (by frame_out; rfl)
  isplitl [H15]
  · iexists _; isplitr; swap; · iexact H15
    ipureintro; exact (read_whole _ _ _ _ _ (by decide)).trans (by frame_out; rfl)
  isplitl [H16]
  · iexists _; isplitr; swap; · iexact H16
    ipureintro; exact (read_whole _ _ _ _ _ (by decide)).trans (by frame_out; rfl)
  isplitl [H17]
  · iexists _; isplitr; swap; · iexact H17
    ipureintro; exact (read_whole _ _ _ _ _ (by decide)).trans (by frame_out; rfl)
  iexists _; isplitr; swap; · iexact H18
  ipureintro; exact (read_whole _ _ _ _ _ (by decide)).trans (by frame_out; rfl)

end

end Cert.MlaFrontBwdIdeal.Mla

end
-- ==== Proof.MlaFrame.lean ====
/- The latent attention's front backward run over its grid: the launch's proof data and its frame. -/
module

public import proofs.«01_k».proof.Proof.MlaRun
public import Idealize.ShloMosaic.Lib.Claim

@[expose] public section

set_option maxRecDepth 16384

noncomputable section

namespace Cert.MlaFrontBwdIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks point `t` reads. -/
def blks (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t⟩

/-- What the outputs' buffers hold after each point. -/
def outs (c : Dev nD) : (n : ℕ) → n < cfg0.N → Outs F
  | 0, h => (blks m c ⟨0, h⟩).first
  | n + 1, h => (blks m c ⟨n + 1, h⟩).next (outs c n (Nat.lt_of_succ_lt h))

theorem outs_first (c : Dev nD) (t : Fin cfg0.N) (h0 : t.val % 16 = 0) : outs m c t.val t.isLt = (blks m c t).first := by
  have hN : t.val < 16 := lt_of_lt_of_eq t.isLt (show cfg0.N = 16 from N_0)
  obtain ⟨n, hn⟩ := t
  cases n with
  | zero => rfl
  | succ n => exfalso; dsimp only at h0 hN; omega

theorem outs_next (c : Dev nD) (t : Fin cfg0.N) (h0 : ¬t.val % 16 = 0) :
    outs m c t.val t.isLt = (blks m c t).next (outs m c (t.val - 1) (Nat.lt_of_le_of_lt (Nat.sub_le _ _) t.isLt)) := by
  obtain ⟨n, hn⟩ := t
  cases n with
  | zero => exact absurd (Nat.zero_mod _) h0
  | succ n => rfl

/-- The launch's proof data: after a point the inputs' buffers hold their blocks, the outputs' what `outs` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outs m c t.val t.isLt).y0
    | ⟨13, _⟩ => (outs m c t.val t.isLt).y1
    | ⟨14, _⟩ => (outs m c t.val t.isLt).y2
    | ⟨15, _⟩ => (outs m c t.val t.isLt).y3
    | ⟨16, _⟩ => (outs m c t.val t.isLt).y4
    | ⟨17, _⟩ => (outs m c t.val t.isLt).y5
    | ⟨18, _⟩ => (outs m c t.val t.isLt).y6
    | ⟨_ + 19, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t :=
  before0_0_of m (dats m 0 c) (A_eq m c 0) (fun _ => by dsimp only [dats]) t d
theorem before_1 (c : Dev nD) (t : Fin cfg0.N) (d) : (dats m 0 c).before 1 t d = iblk m c 1 t :=
  before0_1_of m (dats m 0 c) (A_eq m c 1) (fun _ => by dsimp only [dats]) t d
theorem before_2 (c : Dev nD) (t : Fin cfg0.N) (d) : (dats m 0 c).before 2 t d = iblk m c 2 t :=
  before0_2_of m (dats m 0 c) (A_eq m c 2) (fun _ => by dsimp only [dats]) t d
theorem before_3 (c : Dev nD) (t : Fin cfg0.N) (d) : (dats m 0 c).before 3 t d = iblk m c 3 t :=
  before0_3_of m (dats m 0 c) (A_eq m c 3) (fun _ => by dsimp only [dats]) t d
theorem before_4 (c : Dev nD) (t : Fin cfg0.N) (d) : (dats m 0 c).before 4 t d = iblk m c 4 t :=
  before0_4_of m (dats m 0 c) (A_eq m c 4) (fun _ => by dsimp only [dats]) t d
theorem before_5 (c : Dev nD) (t : Fin cfg0.N) (d) : (dats m 0 c).before 5 t d = iblk m c 5 t :=
  before0_5_of m (dats m 0 c) (A_eq m c 5) (fun _ => by dsimp only [dats]) t d
theorem before_6 (c : Dev nD) (t : Fin cfg0.N) (d) : (dats m 0 c).before 6 t d = iblk m c 6 t :=
  before0_6_of m (dats m 0 c) (A_eq m c 6) (fun _ => by dsimp only [dats]) t d
theorem before_7 (c : Dev nD) (t : Fin cfg0.N) (d) : (dats m 0 c).before 7 t d = iblk m c 7 t :=
  before0_7_of m (dats m 0 c) (A_eq m c 7) (fun _ => by dsimp only [dats]) t d
theorem before_8 (c : Dev nD) (t : Fin cfg0.N) (d) : (dats m 0 c).before 8 t d = iblk m c 8 t :=
  before0_8_of m (dats m 0 c) (A_eq m c 8) (fun _ => by dsimp only [dats]) t d
theorem before_9 (c : Dev nD) (t : Fin cfg0.N) (d) : (dats m 0 c).before 9 t d = iblk m c 9 t :=
  before0_9_of m (dats m 0 c) (A_eq m c 9) (fun _ => by dsimp only [dats]) t d
theorem before_10 (c : Dev nD) (t : Fin cfg0.N) (d) : (dats m 0 c).before 10 t d = iblk m c 10 t :=
  before0_10_of m (dats m 0 c) (A_eq m c 10) (fun _ => by dsimp only [dats]) t d
theorem before_11 (c : Dev nD) (t : Fin cfg0.N) (d) : (dats m 0 c).before 11 t d = iblk m c 11 t :=
  before0_11_of m (dats m 0 c) (A_eq m c 11) (fun _ => by dsimp only [dats]) t d

theorem before_15 (c : Dev nD) (t : Fin cfg0.N) (h0 : ¬t.val % 16 = 0) (d) :
    (dats m 0 c).before 15 t d = (outs m c (t.val - 1) (Nat.lt_of_le_of_lt (Nat.sub_le _ _) t.isLt)).y3 := by
  have hN : t.val < 16 := lt_of_lt_of_eq t.isLt (show cfg0.N = 16 from N_0)
  rw [Dat.before_out_kept _ 15 rfl t (by omega)
    (Bool.eq_false_iff.mpr fun h => by have := (flush0_15 _).mp h; dsimp only at this; omega) (fun _ => rfl) (fun _ _ => rfl)]
  dsimp only [dats]

theorem before_16 (c : Dev nD) (t : Fin cfg0.N) (h0 : ¬t.val % 16 = 0) (d) :
    (dats m 0 c).before 16 t d = (outs m c (t.val - 1) (Nat.lt_of_le_of_lt (Nat.sub_le _ _) t.isLt)).y4 := by
  have hN : t.val < 16 := lt_of_lt_of_eq t.isLt (show cfg0.N = 16 from N_0)
  rw [Dat.before_out_kept _ 16 rfl t (by omega)
    (Bool.eq_false_iff.mpr fun h => by have := (flush0_16 _).mp h; dsimp only at this; omega) (fun _ => rfl) (fun _ _ => rfl)]
  dsimp only [dats]

theorem before_17 (c : Dev nD) (t : Fin cfg0.N) (h0 : ¬t.val % 16 = 0) (d) :
    (dats m 0 c).before 17 t d = (outs m c (t.val - 1) (Nat.lt_of_le_of_lt (Nat.sub_le _ _) t.isLt)).y5 := by
  have hN : t.val < 16 := lt_of_lt_of_eq t.isLt (show cfg0.N = 16 from N_0)
  rw [Dat.before_out_kept _ 17 rfl t (by omega)
    (Bool.eq_false_iff.mpr fun h => by have := (flush0_17 _).mp h; dsimp only at this; omega) (fun _ => rfl) (fun _ _ => rfl)]
  dsimp only [dats]

theorem before_18 (c : Dev nD) (t : Fin cfg0.N) (h0 : ¬t.val % 16 = 0) (d) :
    (dats m 0 c).before 18 t d = (outs m c (t.val - 1) (Nat.lt_of_le_of_lt (Nat.sub_le _ _) t.isLt)).y6 := by
  have hN : t.val < 16 := lt_of_lt_of_eq t.isLt (show cfg0.N = 16 from N_0)
  rw [Dat.before_out_kept _ 18 rfl t (by omega)
    (Bool.eq_false_iff.mpr fun h => by have := (flush0_18 _).mp h; dsimp only at this; omega) (fun _ => rfl) (fun _ _ => rfl)]
  dsimp only [dats]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).Φ t.succ = (dats m 0 c).Φ t.castSucc from rfl,
    show (dats m 0 c).owesAt () t.succ = (dats m 0 c).owesAt () t.castSucc from rfl]
  by_cases h0 : t.val % 16 = 0
  · rw [show (dats m 0 c).after 0 t = iblk m c 0 t from rfl, show (dats m 0 c).after 1 t = iblk m c 1 t from rfl, show (dats m 0 c).after 2 t = iblk m c 2 t from rfl, show (dats m 0 c).after 3 t = iblk m c 3 t from rfl, show (dats m 0 c).after 4 t = iblk m c 4 t from rfl, show (dats m 0 c).after 5 t = iblk m c 5 t from rfl, show (dats m 0 c).after 6 t = iblk m c 6 t from rfl, show (dats m 0 c).after 7 t = iblk m c 7 t from rfl, show (dats m 0 c).after 8 t = iblk m c 8 t from rfl, show (dats m 0 c).after 9 t = iblk m c 9 t from rfl, show (dats m 0 c).after 10 t = iblk m c 10 t from rfl, show (dats m 0 c).after 11 t = iblk m c 11 t from rfl,
      show (dats m 0 c).after 12 t = (outs m c t.val t.isLt).y0 from rfl, show (dats m 0 c).after 13 t = (outs m c t.val t.isLt).y1 from rfl, show (dats m 0 c).after 14 t = (outs m c t.val t.isLt).y2 from rfl, show (dats m 0 c).after 15 t = (outs m c t.val t.isLt).y3 from rfl, show (dats m 0 c).after 16 t = (outs m c t.val t.isLt).y4 from rfl, show (dats m 0 c).after 17 t = (outs m c t.val t.isLt).y5 from rfl, show (dats m 0 c).after 18 t = (outs m c t.val t.isLt).y6 from rfl, outs_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply (run_first _ _ _ _ _ _ _ _ _ _ _ _ _ _ _ _ _ _ _ _ _ _ _ _ _ _ _ _ _ _ _ _ _ _ _ _ _ _ c (grid0.coords t) ((hcond0_0 t).mpr h0) (blks m c t) ⟨(dats m 0 c).before 12 t d12, (dats m 0 c).before 13 t d13, (dats m 0 c).before 14 t d14, (dats m 0 c).before 15 t d15, (dats m 0 c).before 16 t d16, (dats m 0 c).before 17 t d17, (dats m 0 c).before 18 t d18⟩ Set.univ _)
    unfold given held
    isplitl [H0 H1 H2 H3 H4 H5 H6 H7 H8 H9 H10 H11]
    · unfold blks; dsimp only
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    isplitl [H12 H13 H14 H15 H16 H17 H18]
    · dsimp only
      isplitl [H12]; · iexact H12
      isplitl [H13]; · iexact H13
      isplitl [H14]; · iexact H14
      isplitl [H15]; · iexact H15
      isplitl [H16]; · iexact H16
      isplitl [H17]; · iexact H17
      iexact H18
    iintro ⟨⟨H0, H1, H2, H3, H4, H5, H6, H7, H8, H9, H10, H11⟩, ⟨H12, H13, H14, H15, H16, H17, H18⟩⟩
    unfold blks; dsimp only
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  · rw [show (dats m 0 c).after 0 t = iblk m c 0 t from rfl, show (dats m 0 c).after 1 t = iblk m c 1 t from rfl, show (dats m 0 c).after 2 t = iblk m c 2 t from rfl, show (dats m 0 c).after 3 t = iblk m c 3 t from rfl, show (dats m 0 c).after 4 t = iblk m c 4 t from rfl, show (dats m 0 c).after 5 t = iblk m c 5 t from rfl, show (dats m 0 c).after 6 t = iblk m c 6 t from rfl, show (dats m 0 c).after 7 t = iblk m c 7 t from rfl, show (dats m 0 c).after 8 t = iblk m c 8 t from rfl, show (dats m 0 c).after 9 t = iblk m c 9 t from rfl, show (dats m 0 c).after 10 t = iblk m c 10 t from rfl, show (dats m 0 c).after 11 t = iblk m c 11 t from rfl,
      show (dats m 0 c).after 12 t = (outs m c t.val t.isLt).y0 from rfl, show (dats m 0 c).after 13 t = (outs m c t.val t.isLt).y1 from rfl, show (dats m 0 c).after 14 t = (outs m c t.val t.isLt).y2 from rfl, show (dats m 0 c).after 15 t = (outs m c t.val t.isLt).y3 from rfl, show (dats m 0 c).after 16 t = (outs m c t.val t.isLt).y4 from rfl, show (dats m 0 c).after 17 t = (outs m c t.val t.isLt).y5 from rfl, show (dats m 0 c).after 18 t = (outs m c t.val t.isLt).y6 from rfl, outs_next m c t h0]
    simp only [before_15 m c t h0, before_16 m c t h0, before_17 m c t h0, before_18 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply (run_next _ _ _ _ _ _ _ _ _ _ _ _ _ _ _ _ _ _ _ _ _ _ _ _ _ _ _ _ _ _ _ _ _ _ _ _ _ _ c (grid0.coords t) (fun h => h0 ((hcond0_0 t).mp h)) (blks m c t) ⟨(dats m 0 c).before 12 t d12, (dats m 0 c).before 13 t d13, (dats m 0 c).before 14 t d14, (outs m c (t.val - 1) (Nat.lt_of_le_of_lt (Nat.sub_le _ _) t.isLt)).y3, (outs m c (t.val - 1) (Nat.lt_of_le_of_lt (Nat.sub_le _ _) t.isLt)).y4, (outs m c (t.val - 1) (Nat.lt_of_le_of_lt (Nat.sub_le _ _) t.isLt)).y5, (outs m c (t.val - 1) (Nat.lt_of_le_of_lt (Nat.sub_le _ _) t.isLt)).y6⟩ Set.univ _)
    unfold given held
    isplitl [H0 H1 H2 H3 H4 H5 H6 H7 H8 H9 H10 H11]
    · unfold blks; dsimp only
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    isplitl [H12 H13 H14 H15 H16 H17 H18]
    · dsimp only
      isplitl [H12]; · iexact H12
      isplitl [H13]; · iexact H13
      isplitl [H14]; · iexact H14
      isplitl [H15]; · iexact H15
      isplitl [H16]; · iexact H16
      isplitl [H17]; · iexact H17
      iexact H18
    iintro ⟨⟨H0, H1, H2, H3, H4, H5, H6, H7, H8, H9, H10, H11⟩, ⟨H12, H13, H14, H15, H16, H17, H18⟩⟩
    unfold blks; dsimp only
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 1600000 in
/-- The run: the arrays of the windows end at what the proof data computes, the rest as the lines after the region leave
    it, and every counter is at zero. -/
theorem run_all : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_all m ρ)

/-- The frame, over any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_all m ρ))

end Cert.MlaFrontBwdIdeal.Mla

end
-- ==== Proof.MlaBits.lean ====
/- The latent attention's front backward on words: with each named constant read as its word, the program of the run is this one. -/
module

public import proofs.«01_k».proof.Defs
public import proofs.«01_k».proof.Proof.MlaFrame
public import proofs.«01_k».proof.Proof.Gen.MlaFrontBwd

@[expose] public section

set_option maxRecDepth 16384

noncomputable section

namespace Cert.MlaFrontBwdIdeal.Mla

open Idealize.ShloMosaic Idealize.ShloMosaic.TcCoe Idealize.ShloMosaic.Tactic
open Idealize.SL Idealize.SL.Sem

/-- A named constant at its word. -/
abbrev words : Named Bits where
  named _ _ {φ} b := Scalar.ofBits φ b

attribute [local instance] words

set_option maxHeartbeats 4000000 in
theorem frame_bits : Cert.quiescent_MlaFrontBwd := fun m ρ _ => by
  have h := frame (F := Bits) m ρ
  refine cast ?_ h
  sl_kernel_rfl

end Cert.MlaFrontBwdIdeal.Mla

end
-- ==== Proof.MlaRow.lean ====
/- One token's row of the latent attention's front backward, over the extended reals: the gradients as the reference writes them, the
   wider rows the kernel works on (every head's rotated lanes once as they are and once with their halves swapped), and why both
   agree. -/
module

public import proofs.«01_k».proof.Proof.RowMath
public import Idealize.ShloMosaic.Lib.Pipeline.ValueKit.Acc

@[expose] public section

noncomputable section

namespace Cert.Mla

open Idealize.ShloMosaic Cert.RowMath

/-- 384, as the programs write it. -/
def n384 : EReal := Ideal.ofBits .f32 0x43C00000#32

/-- 256, as the programs write it. -/
def n256 : EReal := Ideal.ofBits .f32 0x43800000#32

/-- What one token's gradients depend on: its latent rows, the norms' weights, the two up projections, its cosines and sines, and
    the cotangents of its heads' queries, keys and values. -/
structure Row where
  q : Fin 384 → EReal
  kv : Fin 256 → EReal
  qw : Fin 384 → EReal
  U : Fin 384 → Fin 768 → EReal
  kw : Fin 256 → EReal
  W : Fin 256 → Fin 1024 → EReal
  C : Fin 32 → EReal
  S : Fin 32 → EReal
  gq : Fin 4 → Fin 192 → EReal
  gk : Fin 4 → Fin 192 → EReal
  gv : Fin 4 → Fin 128 → EReal

/-- The rotated lanes of a head's row. -/
def rope (g : Fin 192 → EReal) (l : Fin 64) : EReal := g ⟨128 + l.val, by omega⟩

/-- The lane whose half is swapped with `l`'s. -/
def other (l : Fin 64) : Fin 64 := ⟨(l.val + 32) % 64, Nat.mod_lt _ (by decide)⟩

/-- The lane's angle. -/
def half (l : Fin 64) : Fin 32 := ⟨l.val % 32, Nat.mod_lt _ (by decide)⟩

/-- The angle of a position at a rotated lane. -/
def angle (p : BitVec 32) (l : Fin 32) : EReal :=
  ((p.toInt : ℝ) : EReal) * Ideal.pow (Ideal.ofBits .f32 0x461C4000#32)
    (Ideal.div (-(((BitVec.ofNat 32 l.val).toInt : ℝ) : EReal) * Ideal.ofBits .f32 0x40000000#32) (Ideal.ofBits .f32 0x42800000#32))

namespace Row

variable (X : Row)

/-- The gradient through the rotation. -/
def turn (g : Fin 64 → EReal) (l : Fin 64) : EReal :=
  if h : l.val < 32 then g ⟨32 + l.val, by omega⟩ * X.S ⟨l.val, h⟩ + g l * X.C ⟨l.val, h⟩
  else g l * X.C ⟨l.val - 32, by omega⟩ + -g ⟨l.val - 32, by omega⟩ * X.S ⟨l.val - 32, by omega⟩

/-- The cotangent of the projected queries, head by head. -/
def G (h : Fin 4) (l : Fin 192) : EReal :=
  if k : l.val < 128 then X.gq h l else X.turn (rope (X.gq h)) ⟨l.val - 128, by omega⟩

/-- The same, as one row. -/
def Gf (j : Fin 768) : EReal := X.G ⟨j.val / 192, by omega⟩ ⟨j.val % 192, Nat.mod_lt _ (by decide)⟩

/-- The cotangent of the weighted normalised query row. -/
def dqn (a : Fin 384) : EReal := ∑ j, X.Gf j * X.U a j

def dq (a : Fin 384) : EReal := back n384 X.q (fun k => X.dqn k * X.qw k) a

def dqw (a : Fin 384) : EReal := nrm n384 X.q a * X.dqn a

def dU (a : Fin 384) (j : Fin 768) : EReal := X.Gf j * (nrm n384 X.q a * X.qw a)

/-- The cotangent of the projected keys and values, as one row. -/
def Y (j : Fin 1024) : EReal :=
  if h : j.val % 256 < 128 then X.gk ⟨j.val / 256, by omega⟩ ⟨j.val % 256, by omega⟩
  else X.gv ⟨j.val / 256, by omega⟩ ⟨j.val % 256 - 128, by omega⟩

def dkn (a : Fin 256) : EReal := ∑ j, X.Y j * X.W a j

def dkv (a : Fin 256) : EReal := back n256 X.kv (fun k => X.dkn k * X.kw k) a

def dkw (a : Fin 256) : EReal := nrm n256 X.kv a * X.dkn a

def dW (a : Fin 256) (j : Fin 1024) : EReal := X.Y j * (nrm n256 X.kv a * X.kw a)

/-- The gradient of the shared rotated key: every head's summed, turned back. -/
def dpe (l : Fin 64) : EReal := X.turn (fun l => ∑ h, rope (X.gk h) l) l

/-! ### The kernel's rows -/

/-- The sine with the sign its half carries. -/
def T (l : Fin 64) : EReal := if h : l.val < 32 then -X.S ⟨l.val, h⟩ else X.S ⟨l.val - 32, by omega⟩

/-- The cotangent row over 256 columns a head: the plain lanes, the rotated ones times the cosine, the rotated ones times the sine. -/
def D (h : Fin 4) (l : Fin 256) : EReal :=
  if k : l.val < 128 then X.gq h ⟨l.val, by omega⟩
  else if k' : l.val < 192 then rope (X.gq h) ⟨l.val - 128, by omega⟩ * X.C (half ⟨l.val - 128, by omega⟩)
  else rope (X.gq h) ⟨l.val - 192, by omega⟩ * X.T ⟨l.val - 192, by omega⟩

/-- The query projection's columns, laid out likewise. -/
def V (a : Fin 384) (h : Fin 4) (l : Fin 256) : EReal :=
  if k : l.val < 192 then X.U a ⟨h.val * 192 + l.val, by omega⟩
  else X.U a ⟨h.val * 192 + 128 + (other ⟨l.val - 192, by omega⟩).val, by have := (other ⟨l.val - 192, by omega⟩).isLt; omega⟩

def Df (e : Fin 1024) : EReal := X.D ⟨e.val / 256, by omega⟩ ⟨e.val % 256, Nat.mod_lt _ (by decide)⟩

def Vf (a : Fin 384) (e : Fin 1024) : EReal := X.V a ⟨e.val / 256, by omega⟩ ⟨e.val % 256, Nat.mod_lt _ (by decide)⟩

end Row

/-- The column of the key and value projection the kernel keeps at place `p`: first every head's keys, then every head's values. -/
def place (p : Fin 1024) : Fin 1024 := ⟨p.val % 512 / 128 * 256 + p.val / 512 * 128 + p.val % 128, by omega⟩

/-- Where the kernel keeps column `j`. -/
def kept (j : Fin 1024) : Fin 1024 := ⟨j.val % 256 / 128 * 512 + j.val / 256 * 128 + j.val % 128, by omega⟩

theorem kept_place (p : Fin 1024) : kept (place p) = p := by
  apply Fin.ext; simp only [kept, place]; omega

theorem place_kept (p : Fin 1024) : place (kept p) = p := by
  apply Fin.ext; simp only [kept, place]; omega

/-- A sum over the columns does not see their order. -/
theorem sum_place (f : Fin 1024 → EReal) : ∑ p, f (place p) = ∑ j, f j :=
  Fintype.sum_equiv ⟨place, kept, kept_place, place_kept⟩ _ _ fun _ => rfl

theorem other_other (l : Fin 64) : other (other l) = l := by
  apply Fin.ext; simp only [other]; omega

/-- A sum over the rotated lanes does not see the halves swapped. -/
theorem sum_other (f : Fin 64 → EReal) : ∑ l, f (other l) = ∑ l, f l :=
  Fintype.sum_equiv ⟨other, other, other_other, other_other⟩ _ _ fun _ => rfl

/-- The number is a real. -/
def IsReal (x : EReal) : Prop := ∃ r : ℝ, x = r

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.neg {x : EReal} (hx : IsReal x) : IsReal (-x) := by
  obtain ⟨a, rfl⟩ := hx; exact ⟨-a, (EReal.coe_neg a).symm⟩

theorem IsReal.sum {ι : Type} (s : Finset ι) {f : ι → EReal} (h : ∀ i, IsReal (f i)) : IsReal (∑ i ∈ s, f i) := by
  choose g hg using h
  exact ⟨∑ i ∈ s, g i, by simp only [hg]; exact (map_sum (⟨⟨fun r : ℝ => (r : EReal), rfl⟩, EReal.coe_add⟩ : ℝ →+ EReal) g s).symm⟩

theorem add_mul_real {x y z : EReal} (hx : IsReal x) (hy : IsReal y) (hz : IsReal z) : (x + y) * z = x * z + y * z := by
  obtain ⟨a, rfl⟩ := hx; obtain ⟨b, rfl⟩ := hy; obtain ⟨c, rfl⟩ := hz
  norm_cast; ring

/-- A sum over a head's 192 columns: the plain ones and the rotated ones. -/
theorem sum_192 (f : Fin 192 → EReal) : ∑ l, f l = ∑ l : Fin 128, f ⟨l.val, by omega⟩ + ∑ l : Fin 64, f ⟨128 + l.val, by omega⟩ :=
  Fin.sum_univ_add (a := 128) (b := 64) f

/-- A sum over the kernel's 256 columns of a head. -/
theorem sum_256 (f : Fin 256 → EReal) : ∑ l, f l =
    ∑ l : Fin 128, f ⟨l.val, by omega⟩ + (∑ l : Fin 64, f ⟨128 + l.val, by omega⟩ + ∑ l : Fin 64, f ⟨192 + l.val, by omega⟩) := by
  rw [← add_assoc]
  refine (Fin.sum_univ_add (a := 192) (b := 64) f).trans (congrArg (· + _) ?_)
  exact sum_192 fun l => f ⟨l.val, by omega⟩

theorem n384_eq : n384 = ((384 : ℝ) : EReal) := by
  unfold n384; simp [Ideal.ofBits, Ideal.ieee, -EReal.coe_mul]; norm_num

theorem eps_eq : eps = ((8796093 / 8796093022208 : ℝ) : EReal) := by
  unfold eps; simp [Ideal.ofBits, Ideal.ieee, -EReal.coe_mul]; norm_num

/-- The square of a number that is not a real is infinite. -/
theorem mul_self_top {x : EReal} (h : ¬IsReal x) : x * x = ⊤ := by
  induction x using EReal.rec with
  | bot => exact EReal.bot_mul_bot
  | top => exact EReal.top_mul_top
  | coe r => exact absurd ⟨r, rfl⟩ h

theorem mul_self_pos (x : EReal) : 0 ≤ x * x := by
  by_cases h : IsReal x
  · obtain ⟨r, rfl⟩ := h
    rw [← EReal.coe_mul]
    exact EReal.coe_nonneg.2 (mul_self_nonneg _)
  · rw [mul_self_top h]
    exact le_top

/-- A normalised entry is a real whatever the row is: an infinite entry makes the reciprocal root zero. -/
theorem nrm_real {n : ℕ} {d : ℝ} (hd : 0 < d) (x : Fin n → EReal) (k : Fin n) : IsReal (nrm (d : EReal) x k) := by
  have hd1 : 0 < 1 / d := one_div_pos.2 hd
  unfold nrm rs ms
  rw [eps_eq]
  by_cases h : ∀ i, IsReal (x i)
  · refine (h k).mul ?_
    choose r hr using h
    simp only [hr, ← EReal.coe_mul]
    obtain ⟨t, ht⟩ := IsReal.sum Finset.univ (f := fun k => ((r k * r k : ℝ) : EReal)) fun k => ⟨_, rfl⟩
    have ht0 : 0 ≤ t := by
      have : (0 : EReal) ≤ ∑ k, ((r k * r k : ℝ) : EReal) := Finset.sum_nonneg fun k _ => EReal.coe_nonneg.2 (mul_self_nonneg _)
      rw [ht] at this
      exact EReal.coe_nonneg.1 this
    rw [ht, Ideal.div_coe hd.ne', ← EReal.coe_mul, ← EReal.coe_add, Ideal.rsqrt_coe]
    have hp : 0 < t * (1 / d) + 8796093 / 8796093022208 := by positivity
    rw [if_neg (not_lt.2 hp.le), if_neg hp.ne']
    exact ⟨_, rfl⟩
  · obtain ⟨i, hi⟩ := not_forall.1 h
    have hs : ∑ k, x k * x k = ⊤ :=
      top_le_iff.1 ((mul_self_top hi).ge.trans (Finset.single_le_sum (f := fun k => x k * x k) (fun k _ => mul_self_pos _) (Finset.mem_univ i)))
    rw [hs, Ideal.div_coe hd.ne', EReal.top_mul_coe_of_pos hd1, EReal.top_add_coe]
    exact ⟨0, (congrArg (x k * ·) (show Ideal.rsqrt ⊤ = 0 from rfl)).trans (mul_zero _)⟩

namespace Row

variable (X : Row)

/-- The entries that must be reals for a product to spread over the two rotated terms. -/
structure Finite : Prop where
  qw : ∀ a, IsReal (X.qw a)
  U : ∀ a j, IsReal (X.U a j)
  C : ∀ l, IsReal (X.C l)
  S : ∀ l, IsReal (X.S l)
  gq : ∀ h l, IsReal (X.gq h l)

theorem turn_eq (g : Fin 64 → EReal) (l : Fin 64) : X.turn g l = g l * X.C (half l) + g (other l) * X.T (other l) := by
  unfold turn T half other
  by_cases h : l.val < 32
  · have e : (l.val + 32) % 64 = 32 + l.val := by omega
    have e' : l.val % 32 = l.val := by omega
    rw [dif_pos h, dif_neg (by show ¬ (l.val + 32) % 64 < 32; omega), add_comm]
    simp only [e, e', Nat.add_sub_cancel_left]
  · have e : (l.val + 32) % 64 = l.val - 32 := by omega
    have e' : l.val % 32 = l.val - 32 := by omega
    rw [dif_neg h, dif_pos (by show (l.val + 32) % 64 < 32; omega), EReal.neg_mul, mul_neg]
    simp only [e, e']

theorem D_plain (h : Fin 4) (l : Fin 128) (p) : X.D h ⟨l.val, p⟩ = X.gq h ⟨l.val, by omega⟩ := dif_pos l.isLt

theorem D_cos (h : Fin 4) (l : Fin 64) (p) : X.D h ⟨128 + l.val, p⟩ = rope (X.gq h) l * X.C (half l) := by
  have hl := l.isLt
  have e : 128 + l.val - 128 = l.val := by omega
  unfold D
  rw [dif_neg (by show ¬ 128 + l.val < 128; omega), dif_pos (by show 128 + l.val < 192; omega)]
  simp only [e]

theorem D_sin (h : Fin 4) (l : Fin 64) (p) : X.D h ⟨192 + l.val, p⟩ = rope (X.gq h) l * X.T l := by
  have hl := l.isLt
  have e : 192 + l.val - 192 = l.val := by omega
  unfold D
  rw [dif_neg (by show ¬ 192 + l.val < 128; omega), dif_neg (by show ¬ 192 + l.val < 192; omega)]
  simp only [e]

theorem V_sin (a : Fin 384) (h : Fin 4) (l : Fin 64) (p) :
    X.V a h ⟨192 + l.val, p⟩ = X.U a ⟨h.val * 192 + (128 + (other l).val), by have := (other l).isLt; omega⟩ := by
  have hl := l.isLt
  have e : 192 + l.val - 192 = l.val := by omega
  unfold V
  rw [dif_neg (by show ¬ 192 + l.val < 192; omega)]
  simp only [e, add_assoc]

theorem V_lo (a : Fin 384) (h : Fin 4) (l : Fin 256) (hl : l.val < 192) : X.V a h l = X.U a ⟨h.val * 192 + l.val, by omega⟩ := dif_pos hl

theorem G_plain (h : Fin 4) (l : Fin 128) (p) : X.G h ⟨l.val, p⟩ = X.gq h ⟨l.val, by omega⟩ := dif_pos l.isLt

theorem G_turn (h : Fin 4) (l : Fin 64) (p) : X.G h ⟨128 + l.val, p⟩ = X.turn (rope (X.gq h)) l := by
  have e : 128 + l.val - 128 = l.val := by omega
  unfold G
  rw [dif_neg (by show ¬ 128 + l.val < 128; omega)]
  simp only [e]

theorem Df_at (h : Fin 4) (l : Fin 256) (p) : X.Df ⟨h.val * 256 + l.val, p⟩ = X.D h l := by
  unfold Df
  exact congrArg₂ X.D (Fin.ext (by show (h.val * 256 + l.val) / 256 = h.val; omega)) (Fin.ext (by show (h.val * 256 + l.val) % 256 = l.val; omega))

theorem Vf_at (a : Fin 384) (h : Fin 4) (l : Fin 256) (p) : X.Vf a ⟨h.val * 256 + l.val, p⟩ = X.V a h l := by
  unfold Vf
  exact congrArg₂ (X.V a) (Fin.ext (by show (h.val * 256 + l.val) / 256 = h.val; omega)) (Fin.ext (by show (h.val * 256 + l.val) % 256 = l.val; omega))

theorem Gf_at (h : Fin 4) (l : Fin 192) (p) : X.Gf ⟨h.val * 192 + l.val, p⟩ = X.G h l := by
  unfold Gf
  exact congrArg₂ X.G (Fin.ext (by show (h.val * 192 + l.val) / 192 = h.val; omega)) (Fin.ext (by show (h.val * 192 + l.val) % 192 = l.val; omega))

variable {X} (hX : X.Finite)
include hX

theorem Finite.T (l : Fin 64) : IsReal (X.T l) := by
  unfold Row.T
  split
  · exact (hX.S _).neg
  · exact hX.S _

/-- A rotated entry times a real: the two terms apart. -/
theorem Finite.turn_mul (h : Fin 4) (l : Fin 64) {z : EReal} (hz : IsReal z) :
    X.turn (rope (X.gq h)) l * z = rope (X.gq h) l * X.C (half l) * z + rope (X.gq h) (other l) * X.T (other l) * z := by
  rw [turn_eq]
  exact add_mul_real ((hX.gq _ _).mul (hX.C _)) ((hX.gq _ _).mul (hX.T _)) hz

/-- The cotangent of the normalised query row, from the kernel's wider rows. -/
theorem Finite.dqn_eq (a : Fin 384) : ∑ e, X.Df e * X.Vf a e = X.dqn a := by
  unfold dqn
  rw [← Fin.sum_mul_add_fin 4 256 (fun e => X.Df e * X.Vf a e), ← Fin.sum_mul_add_fin 4 192 (fun j => X.Gf j * X.U a j)]
  refine Finset.sum_congr rfl fun h _ => ?_
  simp only [Df_at, Vf_at, Gf_at]
  rw [sum_256, sum_192]
  simp only [D_plain, D_cos, D_sin, V_sin, G_plain, G_turn, hX.turn_mul h _ (hX.U _ _), Finset.sum_add_distrib]
  have e1 (l : Fin 128) (p) : X.V a h ⟨l.val, p⟩ = X.U a ⟨h.val * 192 + l.val, by omega⟩ := X.V_lo a h _ (by have := l.isLt; simp only; omega)
  have e2 (l : Fin 64) (p) : X.V a h ⟨128 + l.val, p⟩ = X.U a ⟨h.val * 192 + (128 + l.val), by omega⟩ :=
    X.V_lo a h _ (by have := l.isLt; simp only; omega)
  simp only [e1, e2]
  congr 2
  refine (sum_other _).symm.trans (Finset.sum_congr rfl fun l _ => ?_)
  simp only [other_other]

omit hX in
/-- The normalised query row is real. -/
theorem nrm_q (a : Fin 384) : IsReal (nrm n384 X.q a) := by
  rw [n384_eq]
  exact nrm_real (by norm_num) X.q a

/-- The gradient of a rotated column of the query projection: the kernel's two columns together. -/
theorem Finite.dU_turn (a : Fin 384) (h : Fin 4) (l : Fin 64) (p) :
    X.dU a ⟨h.val * 192 + (128 + l.val), p⟩ =
      Cert.RowMath.nrm n384 X.q a * X.qw a * (rope (X.gq h) l * X.C (half l)) +
        Cert.RowMath.nrm n384 X.q a * X.qw a * (rope (X.gq h) (other l) * X.T (other l)) := by
  unfold dU
  rw [X.Gf_at h ⟨128 + l.val, by omega⟩, G_turn, hX.turn_mul h l ((X.nrm_q a).mul (hX.qw a))]
  rw [mul_comm (_ * _) (_ * X.qw a), mul_comm (_ * _) (_ * X.qw a)]

omit hX in
theorem dU_plain (a : Fin 384) (h : Fin 4) (l : Fin 128) (p) :
    X.dU a ⟨h.val * 192 + l.val, p⟩ = Cert.RowMath.nrm n384 X.q a * X.qw a * X.gq h ⟨l.val, by omega⟩ := by
  unfold dU
  rw [X.Gf_at h ⟨l.val, by omega⟩, G_plain, mul_comm]

end Row

end Cert.Mla

end
-- ==== Proof.MlaPay.lean ====
/- The payloads of the latent attention's front backward, read at an index of a block of 512 rows. -/
module

public import proofs.«01_k».proof.Proof.MlaRow
public import proofs.«01_k».proof.Proof.MlaRun
public import Idealize.ShloMosaic.Lib.Pointwise
public import Idealize.ShloMosaic.Lib.IdealHost

@[expose] public section

set_option maxRecDepth 16384

noncomputable section

namespace Cert.MlaFrontBwdIdeal.Mla

open Idealize.ShloMosaic Cert.Mla Cert.RowMath Gen

/-- A stretch of 128 columns from column `n`, with zeros around it. -/
def spot (n : ℕ) (g : Fin 128 → EReal) (e : Fin 1024) : EReal :=
  if _ : e.val < n + 128 then if _ : e.val < n then 0 else g ⟨e.val - n, by omega⟩ else 0

/-- At a column of stretch `k`: the entry if the stretch is this one. -/
theorem spot_at (n : ℕ) (g : Fin 128 → EReal) (k : Fin 8) (m : Fin 128) (p) (q : ℕ) (hq : n = q * 128) :
    spot n g ⟨k.val * 128 + m.val, p⟩ = if q = k.val then g m else 0 := by
  subst hq
  unfold spot
  split_ifs with h1 h2 h3 h3 h3
  · exfalso; simp only at h2; omega
  · rfl
  · exact congrArg g (Fin.ext (by show k.val * 128 + m.val - q * 128 = m.val; subst h3; omega))
  · exfalso; simp only at h1 h2; omega
  · exfalso; simp only at h1; omega
  · rfl

/-- The rotation's gradient over a stretch: the lanes times the second table, turned by half the stretch, and the lanes times the first. -/
def swing (t1 t2 g : Fin 128 → EReal) (m : Fin 128) : EReal :=
  g ⟨(m.val + 128 - 64) % 128, Nat.mod_lt _ (by decide)⟩ * t2 ⟨(m.val + 128 - 64) % 128, Nat.mod_lt _ (by decide)⟩ + g m * t1 m

theorem pay41_at (a : Vec Ideal S512x1024 .f32) (b : Vec Ideal S512x128 .f32) (c : Vec Ideal S512x1024 .f32) (i : Fin 512) (e : Fin 1024) :
    k0_pay41 (F := Ideal) a b c (ix2 i e) = a (ix2 i e) + c (ix2 i e) + spot 128 (fun m => b (ix2 i m)) e := by
  unfold_payloads
  pointwise
  rfl

theorem spot_last (g : Fin 128 → EReal) (e : Fin 1024) :
    (if _ : e.val < 896 then 0 else g ⟨e.val - 896, by omega⟩) = spot 896 g e := by
  unfold spot
  rw [dif_pos (show e.val < 896 + 128 by omega)]

theorem spot_zero (g : Fin 128 → EReal) (e : Fin 1024) : (if h : e.val < 128 then g ⟨e.val, h⟩ else 0) = spot 0 g e := rfl

theorem pay37_at (v6 v8 v68 v69 v70 v71 v82 : Vec Ideal S512x128 .f32) (v86 : Vec Ideal S512x1024 .f32) (i : Fin 512) (e : Fin 1024) :
    k0_pay37 (F := Ideal) v6 v8 v68 v69 v70 v71 v82 v86 k0_pay36 (ix2 i e) =
      v86 (ix2 i e) + spot 896 (fun m => v82 (ix2 i m)) e + spot 512 (fun m => v70 (ix2 i m)) e
        + spot 640 (swing (fun m => v6 (ix2 i m)) (fun m => v8 (ix2 i m)) fun m => v71 (ix2 i m)) e + spot 256 (fun m => v68 (ix2 i m)) e
        + spot 384 (swing (fun m => v6 (ix2 i m)) (fun m => v8 (ix2 i m)) fun m => v69 (ix2 i m)) e := by
  rw [← spot_last]
  unfold_payloads
  pointwise
  rfl

theorem pay38_at (v55 v57 v59 : Vec Ideal S512x128 .f32) (v78 : Vec Ideal S512x1024 .f32) (i : Fin 512) (e : Fin 1024) :
    k0_pay38 (F := Ideal) v55 v57 v59 v78 (ix2 i e) =
      v78 (ix2 i e) + spot 256 (fun m => v59 (ix2 i m)) e + spot 128 (fun m => v57 (ix2 i m)) e + spot 0 (fun m => v55 (ix2 i m)) e := by
  rw [← spot_zero]
  unfold_payloads
  pointwise
  rfl

theorem pay33_at (v49 : Vec Ideal S512x1024 .f32) (v51 : Vec Ideal S512x512 .f32) (i : Fin 512) (e : Fin 1024) :
    k0_pay33 (F := Ideal) v49 v51 (ix2 i e) =
      (if h : e.val < 512 then 0 else v51 (ix2 i ⟨e.val - 512, by omega⟩)) + spot 384 (fun m => v49 (ix2 i ⟨768 + m.val, by omega⟩)) e := by
  unfold_payloads
  pointwise
  rfl

theorem pay35_at (v47 : Vec Ideal S512x1024 .f32) (i : Fin 512) (e : Fin 1024) :
    k0_pay35 (F := Ideal) v47 (ix2 i e) = spot 768 (fun m => v47 (ix2 i ⟨768 + m.val, by omega⟩)) e := by
  unfold_payloads
  pointwise
  rfl

theorem pay40_at (v66 : Vec Ideal S512x128 .f32) (i : Fin 512) (e : Fin 1024) :
    k0_pay40 (F := Ideal) v66 (ix2 i e) = spot 0 (fun m => v66 (ix2 i m)) e := by
  rw [← spot_zero]
  unfold_payloads
  pointwise

namespace Ins

variable (X : Ins Ideal)

/-- The cotangent row the query products see. -/
def dqx := k0_pay41 (F := Ideal) X.v127 X.v134 X.v136

/-- The two tables of the rotation at a row. -/
def t1 (i : Fin 512) (m : Fin 128) : EReal := X.x3 (ix2 i m)
def t2 (i : Fin 512) (m : Fin 128) : EReal := X.x4 (ix2 i m)

/-- Stretch `k` of the queries' cotangent at a row: heads' plain lanes as they are, rotated lanes turned back. -/
def wide (i : Fin 512) (k : Fin 8) (m : Fin 128) : EReal :=
  if k.val % 2 = 0 then X.x9 (ix2 i ⟨k.val * 128 + m.val, by omega⟩)
  else swing (X.t1 i) (X.t2 i) (fun m => X.x9 (ix2 i ⟨k.val * 128 + m.val, by omega⟩)) m

/-- Stretch `k` of the keys' and values' cotangent: first the heads' keys, then their values. -/
def deep (i : Fin 512) (k : Fin 8) (m : Fin 128) : EReal :=
  if h : k.val < 4 then X.x10 (ix2 i ⟨k.val * 256 + m.val, by omega⟩) else X.x11 (ix2 i ⟨(k.val - 4) * 128 + m.val, by omega⟩)

theorem v6_at (i : Fin 512) (m : Fin 128) : X.v6 (ix2 i m) = X.t1 i m := by
  unfold v6
  unfold_payloads
  pointwise
  rfl

theorem v8_at (i : Fin 512) (m : Fin 128) : X.v8 (ix2 i m) = X.t2 i m := by
  unfold v8
  unfold_payloads
  pointwise
  rfl

theorem v82_at (i : Fin 512) (m : Fin 128) : k0_pay34 (F := Ideal) X.v6 X.v8 X.x9 (ix2 i m) =
    swing (X.t1 i) (X.t2 i) (fun m => X.x9 (ix2 i ⟨896 + m.val, by omega⟩)) m := by
  unfold_payloads
  pointwise [v6_at, v8_at]
  rfl

theorem v134_at (i : Fin 512) (m : Fin 128) : X.v134 (ix2 i m) =
    swing (X.t1 i) (X.t2 i) (fun m => X.x9 (ix2 i ⟨128 + m.val, by omega⟩)) m := by
  unfold v134
  unfold_payloads
  pointwise [v6_at, v8_at]
  rfl

theorem cut_at (i : Fin 512) (m : Fin 128) :
    k0_pay27 (F := Ideal) X.x9 (ix2 i m) = X.x9 (ix2 i ⟨0 + m.val, by omega⟩) ∧
    k0_pay29 (F := Ideal) X.x9 (ix2 i m) = X.x9 (ix2 i ⟨256 + m.val, by omega⟩) ∧
    k0_pay30 (F := Ideal) X.x9 (ix2 i m) = X.x9 (ix2 i ⟨384 + m.val, by omega⟩) ∧
    k0_pay31 (F := Ideal) X.x9 (ix2 i m) = X.x9 (ix2 i ⟨512 + m.val, by omega⟩) ∧
    k0_pay32 (F := Ideal) X.x9 (ix2 i m) = X.x9 (ix2 i ⟨640 + m.val, by omega⟩) ∧
    k0_pay23 (F := Ideal) X.x10 (ix2 i m) = X.x10 (ix2 i ⟨0 + m.val, by omega⟩) ∧
    k0_pay24 (F := Ideal) X.x10 (ix2 i m) = X.x10 (ix2 i ⟨256 + m.val, by omega⟩) ∧
    k0_pay25 (F := Ideal) X.x10 (ix2 i m) = X.x10 (ix2 i ⟨512 + m.val, by omega⟩) := by
  refine ⟨?_, ?_, ?_, ?_, ?_, ?_, ?_, ?_⟩ <;> (unfold_payloads; pointwise) <;> simp only [Nat.zero_add] <;> rfl

theorem dqx_at (i : Fin 512) (k : Fin 8) (m : Fin 128) (p) : X.dqx (ix2 i ⟨k.val * 128 + m.val, p⟩) = X.wide i k m := by
  unfold dqx
  rw [pay41_at]
  unfold v127 v136
  rw [pay37_at, pay35_at, pay40_at]
  simp only [v82_at, v134_at, X.cut_at, v6_at, v8_at, spot_at 128 _ k m p 1 rfl, spot_at 896 _ k m p 7 rfl, spot_at 512 _ k m p 4 rfl, spot_at 640 _ k m p 5 rfl,
    spot_at 256 _ k m p 2 rfl, spot_at 384 _ k m p 3 rfl, spot_at 0 _ k m p 0 rfl, spot_at 768 _ k m p 6 rfl]
  unfold wide
  match k with
  | ⟨0, _⟩ | ⟨1, _⟩ | ⟨2, _⟩ | ⟨3, _⟩ | ⟨4, _⟩ | ⟨5, _⟩ | ⟨6, _⟩ | ⟨7, _⟩ => simp

theorem v130_at (i : Fin 512) (k : Fin 8) (m : Fin 128) (p) : X.v130 (ix2 i ⟨k.val * 128 + m.val, p⟩) = X.deep i k m := by
  unfold v130
  rw [pay38_at, pay33_at]
  simp only [X.cut_at, spot_at 128 _ k m p 1 rfl, spot_at 256 _ k m p 2 rfl, spot_at 384 _ k m p 3 rfl, spot_at 0 _ k m p 0 rfl]
  unfold deep
  by_cases h : k.val < 4
  · rw [dif_pos h, dif_pos (by omega)]
    match k with
    | ⟨0, _⟩ | ⟨1, _⟩ | ⟨2, _⟩ | ⟨3, _⟩ => simp
  · rw [dif_neg h, dif_neg (by omega), if_neg (by omega), if_neg (by omega), if_neg (by omega), if_neg (by omega)]
    simp only [add_zero]
    exact congrArg (fun c => X.x11 (ix2 i c)) (Fin.ext (by simp only; omega))

theorem y2_at (i : Fin 512) (m : Fin 128) : k0_pay42 (F := Ideal) X.v6 X.v8 (k0_pay26 X.x10) (ix2 i m) =
    swing (X.t1 i) (X.t2 i) (fun m => X.x10 (ix2 i ⟨128 + m.val, by omega⟩) + X.x10 (ix2 i ⟨384 + m.val, by omega⟩)
      + X.x10 (ix2 i ⟨640 + m.val, by omega⟩) + X.x10 (ix2 i ⟨896 + m.val, by omega⟩)) m := by
  unfold_payloads
  pointwise [v6_at, v8_at]
  rfl

/-- The rows of the point's own two latent blocks and its two weights. -/
def q (i : Fin 512) (a : Fin 384) : EReal := X.x0 (ix2 i a)
def kv (i : Fin 512) (a : Fin 256) : EReal := X.x1 (ix2 i a)
def qw (a : Fin 384) : EReal := X.x5 (ix2 0 a)
def kw (a : Fin 256) : EReal := X.x7 (ix2 0 a)

/-- The cotangents of the two weighted normalised rows. -/
def dqn (i : Fin 512) (a : Fin 384) : EReal := ∑ e, X.dqx (ix2 i e) * X.x6 (ix2 a e)
def dkn (i : Fin 512) (a : Fin 256) : EReal := ∑ e, X.v130 (ix2 i e) * X.x8 (ix2 a e)

theorem v24_at (i : Fin 512) (z : Fin 1) : k0_pay12 (F := Ideal) X.x0 (ix2 i z) = rs n384 (X.q i) := by
  unfold_payloads
  pointwise [zero_sub]
  rfl

theorem v27_at (i : Fin 512) (z : Fin 1) : k0_pay13 (F := Ideal) X.x0 (ix2 i z) = negHalf * Ideal.div (rs n384 (X.q i)) (ms n384 (X.q i)) := by
  unfold_payloads
  pointwise [zero_sub]
  rfl

theorem v29_at (i : Fin 512) (a : Fin 384) : k0_pay14 (F := Ideal) X.x0 (ix2 i a) = nrm n384 (X.q i) a := by
  unfold_payloads
  pointwise [zero_sub]
  rfl

theorem v31_at (i : Fin 512) (a : Fin 384) : k0_pay15 (F := Ideal) X.x0 X.x5 (ix2 i a) = nrm n384 (X.q i) a * X.qw a := by
  unfold_payloads
  pointwise [zero_sub]
  rfl

theorem v39_at (i : Fin 512) (z : Fin 1) : X.v39 (ix2 i z) = rs n256 (X.kv i) := by
  unfold v39
  unfold_payloads
  pointwise [zero_sub]
  rfl

theorem v42_at (i : Fin 512) (z : Fin 1) : X.v42 (ix2 i z) = negHalf * Ideal.div (rs n256 (X.kv i)) (ms n256 (X.kv i)) := by
  unfold v42 v39
  unfold_payloads
  pointwise [zero_sub]
  rfl

theorem v44_at (i : Fin 512) (a : Fin 256) : X.v44 (ix2 i a) = nrm n256 (X.kv i) a := by
  unfold v44 v39
  unfold_payloads
  pointwise [zero_sub]
  rfl

theorem v46_at (i : Fin 512) (a : Fin 256) : X.v46 (ix2 i a) = nrm n256 (X.kv i) a * X.kw a := by
  unfold v46 v39 v14
  unfold_payloads
  pointwise [zero_sub]
  rfl

theorem v175_at (i : Fin 512) (a : Fin 384) : k0_pay47 (F := Ideal) X.v12 X.v127 X.v134 X.v136 (ix2 i a) = X.dqn i a := by
  unfold v12 k0_pay47 k0_pay8
  pointwise
  rfl

theorem v149_at (i : Fin 512) (a : Fin 256) : k0_pay43 (F := Ideal) X.v16 X.v130 (ix2 i a) = X.dkn i a := by
  unfold v16 k0_pay43 k0_pay10
  pointwise
  rfl

theorem v183_at (i : Fin 512) (a : Fin 384) :
    k0_pay50 (F := Ideal) (k0_pay7 X.x5) X.v12 X.v127 X.v134 X.v136 (ix2 i a) = X.dqn i a * X.qw a := by
  unfold k0_pay50 k0_pay7
  pointwise [v175_at]
  rfl

variable (a0 : Vec Ideal S1x384 .f32) (a1 : Vec Ideal S384x1024 .f32) (a2 : Vec Ideal S1x256 .f32) (a3 : Vec Ideal S256x1024 .f32)

theorem y0_at (i : Fin 512) (a : Fin 384) : (X.step a0 a1 a2 a3).y0 (ix2 i a) = back n384 (X.q i) (fun k => X.dqn i k * X.qw k) a := by
  unfold step k0_pay52 k0_pay51
  pointwise [v183_at, v24_at, v27_at, zero_sub]
  simp only [Finset.univ_unique, Finset.sum_const, Finset.card_singleton, one_smul]
  rfl

theorem y1_at (i : Fin 512) (a : Fin 256) : (X.step a0 a1 a2 a3).y1 (ix2 i a) = back n256 (X.kv i) (fun k => X.dkn i k * X.kw k) a := by
  unfold step v14 k0_pay46 k0_pay9
  pointwise [v149_at, v39_at, v42_at, zero_sub]
  simp only [Finset.univ_unique, Finset.sum_const, Finset.card_singleton, one_smul]
  rfl

theorem y3_at (a : Fin 384) : (X.step a0 a1 a2 a3).y3 (ix2 0 a) = a0 (ix2 0 a) + ∑ i, nrm n384 (X.q i) a * X.dqn i a := by
  unfold step k0_pay53 k0_pay49
  pointwise [v175_at, v29_at]

theorem y4_at (a : Fin 384) (e : Fin 1024) :
    (X.step a0 a1 a2 a3).y4 (ix2 a e) = a1 (ix2 a e) + ∑ i, nrm n384 (X.q i) a * X.qw a * X.dqx (ix2 i e) := by
  unfold step k0_pay54 k0_pay48
  pointwise [v31_at]
  rfl

theorem y5_at (a : Fin 256) : (X.step a0 a1 a2 a3).y5 (ix2 0 a) = a2 (ix2 0 a) + ∑ i, nrm n256 (X.kv i) a * X.dkn i a := by
  unfold step k0_pay55 k0_pay45
  pointwise [v149_at, v44_at]

theorem y6_at (a : Fin 256) (e : Fin 1024) :
    (X.step a0 a1 a2 a3).y6 (ix2 a e) = a3 (ix2 a e) + ∑ i, nrm n256 (X.kv i) a * X.kw a * X.v130 (ix2 i e) := by
  unfold step k0_pay56 k0_pay44
  pointwise [v46_at]

end Ins

end Cert.MlaFrontBwdIdeal.Mla

end
-- ==== Proof.MlaHost.lean ====
/- What the host lines before the latent attention's front backward leave in the arrays its blocks are cut from. -/
module

public import proofs.«01_k».proof.Proof.MlaPay
public import proofs.«01_k».proof.Proof.MlaFrame
public import Idealize.ShloMosaic.Lib.Pipeline.ValueKit
public import Idealize.ShloMosaic.Lib.Pipeline.ReadBack
public import Idealize.ShloMosaic.Lib.StableHlo.RunRead
public import Idealize.ShloMosaic.Lib.StableHlo.ReadAt

@[expose] public section

set_option maxRecDepth 16384

noncomputable section

namespace Cert.MlaFrontBwdIdeal.Mla

open Idealize.ShloMosaic Idealize.ShloMosaic.TcCoe Idealize.SL.Sem Cert.Mla Cert.RowMath Gen

variable (m : (ℓ : Loc nD τ sig) → Buf (Elt Ideal) ℓ) (c : Dev nD)

/-- The arguments, each at its literal shape. -/
abbrev a0 : Vec Ideal S8192x384 .f32 := m ((c : Thread nD τ).loc main_arg0)
abbrev a1 : Vec Ideal S8192x256 .f32 := m ((c : Thread nD τ).loc main_arg1)
abbrev a3 : Vec Ideal S8192 .i32 := m ((c : Thread nD τ).loc main_arg3)
abbrev a4 : Vec Ideal S384 .f32 := m ((c : Thread nD τ).loc main_arg4)
abbrev a5 : Vec Ideal S384x768 .f32 := m ((c : Thread nD τ).loc main_arg5)
abbrev a6 : Vec Ideal S256 .f32 := m ((c : Thread nD τ).loc main_arg6)
abbrev a7 : Vec Ideal S256x1024 .f32 := m ((c : Thread nD τ).loc main_arg7)
abbrev a8 : Vec Ideal S8192x4x192 .f32 := m ((c : Thread nD τ).loc main_arg8)
abbrev a9 : Vec Ideal S8192x4x192 .f32 := m ((c : Thread nD τ).loc main_arg9)
abbrev a10 : Vec Ideal S8192x4x128 .f32 := m ((c : Thread nD τ).loc main_arg10)

/-- Row `i` of the program's arguments. -/
def krow (i : Fin 8192) : Row where
  q a := a0 m c (ix2 i a)
  kv a := a1 m c (ix2 i a)
  qw a := a4 m c (ix1 a)
  U a j := a5 m c (ix2 a j)
  kw a := a6 m c (ix1 a)
  W a j := a7 m c (ix2 a j)
  C l := Ideal.cos (angle (a3 m c (ix1 i)) l)
  S l := Ideal.sin (angle (a3 m c (ix1 i)) l)
  gq h l := a8 m c (ix3 i h l)
  gk h l := a9 m c (ix3 i h l)
  gv h l := a10 m c (ix3 i h l)

theorem V_v29 (a : Fin 384) : V m c main_v29 (ix2 0 a) = a4 m c (ix1 a) := by
  unfold V V0
  simp only [hostOps0, List.flatten_cons, List.flatten_nil, List.append_nil, List.cons_append, List.nil_append]
  repeat after_reads_at

theorem V_v51 (a : Fin 256) : V m c main_v51 (ix2 0 a) = a6 m c (ix1 a) := by
  unfold V V0
  simp only [hostOps0, List.flatten_cons, List.flatten_nil, List.append_nil, List.cons_append, List.nil_append]
  repeat after_reads_at

/-- The first table: the cosines twice, then zeros. -/
theorem V_v17 (i : Fin 8192) (l : Fin 128) : V m c main_v17 (ix2 i l) = (if h : l.val < 64 then (krow m c i).C (half ⟨l.val, h⟩) else 0 : EReal) := by
  unfold V V0
  simp only [hostOps0, List.flatten_cons, List.flatten_nil, List.append_nil, List.cons_append, List.nil_append]
  repeat after_reads_at
  by_cases h : l.val < 32
  · have e : l.val % 32 = l.val := by omega
    rw [dif_pos h, dif_pos (by omega)]
    unfold half
    simp only [e]
    rfl
  · rw [dif_neg h]
    by_cases h' : l.val - 32 < 32
    · have e : l.val % 32 = l.val - 32 := by omega
      rw [dif_pos h', dif_pos (by omega)]
      unfold half
      simp only [e]
      rfl
    · rw [dif_neg h', dif_neg (by omega)]

/-- The second table: the sines negated, the sines, then zeros. -/
theorem V_v19 (i : Fin 8192) (l : Fin 128) : V m c main_v19 (ix2 i l) = (if h : l.val < 64 then (krow m c i).T ⟨l.val, h⟩ else 0 : EReal) := by
  unfold V V0
  simp only [hostOps0, List.flatten_cons, List.flatten_nil, List.append_nil, List.cons_append, List.nil_append]
  repeat after_reads_at
  unfold Row.T
  by_cases h : l.val < 32
  · rw [dif_pos h, dif_pos (by omega), dif_pos h]
    rfl
  · rw [dif_neg h]
    by_cases h' : l.val - 32 < 32
    · rw [dif_pos h', dif_pos (by omega), dif_neg h]
      rfl
    · rw [dif_neg h', dif_neg (by omega)]

theorem V_v26 (i : Fin 8192) (l : Fin 1024) : V m c main_v26 (ix2 i l) =
    (if h : l.val % 256 < 192 then (krow m c i).gq ⟨l.val / 256, by omega⟩ ⟨l.val % 256, h⟩ else 0 : EReal) := by
  unfold V V0
  simp only [hostOps0, List.flatten_cons, List.flatten_nil, List.append_nil, List.cons_append, List.nil_append]
  repeat after_reads_at
  rfl

theorem V_v28 (i : Fin 8192) (l : Fin 1024) : V m c main_v28 (ix2 i l) =
    (if h : l.val % 256 < 192 then (krow m c i).gk ⟨l.val / 256, by omega⟩ ⟨l.val % 256, h⟩ else 0 : EReal) := by
  unfold V V0
  simp only [hostOps0, List.flatten_cons, List.flatten_nil, List.append_nil, List.cons_append, List.nil_append]
  repeat after_reads_at
  rfl

theorem V_v61 (i : Fin 8192) (l : Fin 512) :
    V m c main_v61 (ix2 i l) = (krow m c i).gv ⟨l.val / 128, by omega⟩ ⟨l.val % 128, Nat.mod_lt _ (by decide)⟩ := by
  unfold V V0
  simp only [hostOps0, List.flatten_cons, List.flatten_nil, List.append_nil, List.cons_append, List.nil_append]
  repeat after_reads_at
  rfl

set_option maxHeartbeats 2000000 in
theorem V_v60 (a : Fin 256) (l : Fin 1024) : V m c main_v60 (ix2 a l) = a7 m c (ix2 a (place l)) := by
  unfold V V0
  simp only [hostOps0, List.flatten_cons, List.flatten_nil, List.append_nil, List.cons_append, List.nil_append]
  repeat after_reads_at
  split_ifs
  all_goals exact congrArg (fun k => a7 m c (ix2 a k)) (Fin.ext (by simp only [place]; omega))

/-- A value given by cases is `c` where both cases are. -/
theorem dite_eq_of {α : Type} {p : Prop} [Decidable p] {a : p → α} {b : ¬p → α} {x : α} (h : ∀ hp, a hp = x) (h' : ∀ hp, b hp = x) :
    dite p a b = x := by
  split
  · exact h _
  · exact h' _

set_option maxHeartbeats 4000000 in
theorem V_v50 (i : Fin 8192) (a : Fin 384) (l : Fin 1024) : V m c main_v50 (ix2 a l) = (krow m c i).Vf a l := by
  unfold V V0
  simp only [hostOps0, List.flatten_cons, List.flatten_nil, List.append_nil, List.cons_append, List.nil_append]
  after_reads_at
  iterate 11 (refine dite_eq_of (fun _ => ?_) fun _ => ?_; rotate_left)
  all_goals repeat after_reads_at
  all_goals unfold Row.Vf Row.V
  all_goals refine (dite_eq_of (fun k => ?_) fun k => ?_).symm
  all_goals have k' := k
  all_goals simp only at k'
  all_goals first
    | (exfalso; omega)
    | exact congrArg (fun k => a5 m c (ix2 a k)) (Fin.ext (by first | (simp only [other]; omega) | (simp only; omega)))
    | (refine (dite_eq_of (fun _ => ?_) fun _ => ?_).symm <;>
        exact congrArg (fun k => a5 m c (ix2 a k)) (Fin.ext (by simp only [other]; omega)))

end Cert.MlaFrontBwdIdeal.Mla
-- ==== Proof.MlaValue.lean ====
/- What the latent attention's front backward leaves in its seven result arrays, and in the three arrays the host lines after the
   launch make of them. -/
module

public import proofs.«01_k».proof.Proof.MlaHost

@[expose] public section

set_option maxRecDepth 16384

noncomputable section

namespace Cert.MlaFrontBwdIdeal.Mla

open Idealize.ShloMosaic Idealize.ShloMosaic.TcCoe Idealize.SL.Sem Cert.Mla Cert.RowMath Gen
open Idealize.ShloMosaic.Pipeline (Dat)

variable (m : (ℓ : Loc nD τ sig) → Buf (Elt Ideal) ℓ) (c : Dev nD)

theorem idx (t : Fin cfg0.N) : win0_0.index t = ![t.val, 0] ∧ win0_1.index t = ![t.val, 0] ∧ win0_3.index t = ![t.val, 0] ∧ win0_4.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧
    win0_5.index t = ![0, 0] ∧ win0_6.index t = ![0, 0] ∧ win0_7.index t = ![0, 0] ∧ win0_8.index t = ![0, 0] :=
  (by decide +kernel : ∀ t : Fin grid0.N, win0_0.index t = ![t.val, 0] ∧ win0_1.index t = ![t.val, 0] ∧ win0_3.index t = ![t.val, 0] ∧ win0_4.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧
    win0_5.index t = ![0, 0] ∧ win0_6.index t = ![0, 0] ∧ win0_7.index t = ![0, 0] ∧ win0_8.index t = ![0, 0]) t

theorem pt_lt (t : Fin cfg0.N) : t.val < 16 := Nat.lt_of_lt_of_eq t.isLt N_0

/-- Row `i` of point `t`'s tile. -/
abbrev rowOf (t : Fin cfg0.N) (i : Fin 512) : Fin 8192 := ⟨t.val * 512 + i.val, by have := pt_lt t; omega⟩

variable (t : Fin cfg0.N)

theorem blk0 (i : Fin 512) (k : Fin 384) : iblk m c 0 t (ix2 i k) = a0 m c (ix2 (rowOf t i) k) := by
  show V m c main_arg0 _ = _
  rw [V_main_arg0]
  blk_ext [(idx t).1]

theorem blk1 (i : Fin 512) (k : Fin 256) : iblk m c 1 t (ix2 i k) = a1 m c (ix2 (rowOf t i) k) := by
  show V m c main_arg1 _ = _
  rw [V_main_arg1]
  blk_ext [(idx t).2.1]

theorem blk3 (i : Fin 512) (k : Fin 128) : iblk m c 3 t (ix2 i k) = V m c main_v17 (ix2 (rowOf t i) k) := by
  show V m c main_v17 _ = _
  blk_ext [(idx t).2.2.1]

theorem blk4 (i : Fin 512) (k : Fin 128) : iblk m c 4 t (ix2 i k) = V m c main_v19 (ix2 (rowOf t i) k) := by
  show V m c main_v19 _ = _
  blk_ext [(idx t).2.2.2.1]

theorem blk9 (i : Fin 512) (k : Fin 1024) : iblk m c 9 t (ix2 i k) = V m c main_v26 (ix2 (rowOf t i) k) := by
  show V m c main_v26 _ = _
  blk_ext [(idx t).2.2.2.2.1]

theorem blk10 (i : Fin 512) (k : Fin 1024) : iblk m c 10 t (ix2 i k) = V m c main_v28 (ix2 (rowOf t i) k) := by
  show V m c main_v28 _ = _
  blk_ext [(idx t).2.2.2.2.2.1]

theorem blk11 (i : Fin 512) (k : Fin 512) : iblk m c 11 t (ix2 i k) = V m c main_v61 (ix2 (rowOf t i) k) := by
  show V m c main_v61 _ = _
  blk_ext [(idx t).2.2.2.2.2.2.1]

theorem blk5 (i : Fin 1) (k : Fin 384) : iblk m c 5 t (ix2 i k) = V m c main_v29 (ix2 i k) := by
  show V m c main_v29 _ = _
  blk_ext [(idx t).2.2.2.2.2.2.2.2.2.2.1]

theorem blk6 (i : Fin 384) (k : Fin 1024) : iblk m c 6 t (ix2 i k) = V m c main_v50 (ix2 i k) := by
  show V m c main_v50 _ = _
  blk_ext [(idx t).2.2.2.2.2.2.2.2.2.2.2.1]

theorem blk7 (i : Fin 1) (k : Fin 256) : iblk m c 7 t (ix2 i k) = V m c main_v51 (ix2 i k) := by
  show V m c main_v51 _ = _
  blk_ext [(idx t).2.2.2.2.2.2.2.2.2.2.2.2.1]

theorem blk8 (i : Fin 256) (k : Fin 1024) : iblk m c 8 t (ix2 i k) = V m c main_v60 (ix2 i k) := by
  show V m c main_v60 _ = _
  blk_ext [(idx t).2.2.2.2.2.2.2.2.2.2.2.2.2]

/-! ### A point's rows are the program's -/

theorem q_row (i : Fin 512) : (blks m c t).q i = (krow m c (rowOf t i)).q := funext fun a => blk0 m c t i a

theorem kv_row (i : Fin 512) : (blks m c t).kv i = (krow m c (rowOf t i)).kv := funext fun a => blk1 m c t i a

theorem qw_row (r : Fin 8192) : (blks m c t).qw = (krow m c r).qw := funext fun a => (blk5 m c t 0 a).trans (V_v29 m c a)

theorem kw_row (r : Fin 8192) : (blks m c t).kw = (krow m c r).kw := funext fun a => (blk7 m c t 0 a).trans (V_v51 m c a)

/-- Sixty-four lanes and as many zeros. -/
def pad (g : Fin 64 → EReal) (l : Fin 128) : EReal := if h : l.val < 64 then g ⟨l.val, h⟩ else 0

/-- The rotation's gradient of such lanes: the lanes times the first table, then the lanes times the second. -/
theorem swing_pad (C S g : Fin 64 → EReal) (l : Fin 128) :
    swing (pad C) (pad S) (pad g) l = if h : l.val < 64 then g ⟨l.val, h⟩ * C ⟨l.val, h⟩ else g ⟨l.val - 64, by omega⟩ * S ⟨l.val - 64, by omega⟩ := by
  unfold swing pad
  by_cases h : l.val < 64
  · have h' : ¬ (l.val + 128 - 64) % 128 < 64 := by omega
    rw [dif_pos h, dif_pos h, dif_pos h, dif_neg h', dif_neg h', mul_zero, zero_add]
  · have e : (l.val + 128 - 64) % 128 = l.val - 64 := by omega
    have h' : (l.val + 128 - 64) % 128 < 64 := by omega
    rw [dif_neg h, dif_neg h, dif_neg h, dif_pos h', dif_pos h', mul_zero, add_zero]
    simp only [e]

theorem t1_row (i : Fin 512) : (blks m c t).t1 i = pad fun l => (krow m c (rowOf t i)).C (half l) :=
  funext fun l => (blk3 m c t i l).trans (V_v17 m c _ l)

theorem t2_row (i : Fin 512) : (blks m c t).t2 i = pad (krow m c (rowOf t i)).T := funext fun l => (blk4 m c t i l).trans (V_v19 m c _ l)

theorem x9_at (i : Fin 512) (e : Fin 1024) : (blks m c t).x9 (ix2 i e) =
    (if h : e.val % 256 < 192 then (krow m c (rowOf t i)).gq ⟨e.val / 256, by omega⟩ ⟨e.val % 256, h⟩ else 0 : EReal) :=
  (blk9 m c t i e).trans (V_v26 m c _ e)

theorem x10_at (i : Fin 512) (e : Fin 1024) : (blks m c t).x10 (ix2 i e) =
    (if h : e.val % 256 < 192 then (krow m c (rowOf t i)).gk ⟨e.val / 256, by omega⟩ ⟨e.val % 256, h⟩ else 0 : EReal) :=
  (blk10 m c t i e).trans (V_v28 m c _ e)

theorem x11_at (i : Fin 512) (e : Fin 512) : (blks m c t).x11 (ix2 i e) =
    (krow m c (rowOf t i)).gv ⟨e.val / 128, by omega⟩ ⟨e.val % 128, Nat.mod_lt _ (by decide)⟩ :=
  (blk11 m c t i e).trans (V_v61 m c _ e)

/-- The upper stretch of a head's 256 columns: its rotated lanes and zeros. -/
theorem upper (g : Fin 4 → Fin 192 → EReal) (h : Fin 4) (l : Fin 128) (e : ℕ) (he : e = h.val * 256 + 128 + l.val) (p : e / 256 < 4) :
    (if k : e % 256 < 192 then g ⟨e / 256, p⟩ ⟨e % 256, k⟩ else 0 : EReal) = pad (rope (g h)) l := by
  unfold pad rope
  by_cases k : l.val < 64
  · rw [dif_pos k, dif_pos (by omega)]
    exact congrArg₂ g (Fin.ext (by show e / 256 = h.val; omega)) (Fin.ext (by show e % 256 = 128 + l.val; omega))
  · rw [dif_neg k, dif_neg (by omega)]

theorem x9_upper (i : Fin 512) (h : Fin 4) (l : Fin 128) (e : Fin 1024) (he : e.val = h.val * 256 + 128 + l.val) :
    (blks m c t).x9 (ix2 i e) = pad (rope ((krow m c (rowOf t i)).gq h)) l :=
  (x9_at m c t i e).trans (upper (krow m c (rowOf t i)).gq h l e.val he (by omega))

theorem x10_upper (i : Fin 512) (h : Fin 4) (l : Fin 128) (e : Fin 1024) (he : e.val = h.val * 256 + 128 + l.val) :
    (blks m c t).x10 (ix2 i e) = pad (rope ((krow m c (rowOf t i)).gk h)) l :=
  (x10_at m c t i e).trans (upper (krow m c (rowOf t i)).gk h l e.val he (by omega))

/-- Stretch `k` of the queries' cotangent is the row's. -/
theorem wide_row (i : Fin 512) (k : Fin 8) (l : Fin 128) (p) : (blks m c t).wide i k l = (krow m c (rowOf t i)).Df ⟨k.val * 128 + l.val, p⟩ := by
  unfold Ins.wide
  by_cases hk : k.val % 2 = 0
  · rw [if_pos hk, x9_at, dif_pos (by show (k.val * 128 + l.val) % 256 < 192; omega)]
    unfold Row.Df Row.D
    rw [dif_pos (by show (k.val * 128 + l.val) % 256 < 128; omega)]
  · rw [if_neg hk, t1_row, t2_row]
    have e (l : Fin 128) (p) : (blks m c t).x9 (ix2 i ⟨k.val * 128 + l.val, p⟩) = pad (rope ((krow m c (rowOf t i)).gq ⟨k.val / 2, by omega⟩)) l :=
      x9_upper m c t i ⟨k.val / 2, by omega⟩ l _ (by show k.val * 128 + l.val = k.val / 2 * 256 + 128 + l.val; omega)
    simp only [e]
    refine (swing_pad _ _ _ l).trans ?_
    have e' : (⟨k.val * 128 + l.val, p⟩ : Fin 1024) = ⟨(⟨k.val / 2, by omega⟩ : Fin 4).val * 256 + (⟨128 + l.val, by omega⟩ : Fin 256).val, by show k.val / 2 * 256 + (128 + l.val) < 1024; omega⟩ :=
      Fin.ext (by show k.val * 128 + l.val = k.val / 2 * 256 + (128 + l.val); omega)
    rw [e', Row.Df_at]
    by_cases h : l.val < 64
    · rw [dif_pos h]
      exact (Row.D_cos _ _ ⟨l.val, h⟩ _).symm
    · rw [dif_neg h]
      refine (Row.D_sin _ _ ⟨l.val - 64, by omega⟩ (by show 192 + (l.val - 64) < 256; omega)).symm.trans ?_
      exact congrArg _ (Fin.ext (by show 192 + (l.val - 64) = 128 + l.val; omega))

/-- A property of the kernel's columns, stretch by stretch. -/
theorem by_stretch {P : Fin 1024 → Prop} (h : ∀ (k : Fin 8) (l : Fin 128) (p), P ⟨k.val * 128 + l.val, p⟩) (e : Fin 1024) : P e := by
  have := h ⟨e.val / 128, by omega⟩ ⟨e.val % 128, Nat.mod_lt _ (by decide)⟩ (by show e.val / 128 * 128 + e.val % 128 < 1024; omega)
  have e' : (⟨e.val / 128 * 128 + e.val % 128, by omega⟩ : Fin 1024) = e := Fin.ext (by show e.val / 128 * 128 + e.val % 128 = e.val; omega)
  exact e' ▸ this

theorem dqx_row (i : Fin 512) (e : Fin 1024) : (blks m c t).dqx (ix2 i e) = (krow m c (rowOf t i)).Df e :=
  by_stretch (P := fun e => (blks m c t).dqx (ix2 i e) = (krow m c (rowOf t i)).Df e)
    (fun k l p => ((blks m c t).dqx_at i k l p).trans (wide_row m c t i k l p)) e

/-- Stretch `k` of the keys' and values' cotangent is the row's, in the kernel's order. -/
theorem deep_row (i : Fin 512) (k : Fin 8) (l : Fin 128) (p) : (blks m c t).deep i k l = (krow m c (rowOf t i)).Y (place ⟨k.val * 128 + l.val, p⟩) := by
  unfold Ins.deep Row.Y place
  by_cases hk : k.val < 4
  · rw [dif_pos hk, x10_at, dif_pos (by show (k.val * 256 + l.val) % 256 < 192; omega), dif_pos (by simp only; omega)]
    exact congrArg₂ _ (Fin.ext (by simp only; omega)) (Fin.ext (by simp only; omega))
  · rw [dif_neg hk, x11_at, dif_neg (by simp only; omega)]
    exact congrArg₂ _ (Fin.ext (by simp only; omega)) (Fin.ext (by simp only; omega))

theorem v130_row (i : Fin 512) (e : Fin 1024) : (blks m c t).v130 (ix2 i e) = (krow m c (rowOf t i)).Y (place e) :=
  by_stretch (P := fun e => (blks m c t).v130 (ix2 i e) = (krow m c (rowOf t i)).Y (place e))
    (fun k l p => ((blks m c t).v130_at i k l p).trans (deep_row m c t i k l p)) e

theorem x6_row (r : Fin 8192) (a : Fin 384) (e : Fin 1024) : (blks m c t).x6 (ix2 a e) = (krow m c r).Vf a e :=
  (blk6 m c t a e).trans (V_v50 m c r a e)

theorem x8_row (r : Fin 8192) (a : Fin 256) (e : Fin 1024) : (blks m c t).x8 (ix2 a e) = (krow m c r).W a (place e) :=
  (blk8 m c t a e).trans (V_v60 m c a e)

theorem dkn_row (i : Fin 512) (a : Fin 256) : (blks m c t).dkn i a = (krow m c (rowOf t i)).dkn a := by
  unfold Ins.dkn Row.dkn
  simp only [v130_row, x8_row m c t (rowOf t i)]
  exact sum_place fun j => (krow m c (rowOf t i)).Y j * (krow m c (rowOf t i)).W a j

/-- Every row is finite where the rotated products need it. -/
abbrev Finite : Prop := ∀ i, (krow m c i).Finite

theorem dqn_row (hX : Finite m c) (i : Fin 512) (a : Fin 384) : (blks m c t).dqn i a = (krow m c (rowOf t i)).dqn a := by
  unfold Ins.dqn
  simp only [dqx_row, x6_row m c t (rowOf t i)]
  exact (hX _).dqn_eq a

/-! ### The arrays at the end -/

/-- The rows of all tiles are all rows. -/
theorem sum_rows (g : Fin 8192 → EReal) : ∑ t : Fin cfg0.N, ∑ i : Fin 512, g (rowOf t i) = ∑ i, g i := Fin.sum_mul_add_fin 16 512 g

/-- What an accumulator holds after the last point, from what each point adds to it. -/
theorem acc_last {ι : Type} (f : (n : Nat) → n < cfg0.N → ι → EReal) (z : ι → EReal) (a : Fin cfg0.N → ι → EReal)
    (h0 : ∀ t : Fin cfg0.N, t.val % 16 = 0 → ∀ j, f t.val t.isLt j = z j + a t j)
    (hs : ∀ t : Fin cfg0.N, ¬ t.val % 16 = 0 → ∀ j, f t.val t.isLt j = f (t.val - 1) (by omega) j + a t j)
    (j : ι) (hz : z j = 0) (g : Fin 8192 → EReal) (ha : ∀ t, a t j = ∑ i : Fin 512, g (rowOf t i)) :
    f t0_15.val t0_15.isLt j = ∑ i, g i := by
  rw [Pipeline.eq_sum_fin_of_reset_step_apply_last f 16 z a h0 hs (by decide +kernel) t0_15 rfl j, hz, zero_add]
  simp only [ha]
  exact sum_rows g

/-- At every point the outputs are a step over some accumulators. -/
theorem outs_step : ∃ b0 b1 b2 b3, outs m c t.val t.isLt = (blks m c t).step b0 b1 b2 b3 := by
  by_cases h : t.val % 16 = 0
  · exact ⟨_, _, _, _, outs_first m c t h⟩
  · exact ⟨_, _, _, _, outs_next m c t h⟩

theorem final12 (hX : Finite m c) : (dats m 0 c).arrAt 12 cfg0.N = (fun j => (krow m c (j 0)).dq (j 1) : Vec Ideal S8192x384 .f32) := by
  refine (dats m 0 c).arrAt_eq_of_covers 12 _ (by decide +kernel) fun t hf y => ?_
  blk_simp
  idx_vars y
  obtain ⟨b0, b1, b2, b3, hb⟩ := outs_step m c t
  have e : (outs m c t.val t.isLt).y0 (ix2 y0 y1) = (krow m c (rowOf t y0)).dq y1 := by
    rw [hb, Ins.y0_at, q_row]
    simp only [dqn_row m c t hX, qw_row m c t (rowOf t y0)]
    rfl
  refine e.trans ?_
  refine congrArg₂ (fun i k => (krow m c i).dq k) ?_ ?_ <;> apply Fin.ext <;> blk_simp [(idx t).2.2.2.2.2.2.2.1]

theorem final13 : (dats m 0 c).arrAt 13 cfg0.N = (fun j => (krow m c (j 0)).dkv (j 1) : Vec Ideal S8192x256 .f32) := by
  refine (dats m 0 c).arrAt_eq_of_covers 13 _ (by decide +kernel) fun t hf y => ?_
  blk_simp
  idx_vars y
  obtain ⟨b0, b1, b2, b3, hb⟩ := outs_step m c t
  have e : (outs m c t.val t.isLt).y1 (ix2 y0 y1) = (krow m c (rowOf t y0)).dkv y1 := by
    rw [hb, Ins.y1_at, kv_row]
    simp only [dkn_row m c t, kw_row m c t (rowOf t y0)]
    rfl
  refine e.trans ?_
  refine congrArg₂ (fun i k => (krow m c i).dkv k) ?_ ?_ <;> apply Fin.ext <;> blk_simp [(idx t).2.2.2.2.2.2.2.2.1]

/-- The shared key's cotangent before its halves are added: the lanes times the cosine, then the lanes times the signed sine. -/
def halves (X : Row) (l : Fin 128) : EReal :=
  if h : l.val < 64 then (∑ k, rope (X.gk k) ⟨l.val, h⟩) * X.C (half ⟨l.val, h⟩)
  else (∑ k, rope (X.gk k) ⟨l.val - 64, by omega⟩) * X.T ⟨l.val - 64, by omega⟩

theorem final14 : (dats m 0 c).arrAt 14 cfg0.N = (fun j => halves (krow m c (j 0)) (j 1) : Vec Ideal S8192x128 .f32) := by
  refine (dats m 0 c).arrAt_eq_of_covers 14 _ (by decide +kernel) fun t hf y => ?_
  blk_simp
  idx_vars y
  obtain ⟨b0, b1, b2, b3, hb⟩ := outs_step m c t
  have e : (outs m c t.val t.isLt).y2 (ix2 y0 y1) = halves (krow m c (rowOf t y0)) y1 := by
    rw [hb]
    refine ((blks m c t).y2_at y0 y1).trans ?_
    rw [t1_row, t2_row]
    have e0 (l : Fin 128) := x10_upper m c t y0 0 l ⟨128 + l.val, by omega⟩ (by show 128 + l.val = 0 * 256 + 128 + l.val; omega)
    have e1 (l : Fin 128) := x10_upper m c t y0 1 l ⟨384 + l.val, by omega⟩ (by show 384 + l.val = 1 * 256 + 128 + l.val; omega)
    have e2 (l : Fin 128) := x10_upper m c t y0 2 l ⟨640 + l.val, by omega⟩ (by show 640 + l.val = 2 * 256 + 128 + l.val; omega)
    have e3 (l : Fin 128) := x10_upper m c t y0 3 l ⟨896 + l.val, by omega⟩ (by show 896 + l.val = 3 * 256 + 128 + l.val; omega)
    simp only [e0, e1, e2, e3]
    have ep (g0 g1 g2 g3 : Fin 64 → EReal) (l : Fin 128) : pad g0 l + pad g1 l + pad g2 l + pad g3 l = pad (fun l => g0 l + g1 l + g2 l + g3 l) l := by
      unfold pad
      split
      · rfl
      · simp only [add_zero]
    simp only [ep]
    rw [swing_pad]
    unfold halves
    simp only [Fin.sum_univ_four]
  refine e.trans ?_
  refine congrArg₂ (fun i k => halves (krow m c i) k) ?_ ?_ <;> apply Fin.ext <;> blk_simp [(idx t).2.2.2.2.2.2.2.2.2.1]

theorem final15 (hX : Finite m c) : (dats m 0 c).arrAt 15 cfg0.N = (fun j => ∑ i, (krow m c i).dqw (j 1) : Vec Ideal S1x384 .f32) := by
  refine (dats m 0 c).arrAt_eq_of_after_last 15 t0_15 (by decide +kernel) _ fun j => ?_
  blk_simp
  idx_vars j
  obtain rfl : j0 = 0 := Subsingleton.elim _ _
  refine acc_last (fun n hn (a : Fin 384) => (outs m c n hn).y3 (ix2 0 a)) _ (fun t a => ∑ i, nrm n384 ((blks m c t).q i) a * (blks m c t).dqn i a)
    (fun t h a => by rw [outs_first m c t h]; exact (blks m c t).y3_at _ _ _ _ a)
    (fun t h a => by rw [outs_next m c t h]; exact (blks m c t).y3_at _ _ _ _ a) j1 ?_ (fun i => (krow m c i).dqw j1) fun t => ?_
  · unfold k0_pay1; pointwise
  · simp only [q_row, dqn_row m c t hX]; rfl

theorem final16 : (dats m 0 c).arrAt 16 cfg0.N =
    (fun j => ∑ i, nrm n384 (krow m c i).q (j 0) * (krow m c i).qw (j 0) * (krow m c i).Df (j 1) : Vec Ideal S384x1024 .f32) := by
  refine (dats m 0 c).arrAt_eq_of_after_last 16 t0_15 (by decide +kernel) _ fun j => ?_
  blk_simp
  idx_vars j
  refine acc_last (fun n hn (e : Fin 1024) => (outs m c n hn).y4 (ix2 j0 e)) _
    (fun t e => ∑ i, nrm n384 ((blks m c t).q i) j0 * (blks m c t).qw j0 * (blks m c t).dqx (ix2 i e))
    (fun t h e => by rw [outs_first m c t h]; exact (blks m c t).y4_at _ _ _ _ j0 e)
    (fun t h e => by rw [outs_next m c t h]; exact (blks m c t).y4_at _ _ _ _ j0 e) j1 ?_
    (fun i => nrm n384 (krow m c i).q j0 * (krow m c i).qw j0 * (krow m c i).Df j1) fun t => ?_
  · unfold k0_pay2; pointwise
  · refine Finset.sum_congr rfl fun i _ => ?_
    rw [q_row, dqx_row, qw_row m c t (rowOf t i)]

theorem final17 : (dats m 0 c).arrAt 17 cfg0.N = (fun j => ∑ i, (krow m c i).dkw (j 1) : Vec Ideal S1x256 .f32) := by
  refine (dats m 0 c).arrAt_eq_of_after_last 17 t0_15 (by decide +kernel) _ fun j => ?_
  blk_simp
  idx_vars j
  obtain rfl : j0 = 0 := Subsingleton.elim _ _
  refine acc_last (fun n hn (a : Fin 256) => (outs m c n hn).y5 (ix2 0 a)) _ (fun t a => ∑ i, nrm n256 ((blks m c t).kv i) a * (blks m c t).dkn i a)
    (fun t h a => by rw [outs_first m c t h]; exact (blks m c t).y5_at _ _ _ _ a)
    (fun t h a => by rw [outs_next m c t h]; exact (blks m c t).y5_at _ _ _ _ a) j1 ?_ (fun i => (krow m c i).dkw j1) fun t => ?_
  · unfold k0_pay3; pointwise
  · simp only [kv_row, dkn_row m c t]; rfl

theorem final18 : (dats m 0 c).arrAt 18 cfg0.N = (fun j => ∑ i, (krow m c i).dW (j 0) (place (j 1)) : Vec Ideal S256x1024 .f32) := by
  refine (dats m 0 c).arrAt_eq_of_after_last 18 t0_15 (by decide +kernel) _ fun j => ?_
  blk_simp
  idx_vars j
  refine acc_last (fun n hn (e : Fin 1024) => (outs m c n hn).y6 (ix2 j0 e)) _
    (fun t e => ∑ i, nrm n256 ((blks m c t).kv i) j0 * (blks m c t).kw j0 * (blks m c t).v130 (ix2 i e))
    (fun t h e => by rw [outs_first m c t h]; exact (blks m c t).y6_at _ _ _ _ j0 e)
    (fun t h e => by rw [outs_next m c t h]; exact (blks m c t).y6_at _ _ _ _ j0 e) j1 ?_
    (fun i => (krow m c i).dW j0 (place j1)) fun t => ?_
  · unfold k0_pay4; pointwise
  · refine Finset.sum_congr rfl fun i _ => ?_
    rw [kv_row, v130_row, kw_row m c t (rowOf t i)]
    exact mul_comm _ _

end Cert.MlaFrontBwdIdeal.Mla
-- ==== Proof.MlaRef.lean ====
/- The reference of the latent attention's front backward, read at an index: every result is the row functions of its row, the
   weights' gradients their sums over all rows. -/
module

public import proofs.«01_k».proof.Proof.MlaRow
public import proofs.«01_k».proof.Proof.Gen.MlaFrontBwdRefIdeal.Read
public import Idealize.ShloMosaic.Lib.Pointwise
public import Idealize.ShloMosaic.Lib.IdealHost

@[expose] public section

set_option maxRecDepth 16384

noncomputable section

namespace Cert.MlaFrontBwdRefIdeal.MlaRef

open Cert.MlaFrontBwdRefIdeal Cert.MlaFrontBwdRefIdeal.Read Idealize.ShloMosaic Cert.Mla Cert.RowMath

/-- The arguments: the latent rows, the positions, the norms' weights and the projections, the heads' cotangents. -/
structure Args where
  x0 : FVec Ideal S8192x384 .f32
  x1 : FVec Ideal S8192x256 .f32
  x3 : Vec Ideal S8192 .i32
  x4 : FVec Ideal S384 .f32
  x5 : FVec Ideal S384x768 .f32
  x6 : FVec Ideal S256 .f32
  x7 : FVec Ideal S256x1024 .f32
  x8 : FVec Ideal S8192x4x192 .f32
  x9 : FVec Ideal S8192x4x192 .f32
  x10 : FVec Ideal S8192x4x128 .f32

namespace Args

variable (A : Args)

/-- Row `i` of the arguments. -/
def row (i : Fin 8192) : Row where
  q a := A.x0 (ix2 i a)
  kv a := A.x1 (ix2 i a)
  qw a := A.x4 (ix1 a)
  U a j := A.x5 (ix2 a j)
  kw a := A.x6 (ix1 a)
  W a j := A.x7 (ix2 a j)
  C l := Ideal.cos (angle (A.x3 (ix1 i)) l)
  S l := Ideal.sin (angle (A.x3 (ix1 i)) l)
  gq h l := A.x8 (ix3 i h l)
  gk h l := A.x9 (ix3 i h l)
  gv h l := A.x10 (ix3 i h l)

abbrev v35 := val_main_v35 (F := Ideal) A.x3
abbrev v36 := val_main_v36 (F := Ideal) A.x3
abbrev v85 := val_main_v85 (F := Ideal) A.x3
abbrev v86 := val_main_v86 (F := Ideal) A.x3
abbrev v8 := val_main_v8 (F := Ideal) A.x0
abbrev v9 := val_main_v9 (F := Ideal) A.x0
abbrev v12 := val_main_v12 (F := Ideal) A.x0
abbrev v14 := val_main_v14 (F := Ideal) A.x0
abbrev v16 := val_main_v16 (F := Ideal) A.x0 A.x4
abbrev v57 := val_main_v57 (F := Ideal) A.x1
abbrev v58 := val_main_v58 (F := Ideal) A.x1
abbrev v61 := val_main_v61 (F := Ideal) A.x1
abbrev v63 := val_main_v63 (F := Ideal) A.x1
abbrev v65 := val_main_v65 (F := Ideal) A.x1 A.x6
abbrev v100 := val_main_v100 (F := Ideal) A.x9
abbrev v113 := val_main_v113 (F := Ideal) A.x3 A.x9
abbrev v114 := val_main_v114 (F := Ideal) A.x3 A.x9
abbrev v117 := val_main_v117 (F := Ideal) A.x9 A.x10
abbrev v118 := val_main_v118 (F := Ideal) A.x9 A.x10
abbrev v120 := val_main_v120 (F := Ideal) A.x1 A.x6 A.x9 A.x10
abbrev v121 := val_main_v121 (F := Ideal) A.x7 A.x9 A.x10
abbrev v124 := val_main_v124 (F := Ideal) A.x1 A.x7 A.x9 A.x10
abbrev v126 := val_main_v126 (F := Ideal) A.x6 A.x7 A.x9 A.x10
abbrev v140 := val_main_v140 (F := Ideal) A.x1 A.x6 A.x7 A.x9 A.x10
abbrev v158 := val_main_v158 (F := Ideal) A.x3 A.x8
abbrev v161 := val_main_v161 (F := Ideal) A.x3 A.x8
abbrev v162 := val_main_v162 (F := Ideal) A.x3 A.x8
abbrev v164 := val_main_v164 (F := Ideal) A.x0 A.x3 A.x4 A.x8
abbrev v165 := val_main_v165 (F := Ideal) A.x3 A.x5 A.x8
abbrev v168 := val_main_v168 (F := Ideal) A.x0 A.x3 A.x5 A.x8
abbrev v170 := val_main_v170 (F := Ideal) A.x3 A.x4 A.x5 A.x8
abbrev v184 := val_main_v184 (F := Ideal) A.x0 A.x3 A.x4 A.x5 A.x8

theorem v35_at (i : Fin 8192) (z : Fin 1) (l : Fin 32) : A.v35 (ix3 i z l) = (A.row i).C l := by
  unfold v35 val_main_v35 val_main_v34 val_main_v33 val_main_v32 val_main_v31 val_main_v30 val_main_v29 val_main_v28 val_main_v27 val_main_v26 val_main_v25 val_main_v24 val_main_v23 val_main_v22 val_main_v21
  pointwise [val_main_cst_3, val_main_cst_4, val_main_cst_5]
  rfl

theorem v36_at (i : Fin 8192) (z : Fin 1) (l : Fin 32) : A.v36 (ix3 i z l) = (A.row i).S l := by
  unfold v36 val_main_v36 val_main_v34 val_main_v33 val_main_v32 val_main_v31 val_main_v30 val_main_v29 val_main_v28 val_main_v27 val_main_v26 val_main_v25 val_main_v24 val_main_v23 val_main_v22 val_main_v21
  pointwise [val_main_cst_3, val_main_cst_4, val_main_cst_5]
  rfl

theorem v85_at (i : Fin 8192) (z : Fin 1) (l : Fin 32) : A.v85 (ix3 i z l) = (A.row i).C l := by
  unfold v85 val_main_v85 val_main_v84 val_main_v83 val_main_v82 val_main_v81 val_main_v80 val_main_v79 val_main_v78 val_main_v77 val_main_v76 val_main_v75 val_main_v74 val_main_v73 val_main_v72 val_main_v71
  pointwise [val_main_cst_10, val_main_cst_11, val_main_cst_12]
  rfl

theorem v86_at (i : Fin 8192) (z : Fin 1) (l : Fin 32) : A.v86 (ix3 i z l) = (A.row i).S l := by
  unfold v86 val_main_v86 val_main_v84 val_main_v83 val_main_v82 val_main_v81 val_main_v80 val_main_v79 val_main_v78 val_main_v77 val_main_v76 val_main_v75 val_main_v74 val_main_v73 val_main_v72 val_main_v71
  pointwise [val_main_cst_10, val_main_cst_11, val_main_cst_12]
  rfl

theorem v8_at (i : Fin 8192) (z : Fin 1) : A.v8 (ix2 i z) = ms n384 (A.row i).q := by
  unfold v8 val_main_v8 val_main_v7 val_main_v6 val_main_v5 val_main_v4 val_main_v3 val_main_v2
  pointwise [val_main_cst, val_main_cst_0, val_main_cst_1]
  rfl

theorem v9_at (i : Fin 8192) (z : Fin 1) : A.v9 (ix2 i z) = rs n384 (A.row i).q := by
  unfold v9 val_main_v9
  pointwise [v8_at]
  rfl

theorem v12_at (i : Fin 8192) (z : Fin 1) :
    A.v12 (ix2 i z) = negHalf * Ideal.div (rs n384 (A.row i).q) (ms n384 (A.row i).q) := by
  unfold v12 val_main_v12 val_main_v11 val_main_v10
  pointwise [val_main_cst_2, v8_at, v9_at]
  rfl

theorem v14_at (i : Fin 8192) (a : Fin 384) : A.v14 (ix2 i a) = nrm n384 (A.row i).q a := by
  unfold v14 val_main_v14 val_main_v13
  pointwise [v9_at]
  rfl

theorem v16_at (i : Fin 8192) (a : Fin 384) : A.v16 (ix2 i a) = nrm n384 (A.row i).q a * (A.row i).qw a := by
  unfold v16 val_main_v16 val_main_v15 val_main_v0
  pointwise [v14_at]
  rfl

theorem v57_at (i : Fin 8192) (z : Fin 1) : A.v57 (ix2 i z) = ms n256 (A.row i).kv := by
  unfold v57 val_main_v57 val_main_v56 val_main_v55 val_main_v54 val_main_v53 val_main_v52 val_main_v51
  pointwise [val_main_cst_6, val_main_cst_7, val_main_cst_8]
  rfl

theorem v58_at (i : Fin 8192) (z : Fin 1) : A.v58 (ix2 i z) = rs n256 (A.row i).kv := by
  unfold v58 val_main_v58
  pointwise [v57_at]
  rfl

theorem v61_at (i : Fin 8192) (z : Fin 1) :
    A.v61 (ix2 i z) = negHalf * Ideal.div (rs n256 (A.row i).kv) (ms n256 (A.row i).kv) := by
  unfold v61 val_main_v61 val_main_v60 val_main_v59
  pointwise [val_main_cst_9, v57_at, v58_at]
  rfl

theorem v63_at (i : Fin 8192) (a : Fin 256) : A.v63 (ix2 i a) = nrm n256 (A.row i).kv a := by
  unfold v63 val_main_v63 val_main_v62
  pointwise [v58_at]
  rfl

theorem v65_at (i : Fin 8192) (a : Fin 256) : A.v65 (ix2 i a) = nrm n256 (A.row i).kv a * (A.row i).kw a := by
  unfold v65 val_main_v65 val_main_v64 val_main_v1
  pointwise [v63_at]
  rfl

theorem v100_at (i : Fin 8192) (l : Fin 64) : A.v100 (ix2 i l) = ∑ h, rope ((A.row i).gk h) l := by
  unfold v100 val_main_v100 val_main_v99
  pointwise [val_main_cst_13]
  rfl

theorem v113_at (i : Fin 8192) (z : Fin 1) (l : Fin 64) : A.v113 (ix3 i z l) = (A.row i).dpe l := by
  unfold v113 val_main_v113 val_main_v112 val_main_v111 val_main_v110 val_main_v109 val_main_v108 val_main_v107 val_main_v106 val_main_v105 val_main_v104 val_main_v103 val_main_v102 val_main_v101
  pointwise [val_main_cst_14, val_main_cst_15, v100_at, v85_at, v86_at]
  unfold Row.dpe Row.turn
  by_cases k : l.val < 32
  · rw [dif_neg (by omega), dif_pos k, dif_pos k, zero_add]
  · have e (p) : (⟨32 + (l.val - 32), p⟩ : Fin 64) = l := Fin.ext (by show 32 + (l.val - 32) = l.val; omega)
    rw [dif_pos ⟨by omega, by omega⟩, dif_neg k, dif_neg k, add_zero]
    simp only [e]

theorem v114_at (i : Fin 8192) (l : Fin 64) : A.v114 (ix2 i l) = (A.row i).dpe l := by
  have e := A.v113_at
  unfold v113 at e
  unfold v114 val_main_v114
  pointwise [val_main_cst_16, e]
  simp only [Finset.univ_unique, Finset.sum_const, Finset.card_singleton, one_smul]

theorem v158_at (i : Fin 8192) (h : Fin 4) (l : Fin 64) : A.v158 (ix3 i h l) = (A.row i).turn (rope ((A.row i).gq h)) l := by
  unfold v158 val_main_v158 val_main_v157 val_main_v156 val_main_v155 val_main_v154 val_main_v153 val_main_v152 val_main_v151 val_main_v150 val_main_v149 val_main_v148 val_main_v147 val_main_v146 val_main_v145 val_main_v144 val_main_v143 val_main_v142
  pointwise [val_main_cst_23, val_main_cst_24, v35_at, v36_at]
  unfold Row.turn
  by_cases k : l.val < 32
  · rw [dif_neg (by omega), dif_pos k, dif_pos k, zero_add]
    rfl
  · have e (p) : (⟨128 + (32 + (l.val - 32)), p⟩ : Fin 192) = ⟨128 + l.val, by omega⟩ :=
      Fin.ext (by show 128 + (32 + (l.val - 32)) = 128 + l.val; omega)
    rw [dif_pos ⟨by omega, by omega⟩, dif_neg k, dif_neg k, add_zero]
    simp only [e]
    rfl

theorem v161_at (i : Fin 8192) (h : Fin 4) (l : Fin 192) : A.v161 (ix3 i h l) = (A.row i).G h l := by
  have e := A.v158_at
  unfold v158 at e
  unfold v161 val_main_v161 val_main_v160 val_main_v159 val_main_v141
  pointwise [val_main_cst_25, val_main_cst_26, e]
  unfold Row.G
  by_cases k : l.val < 128
  · rw [dif_neg (by omega), dif_pos k, dif_pos k, zero_add]
    rfl
  · rw [dif_pos ⟨by omega, by omega⟩, dif_neg k, dif_neg k, add_zero]

theorem v162_at (i : Fin 8192) (j : Fin 768) : A.v162 (ix2 i j) = (A.row i).Gf j := by
  have e := A.v161_at
  unfold v161 at e
  unfold v162 val_main_v162
  pointwise [e]
  rfl

theorem v117_at (i : Fin 8192) (h : Fin 4) (l : Fin 256) : A.v117 (ix3 i h l) = (A.row i).Y ⟨h.val * 256 + l.val, by omega⟩ := by
  unfold v117 val_main_v117 val_main_v116 val_main_v115 val_main_v98
  pointwise [val_main_cst_17, val_main_cst_18]
  have e : (h.val * 256 + l.val) % 256 = l.val := by omega
  have e' : (h.val * 256 + l.val) / 256 = h.val := by omega
  unfold Row.Y
  simp only [e, e']
  by_cases k : l.val < 128
  · rw [dif_neg (by omega), dif_pos k, dif_pos k, zero_add]
    rfl
  · rw [dif_pos ⟨by omega, by omega⟩, dif_neg k, dif_neg k, add_zero]
    rfl

theorem v118_at (i : Fin 8192) (j : Fin 1024) : A.v118 (ix2 i j) = (A.row i).Y j := by
  have e := A.v117_at
  unfold v117 at e
  unfold v118 val_main_v118
  pointwise [e]
  exact congrArg _ (Fin.ext (by simp only; omega))

theorem v120_at (a : Fin 256) (j : Fin 1024) : A.v120 (ix2 a j) = ∑ i, (A.row i).dW a j := by
  unfold v120 val_main_v120 val_main_v119
  pointwise [v118_at, v65_at]
  rfl

theorem v121_at (i : Fin 8192) (a : Fin 256) : A.v121 (ix2 i a) = (A.row i).dkn a := by
  unfold v121 val_main_v121
  pointwise [v118_at]
  rfl

theorem v124_at (a : Fin 256) : A.v124 (ix2 0 a) = ∑ i, (A.row i).dkw a := by
  unfold v124 val_main_v124 val_main_v123 val_main_v122
  pointwise [val_main_cst_19, v121_at, v63_at]
  rfl

theorem v126_at (i : Fin 8192) (a : Fin 256) : A.v126 (ix2 i a) = (A.row i).dkn a * (A.row i).kw a := by
  unfold v126 val_main_v126 val_main_v125 val_main_v1
  pointwise [v121_at]
  rfl

theorem v140_at (i : Fin 8192) (a : Fin 256) : A.v140 (ix2 i a) = (A.row i).dkv a := by
  unfold v140 val_main_v140 val_main_v139 val_main_v138 val_main_v137 val_main_v136 val_main_v135 val_main_v134 val_main_v133 val_main_v132 val_main_v131 val_main_v130 val_main_v129 val_main_v128 val_main_v127
  pointwise [val_main_cst_20, val_main_cst_21, val_main_cst_22, v126_at, v58_at, v61_at]
  simp only [Finset.univ_unique, Finset.sum_const, Finset.card_singleton, one_smul]
  rfl

theorem v164_at (a : Fin 384) (j : Fin 768) : A.v164 (ix2 a j) = ∑ i, (A.row i).dU a j := by
  unfold v164 val_main_v164 val_main_v163
  pointwise [v162_at, v16_at]
  rfl

theorem v165_at (i : Fin 8192) (a : Fin 384) : A.v165 (ix2 i a) = (A.row i).dqn a := by
  unfold v165 val_main_v165
  pointwise [v162_at]
  rfl

theorem v168_at (a : Fin 384) : A.v168 (ix2 0 a) = ∑ i, (A.row i).dqw a := by
  unfold v168 val_main_v168 val_main_v167 val_main_v166
  pointwise [val_main_cst_27, v165_at, v14_at]
  rfl

theorem v170_at (i : Fin 8192) (a : Fin 384) : A.v170 (ix2 i a) = (A.row i).dqn a * (A.row i).qw a := by
  unfold v170 val_main_v170 val_main_v169 val_main_v0
  pointwise [v165_at]
  rfl

theorem v184_at (i : Fin 8192) (a : Fin 384) : A.v184 (ix2 i a) = (A.row i).dq a := by
  unfold v184 val_main_v184 val_main_v183 val_main_v182 val_main_v181 val_main_v180 val_main_v179 val_main_v178 val_main_v177 val_main_v176 val_main_v175 val_main_v174 val_main_v173 val_main_v172 val_main_v171
  pointwise [val_main_cst_28, val_main_cst_29, val_main_cst_30, v170_at, v9_at, v12_at]
  simp only [Finset.univ_unique, Finset.sum_const, Finset.card_singleton, one_smul]
  rfl

end Args

end Cert.MlaFrontBwdRefIdeal.MlaRef

end
-- ==== Proof.MlaAlg.lean ====
/- The latent attention's front backward and the derivative of the latent attention's front leave the same seven arrays, where the
   query norm's weight, the query projection and the queries' cotangent are finite. -/
module

public import proofs.«01_k».proof.Defs
public import proofs.«01_k».proof.Proof.MlaValue
public import proofs.«01_k».proof.Proof.MlaRef
public import proofs.«01_k».proof.Proof.FlashAlg
public import proofs.«01_k».proof.Proof.Gen.MlaFrontBwdRefIdeal.Run

@[expose] public section

set_option maxRecDepth 16384

noncomputable section

namespace Cert.MlaFrontBwdIdeal.Mla

open Idealize.ShloMosaic Idealize.ShloMosaic.TcCoe Idealize.SL.Sem Cert.Mla Cert.RowMath Gen

/-! ### The host lines after the launch -/

section
variable (W : Valuation τ sig (Elt Ideal))

/-- Three of the launch's arrays, each at its shape. -/
abbrev w2 : Vec Ideal S8192x128 .f32 := W (Proc.devRef .tc main_v62_2)
abbrev w4 : Vec Ideal S384x1024 .f32 := W (Proc.devRef .tc main_v62_4)
abbrev w6 : Vec Ideal S256x1024 .f32 := W (Proc.devRef .tc main_v62_6)

theorem tail_v81 (i : Fin 8192) (l : Fin 64) : StableHlo.after hostOps1 W (Proc.devRef .tc main_v81) (ix2 i l) =
    (w2 W (ix2 i ⟨l.val, by omega⟩) + w2 W (ix2 i ⟨64 + (other l).val, by have := (other l).isLt; omega⟩) : EReal) := by
  unfold hostOps1
  repeat after_reads_at
  refine congrArg (w2 W (ix2 i ⟨l.val, by omega⟩) + ·) ?_
  refine dite_eq_of (fun _ => ?_) fun _ => ?_
  all_goals exact congrArg (fun k => w2 W (ix2 i k)) (Fin.ext (by simp only [other]; omega))

theorem tail_v72_plain (a : Fin 384) (h : Fin 4) (l : Fin 128) (p) :
    StableHlo.after hostOps1 W (Proc.devRef .tc main_v72) (ix2 a ⟨h.val * 192 + l.val, p⟩) = w4 W (ix2 a ⟨h.val * 256 + l.val, by omega⟩) := by
  unfold hostOps1
  repeat after_reads_at
  rw [dif_pos (by omega)]
  exact congrArg (fun k => w4 W (ix2 a k)) (Fin.ext (by simp only; omega))

theorem tail_v72_turn (a : Fin 384) (h : Fin 4) (l : Fin 64) (p) :
    StableHlo.after hostOps1 W (Proc.devRef .tc main_v72) (ix2 a ⟨h.val * 192 + (128 + l.val), p⟩) =
      (w4 W (ix2 a ⟨h.val * 256 + (128 + l.val), by omega⟩) +
        w4 W (ix2 a ⟨h.val * 256 + (192 + (other l).val), by have := (other l).isLt; omega⟩) : EReal) := by
  unfold hostOps1
  repeat after_reads_at
  rw [dif_neg (by omega)]
  refine congrArg₂ (· + ·) (congrArg (fun k => w4 W (ix2 a k)) (Fin.ext (by simp only; omega))) ?_
  refine dite_eq_of (fun _ => ?_) fun _ => ?_
  all_goals exact congrArg (fun k => w4 W (ix2 a k)) (Fin.ext (by simp only [other]; omega))

theorem tail_v75 (a : Fin 256) (j : Fin 1024) :
    StableHlo.after hostOps1 W (Proc.devRef .tc main_v75) (ix2 a j) = w6 W (ix2 a (kept j)) := by
  unfold hostOps1
  repeat after_reads_at
  exact congrArg (fun k => w6 W (ix2 a k)) (Fin.ext (by simp only [kept]; omega))

end

/-! ### The precondition -/

theorem real_angle (p : BitVec 32) (l : Fin 32) : IsReal (angle p l) := by
  have h1 : IsReal (Ideal.ofBits .f32 0x461C4000#32) := ⟨10000, by simp [Ideal.ofBits, Ideal.ieee, -EReal.coe_mul]; norm_num⟩
  have h2 : IsReal (Ideal.ofBits .f32 0x40000000#32) := ⟨2, by simp [Ideal.ofBits, Ideal.ieee, -EReal.coe_mul]; norm_num⟩
  have h3 : Ideal.ofBits .f32 0x42800000#32 = ((64 : ℝ) : EReal) := by simp [Ideal.ofBits, Ideal.ieee, -EReal.coe_mul]; norm_num
  unfold angle
  refine IsReal.mul ⟨_, rfl⟩ ?_
  obtain ⟨b, hb⟩ := h1
  obtain ⟨e, he⟩ := (IsReal.neg ⟨_, rfl⟩ : IsReal (-(((BitVec.ofNat 32 l.val).toInt : ℝ) : EReal))).mul h2
  rw [hb, he, h3, Ideal.div_coe (by norm_num)]
  exact ⟨_, rfl⟩

section
variable [Cert.Pre_mla_finite.Facts] {m : (ℓ : Loc nD τ sig) → Buf (Elt Ideal) ℓ}

theorem finite_row (h : Cert.Pre_MlaFrontBwdIdeal_mla_finite m) (c : Dev nD) : Finite m c := fun i => {
  qw := fun a => ⟨_, Cert.FlashBwdIdeal.FlashAlg.finite_real _ (congrFun (h c).1 (ix1 a))⟩
  U := fun a j => ⟨_, Cert.FlashBwdIdeal.FlashAlg.finite_real _ (congrFun (h c).2.1 (ix2 a j))⟩
  C := fun l => by
    obtain ⟨r, hr⟩ := real_angle (a3 m c (ix1 i)) l
    exact ⟨_, (congrArg Ideal.cos hr)⟩
  S := fun l => by
    obtain ⟨r, hr⟩ := real_angle (a3 m c (ix1 i)) l
    exact ⟨_, (congrArg Ideal.sin hr)⟩
  gq := fun k l => ⟨_, Cert.FlashBwdIdeal.FlashAlg.finite_real _ (congrFun (h c).2.2 (ix3 i k l))⟩ }

/-! ### The kernel's run -/

variable (m) in
/-- What the launch and the lines before it leave, as the lines after it find it. -/
abbrev left (c : Dev nD) : Valuation τ sig (Elt Ideal) := Pipeline.withArrays spec0 c (V0 m c) fun w => (dats m 0 c).arrAt w cfg0.N

theorem left_14 (c : Dev nD) (i : Fin 8192) (l : Fin 128) : w2 (left m c) (ix2 i l) = halves (krow m c i) l := by
  have h : w2 (left m c) = (fun j => halves (krow m c (j 0)) (j 1) : Vec Ideal S8192x128 .f32) :=
    (Pipeline.withArrays_arr spec0 launch0.win.arr_inj c (V0 m c) _ 14).trans (final14 m c)
  rw [h]
  rfl

theorem left_16 (c : Dev nD) (a : Fin 384) (e : Fin 1024) :
    w4 (left m c) (ix2 a e) = (∑ i, nrm n384 (krow m c i).q a * (krow m c i).qw a * (krow m c i).Df e : EReal) := by
  have h : w4 (left m c) =
      (fun j => ∑ i, nrm n384 (krow m c i).q (j 0) * (krow m c i).qw (j 0) * (krow m c i).Df (j 1) : Vec Ideal S384x1024 .f32) :=
    (Pipeline.withArrays_arr spec0 launch0.win.arr_inj c (V0 m c) _ 16).trans (final16 m c)
  rw [h]
  rfl

theorem left_18 (c : Dev nD) : w6 (left m c) = (fun j => ∑ i, (krow m c i).dW (j 0) (place (j 1)) : Vec Ideal S256x1024 .f32) :=
  (Pipeline.withArrays_arr spec0 launch0.win.arr_inj c (V0 m c) _ 18).trans (final18 m c)

theorem end_v81 (c : Dev nD) : StableHlo.after hostOps1 (left m c) (Proc.devRef .tc main_v81) =
    (fun j => (krow m c (j 0)).dpe (j 1) : Vec Ideal S8192x64 .f32) := by
  funext j; idx_vars j
  refine (tail_v81 _ j0 j1).trans ?_
  rw [left_14, left_14]
  refine Eq.trans ?_ (Row.turn_eq _ _ _).symm
  refine congrArg₂ (· + ·) ?_ ?_
  · exact dif_pos j1.isLt
  · refine (dif_neg (show ¬ 64 + (other j1).val < 64 by omega)).trans ?_
    have e : 64 + (other j1).val - 64 = (other j1).val := Nat.add_sub_cancel_left _ _
    simp only [e]

theorem end_v75 (c : Dev nD) : StableHlo.after hostOps1 (left m c) (Proc.devRef .tc main_v75) =
    (fun j => ∑ i, (krow m c i).dW (j 0) (j 1) : Vec Ideal S256x1024 .f32) := by
  funext j; idx_vars j
  refine (tail_v75 _ j0 j1).trans ?_
  rw [left_18]
  show ∑ i, (krow m c i).dW j0 (place (kept j1)) = _
  rw [place_kept]

theorem end_v72 (c : Dev nD) (hX : Finite m c) : StableHlo.after hostOps1 (left m c) (Proc.devRef .tc main_v72) =
    (fun j => ∑ i, (krow m c i).dU (j 0) (j 1) : Vec Ideal S384x768 .f32) := by
  funext j; idx_vars j
  show _ = ∑ i, (krow m c i).dU j0 j1
  by_cases k : j1.val % 192 < 128
  · obtain ⟨h, l, p, rfl⟩ : ∃ (h : Fin 4) (l : Fin 128) (p : _), j1 = ⟨h.val * 192 + l.val, p⟩ :=
      ⟨⟨j1.val / 192, by omega⟩, ⟨j1.val % 192, k⟩, by show j1.val / 192 * 192 + j1.val % 192 < 768; omega,
        Fin.ext (by show j1.val = j1.val / 192 * 192 + j1.val % 192; omega)⟩
    refine (tail_v72_plain _ j0 h l _).trans ((left_16 c j0 _).trans (Finset.sum_congr rfl fun i _ => ?_))
    rw [Row.dU_plain]
    exact congrArg _ (((krow m c i).Df_at h ⟨l.val, by omega⟩ _).trans (Row.D_plain _ _ l _))
  · obtain ⟨h, l, p, rfl⟩ : ∃ (h : Fin 4) (l : Fin 64) (p : _), j1 = ⟨h.val * 192 + (128 + l.val), p⟩ :=
      ⟨⟨j1.val / 192, by omega⟩, ⟨j1.val % 192 - 128, by omega⟩, by show j1.val / 192 * 192 + (128 + (j1.val % 192 - 128)) < 768; omega,
        Fin.ext (by show j1.val = j1.val / 192 * 192 + (128 + (j1.val % 192 - 128)); omega)⟩
    have hl := (other l).isLt
    refine (tail_v72_turn _ j0 h l _).trans ?_
    rw [left_16, left_16]
    refine (Eq.symm (α := EReal) ?_)
    refine Eq.trans ?_ (Finset.sum_add_distrib (M := EReal))
    refine Finset.sum_congr rfl fun i _ => ?_
    rw [(hX i).dU_turn]
    refine Eq.symm ?_
    refine congrArg₂ (· + ·) (congrArg _ ?_) (congrArg _ ?_)
    · exact ((krow m c i).Df_at h ⟨128 + l.val, by omega⟩ _).trans (Row.D_cos _ _ l _)
    · exact ((krow m c i).Df_at h ⟨192 + (other l).val, by omega⟩ _).trans (Row.D_sin _ _ (other l) _)

/-- The kernel's run: its seven results. -/
theorem run_kernel (ρ : Dev nD → PrngReg) (h : Cert.Pre_MlaFrontBwdIdeal_mla_finite m) :
    θ_run (defs (F := Ideal)) (onTc (τ := τ) (main (F := Ideal))) ⟨m, fun _ => 0, ρ⟩ fun r => ∀ c : Dev nD,
      r.2.mem ((c : Thread nD τ).loc main_v62_0) = (fun j => (krow m c (j 0)).dq (j 1) : Vec Ideal S8192x384 .f32)
      ∧ r.2.mem ((c : Thread nD τ).loc main_v62_1) = (fun j => (krow m c (j 0)).dkv (j 1) : Vec Ideal S8192x256 .f32)
      ∧ r.2.mem ((c : Thread nD τ).loc main_v81) = (fun j => (krow m c (j 0)).dpe (j 1) : Vec Ideal S8192x64 .f32)
      ∧ r.2.mem ((c : Thread nD τ).loc main_v62_3) = (fun j => ∑ i, (krow m c i).dqw (j 1) : Vec Ideal S1x384 .f32)
      ∧ r.2.mem ((c : Thread nD τ).loc main_v72) = (fun j => ∑ i, (krow m c i).dU (j 0) (j 1) : Vec Ideal S384x768 .f32)
      ∧ r.2.mem ((c : Thread nD τ).loc main_v62_5) = (fun j => ∑ i, (krow m c i).dkw (j 1) : Vec Ideal S1x256 .f32)
      ∧ r.2.mem ((c : Thread nD τ).loc main_v75) = (fun j => ∑ i, (krow m c i).dW (j 0) (j 1) : Vec Ideal S256x1024 .f32) :=
  (θ_run _ _ _).mono (fun _ hr c => ⟨((hr c).1 12).trans (final12 m c (finite_row h c)), ((hr c).1 13).trans (final13 m c),
    ((hr c).2 main_v81 (Pipeline.mem_restRefs_of main_v81 (by decide) (by decide))).trans (end_v81 c), ((hr c).1 15).trans (final15 m c (finite_row h c)),
    ((hr c).2 main_v72 (Pipeline.mem_restRefs_of main_v72 (by decide) (by decide))).trans (end_v72 c (finite_row h c)), ((hr c).1 17).trans (final17 m c),
    ((hr c).2 main_v75 (Pipeline.mem_restRefs_of main_v75 (by decide) (by decide))).trans (end_v75 c)⟩) (run_main m ρ)

end

/-- The reference's arguments. -/
def args (m' : (ℓ : Loc Cert.MlaFrontBwdRefIdeal.nD Cert.MlaFrontBwdRefIdeal.τ Cert.MlaFrontBwdRefIdeal.sig) → Buf (Elt Ideal) ℓ)
    (c : Dev Cert.MlaFrontBwdRefIdeal.nD) : Cert.MlaFrontBwdRefIdeal.MlaRef.Args where
  x0 := m' ((c.tc : Thread _ _).loc Cert.MlaFrontBwdRefIdeal.main_arg0)
  x1 := m' ((c.tc : Thread _ _).loc Cert.MlaFrontBwdRefIdeal.main_arg1)
  x3 := m' ((c.tc : Thread _ _).loc Cert.MlaFrontBwdRefIdeal.main_arg3)
  x4 := m' ((c.tc : Thread _ _).loc Cert.MlaFrontBwdRefIdeal.main_arg4)
  x5 := m' ((c.tc : Thread _ _).loc Cert.MlaFrontBwdRefIdeal.main_arg5)
  x6 := m' ((c.tc : Thread _ _).loc Cert.MlaFrontBwdRefIdeal.main_arg6)
  x7 := m' ((c.tc : Thread _ _).loc Cert.MlaFrontBwdRefIdeal.main_arg7)
  x8 := m' ((c.tc : Thread _ _).loc Cert.MlaFrontBwdRefIdeal.main_arg8)
  x9 := m' ((c.tc : Thread _ _).loc Cert.MlaFrontBwdRefIdeal.main_arg9)
  x10 := m' ((c.tc : Thread _ _).loc Cert.MlaFrontBwdRefIdeal.main_arg10)

/-- The claim: on such arguments the kernel's results are the derivative of the latent attention's front. -/
theorem algebraic [Cert.Pre_mla_finite.Facts] : Cert.algebraic_MlaFrontBwdIdeal_MlaFrontBwdRefIdeal_pre_mla_finite := by
  intro m ρ m' ρ' hpre hag
  have hr (c : Dev nD) (i : Fin 8192) : (args m' c).row i = krow m c i := by
    obtain ⟨e0, e1, -, e3, e4, e5, e6, e7, e8, e9, e10⟩ := hag c
    unfold Cert.MlaFrontBwdRefIdeal.MlaRef.Args.row krow args
    rw [e0, e1, e3, e4, e5, e6, e7, e8, e9, e10]
  refine ⟨_, _, _, _, _, _, _,
    (θ_run _ _ _).mono (fun r h c => ⟨(h.1 c).1, (h.1 c).2.1, (h.1 c).2.2.1, (h.1 c).2.2.2.1, (h.1 c).2.2.2.2.1, (h.1 c).2.2.2.2.2.1, (h.1 c).2.2.2.2.2.2, h.2.1 c⟩)
      (θ_run_and (run_kernel ρ hpre) (frame m ρ)),
    (θ_run _ _ _).mono (fun r h c => ?_) (Cert.MlaFrontBwdRefIdeal.Value.run (F := Ideal) m' ρ')⟩
  obtain ⟨h0, h1, h2, h3, h4, h5, h6, hk⟩ := h c
  refine ⟨h0.trans ((Cert.MlaFrontBwdRefIdeal.Read.val_main_v184_eq _).trans ?_), h1.trans ((Cert.MlaFrontBwdRefIdeal.Read.val_main_v140_eq _).trans ?_),
    h2.trans ((Cert.MlaFrontBwdRefIdeal.Read.val_main_v114_eq _).trans ?_), h3.trans ((Cert.MlaFrontBwdRefIdeal.Read.val_main_v168_eq _).trans ?_),
    h4.trans ((Cert.MlaFrontBwdRefIdeal.Read.val_main_v164_eq _).trans ?_), h5.trans ((Cert.MlaFrontBwdRefIdeal.Read.val_main_v124_eq _).trans ?_),
    h6.trans ((Cert.MlaFrontBwdRefIdeal.Read.val_main_v120_eq _).trans ?_), hk⟩
  · funext j; idx_vars j; exact ((args m' c).v184_at j0 j1).trans (by rw [hr])
  · funext j; idx_vars j; exact ((args m' c).v140_at j0 j1).trans (by rw [hr])
  · funext j; idx_vars j; exact ((args m' c).v114_at j0 j1).trans (by rw [hr])
  · funext j; idx_vars j; obtain rfl : j0 = 0 := Subsingleton.elim _ _
    exact ((args m' c).v168_at j1).trans (by simp only [hr])
  · funext j; idx_vars j; exact ((args m' c).v164_at j0 j1).trans (by simp only [hr])
  · funext j; idx_vars j; obtain rfl : j0 = 0 := Subsingleton.elim _ _
    exact ((args m' c).v124_at j1).trans (by simp only [hr])
  · funext j; idx_vars j; exact ((args m' c).v120_at j0 j1).trans (by simp only [hr])

end Cert.MlaFrontBwdIdeal.Mla
-- ==== Proof.FrontRun.lean ====
/- One point of the grid of the front backward: the body run on whole buffers, and what it leaves in each. -/
module

public import proofs.«01_k».proof.Proof.Gen.FrontBwdIdeal.Frame.Runs
public import Idealize.ShloMosaic.Lib.WritesUnit
public import Idealize.ShloMosaic.Lib.Pipeline.ValueKit.Acc

@[expose] public section

set_option maxRecDepth 16384

noncomputable section

namespace Cert.FrontBwdIdeal.Front

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Gen

variable {F : FTy → Type} [FloatOps F]

local notation "𝕄" => MT nD τ sig Unit (Elt F) ℕ (UR sig nD τ) ℕ

/-- The blocks a point reads: rows of the input, the norm's five parameters, the seven groups of the projection, the
    seven cotangents' rows, and the rows added at the end. -/
structure Ins (F : FTy → Type) where
  x0 : Vec F S512x1024 .f32
  x1 : Vec F S1x1024 .f32
  x2 : Vec F S1x1024 .f32
  x3 : Vec F S1x1024 .f32
  x4 : Vec F S1x1024 .f32
  x5 : Vec F S1x1024 .f32
  x6 : Vec F S1024x384 .bf16
  x7 : Vec F S1024x256 .bf16
  x8 : Vec F S1024x128 .bf16
  x9 : Vec F S1024x512 .bf16
  x10 : Vec F S1024x1536 .bf16
  x11 : Vec F S1024x128 .bf16
  x12 : Vec F S1024x512 .bf16
  x13 : Vec F S512x384 .f32
  x14 : Vec F S512x256 .f32
  x15 : Vec F S512x128 .f32
  x16 : Vec F S512x512 .f32
  x17 : Vec F S512x1536 .f32
  x18 : Vec F S512x128 .f32
  x19 : Vec F S512x512 .f32
  x20 : Vec F S512x1024 .f32

/-- The blocks a point leaves: its rows, and the twelve sums it adds to. -/
structure Outs (F : FTy → Type) where
  y0 : Vec F S512x1024 .f32
  y1 : Vec F S1x1024 .f32
  y2 : Vec F S1x1024 .f32
  y3 : Vec F S1x1024 .f32
  y4 : Vec F S1x1024 .f32
  y5 : Vec F S1x1024 .f32
  y6 : Vec F S1024x384 .f32
  y7 : Vec F S1024x256 .f32
  y8 : Vec F S1024x128 .f32
  y9 : Vec F S1024x512 .f32
  y10 : Vec F S1024x1536 .f32
  y11 : Vec F S1024x128 .f32
  y12 : Vec F S1024x512 .f32

namespace Ins

variable (X : Ins F)

/-- One and the scales. -/
def v29 := k0_pay19 X.x2 X.x3
/-- The normed, scaled and shifted rows. -/
def v36 := k0_pay20 X.x0 X.x1 X.x2 X.x3 X.x4 X.x5
/-- The cotangent of those rows: the sum of the seven products. -/
def v79 := k0_pay33 (k0_pay26 X.x18) (k0_pay27 X.x19) (k0_pay28 X.x13 X.x6) (k0_pay29 X.x14 X.x7) (k0_pay30 X.x15 X.x8)
  (k0_pay31 X.x16 X.x9) (k0_pay32 X.x17 X.x10) X.x11 X.x12

/-- What the point leaves, over what its sums held. -/
def step (A : Outs F) : Outs F where
  y0 := k0_pay50 X.x0 (k0_pay47 (k0_pay13 X.x1) (k0_pay15 X.x0) X.v29 X.v79)
    (k0_pay48 X.x0 (k0_pay13 X.x1) (k0_pay16 X.x0) X.v29 X.v79) k0_pay49 X.x20
  y1 := k0_pay51 (k0_pay45 (k0_pay17 X.x0) X.v29 X.v79) A.y1
  y2 := k0_pay52 (k0_pay43 (k0_pay18 X.x0 X.x1) X.v79) A.y2
  y3 := k0_pay53 (k0_pay43 (k0_pay18 X.x0 X.x1) X.v79) A.y3
  y4 := k0_pay54 (k0_pay42 X.v79) A.y4
  y5 := k0_pay55 (k0_pay41 X.v79) A.y5
  y6 := k0_pay34 X.v36 (k0_pay21 X.x13) A.y6
  y7 := k0_pay35 X.v36 (k0_pay22 X.x14) A.y7
  y8 := k0_pay36 X.v36 (k0_pay23 X.x15) A.y8
  y9 := k0_pay37 X.v36 (k0_pay24 X.x16) A.y9
  y10 := k0_pay38 X.v36 (k0_pay25 X.x17) A.y10
  y11 := k0_pay39 X.v36 (k0_pay26 X.x18) A.y11
  y12 := k0_pay40 X.v36 (k0_pay27 X.x19) A.y12

/-- The sums cleared; the rows' buffer is written before it is read, and is left at the input. -/
def cleared : Outs F :=
  ⟨X.x0, k0_pay1, k0_pay2, k0_pay3, k0_pay4, k0_pay5, k0_pay6, k0_pay7, k0_pay8, k0_pay9, k0_pay10, k0_pay11, k0_pay12⟩

end Ins

/-- A buffer written whole holds what was written. -/
theorem read_whole {Val : EltTy → Type} {S : Shape} {e : EltTy} {κ : Kind} {sp : Space} (v : View sig κ sp S e) (f)
    {off : Fin S.rank → ℕ} (inb : ∀ a, off a + S.size a ≤ S.size a) (w : S.Idx → Val e) (L : List (View.Piece Val S e))
    (h : ∀ a, off a = 0) : v.read Val (v.writes Val f ((⟨Rect.unit off S.size inb, w⟩ : View.Piece Val S e) :: L)) = w :=
  funext fun y => View.read_writes_cons_unit_of_mem v f inb w L y y rfl fun a => by rw [h a, Nat.zero_add]

section
variable
  (arg1 : Memref sig .tc .vmem S512x1024 .f32) (harg1 : arg1.IsWhole)
  (arg2 : Memref sig .tc .vmem S1x1024 .f32) (harg2 : arg2.IsWhole)
  (arg3 : Memref sig .tc .vmem S1x1024 .f32) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S1x1024 .f32) (harg6 : arg6.IsWhole)
  (arg7 : Memref sig .tc .vmem S1024x384 .bf16) (harg7 : arg7.IsWhole)
  (arg8 : Memref sig .tc .vmem S1024x256 .bf16) (harg8 : arg8.IsWhole)
  (arg9 : Memref sig .tc .vmem S1024x128 .bf16) (harg9 : arg9.IsWhole)
  (arg10 : Memref sig .tc .vmem S1024x512 .bf16) (harg10 : arg10.IsWhole)
  (arg11 : Memref sig .tc .vmem S1024x1536 .bf16) (harg11 : arg11.IsWhole)
  (arg12 : Memref sig .tc .vmem S1024x128 .bf16) (harg12 : arg12.IsWhole)
  (arg13 : Memref sig .tc .vmem S1024x512 .bf16) (harg13 : arg13.IsWhole)
  (arg14 : Memref sig .tc .vmem S512x384 .f32) (harg14 : arg14.IsWhole)
  (arg15 : Memref sig .tc .vmem S512x256 .f32) (harg15 : arg15.IsWhole)
  (arg16 : Memref sig .tc .vmem S512x128 .f32) (harg16 : arg16.IsWhole)
  (arg17 : Memref sig .tc .vmem S512x512 .f32) (harg17 : arg17.IsWhole)
  (arg18 : Memref sig .tc .vmem S512x1536 .f32) (harg18 : arg18.IsWhole)
  (arg19 : Memref sig .tc .vmem S512x128 .f32) (harg19 : arg19.IsWhole)
  (arg20 : Memref sig .tc .vmem S512x512 .f32) (harg20 : arg20.IsWhole)
  (arg21 : Memref sig .tc .vmem S512x1024 .f32) (harg21 : arg21.IsWhole)
  (arg22 : Memref sig .tc .vmem S512x1024 .f32) (harg22 : arg22.IsWhole)
  (arg23 : Memref sig .tc .vmem S1x1024 .f32) (harg23 : arg23.IsWhole)
  (arg24 : Memref sig .tc .vmem S1x1024 .f32) (harg24 : arg24.IsWhole)
  (arg25 : Memref sig .tc .vmem S1x1024 .f32) (harg25 : arg25.IsWhole)
  (arg26 : Memref sig .tc .vmem S1x1024 .f32) (harg26 : arg26.IsWhole)
  (arg27 : Memref sig .tc .vmem S1x1024 .f32) (harg27 : arg27.IsWhole)
  (arg28 : Memref sig .tc .vmem S1024x384 .f32) (harg28 : arg28.IsWhole)
  (arg29 : Memref sig .tc .vmem S1024x256 .f32) (harg29 : arg29.IsWhole)
  (arg30 : Memref sig .tc .vmem S1024x128 .f32) (harg30 : arg30.IsWhole)
  (arg31 : Memref sig .tc .vmem S1024x512 .f32) (harg31 : arg31.IsWhole)
  (arg32 : Memref sig .tc .vmem S1024x1536 .f32) (harg32 : arg32.IsWhole)
  (arg33 : Memref sig .tc .vmem S1024x128 .f32) (harg33 : arg33.IsWhole)
  (arg34 : Memref sig .tc .vmem S1024x512 .f32) (harg34 : arg34.IsWhole)

/-- The inputs' buffers, at a point's blocks. -/
def given (c : Dev nD) (X : Ins F) : sProp 𝕄 :=
  iprop(owns (c : Thread nD τ) arg1 fullShare X.x0
    ∗ owns (c : Thread nD τ) arg2 fullShare X.x1
    ∗ owns (c : Thread nD τ) arg3 fullShare X.x2
    ∗ owns (c : Thread nD τ) arg4 fullShare X.x3
    ∗ owns (c : Thread nD τ) arg5 fullShare X.x4
    ∗ owns (c : Thread nD τ) arg6 fullShare X.x5
    ∗ owns (c : Thread nD τ) arg7 fullShare X.x6
    ∗ owns (c : Thread nD τ) arg8 fullShare X.x7
    ∗ owns (c : Thread nD τ) arg9 fullShare X.x8
    ∗ owns (c : Thread nD τ) arg10 fullShare X.x9
    ∗ owns (c : Thread nD τ) arg11 fullShare X.x10
    ∗ owns (c : Thread nD τ) arg12 fullShare X.x11
    ∗ owns (c : Thread nD τ) arg13 fullShare X.x12
    ∗ owns (c : Thread nD τ) arg14 fullShare X.x13
    ∗ owns (c : Thread nD τ) arg15 fullShare X.x14
    ∗ owns (c : Thread nD τ) arg16 fullShare X.x15
    ∗ owns (c : Thread nD τ) arg17 fullShare X.x16
    ∗ owns (c : Thread nD τ) arg18 fullShare X.x17
    ∗ owns (c : Thread nD τ) arg19 fullShare X.x18
    ∗ owns (c : Thread nD τ) arg20 fullShare X.x19
    ∗ owns (c : Thread nD τ) arg21 fullShare X.x20)

/-- The outputs' buffers, at given contents. -/
def held (c : Dev nD) (Y : Outs F) : sProp 𝕄 :=
  iprop(owns (c : Thread nD τ) arg22 fullShare Y.y0
    ∗ owns (c : Thread nD τ) arg23 fullShare Y.y1
    ∗ owns (c : Thread nD τ) arg24 fullShare Y.y2
    ∗ owns (c : Thread nD τ) arg25 fullShare Y.y3
    ∗ owns (c : Thread nD τ) arg26 fullShare Y.y4
    ∗ owns (c : Thread nD τ) arg27 fullShare Y.y5
    ∗ owns (c : Thread nD τ) arg28 fullShare Y.y6
    ∗ owns (c : Thread nD τ) arg29 fullShare Y.y7
    ∗ owns (c : Thread nD τ) arg30 fullShare Y.y8
    ∗ owns (c : Thread nD τ) arg31 fullShare Y.y9
    ∗ owns (c : Thread nD τ) arg32 fullShare Y.y10
    ∗ owns (c : Thread nD τ) arg33 fullShare Y.y11
    ∗ owns (c : Thread nD τ) arg34 fullShare Y.y12)

set_option maxHeartbeats 16000000 in
/-- The first point clears the sums and adds to them. -/
theorem run_first (c : Dev nD) (i : grid0.Coords) (hc0 : cond0_0 i) (X : Ins F) (Y : Outs F) (E : Set ℕ) (K : PUnit → sProp 𝕄) :
    iprop(given arg1 arg2 arg3 arg4 arg5 arg6 arg7 arg8 arg9 arg10 arg11 arg12 arg13 arg14 arg15 arg16 arg17 arg18 arg19 arg20 arg21 c X ∗ held arg22 arg23 arg24 arg25 arg26 arg27 arg28 arg29 arg30 arg31 arg32 arg33 arg34 c Y
      ∗ (iprop(given arg1 arg2 arg3 arg4 arg5 arg6 arg7 arg8 arg9 arg10 arg11 arg12 arg13 arg14 arg15 arg16 arg17 arg18 arg19 arg20 arg21 c X ∗ held arg22 arg23 arg24 arg25 arg26 arg27 arg28 arg29 arg30 arg31 arg32 arg33 arg34 c (X.step X.cleared)) -∗ K ⟨⟩))
    ⊢ wp frame (wpE (defs₀ (F := F)) Variants.none c none) E (cc0_front_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K := by
  simp only [cc0_front_bwd_eq_skeleton]; unfold cc0_front_bwd_skel
  simp only [k0_part1_eq_skeleton, k0_part2_eq_skeleton, k0_part3_eq_skeleton, k0_part4_eq_skeleton, k0_part5_eq_skeleton, k0_part6_eq_skeleton]
  unfold given held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩⟩, ⟨⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg9.eq_unread hf8
  obtain rfl := harg10.eq_unread hf9
  obtain rfl := harg11.eq_unread hf10
  obtain rfl := harg12.eq_unread hf11
  obtain rfl := harg13.eq_unread hf12
  obtain rfl := harg14.eq_unread hf13
  obtain rfl := harg15.eq_unread hf14
  obtain rfl := harg16.eq_unread hf15
  obtain rfl := harg17.eq_unread hf16
  obtain rfl := harg18.eq_unread hf17
  obtain rfl := harg19.eq_unread hf18
  obtain rfl := harg20.eq_unread hf19
  obtain rfl := harg21.eq_unread hf20
  obtain rfl := harg22.eq_unread hf21
  obtain rfl := harg23.eq_unread hf22
  obtain rfl := harg24.eq_unread hf23
  obtain rfl := harg25.eq_unread hf24
  obtain rfl := harg26.eq_unread hf25
  obtain rfl := harg27.eq_unread hf26
  obtain rfl := harg28.eq_unread hf27
  obtain rfl := harg29.eq_unread hf28
  obtain rfl := harg30.eq_unread hf29
  obtain rfl := harg31.eq_unread hf30
  obtain rfl := harg32.eq_unread hf31
  obtain rfl := harg33.eq_unread hf32
  obtain rfl := harg34.eq_unread hf33
  sl_exec (disch := first | sl_exact hc0)
  sl_step
  iapply Hk
  isplitl [H0 H1 H2 H3 H4 H5 H6 H7 H8 H9 H10 H11 H12 H13 H14 H15 H16 H17 H18 H19 H20]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    iexists _; isplitr; · ipureintro; exact harg21.read_unread _
    iexact H20
  isplitl [H21]
  · iexists _; isplitr; swap; · iexact H21
    ipureintro; exact (read_whole _ _ _ _ _ (by decide)).trans (by frame_out; rfl)
  isplitl [H22]
  · iexists _; isplitr; swap; · iexact H22
    ipureintro; exact (read_whole _ _ _ _ _ (by decide)).trans (by frame_out; rfl)
  isplitl [H23]
  · iexists _; isplitr; swap; · iexact H23
    ipureintro; exact (read_whole _ _ _ _ _ (by decide)).trans (by frame_out; rfl)
  isplitl [H24]
  · iexists _; isplitr; swap; · iexact H24
    ipureintro; exact (read_whole _ _ _ _ _ (by decide)).trans (by frame_out; rfl)
  isplitl [H25]
  · iexists _; isplitr; swap; · iexact H25
    ipureintro; exact (read_whole _ _ _ _ _ (by decide)).trans (by frame_out; rfl)
  isplitl [H26]
  · iexists _; isplitr; swap; · iexact H26
    ipureintro; exact (read_whole _ _ _ _ _ (by decide)).trans (by frame_out; rfl)
  isplitl [H27]
  · iexists _; isplitr; swap; · iexact H27
    ipureintro; exact (read_whole _ _ _ _ _ (by decide)).trans (by frame_out; rfl)
  isplitl [H28]
  · iexists _; isplitr; swap; · iexact H28
    ipureintro; exact (read_whole _ _ _ _ _ (by decide)).trans (by frame_out; rfl)
  isplitl [H29]
  · iexists _; isplitr; swap; · iexact H29
    ipureintro; exact (read_whole _ _ _ _ _ (by decide)).trans (by frame_out; rfl)
  isplitl [H30]
  · iexists _; isplitr; swap; · iexact H30
    ipureintro; exact (read_whole _ _ _ _ _ (by decide)).trans (by frame_out; rfl)
  isplitl [H31]
  · iexists _; isplitr; swap; · iexact H31
    ipureintro; exact (read_whole _ _ _ _ _ (by decide)).trans (by frame_out; rfl)
  isplitl [H32]
  · iexists _; isplitr; swap; · iexact H32
    ipureintro; exact (read_whole _ _ _ _ _ (by decide)).trans (by frame_out; rfl)
  iexists _; isplitr; swap; · iexact H33
  ipureintro; exact (read_whole _ _ _ _ _ (by decide)).trans (by frame_out; rfl)

set_option maxHeartbeats 16000000 in
/-- A later point adds to what the sums hold. -/
theorem run_next (c : Dev nD) (i : grid0.Coords) (hc0 : ¬cond0_0 i) (X : Ins F) (Y : Outs F) (E : Set ℕ) (K : PUnit → sProp 𝕄) :
    iprop(given arg1 arg2 arg3 arg4 arg5 arg6 arg7 arg8 arg9 arg10 arg11 arg12 arg13 arg14 arg15 arg16 arg17 arg18 arg19 arg20 arg21 c X ∗ held arg22 arg23 arg24 arg25 arg26 arg27 arg28 arg29 arg30 arg31 arg32 arg33 arg34 c Y
      ∗ (iprop(given arg1 arg2 arg3 arg4 arg5 arg6 arg7 arg8 arg9 arg10 arg11 arg12 arg13 arg14 arg15 arg16 arg17 arg18 arg19 arg20 arg21 c X ∗ held arg22 arg23 arg24 arg25 arg26 arg27 arg28 arg29 arg30 arg31 arg32 arg33 arg34 c (X.step Y)) -∗ K ⟨⟩))
    ⊢ wp frame (wpE (defs₀ (F := F)) Variants.none c none) E (cc0_front_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K := by
  simp only [cc0_front_bwd_eq_skeleton]; unfold cc0_front_bwd_skel
  simp only [k0_part1_eq_skeleton, k0_part2_eq_skeleton, k0_part3_eq_skeleton, k0_part4_eq_skeleton, k0_part5_eq_skeleton, k0_part6_eq_skeleton]
  unfold given held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩⟩, ⟨⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg9.eq_unread hf8
  obtain rfl := harg10.eq_unread hf9
  obtain rfl := harg11.eq_unread hf10
  obtain rfl := harg12.eq_unread hf11
  obtain rfl := harg13.eq_unread hf12
  obtain rfl := harg14.eq_unread hf13
  obtain rfl := harg15.eq_unread hf14
  obtain rfl := harg16.eq_unread hf15
  obtain rfl := harg17.eq_unread hf16
  obtain rfl := harg18.eq_unread hf17
  obtain rfl := harg19.eq_unread hf18
  obtain rfl := harg20.eq_unread hf19
  obtain rfl := harg21.eq_unread hf20
  obtain rfl := harg22.eq_unread hf21
  obtain rfl := harg23.eq_unread hf22
  obtain rfl := harg24.eq_unread hf23
  obtain rfl := harg25.eq_unread hf24
  obtain rfl := harg26.eq_unread hf25
  obtain rfl := harg27.eq_unread hf26
  obtain rfl := harg28.eq_unread hf27
  obtain rfl := harg29.eq_unread hf28
  obtain rfl := harg30.eq_unread hf29
  obtain rfl := harg31.eq_unread hf30
  obtain rfl := harg32.eq_unread hf31
  obtain rfl := harg33.eq_unread hf32
  obtain rfl := harg34.eq_unread hf33
  sl_exec (disch := first | sl_exact hc0)
  sl_step
  iapply Hk
  isplitl [H0 H1 H2 H3 H4 H5 H6 H7 H8 H9 H10 H11 H12 H13 H14 H15 H16 H17 H18 H19 H20]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    iexists _; isplitr; · ipureintro; exact harg21.read_unread _
    iexact H20
  isplitl [H21]
  · iexists _; isplitr; swap; · iexact H21
    ipureintro; exact (read_whole _ _ _ _ _ (by decide)).trans (by frame_out; rfl)
  isplitl [H22]
  · iexists _; isplitr; swap; · iexact H22
    ipureintro; exact (read_whole _ _ _ _ _ (by decide)).trans (by frame_out; rfl)
  isplitl [H23]
  · iexists _; isplitr; swap; · iexact H23
    ipureintro; exact (read_whole _ _ _ _ _ (by decide)).trans (by frame_out; rfl)
  isplitl [H24]
  · iexists _; isplitr; swap; · iexact H24
    ipureintro; exact (read_whole _ _ _ _ _ (by decide)).trans (by frame_out; rfl)
  isplitl [H25]
  · iexists _; isplitr; swap; · iexact H25
    ipureintro; exact (read_whole _ _ _ _ _ (by decide)).trans (by frame_out; rfl)
  isplitl [H26]
  · iexists _; isplitr; swap; · iexact H26
    ipureintro; exact (read_whole _ _ _ _ _ (by decide)).trans (by frame_out; rfl)
  isplitl [H27]
  · iexists _; isplitr; swap; · iexact H27
    ipureintro; exact (read_whole _ _ _ _ _ (by decide)).trans (by frame_out; rfl)
  isplitl [H28]
  · iexists _; isplitr; swap; · iexact H28
    ipureintro; exact (read_whole _ _ _ _ _ (by decide)).trans (by frame_out; rfl)
  isplitl [H29]
  · iexists _; isplitr; swap; · iexact H29
    ipureintro; exact (read_whole _ _ _ _ _ (by decide)).trans (by frame_out; rfl)
  isplitl [H30]
  · iexists _; isplitr; swap; · iexact H30
    ipureintro; exact (read_whole _ _ _ _ _ (by decide)).trans (by frame_out; rfl)
  isplitl [H31]
  · iexists _; isplitr; swap; · iexact H31
    ipureintro; exact (read_whole _ _ _ _ _ (by decide)).trans (by frame_out; rfl)
  isplitl [H32]
  · iexists _; isplitr; swap; · iexact H32
    ipureintro; exact (read_whole _ _ _ _ _ (by decide)).trans (by frame_out; rfl)
  iexists _; isplitr; swap; · iexact H33
  ipureintro; exact (read_whole _ _ _ _ _ (by decide)).trans (by frame_out; rfl)

end

end Cert.FrontBwdIdeal.Front

end
-- ==== Proof.FrontFrame.lean ====
/- The front backward run over its grid: the launch's proof data and its frame. -/
module

public import proofs.«01_k».proof.Proof.FrontRun
public import Idealize.ShloMosaic.Lib.Claim

@[expose] public section

set_option maxRecDepth 16384

noncomputable section

namespace Cert.FrontBwdIdeal.Front

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks point `t` reads. -/
def blks (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t, iblk m c 20 t⟩

/-- What the outputs' buffers hold after each point. -/
def outs (c : Dev nD) : (n : ℕ) → n < cfg0.N → Outs F
  | 0, h => (blks m c ⟨0, h⟩).step (blks m c ⟨0, h⟩).cleared
  | n + 1, h => (blks m c ⟨n + 1, h⟩).step (outs c n (Nat.lt_of_succ_lt h))

theorem outs_first (c : Dev nD) (t : Fin cfg0.N) (h0 : t.val % 16 = 0) :
    outs m c t.val t.isLt = (blks m c t).step (blks m c t).cleared := by
  have hN : t.val < 16 := lt_of_lt_of_eq t.isLt (show cfg0.N = 16 from N_0)
  obtain ⟨n, hn⟩ := t
  cases n with
  | zero => rfl
  | succ n => exfalso; dsimp only at h0 hN; omega

theorem outs_next (c : Dev nD) (t : Fin cfg0.N) (h0 : ¬t.val % 16 = 0) :
    outs m c t.val t.isLt = (blks m c t).step (outs m c (t.val - 1) (Nat.lt_of_le_of_lt (Nat.sub_le _ _) t.isLt)) := by
  obtain ⟨n, hn⟩ := t
  cases n with
  | zero => exact absurd (Nat.zero_mod _) h0
  | succ n => rfl

/-- The launch's proof data: after a point the inputs' buffers hold their blocks, the outputs' what `outs` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => (outs m c t.val t.isLt).y0
    | ⟨22, _⟩ => (outs m c t.val t.isLt).y1
    | ⟨23, _⟩ => (outs m c t.val t.isLt).y2
    | ⟨24, _⟩ => (outs m c t.val t.isLt).y3
    | ⟨25, _⟩ => (outs m c t.val t.isLt).y4
    | ⟨26, _⟩ => (outs m c t.val t.isLt).y5
    | ⟨27, _⟩ => (outs m c t.val t.isLt).y6
    | ⟨28, _⟩ => (outs m c t.val t.isLt).y7
    | ⟨29, _⟩ => (outs m c t.val t.isLt).y8
    | ⟨30, _⟩ => (outs m c t.val t.isLt).y9
    | ⟨31, _⟩ => (outs m c t.val t.isLt).y10
    | ⟨32, _⟩ => (outs m c t.val t.isLt).y11
    | ⟨33, _⟩ => (outs m c t.val t.isLt).y12
    | ⟨_ + 34, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t :=
  before0_0_of m (dats m 0 c) (A_eq m c 0) (fun _ => by dsimp only [dats]) t d
theorem before_1 (c : Dev nD) (t : Fin cfg0.N) (d) : (dats m 0 c).before 1 t d = iblk m c 1 t :=
  before0_1_of m (dats m 0 c) (A_eq m c 1) (fun _ => by dsimp only [dats]) t d
theorem before_2 (c : Dev nD) (t : Fin cfg0.N) (d) : (dats m 0 c).before 2 t d = iblk m c 2 t :=
  before0_2_of m (dats m 0 c) (A_eq m c 2) (fun _ => by dsimp only [dats]) t d
theorem before_3 (c : Dev nD) (t : Fin cfg0.N) (d) : (dats m 0 c).before 3 t d = iblk m c 3 t :=
  before0_3_of m (dats m 0 c) (A_eq m c 3) (fun _ => by dsimp only [dats]) t d
theorem before_4 (c : Dev nD) (t : Fin cfg0.N) (d) : (dats m 0 c).before 4 t d = iblk m c 4 t :=
  before0_4_of m (dats m 0 c) (A_eq m c 4) (fun _ => by dsimp only [dats]) t d
theorem before_5 (c : Dev nD) (t : Fin cfg0.N) (d) : (dats m 0 c).before 5 t d = iblk m c 5 t :=
  before0_5_of m (dats m 0 c) (A_eq m c 5) (fun _ => by dsimp only [dats]) t d
theorem before_6 (c : Dev nD) (t : Fin cfg0.N) (d) : (dats m 0 c).before 6 t d = iblk m c 6 t :=
  before0_6_of m (dats m 0 c) (A_eq m c 6) (fun _ => by dsimp only [dats]) t d
theorem before_7 (c : Dev nD) (t : Fin cfg0.N) (d) : (dats m 0 c).before 7 t d = iblk m c 7 t :=
  before0_7_of m (dats m 0 c) (A_eq m c 7) (fun _ => by dsimp only [dats]) t d
theorem before_8 (c : Dev nD) (t : Fin cfg0.N) (d) : (dats m 0 c).before 8 t d = iblk m c 8 t :=
  before0_8_of m (dats m 0 c) (A_eq m c 8) (fun _ => by dsimp only [dats]) t d
theorem before_9 (c : Dev nD) (t : Fin cfg0.N) (d) : (dats m 0 c).before 9 t d = iblk m c 9 t :=
  before0_9_of m (dats m 0 c) (A_eq m c 9) (fun _ => by dsimp only [dats]) t d
theorem before_10 (c : Dev nD) (t : Fin cfg0.N) (d) : (dats m 0 c).before 10 t d = iblk m c 10 t :=
  before0_10_of m (dats m 0 c) (A_eq m c 10) (fun _ => by dsimp only [dats]) t d
theorem before_11 (c : Dev nD) (t : Fin cfg0.N) (d) : (dats m 0 c).before 11 t d = iblk m c 11 t :=
  before0_11_of m (dats m 0 c) (A_eq m c 11) (fun _ => by dsimp only [dats]) t d
theorem before_12 (c : Dev nD) (t : Fin cfg0.N) (d) : (dats m 0 c).before 12 t d = iblk m c 12 t :=
  before0_12_of m (dats m 0 c) (A_eq m c 12) (fun _ => by dsimp only [dats]) t d
theorem before_13 (c : Dev nD) (t : Fin cfg0.N) (d) : (dats m 0 c).before 13 t d = iblk m c 13 t :=
  before0_13_of m (dats m 0 c) (A_eq m c 13) (fun _ => by dsimp only [dats]) t d
theorem before_14 (c : Dev nD) (t : Fin cfg0.N) (d) : (dats m 0 c).before 14 t d = iblk m c 14 t :=
  before0_14_of m (dats m 0 c) (A_eq m c 14) (fun _ => by dsimp only [dats]) t d
theorem before_15 (c : Dev nD) (t : Fin cfg0.N) (d) : (dats m 0 c).before 15 t d = iblk m c 15 t :=
  before0_15_of m (dats m 0 c) (A_eq m c 15) (fun _ => by dsimp only [dats]) t d
theorem before_16 (c : Dev nD) (t : Fin cfg0.N) (d) : (dats m 0 c).before 16 t d = iblk m c 16 t :=
  before0_16_of m (dats m 0 c) (A_eq m c 16) (fun _ => by dsimp only [dats]) t d
theorem before_17 (c : Dev nD) (t : Fin cfg0.N) (d) : (dats m 0 c).before 17 t d = iblk m c 17 t :=
  before0_17_of m (dats m 0 c) (A_eq m c 17) (fun _ => by dsimp only [dats]) t d
theorem before_18 (c : Dev nD) (t : Fin cfg0.N) (d) : (dats m 0 c).before 18 t d = iblk m c 18 t :=
  before0_18_of m (dats m 0 c) (A_eq m c 18) (fun _ => by dsimp only [dats]) t d
theorem before_19 (c : Dev nD) (t : Fin cfg0.N) (d) : (dats m 0 c).before 19 t d = iblk m c 19 t :=
  before0_19_of m (dats m 0 c) (A_eq m c 19) (fun _ => by dsimp only [dats]) t d
theorem before_20 (c : Dev nD) (t : Fin cfg0.N) (d) : (dats m 0 c).before 20 t d = iblk m c 20 t :=
  before0_20_of m (dats m 0 c) (A_eq m c 20) (fun _ => by dsimp only [dats]) t d

theorem before_22 (c : Dev nD) (t : Fin cfg0.N) (h0 : ¬t.val % 16 = 0) (d) :
    (dats m 0 c).before 22 t d = (outs m c (t.val - 1) (Nat.lt_of_le_of_lt (Nat.sub_le _ _) t.isLt)).y1 := by
  have hN : t.val < 16 := lt_of_lt_of_eq t.isLt (show cfg0.N = 16 from N_0)
  rw [Dat.before_out_kept _ 22 rfl t (by omega)
    (Bool.eq_false_iff.mpr fun h => by have := (flush0_22 _).mp h; dsimp only at this; omega) (fun _ => rfl) (fun _ _ => rfl)]
  dsimp only [dats]

theorem before_23 (c : Dev nD) (t : Fin cfg0.N) (h0 : ¬t.val % 16 = 0) (d) :
    (dats m 0 c).before 23 t d = (outs m c (t.val - 1) (Nat.lt_of_le_of_lt (Nat.sub_le _ _) t.isLt)).y2 := by
  have hN : t.val < 16 := lt_of_lt_of_eq t.isLt (show cfg0.N = 16 from N_0)
  rw [Dat.before_out_kept _ 23 rfl t (by omega)
    (Bool.eq_false_iff.mpr fun h => by have := (flush0_23 _).mp h; dsimp only at this; omega) (fun _ => rfl) (fun _ _ => rfl)]
  dsimp only [dats]

theorem before_24 (c : Dev nD) (t : Fin cfg0.N) (h0 : ¬t.val % 16 = 0) (d) :
    (dats m 0 c).before 24 t d = (outs m c (t.val - 1) (Nat.lt_of_le_of_lt (Nat.sub_le _ _) t.isLt)).y3 := by
  have hN : t.val < 16 := lt_of_lt_of_eq t.isLt (show cfg0.N = 16 from N_0)
  rw [Dat.before_out_kept _ 24 rfl t (by omega)
    (Bool.eq_false_iff.mpr fun h => by have := (flush0_24 _).mp h; dsimp only at this; omega) (fun _ => rfl) (fun _ _ => rfl)]
  dsimp only [dats]

theorem before_25 (c : Dev nD) (t : Fin cfg0.N) (h0 : ¬t.val % 16 = 0) (d) :
    (dats m 0 c).before 25 t d = (outs m c (t.val - 1) (Nat.lt_of_le_of_lt (Nat.sub_le _ _) t.isLt)).y4 := by
  have hN : t.val < 16 := lt_of_lt_of_eq t.isLt (show cfg0.N = 16 from N_0)
  rw [Dat.before_out_kept _ 25 rfl t (by omega)
    (Bool.eq_false_iff.mpr fun h => by have := (flush0_25 _).mp h; dsimp only at this; omega) (fun _ => rfl) (fun _ _ => rfl)]
  dsimp only [dats]

theorem before_26 (c : Dev nD) (t : Fin cfg0.N) (h0 : ¬t.val % 16 = 0) (d) :
    (dats m 0 c).before 26 t d = (outs m c (t.val - 1) (Nat.lt_of_le_of_lt (Nat.sub_le _ _) t.isLt)).y5 := by
  have hN : t.val < 16 := lt_of_lt_of_eq t.isLt (show cfg0.N = 16 from N_0)
  rw [Dat.before_out_kept _ 26 rfl t (by omega)
    (Bool.eq_false_iff.mpr fun h => by have := (flush0_26 _).mp h; dsimp only at this; omega) (fun _ => rfl) (fun _ _ => rfl)]
  dsimp only [dats]

theorem before_27 (c : Dev nD) (t : Fin cfg0.N) (h0 : ¬t.val % 16 = 0) (d) :
    (dats m 0 c).before 27 t d = (outs m c (t.val - 1) (Nat.lt_of_le_of_lt (Nat.sub_le _ _) t.isLt)).y6 := by
  have hN : t.val < 16 := lt_of_lt_of_eq t.isLt (show cfg0.N = 16 from N_0)
  rw [Dat.before_out_kept _ 27 rfl t (by omega)
    (Bool.eq_false_iff.mpr fun h => by have := (flush0_27 _).mp h; dsimp only at this; omega) (fun _ => rfl) (fun _ _ => rfl)]
  dsimp only [dats]

theorem before_28 (c : Dev nD) (t : Fin cfg0.N) (h0 : ¬t.val % 16 = 0) (d) :
    (dats m 0 c).before 28 t d = (outs m c (t.val - 1) (Nat.lt_of_le_of_lt (Nat.sub_le _ _) t.isLt)).y7 := by
  have hN : t.val < 16 := lt_of_lt_of_eq t.isLt (show cfg0.N = 16 from N_0)
  rw [Dat.before_out_kept _ 28 rfl t (by omega)
    (Bool.eq_false_iff.mpr fun h => by have := (flush0_28 _).mp h; dsimp only at this; omega) (fun _ => rfl) (fun _ _ => rfl)]
  dsimp only [dats]

theorem before_29 (c : Dev nD) (t : Fin cfg0.N) (h0 : ¬t.val % 16 = 0) (d) :
    (dats m 0 c).before 29 t d = (outs m c (t.val - 1) (Nat.lt_of_le_of_lt (Nat.sub_le _ _) t.isLt)).y8 := by
  have hN : t.val < 16 := lt_of_lt_of_eq t.isLt (show cfg0.N = 16 from N_0)
  rw [Dat.before_out_kept _ 29 rfl t (by omega)
    (Bool.eq_false_iff.mpr fun h => by have := (flush0_29 _).mp h; dsimp only at this; omega) (fun _ => rfl) (fun _ _ => rfl)]
  dsimp only [dats]

theorem before_30 (c : Dev nD) (t : Fin cfg0.N) (h0 : ¬t.val % 16 = 0) (d) :
    (dats m 0 c).before 30 t d = (outs m c (t.val - 1) (Nat.lt_of_le_of_lt (Nat.sub_le _ _) t.isLt)).y9 := by
  have hN : t.val < 16 := lt_of_lt_of_eq t.isLt (show cfg0.N = 16 from N_0)
  rw [Dat.before_out_kept _ 30 rfl t (by omega)
    (Bool.eq_false_iff.mpr fun h => by have := (flush0_30 _).mp h; dsimp only at this; omega) (fun _ => rfl) (fun _ _ => rfl)]
  dsimp only [dats]

theorem before_31 (c : Dev nD) (t : Fin cfg0.N) (h0 : ¬t.val % 16 = 0) (d) :
    (dats m 0 c).before 31 t d = (outs m c (t.val - 1) (Nat.lt_of_le_of_lt (Nat.sub_le _ _) t.isLt)).y10 := by
  have hN : t.val < 16 := lt_of_lt_of_eq t.isLt (show cfg0.N = 16 from N_0)
  rw [Dat.before_out_kept _ 31 rfl t (by omega)
    (Bool.eq_false_iff.mpr fun h => by have := (flush0_31 _).mp h; dsimp only at this; omega) (fun _ => rfl) (fun _ _ => rfl)]
  dsimp only [dats]

theorem before_32 (c : Dev nD) (t : Fin cfg0.N) (h0 : ¬t.val % 16 = 0) (d) :
    (dats m 0 c).before 32 t d = (outs m c (t.val - 1) (Nat.lt_of_le_of_lt (Nat.sub_le _ _) t.isLt)).y11 := by
  have hN : t.val < 16 := lt_of_lt_of_eq t.isLt (show cfg0.N = 16 from N_0)
  rw [Dat.before_out_kept _ 32 rfl t (by omega)
    (Bool.eq_false_iff.mpr fun h => by have := (flush0_32 _).mp h; dsimp only at this; omega) (fun _ => rfl) (fun _ _ => rfl)]
  dsimp only [dats]

theorem before_33 (c : Dev nD) (t : Fin cfg0.N) (h0 : ¬t.val % 16 = 0) (d) :
    (dats m 0 c).before 33 t d = (outs m c (t.val - 1) (Nat.lt_of_le_of_lt (Nat.sub_le _ _) t.isLt)).y12 := by
  have hN : t.val < 16 := lt_of_lt_of_eq t.isLt (show cfg0.N = 16 from N_0)
  rw [Dat.before_out_kept _ 33 rfl t (by omega)
    (Bool.eq_false_iff.mpr fun h => by have := (flush0_33 _).mp h; dsimp only at this; omega) (fun _ => rfl) (fun _ _ => rfl)]
  dsimp only [dats]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t)
    ∗ owns (c : Thread nD τ) (ms0_33 t) fullShare ((dats m 0 c).after 33 t))

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19, before_20]
  rw [show (dats m 0 c).Φ t.succ = (dats m 0 c).Φ t.castSucc from rfl,
    show (dats m 0 c).owesAt () t.succ = (dats m 0 c).owesAt () t.castSucc from rfl]
  rw [show (dats m 0 c).after 0 t = iblk m c 0 t from rfl,
    show (dats m 0 c).after 1 t = iblk m c 1 t from rfl,
    show (dats m 0 c).after 2 t = iblk m c 2 t from rfl,
    show (dats m 0 c).after 3 t = iblk m c 3 t from rfl,
    show (dats m 0 c).after 4 t = iblk m c 4 t from rfl,
    show (dats m 0 c).after 5 t = iblk m c 5 t from rfl,
    show (dats m 0 c).after 6 t = iblk m c 6 t from rfl,
    show (dats m 0 c).after 7 t = iblk m c 7 t from rfl,
    show (dats m 0 c).after 8 t = iblk m c 8 t from rfl,
    show (dats m 0 c).after 9 t = iblk m c 9 t from rfl,
    show (dats m 0 c).after 10 t = iblk m c 10 t from rfl,
    show (dats m 0 c).after 11 t = iblk m c 11 t from rfl,
    show (dats m 0 c).after 12 t = iblk m c 12 t from rfl,
    show (dats m 0 c).after 13 t = iblk m c 13 t from rfl,
    show (dats m 0 c).after 14 t = iblk m c 14 t from rfl,
    show (dats m 0 c).after 15 t = iblk m c 15 t from rfl,
    show (dats m 0 c).after 16 t = iblk m c 16 t from rfl,
    show (dats m 0 c).after 17 t = iblk m c 17 t from rfl,
    show (dats m 0 c).after 18 t = iblk m c 18 t from rfl,
    show (dats m 0 c).after 19 t = iblk m c 19 t from rfl,
    show (dats m 0 c).after 20 t = iblk m c 20 t from rfl,
    show (dats m 0 c).after 21 t = (outs m c t.val t.isLt).y0 from rfl,
    show (dats m 0 c).after 22 t = (outs m c t.val t.isLt).y1 from rfl,
    show (dats m 0 c).after 23 t = (outs m c t.val t.isLt).y2 from rfl,
    show (dats m 0 c).after 24 t = (outs m c t.val t.isLt).y3 from rfl,
    show (dats m 0 c).after 25 t = (outs m c t.val t.isLt).y4 from rfl,
    show (dats m 0 c).after 26 t = (outs m c t.val t.isLt).y5 from rfl,
    show (dats m 0 c).after 27 t = (outs m c t.val t.isLt).y6 from rfl,
    show (dats m 0 c).after 28 t = (outs m c t.val t.isLt).y7 from rfl,
    show (dats m 0 c).after 29 t = (outs m c t.val t.isLt).y8 from rfl,
    show (dats m 0 c).after 30 t = (outs m c t.val t.isLt).y9 from rfl,
    show (dats m 0 c).after 31 t = (outs m c t.val t.isLt).y10 from rfl,
    show (dats m 0 c).after 32 t = (outs m c t.val t.isLt).y11 from rfl,
    show (dats m 0 c).after 33 t = (outs m c t.val t.isLt).y12 from rfl]
  by_cases h0 : t.val % 16 = 0
  · rw [outs_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩⟩
    iapply (run_first _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ c (grid0.coords t) ((hcond0_0 t).mpr h0) (blks m c t)
      ⟨(dats m 0 c).before 21 t d21, (dats m 0 c).before 22 t d22, (dats m 0 c).before 23 t d23, (dats m 0 c).before 24 t d24, (dats m 0 c).before 25 t d25, (dats m 0 c).before 26 t d26, (dats m 0 c).before 27 t d27, (dats m 0 c).before 28 t d28, (dats m 0 c).before 29 t d29, (dats m 0 c).before 30 t d30, (dats m 0 c).before 31 t d31, (dats m 0 c).before 32 t d32, (dats m 0 c).before 33 t d33⟩ Set.univ _)
    unfold given held
    isplitl [H0 H1 H2 H3 H4 H5 H6 H7 H8 H9 H10 H11 H12 H13 H14 H15 H16 H17 H18 H19 H20]
    · unfold blks; dsimp only
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      iexact H20
    isplitl [H21 H22 H23 H24 H25 H26 H27 H28 H29 H30 H31 H32 H33]
    · dsimp only
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      isplitl [H30]; · iexact H30
      isplitl [H31]; · iexact H31
      isplitl [H32]; · iexact H32
      iexact H33
    iintro ⟨⟨H0, H1, H2, H3, H4, H5, H6, H7, H8, H9, H10, H11, H12, H13, H14, H15, H16, H17, H18, H19, H20⟩, ⟨H21, H22, H23, H24, H25, H26, H27, H28, H29, H30, H31, H32, H33⟩⟩
    unfold blks; dsimp only
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    iexact H33
  · rw [outs_next m c t h0]
    simp only [before_22 m c t h0, before_23 m c t h0, before_24 m c t h0, before_25 m c t h0, before_26 m c t h0, before_27 m c t h0, before_28 m c t h0, before_29 m c t h0, before_30 m c t h0, before_31 m c t h0, before_32 m c t h0, before_33 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩⟩
    iapply (run_next _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ c (grid0.coords t) (fun h => h0 ((hcond0_0 t).mp h)) (blks m c t)
      ⟨(dats m 0 c).before 21 t d21, (outs m c (t.val - 1) (Nat.lt_of_le_of_lt (Nat.sub_le _ _) t.isLt)).y1, (outs m c (t.val - 1) (Nat.lt_of_le_of_lt (Nat.sub_le _ _) t.isLt)).y2, (outs m c (t.val - 1) (Nat.lt_of_le_of_lt (Nat.sub_le _ _) t.isLt)).y3, (outs m c (t.val - 1) (Nat.lt_of_le_of_lt (Nat.sub_le _ _) t.isLt)).y4, (outs m c (t.val - 1) (Nat.lt_of_le_of_lt (Nat.sub_le _ _) t.isLt)).y5, (outs m c (t.val - 1) (Nat.lt_of_le_of_lt (Nat.sub_le _ _) t.isLt)).y6, (outs m c (t.val - 1) (Nat.lt_of_le_of_lt (Nat.sub_le _ _) t.isLt)).y7, (outs m c (t.val - 1) (Nat.lt_of_le_of_lt (Nat.sub_le _ _) t.isLt)).y8, (outs m c (t.val - 1) (Nat.lt_of_le_of_lt (Nat.sub_le _ _) t.isLt)).y9, (outs m c (t.val - 1) (Nat.lt_of_le_of_lt (Nat.sub_le _ _) t.isLt)).y10, (outs m c (t.val - 1) (Nat.lt_of_le_of_lt (Nat.sub_le _ _) t.isLt)).y11, (outs m c (t.val - 1) (Nat.lt_of_le_of_lt (Nat.sub_le _ _) t.isLt)).y12⟩ Set.univ _)
    unfold given held
    isplitl [H0 H1 H2 H3 H4 H5 H6 H7 H8 H9 H10 H11 H12 H13 H14 H15 H16 H17 H18 H19 H20]
    · unfold blks; dsimp only
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      iexact H20
    isplitl [H21 H22 H23 H24 H25 H26 H27 H28 H29 H30 H31 H32 H33]
    · dsimp only
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      isplitl [H30]; · iexact H30
      isplitl [H31]; · iexact H31
      isplitl [H32]; · iexact H32
      iexact H33
    iintro ⟨⟨H0, H1, H2, H3, H4, H5, H6, H7, H8, H9, H10, H11, H12, H13, H14, H15, H16, H17, H18, H19, H20⟩, ⟨H21, H22, H23, H24, H25, H26, H27, H28, H29, H30, H31, H32, H33⟩⟩
    unfold blks; dsimp only
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    iexact H33

theorem defs₀_row (t : Fin cfg0.N) : defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 1600000 in
/-- The run: the arrays of the windows end at what the proof data computes, the rest as the lines after the region leave
    it, and every counter is at zero. -/
theorem run_all : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_all m ρ)

/-- The frame, over any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (frame_of m ρ (dats m) (A_eq m) (run_main m ρ)) ((θ_run defs _ _).mono (fun _ h => h.2) (run_all m ρ))

end Cert.FrontBwdIdeal.Front

end
-- ==== Proof.FrontBits.lean ====
/- The front backward on words: with each named constant read as its word, the program of the run is this one. -/
module

public import proofs.«01_k».proof.Defs
public import proofs.«01_k».proof.Proof.FrontFrame
public import proofs.«01_k».proof.Proof.Gen.FrontBwd

@[expose] public section

set_option maxRecDepth 16384

noncomputable section

namespace Cert.FrontBwdIdeal.Front

open Idealize.ShloMosaic Idealize.ShloMosaic.TcCoe Idealize.ShloMosaic.Tactic
open Idealize.SL Idealize.SL.Sem

/-- A named constant at its word. -/
abbrev words : Named Bits where
  named _ _ {φ} b := Scalar.ofBits φ b

attribute [local instance] words

set_option maxHeartbeats 4000000 in
theorem frame_bits : Cert.quiescent_FrontBwd := fun m ρ _ => by
  have h := frame (F := Bits) m ρ
  refine cast ?_ h
  sl_kernel_rfl

end Cert.FrontBwdIdeal.Front

end
-- ==== Proof.FrontRow.lean ====
/- One token's row of the front backward, over the extended reals: the gradients as the reference writes them, the wider rows the
   kernel works on (the shared key's columns once as they are and once with their halves swapped, the two gates' columns filled up
   with zeros), and why both agree. -/
module

public import proofs.«01_k».proof.Proof.MlaRow

@[expose] public section

noncomputable section

namespace Cert.Front

open Idealize.ShloMosaic Cert.RowMath Cert.Mla

/-- 1024, as the programs write it. -/
def n1024 : EReal := Ideal.ofBits .f32 0x44800000#32

/-- What one token's gradients depend on: its row, the norm's weight, the two scales and the two shifts, the projection, the
    cotangents of the projection's nine parts, and the cotangent of the row itself. -/
structure Row where
  x : Fin 1024 → EReal
  w : Fin 1024 → EReal
  a : Fin 1024 → EReal
  b : Fin 1024 → EReal
  s : Fin 1024 → EReal
  t : Fin 1024 → EReal
  U : Fin 1024 → Fin 3272 → EReal
  gq : Fin 384 → EReal
  gk : Fin 256 → EReal
  gp : Fin 64 → EReal
  gs : Fin 64 → EReal
  gz : Fin 512 → EReal
  gc : Fin 1536 → EReal
  ga : Fin 4 → EReal
  gb : Fin 4 → EReal
  gg : Fin 512 → EReal
  sk : Fin 1024 → EReal

namespace Row

variable (X : Row)

/-- The cotangent of the shared key's columns: its own, and the swapped copy's swapped back. -/
def K (l : Fin 64) : EReal := X.gp l + X.gs (other l)

/-- The cotangents of the two gates' columns, side by side. -/
def A (l : Fin 8) : EReal := if h : l.val < 4 then X.ga ⟨l.val, h⟩ else X.gb ⟨l.val - 4, by omega⟩

/-- The cotangent of the projected row. -/
def G (j : Fin 3272) : EReal :=
  if h : j.val < 384 then X.gq ⟨j.val, h⟩
  else if h : j.val < 640 then X.gk ⟨j.val - 384, by omega⟩
  else if h : j.val < 704 then X.K ⟨j.val - 640, by omega⟩
  else if h : j.val < 1216 then X.gz ⟨j.val - 704, by omega⟩
  else if h : j.val < 2752 then X.gc ⟨j.val - 1216, by omega⟩
  else if h : j.val < 2760 then X.A ⟨j.val - 2752, by omega⟩
  else X.gg ⟨j.val - 2760, by omega⟩

/-- The scale of an entry. -/
def sc (k : Fin 1024) : EReal := 1 + (X.a k + X.b k)

/-- The normed row, scaled and shifted. -/
def h (k : Fin 1024) : EReal := nrm n1024 X.x k * X.w k * X.sc k + (X.s k + X.t k)

/-- Its cotangent. -/
def dh (k : Fin 1024) : EReal := ∑ j, X.G j * X.U k j

def dx (k : Fin 1024) : EReal := back n1024 X.x (fun k => X.dh k * X.sc k * X.w k) k + X.sk k

def dw (k : Fin 1024) : EReal := nrm n1024 X.x k * (X.dh k * X.sc k)

def da (k : Fin 1024) : EReal := nrm n1024 X.x k * X.w k * X.dh k

def dU (k : Fin 1024) (j : Fin 3272) : EReal := X.G j * X.h k

/-! ### The kernel's rows -/

/-- The shared key's two cotangents, side by side. -/
def P (e : Fin 128) : EReal := if h : e.val < 64 then X.gp ⟨e.val, h⟩ else X.gs ⟨e.val - 64, by omega⟩

/-- Its columns of the projection, and the same with their halves swapped. -/
def VP (k : Fin 1024) (e : Fin 128) : EReal :=
  if h : e.val < 64 then X.U k ⟨640 + e.val, by omega⟩
  else X.U k ⟨640 + (other ⟨e.val - 64, by omega⟩).val, by have := (other ⟨e.val - 64, by omega⟩).isLt; omega⟩

/-- The two gates' cotangents, filled up with zeros. -/
def B (e : Fin 128) : EReal := if h : e.val < 8 then X.A ⟨e.val, h⟩ else 0

/-- Their columns of the projection, likewise. -/
def VB (k : Fin 1024) (e : Fin 128) : EReal := if h : e.val < 8 then X.U k ⟨2752 + e.val, by omega⟩ else 0

/-- The cotangent of the normed row, group by group. -/
def kdh (k : Fin 1024) : EReal :=
  ∑ e, X.gq e * X.U k ⟨e.val, by omega⟩ + ∑ e, X.gk e * X.U k ⟨384 + e.val, by omega⟩ + ∑ e, X.P e * X.VP k e
    + ∑ e, X.gz e * X.U k ⟨704 + e.val, by omega⟩ + ∑ e, X.gc e * X.U k ⟨1216 + e.val, by omega⟩ + ∑ e, X.B e * X.VB k e
    + ∑ e, X.gg e * X.U k ⟨2760 + e.val, by omega⟩

end Row

/-- A sum over the projected row, group by group. -/
theorem sum_3272 (f : Fin 3272 → EReal) : ∑ j, f j =
    ∑ e : Fin 384, f ⟨e.val, by omega⟩ + ∑ e : Fin 256, f ⟨384 + e.val, by omega⟩ + ∑ e : Fin 64, f ⟨640 + e.val, by omega⟩
      + ∑ e : Fin 512, f ⟨704 + e.val, by omega⟩ + ∑ e : Fin 1536, f ⟨1216 + e.val, by omega⟩ + ∑ e : Fin 8, f ⟨2752 + e.val, by omega⟩
      + ∑ e : Fin 512, f ⟨2760 + e.val, by omega⟩ := by
  refine (Fin.sum_univ_add (a := 2760) (b := 512) f).trans (congrArg (· + _) ?_)
  refine (Fin.sum_univ_add (a := 2752) (b := 8) fun j : Fin 2760 => f ⟨j.val, by omega⟩).trans (congrArg (· + _) ?_)
  refine (Fin.sum_univ_add (a := 1216) (b := 1536) fun j : Fin 2752 => f ⟨j.val, by omega⟩).trans (congrArg (· + _) ?_)
  refine (Fin.sum_univ_add (a := 704) (b := 512) fun j : Fin 1216 => f ⟨j.val, by omega⟩).trans (congrArg (· + _) ?_)
  refine (Fin.sum_univ_add (a := 640) (b := 64) fun j : Fin 704 => f ⟨j.val, by omega⟩).trans (congrArg (· + _) ?_)
  exact Fin.sum_univ_add (a := 384) (b := 256) fun j : Fin 640 => f ⟨j.val, by omega⟩

/-- A value given by cases is `x` where both cases are. -/
theorem dite_eq_of {α : Type} {p : Prop} [Decidable p] {a : p → α} {b : ¬p → α} {x : α} (h : ∀ hp, a hp = x) (h' : ∀ hp, b hp = x) :
    dite p a b = x := by
  split
  · exact h _
  · exact h' _

theorem n1024_eq : n1024 = ((1024 : ℝ) : EReal) := by
  unfold n1024; simp [Ideal.ofBits, Ideal.ieee, -EReal.coe_mul]; norm_num

theorem one_real : IsReal 1 := ⟨1, EReal.coe_one.symm⟩

namespace Row

variable (X : Row)

/-- The entries that must be reals for a product to spread over the shared key's two cotangents. -/
structure Finite : Prop where
  w : ∀ k, IsReal (X.w k)
  a : ∀ k, IsReal (X.a k)
  b : ∀ k, IsReal (X.b k)
  s : ∀ k, IsReal (X.s k)
  t : ∀ k, IsReal (X.t k)
  U : ∀ k j, IsReal (X.U k j)
  gp : ∀ l, IsReal (X.gp l)
  gs : ∀ l, IsReal (X.gs l)

theorem G_q (e : Fin 384) (p) : X.G ⟨e.val, p⟩ = X.gq e := dif_pos e.isLt

theorem G_k (e : Fin 256) (p) : X.G ⟨384 + e.val, p⟩ = X.gk e := by
  have he := e.isLt
  unfold G
  rw [dif_neg (by simp only; omega), dif_pos (by simp only; omega)]
  exact congrArg X.gk (Fin.ext (by simp only; omega))

theorem G_p (e : Fin 64) (p) : X.G ⟨640 + e.val, p⟩ = X.K e := by
  have he := e.isLt
  unfold G
  rw [dif_neg (by simp only; omega), dif_neg (by simp only; omega), dif_pos (by simp only; omega)]
  exact congrArg X.K (Fin.ext (by simp only; omega))

theorem G_z (e : Fin 512) (p) : X.G ⟨704 + e.val, p⟩ = X.gz e := by
  have he := e.isLt
  unfold G
  rw [dif_neg (by simp only; omega), dif_neg (by simp only; omega), dif_neg (by simp only; omega), dif_pos (by simp only; omega)]
  exact congrArg X.gz (Fin.ext (by simp only; omega))

theorem G_c (e : Fin 1536) (p) : X.G ⟨1216 + e.val, p⟩ = X.gc e := by
  have he := e.isLt
  unfold G
  rw [dif_neg (by simp only; omega), dif_neg (by simp only; omega), dif_neg (by simp only; omega), dif_neg (by simp only; omega),
    dif_pos (by simp only; omega)]
  exact congrArg X.gc (Fin.ext (by simp only; omega))

theorem G_a (e : Fin 8) (p) : X.G ⟨2752 + e.val, p⟩ = X.A e := by
  have he := e.isLt
  unfold G
  rw [dif_neg (by simp only; omega), dif_neg (by simp only; omega), dif_neg (by simp only; omega), dif_neg (by simp only; omega),
    dif_neg (by simp only; omega), dif_pos (by simp only; omega)]
  exact congrArg X.A (Fin.ext (by simp only; omega))

theorem G_g (e : Fin 512) (p) : X.G ⟨2760 + e.val, p⟩ = X.gg e := by
  unfold G
  rw [dif_neg (by simp only; omega), dif_neg (by simp only; omega), dif_neg (by simp only; omega), dif_neg (by simp only; omega),
    dif_neg (by simp only; omega), dif_neg (by simp only; omega)]
  exact congrArg X.gg (Fin.ext (by simp only; omega))

theorem P_lo (l : Fin 64) (p) : X.P ⟨l.val, p⟩ = X.gp l := dif_pos l.isLt

theorem P_hi (l : Fin 64) (p) : X.P ⟨64 + l.val, p⟩ = X.gs l := by
  unfold P
  rw [dif_neg (by simp only; omega)]
  exact congrArg X.gs (Fin.ext (by simp only; omega))

theorem VP_lo (k : Fin 1024) (l : Fin 64) (p) : X.VP k ⟨l.val, p⟩ = X.U k ⟨640 + l.val, by omega⟩ := dif_pos l.isLt

theorem VP_hi (k : Fin 1024) (l : Fin 64) (p) :
    X.VP k ⟨64 + l.val, p⟩ = X.U k ⟨640 + (other l).val, by have := (other l).isLt; omega⟩ := by
  have e : 64 + l.val - 64 = l.val := by omega
  unfold VP
  rw [dif_neg (by simp only; omega)]
  simp only [e]

theorem B_lo (l : Fin 8) (p) : X.B ⟨l.val, p⟩ = X.A l := dif_pos l.isLt

theorem B_hi (l : Fin 120) (p) : X.B ⟨8 + l.val, p⟩ = 0 := dif_neg (by simp only; omega)

theorem VB_lo (k : Fin 1024) (l : Fin 8) (p) : X.VB k ⟨l.val, p⟩ = X.U k ⟨2752 + l.val, by omega⟩ := dif_pos l.isLt

/-- The gates' product: the columns filled up add nothing. -/
theorem sum_B (k : Fin 1024) : ∑ e, X.B e * X.VB k e = ∑ e, X.A e * X.U k ⟨2752 + e.val, by omega⟩ := by
  refine (Fin.sum_univ_add (a := 8) (b := 120) fun e : Fin 128 => X.B e * X.VB k e).trans ?_
  refine (congrArg₂ (· + ·) (Finset.sum_congr rfl fun l _ => congrArg₂ (· * ·) (X.B_lo l (by omega)) (X.VB_lo k l (by omega)))
    (Finset.sum_eq_zero fun l _ => (congrArg (· * _) (X.B_hi l (by omega))).trans (zero_mul _))).trans (add_zero _)

variable {X} (hX : X.Finite)
include hX

/-- The shared key's product: the swapped copy's columns back at their own places. -/
theorem Finite.sum_P (k : Fin 1024) : ∑ e, X.P e * X.VP k e = ∑ e, X.K e * X.U k ⟨640 + e.val, by omega⟩ := by
  refine (Fin.sum_univ_add (a := 64) (b := 64) fun e : Fin 128 => X.P e * X.VP k e).trans ?_
  refine (congrArg₂ (· + ·) (Finset.sum_congr rfl fun l _ => congrArg₂ (· * ·) (X.P_lo l (by omega)) (X.VP_lo k l (by omega)))
    (Finset.sum_congr rfl fun l _ => congrArg₂ (· * ·) (X.P_hi l (by omega)) (X.VP_hi k l (by omega)))).trans ?_
  unfold K
  simp only [add_mul_real (hX.gp _) (hX.gs _) (hX.U _ _), Finset.sum_add_distrib]
  refine congrArg (_ + ·) ((sum_other _).symm.trans (Finset.sum_congr rfl fun l _ => ?_))
  simp only [other_other]

theorem Finite.dh_eq (k : Fin 1024) : X.kdh k = X.dh k := by
  unfold kdh dh
  rw [hX.sum_P, X.sum_B, sum_3272]
  simp only [G_q, G_k, G_p, G_z, G_c, G_a, G_g]

theorem Finite.h (k : Fin 1024) : IsReal (X.h k) :=
  (((by rw [n1024_eq]; exact nrm_real (by norm_num) X.x k : IsReal (nrm n1024 X.x k)).mul (hX.w k)).mul (one_real.add ((hX.a k).add (hX.b k)))).add ((hX.s k).add (hX.t k))

/-- The gradient of a shared key's column: the kernel's two columns together. -/
theorem Finite.dU_p (k : Fin 1024) (l : Fin 64) (p) : X.dU k ⟨640 + l.val, p⟩ = X.h k * X.gp l + X.h k * X.gs (other l) := by
  unfold dU
  rw [G_p]
  unfold K
  rw [add_mul_real (hX.gp _) (hX.gs _) (hX.h k), mul_comm (X.gp l), mul_comm (X.gs _)]

end Row

end Cert.Front

end
-- ==== Proof.FrontPay.lean ====
/- The payloads of the front backward, read at an index of a block of 512 rows. -/
module

public import proofs.«01_k».proof.Proof.FrontRow
public import proofs.«01_k».proof.Proof.FrontRun
public import Idealize.ShloMosaic.Lib.Pointwise
public import Idealize.ShloMosaic.Lib.IdealHost

@[expose] public section

set_option maxRecDepth 16384

noncomputable section

namespace Cert.FrontBwdIdeal.Front

open Idealize.ShloMosaic Cert.Front Cert.RowMath Gen

namespace Ins

variable (X : Ins Ideal)

/-- A row of the point's block, and the norm's five parameters. -/
def x (i : Fin 512) (k : Fin 1024) : EReal := X.x0 (ix2 i k)
def w (k : Fin 1024) : EReal := X.x1 (ix2 0 k)
def a (k : Fin 1024) : EReal := X.x2 (ix2 0 k)
def b (k : Fin 1024) : EReal := X.x3 (ix2 0 k)
def s (k : Fin 1024) : EReal := X.x4 (ix2 0 k)
def t (k : Fin 1024) : EReal := X.x5 (ix2 0 k)

/-- The scale of an entry, and the normed row. -/
def sc (k : Fin 1024) : EReal := 1 + X.a k + X.b k
def h (i : Fin 512) (k : Fin 1024) : EReal := nrm n1024 (X.x i) k * X.w k * X.sc k + X.s k + X.t k

/-- The cotangent of the normed row. -/
def dh (i : Fin 512) (k : Fin 1024) : EReal :=
  ∑ e, X.x13 (ix2 i e) * X.x6 (ix2 k e) + ∑ e, X.x14 (ix2 i e) * X.x7 (ix2 k e) + ∑ e, X.x15 (ix2 i e) * X.x8 (ix2 k e)
    + ∑ e, X.x16 (ix2 i e) * X.x9 (ix2 k e) + ∑ e, X.x17 (ix2 i e) * X.x10 (ix2 k e) + ∑ e, X.x18 (ix2 i e) * X.x11 (ix2 k e)
    + ∑ e, X.x19 (ix2 i e) * X.x12 (ix2 k e)

theorem v79_at (i : Fin 512) (k : Fin 1024) : X.v79 (ix2 i k) = X.dh i k := by
  unfold v79 k0_pay33 k0_pay26 k0_pay27 k0_pay28 k0_pay29 k0_pay30 k0_pay31 k0_pay32 k0_pay21 k0_pay22 k0_pay23 k0_pay24 k0_pay25
  pointwise
  rfl

theorem v29_at (k : Fin 1024) : X.v29 (ix2 0 k) = X.sc k := by
  unfold v29
  unfold_payloads
  pointwise
  rfl

theorem v36_at (i : Fin 512) (k : Fin 1024) : X.v36 (ix2 i k) = X.h i k := by
  unfold v36
  unfold_payloads
  pointwise [zero_sub]
  rfl

theorem v19_at (i : Fin 512) (z : Fin 1) : k0_pay15 (F := Ideal) X.x0 (ix2 i z) = rs n1024 (X.x i) := by
  unfold_payloads
  pointwise [zero_sub]
  rfl

theorem v22_at (i : Fin 512) (z : Fin 1) :
    k0_pay16 (F := Ideal) X.x0 (ix2 i z) = negHalf * Ideal.div (rs n1024 (X.x i)) (ms n1024 (X.x i)) := by
  unfold_payloads
  pointwise [zero_sub]
  rfl

theorem v24_at (i : Fin 512) (k : Fin 1024) : k0_pay17 (F := Ideal) X.x0 (ix2 i k) = nrm n1024 (X.x i) k := by
  unfold_payloads
  pointwise [zero_sub]
  rfl

theorem v26_at (i : Fin 512) (k : Fin 1024) : k0_pay18 (F := Ideal) X.x0 X.x1 (ix2 i k) = nrm n1024 (X.x i) k * X.w k := by
  unfold_payloads
  pointwise [zero_sub]
  rfl

theorem v128_at (i : Fin 512) (k : Fin 1024) :
    k0_pay46 (F := Ideal) (k0_pay13 X.x1) X.v29 X.v79 (ix2 i k) = X.dh i k * X.sc k * X.w k := by
  unfold k0_pay46 k0_pay44 k0_pay13
  pointwise [v79_at, v29_at]
  rfl

variable (A : Outs Ideal)

theorem y0_at (i : Fin 512) (k : Fin 1024) :
    (X.step A).y0 (ix2 i k) = back n1024 (X.x i) (fun k => X.dh i k * X.sc k * X.w k) k + X.x20 (ix2 i k) := by
  unfold step k0_pay50 k0_pay47 k0_pay48 k0_pay49
  pointwise [v128_at, v19_at, v22_at, zero_sub]
  simp only [Finset.univ_unique, Finset.sum_const, Finset.card_singleton, one_smul]
  rfl

theorem y1_at (k : Fin 1024) :
    (X.step A).y1 (ix2 0 k) = A.y1 (ix2 0 k) + ∑ i, nrm n1024 (X.x i) k * (X.dh i k * X.sc k) := by
  unfold step k0_pay51 k0_pay45 k0_pay44
  pointwise [v79_at, v29_at, v24_at]

theorem y2_at (k : Fin 1024) : (X.step A).y2 (ix2 0 k) = A.y2 (ix2 0 k) + ∑ i, nrm n1024 (X.x i) k * X.w k * X.dh i k := by
  unfold step k0_pay52 k0_pay43
  pointwise [v79_at, v26_at]

theorem y3_at (k : Fin 1024) : (X.step A).y3 (ix2 0 k) = A.y3 (ix2 0 k) + ∑ i, nrm n1024 (X.x i) k * X.w k * X.dh i k := by
  unfold step k0_pay53 k0_pay43
  pointwise [v79_at, v26_at]

theorem y4_at (k : Fin 1024) : (X.step A).y4 (ix2 0 k) = A.y4 (ix2 0 k) + ∑ i, X.dh i k := by
  unfold step k0_pay54 k0_pay42
  pointwise [v79_at]

theorem y5_at (k : Fin 1024) : (X.step A).y5 (ix2 0 k) = A.y5 (ix2 0 k) + ∑ i, X.dh i k := by
  unfold step k0_pay55 k0_pay41
  pointwise [v79_at]

theorem y6_at (k : Fin 1024) (e : Fin 384) : (X.step A).y6 (ix2 k e) = A.y6 (ix2 k e) + ∑ i, X.h i k * X.x13 (ix2 i e) := by
  unfold step k0_pay34 k0_pay21
  pointwise [v36_at]

theorem y7_at (k : Fin 1024) (e : Fin 256) : (X.step A).y7 (ix2 k e) = A.y7 (ix2 k e) + ∑ i, X.h i k * X.x14 (ix2 i e) := by
  unfold step k0_pay35 k0_pay22
  pointwise [v36_at]

theorem y8_at (k : Fin 1024) (e : Fin 128) : (X.step A).y8 (ix2 k e) = A.y8 (ix2 k e) + ∑ i, X.h i k * X.x15 (ix2 i e) := by
  unfold step k0_pay36 k0_pay23
  pointwise [v36_at]

theorem y9_at (k : Fin 1024) (e : Fin 512) : (X.step A).y9 (ix2 k e) = A.y9 (ix2 k e) + ∑ i, X.h i k * X.x16 (ix2 i e) := by
  unfold step k0_pay37 k0_pay24
  pointwise [v36_at]

theorem y10_at (k : Fin 1024) (e : Fin 1536) : (X.step A).y10 (ix2 k e) = A.y10 (ix2 k e) + ∑ i, X.h i k * X.x17 (ix2 i e) := by
  unfold step k0_pay38 k0_pay25
  pointwise [v36_at]

theorem y11_at (k : Fin 1024) (e : Fin 128) : (X.step A).y11 (ix2 k e) = A.y11 (ix2 k e) + ∑ i, X.h i k * X.x18 (ix2 i e) := by
  unfold step k0_pay39 k0_pay26
  pointwise [v36_at]

theorem y12_at (k : Fin 1024) (e : Fin 512) : (X.step A).y12 (ix2 k e) = A.y12 (ix2 k e) + ∑ i, X.h i k * X.x19 (ix2 i e) := by
  unfold step k0_pay40 k0_pay27
  pointwise [v36_at]

end Ins

end Cert.FrontBwdIdeal.Front

end
-- ==== Proof.FrontHost.lean ====
/- What the host lines before the front backward leave in the arrays its blocks are cut from. -/
module

public import proofs.«01_k».proof.Proof.FrontPay
public import proofs.«01_k».proof.Proof.FrontFrame
public import Idealize.ShloMosaic.Lib.Pipeline.ValueKit
public import Idealize.ShloMosaic.Lib.Pipeline.ReadBack
public import Idealize.ShloMosaic.Lib.StableHlo.RunRead
public import Idealize.ShloMosaic.Lib.StableHlo.ReadAt

@[expose] public section

set_option maxRecDepth 16384

noncomputable section

namespace Cert.FrontBwdIdeal.Front

open Idealize.ShloMosaic Idealize.ShloMosaic.TcCoe Idealize.SL.Sem Cert.Front Cert.RowMath Gen
open Cert.Mla (other IsReal)

variable (m : (ℓ : Loc nD τ sig) → Buf (Elt Ideal) ℓ) (c : Dev nD)

/-- The arguments, each at its literal shape. -/
abbrev a0 : Vec Ideal S8192x1024 .f32 := m ((c : Thread nD τ).loc main_arg0)
abbrev a1 : Vec Ideal S1024 .f32 := m ((c : Thread nD τ).loc main_arg1)
abbrev a2 : Vec Ideal S1x1024 .f32 := m ((c : Thread nD τ).loc main_arg2)
abbrev a3 : Vec Ideal S1024 .f32 := m ((c : Thread nD τ).loc main_arg3)
abbrev a4 : Vec Ideal S1x1024 .f32 := m ((c : Thread nD τ).loc main_arg4)
abbrev a5 : Vec Ideal S1024 .f32 := m ((c : Thread nD τ).loc main_arg5)
abbrev a6 : Vec Ideal S1024x3272 .f32 := m ((c : Thread nD τ).loc main_arg6)
abbrev a7 : Vec Ideal S8192x384 .f32 := m ((c : Thread nD τ).loc main_arg7)
abbrev a8 : Vec Ideal S8192x256 .f32 := m ((c : Thread nD τ).loc main_arg8)
abbrev a9 : Vec Ideal S8192x64 .f32 := m ((c : Thread nD τ).loc main_arg9)
abbrev a10 : Vec Ideal S8192x64 .f32 := m ((c : Thread nD τ).loc main_arg10)
abbrev a11 : Vec Ideal S8192x512 .f32 := m ((c : Thread nD τ).loc main_arg11)
abbrev a12 : Vec Ideal S8192x1536 .f32 := m ((c : Thread nD τ).loc main_arg12)
abbrev a13 : Vec Ideal S8192x4 .f32 := m ((c : Thread nD τ).loc main_arg13)
abbrev a14 : Vec Ideal S8192x4 .f32 := m ((c : Thread nD τ).loc main_arg14)
abbrev a15 : Vec Ideal S8192x512 .f32 := m ((c : Thread nD τ).loc main_arg15)
abbrev a16 : Vec Ideal S8192x1024 .f32 := m ((c : Thread nD τ).loc main_arg16)

/-- Row `i` of the program's arguments. -/
def krow (i : Fin 8192) : Row where
  x k := a0 m c (ix2 i k)
  w k := a1 m c (ix1 k)
  a k := a2 m c (ix2 0 k)
  b k := a3 m c (ix1 k)
  s k := a4 m c (ix2 0 k)
  t k := a5 m c (ix1 k)
  U k j := a6 m c (ix2 k j)
  gq l := a7 m c (ix2 i l)
  gk l := a8 m c (ix2 i l)
  gp l := a9 m c (ix2 i l)
  gs l := a10 m c (ix2 i l)
  gz l := a11 m c (ix2 i l)
  gc l := a12 m c (ix2 i l)
  ga l := a13 m c (ix2 i l)
  gb l := a14 m c (ix2 i l)
  gg l := a15 m c (ix2 i l)
  sk k := a16 m c (ix2 i k)

theorem V_v3 (k : Fin 1024) : V m c main_v3 (ix2 0 k) = a1 m c (ix1 k) := by
  unfold V V0
  simp only [hostOps0, List.flatten_cons, List.flatten_nil, List.append_nil, List.cons_append, List.nil_append]
  repeat after_reads_at

theorem V_v4 (k : Fin 1024) : V m c main_v4 (ix2 0 k) = a3 m c (ix1 k) := by
  unfold V V0
  simp only [hostOps0, List.flatten_cons, List.flatten_nil, List.append_nil, List.cons_append, List.nil_append]
  repeat after_reads_at

theorem V_v5 (k : Fin 1024) : V m c main_v5 (ix2 0 k) = a5 m c (ix1 k) := by
  unfold V V0
  simp only [hostOps0, List.flatten_cons, List.flatten_nil, List.append_nil, List.cons_append, List.nil_append]
  repeat after_reads_at

theorem V_v19 (k : Fin 1024) (e : Fin 384) : V m c main_v19 (ix2 k e) = a6 m c (ix2 k ⟨e.val, by omega⟩) := by
  unfold V V0
  simp only [hostOps0, List.flatten_cons, List.flatten_nil, List.append_nil, List.cons_append, List.nil_append]
  repeat after_reads_at

theorem V_v20 (k : Fin 1024) (e : Fin 256) : V m c main_v20 (ix2 k e) = a6 m c (ix2 k ⟨384 + e.val, by omega⟩) := by
  unfold V V0
  simp only [hostOps0, List.flatten_cons, List.flatten_nil, List.append_nil, List.cons_append, List.nil_append]
  repeat after_reads_at

theorem V_v22 (k : Fin 1024) (e : Fin 512) : V m c main_v22 (ix2 k e) = a6 m c (ix2 k ⟨704 + e.val, by omega⟩) := by
  unfold V V0
  simp only [hostOps0, List.flatten_cons, List.flatten_nil, List.append_nil, List.cons_append, List.nil_append]
  repeat after_reads_at

theorem V_v23 (k : Fin 1024) (e : Fin 1536) : V m c main_v23 (ix2 k e) = a6 m c (ix2 k ⟨1216 + e.val, by omega⟩) := by
  unfold V V0
  simp only [hostOps0, List.flatten_cons, List.flatten_nil, List.append_nil, List.cons_append, List.nil_append]
  repeat after_reads_at

theorem V_v25 (k : Fin 1024) (e : Fin 512) : V m c main_v25 (ix2 k e) = a6 m c (ix2 k ⟨2760 + e.val, by omega⟩) := by
  unfold V V0
  simp only [hostOps0, List.flatten_cons, List.flatten_nil, List.append_nil, List.cons_append, List.nil_append]
  repeat after_reads_at

/-- The shared key's columns, plain and swapped. -/
theorem V_v21 (i : Fin 8192) (k : Fin 1024) (e : Fin 128) : V m c main_v21 (ix2 k e) = (krow m c i).VP k e := by
  unfold V V0
  simp only [hostOps0, List.flatten_cons, List.flatten_nil, List.append_nil, List.cons_append, List.nil_append]
  repeat after_reads_at
  unfold Row.VP
  refine dite_eq_of (fun h => ?_) fun h => ?_
  · exact (dite_eq_of (fun _ => rfl) fun h' => absurd h h').symm
  · refine (dite_eq_of (fun h' => absurd h' h) fun _ => Eq.symm ?_).symm
    refine dite_eq_of (fun _ => ?_) fun _ => ?_
    all_goals exact congrArg (fun j => a6 m c (ix2 k j)) (Fin.ext (by simp only [other]; omega))

/-- The gates' columns, filled up with zeros. -/
theorem V_v24 (i : Fin 8192) (k : Fin 1024) (e : Fin 128) : V m c main_v24 (ix2 k e) = (krow m c i).VB k e := by
  unfold V V0
  simp only [hostOps0, List.flatten_cons, List.flatten_nil, List.append_nil, List.cons_append, List.nil_append]
  repeat after_reads_at
  rfl

/-- The shared key's two cotangents, side by side. -/
theorem V_v2 (i : Fin 8192) (e : Fin 128) : V m c main_v2 (ix2 i e) = (krow m c i).P e := by
  unfold V V0
  simp only [hostOps0, List.flatten_cons, List.flatten_nil, List.append_nil, List.cons_append, List.nil_append]
  repeat after_reads_at
  rfl

/-- The gates' cotangents, filled up with zeros. -/
theorem V_v1 (i : Fin 8192) (e : Fin 128) : V m c main_v1 (ix2 i e) = (krow m c i).B e := by
  unfold V V0
  simp only [hostOps0, List.flatten_cons, List.flatten_nil, List.append_nil, List.cons_append, List.nil_append]
  repeat after_reads_at
  unfold Row.B Row.A
  refine dite_eq_of (fun h => ?_) fun h => ?_
  · rw [dif_pos (by omega), dif_pos h]
    rfl
  · refine dite_eq_of (fun h' => ?_) fun h' => ?_
    · rw [dif_pos (by omega), dif_neg h]
      rfl
    · rw [dif_neg (by omega)]

end Cert.FrontBwdIdeal.Front
-- ==== Proof.FrontValue.lean ====
/- What the front backward leaves in its thirteen result arrays. -/
module

public import proofs.«01_k».proof.Proof.FrontHost

@[expose] public section

set_option maxRecDepth 16384

noncomputable section

namespace Cert.FrontBwdIdeal.Front

open Idealize.ShloMosaic Idealize.ShloMosaic.TcCoe Idealize.SL.Sem Cert.Front Cert.RowMath Gen
open Cert.Mla (other IsReal)
open Idealize.ShloMosaic.Pipeline (Dat)

variable (m : (ℓ : Loc nD τ sig) → Buf (Elt Ideal) ℓ) (c : Dev nD)

theorem idx (t : Fin cfg0.N) : win0_0.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0] ∧ win0_20.index t = ![t.val, 0] ∧ win0_21.index t = ![t.val, 0] ∧
    win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] :=
  (by decide +kernel : ∀ t : Fin grid0.N, win0_0.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0] ∧ win0_20.index t = ![t.val, 0] ∧ win0_21.index t = ![t.val, 0] ∧
    win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0]) t

theorem pt_lt (t : Fin cfg0.N) : t.val < 16 := Nat.lt_of_lt_of_eq t.isLt N_0

/-- Row `i` of point `t`'s tile. -/
abbrev rowOf (t : Fin cfg0.N) (i : Fin 512) : Fin 8192 := ⟨t.val * 512 + i.val, by have := pt_lt t; omega⟩

variable (t : Fin cfg0.N)

theorem blk0 (i : Fin 512) (k : Fin 1024) : iblk m c 0 t (ix2 i k) = a0 m c (ix2 (rowOf t i) k) := by
  show V m c main_arg0 _ = _
  rw [V_main_arg0]
  blk_ext [(idx t).1]

theorem blk13 (i : Fin 512) (k : Fin 384) : iblk m c 13 t (ix2 i k) = a7 m c (ix2 (rowOf t i) k) := by
  show V m c main_arg7 _ = _
  rw [V_main_arg7]
  blk_ext [(idx t).2.1]

theorem blk14 (i : Fin 512) (k : Fin 256) : iblk m c 14 t (ix2 i k) = a8 m c (ix2 (rowOf t i) k) := by
  show V m c main_arg8 _ = _
  rw [V_main_arg8]
  blk_ext [(idx t).2.2.1]

theorem blk16 (i : Fin 512) (k : Fin 512) : iblk m c 16 t (ix2 i k) = a11 m c (ix2 (rowOf t i) k) := by
  show V m c main_arg11 _ = _
  rw [V_main_arg11]
  blk_ext [(idx t).2.2.2.2.1]

theorem blk17 (i : Fin 512) (k : Fin 1536) : iblk m c 17 t (ix2 i k) = a12 m c (ix2 (rowOf t i) k) := by
  show V m c main_arg12 _ = _
  rw [V_main_arg12]
  blk_ext [(idx t).2.2.2.2.2.1]

theorem blk19 (i : Fin 512) (k : Fin 512) : iblk m c 19 t (ix2 i k) = a15 m c (ix2 (rowOf t i) k) := by
  show V m c main_arg15 _ = _
  rw [V_main_arg15]
  blk_ext [(idx t).2.2.2.2.2.2.2.1]

theorem blk20 (i : Fin 512) (k : Fin 1024) : iblk m c 20 t (ix2 i k) = a16 m c (ix2 (rowOf t i) k) := by
  show V m c main_arg16 _ = _
  rw [V_main_arg16]
  blk_ext [(idx t).2.2.2.2.2.2.2.2.1]

theorem blk15 (i : Fin 512) (k : Fin 128) : iblk m c 15 t (ix2 i k) = V m c main_v2 (ix2 (rowOf t i) k) := by
  show V m c main_v2 _ = _
  blk_ext [(idx t).2.2.2.1]

theorem blk18 (i : Fin 512) (k : Fin 128) : iblk m c 18 t (ix2 i k) = V m c main_v1 (ix2 (rowOf t i) k) := by
  show V m c main_v1 _ = _
  blk_ext [(idx t).2.2.2.2.2.2.1]

theorem blk2 (i : Fin 1) (k : Fin 1024) : iblk m c 2 t (ix2 i k) = a2 m c (ix2 i k) := by
  show V m c main_arg2 _ = _
  rw [V_main_arg2]
  blk_ext [(idx t).2.2.2.2.2.2.2.2.2.2.2.1]

theorem blk4 (i : Fin 1) (k : Fin 1024) : iblk m c 4 t (ix2 i k) = a4 m c (ix2 i k) := by
  show V m c main_arg4 _ = _
  rw [V_main_arg4]
  blk_ext [(idx t).2.2.2.2.2.2.2.2.2.2.2.2.2.1]

theorem blk1 (i : Fin 1) (k : Fin 1024) : iblk m c 1 t (ix2 i k) = V m c main_v3 (ix2 i k) := by
  show V m c main_v3 _ = _
  blk_ext [(idx t).2.2.2.2.2.2.2.2.2.2.1]

theorem blk3 (i : Fin 1) (k : Fin 1024) : iblk m c 3 t (ix2 i k) = V m c main_v4 (ix2 i k) := by
  show V m c main_v4 _ = _
  blk_ext [(idx t).2.2.2.2.2.2.2.2.2.2.2.2.1]

theorem blk5 (i : Fin 1) (k : Fin 1024) : iblk m c 5 t (ix2 i k) = V m c main_v5 (ix2 i k) := by
  show V m c main_v5 _ = _
  blk_ext [(idx t).2.2.2.2.2.2.2.2.2.2.2.2.2.2.1]

theorem blk6 (i : Fin 1024) (k : Fin 384) : iblk m c 6 t (ix2 i k) = V m c main_v19 (ix2 i k) := by
  show V m c main_v19 _ = _
  blk_ext [(idx t).2.2.2.2.2.2.2.2.2.2.2.2.2.2.2.1]

theorem blk7 (i : Fin 1024) (k : Fin 256) : iblk m c 7 t (ix2 i k) = V m c main_v20 (ix2 i k) := by
  show V m c main_v20 _ = _
  blk_ext [(idx t).2.2.2.2.2.2.2.2.2.2.2.2.2.2.2.2.1]

theorem blk8 (i : Fin 1024) (k : Fin 128) : iblk m c 8 t (ix2 i k) = V m c main_v21 (ix2 i k) := by
  show V m c main_v21 _ = _
  blk_ext [(idx t).2.2.2.2.2.2.2.2.2.2.2.2.2.2.2.2.2.1]

theorem blk9 (i : Fin 1024) (k : Fin 512) : iblk m c 9 t (ix2 i k) = V m c main_v22 (ix2 i k) := by
  show V m c main_v22 _ = _
  blk_ext [(idx t).2.2.2.2.2.2.2.2.2.2.2.2.2.2.2.2.2.2.1]

theorem blk10 (i : Fin 1024) (k : Fin 1536) : iblk m c 10 t (ix2 i k) = V m c main_v23 (ix2 i k) := by
  show V m c main_v23 _ = _
  blk_ext [(idx t).2.2.2.2.2.2.2.2.2.2.2.2.2.2.2.2.2.2.2.1]

theorem blk11 (i : Fin 1024) (k : Fin 128) : iblk m c 11 t (ix2 i k) = V m c main_v24 (ix2 i k) := by
  show V m c main_v24 _ = _
  blk_ext [(idx t).2.2.2.2.2.2.2.2.2.2.2.2.2.2.2.2.2.2.2.2.1]

theorem blk12 (i : Fin 1024) (k : Fin 512) : iblk m c 12 t (ix2 i k) = V m c main_v25 (ix2 i k) := by
  show V m c main_v25 _ = _
  blk_ext [(idx t).2.2.2.2.2.2.2.2.2.2.2.2.2.2.2.2.2.2.2.2.2]

/-! ### The sums start at zero -/

section
variable (X : Ins Ideal)

theorem cleared_y1 (k : Fin 1) (e : Fin 1024) : X.cleared.y1 (ix2 k e) = 0 := by unfold Ins.cleared k0_pay1; pointwise
theorem cleared_y2 (k : Fin 1) (e : Fin 1024) : X.cleared.y2 (ix2 k e) = 0 := by unfold Ins.cleared k0_pay2; pointwise
theorem cleared_y3 (k : Fin 1) (e : Fin 1024) : X.cleared.y3 (ix2 k e) = 0 := by unfold Ins.cleared k0_pay3; pointwise
theorem cleared_y4 (k : Fin 1) (e : Fin 1024) : X.cleared.y4 (ix2 k e) = 0 := by unfold Ins.cleared k0_pay4; pointwise
theorem cleared_y5 (k : Fin 1) (e : Fin 1024) : X.cleared.y5 (ix2 k e) = 0 := by unfold Ins.cleared k0_pay5; pointwise
theorem cleared_y6 (k : Fin 1024) (e : Fin 384) : X.cleared.y6 (ix2 k e) = 0 := by unfold Ins.cleared k0_pay6; pointwise
theorem cleared_y7 (k : Fin 1024) (e : Fin 256) : X.cleared.y7 (ix2 k e) = 0 := by unfold Ins.cleared k0_pay7; pointwise
theorem cleared_y8 (k : Fin 1024) (e : Fin 128) : X.cleared.y8 (ix2 k e) = 0 := by unfold Ins.cleared k0_pay8; pointwise
theorem cleared_y9 (k : Fin 1024) (e : Fin 512) : X.cleared.y9 (ix2 k e) = 0 := by unfold Ins.cleared k0_pay9; pointwise
theorem cleared_y10 (k : Fin 1024) (e : Fin 1536) : X.cleared.y10 (ix2 k e) = 0 := by unfold Ins.cleared k0_pay10; pointwise
theorem cleared_y11 (k : Fin 1024) (e : Fin 128) : X.cleared.y11 (ix2 k e) = 0 := by unfold Ins.cleared k0_pay11; pointwise
theorem cleared_y12 (k : Fin 1024) (e : Fin 512) : X.cleared.y12 (ix2 k e) = 0 := by unfold Ins.cleared k0_pay12; pointwise

end

/-! ### A point's rows are the program's -/

theorem x_row (i : Fin 512) : (blks m c t).x i = (krow m c (rowOf t i)).x := funext fun k => blk0 m c t i k

theorem w_row (r : Fin 8192) : (blks m c t).w = (krow m c r).w := funext fun k => (blk1 m c t 0 k).trans (V_v3 m c k)

theorem sc_row (r : Fin 8192) : (blks m c t).sc = (krow m c r).sc := funext fun k => by
  have ha : (blks m c t).a k = (krow m c r).a k := blk2 m c t 0 k
  have hb : (blks m c t).b k = (krow m c r).b k := (blk3 m c t 0 k).trans (V_v4 m c k)
  unfold Ins.sc Row.sc
  rw [ha, hb, add_assoc]

theorem h_row (i : Fin 512) : (blks m c t).h i = (krow m c (rowOf t i)).h := funext fun k => by
  have hs : (blks m c t).s k = (krow m c (rowOf t i)).s k := blk4 m c t 0 k
  have ht : (blks m c t).t k = (krow m c (rowOf t i)).t k := (blk5 m c t 0 k).trans (V_v5 m c k)
  unfold Ins.h Row.h
  rw [x_row, w_row m c t (rowOf t i), sc_row m c t (rowOf t i), hs, ht, add_assoc]

theorem x13_row (i : Fin 512) (e : Fin 384) : (blks m c t).x13 (ix2 i e) = (krow m c (rowOf t i)).gq e := blk13 m c t i e

theorem x6_row (r : Fin 8192) (k : Fin 1024) (e : Fin 384) : (blks m c t).x6 (ix2 k e) = (krow m c r).U k ⟨e.val, by omega⟩ :=
  (blk6 m c t k e).trans (V_v19 m c k e)

theorem x14_row (i : Fin 512) (e : Fin 256) : (blks m c t).x14 (ix2 i e) = (krow m c (rowOf t i)).gk e := blk14 m c t i e

theorem x7_row (r : Fin 8192) (k : Fin 1024) (e : Fin 256) : (blks m c t).x7 (ix2 k e) = (krow m c r).U k ⟨384 + e.val, by omega⟩ :=
  (blk7 m c t k e).trans (V_v20 m c k e)

theorem x15_row (i : Fin 512) (e : Fin 128) : (blks m c t).x15 (ix2 i e) = (krow m c (rowOf t i)).P e :=
  (blk15 m c t i e).trans (V_v2 m c _ e)

theorem x8_row (r : Fin 8192) (k : Fin 1024) (e : Fin 128) : (blks m c t).x8 (ix2 k e) = (krow m c r).VP k e :=
  (blk8 m c t k e).trans (V_v21 m c r k e)

theorem x16_row (i : Fin 512) (e : Fin 512) : (blks m c t).x16 (ix2 i e) = (krow m c (rowOf t i)).gz e := blk16 m c t i e

theorem x9_row (r : Fin 8192) (k : Fin 1024) (e : Fin 512) : (blks m c t).x9 (ix2 k e) = (krow m c r).U k ⟨704 + e.val, by omega⟩ :=
  (blk9 m c t k e).trans (V_v22 m c k e)

theorem x17_row (i : Fin 512) (e : Fin 1536) : (blks m c t).x17 (ix2 i e) = (krow m c (rowOf t i)).gc e := blk17 m c t i e

theorem x10_row (r : Fin 8192) (k : Fin 1024) (e : Fin 1536) : (blks m c t).x10 (ix2 k e) = (krow m c r).U k ⟨1216 + e.val, by omega⟩ :=
  (blk10 m c t k e).trans (V_v23 m c k e)

theorem x18_row (i : Fin 512) (e : Fin 128) : (blks m c t).x18 (ix2 i e) = (krow m c (rowOf t i)).B e :=
  (blk18 m c t i e).trans (V_v1 m c _ e)

theorem x11_row (r : Fin 8192) (k : Fin 1024) (e : Fin 128) : (blks m c t).x11 (ix2 k e) = (krow m c r).VB k e :=
  (blk11 m c t k e).trans (V_v24 m c r k e)

theorem x19_row (i : Fin 512) (e : Fin 512) : (blks m c t).x19 (ix2 i e) = (krow m c (rowOf t i)).gg e := blk19 m c t i e

theorem x12_row (r : Fin 8192) (k : Fin 1024) (e : Fin 512) : (blks m c t).x12 (ix2 k e) = (krow m c r).U k ⟨2760 + e.val, by omega⟩ :=
  (blk12 m c t k e).trans (V_v25 m c k e)

/-- Every row is finite where the shared key's products need it. -/
abbrev Finite : Prop := ∀ i, (krow m c i).Finite

theorem dh_row (hX : Finite m c) (i : Fin 512) (k : Fin 1024) : (blks m c t).dh i k = (krow m c (rowOf t i)).dh k := by
  rw [← (hX _).dh_eq]
  unfold Ins.dh Row.kdh
  simp only [x13_row, x6_row m c t (rowOf t i), x14_row, x7_row m c t (rowOf t i), x15_row, x8_row m c t (rowOf t i), x16_row, x9_row m c t (rowOf t i), x17_row, x10_row m c t (rowOf t i), x18_row, x11_row m c t (rowOf t i), x19_row, x12_row m c t (rowOf t i)]

/-! ### The arrays at the end -/

/-- The rows of all tiles are all rows. -/
theorem sum_rows (g : Fin 8192 → EReal) : ∑ t : Fin cfg0.N, ∑ i : Fin 512, g (rowOf t i) = ∑ i, g i := Fin.sum_mul_add_fin 16 512 g

/-- What an accumulator holds after the last point, from what each point adds to it. -/
theorem acc_last {ι : Type} (f : (n : Nat) → n < cfg0.N → ι → EReal) (z : ι → EReal) (a : Fin cfg0.N → ι → EReal)
    (h0 : ∀ t : Fin cfg0.N, t.val % 16 = 0 → ∀ j, f t.val t.isLt j = z j + a t j)
    (hs : ∀ t : Fin cfg0.N, ¬ t.val % 16 = 0 → ∀ j, f t.val t.isLt j = f (t.val - 1) (by omega) j + a t j)
    (j : ι) (hz : z j = 0) (g : Fin 8192 → EReal) (ha : ∀ t, a t j = ∑ i : Fin 512, g (rowOf t i)) :
    f t0_15.val t0_15.isLt j = ∑ i, g i := by
  rw [Pipeline.eq_sum_fin_of_reset_step_apply_last f 16 z a h0 hs (by decide +kernel) t0_15 rfl j, hz, zero_add]
  simp only [ha]
  exact sum_rows g

/-- At every point the outputs are a step over some sums. -/
theorem outs_step : ∃ A, outs m c t.val t.isLt = (blks m c t).step A := by
  by_cases h : t.val % 16 = 0
  · exact ⟨_, outs_first m c t h⟩
  · exact ⟨_, outs_next m c t h⟩

theorem final21 (hX : Finite m c) : (dats m 0 c).arrAt 21 cfg0.N = (fun j => (krow m c (j 0)).dx (j 1) : Vec Ideal S8192x1024 .f32) := by
  refine (dats m 0 c).arrAt_eq_of_covers 21 _ (by decide +kernel) fun t hf y => ?_
  blk_simp
  idx_vars y
  obtain ⟨A, hA⟩ := outs_step m c t
  have hs : (blks m c t).x20 (ix2 y0 y1) = (krow m c (rowOf t y0)).sk y1 := blk20 m c t y0 y1
  have e : (outs m c t.val t.isLt).y0 (ix2 y0 y1) = (krow m c (rowOf t y0)).dx y1 := by
    rw [hA, Ins.y0_at, x_row, hs]
    simp only [dh_row m c t hX, w_row m c t (rowOf t y0), sc_row m c t (rowOf t y0)]
    rfl
  refine e.trans ?_
  refine congrArg₂ (fun i k => (krow m c i).dx k) ?_ ?_ <;> apply Fin.ext <;> blk_simp [(idx t).2.2.2.2.2.2.2.2.2.1]

theorem final22 (hX : Finite m c) : (dats m 0 c).arrAt 22 cfg0.N = (fun j => ∑ i, (krow m c i).dw (j 1) : Vec Ideal S1x1024 .f32) := by
  refine (dats m 0 c).arrAt_eq_of_after_last 22 t0_15 (by decide +kernel) _ fun j => ?_
  blk_simp
  idx_vars j
  obtain rfl : j0 = 0 := Subsingleton.elim _ _
  refine acc_last (fun n hn (k : Fin 1024) => (outs m c n hn).y1 (ix2 0 k)) (fun _ => 0) (fun t k => ∑ i, nrm n1024 ((blks m c t).x i) k * ((blks m c t).dh i k * (blks m c t).sc k))
    (fun t h k => by rw [outs_first m c t h]; exact ((blks m c t).y1_at _ k).trans (by rw [cleared_y1]))
    (fun t h k => by rw [outs_next m c t h]; exact (blks m c t).y1_at _ k) j1 rfl (fun i => (krow m c i).dw j1) fun t => ?_
  refine Finset.sum_congr rfl fun i _ => ?_
  rw [x_row, dh_row m c t hX, sc_row m c t (rowOf t i)]; rfl

theorem final23 (hX : Finite m c) : (dats m 0 c).arrAt 23 cfg0.N = (fun j => ∑ i, (krow m c i).da (j 1) : Vec Ideal S1x1024 .f32) := by
  refine (dats m 0 c).arrAt_eq_of_after_last 23 t0_15 (by decide +kernel) _ fun j => ?_
  blk_simp
  idx_vars j
  obtain rfl : j0 = 0 := Subsingleton.elim _ _
  refine acc_last (fun n hn (k : Fin 1024) => (outs m c n hn).y2 (ix2 0 k)) (fun _ => 0) (fun t k => ∑ i, nrm n1024 ((blks m c t).x i) k * (blks m c t).w k * (blks m c t).dh i k)
    (fun t h k => by rw [outs_first m c t h]; exact ((blks m c t).y2_at _ k).trans (by rw [cleared_y2]))
    (fun t h k => by rw [outs_next m c t h]; exact (blks m c t).y2_at _ k) j1 rfl (fun i => (krow m c i).da j1) fun t => ?_
  refine Finset.sum_congr rfl fun i _ => ?_
  rw [x_row, dh_row m c t hX, w_row m c t (rowOf t i)]; rfl

theorem final24 (hX : Finite m c) : (dats m 0 c).arrAt 24 cfg0.N = (fun j => ∑ i, (krow m c i).da (j 1) : Vec Ideal S1x1024 .f32) := by
  refine (dats m 0 c).arrAt_eq_of_after_last 24 t0_15 (by decide +kernel) _ fun j => ?_
  blk_simp
  idx_vars j
  obtain rfl : j0 = 0 := Subsingleton.elim _ _
  refine acc_last (fun n hn (k : Fin 1024) => (outs m c n hn).y3 (ix2 0 k)) (fun _ => 0) (fun t k => ∑ i, nrm n1024 ((blks m c t).x i) k * (blks m c t).w k * (blks m c t).dh i k)
    (fun t h k => by rw [outs_first m c t h]; exact ((blks m c t).y3_at _ k).trans (by rw [cleared_y3]))
    (fun t h k => by rw [outs_next m c t h]; exact (blks m c t).y3_at _ k) j1 rfl (fun i => (krow m c i).da j1) fun t => ?_
  refine Finset.sum_congr rfl fun i _ => ?_
  rw [x_row, dh_row m c t hX, w_row m c t (rowOf t i)]; rfl

theorem final25 (hX : Finite m c) : (dats m 0 c).arrAt 25 cfg0.N = (fun j => ∑ i, (krow m c i).dh (j 1) : Vec Ideal S1x1024 .f32) := by
  refine (dats m 0 c).arrAt_eq_of_after_last 25 t0_15 (by decide +kernel) _ fun j => ?_
  blk_simp
  idx_vars j
  obtain rfl : j0 = 0 := Subsingleton.elim _ _
  refine acc_last (fun n hn (k : Fin 1024) => (outs m c n hn).y4 (ix2 0 k)) (fun _ => 0) (fun t k => ∑ i, (blks m c t).dh i k)
    (fun t h k => by rw [outs_first m c t h]; exact ((blks m c t).y4_at _ k).trans (by rw [cleared_y4]))
    (fun t h k => by rw [outs_next m c t h]; exact (blks m c t).y4_at _ k) j1 rfl (fun i => (krow m c i).dh j1) fun t => ?_
  refine Finset.sum_congr rfl fun i _ => ?_
  rw [dh_row m c t hX]

theorem final26 (hX : Finite m c) : (dats m 0 c).arrAt 26 cfg0.N = (fun j => ∑ i, (krow m c i).dh (j 1) : Vec Ideal S1x1024 .f32) := by
  refine (dats m 0 c).arrAt_eq_of_after_last 26 t0_15 (by decide +kernel) _ fun j => ?_
  blk_simp
  idx_vars j
  obtain rfl : j0 = 0 := Subsingleton.elim _ _
  refine acc_last (fun n hn (k : Fin 1024) => (outs m c n hn).y5 (ix2 0 k)) (fun _ => 0) (fun t k => ∑ i, (blks m c t).dh i k)
    (fun t h k => by rw [outs_first m c t h]; exact ((blks m c t).y5_at _ k).trans (by rw [cleared_y5]))
    (fun t h k => by rw [outs_next m c t h]; exact (blks m c t).y5_at _ k) j1 rfl (fun i => (krow m c i).dh j1) fun t => ?_
  refine Finset.sum_congr rfl fun i _ => ?_
  rw [dh_row m c t hX]

theorem final27 : (dats m 0 c).arrAt 27 cfg0.N =
    (fun j => ∑ i, (krow m c i).h (j 0) * (krow m c i).gq (j 1) : Vec Ideal S1024x384 .f32) := by
  refine (dats m 0 c).arrAt_eq_of_after_last 27 t0_15 (by decide +kernel) _ fun j => ?_
  blk_simp
  idx_vars j
  refine acc_last (fun n hn (e : Fin 384) => (outs m c n hn).y6 (ix2 j0 e)) (fun _ => 0) (fun t e => ∑ i, (blks m c t).h i j0 * (blks m c t).x13 (ix2 i e))
    (fun t h e => by rw [outs_first m c t h]; exact ((blks m c t).y6_at _ j0 e).trans (by rw [cleared_y6]))
    (fun t h e => by rw [outs_next m c t h]; exact (blks m c t).y6_at _ j0 e) j1 rfl
    (fun i => (krow m c i).h j0 * (krow m c i).gq j1) fun t => ?_
  refine Finset.sum_congr rfl fun i _ => ?_
  rw [h_row, x13_row]

theorem final28 : (dats m 0 c).arrAt 28 cfg0.N =
    (fun j => ∑ i, (krow m c i).h (j 0) * (krow m c i).gk (j 1) : Vec Ideal S1024x256 .f32) := by
  refine (dats m 0 c).arrAt_eq_of_after_last 28 t0_15 (by decide +kernel) _ fun j => ?_
  blk_simp
  idx_vars j
  refine acc_last (fun n hn (e : Fin 256) => (outs m c n hn).y7 (ix2 j0 e)) (fun _ => 0) (fun t e => ∑ i, (blks m c t).h i j0 * (blks m c t).x14 (ix2 i e))
    (fun t h e => by rw [outs_first m c t h]; exact ((blks m c t).y7_at _ j0 e).trans (by rw [cleared_y7]))
    (fun t h e => by rw [outs_next m c t h]; exact (blks m c t).y7_at _ j0 e) j1 rfl
    (fun i => (krow m c i).h j0 * (krow m c i).gk j1) fun t => ?_
  refine Finset.sum_congr rfl fun i _ => ?_
  rw [h_row, x14_row]

theorem final29 : (dats m 0 c).arrAt 29 cfg0.N =
    (fun j => ∑ i, (krow m c i).h (j 0) * (krow m c i).P (j 1) : Vec Ideal S1024x128 .f32) := by
  refine (dats m 0 c).arrAt_eq_of_after_last 29 t0_15 (by decide +kernel) _ fun j => ?_
  blk_simp
  idx_vars j
  refine acc_last (fun n hn (e : Fin 128) => (outs m c n hn).y8 (ix2 j0 e)) (fun _ => 0) (fun t e => ∑ i, (blks m c t).h i j0 * (blks m c t).x15 (ix2 i e))
    (fun t h e => by rw [outs_first m c t h]; exact ((blks m c t).y8_at _ j0 e).trans (by rw [cleared_y8]))
    (fun t h e => by rw [outs_next m c t h]; exact (blks m c t).y8_at _ j0 e) j1 rfl
    (fun i => (krow m c i).h j0 * (krow m c i).P j1) fun t => ?_
  refine Finset.sum_congr rfl fun i _ => ?_
  rw [h_row, x15_row]

theorem final30 : (dats m 0 c).arrAt 30 cfg0.N =
    (fun j => ∑ i, (krow m c i).h (j 0) * (krow m c i).gz (j 1) : Vec Ideal S1024x512 .f32) := by
  refine (dats m 0 c).arrAt_eq_of_after_last 30 t0_15 (by decide +kernel) _ fun j => ?_
  blk_simp
  idx_vars j
  refine acc_last (fun n hn (e : Fin 512) => (outs m c n hn).y9 (ix2 j0 e)) (fun _ => 0) (fun t e => ∑ i, (blks m c t).h i j0 * (blks m c t).x16 (ix2 i e))
    (fun t h e => by rw [outs_first m c t h]; exact ((blks m c t).y9_at _ j0 e).trans (by rw [cleared_y9]))
    (fun t h e => by rw [outs_next m c t h]; exact (blks m c t).y9_at _ j0 e) j1 rfl
    (fun i => (krow m c i).h j0 * (krow m c i).gz j1) fun t => ?_
  refine Finset.sum_congr rfl fun i _ => ?_
  rw [h_row, x16_row]

theorem final31 : (dats m 0 c).arrAt 31 cfg0.N =
    (fun j => ∑ i, (krow m c i).h (j 0) * (krow m c i).gc (j 1) : Vec Ideal S1024x1536 .f32) := by
  refine (dats m 0 c).arrAt_eq_of_after_last 31 t0_15 (by decide +kernel) _ fun j => ?_
  blk_simp
  idx_vars j
  refine acc_last (fun n hn (e : Fin 1536) => (outs m c n hn).y10 (ix2 j0 e)) (fun _ => 0) (fun t e => ∑ i, (blks m c t).h i j0 * (blks m c t).x17 (ix2 i e))
    (fun t h e => by rw [outs_first m c t h]; exact ((blks m c t).y10_at _ j0 e).trans (by rw [cleared_y10]))
    (fun t h e => by rw [outs_next m c t h]; exact (blks m c t).y10_at _ j0 e) j1 rfl
    (fun i => (krow m c i).h j0 * (krow m c i).gc j1) fun t => ?_
  refine Finset.sum_congr rfl fun i _ => ?_
  rw [h_row, x17_row]

theorem final32 : (dats m 0 c).arrAt 32 cfg0.N =
    (fun j => ∑ i, (krow m c i).h (j 0) * (krow m c i).B (j 1) : Vec Ideal S1024x128 .f32) := by
  refine (dats m 0 c).arrAt_eq_of_after_last 32 t0_15 (by decide +kernel) _ fun j => ?_
  blk_simp
  idx_vars j
  refine acc_last (fun n hn (e : Fin 128) => (outs m c n hn).y11 (ix2 j0 e)) (fun _ => 0) (fun t e => ∑ i, (blks m c t).h i j0 * (blks m c t).x18 (ix2 i e))
    (fun t h e => by rw [outs_first m c t h]; exact ((blks m c t).y11_at _ j0 e).trans (by rw [cleared_y11]))
    (fun t h e => by rw [outs_next m c t h]; exact (blks m c t).y11_at _ j0 e) j1 rfl
    (fun i => (krow m c i).h j0 * (krow m c i).B j1) fun t => ?_
  refine Finset.sum_congr rfl fun i _ => ?_
  rw [h_row, x18_row]

theorem final33 : (dats m 0 c).arrAt 33 cfg0.N =
    (fun j => ∑ i, (krow m c i).h (j 0) * (krow m c i).gg (j 1) : Vec Ideal S1024x512 .f32) := by
  refine (dats m 0 c).arrAt_eq_of_after_last 33 t0_15 (by decide +kernel) _ fun j => ?_
  blk_simp
  idx_vars j
  refine acc_last (fun n hn (e : Fin 512) => (outs m c n hn).y12 (ix2 j0 e)) (fun _ => 0) (fun t e => ∑ i, (blks m c t).h i j0 * (blks m c t).x19 (ix2 i e))
    (fun t h e => by rw [outs_first m c t h]; exact ((blks m c t).y12_at _ j0 e).trans (by rw [cleared_y12]))
    (fun t h e => by rw [outs_next m c t h]; exact (blks m c t).y12_at _ j0 e) j1 rfl
    (fun i => (krow m c i).h j0 * (krow m c i).gg j1) fun t => ?_
  refine Finset.sum_congr rfl fun i _ => ?_
  rw [h_row, x19_row]

end Cert.FrontBwdIdeal.Front
-- ==== Proof.FrontRef.lean ====
/- The reference of the front backward, read at an index: every result is the row functions of its row, the parameters' gradients
   their sums over all rows. -/
module

public import proofs.«01_k».proof.Proof.FrontRow
public import proofs.«01_k».proof.Proof.Gen.FrontBwdRefIdeal.Read
public import Idealize.ShloMosaic.Lib.Pointwise
public import Idealize.ShloMosaic.Lib.IdealHost

@[expose] public section

set_option maxRecDepth 16384

noncomputable section

namespace Cert.FrontBwdRefIdeal.FrontRef

open Cert.FrontBwdRefIdeal Cert.FrontBwdRefIdeal.Read Idealize.ShloMosaic Cert.Front Cert.RowMath
open Cert.Mla (other)

/-- The arguments: the rows, the norm's five parameters, the projection, the nine cotangents of its parts, that of the rows. -/
structure Args where
  x0 : FVec Ideal S8192x1024 .f32
  x1 : FVec Ideal S1024 .f32
  x2 : FVec Ideal S1x1024 .f32
  x3 : FVec Ideal S1024 .f32
  x4 : FVec Ideal S1x1024 .f32
  x5 : FVec Ideal S1024 .f32
  x6 : FVec Ideal S1024x3272 .f32
  x7 : FVec Ideal S8192x384 .f32
  x8 : FVec Ideal S8192x256 .f32
  x9 : FVec Ideal S8192x64 .f32
  x10 : FVec Ideal S8192x64 .f32
  x11 : FVec Ideal S8192x512 .f32
  x12 : FVec Ideal S8192x1536 .f32
  x13 : FVec Ideal S8192x4 .f32
  x14 : FVec Ideal S8192x4 .f32
  x15 : FVec Ideal S8192x512 .f32
  x16 : FVec Ideal S8192x1024 .f32

namespace Args

variable (A : Args)

/-- Row `i` of the arguments. -/
def row (i : Fin 8192) : Row where
  x k := A.x0 (ix2 i k)
  w k := A.x1 (ix1 k)
  a k := A.x2 (ix2 0 k)
  b k := A.x3 (ix1 k)
  s k := A.x4 (ix2 0 k)
  t k := A.x5 (ix1 k)
  U k j := A.x6 (ix2 k j)
  gq l := A.x7 (ix2 i l)
  gk l := A.x8 (ix2 i l)
  gp l := A.x9 (ix2 i l)
  gs l := A.x10 (ix2 i l)
  gz l := A.x11 (ix2 i l)
  gc l := A.x12 (ix2 i l)
  ga l := A.x13 (ix2 i l)
  gb l := A.x14 (ix2 i l)
  gg l := A.x15 (ix2 i l)
  sk k := A.x16 (ix2 i k)

abbrev v9 := val_main_v9 (F := Ideal) A.x0
abbrev v10 := val_main_v10 (F := Ideal) A.x0
abbrev v13 := val_main_v13 (F := Ideal) A.x0
abbrev v15 := val_main_v15 (F := Ideal) A.x0
abbrev v17 := val_main_v17 (F := Ideal) A.x0 A.x1
abbrev v20 := val_main_v20 (F := Ideal) A.x2 A.x3
abbrev v25 := val_main_v25 (F := Ideal) A.x0 A.x1 A.x2 A.x3 A.x4 A.x5
abbrev v43 := val_main_v43 (F := Ideal) A.x9 A.x10
abbrev v44 := val_main_v44 (F := Ideal) A.x7 A.x8 A.x9 A.x10 A.x11 A.x12 A.x13 A.x14 A.x15
abbrev v46 := val_main_v46 (F := Ideal) A.x0 A.x1 A.x2 A.x3 A.x4 A.x5 A.x7 A.x8 A.x9 A.x10 A.x11 A.x12 A.x13 A.x14 A.x15
abbrev v47 := val_main_v47 (F := Ideal) A.x6 A.x7 A.x8 A.x9 A.x10 A.x11 A.x12 A.x13 A.x14 A.x15
abbrev v49 := val_main_v49 (F := Ideal) A.x6 A.x7 A.x8 A.x9 A.x10 A.x11 A.x12 A.x13 A.x14 A.x15
abbrev v52 := val_main_v52 (F := Ideal) A.x0 A.x1 A.x6 A.x7 A.x8 A.x9 A.x10 A.x11 A.x12 A.x13 A.x14 A.x15
abbrev v54 := val_main_v54 (F := Ideal) A.x2 A.x3 A.x6 A.x7 A.x8 A.x9 A.x10 A.x11 A.x12 A.x13 A.x14 A.x15
abbrev v57 := val_main_v57 (F := Ideal) A.x0 A.x2 A.x3 A.x6 A.x7 A.x8 A.x9 A.x10 A.x11 A.x12 A.x13 A.x14 A.x15
abbrev v59 := val_main_v59 (F := Ideal) A.x1 A.x2 A.x3 A.x6 A.x7 A.x8 A.x9 A.x10 A.x11 A.x12 A.x13 A.x14 A.x15
abbrev v74 := val_main_v74 (F := Ideal) A.x0 A.x1 A.x2 A.x3 A.x6 A.x7 A.x8 A.x9 A.x10 A.x11 A.x12 A.x13 A.x14 A.x15 A.x16

theorem v9_at (i : Fin 8192) (z : Fin 1) : A.v9 (ix2 i z) = ms n1024 (A.row i).x := by
  unfold v9 val_main_v9 val_main_v8 val_main_v7 val_main_v6 val_main_v5 val_main_v4 val_main_v3
  pointwise [val_main_cst, val_main_cst_0, val_main_cst_1]
  rfl

theorem v10_at (i : Fin 8192) (z : Fin 1) : A.v10 (ix2 i z) = rs n1024 (A.row i).x := by
  unfold v10 val_main_v10
  pointwise [v9_at]
  rfl

theorem v13_at (i : Fin 8192) (z : Fin 1) :
    A.v13 (ix2 i z) = negHalf * Ideal.div (rs n1024 (A.row i).x) (ms n1024 (A.row i).x) := by
  unfold v13 val_main_v13 val_main_v12 val_main_v11
  pointwise [val_main_cst_2, v9_at, v10_at]
  rfl

theorem v15_at (i : Fin 8192) (k : Fin 1024) : A.v15 (ix2 i k) = nrm n1024 (A.row i).x k := by
  unfold v15 val_main_v15 val_main_v14
  pointwise [v10_at]
  rfl

theorem v17_at (i : Fin 8192) (k : Fin 1024) : A.v17 (ix2 i k) = nrm n1024 (A.row i).x k * (A.row i).w k := by
  unfold v17 val_main_v17 val_main_v16 val_main_v0
  pointwise [v15_at]
  rfl

theorem v20_at (i : Fin 8192) (k : Fin 1024) : A.v20 (ix2 0 k) = (A.row i).sc k := by
  unfold v20 val_main_v20 val_main_v19 val_main_v18 val_main_v1
  pointwise [val_main_cst_3]
  rfl

theorem v25_at (i : Fin 8192) (k : Fin 1024) : A.v25 (ix2 i k) = (A.row i).h k := by
  unfold v25 val_main_v25 val_main_v24 val_main_v23 val_main_v22 val_main_v21 val_main_v2
  pointwise [v17_at, A.v20_at i]
  rfl

/-- The swapped copy's cotangent, swapped back and added. -/
theorem v43_at (i : Fin 8192) (l : Fin 64) : A.v43 (ix2 i l) = (A.row i).K l := by
  unfold v43 val_main_v43 val_main_v42 val_main_v41 val_main_v40 val_main_v39 val_main_v38
  pointwise [val_main_cst_4, val_main_cst_5]
  unfold Row.K
  by_cases k : l.val < 32
  · rw [dif_pos k, dif_neg (by omega), add_zero]
    exact congrArg (_ + ·) (congrArg (fun k => A.x10 (ix2 i k)) (Fin.ext (by simp only [other]; omega)))
  · rw [dif_neg k, dif_pos ⟨by omega, by omega⟩, add_zero]
    exact congrArg (_ + ·) (congrArg (fun k => A.x10 (ix2 i k)) (Fin.ext (by simp only [other]; omega)))

set_option maxHeartbeats 2000000 in
theorem v44_at (i : Fin 8192) (j : Fin 3272) : A.v44 (ix2 i j) = (A.row i).G j := by
  have e := A.v43_at
  unfold v43 at e
  unfold v44 val_main_v44
  pointwise [e]
  unfold Row.G Row.A
  refine dite_eq_of (fun _ => ?_) fun _ => ?_
  · rw [dif_pos (by omega)]
    exact congrArg (fun k => A.x7 (ix2 i k)) (Fin.ext (by simp only))
  refine dite_eq_of (fun _ => ?_) fun _ => ?_
  · rw [dif_neg (by omega), dif_pos (by omega)]
    exact congrArg (fun k => A.x8 (ix2 i k)) (Fin.ext (by simp only))
  refine dite_eq_of (fun _ => ?_) fun _ => ?_
  · rw [dif_neg (by omega), dif_neg (by omega), dif_pos (by omega)]
    exact congrArg (A.row i).K (Fin.ext (by simp only; omega))
  refine dite_eq_of (fun _ => ?_) fun _ => ?_
  · rw [dif_neg (by omega), dif_neg (by omega), dif_neg (by omega), dif_pos (by omega)]
    exact congrArg (fun k => A.x11 (ix2 i k)) (Fin.ext (by simp only; omega))
  refine dite_eq_of (fun _ => ?_) fun _ => ?_
  · rw [dif_neg (by omega), dif_neg (by omega), dif_neg (by omega), dif_neg (by omega), dif_pos (by omega)]
    exact congrArg (fun k => A.x12 (ix2 i k)) (Fin.ext (by simp only; omega))
  refine dite_eq_of (fun _ => ?_) fun _ => ?_
  · rw [dif_neg (by omega), dif_neg (by omega), dif_neg (by omega), dif_neg (by omega), dif_neg (by omega), dif_pos (by omega), dif_pos (by simp only; omega)]
    exact congrArg (fun k => A.x13 (ix2 i k)) (Fin.ext (by simp only; omega))
  refine dite_eq_of (fun _ => ?_) fun _ => ?_
  · rw [dif_neg (by omega), dif_neg (by omega), dif_neg (by omega), dif_neg (by omega), dif_neg (by omega), dif_pos (by omega), dif_neg (by simp only; omega)]
    exact congrArg (fun k => A.x14 (ix2 i k)) (Fin.ext (by simp only; omega))
  rw [dif_neg (by omega), dif_neg (by omega), dif_neg (by omega), dif_neg (by omega), dif_neg (by omega), dif_neg (by omega)]
  exact congrArg (fun k => A.x15 (ix2 i k)) (Fin.ext (by simp only; omega))

theorem v46_at (k : Fin 1024) (j : Fin 3272) : A.v46 (ix2 k j) = ∑ i, (A.row i).dU k j := by
  have e := A.v44_at
  have e' := A.v25_at
  unfold v44 at e
  unfold v25 at e'
  unfold v46 val_main_v46 val_main_v45
  pointwise [e, e']
  rfl

theorem v47_at (i : Fin 8192) (k : Fin 1024) : A.v47 (ix2 i k) = (A.row i).dh k := by
  have e := A.v44_at
  unfold v44 at e
  unfold v47 val_main_v47
  pointwise [e]
  rfl

theorem v49_at (k : Fin 1024) : A.v49 (ix2 0 k) = ∑ i, (A.row i).dh k := by
  unfold v49 val_main_v49 val_main_v48
  pointwise [val_main_cst_6, v47_at]

theorem v52_at (k : Fin 1024) : A.v52 (ix2 0 k) = ∑ i, (A.row i).da k := by
  unfold v52 val_main_v52 val_main_v51 val_main_v50
  pointwise [val_main_cst_7, v47_at, v17_at]
  rfl

theorem v54_at (i : Fin 8192) (k : Fin 1024) : A.v54 (ix2 i k) = (A.row i).dh k * (A.row i).sc k := by
  unfold v54 val_main_v54 val_main_v53
  pointwise [v47_at, A.v20_at i]

theorem v57_at (k : Fin 1024) : A.v57 (ix2 0 k) = ∑ i, (A.row i).dw k := by
  unfold v57 val_main_v57 val_main_v56 val_main_v55
  pointwise [val_main_cst_8, v54_at, v15_at]
  rfl

theorem v59_at (i : Fin 8192) (k : Fin 1024) : A.v59 (ix2 i k) = (A.row i).dh k * (A.row i).sc k * (A.row i).w k := by
  unfold v59 val_main_v59 val_main_v58 val_main_v0
  pointwise [v54_at]
  rfl

theorem v74_at (i : Fin 8192) (k : Fin 1024) : A.v74 (ix2 i k) = (A.row i).dx k := by
  unfold v74 val_main_v74 val_main_v73 val_main_v72 val_main_v71 val_main_v70 val_main_v69 val_main_v68 val_main_v67 val_main_v66 val_main_v65 val_main_v64 val_main_v63 val_main_v62 val_main_v61 val_main_v60
  pointwise [val_main_cst_9, val_main_cst_10, val_main_cst_11, v59_at, v10_at, v13_at]
  simp only [Finset.univ_unique, Finset.sum_const, Finset.card_singleton, one_smul]
  unfold Row.dx back
  rw [add_comm _ ((A.row i).sk k), ← add_assoc, ← add_assoc]
  rfl

end Args

end Cert.FrontBwdRefIdeal.FrontRef

end
-- ==== Proof.FrontAlg.lean ====
/- The front backward and the derivative of the block's front leave the same seven arrays, where the norm's weight, the two
   scales, the two shifts, the projection and the shared key's two cotangents are finite. -/
module

public import proofs.«01_k».proof.Defs
public import proofs.«01_k».proof.Proof.FrontValue
public import proofs.«01_k».proof.Proof.FrontRef
public import proofs.«01_k».proof.Proof.FlashAlg
public import proofs.«01_k».proof.Proof.Gen.FrontBwdRefIdeal.Run

@[expose] public section

set_option maxRecDepth 16384

noncomputable section

namespace Cert.FrontBwdIdeal.Front

open Idealize.ShloMosaic Idealize.ShloMosaic.TcCoe Idealize.SL.Sem Cert.Front Cert.RowMath Gen
open Cert.Mla (other IsReal)

/-! ### The host lines after the launch -/

section
variable (W : Valuation τ sig (Elt Ideal))

/-- The projection's gradients as the launch leaves them, group by group. -/
abbrev u0 : Vec Ideal S1024x384 .f32 := W (Proc.devRef .tc main_v26_6)
abbrev u1 : Vec Ideal S1024x256 .f32 := W (Proc.devRef .tc main_v26_7)
abbrev u2 : Vec Ideal S1024x128 .f32 := W (Proc.devRef .tc main_v26_8)
abbrev u3 : Vec Ideal S1024x512 .f32 := W (Proc.devRef .tc main_v26_9)
abbrev u4 : Vec Ideal S1024x1536 .f32 := W (Proc.devRef .tc main_v26_10)
abbrev u5 : Vec Ideal S1024x128 .f32 := W (Proc.devRef .tc main_v26_11)
abbrev u6 : Vec Ideal S1024x512 .f32 := W (Proc.devRef .tc main_v26_12)

set_option maxHeartbeats 4000000 in
theorem tail_q (k : Fin 1024) (e : Fin 384) (p) :
    StableHlo.after hostOps1 W (Proc.devRef .tc main_v34) (ix2 k ⟨e.val, p⟩) = u0 W (ix2 k ⟨e.val, by omega⟩) := by
  have he := e.isLt
  unfold hostOps1
  repeat after_reads_at

set_option maxHeartbeats 4000000 in
theorem tail_k (k : Fin 1024) (e : Fin 256) (p) :
    StableHlo.after hostOps1 W (Proc.devRef .tc main_v34) (ix2 k ⟨384 + e.val, p⟩) = u1 W (ix2 k ⟨e.val, by omega⟩) := by
  have he := e.isLt
  unfold hostOps1
  repeat after_reads_at

set_option maxHeartbeats 4000000 in
theorem tail_p (k : Fin 1024) (e : Fin 64) (p) :
    StableHlo.after hostOps1 W (Proc.devRef .tc main_v34) (ix2 k ⟨640 + e.val, p⟩) = (u2 W (ix2 k ⟨e.val, by omega⟩) + u2 W (ix2 k ⟨64 + (other e).val, by have := (other e).isLt; omega⟩) : EReal) := by
  have he := e.isLt
  unfold hostOps1
  repeat after_reads_at
  refine dite_eq_of (fun h => absurd h (by omega)) fun _ => ?_
  refine dite_eq_of (fun h => absurd h (by omega)) fun _ => ?_
  refine dite_eq_of (fun _ => ?_) fun h => absurd (by omega) h
  refine congrArg₂ (· + ·) (congrArg (fun j => u2 W (ix2 k j)) (Fin.ext (by simp only; omega))) ?_
  refine dite_eq_of (fun _ => ?_) fun _ => ?_
  all_goals exact congrArg (fun j => u2 W (ix2 k j)) (Fin.ext (by simp only [other]; omega))

set_option maxHeartbeats 4000000 in
theorem tail_z (k : Fin 1024) (e : Fin 512) (p) :
    StableHlo.after hostOps1 W (Proc.devRef .tc main_v34) (ix2 k ⟨704 + e.val, p⟩) = u3 W (ix2 k ⟨e.val, by omega⟩) := by
  have he := e.isLt
  unfold hostOps1
  repeat after_reads_at
  refine dite_eq_of (fun h => absurd h (by omega)) fun _ => ?_
  refine dite_eq_of (fun h => absurd h (by omega)) fun _ => ?_
  refine dite_eq_of (fun h => absurd h (by omega)) fun _ => ?_
  refine dite_eq_of (fun _ => ?_) fun h => absurd (by omega) h
  exact congrArg (fun j => u3 W (ix2 k j)) (Fin.ext (by simp only; omega))

set_option maxHeartbeats 4000000 in
theorem tail_c (k : Fin 1024) (e : Fin 1536) (p) :
    StableHlo.after hostOps1 W (Proc.devRef .tc main_v34) (ix2 k ⟨1216 + e.val, p⟩) = u4 W (ix2 k ⟨e.val, by omega⟩) := by
  have he := e.isLt
  unfold hostOps1
  repeat after_reads_at
  refine dite_eq_of (fun h => absurd h (by omega)) fun _ => ?_
  refine dite_eq_of (fun h => absurd h (by omega)) fun _ => ?_
  refine dite_eq_of (fun h => absurd h (by omega)) fun _ => ?_
  refine dite_eq_of (fun h => absurd h (by omega)) fun _ => ?_
  refine dite_eq_of (fun _ => ?_) fun h => absurd (by omega) h
  exact congrArg (fun j => u4 W (ix2 k j)) (Fin.ext (by simp only; omega))

set_option maxHeartbeats 4000000 in
theorem tail_a (k : Fin 1024) (e : Fin 8) (p) :
    StableHlo.after hostOps1 W (Proc.devRef .tc main_v34) (ix2 k ⟨2752 + e.val, p⟩) = u5 W (ix2 k ⟨e.val, by omega⟩) := by
  have he := e.isLt
  unfold hostOps1
  repeat after_reads_at
  refine dite_eq_of (fun h => absurd h (by omega)) fun _ => ?_
  refine dite_eq_of (fun h => absurd h (by omega)) fun _ => ?_
  refine dite_eq_of (fun h => absurd h (by omega)) fun _ => ?_
  refine dite_eq_of (fun h => absurd h (by omega)) fun _ => ?_
  refine dite_eq_of (fun h => absurd h (by omega)) fun _ => ?_
  refine dite_eq_of (fun _ => ?_) fun h => absurd (by omega) h
  exact congrArg (fun j => u5 W (ix2 k j)) (Fin.ext (by simp only; omega))

set_option maxHeartbeats 4000000 in
theorem tail_g (k : Fin 1024) (e : Fin 512) (p) :
    StableHlo.after hostOps1 W (Proc.devRef .tc main_v34) (ix2 k ⟨2760 + e.val, p⟩) = u6 W (ix2 k ⟨e.val, by omega⟩) := by
  have he := e.isLt
  unfold hostOps1
  repeat after_reads_at
  refine dite_eq_of (fun h => absurd h (by omega)) fun _ => ?_
  refine dite_eq_of (fun h => absurd h (by omega)) fun _ => ?_
  refine dite_eq_of (fun h => absurd h (by omega)) fun _ => ?_
  refine dite_eq_of (fun h => absurd h (by omega)) fun _ => ?_
  refine dite_eq_of (fun h => absurd h (by omega)) fun _ => ?_
  refine dite_eq_of (fun h => absurd h (by omega)) fun _ => ?_
  exact congrArg (fun j => u6 W (ix2 k j)) (Fin.ext (by simp only; omega))

end

/-- The projection's columns, group by group. -/
theorem by_group {Q : Fin 3272 → Prop} (h0 : ∀ (e : Fin 384) (p), Q ⟨e.val, p⟩) (h1 : ∀ (e : Fin 256) (p), Q ⟨384 + e.val, p⟩) (h2 : ∀ (e : Fin 64) (p), Q ⟨640 + e.val, p⟩) (h3 : ∀ (e : Fin 512) (p), Q ⟨704 + e.val, p⟩) (h4 : ∀ (e : Fin 1536) (p), Q ⟨1216 + e.val, p⟩) (h5 : ∀ (e : Fin 8) (p), Q ⟨2752 + e.val, p⟩) (h6 : ∀ (e : Fin 512) (p), Q ⟨2760 + e.val, p⟩) (j : Fin 3272) : Q j := by
  have at_ {n : Nat} (o : Nat) (h : ∀ (e : Fin n) (p), Q ⟨o + e.val, p⟩) (a : o ≤ j.val) (b : j.val < o + n) : Q j := by
    have e : (⟨o + (j.val - o), by omega⟩ : Fin 3272) = j := Fin.ext (by simp only; omega)
    exact e ▸ h ⟨j.val - o, by omega⟩ (by simp only; omega)
  have hj := j.isLt
  by_cases k1 : j.val < 384; · exact h0 ⟨j.val, k1⟩ hj
  by_cases k2 : j.val < 640; · exact at_ 384 h1 (by omega) (by omega)
  by_cases k3 : j.val < 704; · exact at_ 640 h2 (by omega) (by omega)
  by_cases k4 : j.val < 1216; · exact at_ 704 h3 (by omega) (by omega)
  by_cases k5 : j.val < 2752; · exact at_ 1216 h4 (by omega) (by omega)
  by_cases k6 : j.val < 2760; · exact at_ 2752 h5 (by omega) (by omega)
  exact at_ 2760 h6 (by omega) (by omega)

/-! ### The precondition -/

section
variable [Cert.Pre_front_finite.Facts] {m : (ℓ : Loc nD τ sig) → Buf (Elt Ideal) ℓ}

theorem finite_row (h : Cert.Pre_FrontBwdIdeal_front_finite m) (c : Dev nD) : Finite m c := fun i => {
  w := fun k => ⟨_, Cert.FlashBwdIdeal.FlashAlg.finite_real _ (congrFun (h c).1 (ix1 k))⟩
  a := fun k => ⟨_, Cert.FlashBwdIdeal.FlashAlg.finite_real _ (congrFun (h c).2.1 (ix2 0 k))⟩
  b := fun k => ⟨_, Cert.FlashBwdIdeal.FlashAlg.finite_real _ (congrFun (h c).2.2.1 (ix1 k))⟩
  s := fun k => ⟨_, Cert.FlashBwdIdeal.FlashAlg.finite_real _ (congrFun (h c).2.2.2.1 (ix2 0 k))⟩
  t := fun k => ⟨_, Cert.FlashBwdIdeal.FlashAlg.finite_real _ (congrFun (h c).2.2.2.2.1 (ix1 k))⟩
  U := fun k j => ⟨_, Cert.FlashBwdIdeal.FlashAlg.finite_real _ (congrFun (h c).2.2.2.2.2.1 (ix2 k j))⟩
  gp := fun l => ⟨_, Cert.FlashBwdIdeal.FlashAlg.finite_real _ (congrFun (h c).2.2.2.2.2.2.1 (ix2 i l))⟩
  gs := fun l => ⟨_, Cert.FlashBwdIdeal.FlashAlg.finite_real _ (congrFun (h c).2.2.2.2.2.2.2 (ix2 i l))⟩ }

/-! ### The kernel's run -/

variable (m) in
/-- What the launch and the lines before it leave, as the lines after it find it. -/
abbrev left (c : Dev nD) : Valuation τ sig (Elt Ideal) := Pipeline.withArrays spec0 c (V0 m c) fun w => (dats m 0 c).arrAt w cfg0.N

theorem left_q (c : Dev nD) (k : Fin 1024) (e : Fin 384) : u0 (left m c) (ix2 k e) = (∑ i, (krow m c i).h k * (krow m c i).gq e : EReal) := by
  have h : u0 (left m c) = (fun j => ∑ i, (krow m c i).h (j 0) * (krow m c i).gq (j 1) : Vec Ideal S1024x384 .f32) :=
    (Pipeline.withArrays_arr spec0 launch0.win.arr_inj c (V0 m c) _ 27).trans (final27 m c)
  rw [h]
  rfl

theorem left_k (c : Dev nD) (k : Fin 1024) (e : Fin 256) : u1 (left m c) (ix2 k e) = (∑ i, (krow m c i).h k * (krow m c i).gk e : EReal) := by
  have h : u1 (left m c) = (fun j => ∑ i, (krow m c i).h (j 0) * (krow m c i).gk (j 1) : Vec Ideal S1024x256 .f32) :=
    (Pipeline.withArrays_arr spec0 launch0.win.arr_inj c (V0 m c) _ 28).trans (final28 m c)
  rw [h]
  rfl

theorem left_p (c : Dev nD) (k : Fin 1024) (e : Fin 128) : u2 (left m c) (ix2 k e) = (∑ i, (krow m c i).h k * (krow m c i).P e : EReal) := by
  have h : u2 (left m c) = (fun j => ∑ i, (krow m c i).h (j 0) * (krow m c i).P (j 1) : Vec Ideal S1024x128 .f32) :=
    (Pipeline.withArrays_arr spec0 launch0.win.arr_inj c (V0 m c) _ 29).trans (final29 m c)
  rw [h]
  rfl

theorem left_z (c : Dev nD) (k : Fin 1024) (e : Fin 512) : u3 (left m c) (ix2 k e) = (∑ i, (krow m c i).h k * (krow m c i).gz e : EReal) := by
  have h : u3 (left m c) = (fun j => ∑ i, (krow m c i).h (j 0) * (krow m c i).gz (j 1) : Vec Ideal S1024x512 .f32) :=
    (Pipeline.withArrays_arr spec0 launch0.win.arr_inj c (V0 m c) _ 30).trans (final30 m c)
  rw [h]
  rfl

theorem left_c (c : Dev nD) (k : Fin 1024) (e : Fin 1536) : u4 (left m c) (ix2 k e) = (∑ i, (krow m c i).h k * (krow m c i).gc e : EReal) := by
  have h : u4 (left m c) = (fun j => ∑ i, (krow m c i).h (j 0) * (krow m c i).gc (j 1) : Vec Ideal S1024x1536 .f32) :=
    (Pipeline.withArrays_arr spec0 launch0.win.arr_inj c (V0 m c) _ 31).trans (final31 m c)
  rw [h]
  rfl

theorem left_a (c : Dev nD) (k : Fin 1024) (e : Fin 128) : u5 (left m c) (ix2 k e) = (∑ i, (krow m c i).h k * (krow m c i).B e : EReal) := by
  have h : u5 (left m c) = (fun j => ∑ i, (krow m c i).h (j 0) * (krow m c i).B (j 1) : Vec Ideal S1024x128 .f32) :=
    (Pipeline.withArrays_arr spec0 launch0.win.arr_inj c (V0 m c) _ 32).trans (final32 m c)
  rw [h]
  rfl

theorem left_g (c : Dev nD) (k : Fin 1024) (e : Fin 512) : u6 (left m c) (ix2 k e) = (∑ i, (krow m c i).h k * (krow m c i).gg e : EReal) := by
  have h : u6 (left m c) = (fun j => ∑ i, (krow m c i).h (j 0) * (krow m c i).gg (j 1) : Vec Ideal S1024x512 .f32) :=
    (Pipeline.withArrays_arr spec0 launch0.win.arr_inj c (V0 m c) _ 33).trans (final33 m c)
  rw [h]
  rfl

theorem end_v34 (c : Dev nD) (hX : Finite m c) : StableHlo.after hostOps1 (left m c) (Proc.devRef .tc main_v34) =
    (fun j => ∑ i, (krow m c i).dU (j 0) (j 1) : Vec Ideal S1024x3272 .f32) := by
  funext j; idx_vars j
  show _ = ∑ i, (krow m c i).dU j0 j1
  refine by_group (Q := fun j1 => StableHlo.after hostOps1 (left m c) (Proc.devRef .tc main_v34) (ix2 j0 j1) = (∑ i, (krow m c i).dU j0 j1 : EReal))
    ?_ ?_ ?_ ?_ ?_ ?_ ?_ j1
  all_goals intro e p
  · refine (tail_q _ j0 e p).trans ((left_q c j0 _).trans (Finset.sum_congr rfl fun i _ => ?_))
    unfold Row.dU
    rw [Row.G_q, mul_comm]
  · refine (tail_k _ j0 e p).trans ((left_k c j0 _).trans (Finset.sum_congr rfl fun i _ => ?_))
    unfold Row.dU
    rw [Row.G_k, mul_comm]
  · refine (tail_p _ j0 e p).trans ?_
    rw [left_p, left_p]
    refine (Eq.symm (α := EReal) ?_)
    refine Eq.trans ?_ (Finset.sum_add_distrib (M := EReal))
    refine Finset.sum_congr rfl fun i _ => ?_
    rw [(hX i).dU_p, Row.P_lo, Row.P_hi]
  · refine (tail_z _ j0 e p).trans ((left_z c j0 _).trans (Finset.sum_congr rfl fun i _ => ?_))
    unfold Row.dU
    rw [Row.G_z, mul_comm]
  · refine (tail_c _ j0 e p).trans ((left_c c j0 _).trans (Finset.sum_congr rfl fun i _ => ?_))
    unfold Row.dU
    rw [Row.G_c, mul_comm]
  · refine (tail_a _ j0 e p).trans ((left_a c j0 _).trans (Finset.sum_congr rfl fun i _ => ?_))
    unfold Row.dU
    rw [Row.G_a, Row.B_lo, mul_comm]
  · refine (tail_g _ j0 e p).trans ((left_g c j0 _).trans (Finset.sum_congr rfl fun i _ => ?_))
    unfold Row.dU
    rw [Row.G_g, mul_comm]

/-- The kernel's run: its seven results. -/
theorem run_kernel (ρ : Dev nD → PrngReg) (h : Cert.Pre_FrontBwdIdeal_front_finite m) :
    θ_run (defs (F := Ideal)) (onTc (τ := τ) (main (F := Ideal))) ⟨m, fun _ => 0, ρ⟩ fun r => ∀ c : Dev nD,
      r.2.mem ((c : Thread nD τ).loc main_v26_0) = (fun j => (krow m c (j 0)).dx (j 1) : Vec Ideal S8192x1024 .f32)
      ∧ r.2.mem ((c : Thread nD τ).loc main_v26_1) = (fun j => ∑ i, (krow m c i).dw (j 1) : Vec Ideal S1x1024 .f32)
      ∧ r.2.mem ((c : Thread nD τ).loc main_v26_2) = (fun j => ∑ i, (krow m c i).da (j 1) : Vec Ideal S1x1024 .f32)
      ∧ r.2.mem ((c : Thread nD τ).loc main_v26_3) = (fun j => ∑ i, (krow m c i).da (j 1) : Vec Ideal S1x1024 .f32)
      ∧ r.2.mem ((c : Thread nD τ).loc main_v26_4) = (fun j => ∑ i, (krow m c i).dh (j 1) : Vec Ideal S1x1024 .f32)
      ∧ r.2.mem ((c : Thread nD τ).loc main_v26_5) = (fun j => ∑ i, (krow m c i).dh (j 1) : Vec Ideal S1x1024 .f32)
      ∧ r.2.mem ((c : Thread nD τ).loc main_v34) = (fun j => ∑ i, (krow m c i).dU (j 0) (j 1) : Vec Ideal S1024x3272 .f32) :=
  (θ_run _ _ _).mono (fun _ hr c => ⟨((hr c).1 21).trans (final21 m c (finite_row h c)),
    ((hr c).1 22).trans (final22 m c (finite_row h c)),
    ((hr c).1 23).trans (final23 m c (finite_row h c)),
    ((hr c).1 24).trans (final24 m c (finite_row h c)),
    ((hr c).1 25).trans (final25 m c (finite_row h c)),
    ((hr c).1 26).trans (final26 m c (finite_row h c)),
    ((hr c).2 main_v34 (Pipeline.mem_restRefs_of main_v34 (by decide) (by decide))).trans (end_v34 c (finite_row h c))⟩) (run_main m ρ)

end

/-- The reference's arguments. -/
def args (m' : (ℓ : Loc Cert.FrontBwdRefIdeal.nD Cert.FrontBwdRefIdeal.τ Cert.FrontBwdRefIdeal.sig) → Buf (Elt Ideal) ℓ)
    (c : Dev Cert.FrontBwdRefIdeal.nD) : Cert.FrontBwdRefIdeal.FrontRef.Args where
  x0 := m' ((c.tc : Thread _ _).loc Cert.FrontBwdRefIdeal.main_arg0)
  x1 := m' ((c.tc : Thread _ _).loc Cert.FrontBwdRefIdeal.main_arg1)
  x2 := m' ((c.tc : Thread _ _).loc Cert.FrontBwdRefIdeal.main_arg2)
  x3 := m' ((c.tc : Thread _ _).loc Cert.FrontBwdRefIdeal.main_arg3)
  x4 := m' ((c.tc : Thread _ _).loc Cert.FrontBwdRefIdeal.main_arg4)
  x5 := m' ((c.tc : Thread _ _).loc Cert.FrontBwdRefIdeal.main_arg5)
  x6 := m' ((c.tc : Thread _ _).loc Cert.FrontBwdRefIdeal.main_arg6)
  x7 := m' ((c.tc : Thread _ _).loc Cert.FrontBwdRefIdeal.main_arg7)
  x8 := m' ((c.tc : Thread _ _).loc Cert.FrontBwdRefIdeal.main_arg8)
  x9 := m' ((c.tc : Thread _ _).loc Cert.FrontBwdRefIdeal.main_arg9)
  x10 := m' ((c.tc : Thread _ _).loc Cert.FrontBwdRefIdeal.main_arg10)
  x11 := m' ((c.tc : Thread _ _).loc Cert.FrontBwdRefIdeal.main_arg11)
  x12 := m' ((c.tc : Thread _ _).loc Cert.FrontBwdRefIdeal.main_arg12)
  x13 := m' ((c.tc : Thread _ _).loc Cert.FrontBwdRefIdeal.main_arg13)
  x14 := m' ((c.tc : Thread _ _).loc Cert.FrontBwdRefIdeal.main_arg14)
  x15 := m' ((c.tc : Thread _ _).loc Cert.FrontBwdRefIdeal.main_arg15)
  x16 := m' ((c.tc : Thread _ _).loc Cert.FrontBwdRefIdeal.main_arg16)

/-- The claim: on such arguments the kernel's results are the derivative of the block's front. -/
theorem algebraic [Cert.Pre_front_finite.Facts] : Cert.algebraic_FrontBwdIdeal_FrontBwdRefIdeal_pre_front_finite := by
  intro m ρ m' ρ' hpre hag
  have hr (c : Dev nD) (i : Fin 8192) : (args m' c).row i = krow m c i := by
    obtain ⟨e0, e1, e2, e3, e4, e5, e6, e7, e8, e9, e10, e11, e12, e13, e14, e15, e16⟩ := hag c
    unfold Cert.FrontBwdRefIdeal.FrontRef.Args.row krow args
    rw [e0, e1, e2, e3, e4, e5, e6, e7, e8, e9, e10, e11, e12, e13, e14, e15, e16]
  refine ⟨_, _, _, _, _, _, _,
    (θ_run _ _ _).mono (fun r h c => ⟨(h.1 c).1, (h.1 c).2.1, (h.1 c).2.2.1, (h.1 c).2.2.2.1, (h.1 c).2.2.2.2.1, (h.1 c).2.2.2.2.2.1, (h.1 c).2.2.2.2.2.2, h.2.1 c⟩)
      (θ_run_and (run_kernel ρ hpre) (frame m ρ)),
    (θ_run _ _ _).mono (fun r h c => ?_) (Cert.FrontBwdRefIdeal.Value.run (F := Ideal) m' ρ')⟩
  obtain ⟨h0, h1, h2, h3, h4, h5, h6, hk⟩ := h c
  refine ⟨h0.trans ((Cert.FrontBwdRefIdeal.Read.val_main_v74_eq _ _).trans ?_), h1.trans ((Cert.FrontBwdRefIdeal.Read.val_main_v57_eq ..).trans ?_), h2.trans ((Cert.FrontBwdRefIdeal.Read.val_main_v52_eq ..).trans ?_), h3.trans ((Cert.FrontBwdRefIdeal.Read.val_main_v52_eq ..).trans ?_), h4.trans ((Cert.FrontBwdRefIdeal.Read.val_main_v49_eq ..).trans ?_), h5.trans ((Cert.FrontBwdRefIdeal.Read.val_main_v49_eq ..).trans ?_), h6.trans ((Cert.FrontBwdRefIdeal.Read.val_main_v46_eq ..).trans ?_), hk⟩
  · funext j; idx_vars j; exact ((args m' c).v74_at j0 j1).trans (by rw [hr])
  · funext j; idx_vars j; obtain rfl : j0 = 0 := Subsingleton.elim _ _
    exact ((args m' c).v57_at j1).trans (by simp only [hr])
  · funext j; idx_vars j; obtain rfl : j0 = 0 := Subsingleton.elim _ _
    exact ((args m' c).v52_at j1).trans (by simp only [hr])
  · funext j; idx_vars j; obtain rfl : j0 = 0 := Subsingleton.elim _ _
    exact ((args m' c).v52_at j1).trans (by simp only [hr])
  · funext j; idx_vars j; obtain rfl : j0 = 0 := Subsingleton.elim _ _
    exact ((args m' c).v49_at j1).trans (by simp only [hr])
  · funext j; idx_vars j; obtain rfl : j0 = 0 := Subsingleton.elim _ _
    exact ((args m' c).v49_at j1).trans (by simp only [hr])
  · funext j; idx_vars j; exact ((args m' c).v46_at j0 j1).trans (by simp only [hr])

end Cert.FrontBwdIdeal.Front
-- ==== Proof.TailFwdRef.lean ====
/- The tail forward's reference, read at an index: every row is the row functions of its row. -/
module

public import proofs.«01_k».proof.Proof.TailRow
public import proofs.«01_k».proof.Proof.Gen.TailFwdRefIdeal.Read
public import Idealize.ShloMosaic.Lib.Pointwise
public import Idealize.ShloMosaic.Lib.IdealHost

@[expose] public section

set_option maxRecDepth 16384

noncomputable section

namespace Cert.Tail.Row

open Idealize.ShloMosaic Cert.RowMath

/-- What the tail adds to the residual: the gate times the projected row, normed. -/
def added (R : Row) (k : Fin 1024) : EReal := R.gp k * (nrm n1024 R.y k * R.pw k)

end Cert.Tail.Row

namespace Cert.TailFwdRefIdeal.TailRef

open Cert.TailFwdRefIdeal Cert.TailFwdRefIdeal.Read Idealize.ShloMosaic Cert.Tail Cert.RowMath

/-- The arguments: the residual, the two branches' outputs and gates, the parameters. -/
structure Args where
  x0 : FVec Ideal S8192x1024 .f32
  x1 : FVec Ideal S8192x512 .f32
  x2 : FVec Ideal S8192x512 .f32
  x3 : FVec Ideal S8192x512 .f32
  x4 : FVec Ideal S8192x512 .f32
  x5 : FVec Ideal S128 .f32
  x6 : FVec Ideal S1024x1024 .f32
  x7 : FVec Ideal S1024 .f32
  x8 : FVec Ideal S1x1024 .f32
  x9 : FVec Ideal S1024 .f32

namespace Args

variable (A : Args)

/-- Row `i` of the arguments; the forward has no cotangent. -/
def row (i : Fin 8192) : Row where
  o c := A.x1 (ix2 i c)
  z c := A.x2 (ix2 i c)
  g c := A.x3 (ix2 i c)
  zg c := A.x4 (ix2 i c)
  w k := A.x5 (ix1 k)
  W c k := A.x6 (ix2 c k)
  pw k := A.x7 (ix1 k)
  gp k := A.x8 (ix2 0 k) + A.x9 (ix1 k)
  ct _ := 0

abbrev v1 := val_main_v1 (F := Ideal) A.x1 A.x2
abbrev v2 := val_main_v2 (F := Ideal) A.x3
abbrev v9 := val_main_v9 (F := Ideal) A.x3
abbrev v12 := val_main_v12 (F := Ideal) A.x3
abbrev v16 := val_main_v16 (F := Ideal) A.x3 A.x5
abbrev v17 := val_main_v17 (F := Ideal) A.x4
abbrev v19 := val_main_v19 (F := Ideal) A.x1 A.x2 A.x3 A.x4 A.x5
abbrev v20 := val_main_v20 (F := Ideal) A.x1 A.x2 A.x3 A.x4 A.x5 A.x6
abbrev v29 := val_main_v29 (F := Ideal) A.x1 A.x2 A.x3 A.x4 A.x5 A.x6
abbrev v32 := val_main_v32 (F := Ideal) A.x1 A.x2 A.x3 A.x4 A.x5 A.x6
abbrev v38 := val_main_v38 (F := Ideal) A.x0 A.x1 A.x2 A.x3 A.x4 A.x5 A.x6 A.x7 A.x8 A.x9

theorem v1_at (i : Fin 8192) (c : Fin 512) : A.v1 (ix2 i c) = (A.row i).ym c := by
  unfold v1 val_main_v1 val_main_v0 val_main_call0_v5 val_main_call0_v4 val_main_call0_v3 val_main_call0_v2 val_main_call0_v1 val_main_call0_v0
  pointwise [val_main_call0_cst, val_main_call0_cst_0]
  rfl

theorem v17_at (i : Fin 8192) (c : Fin 512) : A.v17 (ix2 i c) = si ((A.row i).zg c) := by
  unfold v17 val_main_v17 val_main_call1_v5 val_main_call1_v4 val_main_call1_v3 val_main_call1_v2 val_main_call1_v1 val_main_call1_v0
  pointwise [val_main_call1_cst, val_main_call1_cst_0]
  rfl

theorem v2_at (i : Fin 8192) (h : Fin 4) (k : Fin 128) : A.v2 (ix3 i h k) = (A.row i).head h k := by
  unfold v2 val_main_v2
  pointwise
  exact congrArg (fun c => A.x3 (ix2 i c)) (Fin.ext (by show h.val * 128 + k.val = 128 * h.val + k.val; omega))

theorem v9_at (i : Fin 8192) (h : Fin 4) (z : Fin 1) : A.v9 (ix3 i h z) = ms n128 ((A.row i).head h) := by
  unfold v9 val_main_v9 val_main_v8 val_main_v7 val_main_v6 val_main_v5 val_main_v4 val_main_v3
  pointwise [val_main_cst, val_main_cst_0, val_main_cst_1, v2_at]
  rfl

theorem v12_at (i : Fin 8192) (h : Fin 4) (k : Fin 128) : A.v12 (ix3 i h k) = nrm n128 ((A.row i).head h) k := by
  unfold v12 val_main_v12 val_main_v11 val_main_v10
  pointwise [v2_at, v9_at]
  rfl

theorem v16_at (i : Fin 8192) (c : Fin 512) : A.v16 (ix2 i c) = (A.row i).part c := by
  unfold v16 val_main_v16 val_main_v15 val_main_v14 val_main_v13
  pointwise [v12_at]
  rfl

theorem v19_at (i : Fin 8192) (c : Fin 1024) :
    A.v19 (ix2 i c) = if h : c.val < 512 then (A.row i).ym ⟨c.val, h⟩ else (A.row i).yg ⟨c.val - 512, by omega⟩ := by
  unfold v19 val_main_v19 val_main_v18
  pointwise [v1_at, v16_at, v17_at]
  rfl

theorem v20_at (i : Fin 8192) (k : Fin 1024) : A.v20 (ix2 i k) = (A.row i).y k := by
  unfold v20 val_main_v20
  pointwise [v19_at]
  rfl

theorem v29_at (i : Fin 8192) (z : Fin 1) : A.v29 (ix2 i z) = ms n1024 (A.row i).y := by
  unfold v29 val_main_v29 val_main_v28 val_main_v27 val_main_v26 val_main_v25 val_main_v24 val_main_v23
  pointwise [v20_at, val_main_cst_2, val_main_cst_3, val_main_cst_4]
  rfl

theorem v32_at (i : Fin 8192) (k : Fin 1024) : A.v32 (ix2 i k) = nrm n1024 (A.row i).y k := by
  unfold v32 val_main_v32 val_main_v31 val_main_v30
  pointwise [v20_at, v29_at]
  rfl

theorem v38_at (i : Fin 8192) (k : Fin 1024) : A.v38 (ix2 i k) = A.x0 (ix2 i k) + (A.row i).added k := by
  unfold v38 val_main_v38 val_main_v37 val_main_v36 val_main_v35 val_main_v34 val_main_v33 val_main_v22 val_main_v21
  pointwise [v32_at]
  rfl

end Args

end Cert.TailFwdRefIdeal.TailRef

end
-- ==== Proof.TailFwdValue.lean ====
/- What the tail forward leaves in its result: every row the residual plus the gated, normed projection of its row. -/
module

public import proofs.«01_k».proof.Proof.TailFwdRef
public import proofs.«01_k».proof.Proof.Gen.TailFwdIdeal.Value
public import Idealize.ShloMosaic.Lib.Pipeline.ValueKit
public import Idealize.ShloMosaic.Lib.Pipeline.ReadBack
public import Idealize.ShloMosaic.Lib.ValueIdx

@[expose] public section

set_option maxRecDepth 16384

noncomputable section

namespace Cert.TailFwdIdeal.TailValue

open Cert.TailFwdIdeal Cert.TailFwdIdeal.Gen Idealize.ShloMosaic Idealize.ShloMosaic.TcCoe Idealize.SL.Sem Cert.Tail Cert.RowMath
open Idealize.ShloMosaic.Pipeline (Dat)

/-! ## A tile's arithmetic -/

/-- What a point loads: 512 rows of the residual and the two branches, and the parameters. -/
structure In where
  x : Vec Ideal S512x1024 .f32
  o : Vec Ideal S512x512 .f32
  z : Vec Ideal S512x512 .f32
  g : Vec Ideal S512x512 .f32
  zg : Vec Ideal S512x512 .f32
  w : Vec Ideal S1x128 .f32
  W : Vec Ideal S1024x1024 .f32
  pw : Vec Ideal S1x1024 .f32
  gr : Vec Ideal S1x1024 .f32
  gb : Vec Ideal S1x1024 .f32

namespace In

variable (A : In)

/-- Row `i` of the tile. -/
def row (i : Fin 512) : Row where
  o c := A.o (ix2 i c)
  z c := A.z (ix2 i c)
  g c := A.g (ix2 i c)
  zg c := A.zg (ix2 i c)
  w k := A.w (ix2 0 k)
  W c k := A.W (ix2 c k)
  pw k := A.pw (ix2 0 k)
  gp k := A.gr (ix2 0 k) + A.gb (ix2 0 k)
  ct _ := 0

def ymV := k0_pay5 (F := Ideal) A.o A.z
def partV := k0_pay7 (F := Ideal) A.g (k0_pay2 (F := Ideal) A.w) (k0_pay6 (F := Ideal) A.g)
/-- What the tile leaves. -/
def left := k0_pay1 (F := Ideal) A.x A.zg A.W (k0_pay3 (F := Ideal) A.pw) A.gr (k0_pay4 (F := Ideal) A.gb) A.ymV A.partV
  (k0_pay8 (F := Ideal) A.zg) k0_pay9

theorem ymV_at (i c : Fin 512) : A.ymV (ix2 i c) = (A.row i).ym c := by
  unfold ymV
  unfold_payloads
  pointwise [zero_sub]
  rfl

theorem partV_at (i c : Fin 512) : A.partV (ix2 i c) = (A.row i).part c := by
  unfold partV
  unfold_payloads
  pointwise [zero_sub]
  refine .trans ?_ (split_heads (fun h k => nrm n128 ((A.row i).head h) k * (A.row i).w k) c).symm
  simp only [nrm, rs, ms, Row.head, col_zero]
  rfl

theorem left_at (i : Fin 512) (k : Fin 1024) : A.left (ix2 i k) = A.x (ix2 i k) + (A.row i).added k := by
  unfold left
  unfold k0_pay1 k0_pay3 k0_pay4 k0_pay8 k0_pay9
  pointwise [zero_sub]
  simp only [ymV_at, partV_at]
  rfl

end In

/-! ## The array it leaves -/

variable (m : (ℓ : Loc nD τ sig) → Buf (Elt Ideal) ℓ) (c : Dev nD)

/-- The arguments, each at its literal shape. -/
abbrev a0 : Vec Ideal S8192x1024 .f32 := m ((c : Thread nD τ).loc main_arg0)
abbrev a1 : Vec Ideal S8192x512 .f32 := m ((c : Thread nD τ).loc main_arg1)
abbrev a2 : Vec Ideal S8192x512 .f32 := m ((c : Thread nD τ).loc main_arg2)
abbrev a3 : Vec Ideal S8192x512 .f32 := m ((c : Thread nD τ).loc main_arg3)
abbrev a4 : Vec Ideal S8192x512 .f32 := m ((c : Thread nD τ).loc main_arg4)
abbrev a5 : Vec Ideal S128 .f32 := m ((c : Thread nD τ).loc main_arg5)
abbrev a6 : Vec Ideal S1024x1024 .f32 := m ((c : Thread nD τ).loc main_arg6)
abbrev a7 : Vec Ideal S1024 .f32 := m ((c : Thread nD τ).loc main_arg7)
abbrev a8 : Vec Ideal S1x1024 .f32 := m ((c : Thread nD τ).loc main_arg8)
abbrev a9 : Vec Ideal S1024 .f32 := m ((c : Thread nD τ).loc main_arg9)

/-- Row `i` of the program's arguments. -/
def krow (i : Fin 8192) : Row where
  o k := a1 m c (ix2 i k)
  z k := a2 m c (ix2 i k)
  g k := a3 m c (ix2 i k)
  zg k := a4 m c (ix2 i k)
  w k := a5 m c (ix1 k)
  W j k := a6 m c (ix2 j k)
  pw k := a7 m c (ix1 k)
  gp k := a8 m c (ix2 0 k) + a9 m c (ix1 k)
  ct _ := 0

theorem bcast_128 (x : Vec Ideal S128 .f32) (k : Fin 128) : broadcastInDim S1x128 ![1] bcast_S128_S1x128_1 x (ix2 0 k) = x (ix1 k) := by
  pointwise
theorem bcast_1024 (x : Vec Ideal S1024 .f32) (k : Fin 1024) : broadcastInDim S1x1024 ![1] bcast_S1024_S1x1024_1 x (ix2 0 k) = x (ix1 k) := by
  pointwise

theorem V_v0 (k : Fin 128) : V m c main_v0 (ix2 0 k) = a5 m c (ix1 k) := by
  unfold V; after_results
  exact bcast_128 _ k
theorem V_v1 (k : Fin 1024) : V m c main_v1 (ix2 0 k) = a7 m c (ix1 k) := by
  unfold V; after_results
  exact bcast_1024 _ k
theorem V_v2 (k : Fin 1024) : V m c main_v2 (ix2 0 k) = a9 m c (ix1 k) := by
  unfold V; after_results
  exact bcast_1024 _ k

theorem idx (t : Fin cfg0.N) : win0_0.index t = ![t.val, 0] ∧ win0_1.index t = ![t.val, 0] ∧ win0_2.index t = ![t.val, 0] ∧ win0_3.index t = ![t.val, 0] ∧ win0_4.index t = ![t.val, 0] ∧
    win0_5.index t = ![0, 0] ∧ win0_6.index t = ![0, 0] ∧ win0_7.index t = ![0, 0] ∧ win0_8.index t = ![0, 0] ∧ win0_9.index t = ![0, 0] ∧ win0_10.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧
    win0_5.index t = ![0, 0] ∧ win0_6.index t = ![0, 0] ∧ win0_7.index t = ![0, 0] ∧ win0_8.index t = ![0, 0] ∧ win0_9.index t = ![0, 0] ∧ win0_10.index t = ![t.val, 0]) t

theorem pt_lt (t : Fin cfg0.N) : t.val < 16 := Nat.lt_of_lt_of_eq t.isLt N_0

/-- Row `i` of point `t`'s tile. -/
abbrev rowOf (t : Fin cfg0.N) (i : Fin 512) : Fin 8192 := ⟨t.val * 512 + i.val, by have := pt_lt t; omega⟩

variable (t : Fin cfg0.N)

theorem blk0 (i : Fin 512) (k : Fin 1024) : iblk m c 0 t (ix2 i k) = a0 m c (ix2 (rowOf t i) k) := by
  show V m c main_arg0 _ = _
  rw [V_main_arg0]
  blk_ext [(idx t).1]
theorem blk1 (i : Fin 512) (k : Fin 512) : iblk m c 1 t (ix2 i k) = a1 m c (ix2 (rowOf t i) k) := by
  show V m c main_arg1 _ = _
  rw [V_main_arg1]
  blk_ext [(idx t).2.1]
theorem blk2 (i : Fin 512) (k : Fin 512) : iblk m c 2 t (ix2 i k) = a2 m c (ix2 (rowOf t i) k) := by
  show V m c main_arg2 _ = _
  rw [V_main_arg2]
  blk_ext [(idx t).2.2.1]
theorem blk3 (i : Fin 512) (k : Fin 512) : iblk m c 3 t (ix2 i k) = a3 m c (ix2 (rowOf t i) k) := by
  show V m c main_arg3 _ = _
  rw [V_main_arg3]
  blk_ext [(idx t).2.2.2.1]
theorem blk4 (i : Fin 512) (k : Fin 512) : iblk m c 4 t (ix2 i k) = a4 m c (ix2 (rowOf t i) k) := by
  show V m c main_arg4 _ = _
  rw [V_main_arg4]
  blk_ext [(idx t).2.2.2.2.1]
theorem blk6 (i k : Fin 1024) : iblk m c 6 t (ix2 i k) = a6 m c (ix2 i k) := by
  show V m c main_arg6 _ = _
  rw [V_main_arg6]
  blk_ext [(idx t).2.2.2.2.2.2.1]
theorem blk8 (k : Fin 1024) : iblk m c 8 t (ix2 0 k) = a8 m c (ix2 0 k) := by
  show V m c main_arg8 _ = _
  rw [V_main_arg8]
  blk_ext [(idx t).2.2.2.2.2.2.2.2.1]
theorem blk5 (k : Fin 128) : iblk m c 5 t (ix2 0 k) = a5 m c (ix1 k) := by
  rw [← V_v0]
  show V m c main_v0 _ = _
  blk_ext [(idx t).2.2.2.2.2.1]
theorem blk7 (k : Fin 1024) : iblk m c 7 t (ix2 0 k) = a7 m c (ix1 k) := by
  rw [← V_v1]
  show V m c main_v1 _ = _
  blk_ext [(idx t).2.2.2.2.2.2.2.1]
theorem blk9 (k : Fin 1024) : iblk m c 9 t (ix2 0 k) = a9 m c (ix1 k) := by
  rw [← V_v2]
  show V m c main_v2 _ = _
  blk_ext [(idx t).2.2.2.2.2.2.2.2.2.1]

/-- The tile of point `t`. -/
def tile : In :=
  ⟨iblk m c 0 t, iblk m c 1 t, iblk m c 2 t, iblk m c 3 t, iblk m c 4 t, iblk m c 5 t, iblk m c 6 t, iblk m c 7 t, iblk m c 8 t, iblk m c 9 t⟩

theorem tile_row (i : Fin 512) : (tile m c t).row i = krow m c (rowOf t i) := by
  unfold krow In.row tile
  simp only [← blk1 m c t, ← blk2 m c t, ← blk3 m c t, ← blk4 m c t, ← blk5 m c t, ← blk6 m c t, ← blk7 m c t, ← blk8 m c t, ← blk9 m c t]

theorem out_of (x0 : Vec Ideal S512x1024 .f32) (x1 : Vec Ideal S512x512 .f32) (x2 : Vec Ideal S512x512 .f32) (x3 : Vec Ideal S512x512 .f32) (x4 : Vec Ideal S512x512 .f32) (x5 : Vec Ideal S1x128 .f32) (x6 : Vec Ideal S1024x1024 .f32) (x7 : Vec Ideal S1x1024 .f32) (x8 : Vec Ideal S1x1024 .f32) (x9 : Vec Ideal S1x1024 .f32) :
    out0_10 (F := Ideal) x0 x1 x2 x3 x4 x5 x6 x7 x8 x9 = In.left ⟨x0, x1, x2, x3, x4, x5, x6, x7, x8, x9⟩ := by
  have hz : (![0, 0] : Fin S512x1024.rank → Nat) = fun _ => 0 := funext fun a => by fin_cases a <;> rfl
  have hz1 : (![0, 0] : Fin S512x512.rank → Nat) = fun _ => 0 := funext fun a => by fin_cases a <;> rfl
  have hz2 : (![0, 0] : Fin S1x128.rank → Nat) = fun _ => 0 := funext fun a => by fin_cases a <;> rfl
  have hz3 : (![0, 0] : Fin S1024x1024.rank → Nat) = fun _ => 0 := funext fun a => by fin_cases a <;> rfl
  have hz4 : (![0, 0] : Fin S1x1024.rank → Nat) = fun _ => 0 := funext fun a => by fin_cases a <;> rfl
  unfold out0_10
  rw [View.canon_unit_zero hz, show View.ld x0 r0_0 = x0 from View.ld_unit_zero hz .., show View.ld x1 r0_1 = x1 from View.ld_unit_zero hz1 .., show View.ld x2 r0_1 = x2 from View.ld_unit_zero hz1 .., show View.ld x3 r0_1 = x3 from View.ld_unit_zero hz1 .., show View.ld x4 r0_1 = x4 from View.ld_unit_zero hz1 .., show View.ld x5 r0_2 = x5 from View.ld_unit_zero hz2 .., show View.ld x6 r0_3 = x6 from View.ld_unit_zero hz3 .., show View.ld x7 r0_4 = x7 from View.ld_unit_zero hz4 .., show View.ld x8 r0_4 = x8 from View.ld_unit_zero hz4 .., show View.ld x9 r0_4 = x9 from View.ld_unit_zero hz4 ..]
  rfl

theorem out_eq : out0_10 (F := Ideal) (iblk m c 0 t) (iblk m c 1 t) (iblk m c 2 t) (iblk m c 3 t) (iblk m c 4 t) (iblk m c 5 t) (iblk m c 6 t)
    (iblk m c 7 t) (iblk m c 8 t) (iblk m c 9 t) = (tile m c t).left := out_of _ _ _ _ _ _ _ _ _ _

theorem final10 : (dats m 0 c).arrAt 10 cfg0.N = (fun j => a0 m c (ix2 (j 0) (j 1)) + (krow m c (j 0)).added (j 1) : Vec Ideal S8192x1024 .f32) := by
  refine (dats m 0 c).arrAt_eq_of_covers 10 _ (by decide +kernel) fun t hf y => ?_
  blk_simp
  rw [after0_10, out_eq]
  idx_vars y
  refine ((tile m c t).left_at y0 y1).trans ?_
  rw [tile_row, show (tile m c t).x (ix2 y0 y1) = _ from blk0 m c t y0 y1]
  refine congrArg₂ (fun i k => a0 m c (ix2 i k) + (krow m c i).added k) ?_ ?_
  · apply Fin.ext; blk_simp [(idx t).2.2.2.2.2.2.2.2.2.2]
  · apply Fin.ext; blk_simp [(idx t).2.2.2.2.2.2.2.2.2.2]

end Cert.TailFwdIdeal.TailValue

end
-- ==== Proof.TailFwdAlg.lean ====
/- The tail forward and its reference leave the same array, whatever the arguments hold. -/
module

public import proofs.«01_k».proof.Defs
public import proofs.«01_k».proof.Proof.TailFwdValue
public import proofs.«01_k».proof.Proof.Gen.TailFwdRefIdeal.Run

@[expose] public section

set_option maxRecDepth 16384

noncomputable section

namespace Cert.TailFwdIdeal.TailAlg

open Idealize.ShloMosaic Idealize.ShloMosaic.TcCoe Idealize.SL.Sem Cert.Tail TailValue Cert.TailFwdIdeal

/-- The reference's arguments. -/
def args (m' : (ℓ : Loc Cert.TailFwdRefIdeal.nD Cert.TailFwdRefIdeal.τ Cert.TailFwdRefIdeal.sig) → Buf (Elt Ideal) ℓ)
    (c : Dev Cert.TailFwdRefIdeal.nD) : Cert.TailFwdRefIdeal.TailRef.Args where
  x0 := m' ((c.tc : Thread _ _).loc Cert.TailFwdRefIdeal.main_arg0)
  x1 := m' ((c.tc : Thread _ _).loc Cert.TailFwdRefIdeal.main_arg1)
  x2 := m' ((c.tc : Thread _ _).loc Cert.TailFwdRefIdeal.main_arg2)
  x3 := m' ((c.tc : Thread _ _).loc Cert.TailFwdRefIdeal.main_arg3)
  x4 := m' ((c.tc : Thread _ _).loc Cert.TailFwdRefIdeal.main_arg4)
  x5 := m' ((c.tc : Thread _ _).loc Cert.TailFwdRefIdeal.main_arg5)
  x6 := m' ((c.tc : Thread _ _).loc Cert.TailFwdRefIdeal.main_arg6)
  x7 := m' ((c.tc : Thread _ _).loc Cert.TailFwdRefIdeal.main_arg7)
  x8 := m' ((c.tc : Thread _ _).loc Cert.TailFwdRefIdeal.main_arg8)
  x9 := m' ((c.tc : Thread _ _).loc Cert.TailFwdRefIdeal.main_arg9)

theorem algebraic : Cert.algebraic_TailFwdIdeal_TailFwdRefIdeal := by
  intro m ρ m' ρ' _ hag
  refine ⟨fun c => (fun j => a0 m c (ix2 (j 0) (j 1)) + (krow m c (j 0)).added (j 1) : Vec Ideal S8192x1024 .f32),
    (θ_run _ _ _).mono (fun r h c => ?_) (Cert.TailFwdIdeal.Value.run_blocks (F := Ideal) m ρ),
    (θ_run _ _ _).mono (fun r h c => ?_) (Cert.TailFwdRefIdeal.Value.run (F := Ideal) m' ρ')⟩
  · obtain ⟨h0, hk⟩ := h c
    exact ⟨h0.trans (final10 m c), hk⟩
  · obtain ⟨h0, hk⟩ := h c
    refine ⟨h0.trans ((Cert.TailFwdRefIdeal.Read.val_main_v38_eq _ _).trans ?_), hk⟩
    obtain ⟨e0, e1, e2, e3, e4, e5, e6, e7, e8, e9⟩ := hag c
    funext j
    idx_vars j
    have hr : (args m' c).row j0 = krow m c j0 := by
      unfold Cert.TailFwdRefIdeal.TailRef.Args.row krow args
      rw [e1, e2, e3, e4, e5, e6, e7, e8, e9]
    have h0 : (args m' c).x0 (ix2 j0 j1) = a0 m c (ix2 j0 j1) := congrFun e0 _
    exact ((args m' c).v38_at j0 j1).trans (by rw [hr, h0])

end Cert.TailFwdIdeal.TailAlg

end
-- ==== Proof.FrontFwdRef.lean ====
/- The reference of the front forward, read at an index: every group of columns is that group of the normed row's projection. -/
module

public import proofs.«01_k».proof.Proof.FrontRow
public import proofs.«01_k».proof.Proof.Gen.FrontFwdRefIdeal.Read
public import Idealize.ShloMosaic.Lib.Pointwise
public import Idealize.ShloMosaic.Lib.IdealHost

@[expose] public section

set_option maxRecDepth 16384

noncomputable section

namespace Cert.Front.Row

/-- Column `j` of the projected row. -/
def proj (X : Row) (j : Fin 3272) : EReal := ∑ k, X.h k * X.U k j

end Cert.Front.Row

namespace Cert.FrontFwdRefIdeal.FrontRef

open Cert.FrontFwdRefIdeal Cert.FrontFwdRefIdeal.Read Idealize.ShloMosaic Cert.Front Cert.RowMath
open Cert.Mla (other)

/-- The arguments: the rows, the norm's five parameters, the projection. -/
structure Args where
  x0 : FVec Ideal S8192x1024 .f32
  x1 : FVec Ideal S1024 .f32
  x2 : FVec Ideal S1x1024 .f32
  x3 : FVec Ideal S1024 .f32
  x4 : FVec Ideal S1x1024 .f32
  x5 : FVec Ideal S1024 .f32
  x6 : FVec Ideal S1024x3272 .f32

namespace Args

variable (A : Args)

/-- Row `i` of the arguments; no cotangents. -/
def row (i : Fin 8192) : Row where
  x k := A.x0 (ix2 i k)
  w k := A.x1 (ix1 k)
  a k := A.x2 (ix2 0 k)
  b k := A.x3 (ix1 k)
  s k := A.x4 (ix2 0 k)
  t k := A.x5 (ix1 k)
  U k j := A.x6 (ix2 k j)
  gq _ := 0
  gk _ := 0
  gp _ := 0
  gs _ := 0
  gz _ := 0
  gc _ := 0
  ga _ := 0
  gb _ := 0
  gg _ := 0
  sk _ := 0

abbrev v6 := val_main_v6 (F := Ideal) A.x0
abbrev v9 := val_main_v9 (F := Ideal) A.x0
abbrev v12 := val_main_v12 (F := Ideal) A.x0 A.x1
abbrev v16 := val_main_v16 (F := Ideal) A.x2 A.x3
abbrev v22 := val_main_v22 (F := Ideal) A.x0 A.x1 A.x2 A.x3 A.x4 A.x5
abbrev v23 := val_main_v23 (F := Ideal) A.x0 A.x1 A.x2 A.x3 A.x4 A.x5 A.x6
abbrev v24 := val_main_v24 (F := Ideal) A.x0 A.x1 A.x2 A.x3 A.x4 A.x5 A.x6
abbrev v25 := val_main_v25 (F := Ideal) A.x0 A.x1 A.x2 A.x3 A.x4 A.x5 A.x6
abbrev v26 := val_main_v26 (F := Ideal) A.x0 A.x1 A.x2 A.x3 A.x4 A.x5 A.x6
abbrev v27 := val_main_v27 (F := Ideal) A.x0 A.x1 A.x2 A.x3 A.x4 A.x5 A.x6
abbrev v28 := val_main_v28 (F := Ideal) A.x0 A.x1 A.x2 A.x3 A.x4 A.x5 A.x6
abbrev v29 := val_main_v29 (F := Ideal) A.x0 A.x1 A.x2 A.x3 A.x4 A.x5 A.x6
abbrev v30 := val_main_v30 (F := Ideal) A.x0 A.x1 A.x2 A.x3 A.x4 A.x5 A.x6
abbrev v31 := val_main_v31 (F := Ideal) A.x0 A.x1 A.x2 A.x3 A.x4 A.x5 A.x6
abbrev v34 := val_main_v34 (F := Ideal) A.x0 A.x1 A.x2 A.x3 A.x4 A.x5 A.x6

theorem v6_at (i : Fin 8192) (z : Fin 1) : A.v6 (ix2 i z) = ms n1024 (A.row i).x := by
  unfold v6 val_main_v6 val_main_v5 val_main_v4 val_main_v3 val_main_v2 val_main_v1 val_main_v0
  pointwise [val_main_cst, val_main_cst_0, val_main_cst_1]
  rfl

theorem v9_at (i : Fin 8192) (k : Fin 1024) : A.v9 (ix2 i k) = nrm n1024 (A.row i).x k := by
  unfold v9 val_main_v9 val_main_v8 val_main_v7
  pointwise [v6_at]
  rfl

theorem v12_at (i : Fin 8192) (k : Fin 1024) : A.v12 (ix2 i k) = nrm n1024 (A.row i).x k * (A.row i).w k := by
  unfold v12 val_main_v12 val_main_v11 val_main_v10
  pointwise [v9_at]
  rfl

theorem v16_at (i : Fin 8192) (k : Fin 1024) : A.v16 (ix2 0 k) = (A.row i).sc k := by
  unfold v16 val_main_v16 val_main_v15 val_main_v14 val_main_v13
  pointwise [val_main_cst_2]
  rfl

theorem v22_at (i : Fin 8192) (k : Fin 1024) : A.v22 (ix2 i k) = (A.row i).h k := by
  unfold v22 val_main_v22 val_main_v21 val_main_v20 val_main_v19 val_main_v18 val_main_v17
  pointwise [v12_at, A.v16_at i]
  rfl

theorem v23_at (i : Fin 8192) (j : Fin 3272) : A.v23 (ix2 i j) = (A.row i).proj j := by
  unfold v23 val_main_v23
  pointwise [v22_at]
  rfl

theorem v24_at (i : Fin 8192) (e : Fin 384) : A.v24 (ix2 i e) = (A.row i).proj ⟨e.val, by omega⟩ := by
  unfold v24 val_main_v24
  pointwise [v23_at]

theorem v25_at (i : Fin 8192) (e : Fin 256) : A.v25 (ix2 i e) = (A.row i).proj ⟨384 + e.val, by omega⟩ := by
  unfold v25 val_main_v25
  pointwise [v23_at]

theorem v26_at (i : Fin 8192) (e : Fin 64) : A.v26 (ix2 i e) = (A.row i).proj ⟨640 + e.val, by omega⟩ := by
  unfold v26 val_main_v26
  pointwise [v23_at]

theorem v27_at (i : Fin 8192) (e : Fin 512) : A.v27 (ix2 i e) = (A.row i).proj ⟨704 + e.val, by omega⟩ := by
  unfold v27 val_main_v27
  pointwise [v23_at]

theorem v28_at (i : Fin 8192) (e : Fin 1536) : A.v28 (ix2 i e) = (A.row i).proj ⟨1216 + e.val, by omega⟩ := by
  unfold v28 val_main_v28
  pointwise [v23_at]

theorem v29_at (i : Fin 8192) (e : Fin 4) : A.v29 (ix2 i e) = (A.row i).proj ⟨2752 + e.val, by omega⟩ := by
  unfold v29 val_main_v29
  pointwise [v23_at]

theorem v30_at (i : Fin 8192) (e : Fin 4) : A.v30 (ix2 i e) = (A.row i).proj ⟨2756 + e.val, by omega⟩ := by
  unfold v30 val_main_v30
  pointwise [v23_at]

theorem v31_at (i : Fin 8192) (e : Fin 512) : A.v31 (ix2 i e) = (A.row i).proj ⟨2760 + e.val, by omega⟩ := by
  unfold v31 val_main_v31
  pointwise [v23_at]

/-- The shared key's columns with their halves swapped. -/
theorem v34_at (i : Fin 8192) (e : Fin 64) :
    A.v34 (ix2 i e) = (A.row i).proj ⟨640 + (other e).val, by have := (other e).isLt; omega⟩ := by
  unfold v34 val_main_v34 val_main_v33 val_main_v32 val_main_v26
  pointwise [v23_at]
  refine dite_eq_of (fun _ => ?_) fun _ => ?_
  all_goals exact congrArg (A.row i).proj (Fin.ext (by simp only [other]; omega))

end Args

end Cert.FrontFwdRefIdeal.FrontRef

end
-- ==== Proof.FrontFwdValue.lean ====
/- What the front forward leaves in its arrays: the normed rows times the columns each array holds. -/
module

public import proofs.«01_k».proof.Proof.FrontFwdRef
public import proofs.«01_k».proof.Proof.Gen.FrontFwdIdeal.Frame
public import Idealize.ShloMosaic.Lib.Pipeline.ValueKit
public import Idealize.ShloMosaic.Lib.Pipeline.ReadBack
public import Idealize.ShloMosaic.Lib.StableHlo.RunRead
public import Idealize.ShloMosaic.Lib.StableHlo.ReadAt
public import Idealize.ShloMosaic.Lib.ValueIdx

@[expose] public section

set_option maxRecDepth 16384

noncomputable section

namespace Cert.FrontFwdIdeal.FrontValue

open Cert.FrontFwdIdeal Cert.FrontFwdIdeal.Gen Idealize.ShloMosaic Idealize.ShloMosaic.TcCoe Idealize.SL.Sem Cert.Front Cert.RowMath
open Idealize.ShloMosaic.Pipeline (Dat)
open Cert.Mla (other)

/-! ## A tile's arithmetic -/

/-- What a point loads: 512 rows, the norm's five parameters, the projection's groups of columns. -/
structure In where
  x0 : Vec Ideal S512x1024 .f32
  x1 : Vec Ideal S1x1024 .f32
  x2 : Vec Ideal S1x1024 .f32
  x3 : Vec Ideal S1x1024 .f32
  x4 : Vec Ideal S1x1024 .f32
  x5 : Vec Ideal S1x1024 .f32
  x6 : Vec Ideal S1024x384 .bf16
  x7 : Vec Ideal S1024x256 .bf16
  x8 : Vec Ideal S1024x128 .bf16
  x9 : Vec Ideal S1024x512 .bf16
  x10 : Vec Ideal S1024x1536 .bf16
  x11 : Vec Ideal S1024x128 .bf16
  x12 : Vec Ideal S1024x512 .bf16

namespace In

variable (A : In)

/-- The normed row `i`, in the order of the kernel's sums. -/
def h (i : Fin 512) (k : Fin 1024) : EReal :=
  nrm n1024 (fun k => A.x0 (ix2 i k)) k * A.x1 (ix2 0 k) * (1 + A.x2 (ix2 0 k) + A.x3 (ix2 0 k)) + A.x4 (ix2 0 k) + A.x5 (ix2 0 k)

def hV := k0_pay7 (F := Ideal) A.x0 A.x1 A.x2 A.x3 A.x4 A.x5

theorem hV_at (i : Fin 512) (k : Fin 1024) : A.hV (ix2 i k) = A.h i k := by
  unfold hV
  unfold_payloads
  pointwise [zero_sub]
  rfl

def yq := k0_pay8 (F := Ideal) A.x0 A.x1 A.x2 A.x3 A.x4 A.x5 A.x6

theorem yq_at (i : Fin 512) (e : Fin 384) : A.yq (ix2 i e) = ∑ k, A.h i k * A.x6 (ix2 k e) := by
  have hv := A.hV_at
  unfold hV at hv
  unfold yq k0_pay8
  pointwise [hv]

def yk := k0_pay1 (F := Ideal) A.hV A.x7

theorem yk_at (i : Fin 512) (e : Fin 256) : A.yk (ix2 i e) = ∑ k, A.h i k * A.x7 (ix2 k e) := by
  have hv := A.hV_at
  unfold hV at hv
  unfold yk k0_pay1 hV
  pointwise [hv]

def yp := k0_pay2 (F := Ideal) A.hV A.x8

theorem yp_at (i : Fin 512) (e : Fin 128) : A.yp (ix2 i e) = ∑ k, A.h i k * A.x8 (ix2 k e) := by
  have hv := A.hV_at
  unfold hV at hv
  unfold yp k0_pay2 hV
  pointwise [hv]

def yz := k0_pay3 (F := Ideal) A.hV A.x9

theorem yz_at (i : Fin 512) (e : Fin 512) : A.yz (ix2 i e) = ∑ k, A.h i k * A.x9 (ix2 k e) := by
  have hv := A.hV_at
  unfold hV at hv
  unfold yz k0_pay3 hV
  pointwise [hv]

def yc := k0_pay4 (F := Ideal) A.hV A.x10

theorem yc_at (i : Fin 512) (e : Fin 1536) : A.yc (ix2 i e) = ∑ k, A.h i k * A.x10 (ix2 k e) := by
  have hv := A.hV_at
  unfold hV at hv
  unfold yc k0_pay4 hV
  pointwise [hv]

def ya := k0_pay5 (F := Ideal) A.hV A.x11

theorem ya_at (i : Fin 512) (e : Fin 128) : A.ya (ix2 i e) = ∑ k, A.h i k * A.x11 (ix2 k e) := by
  have hv := A.hV_at
  unfold hV at hv
  unfold ya k0_pay5 hV
  pointwise [hv]

def yg := k0_pay6 (F := Ideal) A.hV A.x12

theorem yg_at (i : Fin 512) (e : Fin 512) : A.yg (ix2 i e) = ∑ k, A.h i k * A.x12 (ix2 k e) := by
  have hv := A.hV_at
  unfold hV at hv
  unfold yg k0_pay6 hV
  pointwise [hv]

end In

section
variable (x0 : Vec Ideal S512x1024 .f32) (x1 : Vec Ideal S1x1024 .f32) (x2 : Vec Ideal S1x1024 .f32) (x3 : Vec Ideal S1x1024 .f32) (x4 : Vec Ideal S1x1024 .f32) (x5 : Vec Ideal S1x1024 .f32) (x6 : Vec Ideal S1024x384 .bf16) (x7 : Vec Ideal S1024x256 .bf16) (x8 : Vec Ideal S1024x128 .bf16) (x9 : Vec Ideal S1024x512 .bf16) (x10 : Vec Ideal S1024x1536 .bf16) (x11 : Vec Ideal S1024x128 .bf16) (x12 : Vec Ideal S1024x512 .bf16)

theorem h_of : k0_pay9 (F := Ideal) x0 x1 x2 x3 x4 x5 x6 x7 x8 x9 x10 x11 x12 = In.hV ⟨x0, x1, x2, x3, x4, x5, x6, x7, x8, x9, x10, x11, x12⟩ := by
  have hz0 : (![0, 0] : Fin S512x1024.rank → Nat) = fun _ => 0 := funext fun a => by fin_cases a <;> rfl
  have hz1 : (![0, 0] : Fin S1x1024.rank → Nat) = fun _ => 0 := funext fun a => by fin_cases a <;> rfl
  unfold k0_pay9
  rw [show View.ld x0 r0_0 = x0 from View.ld_unit_zero hz0 .., show View.ld x1 r0_1 = x1 from View.ld_unit_zero hz1 .., show View.ld x2 r0_1 = x2 from View.ld_unit_zero hz1 .., show View.ld x3 r0_1 = x3 from View.ld_unit_zero hz1 .., show View.ld x4 r0_1 = x4 from View.ld_unit_zero hz1 .., show View.ld x5 r0_1 = x5 from View.ld_unit_zero hz1 ..]
  rfl

theorem out13_of : out0_13 (F := Ideal) x0 x1 x2 x3 x4 x5 x6 x7 x8 x9 x10 x11 x12 = In.yq ⟨x0, x1, x2, x3, x4, x5, x6, x7, x8, x9, x10, x11, x12⟩ := by
  have hz0 : (![0, 0] : Fin S512x1024.rank → Nat) = fun _ => 0 := funext fun a => by fin_cases a <;> rfl
  have hz1 : (![0, 0] : Fin S1x1024.rank → Nat) = fun _ => 0 := funext fun a => by fin_cases a <;> rfl
  have hzw : (![0, 0] : Fin S1024x384.rank → Nat) = fun _ => 0 := funext fun a => by fin_cases a <;> rfl
  have hzo : (![0, 0] : Fin S512x384.rank → Nat) = fun _ => 0 := funext fun a => by fin_cases a <;> rfl
  unfold out0_13
  rw [View.canon_unit_zero hzo, show View.ld x0 r0_0 = x0 from View.ld_unit_zero hz0 .., show View.ld x1 r0_1 = x1 from View.ld_unit_zero hz1 .., show View.ld x2 r0_1 = x2 from View.ld_unit_zero hz1 .., show View.ld x3 r0_1 = x3 from View.ld_unit_zero hz1 .., show View.ld x4 r0_1 = x4 from View.ld_unit_zero hz1 .., show View.ld x5 r0_1 = x5 from View.ld_unit_zero hz1 .., show View.ld x6 r0_2 = x6 from View.ld_unit_zero hzw ..]
  rfl

theorem out14_of : out0_14 (F := Ideal) x0 x1 x2 x3 x4 x5 x6 x7 x8 x9 x10 x11 x12 = In.yk ⟨x0, x1, x2, x3, x4, x5, x6, x7, x8, x9, x10, x11, x12⟩ := by
  have hzw : (![0, 0] : Fin S1024x256.rank → Nat) = fun _ => 0 := funext fun a => by fin_cases a <;> rfl
  have hzo : (![0, 0] : Fin S512x256.rank → Nat) = fun _ => 0 := funext fun a => by fin_cases a <;> rfl
  unfold out0_14
  rw [View.canon_unit_zero hzo, h_of, show View.ld x7 r0_4 = x7 from View.ld_unit_zero hzw ..]
  rfl

theorem out15_of : out0_15 (F := Ideal) x0 x1 x2 x3 x4 x5 x6 x7 x8 x9 x10 x11 x12 = In.yp ⟨x0, x1, x2, x3, x4, x5, x6, x7, x8, x9, x10, x11, x12⟩ := by
  have hzw : (![0, 0] : Fin S1024x128.rank → Nat) = fun _ => 0 := funext fun a => by fin_cases a <;> rfl
  have hzo : (![0, 0] : Fin S512x128.rank → Nat) = fun _ => 0 := funext fun a => by fin_cases a <;> rfl
  unfold out0_15
  rw [View.canon_unit_zero hzo, h_of, show View.ld x8 r0_6 = x8 from View.ld_unit_zero hzw ..]
  rfl

theorem out16_of : out0_16 (F := Ideal) x0 x1 x2 x3 x4 x5 x6 x7 x8 x9 x10 x11 x12 = In.yz ⟨x0, x1, x2, x3, x4, x5, x6, x7, x8, x9, x10, x11, x12⟩ := by
  have hzw : (![0, 0] : Fin S1024x512.rank → Nat) = fun _ => 0 := funext fun a => by fin_cases a <;> rfl
  have hzo : (![0, 0] : Fin S512x512.rank → Nat) = fun _ => 0 := funext fun a => by fin_cases a <;> rfl
  unfold out0_16
  rw [View.canon_unit_zero hzo, h_of, show View.ld x9 r0_8 = x9 from View.ld_unit_zero hzw ..]
  rfl

theorem out17_of : out0_17 (F := Ideal) x0 x1 x2 x3 x4 x5 x6 x7 x8 x9 x10 x11 x12 = In.yc ⟨x0, x1, x2, x3, x4, x5, x6, x7, x8, x9, x10, x11, x12⟩ := by
  have hzw : (![0, 0] : Fin S1024x1536.rank → Nat) = fun _ => 0 := funext fun a => by fin_cases a <;> rfl
  have hzo : (![0, 0] : Fin S512x1536.rank → Nat) = fun _ => 0 := funext fun a => by fin_cases a <;> rfl
  unfold out0_17
  rw [View.canon_unit_zero hzo, h_of, show View.ld x10 r0_10 = x10 from View.ld_unit_zero hzw ..]
  rfl

theorem out18_of : out0_18 (F := Ideal) x0 x1 x2 x3 x4 x5 x6 x7 x8 x9 x10 x11 x12 = In.ya ⟨x0, x1, x2, x3, x4, x5, x6, x7, x8, x9, x10, x11, x12⟩ := by
  have hzw : (![0, 0] : Fin S1024x128.rank → Nat) = fun _ => 0 := funext fun a => by fin_cases a <;> rfl
  have hzo : (![0, 0] : Fin S512x128.rank → Nat) = fun _ => 0 := funext fun a => by fin_cases a <;> rfl
  unfold out0_18
  rw [View.canon_unit_zero hzo, h_of, show View.ld x11 r0_6 = x11 from View.ld_unit_zero hzw ..]
  rfl

theorem out19_of : out0_19 (F := Ideal) x0 x1 x2 x3 x4 x5 x6 x7 x8 x9 x10 x11 x12 = In.yg ⟨x0, x1, x2, x3, x4, x5, x6, x7, x8, x9, x10, x11, x12⟩ := by
  have hzw : (![0, 0] : Fin S1024x512.rank → Nat) = fun _ => 0 := funext fun a => by fin_cases a <;> rfl
  have hzo : (![0, 0] : Fin S512x512.rank → Nat) = fun _ => 0 := funext fun a => by fin_cases a <;> rfl
  unfold out0_19
  rw [View.canon_unit_zero hzo, h_of, show View.ld x12 r0_8 = x12 from View.ld_unit_zero hzw ..]
  rfl

end

/-! ## The arrays it leaves -/

variable (m : (ℓ : Loc nD τ sig) → Buf (Elt Ideal) ℓ) (c : Dev nD)

/-- The arguments, each at its literal shape. -/
abbrev a0 : Vec Ideal S8192x1024 .f32 := m ((c : Thread nD τ).loc main_arg0)
abbrev a1 : Vec Ideal S1024 .f32 := m ((c : Thread nD τ).loc main_arg1)
abbrev a2 : Vec Ideal S1x1024 .f32 := m ((c : Thread nD τ).loc main_arg2)
abbrev a3 : Vec Ideal S1024 .f32 := m ((c : Thread nD τ).loc main_arg3)
abbrev a4 : Vec Ideal S1x1024 .f32 := m ((c : Thread nD τ).loc main_arg4)
abbrev a5 : Vec Ideal S1024 .f32 := m ((c : Thread nD τ).loc main_arg5)
abbrev a6 : Vec Ideal S1024x3272 .f32 := m ((c : Thread nD τ).loc main_arg6)

/-- Row `i` of the program's arguments. -/
def krow (i : Fin 8192) : Row where
  x k := a0 m c (ix2 i k)
  w k := a1 m c (ix1 k)
  a k := a2 m c (ix2 0 k)
  b k := a3 m c (ix1 k)
  s k := a4 m c (ix2 0 k)
  t k := a5 m c (ix1 k)
  U k j := a6 m c (ix2 k j)
  gq _ := 0
  gk _ := 0
  gp _ := 0
  gs _ := 0
  gz _ := 0
  gc _ := 0
  ga _ := 0
  gb _ := 0
  gg _ := 0
  sk _ := 0

theorem V_v0 (k : Fin 1024) : V m c main_v0 (ix2 0 k) = a1 m c (ix1 k) := by
  unfold V V0
  simp only [hostOps0, List.flatten_cons, List.flatten_nil, List.append_nil, List.cons_append, List.nil_append]
  repeat after_reads_at

theorem V_v1 (k : Fin 1024) : V m c main_v1 (ix2 0 k) = a3 m c (ix1 k) := by
  unfold V V0
  simp only [hostOps0, List.flatten_cons, List.flatten_nil, List.append_nil, List.cons_append, List.nil_append]
  repeat after_reads_at

theorem V_v2 (k : Fin 1024) : V m c main_v2 (ix2 0 k) = a5 m c (ix1 k) := by
  unfold V V0
  simp only [hostOps0, List.flatten_cons, List.flatten_nil, List.append_nil, List.cons_append, List.nil_append]
  repeat after_reads_at

theorem V_v16 (k : Fin 1024) (e : Fin 384) : V m c main_v16 (ix2 k e) = a6 m c (ix2 k ⟨e.val, by omega⟩) := by
  unfold V V0
  simp only [hostOps0, List.flatten_cons, List.flatten_nil, List.append_nil, List.cons_append, List.nil_append]
  repeat after_reads_at

theorem V_v17 (k : Fin 1024) (e : Fin 256) : V m c main_v17 (ix2 k e) = a6 m c (ix2 k ⟨384 + e.val, by omega⟩) := by
  unfold V V0
  simp only [hostOps0, List.flatten_cons, List.flatten_nil, List.append_nil, List.cons_append, List.nil_append]
  repeat after_reads_at

theorem V_v19 (k : Fin 1024) (e : Fin 512) : V m c main_v19 (ix2 k e) = a6 m c (ix2 k ⟨704 + e.val, by omega⟩) := by
  unfold V V0
  simp only [hostOps0, List.flatten_cons, List.flatten_nil, List.append_nil, List.cons_append, List.nil_append]
  repeat after_reads_at

theorem V_v20 (k : Fin 1024) (e : Fin 1536) : V m c main_v20 (ix2 k e) = a6 m c (ix2 k ⟨1216 + e.val, by omega⟩) := by
  unfold V V0
  simp only [hostOps0, List.flatten_cons, List.flatten_nil, List.append_nil, List.cons_append, List.nil_append]
  repeat after_reads_at

theorem V_v22 (k : Fin 1024) (e : Fin 512) : V m c main_v22 (ix2 k e) = a6 m c (ix2 k ⟨2760 + e.val, by omega⟩) := by
  unfold V V0
  simp only [hostOps0, List.flatten_cons, List.flatten_nil, List.append_nil, List.cons_append, List.nil_append]
  repeat after_reads_at

/-- The shared key's columns, plain and swapped. -/
theorem V_v18 (i : Fin 8192) (k : Fin 1024) (e : Fin 128) : V m c main_v18 (ix2 k e) = (krow m c i).VP k e := by
  unfold V V0
  simp only [hostOps0, List.flatten_cons, List.flatten_nil, List.append_nil, List.cons_append, List.nil_append]
  repeat after_reads_at
  unfold Row.VP
  refine dite_eq_of (fun h => ?_) fun h => ?_
  · exact (dite_eq_of (fun _ => rfl) fun h' => absurd h h').symm
  · refine (dite_eq_of (fun h' => absurd h' h) fun _ => Eq.symm ?_).symm
    refine dite_eq_of (fun _ => ?_) fun _ => ?_
    all_goals exact congrArg (fun j => a6 m c (ix2 k j)) (Fin.ext (by simp only [other]; omega))

/-- The gates' columns, filled up with zeros. -/
theorem V_v21 (i : Fin 8192) (k : Fin 1024) (e : Fin 128) : V m c main_v21 (ix2 k e) = (krow m c i).VB k e := by
  unfold V V0
  simp only [hostOps0, List.flatten_cons, List.flatten_nil, List.append_nil, List.cons_append, List.nil_append]
  repeat after_reads_at
  rfl

theorem idx (t : Fin cfg0.N) : win0_0.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0] ∧
    win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] :=
  (by decide +kernel : ∀ t : Fin grid0.N, win0_0.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0] ∧
    win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0]) t

theorem pt_lt (t : Fin cfg0.N) : t.val < 16 := Nat.lt_of_lt_of_eq t.isLt N_0

/-- Row `i` of point `t`'s tile. -/
abbrev rowOf (t : Fin cfg0.N) (i : Fin 512) : Fin 8192 := ⟨t.val * 512 + i.val, by have := pt_lt t; omega⟩

variable (t : Fin cfg0.N)

theorem blk0 (i : Fin 512) (k : Fin 1024) : iblk m c 0 t (ix2 i k) = a0 m c (ix2 (rowOf t i) k) := by
  show V m c main_arg0 _ = _
  rw [V_main_arg0]
  blk_ext [(idx t).1]
theorem blk2 (i : Fin 1) (k : Fin 1024) : iblk m c 2 t (ix2 i k) = a2 m c (ix2 i k) := by
  show V m c main_arg2 _ = _
  rw [V_main_arg2]
  blk_ext [(idx t).2.2.2.2.2.2.2.2.2.1]
theorem blk4 (i : Fin 1) (k : Fin 1024) : iblk m c 4 t (ix2 i k) = a4 m c (ix2 i k) := by
  show V m c main_arg4 _ = _
  rw [V_main_arg4]
  blk_ext [(idx t).2.2.2.2.2.2.2.2.2.2.2.1]
theorem blk1 (i : Fin 1) (k : Fin 1024) : iblk m c 1 t (ix2 i k) = V m c main_v0 (ix2 i k) := by
  show V m c main_v0 _ = _
  blk_ext [(idx t).2.2.2.2.2.2.2.2.1]
theorem blk3 (i : Fin 1) (k : Fin 1024) : iblk m c 3 t (ix2 i k) = V m c main_v1 (ix2 i k) := by
  show V m c main_v1 _ = _
  blk_ext [(idx t).2.2.2.2.2.2.2.2.2.2.1]
theorem blk5 (i : Fin 1) (k : Fin 1024) : iblk m c 5 t (ix2 i k) = V m c main_v2 (ix2 i k) := by
  show V m c main_v2 _ = _
  blk_ext [(idx t).2.2.2.2.2.2.2.2.2.2.2.2.1]
theorem blk6 (i : Fin 1024) (k : Fin 384) : iblk m c 6 t (ix2 i k) = V m c main_v16 (ix2 i k) := by
  show V m c main_v16 _ = _
  blk_ext [(idx t).2.2.2.2.2.2.2.2.2.2.2.2.2.1]
theorem blk7 (i : Fin 1024) (k : Fin 256) : iblk m c 7 t (ix2 i k) = V m c main_v17 (ix2 i k) := by
  show V m c main_v17 _ = _
  blk_ext [(idx t).2.2.2.2.2.2.2.2.2.2.2.2.2.2.1]
theorem blk8 (i : Fin 1024) (k : Fin 128) : iblk m c 8 t (ix2 i k) = V m c main_v18 (ix2 i k) := by
  show V m c main_v18 _ = _
  blk_ext [(idx t).2.2.2.2.2.2.2.2.2.2.2.2.2.2.2.1]
theorem blk9 (i : Fin 1024) (k : Fin 512) : iblk m c 9 t (ix2 i k) = V m c main_v19 (ix2 i k) := by
  show V m c main_v19 _ = _
  blk_ext [(idx t).2.2.2.2.2.2.2.2.2.2.2.2.2.2.2.2.1]
theorem blk10 (i : Fin 1024) (k : Fin 1536) : iblk m c 10 t (ix2 i k) = V m c main_v20 (ix2 i k) := by
  show V m c main_v20 _ = _
  blk_ext [(idx t).2.2.2.2.2.2.2.2.2.2.2.2.2.2.2.2.2.1]
theorem blk11 (i : Fin 1024) (k : Fin 128) : iblk m c 11 t (ix2 i k) = V m c main_v21 (ix2 i k) := by
  show V m c main_v21 _ = _
  blk_ext [(idx t).2.2.2.2.2.2.2.2.2.2.2.2.2.2.2.2.2.2.1]
theorem blk12 (i : Fin 1024) (k : Fin 512) : iblk m c 12 t (ix2 i k) = V m c main_v22 (ix2 i k) := by
  show V m c main_v22 _ = _
  blk_ext [(idx t).2.2.2.2.2.2.2.2.2.2.2.2.2.2.2.2.2.2.2]

/-- The tile of point `t`. -/
def tile : In := ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t⟩

theorem h_row (i : Fin 512) : (tile m c t).h i = (krow m c (rowOf t i)).h := funext fun k => by
  have h0 : (fun k => (tile m c t).x0 (ix2 i k)) = (krow m c (rowOf t i)).x := funext fun k => blk0 m c t i k
  have h1 : (tile m c t).x1 (ix2 0 k) = (krow m c (rowOf t i)).w k := (blk1 m c t 0 k).trans (V_v0 m c k)
  have h2 : (tile m c t).x2 (ix2 0 k) = (krow m c (rowOf t i)).a k := blk2 m c t 0 k
  have h3 : (tile m c t).x3 (ix2 0 k) = (krow m c (rowOf t i)).b k := (blk3 m c t 0 k).trans (V_v1 m c k)
  have h4 : (tile m c t).x4 (ix2 0 k) = (krow m c (rowOf t i)).s k := blk4 m c t 0 k
  have h5 : (tile m c t).x5 (ix2 0 k) = (krow m c (rowOf t i)).t k := (blk5 m c t 0 k).trans (V_v2 m c k)
  unfold In.h Row.h Row.sc
  rw [h0, h1, h2, h3, h4, h5, add_assoc 1, add_assoc (_ * _)]

/-- What array 13 holds at row `i`, column `e`. -/
def rq (i : Fin 8192) (e : Fin 384) : EReal := ∑ k, (krow m c i).h k * (krow m c i).U k ⟨e.val, by omega⟩

theorem w6_row (i : Fin 8192) (k : Fin 1024) (e : Fin 384) : (tile m c t).x6 (ix2 k e) = (krow m c i).U k ⟨e.val, by omega⟩ := (blk6 m c t k e).trans (V_v16 m c k e)

theorem final13 : (dats m 0 c).arrAt 13 cfg0.N = (fun j => rq m c (j 0) (j 1) : Vec Ideal S8192x384 .f32) := by
  refine (dats m 0 c).arrAt_eq_of_covers 13 _ (by decide +kernel) fun t hf y => ?_
  blk_simp
  rw [after0_13, out13_of]
  idx_vars y
  refine ((tile m c t).yq_at y0 y1).trans ?_
  simp only [h_row, w6_row m c t (rowOf t y0)]
  show rq m c (rowOf t y0) y1 = _
  refine congrArg₂ (rq m c) ?_ ?_
  · apply Fin.ext; blk_simp [(idx t).2.1]
  · apply Fin.ext; blk_simp [(idx t).2.1]

/-- What array 14 holds at row `i`, column `e`. -/
def rk (i : Fin 8192) (e : Fin 256) : EReal := ∑ k, (krow m c i).h k * (krow m c i).U k ⟨384 + e.val, by omega⟩

theorem w7_row (i : Fin 8192) (k : Fin 1024) (e : Fin 256) : (tile m c t).x7 (ix2 k e) = (krow m c i).U k ⟨384 + e.val, by omega⟩ := (blk7 m c t k e).trans (V_v17 m c k e)

theorem final14 : (dats m 0 c).arrAt 14 cfg0.N = (fun j => rk m c (j 0) (j 1) : Vec Ideal S8192x256 .f32) := by
  refine (dats m 0 c).arrAt_eq_of_covers 14 _ (by decide +kernel) fun t hf y => ?_
  blk_simp
  rw [after0_14, out14_of]
  idx_vars y
  refine ((tile m c t).yk_at y0 y1).trans ?_
  simp only [h_row, w7_row m c t (rowOf t y0)]
  show rk m c (rowOf t y0) y1 = _
  refine congrArg₂ (rk m c) ?_ ?_
  · apply Fin.ext; blk_simp [(idx t).2.2.1]
  · apply Fin.ext; blk_simp [(idx t).2.2.1]

/-- What array 15 holds at row `i`, column `e`. -/
def rp (i : Fin 8192) (e : Fin 128) : EReal := ∑ k, (krow m c i).h k * (krow m c i).VP k e

theorem w8_row (i : Fin 8192) (k : Fin 1024) (e : Fin 128) : (tile m c t).x8 (ix2 k e) = (krow m c i).VP k e := (blk8 m c t k e).trans (V_v18 m c i k e)

theorem final15 : (dats m 0 c).arrAt 15 cfg0.N = (fun j => rp m c (j 0) (j 1) : Vec Ideal S8192x128 .f32) := by
  refine (dats m 0 c).arrAt_eq_of_covers 15 _ (by decide +kernel) fun t hf y => ?_
  blk_simp
  rw [after0_15, out15_of]
  idx_vars y
  refine ((tile m c t).yp_at y0 y1).trans ?_
  simp only [h_row, w8_row m c t (rowOf t y0)]
  show rp m c (rowOf t y0) y1 = _
  refine congrArg₂ (rp m c) ?_ ?_
  · apply Fin.ext; blk_simp [(idx t).2.2.2.1]
  · apply Fin.ext; blk_simp [(idx t).2.2.2.1]

/-- What array 16 holds at row `i`, column `e`. -/
def rz (i : Fin 8192) (e : Fin 512) : EReal := ∑ k, (krow m c i).h k * (krow m c i).U k ⟨704 + e.val, by omega⟩

theorem w9_row (i : Fin 8192) (k : Fin 1024) (e : Fin 512) : (tile m c t).x9 (ix2 k e) = (krow m c i).U k ⟨704 + e.val, by omega⟩ := (blk9 m c t k e).trans (V_v19 m c k e)

theorem final16 : (dats m 0 c).arrAt 16 cfg0.N = (fun j => rz m c (j 0) (j 1) : Vec Ideal S8192x512 .f32) := by
  refine (dats m 0 c).arrAt_eq_of_covers 16 _ (by decide +kernel) fun t hf y => ?_
  blk_simp
  rw [after0_16, out16_of]
  idx_vars y
  refine ((tile m c t).yz_at y0 y1).trans ?_
  simp only [h_row, w9_row m c t (rowOf t y0)]
  show rz m c (rowOf t y0) y1 = _
  refine congrArg₂ (rz m c) ?_ ?_
  · apply Fin.ext; blk_simp [(idx t).2.2.2.2.1]
  · apply Fin.ext; blk_simp [(idx t).2.2.2.2.1]

/-- What array 17 holds at row `i`, column `e`. -/
def rc (i : Fin 8192) (e : Fin 1536) : EReal := ∑ k, (krow m c i).h k * (krow m c i).U k ⟨1216 + e.val, by omega⟩

theorem w10_row (i : Fin 8192) (k : Fin 1024) (e : Fin 1536) : (tile m c t).x10 (ix2 k e) = (krow m c i).U k ⟨1216 + e.val, by omega⟩ := (blk10 m c t k e).trans (V_v20 m c k e)

theorem final17 : (dats m 0 c).arrAt 17 cfg0.N = (fun j => rc m c (j 0) (j 1) : Vec Ideal S8192x1536 .f32) := by
  refine (dats m 0 c).arrAt_eq_of_covers 17 _ (by decide +kernel) fun t hf y => ?_
  blk_simp
  rw [after0_17, out17_of]
  idx_vars y
  refine ((tile m c t).yc_at y0 y1).trans ?_
  simp only [h_row, w10_row m c t (rowOf t y0)]
  show rc m c (rowOf t y0) y1 = _
  refine congrArg₂ (rc m c) ?_ ?_
  · apply Fin.ext; blk_simp [(idx t).2.2.2.2.2.1]
  · apply Fin.ext; blk_simp [(idx t).2.2.2.2.2.1]

/-- What array 18 holds at row `i`, column `e`. -/
def ra (i : Fin 8192) (e : Fin 128) : EReal := ∑ k, (krow m c i).h k * (krow m c i).VB k e

theorem w11_row (i : Fin 8192) (k : Fin 1024) (e : Fin 128) : (tile m c t).x11 (ix2 k e) = (krow m c i).VB k e := (blk11 m c t k e).trans (V_v21 m c i k e)

theorem final18 : (dats m 0 c).arrAt 18 cfg0.N = (fun j => ra m c (j 0) (j 1) : Vec Ideal S8192x128 .f32) := by
  refine (dats m 0 c).arrAt_eq_of_covers 18 _ (by decide +kernel) fun t hf y => ?_
  blk_simp
  rw [after0_18, out18_of]
  idx_vars y
  refine ((tile m c t).ya_at y0 y1).trans ?_
  simp only [h_row, w11_row m c t (rowOf t y0)]
  show ra m c (rowOf t y0) y1 = _
  refine congrArg₂ (ra m c) ?_ ?_
  · apply Fin.ext; blk_simp [(idx t).2.2.2.2.2.2.1]
  · apply Fin.ext; blk_simp [(idx t).2.2.2.2.2.2.1]

/-- What array 19 holds at row `i`, column `e`. -/
def rg (i : Fin 8192) (e : Fin 512) : EReal := ∑ k, (krow m c i).h k * (krow m c i).U k ⟨2760 + e.val, by omega⟩

theorem w12_row (i : Fin 8192) (k : Fin 1024) (e : Fin 512) : (tile m c t).x12 (ix2 k e) = (krow m c i).U k ⟨2760 + e.val, by omega⟩ := (blk12 m c t k e).trans (V_v22 m c k e)

theorem final19 : (dats m 0 c).arrAt 19 cfg0.N = (fun j => rg m c (j 0) (j 1) : Vec Ideal S8192x512 .f32) := by
  refine (dats m 0 c).arrAt_eq_of_covers 19 _ (by decide +kernel) fun t hf y => ?_
  blk_simp
  rw [after0_19, out19_of]
  idx_vars y
  refine ((tile m c t).yg_at y0 y1).trans ?_
  simp only [h_row, w12_row m c t (rowOf t y0)]
  show rg m c (rowOf t y0) y1 = _
  refine congrArg₂ (rg m c) ?_ ?_
  · apply Fin.ext; blk_simp [(idx t).2.2.2.2.2.2.2.1]
  · apply Fin.ext; blk_simp [(idx t).2.2.2.2.2.2.2.1]

end Cert.FrontFwdIdeal.FrontValue

end
-- ==== Proof.FrontFwdAlg.lean ====
/- The front forward and its reference leave the same ten arrays, whatever the arguments hold. -/
module

public import proofs.«01_k».proof.Defs
public import proofs.«01_k».proof.Proof.FrontFwdValue
public import proofs.«01_k».proof.Proof.Gen.FrontFwdRefIdeal.Run

@[expose] public section

set_option maxRecDepth 16384

noncomputable section

namespace Cert.FrontFwdIdeal.FrontAlg

open Idealize.ShloMosaic Idealize.ShloMosaic.TcCoe Idealize.SL.Sem Cert.Front FrontValue Cert.FrontFwdIdeal Gen
open Cert.Mla (other)

/-! ### The host lines after the launch -/

section
variable (W : Valuation τ sig (Elt Ideal))

/-- The shared key's columns and the gates', as the launch leaves them. -/
abbrev up : Vec Ideal S8192x128 .f32 := W (Proc.devRef .tc main_v23_2)
abbrev ua : Vec Ideal S8192x128 .f32 := W (Proc.devRef .tc main_v23_5)

theorem tail_24 (i : Fin 8192) (e : Fin 64) :
    StableHlo.after hostOps1 W (Proc.devRef .tc main_v24) (ix2 i e) = up W (ix2 i ⟨e.val, by omega⟩) := by
  unfold hostOps1
  repeat after_reads_at

theorem tail_25 (i : Fin 8192) (e : Fin 64) :
    StableHlo.after hostOps1 W (Proc.devRef .tc main_v25) (ix2 i e) = up W (ix2 i ⟨64 + e.val, by omega⟩) := by
  unfold hostOps1
  repeat after_reads_at

theorem tail_26 (i : Fin 8192) (e : Fin 4) :
    StableHlo.after hostOps1 W (Proc.devRef .tc main_v26) (ix2 i e) = ua W (ix2 i ⟨e.val, by omega⟩) := by
  unfold hostOps1
  repeat after_reads_at

theorem tail_27 (i : Fin 8192) (e : Fin 4) :
    StableHlo.after hostOps1 W (Proc.devRef .tc main_v27) (ix2 i e) = ua W (ix2 i ⟨4 + e.val, by omega⟩) := by
  unfold hostOps1
  repeat after_reads_at

end

/-- Column `e` of the group of `n` columns that starts at `o`. -/
abbrev col {n : Nat} (o : Nat) (e : Fin n) (h : o + n ≤ 3272) : Fin 3272 := ⟨o + e.val, by omega⟩

/-! ### The groups are the projected row's -/

section
variable (m : (ℓ : Loc nD τ sig) → Buf (Elt Ideal) ℓ) (c : Dev nD)

theorem rp_lo (i : Fin 8192) (e : Fin 64) (p) : rp m c i ⟨e.val, p⟩ = (krow m c i).proj ⟨640 + e.val, by omega⟩ := by
  unfold rp Row.proj
  simp only [Row.VP_lo]

theorem rp_hi (i : Fin 8192) (e : Fin 64) (p) :
    rp m c i ⟨64 + e.val, p⟩ = (krow m c i).proj ⟨640 + (other e).val, by have := (other e).isLt; omega⟩ := by
  unfold rp Row.proj
  simp only [Row.VP_hi]

theorem ra_lo (i : Fin 8192) (e : Fin 4) (p) : ra m c i ⟨e.val, p⟩ = (krow m c i).proj ⟨2752 + e.val, by omega⟩ := by
  unfold ra Row.proj
  exact Finset.sum_congr rfl fun k _ => congrArg (_ * ·) (dif_pos (by simp only; omega))

theorem ra_hi (i : Fin 8192) (e : Fin 4) (p) : ra m c i ⟨4 + e.val, p⟩ = (krow m c i).proj ⟨2756 + e.val, by omega⟩ := by
  unfold ra Row.proj
  refine Finset.sum_congr rfl fun k _ => congrArg (_ * ·) ((dif_pos (by simp only; omega)).trans ?_)
  exact congrArg ((krow m c i).U k) (Fin.ext (by simp only; omega))

/-- What the launch and the lines before it leave, as the lines after it find it. -/
abbrev left : Valuation τ sig (Elt Ideal) := Pipeline.withArrays spec0 c (V0 m c) fun w => (dats m 0 c).arrAt w cfg0.N

theorem left_p (i : Fin 8192) (e : Fin 128) : up (left m c) (ix2 i e) = rp m c i e := by
  have h : up (left m c) = (fun j => rp m c (j 0) (j 1) : Vec Ideal S8192x128 .f32) :=
    (Pipeline.withArrays_arr spec0 launch0.win.arr_inj c (V0 m c) _ 15).trans (final15 m c)
  rw [h]
  rfl

theorem left_a (i : Fin 8192) (e : Fin 128) : ua (left m c) (ix2 i e) = ra m c i e := by
  have h : ua (left m c) = (fun j => ra m c (j 0) (j 1) : Vec Ideal S8192x128 .f32) :=
    (Pipeline.withArrays_arr spec0 launch0.win.arr_inj c (V0 m c) _ 18).trans (final18 m c)
  rw [h]
  rfl

/-- Result 0. -/
def res0 : Vec Ideal S8192x384 .f32 := fun j => (krow m c (j 0)).proj (col 0 (j 1 : Fin 384) (by decide))

/-- Result 1. -/
def res1 : Vec Ideal S8192x256 .f32 := fun j => (krow m c (j 0)).proj (col 384 (j 1 : Fin 256) (by decide))

/-- Result 2. -/
def res2 : Vec Ideal S8192x64 .f32 := fun j => (krow m c (j 0)).proj (col 640 (j 1 : Fin 64) (by decide))

/-- Result 3. -/
def res3 : Vec Ideal S8192x64 .f32 := fun j => (krow m c (j 0)).proj (col 640 (other (j 1)) (by decide))

/-- Result 4. -/
def res4 : Vec Ideal S8192x512 .f32 := fun j => (krow m c (j 0)).proj (col 704 (j 1 : Fin 512) (by decide))

/-- Result 5. -/
def res5 : Vec Ideal S8192x1536 .f32 := fun j => (krow m c (j 0)).proj (col 1216 (j 1 : Fin 1536) (by decide))

/-- Result 6. -/
def res6 : Vec Ideal S8192x4 .f32 := fun j => (krow m c (j 0)).proj (col 2752 (j 1 : Fin 4) (by decide))

/-- Result 7. -/
def res7 : Vec Ideal S8192x4 .f32 := fun j => (krow m c (j 0)).proj (col 2756 (j 1 : Fin 4) (by decide))

/-- Result 8. -/
def res8 : Vec Ideal S8192x512 .f32 := fun j => (krow m c (j 0)).proj (col 2760 (j 1 : Fin 512) (by decide))

theorem end_0 : (dats m 0 c).arrAt 13 cfg0.N = res0 m c := (final13 m c).trans (by
  funext j; idx_vars j
  exact Finset.sum_congr rfl fun k _ => congrArg (fun e => _ * (krow m c j0).U k e) (Fin.ext (by simp)))

theorem end_1 : (dats m 0 c).arrAt 14 cfg0.N = res1 m c := (final14 m c).trans (by
  funext j; idx_vars j
  exact Finset.sum_congr rfl fun k _ => congrArg (fun e => _ * (krow m c j0).U k e) (Fin.ext (by simp)))

theorem end_2 : StableHlo.after hostOps1 (left m c) (Proc.devRef .tc main_v24) = res2 m c := by
  funext j; idx_vars j
  refine (tail_24 _ j0 j1).trans ((left_p m c j0 _).trans ?_)
  exact rp_lo m c j0 j1 _

theorem end_3 : StableHlo.after hostOps1 (left m c) (Proc.devRef .tc main_v25) = res3 m c := by
  funext j; idx_vars j
  refine (tail_25 _ j0 j1).trans ((left_p m c j0 _).trans ?_)
  exact rp_hi m c j0 j1 _

theorem end_4 : (dats m 0 c).arrAt 16 cfg0.N = res4 m c := (final16 m c).trans (by
  funext j; idx_vars j
  exact Finset.sum_congr rfl fun k _ => congrArg (fun e => _ * (krow m c j0).U k e) (Fin.ext (by simp)))

theorem end_5 : (dats m 0 c).arrAt 17 cfg0.N = res5 m c := (final17 m c).trans (by
  funext j; idx_vars j
  exact Finset.sum_congr rfl fun k _ => congrArg (fun e => _ * (krow m c j0).U k e) (Fin.ext (by simp)))

theorem end_6 : StableHlo.after hostOps1 (left m c) (Proc.devRef .tc main_v26) = res6 m c := by
  funext j; idx_vars j
  refine (tail_26 _ j0 j1).trans ((left_a m c j0 _).trans ?_)
  exact ra_lo m c j0 j1 _

theorem end_7 : StableHlo.after hostOps1 (left m c) (Proc.devRef .tc main_v27) = res7 m c := by
  funext j; idx_vars j
  refine (tail_27 _ j0 j1).trans ((left_a m c j0 _).trans ?_)
  exact ra_hi m c j0 j1 _

theorem end_8 : (dats m 0 c).arrAt 19 cfg0.N = res8 m c := (final19 m c).trans (by
  funext j; idx_vars j
  exact Finset.sum_congr rfl fun k _ => congrArg (fun e => _ * (krow m c j0).U k e) (Fin.ext (by simp)))

/-- The kernel's run: its results. -/
theorem run_kernel (ρ : Dev nD → PrngReg) :
    θ_run (defs (F := Ideal)) (onTc (τ := τ) (main (F := Ideal))) ⟨m, fun _ => 0, ρ⟩ fun r => ∀ c : Dev nD,
      r.2.mem ((c : Thread nD τ).loc main_v23_0) = res0 m c
      ∧ r.2.mem ((c : Thread nD τ).loc main_v23_1) = res1 m c
      ∧ r.2.mem ((c : Thread nD τ).loc main_v24) = res2 m c
      ∧ r.2.mem ((c : Thread nD τ).loc main_v25) = res3 m c
      ∧ r.2.mem ((c : Thread nD τ).loc main_v23_3) = res4 m c
      ∧ r.2.mem ((c : Thread nD τ).loc main_v23_4) = res5 m c
      ∧ r.2.mem ((c : Thread nD τ).loc main_v26) = res6 m c
      ∧ r.2.mem ((c : Thread nD τ).loc main_v27) = res7 m c
      ∧ r.2.mem ((c : Thread nD τ).loc main_v23_6) = res8 m c :=
  (θ_run _ _ _).mono (fun _ hr c => ⟨((hr c).1 13).trans (end_0 m c),
    ((hr c).1 14).trans (end_1 m c),
    ((hr c).2 main_v24 (Pipeline.mem_restRefs_of main_v24 (by decide) (by decide))).trans (end_2 m c),
    ((hr c).2 main_v25 (Pipeline.mem_restRefs_of main_v25 (by decide) (by decide))).trans (end_3 m c),
    ((hr c).1 16).trans (end_4 m c),
    ((hr c).1 17).trans (end_5 m c),
    ((hr c).2 main_v26 (Pipeline.mem_restRefs_of main_v26 (by decide) (by decide))).trans (end_6 m c),
    ((hr c).2 main_v27 (Pipeline.mem_restRefs_of main_v27 (by decide) (by decide))).trans (end_7 m c),
    ((hr c).1 19).trans (end_8 m c)⟩) (run_main m ρ)

end

/-- The reference's arguments. -/
def args (m' : (ℓ : Loc Cert.FrontFwdRefIdeal.nD Cert.FrontFwdRefIdeal.τ Cert.FrontFwdRefIdeal.sig) → Buf (Elt Ideal) ℓ)
    (c : Dev Cert.FrontFwdRefIdeal.nD) : Cert.FrontFwdRefIdeal.FrontRef.Args where
  x0 := m' ((c.tc : Thread _ _).loc Cert.FrontFwdRefIdeal.main_arg0)
  x1 := m' ((c.tc : Thread _ _).loc Cert.FrontFwdRefIdeal.main_arg1)
  x2 := m' ((c.tc : Thread _ _).loc Cert.FrontFwdRefIdeal.main_arg2)
  x3 := m' ((c.tc : Thread _ _).loc Cert.FrontFwdRefIdeal.main_arg3)
  x4 := m' ((c.tc : Thread _ _).loc Cert.FrontFwdRefIdeal.main_arg4)
  x5 := m' ((c.tc : Thread _ _).loc Cert.FrontFwdRefIdeal.main_arg5)
  x6 := m' ((c.tc : Thread _ _).loc Cert.FrontFwdRefIdeal.main_arg6)

theorem algebraic : Cert.algebraic_FrontFwdIdeal_FrontFwdRefIdeal := by
  intro m ρ m' ρ' _ hag
  have hr (c : Dev nD) (i : Fin 8192) : (args m' c).row i = krow m c i := by
    obtain ⟨e0, e1, e2, e3, e4, e5, e6⟩ := hag c
    unfold Cert.FrontFwdRefIdeal.FrontRef.Args.row krow args
    rw [e0, e1, e2, e3, e4, e5, e6]
  refine ⟨res0 m, res1 m, res2 m, res3 m, res4 m, res5 m, res6 m, res7 m, res8 m, fun c => m ((c.tc : Thread nD τ).loc main_arg0),
    (θ_run _ _ _).mono (fun r h c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2, (h.2.1 c).1, h.2.1 c⟩)
      (θ_run_and (run_kernel m ρ) (frame m ρ)),
    (θ_run _ _ _).mono (fun r h c => ?_) (Cert.FrontFwdRefIdeal.Value.run (F := Ideal) m' ρ')⟩
  obtain ⟨h0, h1, h2, h3, h4, h5, h6, h7, h8, hx, hk⟩ := h c
  refine ⟨h0.trans ((Cert.FrontFwdRefIdeal.Read.val_main_v24_eq ..).trans ?_), h1.trans ((Cert.FrontFwdRefIdeal.Read.val_main_v25_eq ..).trans ?_), h2.trans ((Cert.FrontFwdRefIdeal.Read.val_main_v26_eq ..).trans ?_), h3.trans ((Cert.FrontFwdRefIdeal.Read.val_main_v34_eq ..).trans ?_), h4.trans ((Cert.FrontFwdRefIdeal.Read.val_main_v27_eq ..).trans ?_), h5.trans ((Cert.FrontFwdRefIdeal.Read.val_main_v28_eq ..).trans ?_), h6.trans ((Cert.FrontFwdRefIdeal.Read.val_main_v29_eq ..).trans ?_), h7.trans ((Cert.FrontFwdRefIdeal.Read.val_main_v30_eq ..).trans ?_), h8.trans ((Cert.FrontFwdRefIdeal.Read.val_main_v31_eq ..).trans ?_), hx.trans (hag c).1, hk⟩
  · funext j; idx_vars j; exact ((args m' c).v24_at j0 j1).trans (by rw [hr]; exact congrArg (krow m c j0).proj (Fin.ext (by simp)))
  · funext j; idx_vars j; exact ((args m' c).v25_at j0 j1).trans (by rw [hr]; rfl)
  · funext j; idx_vars j; exact ((args m' c).v26_at j0 j1).trans (by rw [hr]; rfl)
  · funext j; idx_vars j; exact ((args m' c).v34_at j0 j1).trans (by rw [hr]; rfl)
  · funext j; idx_vars j; exact ((args m' c).v27_at j0 j1).trans (by rw [hr]; rfl)
  · funext j; idx_vars j; exact ((args m' c).v28_at j0 j1).trans (by rw [hr]; rfl)
  · funext j; idx_vars j; exact ((args m' c).v29_at j0 j1).trans (by rw [hr]; rfl)
  · funext j; idx_vars j; exact ((args m' c).v30_at j0 j1).trans (by rw [hr]; rfl)
  · funext j; idx_vars j; exact ((args m' c).v31_at j0 j1).trans (by rw [hr]; rfl)

end Cert.FrontFwdIdeal.FrontAlg

end
-- ==== Proof.lean ====
/- The proof of the claims: each program's frame, and per call the equality of its results with the reference's. -/
module

public import proofs.«01_k».proof.Defs
public import proofs.«01_k».proof.Proof.Gen.FlashBwd
public import proofs.«01_k».proof.Proof.Gen.FlashBwdIdeal
public import proofs.«01_k».proof.Proof.Gen.FlashBwdIdeal.Skeleton
public import proofs.«01_k».proof.Proof.Gen.FlashBwdIdeal.Loops
public import proofs.«01_k».proof.Proof.Gen.FlashBwdIdeal.Launch
public import proofs.«01_k».proof.Proof.Gen.FlashBwdIdeal.Points
public import proofs.«01_k».proof.Proof.Gen.FlashBwdIdeal.Frame
public import proofs.«01_k».proof.Proof.Gen.FlashBwdRefIdeal
public import proofs.«01_k».proof.Proof.Gen.FlashBwdRefIdeal.Run
public import proofs.«01_k».proof.Proof.Gen.FlashBwdRefIdeal.Read
public import proofs.«01_k».proof.Proof.Gen.Pre_finite
public import proofs.«01_k».proof.Proof.Gen.Pre_mla_finite
public import proofs.«01_k».proof.Proof.Gen.LossBwd
public import proofs.«01_k».proof.Proof.Gen.LossBwd.Skeleton
public import proofs.«01_k».proof.Proof.Gen.LossBwd.Launch
public import proofs.«01_k».proof.Proof.Gen.LossBwd.Points
public import proofs.«01_k».proof.Proof.Gen.LossBwd.Frame
public import proofs.«01_k».proof.Proof.Gen.LossBwdIdeal
public import proofs.«01_k».proof.Proof.Gen.LossBwdIdeal.Skeleton
public import proofs.«01_k».proof.Proof.Gen.LossBwdIdeal.Launch
public import proofs.«01_k».proof.Proof.Gen.LossBwdIdeal.Points
public import proofs.«01_k».proof.Proof.Gen.LossBwdIdeal.Frame
public import proofs.«01_k».proof.Proof.Gen.LossBwdRefIdeal
public import proofs.«01_k».proof.Proof.Gen.LossBwdIdeal.Value
public import proofs.«01_k».proof.Proof.Gen.LossBwdRefIdeal.Run
public import proofs.«01_k».proof.Proof.Gen.LossBwdRefIdeal.Read
public import proofs.«01_k».proof.Proof.Gen.TailBwd
public import proofs.«01_k».proof.Proof.Gen.TailBwd.Skeleton
public import proofs.«01_k».proof.Proof.Gen.TailBwd.Launch
public import proofs.«01_k».proof.Proof.Gen.TailBwd.Points
public import proofs.«01_k».proof.Proof.Gen.TailBwd.Frame
public import proofs.«01_k».proof.Proof.Gen.TailBwdIdeal
public import proofs.«01_k».proof.Proof.Gen.TailBwdIdeal.Skeleton
public import proofs.«01_k».proof.Proof.Gen.TailBwdIdeal.Launch
public import proofs.«01_k».proof.Proof.Gen.TailBwdIdeal.Points
public import proofs.«01_k».proof.Proof.Gen.TailBwdIdeal.Frame
public import proofs.«01_k».proof.Proof.Gen.TailBwdIdeal.Value
public import proofs.«01_k».proof.Proof.Gen.TailBwdRefIdeal
public import proofs.«01_k».proof.Proof.Gen.TailBwdRefIdeal.Run
public import proofs.«01_k».proof.Proof.Gen.TailBwdRefIdeal.Read
public import proofs.«01_k».proof.Proof.Gen.TailFwd
public import proofs.«01_k».proof.Proof.Gen.TailFwd.Skeleton
public import proofs.«01_k».proof.Proof.Gen.TailFwd.Launch
public import proofs.«01_k».proof.Proof.Gen.TailFwd.Points
public import proofs.«01_k».proof.Proof.Gen.TailFwd.Frame
public import proofs.«01_k».proof.Proof.Gen.TailFwdIdeal
public import proofs.«01_k».proof.Proof.Gen.TailFwdIdeal.Skeleton
public import proofs.«01_k».proof.Proof.Gen.TailFwdIdeal.Launch
public import proofs.«01_k».proof.Proof.Gen.TailFwdIdeal.Points
public import proofs.«01_k».proof.Proof.Gen.TailFwdIdeal.Frame
public import proofs.«01_k».proof.Proof.Gen.TailFwdIdeal.Value
public import proofs.«01_k».proof.Proof.Gen.TailFwdRefIdeal
public import proofs.«01_k».proof.Proof.Gen.TailFwdRefIdeal.Run
public import proofs.«01_k».proof.Proof.Gen.TailFwdRefIdeal.Read
public import proofs.«01_k».proof.Proof.Gen.FrontFwd
public import proofs.«01_k».proof.Proof.Gen.FrontFwd.Skeleton
public import proofs.«01_k».proof.Proof.Gen.FrontFwd.Launch
public import proofs.«01_k».proof.Proof.Gen.FrontFwd.Points
public import proofs.«01_k».proof.Proof.Gen.FrontFwd.Frame
public import proofs.«01_k».proof.Proof.Gen.FrontFwdIdeal
public import proofs.«01_k».proof.Proof.Gen.FrontFwdIdeal.Skeleton
public import proofs.«01_k».proof.Proof.Gen.FrontFwdIdeal.Launch
public import proofs.«01_k».proof.Proof.Gen.FrontFwdIdeal.Points
public import proofs.«01_k».proof.Proof.Gen.FrontFwdIdeal.Frame
public import proofs.«01_k».proof.Proof.Gen.FrontFwdRefIdeal
public import proofs.«01_k».proof.Proof.Gen.FrontFwdRefIdeal.Run
public import proofs.«01_k».proof.Proof.Gen.FrontFwdRefIdeal.Read
public import proofs.«01_k».proof.Proof.LossValue
public import proofs.«01_k».proof.Proof.TailAlg
public import proofs.«01_k».proof.Proof.FlashFrame
public import proofs.«01_k».proof.Proof.FlashBits
public import proofs.«01_k».proof.Proof.FlashAlg
public import proofs.«01_k».proof.Proof.Gen.MlaFrontBwd
public import proofs.«01_k».proof.Proof.Gen.MlaFrontBwd.Skeleton
public import proofs.«01_k».proof.Proof.Gen.MlaFrontBwd.Launch
public import proofs.«01_k».proof.Proof.Gen.MlaFrontBwd.Points
public import proofs.«01_k».proof.Proof.Gen.MlaFrontBwdIdeal
public import proofs.«01_k».proof.Proof.Gen.MlaFrontBwdIdeal.Skeleton
public import proofs.«01_k».proof.Proof.Gen.MlaFrontBwdIdeal.Launch
public import proofs.«01_k».proof.Proof.Gen.MlaFrontBwdIdeal.Points
public import proofs.«01_k».proof.Proof.Gen.MlaFrontBwdRefIdeal
public import proofs.«01_k».proof.Proof.Gen.MlaFrontBwdRefIdeal.Run
public import proofs.«01_k».proof.Proof.Gen.MlaFrontBwdRefIdeal.Read
public import proofs.«01_k».proof.Proof.Gen.FrontBwd
public import proofs.«01_k».proof.Proof.Gen.FrontBwd.Skeleton
public import proofs.«01_k».proof.Proof.Gen.FrontBwd.Launch
public import proofs.«01_k».proof.Proof.Gen.FrontBwd.Points
public import proofs.«01_k».proof.Proof.Gen.FrontBwdIdeal
public import proofs.«01_k».proof.Proof.Gen.FrontBwdIdeal.Skeleton
public import proofs.«01_k».proof.Proof.Gen.FrontBwdIdeal.Launch
public import proofs.«01_k».proof.Proof.Gen.FrontBwdIdeal.Points
public import proofs.«01_k».proof.Proof.Gen.FrontBwdRefIdeal
public import proofs.«01_k».proof.Proof.Gen.FrontBwdRefIdeal.Run
public import proofs.«01_k».proof.Proof.Gen.FrontBwdRefIdeal.Read
public import proofs.«01_k».proof.Proof.Gen.Pre_front_finite
public import proofs.«01_k».proof.Proof.MlaBits
public import proofs.«01_k».proof.Proof.MlaAlg
public import proofs.«01_k».proof.Proof.FrontBits
public import proofs.«01_k».proof.Proof.FrontAlg
public import proofs.«01_k».proof.Proof.TailFwdAlg
public import proofs.«01_k».proof.Proof.FrontFwdAlg
public import Idealize.ShloMosaic.Adequacy
public import Idealize.ShloMosaic.Lib.Quiescent

@[expose] public section

noncomputable section

namespace Cert.Proof

open Idealize.ShloMosaic Idealize.SL.Sem

theorem frame_LossBwdRefIdeal : Cert.quiescent_LossBwdRefIdeal := fun m ρ _ =>
  (θ_run Cert.LossBwdRefIdeal.defs _ _).mono (fun r h => ⟨fun c => (h c).2, Idealize.ShloMosaic.sem_eq_zero_of_no_sems (by decide) r.2⟩)
    (Cert.LossBwdRefIdeal.Value.run (F := Ideal) m ρ)

theorem frame_FlashBwdRefIdeal : Cert.quiescent_FlashBwdRefIdeal := fun m ρ _ =>
  (θ_run Cert.FlashBwdRefIdeal.defs _ _).mono (fun r h => ⟨fun c => (h c).2.2.2, Idealize.ShloMosaic.sem_eq_zero_of_no_sems (by decide) r.2⟩)
    (Cert.FlashBwdRefIdeal.Value.run (F := Ideal) m ρ)

theorem frame_TailBwdRefIdeal : Cert.quiescent_TailBwdRefIdeal := fun m ρ _ =>
  (θ_run Cert.TailBwdRefIdeal.defs _ _).mono (fun r h => ⟨fun c => (h c).2.2.2.2.2.2.2.2.2.2, Idealize.ShloMosaic.sem_eq_zero_of_no_sems (by decide) r.2⟩)
    (Cert.TailBwdRefIdeal.Value.run (F := Ideal) m ρ)

theorem frame_MlaFrontBwdRefIdeal : Cert.quiescent_MlaFrontBwdRefIdeal := fun m ρ _ =>
  (θ_run Cert.MlaFrontBwdRefIdeal.defs _ _).mono (fun r h => ⟨fun c => (h c).2.2.2.2.2.2.2, Idealize.ShloMosaic.sem_eq_zero_of_no_sems (by decide) r.2⟩)
    (Cert.MlaFrontBwdRefIdeal.Value.run (F := Ideal) m ρ)

theorem frame_FrontBwdRefIdeal : Cert.quiescent_FrontBwdRefIdeal := fun m ρ _ =>
  (θ_run Cert.FrontBwdRefIdeal.defs _ _).mono (fun r h => ⟨fun c => (h c).2.2.2.2.2.2.2, Idealize.ShloMosaic.sem_eq_zero_of_no_sems (by decide) r.2⟩)
    (Cert.FrontBwdRefIdeal.Value.run (F := Ideal) m ρ)

theorem frame_TailFwdRefIdeal : Cert.quiescent_TailFwdRefIdeal := fun m ρ _ =>
  (θ_run Cert.TailFwdRefIdeal.defs _ _).mono (fun r h => ⟨fun c => (h c).2, Idealize.ShloMosaic.sem_eq_zero_of_no_sems (by decide) r.2⟩)
    (Cert.TailFwdRefIdeal.Value.run (F := Ideal) m ρ)

theorem frame_FrontFwdRefIdeal : Cert.quiescent_FrontFwdRefIdeal := fun m ρ _ =>
  (θ_run Cert.FrontFwdRefIdeal.defs _ _).mono (fun r h => ⟨fun c => (h c).2.2.2.2.2.2.2.2.2.2, Idealize.ShloMosaic.sem_eq_zero_of_no_sems (by decide) r.2⟩)
    (Cert.FrontFwdRefIdeal.Value.run (F := Ideal) m ρ)

/-- The three named constants of the attention backward: the mask's stand-in, the scale and the scale over log 2. -/
theorem preserves_FlashBwd : Cert.preserves_FlashBwd_FlashBwdIdeal :=
  ⟨IdealRules.named_const.statement Cert.FlashBwdIdeal.κ "exp2" .f32 0x3DD53B95#32 _ rfl,
    IdealRules.named_const.statement Cert.FlashBwdIdeal.κ "mask" .f32 0xF149F2CA#32 _ rfl,
    IdealRules.named_const.statement Cert.FlashBwdIdeal.κ "scale" .f32 0x3D93CD3A#32 _ rfl⟩

theorem claim : Cert.Claim :=
  ⟨Cert.FlashBwd.Gen.facts, Cert.FlashBwdIdeal.Gen.facts, Cert.FlashBwdRefIdeal.Gen.facts, Cert.LossBwd.Gen.facts, Cert.LossBwdIdeal.Gen.facts,
    Cert.LossBwdRefIdeal.Gen.facts, Cert.TailBwd.Gen.facts, Cert.TailBwdIdeal.Gen.facts, Cert.TailBwdRefIdeal.Gen.facts, Cert.MlaFrontBwd.Gen.facts,
    Cert.MlaFrontBwdIdeal.Gen.facts, Cert.MlaFrontBwdRefIdeal.Gen.facts, Cert.FrontBwd.Gen.facts, Cert.FrontBwdIdeal.Gen.facts, Cert.FrontBwdRefIdeal.Gen.facts,
    Cert.TailFwd.Gen.facts, Cert.TailFwdIdeal.Gen.facts, Cert.TailFwdRefIdeal.Gen.facts,
    Cert.FrontFwd.Gen.facts, Cert.FrontFwdIdeal.Gen.facts, Cert.FrontFwdRefIdeal.Gen.facts,
    Cert.Pre_finite.Gen.facts, Cert.Pre_mla_finite.Gen.facts, Cert.Pre_front_finite.Gen.facts,
    Cert.FlashBwdIdeal.Flash.frame_bits, fun m ρ _ => Cert.FlashBwdIdeal.Flash.frame m ρ, fun m ρ _ => Cert.FlashBwdIdeal.Flash.frame m ρ,
    frame_FlashBwdRefIdeal, fun m ρ _ => frame_FlashBwdRefIdeal m ρ trivial,
    fun m ρ _ => Cert.LossBwd.Gen.frame m ρ, fun m ρ _ => Cert.LossBwdIdeal.Gen.frame m ρ, frame_LossBwdRefIdeal,
    fun m ρ _ => Cert.TailBwd.Gen.frame m ρ, fun m ρ _ => Cert.TailBwdIdeal.Gen.frame m ρ, frame_TailBwdRefIdeal,
    Cert.MlaFrontBwdIdeal.Mla.frame_bits, fun m ρ _ => Cert.MlaFrontBwdIdeal.Mla.frame m ρ, fun m ρ _ => Cert.MlaFrontBwdIdeal.Mla.frame m ρ,
    frame_MlaFrontBwdRefIdeal, fun m ρ _ => frame_MlaFrontBwdRefIdeal m ρ trivial,
    Cert.FrontBwdIdeal.Front.frame_bits, fun m ρ _ => Cert.FrontBwdIdeal.Front.frame m ρ, fun m ρ _ => Cert.FrontBwdIdeal.Front.frame m ρ,
    frame_FrontBwdRefIdeal, fun m ρ _ => frame_FrontBwdRefIdeal m ρ trivial,
    fun m ρ _ => Cert.TailFwd.Gen.frame m ρ, fun m ρ _ => Cert.TailFwdIdeal.Gen.frame m ρ, frame_TailFwdRefIdeal,
    fun m ρ _ => Cert.FrontFwd.Gen.frame m ρ, fun m ρ _ => Cert.FrontFwdIdeal.Gen.frame m ρ, frame_FrontFwdRefIdeal,
    preserves_FlashBwd, Cert.FlashBwdIdeal.FlashAlg.algebraic, trivial, Cert.LossBwdIdeal.LossValue.algebraic,
    trivial, Cert.TailBwdIdeal.TailAlg.algebraic, trivial, Cert.MlaFrontBwdIdeal.Mla.algebraic,
    trivial, Cert.FrontBwdIdeal.Front.algebraic, trivial, Cert.TailFwdIdeal.TailAlg.algebraic,
    trivial, Cert.FrontFwdIdeal.FrontAlg.algebraic⟩

end Cert.Proof

end
